-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_mixer_in [hPre_finite_mixer_in : Cert.Pre_finite_mixer_in.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.2.1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.2.2.1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.2.2.2.1 = (fun _ => 1#1)
    ∧ (Cert.Pre_finite_mixer_in.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.2.2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_mixer_in [hPre_finite_mixer_in : Cert.Pre_finite_mixer_in.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.2.1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.2.2.1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.2.2.2.1 = (fun _ => 1#1)
    ∧ (Cert.Pre_finite_mixer_in.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.2.2.2.2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_channel_mixer_in [hPre_finite_channel_mixer_in : Cert.Pre_finite_channel_mixer_in.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.2.1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.2.2.1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.2.2.2.1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.2.2.2.2.1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.2.2.2.2.2.1 = (fun _ => 1#1)
    ∧ (Cert.Pre_finite_channel_mixer_in.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.2.2.2.2.2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_channel_mixer_in [hPre_finite_channel_mixer_in : Cert.Pre_finite_channel_mixer_in.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.2.1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.2.2.1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.2.2.2.1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.2.2.2.2.1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.2.2.2.2.2.1 = (fun _ => 1#1)
    ∧ (Cert.Pre_finite_channel_mixer_in.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.2.2.2.2.2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Kernel19Ideal_pre_finite_mixer_in [hKernel19Ideal : Cert.Kernel19Ideal.Facts] [hPre_finite_mixer_in : Cert.Pre_finite_mixer_in.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_mixer_in m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Reference19Ideal_pre_finite_mixer_in [hReference19Ideal : Cert.Reference19Ideal.Facts] [hPre_finite_mixer_in : Cert.Pre_finite_mixer_in.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_mixer_in m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Kernel20Ideal_pre_finite_channel_mixer_in [hKernel20Ideal : Cert.Kernel20Ideal.Facts] [hPre_finite_channel_mixer_in : Cert.Pre_finite_channel_mixer_in.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_channel_mixer_in m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Reference20Ideal_pre_finite_channel_mixer_in [hReference20Ideal : Cert.Reference20Ideal.Facts] [hPre_finite_channel_mixer_in : Cert.Pre_finite_channel_mixer_in.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_channel_mixer_in m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def algebraic_Kernel3Ideal_Reference4Ideal [hKernel3Ideal : Cert.Kernel3Ideal.Facts] [hReference4Ideal : Cert.Reference4Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel3Ideal m →
    (∀ c : Dev Cert.Kernel3Ideal.nD,
      m' ((c.tc : Thread Cert.Reference4Ideal.nD Cert.Reference4Ideal.τ).loc Cert.Reference4Ideal.main_arg0) = m ((c.tc : Thread Cert.Kernel3Ideal.nD Cert.Kernel3Ideal.τ).loc Cert.Kernel3Ideal.main_arg0)
      ∧ m' ((c.tc : Thread Cert.Reference4Ideal.nD Cert.Reference4Ideal.τ).loc Cert.Reference4Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v62) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v33) = v1 c
          ∧ r.2.mem ((c.tc : Thread Cert.Reference10Ideal.nD Cert.Reference10Ideal.τ).loc Cert.Reference10Ideal.main_v58) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_v29) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_v12) = v1 c
          ∧ r.2.mem ((c.tc : Thread Cert.Reference16Ideal.nD Cert.Reference16Ideal.τ).loc Cert.Reference16Ideal.main_v18) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v9) = v1 c
          ∧ r.2.mem ((c.tc : Thread Cert.Reference17Ideal.nD Cert.Reference17Ideal.τ).loc Cert.Reference17Ideal.main_v14) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v52) = v0 c
          ∧ r.2.mem ((c.tc : Thread Cert.Reference18Ideal.nD Cert.Reference18Ideal.τ).loc Cert.Reference18Ideal.main_v53) = v1 c
          ∧ r.2.mem ((c.tc : Thread Cert.Reference18Ideal.nD Cert.Reference18Ideal.τ).loc Cert.Reference18Ideal.main_v54) = v2 c
          ∧ r.2.mem ((c.tc : Thread Cert.Reference18Ideal.nD Cert.Reference18Ideal.τ).loc Cert.Reference18Ideal.main_v55) = v3 c
          ∧ r.2.mem ((c.tc : Thread Cert.Reference18Ideal.nD Cert.Reference18Ideal.τ).loc Cert.Reference18Ideal.main_v56) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal_pre_finite_mixer_in [hKernel19Ideal : Cert.Kernel19Ideal.Facts] [hReference19Ideal : Cert.Reference19Ideal.Facts] [hPre_finite_mixer_in : Cert.Pre_finite_mixer_in.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_mixer_in m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v72) = v0 c
          ∧ r.2.mem ((c.tc : Thread Cert.Reference19Ideal.nD Cert.Reference19Ideal.τ).loc Cert.Reference19Ideal.main_v45) = v1 c
          ∧ r.2.mem ((c.tc : Thread Cert.Reference19Ideal.nD Cert.Reference19Ideal.τ).loc Cert.Reference19Ideal.main_v42) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9))

def preserves_Kernel20_Kernel20Ideal : Prop :=
  True

def algebraic_Kernel20Ideal_Reference20Ideal_pre_finite_channel_mixer_in [hKernel20Ideal : Cert.Kernel20Ideal.Facts] [hReference20Ideal : Cert.Reference20Ideal.Facts] [hPre_finite_channel_mixer_in : Cert.Pre_finite_channel_mixer_in.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_channel_mixer_in m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)) →
    ∃ (v0 : (c : Dev Cert.Kernel20Ideal.nD) → Buf (Elt Ideal) ((c.tc : Thread Cert.Kernel20Ideal.nD Cert.Kernel20Ideal.τ).loc Cert.Kernel20Ideal.main_v31_0)) (v1 : (c : Dev Cert.Kernel20Ideal.nD) → Buf (Elt Ideal) ((c.tc : Thread Cert.Kernel20Ideal.nD Cert.Kernel20Ideal.τ).loc Cert.Kernel20Ideal.main_v31_1)) (v2 : (c : Dev Cert.Kernel20Ideal.nD) → Buf (Elt Ideal) ((c.tc : Thread Cert.Kernel20Ideal.nD Cert.Kernel20Ideal.τ).loc Cert.Kernel20Ideal.main_v31_2)) (v3 : (c : Dev Cert.Kernel20Ideal.nD) → Buf (Elt Ideal) ((c.tc : Thread Cert.Kernel20Ideal.nD Cert.Kernel20Ideal.τ).loc Cert.Kernel20Ideal.main_v31_3)) (v4 : (c : Dev Cert.Kernel20Ideal.nD) → Buf (Elt Ideal) ((c.tc : Thread Cert.Kernel20Ideal.nD Cert.Kernel20Ideal.τ).loc Cert.Kernel20Ideal.main_v31_4)) (v5 : (c : Dev Cert.Kernel20Ideal.nD) → Buf (Elt Ideal) ((c.tc : Thread Cert.Kernel20Ideal.nD Cert.Kernel20Ideal.τ).loc Cert.Kernel20Ideal.main_v31_5)) (v6 : (c : Dev Cert.Kernel20Ideal.nD) → Buf (Elt Ideal) ((c.tc : Thread Cert.Kernel20Ideal.nD Cert.Kernel20Ideal.τ).loc Cert.Kernel20Ideal.main_v31_6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v31_0) = v0 c
          ∧ r.2.mem ((c.tc : Thread Cert.Kernel20Ideal.nD Cert.Kernel20Ideal.τ).loc Cert.Kernel20Ideal.main_v31_1) = v1 c
          ∧ r.2.mem ((c.tc : Thread Cert.Kernel20Ideal.nD Cert.Kernel20Ideal.τ).loc Cert.Kernel20Ideal.main_v31_2) = v2 c
          ∧ r.2.mem ((c.tc : Thread Cert.Kernel20Ideal.nD Cert.Kernel20Ideal.τ).loc Cert.Kernel20Ideal.main_v31_3) = v3 c
          ∧ r.2.mem ((c.tc : Thread Cert.Kernel20Ideal.nD Cert.Kernel20Ideal.τ).loc Cert.Kernel20Ideal.main_v31_4) = v4 c
          ∧ r.2.mem ((c.tc : Thread Cert.Kernel20Ideal.nD Cert.Kernel20Ideal.τ).loc Cert.Kernel20Ideal.main_v31_5) = v5 c
          ∧ r.2.mem ((c.tc : Thread Cert.Kernel20Ideal.nD Cert.Kernel20Ideal.τ).loc Cert.Kernel20Ideal.main_v31_6) = v6 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v145) = v0 c
          ∧ r.2.mem ((c.tc : Thread Cert.Reference20Ideal.nD Cert.Reference20Ideal.τ).loc Cert.Reference20Ideal.main_v146) = v1 c
          ∧ r.2.mem ((c.tc : Thread Cert.Reference20Ideal.nD Cert.Reference20Ideal.τ).loc Cert.Reference20Ideal.main_v75) = v2 c
          ∧ r.2.mem ((c.tc : Thread Cert.Reference20Ideal.nD Cert.Reference20Ideal.τ).loc Cert.Reference20Ideal.main_v72) = v3 c
          ∧ r.2.mem ((c.tc : Thread Cert.Reference20Ideal.nD Cert.Reference20Ideal.τ).loc Cert.Reference20Ideal.main_v138) = v4 c
          ∧ r.2.mem ((c.tc : Thread Cert.Reference20Ideal.nD Cert.Reference20Ideal.τ).loc Cert.Reference20Ideal.main_v137) = v5 c
          ∧ r.2.mem ((c.tc : Thread Cert.Reference20Ideal.nD Cert.Reference20Ideal.τ).loc Cert.Reference20Ideal.main_v143) = v6 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v26) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v15) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg3) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite_scores : Cert.Pre_finite_scores.Facts) (hPre_finite_mixer_in : Cert.Pre_finite_mixer_in.Facts) (hPre_finite_channel_mixer_in : Cert.Pre_finite_channel_mixer_in.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_mixer_in (hKernel19Ideal := hKernel19Ideal) (hPre_finite_mixer_in := hPre_finite_mixer_in)
    ∧ quiescent_Reference19Ideal (hReference19Ideal := hReference19Ideal)
    ∧ quiescent_Reference19Ideal_pre_finite_mixer_in (hReference19Ideal := hReference19Ideal) (hPre_finite_mixer_in := hPre_finite_mixer_in)
    ∧ quiescent_Kernel20 (hKernel20 := hKernel20)
    ∧ quiescent_Kernel20Ideal (hKernel20Ideal := hKernel20Ideal)
    ∧ quiescent_Kernel20Ideal_pre_finite_channel_mixer_in (hKernel20Ideal := hKernel20Ideal) (hPre_finite_channel_mixer_in := hPre_finite_channel_mixer_in)
    ∧ quiescent_Reference20Ideal (hReference20Ideal := hReference20Ideal)
    ∧ quiescent_Reference20Ideal_pre_finite_channel_mixer_in (hReference20Ideal := hReference20Ideal) (hPre_finite_channel_mixer_in := hPre_finite_channel_mixer_in)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ algebraic_Kernel3Ideal_Reference4Ideal (hKernel3Ideal := hKernel3Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_mixer_in (hKernel19Ideal := hKernel19Ideal) (hReference19Ideal := hReference19Ideal) (hPre_finite_mixer_in := hPre_finite_mixer_in)
    ∧ preserves_Kernel20_Kernel20Ideal
    ∧ algebraic_Kernel20Ideal_Reference20Ideal_pre_finite_channel_mixer_in (hKernel20Ideal := hKernel20Ideal) (hReference20Ideal := hReference20Ideal) (hPre_finite_channel_mixer_in := hPre_finite_channel_mixer_in)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite_channel_mixer_in.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_arg8 : FVec F S4096x1024 .f32) (main_v3 : IVec S4096x4096 1) (main_v7 : IVec S4096x1024 1) (main_v10 : IVec S4096x1024 1) (main_v13 : IVec S4096x1024 1) (main_v16 : IVec S1x1024 1) (main_v17 : FVec F S1x1024 .f32) (main_cst_4 : FVec F S_ .f32) : IVec S4096x4096 1 × IVec S4096x1024 1 × IVec S4096x1024 1 × IVec S4096x1024 1 × IVec S1x1024 1 × IVec S1x1024 1 × IVec S1x1024 1 × IVec S1x1024 1 × IVec S4096x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024 .f32 := Host.absf main_arg7
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  let main_v26 : FVec F S4096x1024 .f32 := Host.absf main_arg8
  let main_cst_7 : FVec F S_ .f32 := constant S_ .f32 0x7F800000#32
  let main_v27 : FVec F S4096x1024 .f32 := broadcastInDim S4096x1024 ![] bcast_S_S4096x1024 main_cst_7
  let main_v28 : IVec S4096x1024 1 := cmpf .olt main_v26 main_v27
  (main_v3, main_v7, main_v10, main_v13, main_v16, main_v19, main_v22, main_v25, main_v28)

def fn {F : FTy → Type} [FloatOps F] (main_arg0 : FVec F S4096x4096 .bf16) (main_arg1 : FVec F S4096x1024 .bf16) (main_arg2 : FVec F S4096x1024 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S4096x1024 .f32) : IVec S4096x4096 1 × IVec S4096x1024 1 × IVec S4096x1024 1 × IVec S4096x1024 1 × IVec S1x1024 1 × IVec S1x1024 1 × IVec S1x1024 1 × IVec S1x1024 1 × IVec S4096x1024 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1x1024 .f32 := Host.absf main_arg5
  let main_cst_4 : FVec F S_ .f32 := constant S_ .f32 0x7F800000#32
  fn_part1 (F := F) main_arg6 main_arg7 main_arg8 main_v3 main_v7 main_v10 main_v13 main_v16 main_v17 main_cst_4
-- ==== Pre_finite_mixer_in.lean ====
abbrev S4096x256 : Shape := ⟨2, ![4096, 256]⟩
abbrev S4096x512 : Shape := ⟨2, ![4096, 512]⟩
abbrev S4096x3072 : Shape := ⟨2, ![4096, 3072]⟩
abbrev S5376x1024 : Shape := ⟨2, ![5376, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x256 : S_.BroadcastsInDim S4096x256 (![] : Fin 0 → Fin S4096x256.rank)
  bcast_S_S4096x512 : S_.BroadcastsInDim S4096x512 (![] : Fin 0 → Fin S4096x512.rank)
  bcast_S_S4096x3072 : S_.BroadcastsInDim S4096x3072 (![] : Fin 0 → Fin S4096x3072.rank)
  bcast_S_S5376x1024 : S_.BroadcastsInDim S5376x1024 (![] : Fin 0 → Fin S5376x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg5 : FVec F S4096x3072 .bf16) (main_arg6 : FVec F S5376x1024 .bf16) (main_arg7 : FVec F S4096x1024 .f32) (main_arg8 : FVec F S1x1024 .f32) (main_v3 : IVec S4096x256 1) (main_v7 : IVec S4096x512 1) (main_v11 : IVec S4096x512 1) (main_v15 : IVec S4096x512 1) (main_v17 : FVec F S4096x512 .f32) (main_v18 : FVec F S4096x512 .f32) : IVec S4096x256 1 × IVec S4096x512 1 × IVec S4096x512 1 × IVec S4096x512 1 × IVec S4096x512 1 × IVec S4096x3072 1 × IVec S5376x1024 1 × IVec S4096x1024 1 × IVec S1x1024 1 :=
  let main_v19 : IVec S4096x512 1 := cmpf .olt main_v17 main_v18
  let main_v20 : FVec F S4096x3072 .f32 := (extf .f32 · bitsLt_bf16_f32) main_arg5
  let main_v21 : FVec F S4096x3072 .f32 := Host.absf main_v20
  let main_cst_4 : FVec F S_ .f32 := constant S_ .f32 0x7F800000#32
  let main_v22 : FVec F S4096x3072 .f32 := broadcastInDim S4096x3072 ![] bcast_S_S4096x3072 main_cst_4
  let main_v23 : IVec S4096x3072 1 := cmpf .olt main_v21 main_v22
  let main_v24 : FVec F S5376x1024 .f32 := (extf .f32 · bitsLt_bf16_f32) main_arg6
  let main_v25 : FVec F S5376x1024 .f32 := Host.absf main_v24
  let main_cst_5 : FVec F S_ .f32 := constant S_ .f32 0x7F800000#32
  let main_v26 : FVec F S5376x1024 .f32 := broadcastInDim S5376x1024 ![] bcast_S_S5376x1024 main_cst_5
  let main_v27 : IVec S5376x1024 1 := cmpf .olt main_v25 main_v26
  let main_v28 : FVec F S4096x1024 .f32 := Host.absf main_arg7
  let main_cst_6 : FVec F S_ .f32 := constant S_ .f32 0x7F800000#32
  let main_v29 : FVec F S4096x1024 .f32 := broadcastInDim S4096x1024 ![] bcast_S_S4096x1024 main_cst_6
  let main_v30 : IVec S4096x1024 1 := cmpf .olt main_v28 main_v29
  let main_v31 : FVec F S1x1024 .f32 := Host.absf main_arg8
  let main_cst_7 : FVec F S_ .f32 := constant S_ .f32 0x7F800000#32
  let main_v32 : FVec F S1x1024 .f32 := broadcastInDim S1x1024 ![] bcast_S_S1x1024 main_cst_7
  let main_v33 : IVec S1x1024 1 := cmpf .olt main_v31 main_v32
  (main_v3, main_v7, main_v11, main_v15, main_v19, main_v23, main_v27, main_v30, main_v33)

def fn {F : FTy → Type} [FloatOps F] (main_arg0 : FVec F S4096x256 .bf16) (main_arg1 : FVec F S4096x512 .bf16) (main_arg2 : FVec F S4096x512 .bf16) (main_arg3 : FVec F S4096x512 .bf16) (main_arg4 : FVec F S4096x512 .bf16) (main_arg5 : FVec F S4096x3072 .bf16) (main_arg6 : FVec F S5376x1024 .bf16) (main_arg7 : FVec F S4096x1024 .f32) (main_arg8 : FVec F S1x1024 .f32) (main_arg9 : FVec F S4096x1024 .f32) : IVec S4096x256 1 × IVec S4096x512 1 × IVec S4096x512 1 × IVec S4096x512 1 × IVec S4096x512 1 × IVec S4096x3072 1 × IVec S5376x1024 1 × IVec S4096x1024 1 × IVec S1x1024 1 :=
  let main_v0 : FVec F S4096x256 .f32 := (extf .f32 · bitsLt_bf16_f32) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  let main_v16 : FVec F S4096x512 .f32 := (extf .f32 · bitsLt_bf16_f32) main_arg4
  let main_v17 : FVec F S4096x512 .f32 := Host.absf main_v16
  let main_cst_3 : FVec F S_ .f32 := constant S_ .f32 0x7F800000#32
  let main_v18 : FVec F S4096x512 .f32 := broadcastInDim S4096x512 ![] bcast_S_S4096x512 main_cst_3
  fn_part1 (F := F) main_arg5 main_arg6 main_arg7 main_arg8 main_v3 main_v7 main_v11 main_v15 main_v17 main_v18
-- ==== Pre_finite_scores.lean ====
abbrev S4096x1536 : Shape := ⟨2, ![4096, 1536]⟩
abbrev S8x257 : Shape := ⟨2, ![8, 257]⟩
abbrev S4096x512 : Shape := ⟨2, ![4096, 512]⟩
abbrev S4096x1024 : Shape := ⟨2, ![4096, 1024]⟩
abbrev S_ : Shape := ⟨0, ![]⟩

class Facts : Prop where
  slices_S4096x1536_S4096x1024_0_0 : S4096x1536.Slices ![0, 0] S4096x1024
  bitsLt_bf16_f32 : FTy.bits .bf16 < FTy.bits .f32
  bcast_S_S4096x1024 : S_.BroadcastsInDim S4096x1024 (![] : Fin 0 → Fin S4096x1024.rank)
  bcast_S_S8x257 : S_.BroadcastsInDim S8x257 (![] : Fin 0 → Fin S8x257.rank)

variable [Facts]

def fn {F : FTy → Type} [FloatOps F] (main_arg0 : FVec F S4096x1536 .bf16) (main_arg1 : FVec F S8x257 .f32) (main_arg2 : FVec F S4096x512 .bf16) : IVec S4096x1024 1 × IVec S8x257 1 :=
  let main_v0 : FVec F S4096x1024 .bf16 := (extractStridedSlice S4096x1024 ![0, 0] · slices_S4096x1536_S4096x1024_0_0) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  (main_v4, main_v7)
-- ==== Kernel.lean ====
abbrev S4096x1536 : Shape := ⟨2, ![4096, 1536]⟩
abbrev S8x257 : Shape := ⟨2, ![8, 257]⟩
abbrev S4096x512 : Shape := ⟨2, ![4096, 512]⟩
abbrev S1x4096x1536 : Shape := ⟨3, ![1, 4096, 1536]⟩
abbrev S1x4096x512 : Shape := ⟨3, ![1, 4096, 512]⟩
abbrev S1x64x64x8x64 : Shape := ⟨5, ![1, 64, 64, 8, 64]⟩
abbrev S_ : Shape := ⟨0, ![]⟩
abbrev S1x512x512 : Shape := ⟨3, ![1, 512, 512]⟩
abbrev S1x4608x512 : Shape := ⟨3, ![1, 4608, 512]⟩
abbrev S1x72x64x8x64 : Shape := ⟨5, ![1, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x64 : Shape := ⟨6, ![1, 64, 9, 64, 8, 64]⟩
abbrev S1x64x576x8x64 : Shape := ⟨5, ![1, 64, 576, 8, 64]⟩
abbrev S1x64x8x64x576 : Shape := ⟨5, ![1, 64, 8, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x1x1x576 : Shape := ⟨5, ![1, 64, 1, 1, 576]⟩
abbrev S1x1x8x64x576 : Shape := ⟨5, ![1, 1, 8, 64, 576]⟩
abbrev S1x64x8x64 : Shape := ⟨4, ![1, 64, 8, 64]⟩
abbrev S1x64x8x64x1 : Shape := ⟨5, ![1, 64, 8, 64, 1]⟩
abbrev S64x8x64x576 : Shape := ⟨4, ![64, 8, 64, 576]⟩
abbrev S8x64x64x576 : Shape := ⟨4, ![8, 64, 64, 576]⟩
abbrev S8x32x2x64x576 : Shape := ⟨5, ![8, 32, 2, 64, 576]⟩
abbrev S8x32x1x64x576 : Shape := ⟨5, ![8, 32, 1, 64, 576]⟩
abbrev S8x32x64x576 : Shape := ⟨4, ![8, 32, 64, 576]⟩
abbrev S8x32x64x640 : Shape := ⟨4, ![8, 32, 64, 640]⟩
abbrev S8x32x128x640 : Shape := ⟨4, ![8, 32, 128, 640]⟩
abbrev S8x4096x640 : Shape := ⟨3, ![8, 4096, 640]⟩
abbrev S8x128x640 : Shape := ⟨3, ![8, 128, 640]⟩
abbrev S128x512 : Shape := ⟨2, ![128, 512]⟩
abbrev S4608x512 : Shape := ⟨2, ![4608, 512]⟩
abbrev S2 : Shape := ⟨1, ![2]⟩
abbrev S512x512 : Shape := ⟨2, ![512, 512]⟩
abbrev S1 : Shape := ⟨1, ![1]⟩
abbrev S640x512 : Shape := ⟨2, ![640, 512]⟩
abbrev S128x64 : Shape := ⟨2, ![128, 64]⟩
abbrev S640x64 : Shape := ⟨2, ![640, 64]⟩
abbrev S128x640 : Shape := ⟨2, ![128, 640]⟩
abbrev S1x128x640 : Shape := ⟨3, ![1, 128, 640]⟩
abbrev S8x128 : Shape := ⟨2, ![8, 128]⟩
abbrev S8x128x1 : Shape := ⟨3, ![8, 128, 1]⟩

abbrev nBuf : Space → Nat
  | .hbm => 121
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S8x257, .f32⟩
  | .hbm, ⟨2, _⟩ => ⟨S4096x512, .bf16⟩
  | .hbm, ⟨3, _⟩ => ⟨S4096x1536, .f32⟩
  | .hbm, ⟨4, _⟩ => ⟨S1x4096x1536, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x64x64x8x64, .f32⟩
  | .hbm, ⟨9, _⟩ => ⟨S_, .f32⟩
  | .hbm, ⟨10, _⟩ => ⟨S1x64x64x8x64, .f32⟩
  | .hbm, ⟨11, _⟩ => ⟨S1x64x64x8x64, .f32⟩
  | .hbm, ⟨12, _⟩ => ⟨S_, .f32⟩
  | .hbm, ⟨13, _⟩ => ⟨S1x512x512, .f32⟩
  | .hbm, ⟨14, _⟩ => ⟨S1x4608x512, .f32⟩
  | .hbm, ⟨15, _⟩ => ⟨S1x72x64x8x64, .f32⟩
  | .hbm, ⟨16, _⟩ => ⟨S64, .i32⟩
  | .hbm, ⟨17, _⟩ => ⟨S64x1, .i32⟩
  | .hbm, ⟨18, _⟩ => ⟨S9, .i32⟩
  | .hbm, ⟨19, _⟩ => ⟨S1x9, .i32⟩
  | .hbm, ⟨20, _⟩ => ⟨S64x9, .i32⟩
  | .hbm, ⟨21, _⟩ => ⟨S64x9, .i32⟩
  | .hbm, ⟨22, _⟩ => ⟨S64x9, .i32⟩
  | .hbm, ⟨23, _⟩ => ⟨S_, .i32⟩
  | .hbm, ⟨24, _⟩ => ⟨S64x9, .i32⟩
  | .hbm, ⟨25, _⟩ => ⟨S64x9, .i1⟩
  | .hbm, ⟨26, _⟩ => ⟨S_, .i32⟩
  | .hbm, ⟨27, _⟩ => ⟨S64x9, .i32⟩
  | .hbm, ⟨28, _⟩ => ⟨S64x9, .i32⟩
  | .hbm, ⟨29, _⟩ => ⟨S64x9, .i32⟩
  | .hbm, ⟨30, _⟩ => ⟨S64x9x1, .i32⟩
  | .hbm, ⟨31, _⟩ => ⟨S1x64x9x64x8x64, .f32⟩
  | .hbm, ⟨32, _⟩ => ⟨S1x64x576x8x64, .f32⟩
  | .hbm, ⟨33, _⟩ => ⟨S1x64x8x64x576, .f32⟩
  | .hbm, ⟨34, _⟩ => ⟨S64, .i32⟩
  | .hbm, ⟨35, _⟩ => ⟨S64x1, .i32⟩
  | .hbm, ⟨36, _⟩ => ⟨S576, .i32⟩
  | .hbm, ⟨37, _⟩ => ⟨S1x576, .i32⟩
  | .hbm, ⟨38, _⟩ => ⟨S_, .i32⟩
  | .hbm, ⟨39, _⟩ => ⟨S64x1, .i32⟩
  | .hbm, ⟨40, _⟩ => ⟨S64x1, .i32⟩
  | .hbm, ⟨41, _⟩ => ⟨S64x576, .i32⟩
  | .hbm, ⟨42, _⟩ => ⟨S64x576, .i32⟩
  | .hbm, ⟨43, _⟩ => ⟨S64x576, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S64x576, .i32⟩
  | .hbm, ⟨48, _⟩ => ⟨S64x576, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i1⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S64x576, .i32⟩
  | .hbm, ⟨62, _⟩ => ⟨S64x576x1, .i32⟩
  | .hbm, ⟨63, _⟩ => ⟨S8x64x576, .f32⟩
  | .hbm, ⟨64, _⟩ => ⟨S64, .i32⟩
  | .hbm, ⟨65, _⟩ => ⟨S64x1, .i32⟩
  | .hbm, ⟨66, _⟩ => ⟨S_, .i32⟩
  | .hbm, ⟨67, _⟩ => ⟨S64x1, .i32⟩
  | .hbm, ⟨68, _⟩ => ⟨S64x1, .i32⟩
  | .hbm, ⟨69, _⟩ => ⟨S64x576, .i32⟩
  | .hbm, ⟨70, _⟩ => ⟨S64x576, .i32⟩
  | .hbm, ⟨71, _⟩ => ⟨S64x576, .i32⟩
  | .hbm, ⟨72, _⟩ => ⟨S_, .i32⟩
  | .hbm, ⟨73, _⟩ => ⟨S64x576, .i32⟩
  | .hbm, ⟨74, _⟩ => ⟨S64x576, .i32⟩
  | .hbm, ⟨75, _⟩ => ⟨S_, .i32⟩
  | .hbm, ⟨76, _⟩ => ⟨S64x576, .i32⟩
  | .hbm, ⟨77, _⟩ => ⟨S64x576, .i1⟩
  | .hbm, ⟨78, _⟩ => ⟨S1x64x1x1x576, .i1⟩
  | .hbm, ⟨79, _⟩ => ⟨S1x1x8x64x576, .f32⟩
  | .hbm, ⟨80, _⟩ => ⟨S1x64x8x64x576, .f32⟩
  | .hbm, ⟨81, _⟩ => ⟨S1x64x8x64x576, .f32⟩
  | .hbm, ⟨82, _⟩ => ⟨S_, .f32⟩
  | .hbm, ⟨83, _⟩ => ⟨S_, .f32⟩
  | .hbm, ⟨84, _⟩ => ⟨S1x64x8x64x576, .i1⟩
  | .hbm, ⟨85, _⟩ => ⟨S1x64x8x64x576, .f32⟩
  | .hbm, ⟨86, _⟩ => ⟨S1x64x8x64x576, .f32⟩
  | .hbm, ⟨87, _⟩ => ⟨S_, .f32⟩
  | .hbm, ⟨88, _⟩ => ⟨S1x64x8x64, .f32⟩
  | .hbm, ⟨89, _⟩ => ⟨S_, .f32⟩
  | .hbm, ⟨90, _⟩ => ⟨S1x64x8x64, .f32⟩
  | .hbm, ⟨91, _⟩ => ⟨S1x64x8x64, .f32⟩
  | .hbm, ⟨92, _⟩ => ⟨S1x64x8x64x1, .f32⟩
  | .hbm, ⟨93, _⟩ => ⟨S1x64x8x64x576, .f32⟩
  | .hbm, ⟨94, _⟩ => ⟨S1x64x8x64x576, .f32⟩
  | .hbm, ⟨95, _⟩ => ⟨S1x64x8x64x576, .f32⟩
  | .hbm, ⟨96, _⟩ => ⟨S_, .f32⟩
  | .hbm, ⟨97, _⟩ => ⟨S1x64x8x64, .f32⟩
  | .hbm, ⟨98, _⟩ => ⟨S1x64x8x64x1, .f32⟩
  | .hbm, ⟨99, _⟩ => ⟨S1x64x8x64x576, .f32⟩
  | .hbm, ⟨100, _⟩ => ⟨S1x64x8x64x576, .f32⟩
  | .hbm, ⟨101, _⟩ => ⟨S64x8x64x576, .f32⟩
  | .hbm, ⟨102, _⟩ => ⟨S8x64x64x576, .f32⟩
  | .hbm, ⟨103, _⟩ => ⟨S8x32x2x64x576, .f32⟩
  | .hbm, ⟨104, _⟩ => ⟨S8x32x1x64x576, .f32⟩
  | .hbm, ⟨105, _⟩ => ⟨S8x32x64x576, .f32⟩
  | .hbm, ⟨106, _⟩ => ⟨S_, .i32⟩
  | .hbm, ⟨107, _⟩ => ⟨S_, .f32⟩
  | .hbm, ⟨108, _⟩ => ⟨S8x32x64x640, .f32⟩
  | .hbm, ⟨109, _⟩ => ⟨S8x32x1x64x576, .f32⟩
  | .hbm, ⟨110, _⟩ => ⟨S8x32x64x576, .f32⟩
  | .hbm, ⟨111, _⟩ => ⟨S_, .i32⟩
  | .hbm, ⟨112, _⟩ => ⟨S_, .f32⟩
  | .hbm, ⟨113, _⟩ => ⟨S8x32x64x640, .f32⟩
  | .hbm, ⟨114, _⟩ => ⟨S8x32x128x640, .f32⟩
  | .hbm, ⟨115, _⟩ => ⟨S8x4096x640, .f32⟩
  | .hbm, ⟨116, _⟩ => ⟨S8x4096x640, .bf16⟩
  | .hbm, ⟨117, _⟩ => ⟨S4096x512, .bf16⟩
  | .hbm, ⟨118, _⟩ => ⟨S4096x512, .bf16⟩
  | .hbm, ⟨119, _⟩ => ⟨S4096x512, .bf16⟩
  | .hbm, ⟨120, _⟩ => ⟨S8x128x640, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S8x128x640, .bf16⟩
  | .local _ .vmem, ⟨5, _⟩ => ⟨S8x128x640, .bf16⟩
  | .local _ .vmem, ⟨6, _⟩ => ⟨S128x512, .bf16⟩
  | .local _ .vmem, ⟨7, _⟩ => ⟨S128x512, .bf16⟩
  | .local _ .vmem, ⟨8, _⟩ => ⟨S8x128x640, .f32⟩
  | .local _ .vmem, ⟨9, _⟩ => ⟨S4608x512, .bf16⟩
  | .local _ .vmem, ⟨10, _⟩ => ⟨S4608x512, .bf16⟩
  | .local _ .vmem, ⟨11, _⟩ => ⟨S4608x512, .f32⟩
  | .local _ .vmem, ⟨12, _⟩ => ⟨S4608x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_c_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_call2_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_call3_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85_0 : Ref sig .tc := ⟨.hbm, 117, rfl⟩
abbrev main_v85_1 : Ref sig .tc := ⟨.hbm, 118, rfl⟩
abbrev main_v85_2 : Ref sig .tc := ⟨.hbm, 119, rfl⟩
abbrev main_v85_3 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32 : BitVec 32 := 128#32
  let v3 : BitVec 32 := Scalar.muli arg0 c128_i32
  v3
def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v5 : Index := Scalar.indexCast v4
  let c0 : Index := 0#32
  ![v5.toNat, 0]
def k0_cond2 (i : grid0.Coords) : BitVec 1 :=
  let arg0 : BitVec 32 := BitVec.ofNat 32 (i 0).val
  let c31_i32 : BitVec 32 := 31#32
  let v179 : BitVec 1 := Scalar.cmpi .eq arg0 c31_i32
  let v180 : BitVec 32 := Scalar.extui v179
  let c0_i32_55 : BitVec 32 := 0#32
  let v181 : BitVec 1 := Scalar.cmpi .ne v180 c0_i32_55
  v181

@[reducible] def k0_t1_loop : Scf.Loop 32 :=
  let c0_i32_56 : BitVec 32 := 0#32
  let c8_i32 : BitVec 32 := 8#32
  let v182 : BitVec 32 := Scalar.addi c0_i32_56 c8_i32
  let c1_i32 : BitVec 32 := 1#32
  ⟨c0_i32_56, v182, c1_i32⟩
def k0_mult2 (k0_t1 : Fin k0_t1_loop.trips) : BitVec 32 :=
  let c512_i32_70 : BitVec 32 := 512#32
  let c0_i32_56 : BitVec 32 := 0#32
  let c1_i32 : BitVec 32 := 1#32
  let arg14 : BitVec 32 := Scf.iv c0_i32_56 c1_i32 k0_t1
  let c512_i32_69 : BitVec 32 := 512#32
  let v195 : BitVec 32 := Scalar.muli arg14 c512_i32_69
  let v196 : BitVec 32 := Scalar.addi c512_i32_70 v195
  v196
def k0_off2 (k0_t1 : Fin k0_t1_loop.trips) : Fin 2 → Nat :=
  let c512_i32_70 : BitVec 32 := 512#32
  let c0_i32_56 : BitVec 32 := 0#32
  let c1_i32 : BitVec 32 := 1#32
  let arg14 : BitVec 32 := Scf.iv c0_i32_56 c1_i32 k0_t1
  let c512_i32_69 : BitVec 32 := 512#32
  let v195 : BitVec 32 := Scalar.muli arg14 c512_i32_69
  let v196 : BitVec 32 := Scalar.addi c512_i32_70 v195
  let v197 : BitVec 32 := v196
  let v198 : Index := Scalar.indexCast v197
  let c0_71 : Index := 0#32
  ![v198.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1536 : Shape := ⟨2, ![4096, 1536]⟩
abbrev S8x257 : Shape := ⟨2, ![8, 257]⟩
abbrev S4096x512 : Shape := ⟨2, ![4096, 512]⟩
abbrev S1x4096x1536 : Shape := ⟨3, ![1, 4096, 1536]⟩
abbrev S1x4096x512 : Shape := ⟨3, ![1, 4096, 512]⟩
abbrev S_ : Shape := ⟨0, ![]⟩
abbrev S1x512x512 : Shape := ⟨3, ![1, 512, 512]⟩
abbrev S1x4608x512 : Shape := ⟨3, ![1, 4608, 512]⟩
abbrev S1x72x64x8x64 : Shape := ⟨5, ![1, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x64 : Shape := ⟨6, ![1, 64, 9, 64, 8, 64]⟩
abbrev S1x64x576x8x64 : Shape := ⟨5, ![1, 64, 576, 8, 64]⟩
abbrev S1x64x64x8x64 : Shape := ⟨5, ![1, 64, 64, 8, 64]⟩
abbrev S1x64x8x64x576 : Shape := ⟨5, ![1, 64, 8, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x1x1x576 : Shape := ⟨5, ![1, 64, 1, 1, 576]⟩
abbrev S1x1x8x64x576 : Shape := ⟨5, ![1, 1, 8, 64, 576]⟩
abbrev S1x64x8x64 : Shape := ⟨4, ![1, 64, 8, 64]⟩
abbrev S1x64x8x64x1 : Shape := ⟨5, ![1, 64, 8, 64, 1]⟩
abbrev S1x64x8x64x64 : Shape := ⟨5, ![1, 64, 8, 64, 64]⟩
abbrev S64x8x64 : Shape := ⟨3, ![64, 8, 64]⟩
abbrev S1x8x64x576 : Shape := ⟨4, ![1, 8, 64, 576]⟩
abbrev S1x64x8x576x64 : Shape := ⟨5, ![1, 64, 8, 576, 64]⟩

abbrev nBuf : Space → Nat
  | .hbm => 216
  | .vmem => 0
  | .smem => 0
  | _ => 0

abbrev hbmTy0_0 (i : Nat) : BufTy := match i % 128 with
  | 0 => ⟨S4096x1536, .bf16⟩
  | 1 => ⟨S8x257, .f32⟩
  | 2 => ⟨S4096x512, .bf16⟩
  | 3 => ⟨S4096x1536, .f32⟩
  | 4 => ⟨S1x4096x1536, .f32⟩
  | 5 => ⟨S1x4096x512, .f32⟩
  | 6 => ⟨S1x4096x512, .f32⟩
  | 7 => ⟨S1x4096x512, .f32⟩
  | 8 => ⟨S4096x512, .f32⟩
  | 9 => ⟨S1x4096x512, .f32⟩
  | 10 => ⟨S_, .f32⟩
  | 11 => ⟨S1x512x512, .f32⟩
  | 12 => ⟨S1x4608x512, .f32⟩
  | 13 => ⟨S_, .f32⟩
  | 14 => ⟨S1x512x512, .f32⟩
  | 15 => ⟨S1x72x64x8x64, .f32⟩
  | 16 => ⟨S64, .i32⟩
  | 17 => ⟨S64x1, .i32⟩
  | 18 => ⟨S9, .i32⟩
  | 19 => ⟨S1x9, .i32⟩
  | 20 => ⟨S64x9, .i32⟩
  | 21 => ⟨S64x9, .i32⟩
  | 22 => ⟨S64x9, .i32⟩
  | 23 => ⟨S_, .i32⟩
  | 24 => ⟨S64x9, .i32⟩
  | 25 => ⟨S64x9, .i1⟩
  | 26 => ⟨S_, .i32⟩
  | 27 => ⟨S64x9, .i32⟩
  | 28 => ⟨S64x9, .i32⟩
  | 29 => ⟨S64x9, .i32⟩
  | 30 => ⟨S64x9x1, .i32⟩
  | 31 => ⟨S1x64x9x64x8x64, .f32⟩
  | 32 => ⟨S1x64x576x8x64, .f32⟩
  | 33 => ⟨S1x64x64x8x64, .f32⟩
  | 34 => ⟨S_, .f32⟩
  | 35 => ⟨S1x64x64x8x64, .f32⟩
  | 36 => ⟨S1x64x64x8x64, .f32⟩
  | 37 => ⟨S_, .f32⟩
  | 38 => ⟨S1x512x512, .f32⟩
  | 39 => ⟨S1x4608x512, .f32⟩
  | 40 => ⟨S_, .f32⟩
  | 41 => ⟨S1x512x512, .f32⟩
  | 42 => ⟨S1x72x64x8x64, .f32⟩
  | 43 => ⟨S64, .i32⟩
  | 44 => ⟨S64x1, .i32⟩
  | 45 => ⟨S9, .i32⟩
  | 46 => ⟨S1x9, .i32⟩
  | 47 => ⟨S64x9, .i32⟩
  | 48 => ⟨S64x9, .i32⟩
  | 49 => ⟨S64x9, .i32⟩
  | 50 => ⟨S_, .i32⟩
  | 51 => ⟨S64x9, .i32⟩
  | 52 => ⟨S64x9, .i1⟩
  | 53 => ⟨S_, .i32⟩
  | 54 => ⟨S64x9, .i32⟩
  | 55 => ⟨S64x9, .i32⟩
  | 56 => ⟨S64x9, .i32⟩
  | 57 => ⟨S64x9x1, .i32⟩
  | 58 => ⟨S1x64x9x64x8x64, .f32⟩
  | 59 => ⟨S1x64x576x8x64, .f32⟩
  | 60 => ⟨S1x64x8x64x576, .f32⟩
  | 61 => ⟨S64, .i32⟩
  | 62 => ⟨S64x1, .i32⟩
  | 63 => ⟨S576, .i32⟩
  | 64 => ⟨S1x576, .i32⟩
  | 65 => ⟨S_, .i32⟩
  | 66 => ⟨S64x1, .i32⟩
  | 67 => ⟨S64x1, .i32⟩
  | 68 => ⟨S64x576, .i32⟩
  | 69 => ⟨S64x576, .i32⟩
  | 70 => ⟨S64x576, .i32⟩
  | 71 => ⟨S_, .i32⟩
  | 72 => ⟨S_, .i32⟩
  | 73 => ⟨S_, .i32⟩
  | 74 => ⟨S64x576, .i32⟩
  | 75 => ⟨S64x576, .i32⟩
  | 76 => ⟨S_, .i32⟩
  | 77 => ⟨S64x576, .i32⟩
  | 78 => ⟨S64x576, .i32⟩
  | 79 => ⟨S_, .i32⟩
  | 80 => ⟨S64x576, .i32⟩
  | 81 => ⟨S64x576, .i32⟩
  | 82 => ⟨S_, .i32⟩
  | 83 => ⟨S64x576, .i32⟩
  | 84 => ⟨S64x576, .i1⟩
  | 85 => ⟨S_, .i32⟩
  | 86 => ⟨S64x576, .i32⟩
  | 87 => ⟨S64x576, .i32⟩
  | 88 => ⟨S64x576, .i32⟩
  | 89 => ⟨S64x576x1, .i32⟩
  | 90 => ⟨S8x64x576, .f32⟩
  | 91 => ⟨S64, .i32⟩
  | 92 => ⟨S64x1, .i32⟩
  | 93 => ⟨S_, .i32⟩
  | 94 => ⟨S64x1, .i32⟩
  | 95 => ⟨S64x1, .i32⟩
  | 96 => ⟨S64x576, .i32⟩
  | 97 => ⟨S64x576, .i32⟩
  | 98 => ⟨S64x576, .i32⟩
  | 99 => ⟨S_, .i32⟩
  | 100 => ⟨S64x576, .i32⟩
  | 101 => ⟨S64x576, .i32⟩
  | 102 => ⟨S_, .i32⟩
  | 103 => ⟨S64x576, .i32⟩
  | 104 => ⟨S64x576, .i1⟩
  | 105 => ⟨S1x64x1x1x576, .i1⟩
  | 106 => ⟨S1x1x8x64x576, .f32⟩
  | 107 => ⟨S1x64x8x64x576, .f32⟩
  | 108 => ⟨S1x64x8x64x576, .f32⟩
  | 109 => ⟨S_, .f32⟩
  | 110 => ⟨S_, .f32⟩
  | 111 => ⟨S1x64x8x64x576, .i1⟩
  | 112 => ⟨S1x64x8x64x576, .f32⟩
  | 113 => ⟨S1x64x8x64x576, .f32⟩
  | 114 => ⟨S_, .f32⟩
  | 115 => ⟨S1x64x8x64x576, .f32⟩
  | 116 => ⟨S_, .f32⟩
  | 117 => ⟨S1x64x8x64, .f32⟩
  | 118 => ⟨S1x64x8x64x1, .f32⟩
  | 119 => ⟨S1x64x8x64x576, .f32⟩
  | 120 => ⟨S1x64x8x64x576, .i1⟩
  | 121 => ⟨S1x64x8x64x576, .f32⟩
  | 122 => ⟨S_, .f32⟩
  | 123 => ⟨S1x64x8x64, .f32⟩
  | 124 => ⟨S_, .f32⟩
  | 125 => ⟨S1x64x8x64, .f32⟩
  | 126 => ⟨S1x64x8x64, .f32⟩
  | 127 => ⟨S_, .f32⟩
  | _ => ⟨S4096x1536, .bf16⟩

abbrev hbmTy0_1 (i : Nat) : BufTy := match i % 128 with
  | 0 => ⟨S1x64x8x64, .f32⟩
  | 1 => ⟨S1x64x8x64, .i1⟩
  | 2 => ⟨S_, .f32⟩
  | 3 => ⟨S1x64x8x64, .f32⟩
  | 4 => ⟨S1x64x8x64, .i1⟩
  | 5 => ⟨S_, .f32⟩
  | 6 => ⟨S1x64x8x64, .f32⟩
  | 7 => ⟨S_, .f32⟩
  | 8 => ⟨S1x64x8x64, .f32⟩
  | 9 => ⟨S_, .f32⟩
  | 10 => ⟨S1x64x8x64, .f32⟩
  | 11 => ⟨S1x64x8x64, .f32⟩
  | 12 => ⟨S1x64x8x64, .f32⟩
  | 13 => ⟨S1x64x8x64x1, .f32⟩
  | 14 => ⟨S1x64x8x64x576, .f32⟩
  | 15 => ⟨S1x64x8x64x576, .f32⟩
  | 16 => ⟨S1x64x8x64x576, .f32⟩
  | 17 => ⟨S_, .f32⟩
  | 18 => ⟨S1x64x8x64, .f32⟩
  | 19 => ⟨S1x64x8x64x1, .f32⟩
  | 20 => ⟨S1x64x8x64x576, .f32⟩
  | 21 => ⟨S1x64x8x64x576, .f32⟩
  | 22 => ⟨S1x64x8x64x1, .f32⟩
  | 23 => ⟨S_, .f32⟩
  | 24 => ⟨S1x64x8x64x1, .f32⟩
  | 25 => ⟨S1x64x8x64x1, .f32⟩
  | 26 => ⟨S1x64x8x64x64, .f32⟩
  | 27 => ⟨S1x64x64x8x64, .f32⟩
  | 28 => ⟨S1x4096x512, .f32⟩
  | 29 => ⟨S1x64x64x8x64, .f32⟩
  | 30 => ⟨S1x64x8x64x64, .f32⟩
  | 31 => ⟨S1x64x8x64x576, .f32⟩
  | 32 => ⟨S1x64x8x64x576, .f32⟩
  | 33 => ⟨S1x64x576x8x64, .f32⟩
  | 34 => ⟨S1x64x8x64x576, .f32⟩
  | 35 => ⟨S1x64x8x64x576, .f32⟩
  | 36 => ⟨S1x64x8x64x576, .f32⟩
  | 37 => ⟨S_, .f32⟩
  | 38 => ⟨S1x64x8x64, .f32⟩
  | 39 => ⟨S1x64x8x64x1, .f32⟩
  | 40 => ⟨S1x64x8x64x1, .f32⟩
  | 41 => ⟨S1x64x8x64x576, .f32⟩
  | 42 => ⟨S1x64x8x64x576, .f32⟩
  | 43 => ⟨S_, .f32⟩
  | 44 => ⟨S64x8x64, .f32⟩
  | 45 => ⟨S1x64x8x64, .f32⟩
  | 46 => ⟨S1x64x8x64x576, .f32⟩
  | 47 => ⟨S1x64x8x64x576, .f32⟩
  | 48 => ⟨S1x64x8x64x576, .f32⟩
  | 49 => ⟨S_, .f32⟩
  | 50 => ⟨S1x64x8x64x576, .f32⟩
  | 51 => ⟨S1x64x8x64x576, .f32⟩
  | 52 => ⟨S_, .f32⟩
  | 53 => ⟨S1x8x64x576, .f32⟩
  | 54 => ⟨S1x1x8x64x576, .f32⟩
  | 55 => ⟨S_, .f32⟩
  | 56 => ⟨S8x64x576, .f32⟩
  | 57 => ⟨S_, .f32⟩
  | 58 => ⟨S8x257, .f32⟩
  | 59 => ⟨S8x257, .f32⟩
  | 60 => ⟨S1x64x8x576x64, .f32⟩
  | 61 => ⟨S1x64x576x8x64, .f32⟩
  | 62 => ⟨S1x64x8x64x64, .f32⟩
  | 63 => ⟨S1x64x64x8x64, .f32⟩
  | 64 => ⟨S1x64x9x64x8x64, .f32⟩
  | 65 => ⟨S_, .f32⟩
  | 66 => ⟨S1x72x64x8x64, .f32⟩
  | 67 => ⟨S1x72x64x8x64, .f32⟩
  | 68 => ⟨S1x4608x512, .f32⟩
  | 69 => ⟨S1x512x512, .f32⟩
  | 70 => ⟨S1x4096x512, .f32⟩
  | 71 => ⟨S_, .f32⟩
  | 72 => ⟨S1x64x64x8x64, .f32⟩
  | 73 => ⟨S1x64x64x8x64, .f32⟩
  | 74 => ⟨S1x4096x512, .f32⟩
  | 75 => ⟨S1x64x9x64x8x64, .f32⟩
  | 76 => ⟨S_, .f32⟩
  | 77 => ⟨S1x72x64x8x64, .f32⟩
  | 78 => ⟨S1x72x64x8x64, .f32⟩
  | 79 => ⟨S1x4608x512, .f32⟩
  | 80 => ⟨S1x512x512, .f32⟩
  | 81 => ⟨S1x4096x512, .f32⟩
  | 82 => ⟨S4096x512, .f32⟩
  | 83 => ⟨S4096x512, .bf16⟩
  | 84 => ⟨S4096x512, .f32⟩
  | 85 => ⟨S4096x512, .bf16⟩
  | 86 => ⟨S4096x512, .f32⟩
  | 87 => ⟨S4096x512, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_8 : Ref sig .tc := ⟨.hbm, 71, rfl⟩
abbrev main_c_9 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_call1_v0 : Ref sig .tc := ⟨.hbm, 110, rfl⟩
abbrev main_v83_1 : Ref sig .tc := ⟨.hbm, 111, rfl⟩
abbrev main_call1_v2 : Ref sig .tc := ⟨.hbm, 112, rfl⟩
abbrev main_v83_0 : Ref sig .tc := ⟨.hbm, 113, rfl⟩
abbrev main_call1_cst : Ref sig .tc := ⟨.hbm, 114, rfl⟩
abbrev main_v83_2 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_cst_22 : Ref sig .tc := ⟨.hbm, 133, rfl⟩
abbrev main_v96 : Ref sig .tc := ⟨.hbm, 134, rfl⟩
abbrev main_cst_23 : Ref sig .tc := ⟨.hbm, 135, rfl⟩
abbrev main_v97 : Ref sig .tc := ⟨.hbm, 136, rfl⟩
abbrev main_cst_24 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_25 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_26 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_27 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_28 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_call2_cst : Ref sig .tc := ⟨.hbm, 177, rfl⟩
abbrev main_call2_v0 : Ref sig .tc := ⟨.hbm, 178, rfl⟩
abbrev main_v133 : Ref sig .tc := ⟨.hbm, 179, rfl⟩
abbrev main_cst_29 : Ref sig .tc := ⟨.hbm, 180, rfl⟩
abbrev main_v134 : Ref sig .tc := ⟨.hbm, 181, rfl⟩
abbrev main_v135 : Ref sig .tc := ⟨.hbm, 182, rfl⟩
abbrev main_cst_30 : Ref sig .tc := ⟨.hbm, 183, rfl⟩
abbrev main_v136 : Ref sig .tc := ⟨.hbm, 184, rfl⟩
abbrev main_cst_31 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_32 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_33 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_34 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩

abbrev nD : Nat := 1
abbrev τ : Topo := Topo.v7x

variable {F : FTy → Type} [FloatOps F]
-- ==== Kernel2.lean ====
abbrev S4096x4096 : Shape := ⟨2, ![4096, 4096]⟩
abbrev S4096 : Shape := ⟨1, ![4096]⟩
abbrev S4096x1024 : Shape := ⟨2, ![4096, 1024]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 10
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x1024, .bf16⟩
  | .hbm, ⟨3, _⟩ => ⟨S4096x1024, .bf16⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S1x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4096x4096 : Shape := ⟨2, ![4096, 4096]⟩
abbrev S4096 : Shape := ⟨1, ![4096]⟩
abbrev S4096x1024 : Shape := ⟨2, ![4096, 1024]⟩
abbrev S1x4096 : Shape := ⟨2, ![1, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S_, .f32⟩
  | .hbm, ⟨31, _⟩ => ⟨S4096, .f32⟩
  | .hbm, ⟨32, _⟩ => ⟨S4096x4096, .bf16⟩
  | .hbm, ⟨33, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S2x4096x512 : Shape := ⟨3, ![2, 4096, 512]⟩
abbrev S4096x512 : Shape := ⟨2, ![4096, 512]⟩
abbrev S2x512x512 : Shape := ⟨3, ![2, 512, 512]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S2x4096x512, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S2x512x512, .bf16⟩
  | .local _ .vmem, ⟨4, _⟩ => ⟨S2x512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4096x2x512 : Shape := ⟨3, ![4096, 2, 512]⟩
abbrev S2x4096x512 : Shape := ⟨3, ![2, 4096, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x2x512, .f32⟩
  | .hbm, ⟨10, _⟩ => ⟨S2x4096x512, .f32⟩
  | .hbm, ⟨11, _⟩ => ⟨S2x4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4096x2x512 : Shape := ⟨3, ![4096, 2, 512]⟩
abbrev S2x4096x512 : Shape := ⟨3, ![2, 4096, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x2x512, .f32⟩
  | .hbm, ⟨11, _⟩ => ⟨S2x4096x512, .f32⟩
  | .hbm, ⟨12, _⟩ => ⟨S2x4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x256 : Shape := ⟨2, ![4096, 256]⟩
abbrev S4096x512 : Shape := ⟨2, ![4096, 512]⟩
abbrev S4096x3072 : Shape := ⟨2, ![4096, 3072]⟩
abbrev S4096x1024 : Shape := ⟨2, ![4096, 1024]⟩
abbrev S2x5376x512 : Shape := ⟨3, ![2, 5376, 512]⟩
abbrev S2x256x512 : Shape := ⟨3, ![2, 256, 512]⟩
abbrev S256x1024 : Shape := ⟨2, ![256, 1024]⟩
abbrev S256x512 : Shape := ⟨2, ![256, 512]⟩
abbrev S1x256x512 : Shape := ⟨3, ![1, 256, 512]⟩

abbrev nBuf : Space → Nat
  | .hbm => 8
  | .vmem => 15
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x3072, .bf16⟩
  | .hbm, ⟨6, _⟩ => ⟨S4096x1024, .bf16⟩
  | .hbm, ⟨7, _⟩ => ⟨S2x5376x512, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x1024, .bf16⟩
  | .local _ .vmem, ⟨13, _⟩ => ⟨S2x256x512, .bf16⟩
  | .local _ .vmem, ⟨14, _⟩ => ⟨S2x256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c1_i32_1 : BitVec 32 := 1#32
  let v5 : BitVec 1 := Scalar.cmpi .sge arg0 c1_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c5_i32 : BitVec 32 := 5#32
  let v11 : BitVec 1 := Scalar.cmpi .slt arg0 c5_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c5_i32_5 : BitVec 32 := 5#32
  let v15 : BitVec 1 := Scalar.cmpi .sge arg0 c5_i32_5
  let c7_i32 : BitVec 32 := 7#32
  let v16 : BitVec 1 := Scalar.cmpi .slt arg0 c7_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c7_i32_7 : BitVec 32 := 7#32
  let v20 : BitVec 1 := Scalar.cmpi .sge arg0 c7_i32_7
  let c9_i32 : BitVec 32 := 9#32
  let v21 : BitVec 1 := Scalar.cmpi .slt arg0 c9_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg0 : BitVec 32 := BitVec.ofNat 32 (i 0).val
  let c9_i32_9 : BitVec 32 := 9#32
  let v25 : BitVec 1 := Scalar.cmpi .sge arg0 c9_i32_9
  let c21_i32 : BitVec 32 := 21#32
  let v26 : BitVec 1 := Scalar.cmpi .slt arg0 c21_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4096x256 : Shape := ⟨2, ![4096, 256]⟩
abbrev S4096x512 : Shape := ⟨2, ![4096, 512]⟩
abbrev S4096x3072 : Shape := ⟨2, ![4096, 3072]⟩
abbrev S4096x1024 : Shape := ⟨2, ![4096, 1024]⟩
abbrev S4096x5376 : Shape := ⟨2, ![4096, 5376]⟩
abbrev S_ : Shape := ⟨0, ![]⟩
abbrev S1024x5376 : Shape := ⟨2, ![1024, 5376]⟩
abbrev S5376x1024 : Shape := ⟨2, ![5376, 1024]⟩
abbrev S5376x2x512 : Shape := ⟨3, ![5376, 2, 512]⟩
abbrev S2x5376x512 : Shape := ⟨3, ![2, 5376, 512]⟩

abbrev nBuf : Space → Nat
  | .hbm => 24
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x3072, .bf16⟩
  | .hbm, ⟨6, _⟩ => ⟨S4096x1024, .bf16⟩
  | .hbm, ⟨7, _⟩ => ⟨S4096x256, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x3072, .f32⟩
  | .hbm, ⟨13, _⟩ => ⟨S4096x5376, .f32⟩
  | .hbm, ⟨14, _⟩ => ⟨S_, .f32⟩
  | .hbm, ⟨15, _⟩ => ⟨S1024x5376, .f32⟩
  | .hbm, ⟨16, _⟩ => ⟨S4096x1024, .f32⟩
  | .hbm, ⟨17, _⟩ => ⟨S4096x5376, .f32⟩
  | .hbm, ⟨18, _⟩ => ⟨S5376x1024, .f32⟩
  | .hbm, ⟨19, _⟩ => ⟨S1024x5376, .f32⟩
  | .hbm, ⟨20, _⟩ => ⟨S5376x1024, .f32⟩
  | .hbm, ⟨21, _⟩ => ⟨S5376x2x512, .f32⟩
  | .hbm, ⟨22, _⟩ => ⟨S2x5376x512, .f32⟩
  | .hbm, ⟨23, _⟩ => ⟨S2x5376x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel6.lean ====
abbrev S4096x1024 : Shape := ⟨2, ![4096, 1024]⟩
abbrev S2x1024x512 : Shape := ⟨3, ![2, 1024, 512]⟩
abbrev S4096x512 : Shape := ⟨2, ![4096, 512]⟩
abbrev S2x512x512 : Shape := ⟨3, ![2, 512, 512]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S2x512x512, .bf16⟩
  | .local _ .vmem, ⟨4, _⟩ => ⟨S2x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S_ : Shape := ⟨0, ![]⟩
abbrev S1024x1024 : Shape := ⟨2, ![1024, 1024]⟩
abbrev S1024x2x512 : Shape := ⟨3, ![1024, 2, 512]⟩
abbrev S2x1024x512 : Shape := ⟨3, ![2, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x2x512, .f32⟩
  | .hbm, ⟨10, _⟩ => ⟨S2x1024x512, .f32⟩
  | .hbm, ⟨11, _⟩ => ⟨S2x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S1x4096 : Shape := ⟨2, ![1, 4096]⟩
abbrev S4096x4096 : Shape := ⟨2, ![4096, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096, .f32⟩
  | .hbm, ⟨3, _⟩ => ⟨S4096x4096, .bf16⟩
  | .hbm, ⟨4, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4096x1024 : Shape := ⟨2, ![4096, 1024]⟩
abbrev S1x4096 : Shape := ⟨2, ![1, 4096]⟩
abbrev S1024x4096 : Shape := ⟨2, ![1024, 4096]⟩
abbrev S4096x4096 : Shape := ⟨2, ![4096, 4096]⟩
abbrev S4096 : Shape := ⟨1, ![4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel8.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 84
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel11.lean ====
abbrev S4096x1024 : Shape := ⟨2, ![4096, 1024]⟩
abbrev S5376x1024 : Shape := ⟨2, ![5376, 1024]⟩
abbrev S4096x256 : Shape := ⟨2, ![4096, 256]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x256, .f32⟩
  | .local _ .vmem, ⟨0, _⟩ => ⟨S4096x1024, .bf16⟩
  | .local _ .vmem, ⟨1, _⟩ => ⟨S256x1024, .bf16⟩
  | .local _ .vmem, ⟨2, _⟩ => ⟨S4096x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S5376x1024 : Shape := ⟨2, ![5376, 1024]⟩
abbrev S1024x5376 : Shape := ⟨2, ![1024, 5376]⟩
abbrev S4096x5376 : Shape := ⟨2, ![4096, 5376]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x1024, .f32⟩
  | .hbm, ⟨3, _⟩ => ⟨S5376x1024, .f32⟩
  | .hbm, ⟨4, _⟩ => ⟨S1024x5376, .f32⟩
  | .hbm, ⟨5, _⟩ => ⟨S4096x5376, .f32⟩
  | .hbm, ⟨6, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S5376x1024 : Shape := ⟨2, ![5376, 1024]⟩
abbrev S4096x1536 : Shape := ⟨2, ![4096, 1536]⟩
abbrev S256x1024 : Shape := ⟨2, ![256, 1024]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x1536, .bf16⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S4096x256, .bf16⟩
  | .local _ .vmem, ⟨4, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S5376x1024 : Shape := ⟨2, ![5376, 1024]⟩
abbrev S1024x5376 : Shape := ⟨2, ![1024, 5376]⟩
abbrev S4096x5376 : Shape := ⟨2, ![4096, 5376]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x1024, .f32⟩
  | .hbm, ⟨3, _⟩ => ⟨S5376x1024, .f32⟩
  | .hbm, ⟨4, _⟩ => ⟨S1024x5376, .f32⟩
  | .hbm, ⟨5, _⟩ => ⟨S4096x5376, .f32⟩
  | .hbm, ⟨6, _⟩ => ⟨S4096x1536, .f32⟩
  | .hbm, ⟨7, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S5376x1024 : Shape := ⟨2, ![5376, 1024]⟩
abbrev S4096x512 : Shape := ⟨2, ![4096, 512]⟩
abbrev S256x1024 : Shape := ⟨2, ![256, 1024]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x512, .f32⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S4096x256, .f32⟩
  | .local _ .vmem, ⟨4, _⟩ => ⟨S4096x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S5376x1024 : Shape := ⟨2, ![5376, 1024]⟩
abbrev S1024x5376 : Shape := ⟨2, ![1024, 5376]⟩
abbrev S4096x5376 : Shape := ⟨2, ![4096, 5376]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x1024, .f32⟩
  | .hbm, ⟨3, _⟩ => ⟨S5376x1024, .f32⟩
  | .hbm, ⟨4, _⟩ => ⟨S1024x5376, .f32⟩
  | .hbm, ⟨5, _⟩ => ⟨S4096x5376, .f32⟩
  | .hbm, ⟨6, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S5376x1024 : Shape := ⟨2, ![5376, 1024]⟩
abbrev S4096x3072 : Shape := ⟨2, ![4096, 3072]⟩
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x768, .bf16⟩
  | .local _ .vmem, ⟨5, _⟩ => ⟨S2048x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S5376x1024 : Shape := ⟨2, ![5376, 1024]⟩
abbrev S1024x5376 : Shape := ⟨2, ![1024, 5376]⟩
abbrev S4096x5376 : Shape := ⟨2, ![4096, 5376]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5376x1024, .bf16⟩
  | .hbm, ⟨2, _⟩ => ⟨S4096x1024, .f32⟩
  | .hbm, ⟨3, _⟩ => ⟨S5376x1024, .f32⟩
  | .hbm, ⟨4, _⟩ => ⟨S1024x5376, .f32⟩
  | .hbm, ⟨5, _⟩ => ⟨S4096x5376, .f32⟩
  | .hbm, ⟨6, _⟩ => ⟨S4096x3072, .f32⟩
  | .hbm, ⟨7, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S4096x256 : Shape := ⟨2, ![4096, 256]⟩
abbrev S4096x512 : Shape := ⟨2, ![4096, 512]⟩
abbrev S2x1024x128 : Shape := ⟨3, ![2, 1024, 128]⟩
abbrev S2x1024x256 : Shape := ⟨3, ![2, 1024, 256]⟩
abbrev S2x512x128 : Shape := ⟨3, ![2, 512, 128]⟩
abbrev S2x512x256 : Shape := ⟨3, ![2, 512, 256]⟩
abbrev S512x256 : Shape := ⟨2, ![512, 256]⟩
abbrev S512x128 : Shape := ⟨2, ![512, 128]⟩
abbrev S1x512x128 : Shape := ⟨3, ![1, 512, 128]⟩
abbrev S512x512 : Shape := ⟨2, ![512, 512]⟩
abbrev S1x512x256 : Shape := ⟨3, ![1, 512, 256]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x256, .bf16⟩
  | .hbm, ⟨4, _⟩ => ⟨S4096x512, .bf16⟩
  | .hbm, ⟨5, _⟩ => ⟨S4096x256, .bf16⟩
  | .hbm, ⟨6, _⟩ => ⟨S2x1024x128, .bf16⟩
  | .hbm, ⟨7, _⟩ => ⟨S2x1024x256, .bf16⟩
  | .hbm, ⟨8, _⟩ => ⟨S2x1024x128, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x256, .bf16⟩
  | .local _ .vmem, ⟨7, _⟩ => ⟨S4096x512, .bf16⟩
  | .local _ .vmem, ⟨8, _⟩ => ⟨S4096x256, .bf16⟩
  | .local _ .vmem, ⟨9, _⟩ => ⟨S2x512x128, .bf16⟩
  | .local _ .vmem, ⟨10, _⟩ => ⟨S2x512x128, .bf16⟩
  | .local _ .vmem, ⟨11, _⟩ => ⟨S2x512x256, .bf16⟩
  | .local _ .vmem, ⟨12, _⟩ => ⟨S2x512x256, .bf16⟩
  | .local _ .vmem, ⟨13, _⟩ => ⟨S2x512x128, .bf16⟩
  | .local _ .vmem, ⟨14, _⟩ => ⟨S2x512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S4096x1024 : Shape := ⟨2, ![4096, 1024]⟩
abbrev S4096x256 : Shape := ⟨2, ![4096, 256]⟩
abbrev S4096x512 : Shape := ⟨2, ![4096, 512]⟩
abbrev S_ : Shape := ⟨0, ![]⟩
abbrev S256x1024 : Shape := ⟨2, ![256, 1024]⟩
abbrev S1024x256 : Shape := ⟨2, ![1024, 256]⟩
abbrev S1024x2x128 : Shape := ⟨3, ![1024, 2, 128]⟩
abbrev S2x1024x128 : Shape := ⟨3, ![2, 1024, 128]⟩
abbrev S512x1024 : Shape := ⟨2, ![512, 1024]⟩
abbrev S1024x512 : Shape := ⟨2, ![1024, 512]⟩
abbrev S1024x2x256 : Shape := ⟨3, ![1024, 2, 256]⟩
abbrev S2x1024x256 : Shape := ⟨3, ![2, 1024, 256]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x256, .bf16⟩
  | .hbm, ⟨4, _⟩ => ⟨S4096x512, .bf16⟩
  | .hbm, ⟨5, _⟩ => ⟨S4096x256, .bf16⟩
  | .hbm, ⟨6, _⟩ => ⟨S_, .f32⟩
  | .hbm, ⟨7, _⟩ => ⟨S256x1024, .f32⟩
  | .hbm, ⟨8, _⟩ => ⟨S4096x256, .f32⟩
  | .hbm, ⟨9, _⟩ => ⟨S4096x1024, .f32⟩
  | .hbm, ⟨10, _⟩ => ⟨S4096x1024, .f32⟩
  | .hbm, ⟨11, _⟩ => ⟨S1024x256, .f32⟩
  | .hbm, ⟨12, _⟩ => ⟨S256x1024, .f32⟩
  | .hbm, ⟨13, _⟩ => ⟨S1024x256, .f32⟩
  | .hbm, ⟨14, _⟩ => ⟨S1024x2x128, .f32⟩
  | .hbm, ⟨15, _⟩ => ⟨S2x1024x128, .f32⟩
  | .hbm, ⟨16, _⟩ => ⟨S2x1024x128, .bf16⟩
  | .hbm, ⟨17, _⟩ => ⟨S_, .f32⟩
  | .hbm, ⟨18, _⟩ => ⟨S512x1024, .f32⟩
  | .hbm, ⟨19, _⟩ => ⟨S4096x512, .f32⟩
  | .hbm, ⟨20, _⟩ => ⟨S4096x1024, .f32⟩
  | .hbm, ⟨21, _⟩ => ⟨S4096x1024, .f32⟩
  | .hbm, ⟨22, _⟩ => ⟨S1024x512, .f32⟩
  | .hbm, ⟨23, _⟩ => ⟨S512x1024, .f32⟩
  | .hbm, ⟨24, _⟩ => ⟨S1024x512, .f32⟩
  | .hbm, ⟨25, _⟩ => ⟨S1024x2x256, .f32⟩
  | .hbm, ⟨26, _⟩ => ⟨S2x1024x256, .f32⟩
  | .hbm, ⟨27, _⟩ => ⟨S2x1024x256, .bf16⟩
  | .hbm, ⟨28, _⟩ => ⟨S_, .f32⟩
  | .hbm, ⟨29, _⟩ => ⟨S256x1024, .f32⟩
  | .hbm, ⟨30, _⟩ => ⟨S4096x256, .f32⟩
  | .hbm, ⟨31, _⟩ => ⟨S4096x1024, .f32⟩
  | .hbm, ⟨32, _⟩ => ⟨S4096x1024, .f32⟩
  | .hbm, ⟨33, _⟩ => ⟨S1024x256, .f32⟩
  | .hbm, ⟨34, _⟩ => ⟨S256x1024, .f32⟩
  | .hbm, ⟨35, _⟩ => ⟨S1024x256, .f32⟩
  | .hbm, ⟨36, _⟩ => ⟨S1024x2x128, .f32⟩
  | .hbm, ⟨37, _⟩ => ⟨S2x1024x128, .f32⟩
  | .hbm, ⟨38, _⟩ => ⟨S2x1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel16.lean ====
abbrev S4096x1024 : Shape := ⟨2, ![4096, 1024]⟩
abbrev S1024x256 : Shape := ⟨2, ![1024, 256]⟩
abbrev S1024x512 : Shape := ⟨2, ![1024, 512]⟩
abbrev S4096x256 : Shape := ⟨2, ![4096, 256]⟩
abbrev S4096x512 : Shape := ⟨2, ![4096, 512]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x256, .bf16⟩
  | .hbm, ⟨4, _⟩ => ⟨S1024x512, .bf16⟩
  | .hbm, ⟨5, _⟩ => ⟨S1024x256, .bf16⟩
  | .hbm, ⟨6, _⟩ => ⟨S4096x256, .f32⟩
  | .hbm, ⟨7, _⟩ => ⟨S4096x512, .bf16⟩
  | .hbm, ⟨8, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .bf16⟩
  | .local _ .vmem, ⟨7, _⟩ => ⟨S1024x512, .bf16⟩
  | .local _ .vmem, ⟨8, _⟩ => ⟨S1024x256, .bf16⟩
  | .local _ .vmem, ⟨9, _⟩ => ⟨S1024x256, .f32⟩
  | .local _ .vmem, ⟨10, _⟩ => ⟨S1024x256, .f32⟩
  | .local _ .vmem, ⟨11, _⟩ => ⟨S1024x512, .bf16⟩
  | .local _ .vmem, ⟨12, _⟩ => ⟨S1024x512, .bf16⟩
  | .local _ .vmem, ⟨13, _⟩ => ⟨S1024x256, .f32⟩
  | .local _ .vmem, ⟨14, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4096x1024 : Shape := ⟨2, ![4096, 1024]⟩
abbrev S1024x256 : Shape := ⟨2, ![1024, 256]⟩
abbrev S1024x512 : Shape := ⟨2, ![1024, 512]⟩
abbrev S_ : Shape := ⟨0, ![]⟩
abbrev S4096x256 : Shape := ⟨2, ![4096, 256]⟩
abbrev S256x1024 : Shape := ⟨2, ![256, 1024]⟩
abbrev S4096x512 : Shape := ⟨2, ![4096, 512]⟩
abbrev S512x1024 : Shape := ⟨2, ![512, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x256, .bf16⟩
  | .hbm, ⟨4, _⟩ => ⟨S1024x512, .bf16⟩
  | .hbm, ⟨5, _⟩ => ⟨S1024x256, .bf16⟩
  | .hbm, ⟨6, _⟩ => ⟨S_, .f32⟩
  | .hbm, ⟨7, _⟩ => ⟨S4096x256, .f32⟩
  | .hbm, ⟨8, _⟩ => ⟨S1024x256, .f32⟩
  | .hbm, ⟨9, _⟩ => ⟨S256x1024, .f32⟩
  | .hbm, ⟨10, _⟩ => ⟨S4096x1024, .f32⟩
  | .hbm, ⟨11, _⟩ => ⟨S4096x1024, .f32⟩
  | .hbm, ⟨12, _⟩ => ⟨S4096x256, .f32⟩
  | .hbm, ⟨13, _⟩ => ⟨S_, .f32⟩
  | .hbm, ⟨14, _⟩ => ⟨S4096x512, .f32⟩
  | .hbm, ⟨15, _⟩ => ⟨S1024x512, .f32⟩
  | .hbm, ⟨16, _⟩ => ⟨S512x1024, .f32⟩
  | .hbm, ⟨17, _⟩ => ⟨S4096x1024, .f32⟩
  | .hbm, ⟨18, _⟩ => ⟨S4096x1024, .f32⟩
  | .hbm, ⟨19, _⟩ => ⟨S4096x512, .f32⟩
  | .hbm, ⟨20, _⟩ => ⟨S4096x512, .bf16⟩
  | .hbm, ⟨21, _⟩ => ⟨S_, .f32⟩
  | .hbm, ⟨22, _⟩ => ⟨S4096x256, .f32⟩
  | .hbm, ⟨23, _⟩ => ⟨S1024x256, .f32⟩
  | .hbm, ⟨24, _⟩ => ⟨S256x1024, .f32⟩
  | .hbm, ⟨25, _⟩ => ⟨S4096x1024, .f32⟩
  | .hbm, ⟨26, _⟩ => ⟨S4096x1024, .f32⟩
  | .hbm, ⟨27, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel17.lean ====
abbrev S4096x256 : Shape := ⟨2, ![4096, 256]⟩
abbrev S4096x512 : Shape := ⟨2, ![4096, 512]⟩
abbrev S1024x256 : Shape := ⟨2, ![1024, 256]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S4096x256, .bf16⟩
  | .hbm, ⟨3, _⟩ => ⟨S1024x256, .bf16⟩
  | .hbm, ⟨4, _⟩ => ⟨S1024x512, .bf16⟩
  | .hbm, ⟨5, _⟩ => ⟨S1024x256, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x512, .bf16⟩
  | .local _ .vmem, ⟨8, _⟩ => ⟨S1024x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S4096x256 : Shape := ⟨2, ![4096, 256]⟩
abbrev S4096x512 : Shape := ⟨2, ![4096, 512]⟩
abbrev S1024x256 : Shape := ⟨2, ![1024, 256]⟩
abbrev S1024x512 : Shape := ⟨2, ![1024, 512]⟩
abbrev S256x1024 : Shape := ⟨2, ![256, 1024]⟩
abbrev S4096x1024 : Shape := ⟨2, ![4096, 1024]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S4096x256, .bf16⟩
  | .hbm, ⟨3, _⟩ => ⟨S1024x256, .bf16⟩
  | .hbm, ⟨4, _⟩ => ⟨S1024x512, .bf16⟩
  | .hbm, ⟨5, _⟩ => ⟨S1024x256, .bf16⟩
  | .hbm, ⟨6, _⟩ => ⟨S4096x256, .f32⟩
  | .hbm, ⟨7, _⟩ => ⟨S1024x256, .f32⟩
  | .hbm, ⟨8, _⟩ => ⟨S256x1024, .f32⟩
  | .hbm, ⟨9, _⟩ => ⟨S4096x1024, .f32⟩
  | .hbm, ⟨10, _⟩ => ⟨S4096x1024, .bf16⟩
  | .hbm, ⟨11, _⟩ => ⟨S4096x512, .f32⟩
  | .hbm, ⟨12, _⟩ => ⟨S1024x512, .f32⟩
  | .hbm, ⟨13, _⟩ => ⟨S512x1024, .f32⟩
  | .hbm, ⟨14, _⟩ => ⟨S4096x1024, .f32⟩
  | .hbm, ⟨15, _⟩ => ⟨S4096x1024, .bf16⟩
  | .hbm, ⟨16, _⟩ => ⟨S4096x256, .f32⟩
  | .hbm, ⟨17, _⟩ => ⟨S1024x256, .f32⟩
  | .hbm, ⟨18, _⟩ => ⟨S256x1024, .f32⟩
  | .hbm, ⟨19, _⟩ => ⟨S4096x1024, .f32⟩
  | .hbm, ⟨20, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S4096x3072 : Shape := ⟨2, ![4096, 3072]⟩
abbrev S1x3072 : Shape := ⟨2, ![1, 3072]⟩
abbrev S256x1024 : Shape := ⟨2, ![256, 1024]⟩
abbrev S256x3072 : Shape := ⟨2, ![256, 3072]⟩
abbrev S1x1024 : Shape := ⟨2, ![1, 1024]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x3072, .bf16⟩
  | .hbm, ⟨3, _⟩ => ⟨S1x3072, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x3072, .bf16⟩
  | .hbm, ⟨11, _⟩ => ⟨S1x3072, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x3072, .bf16⟩
  | .local _ .vmem, ⟨4, _⟩ => ⟨S256x3072, .bf16⟩
  | .local _ .vmem, ⟨5, _⟩ => ⟨S1x3072, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x3072, .bf16⟩
  | .local _ .vmem, ⟨19, _⟩ => ⟨S256x3072, .bf16⟩
  | .local _ .vmem, ⟨20, _⟩ => ⟨S1x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference18Ideal.lean ====
abbrev S4096x1024 : Shape := ⟨2, ![4096, 1024]⟩
abbrev S1024x1024 : Shape := ⟨2, ![1024, 1024]⟩
abbrev S4096x3072 : Shape := ⟨2, ![4096, 3072]⟩
abbrev S1x3072 : Shape := ⟨2, ![1, 3072]⟩
abbrev S3072 : Shape := ⟨1, ![3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x3072, .bf16⟩
  | .hbm, ⟨3, _⟩ => ⟨S1x3072, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x3072, .f32⟩
  | .hbm, ⟨8, _⟩ => ⟨S3072, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1x1024, .f32⟩
  | .hbm, ⟨46, _⟩ => ⟨S_, .f32⟩
  | .hbm, ⟨47, _⟩ => ⟨S4096x3x1024, .f32⟩
  | .hbm, ⟨48, _⟩ => ⟨S4096x1024, .f32⟩
  | .hbm, ⟨49, _⟩ => ⟨S4096x1024, .f32⟩
  | .hbm, ⟨50, _⟩ => ⟨S4096x1x1024, .f32⟩
  | .hbm, ⟨51, _⟩ => ⟨S_, .f32⟩
  | .hbm, ⟨52, _⟩ => ⟨S4096x3x1024, .f32⟩
  | .hbm, ⟨53, _⟩ => ⟨S4096x3x1024, .f32⟩
  | .hbm, ⟨54, _⟩ => ⟨S4096x1024, .f32⟩
  | .hbm, ⟨55, _⟩ => ⟨S4096x1024, .f32⟩
  | .hbm, ⟨56, _⟩ => ⟨S4096x1x1024, .f32⟩
  | .hbm, ⟨57, _⟩ => ⟨S_, .f32⟩
  | .hbm, ⟨58, _⟩ => ⟨S4096x3x1024, .f32⟩
  | .hbm, ⟨59, _⟩ => ⟨S4096x3x1024, .f32⟩
  | .hbm, ⟨60, _⟩ => ⟨S4096x3072, .f32⟩
  | .hbm, ⟨61, _⟩ => ⟨S4096x3072, .f32⟩
  | .hbm, ⟨62, _⟩ => ⟨S_, .f32⟩
  | .hbm, ⟨63, _⟩ => ⟨S3072, .f32⟩
  | .hbm, ⟨64, _⟩ => ⟨S1x3072, .f32⟩
  | .hbm, ⟨65, _⟩ => ⟨S_, .f32⟩
  | .hbm, ⟨66, _⟩ => ⟨S3072, .f32⟩
  | .hbm, ⟨67, _⟩ => ⟨S4096x1024, .bf16⟩
  | .hbm, ⟨68, _⟩ => ⟨S4096x1024, .bf16⟩
  | .hbm, ⟨69, _⟩ => ⟨S4096x1024, .bf16⟩
  | .hbm, ⟨70, _⟩ => ⟨S4096x3072, .bf16⟩
  | .hbm, ⟨71, _⟩ => ⟨S1x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Kernel19.lean ====
abbrev S4096x256 : Shape := ⟨2, ![4096, 256]⟩
abbrev S4096x512 : Shape := ⟨2, ![4096, 512]⟩
abbrev S4096x3072 : Shape := ⟨2, ![4096, 3072]⟩
abbrev S5376x1024 : Shape := ⟨2, ![5376, 1024]⟩
abbrev S4096x1024 : Shape := ⟨2, ![4096, 1024]⟩
abbrev S1x1024 : Shape := ⟨2, ![1, 1024]⟩
abbrev S256x256 : Shape := ⟨2, ![256, 256]⟩
abbrev S256x512 : Shape := ⟨2, ![256, 512]⟩
abbrev S256x3072 : Shape := ⟨2, ![256, 3072]⟩
abbrev S256x1024 : Shape := ⟨2, ![256, 1024]⟩
abbrev S512x1024 : Shape := ⟨2, ![512, 1024]⟩
abbrev S3072x1024 : Shape := ⟨2, ![3072, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x3072, .bf16⟩
  | .hbm, ⟨6, _⟩ => ⟨S5376x1024, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1x1024, .f32⟩
  | .local _ .vmem, ⟨0, _⟩ => ⟨S256x256, .bf16⟩
  | .local _ .vmem, ⟨1, _⟩ => ⟨S256x256, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x3072, .bf16⟩
  | .local _ .vmem, ⟨11, _⟩ => ⟨S256x3072, .bf16⟩
  | .local _ .vmem, ⟨12, _⟩ => ⟨S5376x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5376x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference19Ideal.lean ====
abbrev S4096x256 : Shape := ⟨2, ![4096, 256]⟩
abbrev S4096x512 : Shape := ⟨2, ![4096, 512]⟩
abbrev S4096x3072 : Shape := ⟨2, ![4096, 3072]⟩
abbrev S5376x1024 : Shape := ⟨2, ![5376, 1024]⟩
abbrev S4096x1024 : Shape := ⟨2, ![4096, 1024]⟩
abbrev S1x1024 : Shape := ⟨2, ![1, 1024]⟩
abbrev S4096x5376 : Shape := ⟨2, ![4096, 5376]⟩
abbrev S_ : Shape := ⟨0, ![]⟩
abbrev S4096 : Shape := ⟨1, ![4096]⟩
abbrev S4096x1 : Shape := ⟨2, ![4096, 1]⟩
abbrev S1024x5376 : Shape := ⟨2, ![1024, 5376]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x3072, .bf16⟩
  | .hbm, ⟨6, _⟩ => ⟨S5376x1024, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x256, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x3072, .f32⟩
  | .hbm, ⟨16, _⟩ => ⟨S4096x5376, .f32⟩
  | .hbm, ⟨17, _⟩ => ⟨S_, .f32⟩
  | .hbm, ⟨18, _⟩ => ⟨S1x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S5376x1024, .f32⟩
  | .hbm, ⟨57, _⟩ => ⟨S1024x5376, .f32⟩
  | .hbm, ⟨58, _⟩ => ⟨S4096x5376, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== Kernel20.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 54
  | .vmem => 24
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev main_v31_4 : Ref sig .tc := ⟨.hbm, 50, rfl⟩
abbrev main_v31_5 : Ref sig .tc := ⟨.hbm, 51, rfl⟩
abbrev main_v31_6 : Ref sig .tc := ⟨.hbm, 52, rfl⟩
abbrev main_v31_7 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference20Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 195
  | .vmem => 0
  | .smem => 0
  | _ => 0

abbrev hbmTy0_0 (i : Nat) : BufTy := match i % 128 with
  | 0 => ⟨S4096x4096, .bf16⟩
  | 1 => ⟨S4096x1024, .bf16⟩
  | 2 => ⟨S4096x1024, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S4096x1024, .f32⟩
  | 9 => ⟨S_, .f32⟩
  | 10 => ⟨S1x1024, .f32⟩
  | 11 => ⟨S_, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S1024, .f32⟩
  | 18 => ⟨S1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S_, .f32⟩
  | 40 => ⟨S4096x1, .f32⟩
  | 41 => ⟨S4096x1, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S1x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S4096x1024, .f32⟩
  | 74 => ⟨S4096x1024, .f32⟩
  | 75 => ⟨S_, .f32⟩
  | 76 => ⟨S4096x1, .f32⟩
  | 77 => ⟨S4096x1, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S_, .f32⟩
  | 86 => ⟨S1x1024, .f32⟩
  | 87 => ⟨S1x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S1024x4096, .f32⟩
  | 94 => ⟨S4096x4096, .f32⟩
  | 95 => ⟨S4096x4096, .f32⟩
  | 96 => ⟨S4096x1024, .f32⟩
  | 97 => ⟨S_, .f32⟩
  | 98 => ⟨S1024, .f32⟩
  | 99 => ⟨S1x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S4096x1024, .f32⟩
  | 114 => ⟨S_, .f32⟩
  | 115 => ⟨S4096, .f32⟩
  | 116 => ⟨S4096x1, .f32⟩
  | 117 => ⟨S4096x1024, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x1024, .f32⟩
  | 124 => ⟨S4096x1024, .f32⟩
  | 125 => ⟨S4096x1024, .f32⟩
  | 126 => ⟨S_, .f32⟩
  | 127 => ⟨S4096, .f32⟩
  | _ => ⟨S4096x4096, .bf16⟩

abbrev hbmTy0_1 (i : Nat) : BufTy := match i % 128 with
  | 0 => ⟨S4096x1, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S4096x1024, .f32⟩
  | 22 => ⟨S_, .f32⟩
  | 23 => ⟨S1024, .f32⟩
  | 24 => ⟨S4096x1024, .f32⟩
  | 25 => ⟨S_, .f32⟩
  | 26 => ⟨S4096, .f32⟩
  | 27 => ⟨S4096x1, .f32⟩
  | 28 => ⟨S4096x1024, .f32⟩
  | 29 => ⟨S4096x1024, .f32⟩
  | 30 => ⟨S4096x1, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096, .f32⟩
  | 40 => ⟨S4096x1024, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S4096x1024, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096, .f32⟩
  | 53 => ⟨S4096x1024, .f32⟩
  | 54 => ⟨S4096x1024, .f32⟩
  | 55 => ⟨S1x1024, .f32⟩
  | 56 => ⟨S1x1024, .f32⟩
  | 57 => ⟨S4096x1024, .f32⟩
  | 58 => ⟨S4096x1024, .f32⟩
  | 59 => ⟨S4096x1024, .f32⟩
  | 60 => ⟨S_, .f32⟩
  | 61 => ⟨S1024, .f32⟩
  | 62 => ⟨S1x1024, .f32⟩
  | 63 => ⟨S_, .f32⟩
  | 64 => ⟨S4096x1024, .f32⟩
  | 65 => ⟨S4096x1024, .f32⟩
  | 66 => ⟨S4096x1024, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_20 : Ref sig .tc := ⟨.hbm, 118, rfl⟩
abbrev main_v88 : Ref sig .tc := ⟨.hbm, 119, rfl⟩
abbrev main_v89 : Ref sig .tc := ⟨.hbm, 120, rfl⟩
abbrev main_cst_21 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_22 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_23 : Ref sig .tc := ⟨.hbm, 131, rfl⟩
abbrev main_v98 : Ref sig .tc := ⟨.hbm, 132, rfl⟩
abbrev main_v99 : Ref sig .tc := ⟨.hbm, 133, rfl⟩
abbrev main_cst_24 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_cst_26 : Ref sig .tc := ⟨.hbm, 142, rfl⟩
abbrev main_v106 : Ref sig .tc := ⟨.hbm, 143, rfl⟩
abbrev main_v107 : Ref sig .tc := ⟨.hbm, 144, rfl⟩
abbrev main_cst_27 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_28 : Ref sig .tc := ⟨.hbm, 150, rfl⟩
abbrev main_v112 : Ref sig .tc := ⟨.hbm, 151, rfl⟩
abbrev main_v113 : Ref sig .tc := ⟨.hbm, 152, rfl⟩
abbrev main_cst_29 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_30 : Ref sig .tc := ⟨.hbm, 160, rfl⟩
abbrev main_v120 : Ref sig .tc := ⟨.hbm, 161, rfl⟩
abbrev main_v121 : Ref sig .tc := ⟨.hbm, 162, rfl⟩
abbrev main_cst_31 : Ref sig .tc := ⟨.hbm, 163, rfl⟩
abbrev main_v122 : Ref sig .tc := ⟨.hbm, 164, rfl⟩
abbrev main_v123 : Ref sig .tc := ⟨.hbm, 165, rfl⟩
abbrev main_cst_32 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_33 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_34 : Ref sig .tc := ⟨.hbm, 176, rfl⟩
abbrev main_v132 : Ref sig .tc := ⟨.hbm, 177, rfl⟩
abbrev main_v133 : Ref sig .tc := ⟨.hbm, 178, rfl⟩
abbrev main_cst_35 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_36 : Ref sig .tc := ⟨.hbm, 188, rfl⟩
abbrev main_v142 : Ref sig .tc := ⟨.hbm, 189, rfl⟩
abbrev main_v143 : Ref sig .tc := ⟨.hbm, 190, rfl⟩
abbrev main_cst_37 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel22.lean ====
abbrev S4096x3072 : Shape := ⟨2, ![4096, 3072]⟩
abbrev S1x3072 : Shape := ⟨2, ![1, 3072]⟩
abbrev S4096x1024 : Shape := ⟨2, ![4096, 1024]⟩
abbrev S512x3072 : Shape := ⟨2, ![512, 3072]⟩
abbrev S512x1024 : Shape := ⟨2, ![512, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S1x3072, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S4096x3072 : Shape := ⟨2, ![4096, 3072]⟩
abbrev S1x3072 : Shape := ⟨2, ![1, 3072]⟩
abbrev S4096x1024 : Shape := ⟨2, ![4096, 1024]⟩
abbrev S3072 : Shape := ⟨1, ![3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x3072, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .f32⟩
  | .hbm, ⟨6, _⟩ => ⟨S3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel23.lean ====
abbrev S8x1024 : Shape := ⟨2, ![8, 1024]⟩
abbrev S2x8x1536 : Shape := ⟨3, ![2, 8, 1536]⟩
abbrev S2x1024x1536 : Shape := ⟨3, ![2, 1024, 1536]⟩
abbrev S1x8x1536 : Shape := ⟨3, ![1, 8, 1536]⟩
abbrev S1x1024x1536 : Shape := ⟨3, ![1, 1024, 1536]⟩
abbrev S8x1536 : Shape := ⟨2, ![8, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .local _ .vmem, ⟨0, _⟩ => ⟨S8x1024, .f32⟩
  | .local _ .vmem, ⟨1, _⟩ => ⟨S1x8x1536, .f32⟩
  | .local _ .vmem, ⟨2, _⟩ => ⟨S1x8x1536, .f32⟩
  | .local _ .vmem, ⟨3, _⟩ => ⟨S1x1024x1536, .f32⟩
  | .local _ .vmem, ⟨4, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8x1024 : Shape := ⟨2, ![8, 1024]⟩
abbrev S2x8x1536 : Shape := ⟨3, ![2, 8, 1536]⟩
abbrev S_ : Shape := ⟨0, ![]⟩
abbrev S1024x1536 : Shape := ⟨2, ![1024, 1536]⟩
abbrev S8x1536 : Shape := ⟨2, ![8, 1536]⟩
abbrev S1x8x1536 : Shape := ⟨3, ![1, 8, 1536]⟩
abbrev S1536x1024 : Shape := ⟨2, ![1536, 1024]⟩
abbrev S1x1024x1536 : Shape := ⟨3, ![1, 1024, 1536]⟩
abbrev S2x1024x1536 : Shape := ⟨3, ![2, 1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S1024x1536, .f32⟩
  | .hbm, ⟨13, _⟩ => ⟨S8x1536, .f32⟩
  | .hbm, ⟨14, _⟩ => ⟨S1x8x1536, .f32⟩
  | .hbm, ⟨15, _⟩ => ⟨S8x1536, .f32⟩
  | .hbm, ⟨16, _⟩ => ⟨S1536x1024, .f32⟩
  | .hbm, ⟨17, _⟩ => ⟨S1024x1536, .f32⟩
  | .hbm, ⟨18, _⟩ => ⟨S_, .f32⟩
  | .hbm, ⟨19, _⟩ => ⟨S1024x1536, .f32⟩
  | .hbm, ⟨20, _⟩ => ⟨S8x1536, .f32⟩
  | .hbm, ⟨21, _⟩ => ⟨S1x8x1536, .f32⟩
  | .hbm, ⟨22, _⟩ => ⟨S8x1536, .f32⟩
  | .hbm, ⟨23, _⟩ => ⟨S1536x1024, .f32⟩
  | .hbm, ⟨24, _⟩ => ⟨S1024x1536, .f32⟩
  | .hbm, ⟨25, _⟩ => ⟨S1x1024x1536, .f32⟩
  | .hbm, ⟨26, _⟩ => ⟨S1x1024x1536, .f32⟩
  | .hbm, ⟨27, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel24.lean ====
abbrev S8x1024 : Shape := ⟨2, ![8, 1024]⟩
abbrev S2x1024x1536 : Shape := ⟨3, ![2, 1024, 1536]⟩
abbrev S2x1x1536 : Shape := ⟨3, ![2, 1, 1536]⟩
abbrev S2x8x1536 : Shape := ⟨3, ![2, 8, 1536]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S2x8x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S8x1024 : Shape := ⟨2, ![8, 1024]⟩
abbrev S2x1024x1536 : Shape := ⟨3, ![2, 1024, 1536]⟩
abbrev S2x1x1536 : Shape := ⟨3, ![2, 1, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S2x8x1536 : Shape := ⟨3, ![2, 8, 1536]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1x1536, .f32⟩
  | .hbm, ⟨16, _⟩ => ⟨S1x1536, .f32⟩
  | .hbm, ⟨17, _⟩ => ⟨S8x1536, .f32⟩
  | .hbm, ⟨18, _⟩ => ⟨S8x1536, .f32⟩
  | .hbm, ⟨19, _⟩ => ⟨S1x1024x1536, .f32⟩
  | .hbm, ⟨20, _⟩ => ⟨S1024x1536, .f32⟩
  | .hbm, ⟨21, _⟩ => ⟨S8x1536, .f32⟩
  | .hbm, ⟨22, _⟩ => ⟨S1x1x1536, .f32⟩
  | .hbm, ⟨23, _⟩ => ⟨S1x1536, .f32⟩
  | .hbm, ⟨24, _⟩ => ⟨S8x1536, .f32⟩
  | .hbm, ⟨25, _⟩ => ⟨S8x1536, .f32⟩
  | .hbm, ⟨26, _⟩ => ⟨S1x8x1536, .f32⟩
  | .hbm, ⟨27, _⟩ => ⟨S1x8x1536, .f32⟩
  | .hbm, ⟨28, _⟩ => ⟨S2x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel25.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S96x1024 : Shape := ⟨2, ![96, 1024]⟩
abbrev S8x96x1024 : Shape := ⟨3, ![8, 96, 1024]⟩
abbrev S1x96x1024 : Shape := ⟨3, ![1, 96, 1024]⟩

abbrev nBuf : Space → Nat
  | .hbm => 8
  | .vmem => 8
  | .smem => 0
  | _ => 0

abbrev bufTy : (tb : Table) → Fin (tcTables nBuf tb) → BufTy
  | .hbm, ⟨0, _⟩ => ⟨S96x1024, .f32⟩
  | .hbm, ⟨1, _⟩ => ⟨S96x1024, .f32⟩
  | .hbm, ⟨2, _⟩ => ⟨S96x1024, .f32⟩
  | .hbm, ⟨3, _⟩ => ⟨S8x96x1024, .f32⟩
  | .hbm, ⟨4, _⟩ => ⟨S96x1024, .f32⟩
  | .hbm, ⟨5, _⟩ => ⟨S96x1024, .f32⟩
  | .hbm, ⟨6, _⟩ => ⟨S96x1024, .f32⟩
  | .hbm, ⟨7, _⟩ => ⟨S96x1024, .f32⟩
  | .local _ .vmem, ⟨0, _⟩ => ⟨S96x1024, .f32⟩
  | .local _ .vmem, ⟨1, _⟩ => ⟨S96x1024, .f32⟩
  | .local _ .vmem, ⟨2, _⟩ => ⟨S96x1024, .f32⟩
  | .local _ .vmem, ⟨3, _⟩ => ⟨S8x96x1024, .f32⟩
  | .local _ .vmem, ⟨4, _⟩ => ⟨S96x1024, .f32⟩
  | .local _ .vmem, ⟨5, _⟩ => ⟨S96x1024, .f32⟩
  | .local _ .vmem, ⟨6, _⟩ => ⟨S96x1024, .f32⟩
  | .local _ .vmem, ⟨7, _⟩ => ⟨S96x1024, .f32⟩
  | _, _ => ⟨S96x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference26Ideal.lean ====
abbrev S96x1024 : Shape := ⟨2, ![96, 1024]⟩
abbrev S8x96x1024 : Shape := ⟨3, ![8, 96, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S96x1024, .f32⟩
  | .hbm, ⟨1, _⟩ => ⟨S96x1024, .f32⟩
  | .hbm, ⟨2, _⟩ => ⟨S96x1024, .f32⟩
  | .hbm, ⟨3, _⟩ => ⟨S8x96x1024, .f32⟩
  | .hbm, ⟨4, _⟩ => ⟨S_, .f32⟩
  | .hbm, ⟨5, _⟩ => ⟨S96x1024, .f32⟩
  | .hbm, ⟨6, _⟩ => ⟨S_, .f32⟩
  | .hbm, ⟨7, _⟩ => ⟨S96x1024, .f32⟩
  | .hbm, ⟨8, _⟩ => ⟨S96x1024, .f32⟩
  | .hbm, ⟨9, _⟩ => ⟨S_, .f32⟩
  | .hbm, ⟨10, _⟩ => ⟨S96x1024, .f32⟩
  | .hbm, ⟨11, _⟩ => ⟨S96x1024, .f32⟩
  | .hbm, ⟨12, _⟩ => ⟨S96x1024, .f32⟩
  | .hbm, ⟨13, _⟩ => ⟨S_, .f32⟩
  | .hbm, ⟨14, _⟩ => ⟨S96x1024, .f32⟩
  | .hbm, ⟨15, _⟩ => ⟨S96x1024, .f32⟩
  | .hbm, ⟨16, _⟩ => ⟨S96x1024, .f32⟩
  | .hbm, ⟨17, _⟩ => ⟨S_, .f32⟩
  | .hbm, ⟨18, _⟩ => ⟨S96x1024, .f32⟩
  | .hbm, ⟨19, _⟩ => ⟨S96x1024, .f32⟩
  | .hbm, ⟨20, _⟩ => ⟨S96x1024, .f32⟩
  | .hbm, ⟨21, _⟩ => ⟨S_, .f32⟩
  | .hbm, ⟨22, _⟩ => ⟨S96x1024, .f32⟩
  | .hbm, ⟨23, _⟩ => ⟨S96x1024, .f32⟩
  | .hbm, ⟨24, _⟩ => ⟨S_, .f32⟩
  | .hbm, ⟨25, _⟩ => ⟨S96x1024, .f32⟩
  | .hbm, ⟨26, _⟩ => ⟨S96x1024, .f32⟩
  | .hbm, ⟨27, _⟩ => ⟨S96x1024, .f32⟩
  | .hbm, ⟨28, _⟩ => ⟨S_, .f32⟩
  | .hbm, ⟨29, _⟩ => ⟨S96x1024, .f32⟩
  | .hbm, ⟨30, _⟩ => ⟨S96x1024, .f32⟩
  | .hbm, ⟨31, _⟩ => ⟨S96x1024, .f32⟩
  | .hbm, ⟨32, _⟩ => ⟨S_, .f32⟩
  | .hbm, ⟨33, _⟩ => ⟨S96x1024, .f32⟩
  | .hbm, ⟨34, _⟩ => ⟨S96x1024, .f32⟩
  | .hbm, ⟨35, _⟩ => ⟨S96x1024, .f32⟩
  | .hbm, ⟨36, _⟩ => ⟨S_, .f32⟩
  | .hbm, ⟨37, _⟩ => ⟨S96x1024, .f32⟩
  | .hbm, ⟨38, _⟩ => ⟨S96x1024, .f32⟩
  | _, _ => ⟨S96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Values.lean ====
/-
  What one grid point of the attention gradient kernel computes, as functions of the blocks it reads: the block of
  probability gradients, the rows of dq, the two slabs added into the key and value accumulators, and the block added
  to the bias accumulator; then the kernel's state before each point, by recursion over the points. Stated for any
  float values `F` over the printed payloads.
-/
module

public import proofs.«01_k».proof.Proof.Gen.KernelIdeal.Skeleton
public import Idealize.ShloMosaic.Lib.VecWindow

@[expose] public section

set_option maxRecDepth 16384

noncomputable section

namespace Cert.Attn

open Cert.KernelIdeal Cert.KernelIdeal.Gen
open Idealize.ShloMosaic Idealize.ShloMosaic.TcCoe
open Idealize.ShloMosaic.VecWindow (window put)

variable {F : FTy → Type} [FloatOps F]

/-- The bias block's zero accumulator the products start from. -/
abbrev zAcc : FVec F S128x640 .f32 := constant S128x640 .f32 0x00000000#32

/-- The score gradients of one pair of chunks, rounded: from the value slab, the output gradient's rows and the
    probabilities. -/
def dsOf (vs : Vec F S640x512 .bf16) (o : Vec F S128x512 .bf16) (p : Vec F S8x128x640 .bf16) : FVec F S8x128x640 .bf16 :=
  k0_pay23 vs o (k0_pay12 p) (k0_pay13 vs o) (k0_pay14 vs o) (k0_pay15 vs o) (k0_pay16 vs o) (k0_pay17 vs o) (k0_pay18 vs o)
    (k0_pay19 o) (k0_pay20 vs) zAcc

/-- The bias accumulator after the point. -/
def dsAccOf (vs : Vec F S640x512 .bf16) (o : Vec F S128x512 .bf16) (p : Vec F S8x128x640 .bf16) (acc : Vec F S8x128x640 .f32) :
    FVec F S8x128x640 .f32 :=
  k0_pay22 vs o (k0_pay12 p) (k0_pay13 vs o) (k0_pay14 vs o) (k0_pay15 vs o) (k0_pay16 vs o) (k0_pay17 vs o) (k0_pay18 vs o)
    (k0_pay19 o) (k0_pay20 vs) zAcc acc

/-- The rows of dq. -/
def dqOf (ks : Vec F S640x512 .bf16) (ds : FVec F S8x128x640 .bf16) : FVec F S128x512 .bf16 :=
  k0_pay43 (k0_pay33 ks ds) (k0_pay34 ks ds) (k0_pay35 ks ds) (k0_pay36 ks ds) (k0_pay37 ks ds) (k0_pay38 ks ds)
    (k0_pay39 ks ds) (k0_pay40 ks ds)

/-- The key accumulator's slab after the point. -/
def dkOf (q : Vec F S128x512 .bf16) (ds : FVec F S8x128x640 .bf16) (acc : Vec F S640x512 .f32) : FVec F S640x512 .f32 :=
  k0_pay44 (k0_pay10 q) ds (k0_pay41 (k0_pay10 q) ds) (k0_pay42 ds) acc

/-- The value accumulator's slab after the point. -/
def dvOf (o : Vec F S128x512 .bf16) (p : Vec F S8x128x640 .bf16) (acc : Vec F S640x512 .f32) : FVec F S640x512 .f32 :=
  k0_pay1 (k0_pay45 (k0_pay24 o (k0_pay11 p)) (k0_pay25 o (k0_pay11 p)) (k0_pay26 o (k0_pay11 p)) (k0_pay27 o (k0_pay11 p))
    (k0_pay28 o (k0_pay11 p)) (k0_pay30 o (k0_pay29 (k0_pay11 p))) (k0_pay31 o (k0_pay11 p)) (k0_pay32 o (k0_pay11 p)) acc)

/-- A slab's place: rows `128·n` to `128·n + 640`. -/
theorem slab_inb (n : ℕ) (h : n < 32) : ∀ a, (![128 * n, 0] : Fin 2 → ℕ) a + S640x512.size a ≤ S4608x512.size a := by
  intro a; fin_cases a
  · show 128 * n + 640 ≤ 4608; omega
  · show 0 + 512 ≤ 512; omega

/-- The slab of point `n`. -/
def slab {e : EltTy} (x : Vec F S4608x512 e) (n : ℕ) (h : n < 32) : Vec F S640x512 e :=
  window (s := S4608x512) x ![128 * n, 0] S640x512.size (slab_inb n h)

/-- The slab of point `n` replaced. -/
def slabPut {e : EltTy} (x : Vec F S4608x512 e) (n : ℕ) (w : Vec F S640x512 e) : Vec F S4608x512 e :=
  put (s := S4608x512) x ![128 * n, 0] S640x512.size w

theorem rows_inb (k : ℕ) (h : k < 8) : ∀ a, (![512 * k + 512, 0] : Fin 2 → ℕ) a + S512x512.size a ≤ S4608x512.size a := by
  intro a; fin_cases a
  · show 512 * k + 512 + 512 ≤ 4608; omega
  · show 0 + 512 ≤ 512; omega

/-- A padded buffer after `k` trips of the closing loop: the rows so far replaced by the accumulator's, rounded by `g`. -/
def castRows (g : Vec F S512x512 .f32 → Vec F S512x512 .bf16) (x : Vec F S4608x512 .bf16) (acc : Vec F S4608x512 .f32) :
    ℕ → Vec F S4608x512 .bf16
  | 0 => x
  | k + 1 => if h : k < 8 then
      put (s := S4608x512) (castRows g x acc k) ![512 * k + 512, 0] S512x512.size
        (g (window (s := S4608x512) acc ![512 * k + 512, 0] S512x512.size (rows_inb k h)))
    else castRows g x acc k

/-- The result copied out: the last 4096 rows of a padded buffer. -/
def tailRows (x : Vec F S4608x512 .bf16) : Vec F S4096x512 .bf16 :=
  window (s := S4608x512) x ![512, 0] S4096x512.size inb_S4608x512_S4096x512_512_0

/-- Columns of the projected rows: the 512 from column `o`. -/
def cols (x0 : Vec F S4096x1536 .bf16) (o : ℕ) (ho : ∀ a, (![0, o] : Fin 2 → ℕ) a + S4096x512.size a ≤ S4096x1536.size a) : Vec F S4096x512 .bf16 :=
  window (s := S4096x1536) x0 ![0, o] S4096x512.size ho

/-- Rows behind 512 rows of zeros. -/
def padded (z : Vec F S512x512 .bf16) (w : Vec F S4096x512 .bf16) : Vec F S4608x512 .bf16 :=
  put (s := S4608x512) (put (s := S4608x512) (fun _ => (Scalar.ofBits .bf16 0x0000#16 : F .bf16)) ![0, 0] S512x512.size z) ![512, 0] S4096x512.size w

/-- Inside the window the payload is read, -/
theorem put_in {s : Shape} {α : Type} (x : s.Idx → α) (off size : Fin s.rank → ℕ) (w : ((a : Fin s.rank) → Fin (size a)) → α) (y : s.Idx)
    (h : ∀ a, off a ≤ (y a).val ∧ (y a).val < off a + size a) :
    put x off size w y = w (Rect.unitLocal (s := s) (off := off) (size := size) y h) := dif_pos h

/-- and outside what was there. -/
theorem put_out {s : Shape} {α : Type} (x : s.Idx → α) (off size : Fin s.rank → ℕ) (w : ((a : Fin s.rank) → Fin (size a)) → α) (y : s.Idx)
    (h : ¬ ∀ a, off a ≤ (y a).val ∧ (y a).val < off a + size a) : put x off size w y = x y := dif_neg h

/-- Whatever the buffer held, writing the zeros and then the rows leaves that. -/
theorem put_padded (x : Vec F S4608x512 .bf16) (z : Vec F S512x512 .bf16) (w : Vec F S4096x512 .bf16) :
    put (s := S4608x512) (put (s := S4608x512) x ![0, 0] S512x512.size z) ![512, 0] S4096x512.size w = padded z w := by
  unfold padded
  funext y
  by_cases h : ∀ a, (![512, 0] : Fin 2 → ℕ) a ≤ (y a).val ∧ (y a).val < (![512, 0] : Fin 2 → ℕ) a + S4096x512.size a
  · exact (put_in (s := S4608x512) _ _ _ _ y h).trans (put_in (s := S4608x512) _ _ _ _ y h).symm
  · have h0 : ∀ a, (![0, 0] : Fin 2 → ℕ) a ≤ (y a).val ∧ (y a).val < (![0, 0] : Fin 2 → ℕ) a + S512x512.size a := by
      have y1 : (y 1).val < 512 := (y 1).isLt
      have y0 : (y 0).val < 4608 := (y 0).isLt
      have hy : (y 0).val < 512 := by
        by_contra hc
        refine h fun a => ?_
        fin_cases a
        · exact ⟨by show 512 ≤ (y 0).val; omega, by show (y 0).val < 512 + 4096; omega⟩
        · exact ⟨Nat.zero_le _, by show (y 1).val < 0 + 512; omega⟩
      intro a; fin_cases a
      · exact ⟨Nat.zero_le _, by show (y 0).val < 0 + 512; omega⟩
      · exact ⟨Nat.zero_le _, by show (y 1).val < 0 + 512; omega⟩
    exact ((put_out (s := S4608x512) _ _ _ _ y h).trans (put_in (s := S4608x512) _ _ _ _ y h0)).trans
      ((put_out (s := S4608x512) _ _ _ _ y h).trans (put_in (s := S4608x512) _ _ _ _ y h0)).symm

/-- The padded keys, and the padded values, that the first point leaves in its buffers. -/
def kp0 (x0 : Vec F S4096x1536 .bf16) : Vec F S4608x512 .bf16 := padded k0_pay4 (cols x0 512 inb_S4096x1536_S4096x512_0_512)
def vp0 (x0 : Vec F S4096x1536 .bf16) : Vec F S4608x512 .bf16 := padded k0_pay5 (cols x0 1024 inb_S4096x1536_S4096x512_0_1024)

/-- The zero accumulators the first point starts from. -/
def ka0 : Vec F S4608x512 .f32 := k0_pay7 k0_pay6
def va0 : Vec F S4608x512 .f32 := k0_pay8
def acc0 : Vec F S8x128x640 .f32 := k0_pay9

/-! ## The kernel's state before each point -/

section
variable (x : Vec F S4096x1536 .bf16) (Q O : (n : ℕ) → n < 32 → Vec F S128x512 .bf16) (P : (n : ℕ) → n < 32 → Vec F S8x128x640 .bf16)

/-- The score gradients of point `n`. -/
def dsAt (n : ℕ) (h : n < 32) : FVec F S8x128x640 .bf16 := dsOf (slab (vp0 x) n h) (O n h) (P n h)

/-- The rows of dq of point `n`. -/
def dqAt (n : ℕ) (h : n < 32) : FVec F S128x512 .bf16 := dqOf (slab (kp0 x) n h) (dsAt x O P n h)

/-- The key accumulator before point `n`. -/
def kaAt : ℕ → Vec F S4608x512 .f32
  | 0 => ka0
  | n + 1 => if h : n < 32 then slabPut (kaAt n) n (dkOf (Q n h) (dsAt x O P n h) (slab (kaAt n) n h)) else kaAt n

/-- The value accumulator before point `n`. -/
def vaAt : ℕ → Vec F S4608x512 .f32
  | 0 => va0
  | n + 1 => if h : n < 32 then slabPut (vaAt n) n (dvOf (O n h) (P n h) (slab (vaAt n) n h)) else vaAt n

/-- The bias accumulator before point `n`. -/
def accAt : ℕ → Vec F S8x128x640 .f32
  | 0 => acc0
  | n + 1 => if h : n < 32 then dsAccOf (slab (vp0 x) n h) (O n h) (P n h) (accAt n) else accAt n

theorem kaAt_succ (n : ℕ) (h : n < 32) :
    kaAt x Q O P (n + 1) = slabPut (kaAt x Q O P n) n (dkOf (Q n h) (dsAt x O P n h) (slab (kaAt x Q O P n) n h)) := by
  rw [kaAt, dif_pos h]
theorem vaAt_succ (n : ℕ) (h : n < 32) :
    vaAt O P (n + 1) = slabPut (vaAt O P n) n (dvOf (O n h) (P n h) (slab (vaAt O P n) n h)) := by
  rw [vaAt, dif_pos h]
theorem accAt_succ (n : ℕ) (h : n < 32) :
    accAt x O P (n + 1) = dsAccOf (slab (vp0 x) n h) (O n h) (P n h) (accAt x O P n) := by
  rw [accAt, dif_pos h]

/-- What is copied out as dk and as dv. -/
def dkFin : Vec F S4096x512 .bf16 :=
  tailRows (castRows k0_pay2 (kp0 x) (kaAt x Q O P 32) (Scf.trips k0_t1_loop.lb k0_t1_loop.ub k0_t1_loop.st))
def dvFin : Vec F S4096x512 .bf16 :=
  tailRows (castRows k0_pay3 (vp0 x) (vaAt O P 32) (Scf.trips k0_t1_loop.lb k0_t1_loop.ub k0_t1_loop.st))

end

end Cert.Attn

end
-- ==== Proof.Body.lean ====
module

public import proofs.«01_k».proof.Proof.Gen.KernelIdeal.Frame
public import proofs.«01_k».proof.Proof.Gen.KernelIdeal.Loops
public import proofs.«01_k».proof.Proof.Values

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (Pipeline.UD sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦[M.view.set]{q} f

abbrev A0 : Memref sig .tc .hbm S4096x1536 .bf16 := Memref.whole main_arg0
abbrev DK : Memref sig .tc .hbm S4096x512 .bf16 := Memref.whole main_v85_1
abbrev DV : Memref sig .tc .hbm S4096x512 .bf16 := Memref.whole main_v85_2
abbrev KP : Memref sig .tc .vmem S4608x512 .bf16 := Memref.whole cc0_scratch0
abbrev VP : Memref sig .tc .vmem S4608x512 .bf16 := Memref.whole cc0_scratch1
abbrev KA : Memref sig .tc .vmem S4608x512 .f32 := Memref.whole cc0_scratch2
abbrev VA : Memref sig .tc .vmem S4608x512 .f32 := Memref.whole cc0_scratch3

/-- The closing loop's trip-by-trip account. -/
abbrev loopInv (c : Dev nD) (arg9 arg10 : Memref sig .tc .vmem S4608x512 .bf16) (arg11 arg12 : Memref sig .tc .vmem S4608x512 .f32)
    (X11 : Bf (F := F) c arg11) (X12 : Bf (F := F) c arg12) (G9 : Bf (F := F) c arg9) (G10 : Bf (F := F) c arg10) (k : ℕ) (_ : PUnit) : sProp 𝕄 :=
  iprop(pt c arg11 fullShare X11 ∗ pt c arg12 fullShare X12
    ∗ (∃ f, pt c arg9 fullShare f ∗ ⌜arg9.view.read (Elt F) f = castRows k0_pay2 (arg9.view.read (Elt F) G9) (arg11.view.read (Elt F) X11) k⌝)
    ∗ (∃ f, pt c arg10 fullShare f ∗ ⌜arg10.view.read (Elt F) f = castRows k0_pay3 (arg10.view.read (Elt F) G10) (arg12.view.read (Elt F) X12) k⌝))

set_option warn.classDefReducibility false in
@[sl_loop] def loop_t1 (c : Dev nD) (E : Set ℕ) (i : grid0.Coords) (arg1 : Memref sig .tc .vmem S128x512 .bf16) (harg1 : arg1.IsWhole) (arg2 : Memref sig .tc .hbm S4096x1536 .bf16) (harg2 : arg2.IsWhole) (arg3 : Memref sig .tc .vmem S128x512 .bf16) (harg3 : arg3.IsWhole) (arg4 : Memref sig .tc .vmem S8x128x640 .bf16) (harg4 : arg4.IsWhole) (arg5 : Memref sig .tc .vmem S128x512 .bf16) (harg5 : arg5.IsWhole) (arg6 : Memref sig .tc .hbm S4096x512 .bf16) (harg6 : arg6.IsWhole) (arg7 : Memref sig .tc .hbm S4096x512 .bf16) (harg7 : arg7.IsWhole) (arg8 : Memref sig .tc .vmem S8x128x640 .f32) (harg8 : arg8.IsWhole) (arg9 : Memref sig .tc .vmem S4608x512 .bf16) (harg9 : arg9.IsWhole) (arg10 : Memref sig .tc .vmem S4608x512 .bf16) (harg10 : arg10.IsWhole) (arg11 : Memref sig .tc .vmem S4608x512 .f32) (harg11 : arg11.IsWhole) (arg12 : Memref sig .tc .vmem S4608x512 .f32) (harg12 : arg12.IsWhole) (arg13 : DmaSems sig S2) (k0_h2 : k0_cond2 i = 1#1)
    (X11 : Bf (F := F) c arg11) (X12 : Bf (F := F) c arg12) (G9 : Bf (F := F) c arg9) (G10 : Bf (F := F) c arg10) :
    LoopInvTy_k0_t1 (F := F) Unit ℕ (Pipeline.UD sig nD τ) ℕ Variants.none c none E i arg1 harg1 arg2 harg2 arg3 harg3 arg4 harg4 arg5 harg5 arg6 harg6 arg7 harg7 arg8 harg8 arg9 harg9 arg10 harg10 arg11 harg11 arg12 harg12 arg13 k0_h2 where
  inv := loopInv c arg9 arg10 arg11 arg12 X11 X12 G9 G10
  step k acc := by
    have hk : k.val < 8 := Nat.lt_of_lt_of_le k.isLt k0_t1_abs.2.1
    unfold k0_t1_body
    iintro ⟨H11, H12, ⟨%f9, H9, %h9⟩, ⟨%f10, H10, %h10⟩⟩
    sl_exec
    sl_step
    isplitl [H11]; · iexact H11
    isplitl [H12]; · iexact H12
    isplitl [H9]
    · iexists _; isplitl [H9]; · iexact H9
      ipureintro
      rw [View.read_writes_cons_put _ _ _ _ _ (k0_off2_eq k), View.writes_nil, h9, View.readAt_unit _ _ _ (k0_off2_eq k) (rows_inb k.val hk), castRows, dif_pos hk]
    · iexists _; isplitl [H10]; · iexact H10
      ipureintro
      rw [View.read_writes_cons_put _ _ _ _ _ (k0_off2_eq k), View.writes_nil, h10, View.readAt_unit _ _ _ (k0_off2_eq k) (rows_inb k.val hk), castRows, dif_pos hk]

theorem pt_lt (i : grid0.Coords) : (i 0).val < 32 := (i 0).isLt

/-- The printed first-point test. -/
abbrev cond1 (i : grid0.Coords) : BitVec 1 :=
  Scalar.cmpi .ne (Scalar.extui (Scalar.cmpi .eq (BitVec.ofNat 32 (i 0).val) 0#32) : BitVec 32) 0#32

section
variable (c : Dev nD) (i : grid0.Coords)
    (arg1 : Memref sig .tc .vmem S128x512 .bf16) (harg1 : arg1.IsWhole)
    (arg3 : Memref sig .tc .vmem S128x512 .bf16) (harg3 : arg3.IsWhole)
    (arg4 : Memref sig .tc .vmem S8x128x640 .bf16) (harg4 : arg4.IsWhole)
    (arg5 : Memref sig .tc .vmem S128x512 .bf16) (harg5 : arg5.IsWhole)
    (arg8 : Memref sig .tc .vmem S8x128x640 .f32) (harg8 : arg8.IsWhole)

/-- The body on the operands the pipeline passes. -/
abbrev bodyOn : Prog (TpuEff nD τ sig (Elt F) Λ₀ .tc) PUnit :=
  cc0_attn_bwd i arg1 harg1 A0 (Memref.isWhole_whole _) arg3 harg3 arg4 harg4 arg5 harg5 DK (Memref.isWhole_whole _) DV (Memref.isWhole_whole _)
          arg8 harg8 KP (Memref.isWhole_whole _) VP (Memref.isWhole_whole _) KA (Memref.isWhole_whole _) VA (Memref.isWhole_whole _) cc0_scratch4

/-- A slab's load reads the slab of what the buffer reads, -/
theorem slab_read {κ : Kind} {sp : Space} {e : EltTy} (v : View sig κ sp S4608x512 e) (f : v.ty.Contents (Elt F))
    (inb : ∀ a, k0_off1 i a + S640x512.size a ≤ S4608x512.size a) :
    v.readAt (Elt F) (Rect.unit (s := S4608x512) (k0_off1 i) S640x512.size inb).toLoadRect f = slab (v.read (Elt F) f) (i 0).val (pt_lt i) :=
  View.readAt_unit v f inb (k0_off1_eq i) (slab_inb _ (pt_lt i))

/-- and after the slab's store the buffer reads the slab replaced. -/
theorem slab_write {κ : Kind} {sp : Space} {e : EltTy} (v : View sig κ sp S4608x512 e) (f : v.ty.Contents (Elt F))
    (inb : ∀ a, k0_off1 i a + S640x512.size a ≤ S4608x512.size a) (w : Vec F S640x512 e) (L : List (View.Piece (Elt F) S4608x512 e)) :
    v.read (Elt F) (v.writes (Elt F) f (⟨Rect.unit (s := S4608x512) (k0_off1 i) S640x512.size inb, w⟩ :: L))
      = slabPut (v.read (Elt F) (v.writes (Elt F) f L)) (i 0).val w :=
  View.read_writes_cons_put v f inb w L (k0_off1_eq i)

/-- After the zeros' store and the copy in, a padded buffer reads the rows behind zeros, whatever it held. -/
theorem padded_read {κ : Kind} {sp : Space} (v : View sig κ sp S4608x512 .bf16) (f : v.ty.Contents (Elt F))
    (z : Vec F S512x512 .bf16) (w : Vec F S4096x512 .bf16) :
    v.read (Elt F) (v.writes (Elt F) f [⟨Rect.unit (s := S4608x512) ![512, 0] S4096x512.size inb_S4608x512_S4096x512_512_0, w⟩,
        ⟨Rect.unit (s := S4608x512) ![0, 0] S512x512.size inb_S4608x512_S512x512_0_0, z⟩]) = padded z w := by
  rw [View.read_writes_cons_put _ _ _ _ _ rfl, View.read_writes_cons_put _ _ _ _ _ rfl, View.writes_nil, put_padded]

end

end Cert.Attn

end
-- ==== Proof.RunFirst.lean ====
module

public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (Pipeline.UD sig nD τ) ℕ

section
variable (c : Dev nD) (i : grid0.Coords)
    (arg1 : Memref sig .tc .vmem S128x512 .bf16) (harg1 : arg1.IsWhole)
    (arg3 : Memref sig .tc .vmem S128x512 .bf16) (harg3 : arg3.IsWhole)
    (arg4 : Memref sig .tc .vmem S8x128x640 .bf16) (harg4 : arg4.IsWhole)
    (arg5 : Memref sig .tc .vmem S128x512 .bf16) (harg5 : arg5.IsWhole)
    (arg8 : Memref sig .tc .vmem S8x128x640 .f32) (harg8 : arg8.IsWhole)

set_option maxHeartbeats 1000000 in
/-- The first point: the padded buffers filled, the accumulators zeroed, then as between. -/
theorem run_first (n : ℕ) (hn : (i 0).val = n) (hn32 : n < 32) (h1 : cond1 i = 1#1) (h2 : ¬ k0_cond2 i = 1#1) (q : PosShare TreeShare)
    (x0 : Vec F S4096x1536 .bf16)
    (qb ob : Vec F S128x512 .bf16) (pb : Vec F S8x128x640 .bf16)
    (W : Waits sig Unit) (K : PUnit → sProp 𝕄) :
    iprop(owns (c : Thread nD τ) arg1 fullShare qb ∗ owns (c : Thread nD τ) arg3 fullShare ob ∗ owns (c : Thread nD τ) arg4 fullShare pb
      ∗ (∃ d, owns (c : Thread nD τ) arg5 fullShare d) ∗ (∃ d, owns (c : Thread nD τ) arg8 fullShare d)
      ∗ (∃ d, owns (c : Thread nD τ) KP fullShare d) ∗ (∃ d, owns (c : Thread nD τ) VP fullShare d)
      ∗ (∃ d, owns (c : Thread nD τ) KA fullShare d) ∗ (∃ d, owns (c : Thread nD τ) VA fullShare d)
      ∗ owns (c : Thread nD τ) A0 q x0
      ∗ semVal ((c : Thread nD τ), SemLoc.dma 9) 0 ∗ semVal ((c : Thread nD τ), SemLoc.dma 10) 0
      ∗ owes (c : Thread nD τ) 0 W
      ∗ (iprop(owns (c : Thread nD τ) arg1 fullShare qb ∗ owns (c : Thread nD τ) arg3 fullShare ob ∗ owns (c : Thread nD τ) arg4 fullShare pb
      ∗ owns (c : Thread nD τ) arg5 fullShare (dqOf (slab (kp0 x0) n hn32) (dsOf (slab (vp0 x0) n hn32) ob pb))
      ∗ owns (c : Thread nD τ) arg8 fullShare (dsAccOf (slab (vp0 x0) n hn32) ob pb acc0)
      ∗ owns (c : Thread nD τ) KP fullShare (kp0 x0) ∗ owns (c : Thread nD τ) VP fullShare (vp0 x0)
      ∗ owns (c : Thread nD τ) KA fullShare (slabPut ka0 n (dkOf qb (dsOf (slab (vp0 x0) n hn32) ob pb) (slab ka0 n hn32)))
      ∗ owns (c : Thread nD τ) VA fullShare (slabPut va0 n (dvOf ob pb (slab va0 n hn32)))
      ∗ owns (c : Thread nD τ) A0 q x0
      ∗ semVal ((c : Thread nD τ), SemLoc.dma 9) 0 ∗ semVal ((c : Thread nD τ), SemLoc.dma 10) 0
      ∗ (∃ W', owes (c : Thread nD τ) 0 W')) -∗ K ⟨⟩))
    ⊢ wp frame (wpE (defs₀ (F := F)) Variants.none c none) Set.univ (bodyOn i arg1 harg1 arg3 harg3 arg4 harg4 arg5 harg5 arg8 harg8) K := by
  subst hn
  simp only [bodyOn, cc0_attn_bwd_eq_skeleton]; unfold cc0_attn_bwd_skel
  unfold owns
  iintro ⟨⟨%f1, %e1, H1⟩, ⟨%f3, %e3, H3⟩, ⟨%f4, %e4, H4⟩, ⟨%d5, %f5, -, H5⟩, ⟨%d8, %f8, -, H8⟩, ⟨%dkp, %fkp, -, Hkp⟩, ⟨%dvp, %fvp, -, Hvp⟩,
    ⟨%dka, %fka, -, Hka⟩, ⟨%dva, %fva, -, Hva⟩, ⟨%f0, %e0, H0⟩, Hs0, Hs1, HO, Hk⟩
  subst e1 e3 e4 e0
  sl_exec
  sl_step
  iapply Hk
  isplitl [H1]
  · iexists _; isplitr; swap; · iexact H1
    ipureintro; rfl
  isplitl [H3]
  · iexists _; isplitr; swap; · iexact H3
    ipureintro; rfl
  isplitl [H4]
  · iexists _; isplitr; swap; · iexact H4
    ipureintro; rfl
  have eK : kp0 (A0.view.read (Elt F) f0) = KP.view.read (Elt F) (KP.view.writes (Elt F) KP.view.junk [⟨Rect.unit (s := S4608x512) ![512, 0] S4096x512.size inb_S4608x512_S4096x512_512_0, cols (A0.view.read (Elt F) f0) 512 inb_S4096x1536_S4096x512_0_512⟩, ⟨Rect.unit (s := S4608x512) ![0, 0] S512x512.size inb_S4608x512_S512x512_0_0, k0_pay4⟩]) := (padded_read _ _ _ _).symm
  have eV : vp0 (A0.view.read (Elt F) f0) = VP.view.read (Elt F) (VP.view.writes (Elt F) VP.view.junk [⟨Rect.unit (s := S4608x512) ![512, 0] S4096x512.size inb_S4608x512_S4096x512_512_0, cols (A0.view.read (Elt F) f0) 1024 inb_S4096x1536_S4096x512_0_1024⟩, ⟨Rect.unit (s := S4608x512) ![0, 0] S512x512.size inb_S4608x512_S512x512_0_0, k0_pay5⟩]) := (padded_read _ _ _ _).symm
  have eKA : (ka0 : Vec F S4608x512 .f32) = KA.view.read (Elt F) (KA.view.writes (Elt F) KA.view.junk [⟨Rect.unit (s := S4608x512) ![0, 0] S4608x512.size inb_S4608x512_S4608x512_0_0, k0_pay7 k0_pay6⟩]) := (View.read_writes_full _ _ _ _ _).symm
  have eVA : (va0 : Vec F S4608x512 .f32) = VA.view.read (Elt F) (VA.view.writes (Elt F) VA.view.junk [⟨Rect.unit (s := S4608x512) ![0, 0] S4608x512.size inb_S4608x512_S4608x512_0_0, k0_pay8⟩]) := (View.read_writes_full _ _ _ _ _).symm
  isplitl [H5]
  · iexists _; isplitr; swap; · iexact H5
    ipureintro
    rw [eK, eV, ← slab_read i KP.view _ (k0_off1_inb i), ← slab_read i VP.view _ (k0_off1_inb i), ← View.readAt_full arg3.view f3 inb_S128x512_S128x512_0_0, ← View.readAt_full arg4.view f4 inb_S8x128x640_S8x128x640_0_0_0]
    refine (View.read_writes_full _ _ _ _ _).trans ?_
    rfl
  isplitl [H8]
  · iexists _; isplitr; swap; · iexact H8
    ipureintro
    rw [eV, ← slab_read i VP.view _ (k0_off1_inb i), ← View.readAt_full arg3.view f3 inb_S128x512_S128x512_0_0, ← View.readAt_full arg4.view f4 inb_S8x128x640_S8x128x640_0_0_0]
    refine (View.read_writes_full _ _ _ _ _).trans ?_
    rw [show run_first.sl.v57 (F := F) c arg8 = acc0 from by
      unfold run_first.sl.v57
      first | exact View.readAt_writes_full _ _ _ _ _ _ | exact View.readCov_full _ _ _ _ _ _]
    rfl
  isplitl [Hkp]
  · iexists _; isplitr; swap; · iexact Hkp
    ipureintro
    rw [eK]
    rfl
  isplitl [Hvp]
  · iexists _; isplitr; swap; · iexact Hvp
    ipureintro
    rw [eV]
    rfl
  isplitl [Hka]
  · iexists _; isplitr; swap; · iexact Hka
    ipureintro
    rw [eV, eKA, ← slab_read i KA.view _ (k0_off1_inb i), ← slab_read i VP.view _ (k0_off1_inb i), ← View.readAt_full arg1.view f1 inb_S128x512_S128x512_0_0, ← View.readAt_full arg3.view f3 inb_S128x512_S128x512_0_0, ← View.readAt_full arg4.view f4 inb_S8x128x640_S8x128x640_0_0_0, slab_write]
    skip
    rfl
  isplitl [Hva]
  · iexists _; isplitr; swap; · iexact Hva
    ipureintro
    rw [eVA, ← slab_read i VA.view _ (k0_off1_inb i), ← View.readAt_full arg3.view f3 inb_S128x512_S128x512_0_0, ← View.readAt_full arg4.view f4 inb_S8x128x640_S8x128x640_0_0_0, slab_write]
    skip
    rfl
  isplitl [H0]
  · iexists _; isplitr; swap; · iexact H0
    ipureintro; rfl
  isplitl [Hs0]; · iexact Hs0
  isplitl [Hs1]; · iexact Hs1
  iexists _; iexact HO

end

end Cert.Attn

end
-- ==== Proof.RunMid.lean ====
module

public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (Pipeline.UD sig nD τ) ℕ

section
variable (c : Dev nD) (i : grid0.Coords)
    (arg1 : Memref sig .tc .vmem S128x512 .bf16) (harg1 : arg1.IsWhole)
    (arg3 : Memref sig .tc .vmem S128x512 .bf16) (harg3 : arg3.IsWhole)
    (arg4 : Memref sig .tc .vmem S8x128x640 .bf16) (harg4 : arg4.IsWhole)
    (arg5 : Memref sig .tc .vmem S128x512 .bf16) (harg5 : arg5.IsWhole)
    (arg8 : Memref sig .tc .vmem S8x128x640 .f32) (harg8 : arg8.IsWhole)

set_option maxHeartbeats 1000000 in
/-- A point between the first and the last. -/
theorem run_mid (n : ℕ) (hn : (i 0).val = n) (hn32 : n < 32) (h1 : ¬ cond1 i = 1#1) (h2 : ¬ k0_cond2 i = 1#1)
    (qb ob : Vec F S128x512 .bf16) (pb : Vec F S8x128x640 .bf16) (acc : Vec F S8x128x640 .f32)
    (kp vp : Vec F S4608x512 .bf16) (ka va : Vec F S4608x512 .f32)
    (K : PUnit → sProp 𝕄) :
    iprop(owns (c : Thread nD τ) arg1 fullShare qb ∗ owns (c : Thread nD τ) arg3 fullShare ob ∗ owns (c : Thread nD τ) arg4 fullShare pb
      ∗ (∃ d, owns (c : Thread nD τ) arg5 fullShare d) ∗ owns (c : Thread nD τ) arg8 fullShare acc
      ∗ owns (c : Thread nD τ) KP fullShare kp ∗ owns (c : Thread nD τ) VP fullShare vp
      ∗ owns (c : Thread nD τ) KA fullShare ka ∗ owns (c : Thread nD τ) VA fullShare va
      ∗ (iprop(owns (c : Thread nD τ) arg1 fullShare qb ∗ owns (c : Thread nD τ) arg3 fullShare ob ∗ owns (c : Thread nD τ) arg4 fullShare pb
      ∗ owns (c : Thread nD τ) arg5 fullShare (dqOf (slab kp n hn32) (dsOf (slab vp n hn32) ob pb))
      ∗ owns (c : Thread nD τ) arg8 fullShare (dsAccOf (slab vp n hn32) ob pb acc)
      ∗ owns (c : Thread nD τ) KP fullShare kp ∗ owns (c : Thread nD τ) VP fullShare vp
      ∗ owns (c : Thread nD τ) KA fullShare (slabPut ka n (dkOf qb (dsOf (slab vp n hn32) ob pb) (slab ka n hn32)))
      ∗ owns (c : Thread nD τ) VA fullShare (slabPut va n (dvOf ob pb (slab va n hn32)))) -∗ K ⟨⟩))
    ⊢ wp frame (wpE (defs₀ (F := F)) Variants.none c none) Set.univ (bodyOn i arg1 harg1 arg3 harg3 arg4 harg4 arg5 harg5 arg8 harg8) K := by
  subst hn
  simp only [bodyOn, cc0_attn_bwd_eq_skeleton]; unfold cc0_attn_bwd_skel
  unfold owns
  iintro ⟨⟨%f1, %e1, H1⟩, ⟨%f3, %e3, H3⟩, ⟨%f4, %e4, H4⟩, ⟨%d5, %f5, -, H5⟩, ⟨%f8, %e8, H8⟩, ⟨%fkp, %ekp, Hkp⟩, ⟨%fvp, %evp, Hvp⟩,
    ⟨%fka, %eka, Hka⟩, ⟨%fva, %eva, Hva⟩, Hk⟩
  subst e1 e3 e4 e8 ekp evp eka eva
  sl_exec
  sl_step
  iapply Hk
  isplitl [H1]; · iexists _; isplitr; · ipureintro; rfl
                  iexact H1
  isplitl [H3]; · iexists _; isplitr; · ipureintro; rfl
                  iexact H3
  isplitl [H4]; · iexists _; isplitr; · ipureintro; rfl
                  iexact H4
  isplitl [H5]
  · iexists _; isplitr; swap; · iexact H5
    ipureintro
    rw [← slab_read i KP.view fkp (k0_off1_inb i), ← slab_read i VP.view fvp (k0_off1_inb i), ← View.readAt_full arg3.view f3 inb_S128x512_S128x512_0_0, ← View.readAt_full arg4.view f4 inb_S8x128x640_S8x128x640_0_0_0]
    refine (View.read_writes_full _ _ _ _ _).trans ?_
    rfl
  isplitl [H8]
  · iexists _; isplitr; swap; · iexact H8
    ipureintro
    rw [← slab_read i VP.view fvp (k0_off1_inb i), ← View.readAt_full arg3.view f3 inb_S128x512_S128x512_0_0, ← View.readAt_full arg4.view f4 inb_S8x128x640_S8x128x640_0_0_0, ← View.readAt_full arg8.view f8 inb_S8x128x640_S8x128x640_0_0_0]
    refine (View.read_writes_full _ _ _ _ _).trans ?_
    rfl
  isplitl [Hkp]; · iexists _; isplitr; · ipureintro; rfl
                   iexact Hkp
  isplitl [Hvp]; · iexists _; isplitr; · ipureintro; rfl
                   iexact Hvp
  isplitl [Hka]
  · iexists _; isplitr; swap; · iexact Hka
    ipureintro
    rw [← slab_read i KA.view fka (k0_off1_inb i), ← View.readAt_full arg1.view f1 inb_S128x512_S128x512_0_0, ← slab_read i VP.view fvp (k0_off1_inb i), ← View.readAt_full arg3.view f3 inb_S128x512_S128x512_0_0, ← View.readAt_full arg4.view f4 inb_S8x128x640_S8x128x640_0_0_0, slab_write, View.writes_nil]
    rfl
  · iexists _; isplitr; swap; · iexact Hva
    ipureintro
    rw [← slab_read i VA.view fva (k0_off1_inb i), ← View.readAt_full arg3.view f3 inb_S128x512_S128x512_0_0, ← View.readAt_full arg4.view f4 inb_S8x128x640_S8x128x640_0_0_0, slab_write, View.writes_nil]
    rfl

end

end Cert.Attn

end
-- ==== Proof.RunLast.lean ====
module

public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (Pipeline.UD sig nD τ) ℕ

section
variable (c : Dev nD) (i : grid0.Coords)
    (arg1 : Memref sig .tc .vmem S128x512 .bf16) (harg1 : arg1.IsWhole)
    (arg3 : Memref sig .tc .vmem S128x512 .bf16) (harg3 : arg3.IsWhole)
    (arg4 : Memref sig .tc .vmem S8x128x640 .bf16) (harg4 : arg4.IsWhole)
    (arg5 : Memref sig .tc .vmem S128x512 .bf16) (harg5 : arg5.IsWhole)
    (arg8 : Memref sig .tc .vmem S8x128x640 .f32) (harg8 : arg8.IsWhole)

set_option maxHeartbeats 1000000 in
/-- The last point: as between, then the accumulators rounded into the padded buffers and copied out. -/
theorem run_last (n : ℕ) (hn : (i 0).val = n) (hn32 : n < 32) (h1 : ¬ cond1 i = 1#1) (h2 : k0_cond2 i = 1#1)
    (qb ob : Vec F S128x512 .bf16) (pb : Vec F S8x128x640 .bf16) (acc : Vec F S8x128x640 .f32)
    (kp vp : Vec F S4608x512 .bf16) (ka va : Vec F S4608x512 .f32)
    (W : Waits sig Unit) (K : PUnit → sProp 𝕄) :
    iprop(owns (c : Thread nD τ) arg1 fullShare qb ∗ owns (c : Thread nD τ) arg3 fullShare ob ∗ owns (c : Thread nD τ) arg4 fullShare pb
      ∗ (∃ d, owns (c : Thread nD τ) arg5 fullShare d) ∗ owns (c : Thread nD τ) arg8 fullShare acc
      ∗ owns (c : Thread nD τ) KP fullShare kp ∗ owns (c : Thread nD τ) VP fullShare vp
      ∗ owns (c : Thread nD τ) KA fullShare ka ∗ owns (c : Thread nD τ) VA fullShare va
      ∗ (∃ d, owns (c : Thread nD τ) DK fullShare d) ∗ (∃ d, owns (c : Thread nD τ) DV fullShare d)
      ∗ semVal ((c : Thread nD τ), SemLoc.dma 9) 0 ∗ semVal ((c : Thread nD τ), SemLoc.dma 10) 0
      ∗ owes (c : Thread nD τ) 0 W
      ∗ (iprop(owns (c : Thread nD τ) arg1 fullShare qb ∗ owns (c : Thread nD τ) arg3 fullShare ob ∗ owns (c : Thread nD τ) arg4 fullShare pb
      ∗ owns (c : Thread nD τ) arg5 fullShare (dqOf (slab kp n hn32) (dsOf (slab vp n hn32) ob pb))
      ∗ owns (c : Thread nD τ) arg8 fullShare (dsAccOf (slab vp n hn32) ob pb acc)
      ∗ (∃ d, owns (c : Thread nD τ) KP fullShare d) ∗ (∃ d, owns (c : Thread nD τ) VP fullShare d)
      ∗ (∃ d, owns (c : Thread nD τ) KA fullShare d) ∗ (∃ d, owns (c : Thread nD τ) VA fullShare d)
      ∗ owns (c : Thread nD τ) DK fullShare (tailRows (castRows k0_pay2 kp (slabPut ka n (dkOf qb (dsOf (slab vp n hn32) ob pb) (slab ka n hn32))) (Scf.trips k0_t1_loop.lb k0_t1_loop.ub k0_t1_loop.st)))
      ∗ owns (c : Thread nD τ) DV fullShare (tailRows (castRows k0_pay3 vp (slabPut va n (dvOf ob pb (slab va n hn32))) (Scf.trips k0_t1_loop.lb k0_t1_loop.ub k0_t1_loop.st)))
      ∗ semVal ((c : Thread nD τ), SemLoc.dma 9) 0 ∗ semVal ((c : Thread nD τ), SemLoc.dma 10) 0
      ∗ (∃ W', owes (c : Thread nD τ) 0 W')) -∗ K ⟨⟩))
    ⊢ wp frame (wpE (defs₀ (F := F)) Variants.none c none) Set.univ (bodyOn i arg1 harg1 arg3 harg3 arg4 harg4 arg5 harg5 arg8 harg8) K := by
  subst hn
  simp only [bodyOn, cc0_attn_bwd_eq_skeleton]; unfold cc0_attn_bwd_skel
  unfold owns
  iintro ⟨⟨%f1, %e1, H1⟩, ⟨%f3, %e3, H3⟩, ⟨%f4, %e4, H4⟩, ⟨%d5, %f5, -, H5⟩, ⟨%f8, %e8, H8⟩, ⟨%fkp, %ekp, Hkp⟩, ⟨%fvp, %evp, Hvp⟩,
    ⟨%fka, %eka, Hka⟩, ⟨%fva, %eva, Hva⟩, ⟨%ddk, %fdk, -, Hdk⟩, ⟨%ddv, %fdv, -, Hdv⟩, Hs0, Hs1, HO, Hk⟩
  subst e1 e3 e4 e8 ekp evp eka eva
  sl_exec
  sl_step
  iapply Hk
  isplitl [H1]
  · iexists _; isplitr; swap; · iexact H1
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro
    rw [← slab_read i KP.view fkp (k0_off1_inb i), ← slab_read i VP.view fvp (k0_off1_inb i), ← View.readAt_full arg3.view f3 inb_S128x512_S128x512_0_0, ← View.readAt_full arg4.view f4 inb_S8x128x640_S8x128x640_0_0_0]
    refine (View.read_writes_full _ _ _ _ _).trans ?_
    rfl
  isplitl [H8]
  · iexists _; isplitr; swap; · iexact H8
    ipureintro
    rw [← slab_read i VP.view fvp (k0_off1_inb i), ← View.readAt_full arg3.view f3 inb_S128x512_S128x512_0_0, ← View.readAt_full arg4.view f4 inb_S8x128x640_S8x128x640_0_0_0, ← View.readAt_full arg8.view f8 inb_S8x128x640_S8x128x640_0_0_0]
    refine (View.read_writes_full _ _ _ _ _).trans ?_
    rfl
  isplitl [Hkp]
  · iexists _, _; isplitr; swap; · iexact Hkp
    ipureintro; rfl
  isplitl [Hvp]
  · iexists _, _; isplitr; swap; · iexact Hvp
    ipureintro; rfl
  isplitl [Hka]
  · iexists _, _; isplitr; swap; · iexact Hka
    ipureintro; rfl
  isplitl [Hva]
  · iexists _, _; isplitr; swap; · iexact Hva
    ipureintro; rfl
  isplitl [Hdk]
  · iexists _; isplitr; swap; · iexact Hdk
    ipureintro
    refine (View.read_writes_full (off := fun _ => 0) _ _ (fun a => Nat.le_of_eq (Nat.zero_add _)) _ _).trans ?_
    show window (s := S4608x512) (View.read (Elt F) KP.view fL0) ![512, 0] S4096x512.size inb_S4608x512_S4096x512_512_0 = _
    rw [hL3, ← slab_read i KA.view fka (k0_off1_inb i), ← View.readAt_full arg1.view f1 inb_S128x512_S128x512_0_0, ← slab_read i VP.view fvp (k0_off1_inb i), ← View.readAt_full arg3.view f3 inb_S128x512_S128x512_0_0, ← View.readAt_full arg4.view f4 inb_S8x128x640_S8x128x640_0_0_0, slab_write, View.writes_nil]
    rfl
  isplitl [Hdv]
  · iexists _; isplitr; swap; · iexact Hdv
    ipureintro
    refine (View.read_writes_full (off := fun _ => 0) _ _ (fun a => Nat.le_of_eq (Nat.zero_add _)) _ _).trans ?_
    show window (s := S4608x512) (View.read (Elt F) VP.view fL1) ![512, 0] S4096x512.size inb_S4608x512_S4096x512_512_0 = _
    rw [hL5, ← slab_read i VA.view fva (k0_off1_inb i), ← View.readAt_full arg3.view f3 inb_S128x512_S128x512_0_0, ← View.readAt_full arg4.view f4 inb_S8x128x640_S8x128x640_0_0_0, slab_write, View.writes_nil]
    rfl
  isplitl [Hs0]; · iexact Hs0
  isplitl [Hs1]; · iexact Hs1
  iexists _; iexact HO

end

end Cert.Attn

end
-- ==== Proof.Launch.lean ====
/-
  The attention gradient kernel's launch. @main is nine straight lines of host operations (the probabilities, recomputed
  from the projected rows) and one kernel region of 32 points. The kernel reads the projected rows twice: their first 512
  columns through a window, and the keys and values by its own two copies at the first point; so the array's full share
  is split, one half with the window, the other with the invariant. The invariant carries the padded keys and values and
  the two accumulators from point to point, each at named contents, and the last point leaves dk and dv.
-/
module

public import proofs.«01_k».proof.Proof.RunFirst
public import proofs.«01_k».proof.Proof.RunMid
public import proofs.«01_k».proof.Proof.RunLast
public import proofs.«01_k».proof.Proof.Gen.KernelIdeal.Launch
public import Idealize.ShloMosaic.Lib.Pipeline.Regions

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region reads -/

theorem N32 : cfg0.N = 32 := N_0

/-- The buffers as the region finds them. -/
def VV (c : Dev nD) (b : Ref sig .tc) : Buf (Elt F) ((c : Thread nD τ).loc b) := V m c b

/-- The projected rows, and the blocks of each point: queries, output gradient, probabilities. -/
def X0 (c : Dev nD) : Vec F S4096x1536 .bf16 := VV m c main_arg0
def Qb (c : Dev nD) (n : ℕ) (h : n < 32) : Vec F S128x512 .bf16 := iblk m c 0 ⟨n, by rw [N32]; exact h⟩
def Ob (c : Dev nD) (n : ℕ) (h : n < 32) : Vec F S128x512 .bf16 := iblk m c 1 ⟨n, by rw [N32]; exact h⟩
def Pb (c : Dev nD) (n : ℕ) (h : n < 32) : Vec F S8x128x640 .bf16 := iblk m c 2 ⟨n, by rw [N32]; exact h⟩

theorem t_lt (t : Fin cfg0.N) : t.val < 32 := N32 ▸ t.isLt

theorem coord_val : ∀ t : Fin cfg0.N, ((grid0.coords t) 0).val = t.val := by decide +kernel
theorem cond1_iff : ∀ t : Fin cfg0.N, cond1 (grid0.coords t) = 1#1 ↔ t.val = 0 := by decide +kernel
theorem cond2_iff : ∀ t : Fin cfg0.N, k0_cond2 (grid0.coords t) = 1#1 ↔ t.val = 31 := by decide +kernel

/-! ## The proof data -/

abbrev sh : PosShare TreeShare := fullShare.right

/-- What every point keeps: half of the projected rows, and the two semaphores at zero. -/
def keep (c : Dev nD) : sProp 𝕄 :=
  iprop(owns (c : Thread nD τ) A0 sh (X0 m c) ∗ semVal ((c : Thread nD τ), SemLoc.dma 9) 0 ∗ semVal ((c : Thread nD τ), SemLoc.dma 10) 0)

/-- The scratch at anything, -/
def scrAny (c : Dev nD) : sProp 𝕄 :=
  iprop((∃ d, owns (c : Thread nD τ) KP fullShare d) ∗ (∃ d, owns (c : Thread nD τ) VP fullShare d)
      ∗ (∃ d, owns (c : Thread nD τ) KA fullShare d) ∗ (∃ d, owns (c : Thread nD τ) VA fullShare d))

/-- and before point `n` between the first and the last. -/
def scrAt (c : Dev nD) (n : ℕ) : sProp 𝕄 :=
  iprop(owns (c : Thread nD τ) KP fullShare (kp0 (X0 m c)) ∗ owns (c : Thread nD τ) VP fullShare (vp0 (X0 m c))
      ∗ owns (c : Thread nD τ) KA fullShare (kaAt (X0 m c) (Qb m c) (Ob m c) (Pb m c) n)
      ∗ owns (c : Thread nD τ) VA fullShare (vaAt (Ob m c) (Pb m c) n))

/-- The two results the kernel copies out itself, at anything. -/
def outAny (c : Dev nD) : sProp 𝕄 :=
  iprop((∃ d, owns (c : Thread nD τ) DK fullShare d) ∗ (∃ d, owns (c : Thread nD τ) DV fullShare d))

/-- The two results at their values. -/
def outFin (c : Dev nD) : sProp 𝕄 :=
  iprop(owns (c : Thread nD τ) DK fullShare (dkFin (X0 m c) (Qb m c) (Ob m c) (Pb m c))
      ∗ owns (c : Thread nD τ) DV fullShare (dvFin (X0 m c) (Ob m c) (Pb m c)))

/-- The invariant before point `n`. -/
def Phi (c : Dev nD) (n : ℕ) : sProp 𝕄 :=
  if n = 0 then iprop(keep m c ∗ scrAny c ∗ outAny c)
  else if n < 32 then iprop(keep m c ∗ scrAt m c n ∗ outAny c)
  else iprop(keep m c ∗ scrAny c ∗ outFin m c)

theorem Phi_zero (c : Dev nD) : Phi m c 0 = iprop(keep m c ∗ scrAny c ∗ outAny c) := if_pos rfl
theorem Phi_mid (c : Dev nD) (n : ℕ) (h0 : n ≠ 0) (h : n < 32) : Phi m c n = iprop(keep m c ∗ scrAt m c n ∗ outAny c) :=
  (if_neg h0).trans (if_pos h)
theorem Phi_end (c : Dev nD) : Phi m c 32 = iprop(keep m c ∗ scrAny c ∗ outFin m c) := (if_neg (by decide)).trans (if_neg (by decide))

/-- The proof data on core `c`. -/
def dats (_ : Fin 1) (c : Dev nD) : Dat τ (Elt F) Unit ℕ (Pipeline.UD sig nD τ) ℕ cfg0 c where
  A w := VV m c (Pipeline.arrRef spec0 w)
  after w t := match w with
    | ⟨0, _⟩ => iblk m c 0 t
    | ⟨1, _⟩ => iblk m c 1 t
    | ⟨2, _⟩ => iblk m c 2 t
    | ⟨3, _⟩ => dqAt (X0 m c) (Ob m c) (Pb m c) t.val (t_lt t)
    | ⟨4, _⟩ => accAt (X0 m c) (Ob m c) (Pb m c) (t.val + 1)
    | ⟨_ + 5, h⟩ => absurd h (Nat.not_lt.2 (Nat.le_add_left _ _))
  Φ t := Phi m c t.val
  q w := match w with
    | ⟨0, _⟩ => fullShare.left
    | _ => fullShare
  owed _ := 0

theorem A_eq (c : Dev nD) (w : Fin cfg0.W) : (dats m 0 c).A w = VV m c (Pipeline.arrRef spec0 w) := by
  dsimp only [dats]

abbrev 𝒱₀ : Variants := Variants.none

theorem after0 (c : Dev nD) (t : Fin cfg0.N) : (dats m 0 c).after 0 t = iblk m c 0 t := by dsimp only [dats]
theorem before0 (c : Dev nD) (t : Fin cfg0.N) (d) : (dats m 0 c).before 0 t d = Qb m c t.val (t_lt t) :=
  ((dats m 0 c).before_in_eq_fetched 0 rfl (fun _ => rfl) (fun _ _ _ => rfl) (fun t => by rw [after0]; unfold Dat.blockOf iblk; rw [A_eq, VV]; try rfl) t d).trans
    (by unfold Dat.fetched Dat.blockOf Qb iblk; rw [A_eq, VV]; try rfl)
theorem after1 (c : Dev nD) (t : Fin cfg0.N) : (dats m 0 c).after 1 t = iblk m c 1 t := by dsimp only [dats]
theorem before1 (c : Dev nD) (t : Fin cfg0.N) (d) : (dats m 0 c).before 1 t d = Ob m c t.val (t_lt t) :=
  ((dats m 0 c).before_in_eq_fetched 1 rfl (fun _ => rfl) (fun _ _ _ => rfl) (fun t => by rw [after1]; unfold Dat.blockOf iblk; rw [A_eq, VV]; try rfl) t d).trans
    (by unfold Dat.fetched Dat.blockOf Ob iblk; rw [A_eq, VV]; try rfl)
theorem after2 (c : Dev nD) (t : Fin cfg0.N) : (dats m 0 c).after 2 t = iblk m c 2 t := by dsimp only [dats]
theorem before2 (c : Dev nD) (t : Fin cfg0.N) (d) : (dats m 0 c).before 2 t d = Pb m c t.val (t_lt t) :=
  ((dats m 0 c).before_in_eq_fetched 2 rfl (fun _ => rfl) (fun _ _ _ => rfl) (fun t => by rw [after2]; unfold Dat.blockOf iblk; rw [A_eq, VV]; try rfl) t d).trans
    (by unfold Dat.fetched Dat.blockOf Pb iblk; rw [A_eq, VV]; try rfl)
theorem before4 (c : Dev nD) (t : Fin cfg0.N) (ht : t.val ≠ 0) (d) :
    (dats m 0 c).before 4 t d = accAt (X0 m c) (Ob m c) (Pb m c) t.val := by
  have hf : (cfg0.win 4).flush ⟨t.val - 1, Nat.lt_of_le_of_lt (Nat.sub_le _ _) t.isLt⟩ = false := by
    rw [← Bool.not_eq_true, flush0_4]
    have := t_lt t
    show ¬ (t.val - 1) % 32 = 31
    omega
  refine ((dats m 0 c).before_out_kept 4 rfl t ht hf (fun _ => rfl) (fun _ _ => rfl) d).trans ?_
  show accAt (X0 m c) (Ob m c) (Pb m c) (t.val - 1 + 1) = _
  rw [Nat.sub_add_cancel (Nat.pos_of_ne_zero ht)]

theorem after3 (c : Dev nD) (t : Fin cfg0.N) : (dats m 0 c).after 3 t = dqAt (X0 m c) (Ob m c) (Pb m c) t.val (t_lt t) := by dsimp only [dats]
theorem after4 (c : Dev nD) (t : Fin cfg0.N) : (dats m 0 c).after 4 t = accAt (X0 m c) (Ob m c) (Pb m c) (t.val + 1) := by dsimp only [dats]

/-! ## The body at a point -/

/-- What the body leaves at point `t`. -/
abbrev Post (c : Dev nD) (t : Fin cfg0.N) : sProp 𝕄 :=
  iprop(Phi m c (t.val + 1) ∗ (∃ W' : Waits sig Unit, ⌜(↑W' : Set (SemLoc sig × Unit)) ⊆ (dats m 0 c).bound () t.succ⌝ ∗ owes (c : Thread nD τ) (0 : CellTallies nD τ sig Unit) W')
      ∗ owns (c : Thread nD τ) (st0_0 t) fullShare (Qb m c t.val (t_lt t)) ∗ owns (c : Thread nD τ) (st0_1 t) fullShare (Ob m c t.val (t_lt t))
      ∗ owns (c : Thread nD τ) (st0_2 t) fullShare (Pb m c t.val (t_lt t))
      ∗ owns (c : Thread nD τ) (st0_3 t) fullShare (dqAt (X0 m c) (Ob m c) (Pb m c) t.val (t_lt t))
      ∗ owns (c : Thread nD τ) (st0_4 t) fullShare (accAt (X0 m c) (Ob m c) (Pb m c) (t.val + 1)))

theorem body_first (c : Dev nD) (t : Fin cfg0.N) (ht : t.val = 0) :
    iprop(Phi m c t.val ∗ (∃ W, owes (c : Thread nD τ) (0 : CellTallies nD τ sig Unit) W)
      ∗ owns (c : Thread nD τ) (st0_0 t) fullShare (Qb m c t.val (t_lt t)) ∗ owns (c : Thread nD τ) (st0_1 t) fullShare (Ob m c t.val (t_lt t))
      ∗ owns (c : Thread nD τ) (st0_2 t) fullShare (Pb m c t.val (t_lt t))
      ∗ (∃ d, owns (c : Thread nD τ) (st0_3 t) fullShare d) ∗ (∃ d, owns (c : Thread nD τ) (st0_4 t) fullShare d))
    ⊢ wp frame (wpE (defs₀ (F := F)) 𝒱₀ c none) Set.univ (bodyAt0 t) fun _ => Post m c t := by
  have h1 : cond1 (grid0.coords t) = 1#1 := (cond1_iff t).mpr ht
  have h2 : ¬ k0_cond2 (grid0.coords t) = 1#1 := fun h => by have := (cond2_iff t).mp h; omega
  have e1 : Phi m c t.val = _ := ht ▸ Phi_zero m c
  rw [Post, e1, Phi_mid m c (t.val + 1) (by omega) (by omega)]
  unfold keep scrAny scrAt
  rw [kaAt_succ _ _ _ _ _ (t_lt t), vaAt_succ _ _ _ (t_lt t), accAt_succ _ _ _ _ (t_lt t)]
  rw [show kaAt (X0 m c) (Qb m c) (Ob m c) (Pb m c) t.val = ka0 from by rw [ht]; rfl,
    show vaAt (Ob m c) (Pb m c) t.val = va0 from by rw [ht]; rfl,
    show accAt (X0 m c) (Ob m c) (Pb m c) t.val = acc0 from by rw [ht]; rfl]
  iintro ⟨⟨⟨HA, Hs0, Hs1⟩, ⟨Hkp, Hvp, Hka, Hva⟩, Hout⟩, ⟨%W, HO⟩, H0, H1, H2, H3, H4⟩
  iapply (run_first c (grid0.coords t) (st0_0 t) _ (st0_1 t) _ (st0_2 t) _ (st0_3 t) _ (st0_4 t) _ t.val (coord_val t) (t_lt t) h1 h2 sh (X0 m c)
    (Qb m c t.val (t_lt t)) (Ob m c t.val (t_lt t)) (Pb m c t.val (t_lt t)) W)
  isplitl [H0]; · iexact H0
  isplitl [H1]; · iexact H1
  isplitl [H2]; · iexact H2
  isplitl [H3]; · iexact H3
  isplitl [H4]; · iexact H4
  isplitl [Hkp]; · iexact Hkp
  isplitl [Hvp]; · iexact Hvp
  isplitl [Hka]; · iexact Hka
  isplitl [Hva]; · iexact Hva
  isplitl [HA]; · iexact HA
  isplitl [Hs0]; · iexact Hs0
  isplitl [Hs1]; · iexact Hs1
  isplitl [HO]; · iexact HO
  iintro ⟨H0, H1, H2, H3, H4, Hkp, Hvp, Hka, Hva, HA, Hs0, Hs1, HO⟩
  isplitl [HA Hs0 Hs1 Hkp Hvp Hka Hva Hout]
  · isplitl [HA Hs0 Hs1]
    · isplitl [HA]; · iexact HA
      isplitl [Hs0]; · iexact Hs0
      iexact Hs1
    isplitr [Hout]
    · isplitl [Hkp]; · iexact Hkp
      isplitl [Hvp]; · iexact Hvp
      isplitl [Hka]; · iexact Hka
      iexact Hva
    iexact Hout
  isplitl [HO]
  · icases HO with ⟨%W', HO⟩; iexists W'; isplitr; · ipureintro; exact fun _ _ => Or.inl trivial
    iexact HO
  isplitl [H0]; · iexact H0
  isplitl [H1]; · iexact H1
  isplitl [H2]; · iexact H2
  isplitl [H3]; · iexact H3
  iexact H4

theorem body_mid (c : Dev nD) (t : Fin cfg0.N) (ht : t.val ≠ 0) (ht' : t.val ≠ 31) :
    iprop(Phi m c t.val ∗ (∃ W, owes (c : Thread nD τ) (0 : CellTallies nD τ sig Unit) W)
      ∗ owns (c : Thread nD τ) (st0_0 t) fullShare (Qb m c t.val (t_lt t)) ∗ owns (c : Thread nD τ) (st0_1 t) fullShare (Ob m c t.val (t_lt t))
      ∗ owns (c : Thread nD τ) (st0_2 t) fullShare (Pb m c t.val (t_lt t))
      ∗ (∃ d, owns (c : Thread nD τ) (st0_3 t) fullShare d) ∗ owns (c : Thread nD τ) (st0_4 t) fullShare (accAt (X0 m c) (Ob m c) (Pb m c) t.val))
    ⊢ wp frame (wpE (defs₀ (F := F)) 𝒱₀ c none) Set.univ (bodyAt0 t) fun _ => Post m c t := by
  have hlt := t_lt t
  have h1 : ¬ cond1 (grid0.coords t) = 1#1 := fun h => ht ((cond1_iff t).mp h)
  have h2 : ¬ k0_cond2 (grid0.coords t) = 1#1 := fun h => ht' ((cond2_iff t).mp h)
  rw [Post, Phi_mid m c t.val ht hlt, Phi_mid m c (t.val + 1) (by omega) (by omega)]
  unfold keep scrAt
  rw [kaAt_succ _ _ _ _ _ (t_lt t), vaAt_succ _ _ _ (t_lt t), accAt_succ _ _ _ _ (t_lt t)]
  iintro ⟨⟨Hkeep, ⟨Hkp, Hvp, Hka, Hva⟩, Hout⟩, HO, H0, H1, H2, H3, H4⟩
  iapply (run_mid c (grid0.coords t) (st0_0 t) _ (st0_1 t) _ (st0_2 t) _ (st0_3 t) _ (st0_4 t) _ t.val (coord_val t) (t_lt t) h1 h2
    (Qb m c t.val (t_lt t)) (Ob m c t.val (t_lt t)) (Pb m c t.val (t_lt t)) (accAt (X0 m c) (Ob m c) (Pb m c) t.val)
    (kp0 (X0 m c)) (vp0 (X0 m c)) (kaAt (X0 m c) (Qb m c) (Ob m c) (Pb m c) t.val) (vaAt (Ob m c) (Pb m c) t.val))
  isplitl [H0]; · iexact H0
  isplitl [H1]; · iexact H1
  isplitl [H2]; · iexact H2
  isplitl [H3]; · iexact H3
  isplitl [H4]; · iexact H4
  isplitl [Hkp]; · iexact Hkp
  isplitl [Hvp]; · iexact Hvp
  isplitl [Hka]; · iexact Hka
  isplitl [Hva]; · iexact Hva
  iintro ⟨H0, H1, H2, H3, H4, Hkp, Hvp, Hka, Hva⟩
  isplitl [Hkeep Hkp Hvp Hka Hva Hout]
  · isplitl [Hkeep]; · iexact Hkeep
    isplitr [Hout]
    · isplitl [Hkp]; · iexact Hkp
      isplitl [Hvp]; · iexact Hvp
      isplitl [Hka]; · iexact Hka
      iexact Hva
    iexact Hout
  isplitl [HO]
  · icases HO with ⟨%W', HO⟩; iexists W'; isplitr; · ipureintro; exact fun _ _ => Or.inl trivial
    iexact HO
  isplitl [H0]; · iexact H0
  isplitl [H1]; · iexact H1
  isplitl [H2]; · iexact H2
  isplitl [H3]; · iexact H3
  iexact H4

theorem body_last (c : Dev nD) (t : Fin cfg0.N) (ht : t.val = 31) :
    iprop(Phi m c t.val ∗ (∃ W, owes (c : Thread nD τ) (0 : CellTallies nD τ sig Unit) W)
      ∗ owns (c : Thread nD τ) (st0_0 t) fullShare (Qb m c t.val (t_lt t)) ∗ owns (c : Thread nD τ) (st0_1 t) fullShare (Ob m c t.val (t_lt t))
      ∗ owns (c : Thread nD τ) (st0_2 t) fullShare (Pb m c t.val (t_lt t))
      ∗ (∃ d, owns (c : Thread nD τ) (st0_3 t) fullShare d) ∗ owns (c : Thread nD τ) (st0_4 t) fullShare (accAt (X0 m c) (Ob m c) (Pb m c) t.val))
    ⊢ wp frame (wpE (defs₀ (F := F)) 𝒱₀ c none) Set.univ (bodyAt0 t) fun _ => Post m c t := by
  have hlt := t_lt t
  have h1 : ¬ cond1 (grid0.coords t) = 1#1 := fun h => by have := (cond1_iff t).mp h; omega
  have h2 : k0_cond2 (grid0.coords t) = 1#1 := (cond2_iff t).mpr ht
  have e2 : Phi m c (t.val + 1) = _ := (congrArg (Phi m c) (by omega)).trans (Phi_end m c)
  rw [Post, Phi_mid m c t.val (by omega) hlt, e2]
  unfold keep scrAt scrAny outAny outFin dkFin dvFin
  rw [show kaAt (X0 m c) (Qb m c) (Ob m c) (Pb m c) 32 = kaAt (X0 m c) (Qb m c) (Ob m c) (Pb m c) (t.val + 1) from by rw [ht],
    show vaAt (Ob m c) (Pb m c) 32 = vaAt (Ob m c) (Pb m c) (t.val + 1) from by rw [ht]]
  rw [kaAt_succ _ _ _ _ _ (t_lt t), vaAt_succ _ _ _ (t_lt t), accAt_succ _ _ _ _ (t_lt t)]
  iintro ⟨⟨⟨HA, Hs0, Hs1⟩, ⟨Hkp, Hvp, Hka, Hva⟩, ⟨Hdk, Hdv⟩⟩, ⟨%W, HO⟩, H0, H1, H2, H3, H4⟩
  iapply (run_last c (grid0.coords t) (st0_0 t) _ (st0_1 t) _ (st0_2 t) _ (st0_3 t) _ (st0_4 t) _ t.val (coord_val t) (t_lt t) h1 h2
    (Qb m c t.val (t_lt t)) (Ob m c t.val (t_lt t)) (Pb m c t.val (t_lt t)) (accAt (X0 m c) (Ob m c) (Pb m c) t.val)
    (kp0 (X0 m c)) (vp0 (X0 m c)) (kaAt (X0 m c) (Qb m c) (Ob m c) (Pb m c) t.val) (vaAt (Ob m c) (Pb m c) t.val) W)
  isplitl [H0]; · iexact H0
  isplitl [H1]; · iexact H1
  isplitl [H2]; · iexact H2
  isplitl [H3]; · iexact H3
  isplitl [H4]; · iexact H4
  isplitl [Hkp]; · iexact Hkp
  isplitl [Hvp]; · iexact Hvp
  isplitl [Hka]; · iexact Hka
  isplitl [Hva]; · iexact Hva
  isplitl [Hdk]; · iexact Hdk
  isplitl [Hdv]; · iexact Hdv
  isplitl [Hs0]; · iexact Hs0
  isplitl [Hs1]; · iexact Hs1
  isplitl [HO]; · iexact HO
  iintro ⟨H0, H1, H2, H3, H4, Hkp, Hvp, Hka, Hva, Hdk, Hdv, Hs0, Hs1, HO⟩
  isplitl [HA Hs0 Hs1 Hkp Hvp Hka Hva Hdk Hdv]
  · isplitl [HA Hs0 Hs1]
    · isplitl [HA]; · iexact HA
      isplitl [Hs0]; · iexact Hs0
      iexact Hs1
    isplitr [Hdk Hdv]
    · isplitl [Hkp]; · iexact Hkp
      isplitl [Hvp]; · iexact Hvp
      isplitl [Hka]; · iexact Hka
      iexact Hva
    isplitl [Hdk]; · iexact Hdk
    iexact Hdv
  isplitl [HO]
  · icases HO with ⟨%W', HO⟩; iexists W'; isplitr; · ipureintro; exact fun _ _ => Or.inl trivial
    iexact HO
  isplitl [H0]; · iexact H0
  isplitl [H1]; · iexact H1
  isplitl [H2]; · iexact H2
  isplitl [H3]; · iexact H3
  iexact H4

/-- The library's body obligation, by the three runs. -/
theorem body_obligation (c : Dev nD) : BodyObligation (dats m 0 c) (defs₀ (F := F)) 𝒱₀ () Set.univ := fun t => by
  rw [bigSep_W0, bigSep_W0]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  simp only [before0, before1, before2, after0, after1, after2, after3, after4]
  show _ ⊢ wp frame (wpE (defs₀ (F := F)) 𝒱₀ c none) Set.univ (bodyAt0 t) fun _ => Post m c t
  by_cases h0 : t.val = 0
  · iintro ⟨HP, ⟨%W, -, HO⟩, ⟨%d0, H0⟩, ⟨%d1, H1⟩, ⟨%d2, H2⟩, ⟨%d3, H3⟩, ⟨%d4, H4⟩⟩
    iapply (body_first m c t h0)
    isplitl [HP]; · iexact HP
    isplitl [HO]; · iexists W; iexact HO
    isplitl [H0]; · iexact H0
    isplitl [H1]; · iexact H1
    isplitl [H2]; · iexact H2
    isplitl [H3]; · iexists _; iexact H3
    iexists _; iexact H4
  simp only [before4 m c t h0]
  iintro ⟨HP, ⟨%W, -, HO⟩, ⟨%d0, H0⟩, ⟨%d1, H1⟩, ⟨%d2, H2⟩, ⟨%d3, H3⟩, ⟨%d4, H4⟩⟩
  by_cases h31 : t.val = 31
  · iapply (body_last m c t h31)
    isplitl [HP]; · iexact HP
    isplitl [HO]; · iexists W; iexact HO
    isplitl [H0]; · iexact H0
    isplitl [H1]; · iexact H1
    isplitl [H2]; · iexact H2
    isplitl [H3]; · iexists _; iexact H3
    iexact H4
  · iapply (body_mid m c t h0 h31)
    isplitl [HP]; · iexact HP
    isplitl [HO]; · iexists W; iexact HO
    isplitl [H0]; · iexact H0
    isplitl [H1]; · iexact H1
    isplitl [H2]; · iexact H2
    isplitl [H3]; · iexists _; iexact H3
    iexact H4

end Cert.Attn

end
-- ==== Proof.Region.lean ====
/-
  The run of the whole program: nine lines of host operations, then the region. The region's entry splits the projected
  rows' share in two; its exit leaves the four results at the contents the invariant and the windows give.
-/
module

public import proofs.«01_k».proof.Proof.Launch

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕌" => Pipeline.UD sig nD τ
local notation "𝕄" => MT nD τ sig Unit (Elt F) ℕ (Pipeline.UD sig nD τ) ℕ

variable (m : (ℓ : Loc nD τ sig) → Buf (Elt F) ℓ) (ρ : Dev nD → PrngReg)

abbrev EP : Emb (UR sig nD τ) (MT nD τ sig Unit (Elt F) ℕ (Pipeline.UD sig nD τ) ℕ) := embL

/-! ## The host operations -/

/-- The buffers at launch, and after each line. -/
def W0 (c : Dev nD) : Valuation τ sig (Elt F) := fun b => m (c, b)
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)
def W4 (c : Dev nD) : Valuation τ sig (Elt F) := StableHlo.after hostOps0_3 (W3 m c)
def W5 (c : Dev nD) : Valuation τ sig (Elt F) := StableHlo.after hostOps0_4 (W4 m c)
def W6 (c : Dev nD) : Valuation τ sig (Elt F) := StableHlo.after hostOps0_5 (W5 m c)
def W7 (c : Dev nD) : Valuation τ sig (Elt F) := StableHlo.after hostOps0_6 (W6 m c)
def W8 (c : Dev nD) : Valuation τ sig (Elt F) := StableHlo.after hostOps0_7 (W7 m c)
def W9 (c : Dev nD) : Valuation τ sig (Elt F) := StableHlo.after hostOps0_8 (W8 m c)

/-- The nine lines one after another are one line. -/
theorem W9_eq (c : Dev nD) : W9 m c = StableHlo.after (List.flatten [hostOps0, hostOps0_1, hostOps0_2, hostOps0_3, hostOps0_4, hostOps0_5, hostOps0_6, hostOps0_7, hostOps0_8]) (W0 m c) := by
  unfold W9 W8 W7 W6 W5 W4 W3 W2 W1
  rw [List.flatten_cons, StableHlo.after_append, List.flatten_cons, StableHlo.after_append, List.flatten_cons, StableHlo.after_append,
    List.flatten_cons, StableHlo.after_append, List.flatten_cons, StableHlo.after_append, List.flatten_cons, StableHlo.after_append,
    List.flatten_cons, StableHlo.after_append, List.flatten_cons, StableHlo.after_append, List.flatten_cons, StableHlo.after_append,
    List.flatten_nil, StableHlo.after_nil]

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- A line of host operations as a segment. -/
def hseg (ops : List (HloOp τ sig (Elt F))) (hs : ops.Forall fun op => op.bufs ⊆ StableHlo.tcRefs τ sig)
    (hf : ops.Forall fun op => op.fresh = ∅) (W : Dev nD → Valuation τ sig (Elt F)) :
    Pipeline.HostSeg (Name := ℕ) (U := 𝕌) (pcfgs (F := F)) defs₀ 𝒱₀ L lv :=
  Pipeline.HostSeg.ofOps _ _ _ _ _ (Pipeline.ucRefs τ sig) ops (fun op h => Pipeline.sub_ucRefs op ((List.forall_iff_forall_mem.mp hs) op h))
    (List.forall_iff_forall_mem.mp hf) W R

theorem VV_main_arg0 (c : Dev nD) : VV m c main_arg0 = m ((c : Thread nD τ).loc main_arg0) := V_main_arg0 m c
theorem VV_main_arg1 (c : Dev nD) : VV m c main_arg1 = m ((c : Thread nD τ).loc main_arg1) := V_main_arg1 m c
theorem VV_main_arg2 (c : Dev nD) : VV m c main_arg2 = m ((c : Thread nD τ).loc main_arg2) := V_main_arg2 m c

/-- The last valuation is what the region finds. -/
theorem held_VV (c : Dev nD) : (StableHlo.held (c : Thread nD τ) (Pipeline.ucRefs τ sig) (W9 m c) : sProp 𝕄) = unscopedBufs c (VV m c) := by
  rw [W9_eq]; exact (Pipeline.unscopedBufs_held (Ix := Unit) (Name := ℕ) (U := 𝕌) (Lvl := ℕ) c _).symm

/-! ## The kernel's two semaphores -/

abbrev osem : Fin 2 → SemLoc sig := ![SemLoc.dma 9, SemLoc.dma 10]
theorem ownSemFacts : Pipeline.OwnSemFacts spec0 osem := by decide

def u₀ : 𝕌 := (initOf (Pipeline.cells cfgs cellOf_inj) (Pipeline.launchToks cfgs cellOf_inj), 1)

omit [FloatOps F] in
theorem ownSems0_eq (c : Dev nD) :
    (Pipeline.ownSems0 (Ix := Unit) (Name := ℕ) (U := 𝕌) (Lvl := ℕ) (Val := Elt F) (τ := τ) osem c : sProp 𝕄)
      = iprop(semVal ((c : Thread nD τ), SemLoc.dma 9) 0 ∗ semVal ((c : Thread nD τ), SemLoc.dma 10) 0) :=
  Pipeline.ownSems0_eq_of_list c osem [0, 1] (by decide) (by decide)

/-! ## The arrays -/

/-- The windows' arrays one by one: the projected rows at one half, the others whole. -/
theorem arrays_list (c : Dev nD) (A : (w : Fin cfg0.W) → Buf (Elt F) ((cfg0.win w).arr.view.loc (c : Thread nD τ))) :
    (dats m 0 c).arrays A = iprop((((c : Thread nD τ).loc main_arg0) ↦{fullShare.left} A 0) ∗ (((c : Thread nD τ).loc main_arg2) ↦{fullShare} A 1)
      ∗ (((c : Thread nD τ).loc main_v84) ↦{fullShare} A 2) ∗ (((c : Thread nD τ).loc main_v85_0) ↦{fullShare} A 3)
      ∗ (((c : Thread nD τ).loc main_v85_3) ↦{fullShare} A 4)) := by
  have h : ∀ w q, (((cfg0.win w).arr.view.loc (c : Thread nD τ) ↦[(cfg0.win w).arr.view.set]{q} A w : sProp 𝕄))
      = ((cfg0.win w).arr.view.loc (c : Thread nD τ) ↦{q} A w) := fun w q => by rw [(arr_whole0 w).set_eq_univ]
  unfold Dat.arrays
  refine (bigSep_congr fun w _ => h w _).trans ?_
  rw [bigSep_W0]
  rfl

/-- The unscoped buffers, the ones the proof names taken out. -/
theorem unscoped_open (c : Dev nD) (V : (b : Ref sig .tc) → Buf (Elt F) ((c : Thread nD τ).loc b)) :
    (unscopedBufs c V : sProp 𝕄) ⊢ iprop(((((c : Thread nD τ).loc main_arg0) ↦{fullShare} V main_arg0) ∗ (((c : Thread nD τ).loc main_arg2) ↦{fullShare} V main_arg2)
      ∗ (((c : Thread nD τ).loc main_v84) ↦{fullShare} V main_v84) ∗ (((c : Thread nD τ).loc main_v85_0) ↦{fullShare} V main_v85_0)
      ∗ (((c : Thread nD τ).loc main_v85_3) ↦{fullShare} V main_v85_3))
      ∗ (((c : Thread nD τ).loc main_v85_1) ↦{fullShare} V main_v85_1) ∗ (((c : Thread nD τ).loc main_v85_2) ↦{fullShare} V main_v85_2)
      ∗ (((c : Thread nD τ).loc main_arg1) ↦{fullShare} V main_arg1)) := by
  rw [Pipeline.unscopedBufs_split (Ix := Unit) (Name := ℕ) (U := 𝕌) (Lvl := ℕ) cfgs 0 winFacts0.arr_unscoped winFacts0.arr_inj c V]
  have hm1 : main_v85_1 ∈ Pipeline.restRefs sig spec0 := Pipeline.mem_restRefs_of main_v85_1 (by decide) (by decide)
  have hm2 : main_v85_2 ∈ (Pipeline.restRefs sig spec0).erase main_v85_1 :=
    Finset.mem_erase.mpr ⟨by decide, Pipeline.mem_restRefs_of main_v85_2 (by decide) (by decide)⟩
  have hm3 : main_arg1 ∈ ((Pipeline.restRefs sig spec0).erase main_v85_1).erase main_v85_2 :=
    Finset.mem_erase.mpr ⟨by decide, Finset.mem_erase.mpr ⟨by decide, Pipeline.mem_restRefs_of main_arg1 (by decide) (by decide)⟩⟩
  have e1 : ∀ {s : Finset (Ref sig .tc)} {b : Ref sig .tc}, b ∈ s → bigSep s (fun b => (((c : Thread nD τ).loc b) ↦{fullShare} V b : sProp 𝕄))
      = iprop((((c : Thread nD τ).loc b) ↦{fullShare} V b) ∗ bigSep (s.erase b) (fun b => (((c : Thread nD τ).loc b) ↦{fullShare} V b : sProp 𝕄))) :=
    fun h => BI.bigSep_erase h
  have hr : Pipeline.unscopedRest (Ix := Unit) (Name := ℕ) (U := 𝕌) (Lvl := ℕ) spec0 c V
      = bigSep (Pipeline.restRefs sig spec0) (fun b => (((c : Thread nD τ).loc b) ↦{fullShare} V b : sProp 𝕄)) := rfl
  rw [show Pipeline.unscopedRest (Ix := Unit) (Name := ℕ) (U := 𝕌) (Lvl := ℕ) (cfgs 0).spec c V = _ from hr, e1 hm1, e1 hm2, e1 hm3]
  refine (BIClass.sep_mono (Entails.of_eq (bigSep_W0 _)) .rfl).trans ?_
  iintro ⟨H0, H1, H2, H3, -⟩
  isplitl [H0]; · iexact H0
  isplitl [H1]; · iexact H1
  isplitl [H2]; · iexact H2
  iexact H3

/-- The arrays at the region's entry, -/
theorem arrays_entry (c : Dev nD) :
    (dats m 0 c).arrays ((dats m 0 c).arrAt · 0) = iprop((((c : Thread nD τ).loc main_arg0) ↦{fullShare.left} VV m c main_arg0) ∗ (((c : Thread nD τ).loc main_arg2) ↦{fullShare} VV m c main_arg2)
      ∗ (((c : Thread nD τ).loc main_v84) ↦{fullShare} VV m c main_v84) ∗ (((c : Thread nD τ).loc main_v85_0) ↦{fullShare} VV m c main_v85_0)
      ∗ (((c : Thread nD τ).loc main_v85_3) ↦{fullShare} VV m c main_v85_3)) := by
  have e : (fun w => (dats m 0 c).arrAt w 0) = fun w => VV m c (Pipeline.arrRef spec0 w) := funext fun w => A_eq m c w
  exact (congrArg _ e).trans (arrays_list m c _)

/-- and what the inputs hold at its end. -/
theorem end0 (c : Dev nD) : (dats m 0 c).arrAt 0 cfg0.N = m ((c : Thread nD τ).loc main_arg0) :=
  ((dats m 0 c).arrAt_in 0 rfl _).trans ((A_eq m c 0).trans (VV_main_arg0 m c))
theorem end1 (c : Dev nD) : (dats m 0 c).arrAt 1 cfg0.N = m ((c : Thread nD τ).loc main_arg2) :=
  ((dats m 0 c).arrAt_in 1 rfl _).trans ((A_eq m c 1).trans (VV_main_arg2 m c))

/-! ## The region -/

/-- What the region leaves. -/
abbrev Tₙ (c : Dev nD) : sProp 𝕄 :=
  iprop((dats m 0 c).arrays ((dats m 0 c).arrAt · cfg0.N) ∗ outFin m c ∗ (((c : Thread nD τ).loc main_arg1) ↦{fullShare} VV m c main_arg1))

set_option backward.isDefEq.respectTransparency.types false in
/-- The region, entered from the host operations' last valuation. -/
def reg0 : Pipeline.RegionSeg (pcfgs (F := F)) adm (dats m) () defs₀ 𝒱₀ L lv 0 where
  win := launch0.win.to₀
  block_pos := launch0.block_pos
  stage_whole := launch0.stage_whole
  K := Fin 2
  osem := osem
  ho := ownSemFacts
  hbody c := (body_obligation m c).loose
  hwaits := Pipeline.hwaits_of_owed_zero _ _ _ _ L lv 0 fun _ _ => rfl
  pre c := iprop(StableHlo.held (c : Thread nD τ) (Pipeline.ucRefs τ sig) (W9 m c) ∗ R c)
  post c := iprop(Tₙ m c ∗ R c)
  X c := iprop(keep m c ∗ outAny c)
  Y c := outFin m c
  Z c := ((c : Thread nD τ).loc main_arg1) ↦{fullShare} VV m c main_arg1
  hentry c := by
    rw [held_VV, ownSems0_eq, show (dats m 0 c).arrays (fun w => (dats m 0 c).arrAt w 0) = _ from arrays_entry m c]
    have hsplit := unscoped_open c (VV m c)
    iintro ⟨⟨Hub, HO⟩, ⟨Hs0, Hs1⟩, -⟩
    ihave H := hsplit $$ Hub
    icases H with ⟨⟨H0, H1, H2, H3, H4⟩, H5, H6, H7⟩
    ihave HA := (pointsTo_share (PosShare.mem_left_op_right fullShare)).1 $$ H0
    icases HA with ⟨H0, HR⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [H7]
    · unfold keep outAny
      rw [show owns (c : Thread nD τ) A0 sh (X0 m c) = (((c : Thread nD τ).loc main_arg0) ↦{fullShare.right} VV m c main_arg0 : sProp 𝕄) from owns_whole _ _ _ _]
      isplitr [H5 H6]
      · isplitl [HR]; · iexact HR
        isplitl [Hs0]; · iexact Hs0
        iexact Hs1
      isplitl [H5]
      · iexists _
        iapply (show (((c : Thread nD τ).loc main_v85_1) ↦{fullShare} VV m c main_v85_1 : sProp 𝕄) ⊢ owns (c : Thread nD τ) DK fullShare (VV m c main_v85_1) from Entails.of_eq (owns_whole _ _ _ _).symm)
        iexact H5
      · iexists _
        iapply (show (((c : Thread nD τ).loc main_v85_2) ↦{fullShare} VV m c main_v85_2 : sProp 𝕄) ⊢ owns (c : Thread nD τ) DV fullShare (VV m c main_v85_2) from Entails.of_eq (owns_whole _ _ _ _).symm)
        iexact H6
    iexact H7
  hin c := by
    rw [show (dats m 0 c).Φ 0 = Phi m c 0 from rfl, Phi_zero]
    refine (show _ ⊢ iprop((keep m c ∗ outAny c) ∗ Pipeline.scopedRest spec0 c) from ?_).trans ?_
    · iintro ⟨H, -, Hr⟩
      isplitl [H]; · iexact H
      iexact Hr
    rw [scopedRest0_eq]
    unfold scrAny
    iintro ⟨⟨Hk, Ho⟩, ⟨⟨%f0, H0⟩, ⟨%f1, H1⟩, ⟨%f2, H2⟩, ⟨%f3, H3⟩⟩⟩
    isplitl [Hk]; · iexact Hk
    isplitr [Ho]
    · isplitl [H0]
      · iexists f0; iapply (Entails.of_eq (owns_whole (c : Thread nD τ) cc0_scratch0 fullShare f0).symm); iexact H0
      isplitl [H1]
      · iexists f1; iapply (Entails.of_eq (owns_whole (c : Thread nD τ) cc0_scratch1 fullShare f1).symm); iexact H1
      isplitl [H2]
      · iexists f2; iapply (Entails.of_eq (owns_whole (c : Thread nD τ) cc0_scratch2 fullShare f2).symm); iexact H2
      · iexists f3; iapply (Entails.of_eq (owns_whole (c : Thread nD τ) cc0_scratch3 fullShare f3).symm); iexact H3
    iexact Ho
  hout c := by
    rw [ownSems0_eq, show (dats m 0 c).Φ (Fin.last cfg0.N) = Phi m c 32 from rfl, Phi_end]
    refine (show _ ⊢ iprop(outFin m c ∗ (semVal ((c : Thread nD τ), SemLoc.dma 9) 0 ∗ semVal ((c : Thread nD τ), SemLoc.dma 10) 0) ∗ Pipeline.scopedRest spec0 c) from ?_)
    rw [scopedRest0_eq]
    unfold scrAny keep
    iintro ⟨⟨-, Hs⟩, ⟨⟨%f0, H0⟩, ⟨%f1, H1⟩, ⟨%f2, H2⟩, ⟨%f3, H3⟩⟩, Ho⟩
    isplitl [Ho]; · iexact Ho
    isplitl [Hs]; · iexact Hs
    isplitl [H0]
    · iexists f0; iapply (Entails.of_eq (owns_whole (c : Thread nD τ) cc0_scratch0 fullShare f0)); iexact H0
    isplitl [H1]
    · iexists f1; iapply (Entails.of_eq (owns_whole (c : Thread nD τ) cc0_scratch1 fullShare f1)); iexact H1
    isplitl [H2]
    · iexists f2; iapply (Entails.of_eq (owns_whole (c : Thread nD τ) cc0_scratch2 fullShare f2)); iexact H2
    · iexists f3; iapply (Entails.of_eq (owns_whole (c : Thread nD τ) cc0_scratch3 fullShare f3)); iexact H3
  hexit c := by
    iintro ⟨Ha, HO, HY, HZ⟩
    imodintro
    isplitr [HO]
    · isplitl [Ha]; · iexact Ha
      isplitl [HY]; · iexact HY
      iexact HZ
    · unfold Pipeline.Dat.owesAt Pipeline.owesWithin
      icases HO with ⟨%W, -, HO⟩; iexists W; iexact HO

/-- @main as nine lines and the region. -/
abbrev segs : List (Pipeline.Seg (pcfgs (F := F)) adm (dats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m)]

/-- What a final state holds on core `c`. -/
structure Post' (c : Dev nD) (s : MemSt nD τ sig (Elt F)) : Prop where
  dq : s.mem ((c : Thread nD τ).loc main_v85_0) = (dats m 0 c).arrAt 3 cfg0.N
  ds : s.mem ((c : Thread nD τ).loc main_v85_3) = (dats m 0 c).arrAt 4 cfg0.N
  dk : s.mem ((c : Thread nD τ).loc main_v85_1) = dkFin (X0 m c) (Qb m c) (Ob m c) (Pb m c)
  dv : s.mem ((c : Thread nD τ).loc main_v85_2) = dvFin (X0 m c) (Ob m c) (Pb m c)
  arg0 : s.mem ((c : Thread nD τ).loc main_arg0) = m ((c : Thread nD τ).loc main_arg0)
  arg1 : s.mem ((c : Thread nD τ).loc main_arg1) = m ((c : Thread nD τ).loc main_arg1)
  arg2 : s.mem ((c : Thread nD τ).loc main_arg2) = m ((c : Thread nD τ).loc main_arg2)

set_option maxHeartbeats 1000000 in
/-- What the region leaves, read against a final state. -/
theorem final_read (c : Dev nD) (s' : Phys nD τ sig (Elt F)) :
    iprop(Tₙ m c ∗ SI s') ⊢ (|={Set.univ}=> iprop(⌜Post' m c s'.mem⌝ ∗ SI s') : sProp 𝕄) := by
  dsimp only [Tₙ]; rw [VV_main_arg1, arrays_list]
  unfold outFin
  rw [show owns (c : Thread nD τ) DK fullShare (dkFin (X0 m c) (Qb m c) (Ob m c) (Pb m c)) = (((c : Thread nD τ).loc main_v85_1) ↦{fullShare} (dkFin (X0 m c) (Qb m c) (Ob m c) (Pb m c)) : sProp 𝕄) from owns_whole _ _ _ _,
    show owns (c : Thread nD τ) DV fullShare (dvFin (X0 m c) (Ob m c) (Pb m c)) = (((c : Thread nD τ).loc main_v85_2) ↦{fullShare} (dvFin (X0 m c) (Ob m c) (Pb m c)) : sProp 𝕄) from owns_whole _ _ _ _]
  iintro ⟨⟨⟨H0, H1, H2, H3, H4⟩, ⟨H5, H6⟩, H7⟩, HSI⟩
  icombine HSI H0 gives %h0
  icombine HSI H1 gives %h1
  icombine HSI H3 gives %h3
  icombine HSI H4 gives %h4
  icombine HSI H5 gives %h5
  icombine HSI H6 gives %h6
  icombine HSI H7 gives %h7
  imodintro
  isplitr
  · ipureintro
    refine { dq := ?_, ds := ?_, dk := ?_, dv := ?_, arg0 := ?_, arg1 := ?_, arg2 := ?_ }
    · exact Buf.eq_of_forall_mem_univ h3
    · exact Buf.eq_of_forall_mem_univ h4
    · exact Buf.eq_of_forall_mem_univ h5
    · exact Buf.eq_of_forall_mem_univ h6
    · exact (Buf.eq_of_forall_mem_univ h0).trans (end0 m c)
    · exact Buf.eq_of_forall_mem_univ h7
    · exact (Buf.eq_of_forall_mem_univ h1).trans (end1 m c)
  iexact HSI

set_option maxHeartbeats 1000000 in
set_option backward.isDefEq.respectTransparency.types false in
/-- From any memory with zero counters, at any float values: @main terminates without a fault, leaves its results at the
    contents named, its arguments unchanged and every counter at zero. -/
theorem run_main : θ_run defs (onTc (τ := τ) (main (F := F))) ⟨m, fun _ => 0, ρ⟩
    (fun r => (∀ c : Dev nD, Post' m c r.2) ∧ r.2.sem = fun _ => 0) :=
  Pipeline.θ_run_regions_kit_sems (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from
        Pipeline.unscopedBufs_held (Ix := Unit) (Name := ℕ) (U := 𝕌) (Lvl := ℕ) c (W0 m c)]
      iintro ⟨⟨Hh, -, HO, -, -, -⟩, -⟩
      imodintro
      isplitl [Hh]; · iexact Hh
      iexists ∅; iexact HO)
    (QY := fun c s => Post' m c s)
    (hfin := fun c s' => by
      exact final_read m c s')
    (hQ := fun _ h hz => ⟨h, funext fun g => hz g (.inr (by revert g; decide))⟩)

end Cert.Attn

end
-- ==== Proof.Frames.lean ====
/-
  The three frames: the kernel's program, read at the device's floats and over the reals, by the one run of Region.lean,
  and the reference's by its generated run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Region
public import proofs.«01_k».proof.Proof.Bits.Region
public import Idealize.ShloMosaic.Lib.Quiescent

@[expose] public section

set_option maxRecDepth 16384

noncomputable section

namespace Cert.Attn

open Idealize.ShloMosaic Idealize.SL.Sem

/-- The program over the reals. -/
theorem frame_ideal : @Cert.quiescent_KernelIdeal Cert.KernelIdeal.Gen.facts := by
  intro m ρ _
  exact (θ_run Cert.KernelIdeal.defs _ _).mono (fun r h => ⟨fun c => ⟨(h.1 c).arg0, (h.1 c).arg1, (h.1 c).arg2⟩, h.2⟩)
    (run_main (F := Ideal) m ρ)

/-- The reference. -/
theorem frame_reference : @Cert.quiescent_ReferenceIdeal Cert.ReferenceIdeal.Gen.facts := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

/-- The program at the device's floats. -/
theorem frame_kernel : @Cert.quiescent_Kernel Cert.Kernel.Gen.facts := by
  intro m ρ _
  exact (θ_run Cert.Kernel.defs _ _).mono (fun r h => ⟨fun c => ⟨(h.1 c).arg0, (h.1 c).arg1, (h.1 c).arg2⟩, h.2⟩)
    (Cert.AttnBits.run_main (F := Bits) m ρ)

end Cert.Attn

end
-- ==== Proof.RefChain.lean ====
/-
  The reference's band of keys: chunk `n`'s block `j` is chunk `n + j` of the padded rows, gathered and scattered by one
  array of indices.
-/
module

public import proofs.«01_k».proof.Proof.Gen.ReferenceIdeal
public import proofs.«01_k».proof.Proof.Gen.ReferenceIdeal.Read
public import Idealize.ShloMosaic.Lib.Pointwise
public import Idealize.ShloMosaic.Lib.Pipeline.ValueKit
public import Idealize.ShloMosaic.Lib.Routing.OpsPair

@[expose] public section

set_option maxRecDepth 16384

noncomputable section

namespace Cert.Attn.Ref

open Cert.ReferenceIdeal Cert.ReferenceIdeal.Gen Cert.ReferenceIdeal.Read
open Idealize.ShloMosaic

/-- The two arrays of band indices. -/
theorem v23_apply (n : Fin 64) (j : Fin 9) : val_main_v23 (F := Ideal) (ix3 n j (0 : Fin 1)) = BitVec.ofNat 32 (n.val + j.val) := by
  pointwise [val_main_v23, val_main_v22, val_main_v21, val_main_v20, val_main_v19, val_main_v18, val_main_v17, val_main_v16, val_main_v15, val_main_v14, val_main_v13, val_main_v12, val_main_v11, val_main_c, val_main_c_1]
  revert n j
  decide +kernel
theorem v45_apply (n : Fin 64) (j : Fin 9) : val_main_v45 (F := Ideal) (ix3 n j (0 : Fin 1)) = BitVec.ofNat 32 (n.val + j.val) := v23_apply n j

theorem toInt_band : ∀ (n : Fin 64) (j : Fin 9), (BitVec.ofNat 32 (n.val + j.val)).toInt = (n.val + j.val : ℕ) := by decide +kernel

abbrev gd := gather_S1x72x64x8x64_S64x9x1_S1x64x9x64x8x64_0345_1_n_n_1_2_1164864
abbrev sd := scatter_S1x72x64x8x64_S64x9x1_S1x64x9x64x8x64_0345_1_1_2

/-- An index of a rank-6 array. -/
abbrev ix6 {a b c d e f : ℕ} (i0 : Fin a) (i1 : Fin b) (i2 : Fin c) (i3 : Fin d) (i4 : Fin e) (i5 : Fin f) :
    (⟨6, ![a, b, c, d, e, f]⟩ : Shape).Idx
  | ⟨0, _⟩ => i0 | ⟨1, _⟩ => i1 | ⟨2, _⟩ => i2 | ⟨3, _⟩ => i3 | ⟨4, _⟩ => i4 | ⟨5, _⟩ => i5

/-- The gather of a band: chunk `n`'s block `j` is chunk `n + j`. -/
theorem gather_apply (x : S1x72x64x8x64.Idx → EReal) (idx : IVec S64x9x1 32)
    (hidx : ∀ (n : Fin 64) (j : Fin 9), idx (ix3 n j (0 : Fin 1)) = BitVec.ofNat 32 (n.val + j.val))
    (n : Fin 64) (j : Fin 9) (s : Fin 64) (h : Fin 8) (d : Fin 64) :
    Host.gather gd x idx (ix6 (0 : Fin 1) n j s h d) = x (ix5 (0 : Fin 1) (⟨n.val + j.val, by omega⟩ : Fin 72) s h d) := by
  unfold Host.gather
  congr 1
  funext a
  refine Fin.ext ?_
  show gd.start (ix6 (0 : Fin 1) n j s h d) idx a + gd.batchCoord (ix6 (0 : Fin 1) n j s h d) a + gd.offCoord (ix6 (0 : Fin 1) n j s h d) a = _
  have hst : gd.start (ix6 (0 : Fin 1) n j s h d) idx 1 = n.val + j.val := by
    unfold GatherDims.start
    rw [dif_pos (show (1 : Fin 5) ∈ gd.startIndexMap from List.mem_singleton.mpr rfl)]
    have hsi : gd.siIdx (ix6 (0 : Fin 1) n j s h d) ⟨List.idxOf (1 : Fin 5) gd.startIndexMap,
        List.idxOf_lt_length_iff.2 (List.mem_singleton.mpr rfl)⟩ = ix3 n j (0 : Fin 1) := by
      funext b; refine Fin.ext ?_
      match b with
      | ⟨0, _⟩ => rfl
      | ⟨1, _⟩ => rfl
      | ⟨2, _⟩ => rfl
    rw [hsi, hidx, toInt_band]
    show min (n.val + j.val) (72 - 1) = _
    omega
  match a with
  | ⟨0, _⟩ => rfl
  | ⟨1, _⟩ => show gd.start (ix6 (0 : Fin 1) n j s h d) idx 1 + 0 + 0 = _; rw [hst]; rfl
  | ⟨2, _⟩ => exact Nat.zero_add _
  | ⟨3, _⟩ => exact Nat.zero_add _
  | ⟨4, _⟩ => exact Nat.zero_add _

/-- Where an update of the scatter lands. -/
theorem scatter_lands (idx : IVec S64x9x1 32)
    (hidx : ∀ (n : Fin 64) (j : Fin 9), idx (ix3 n j (0 : Fin 1)) = BitVec.ofNat 32 (n.val + j.val))
    (n : Fin 64) (j : Fin 9) (s s' : Fin 64) (h h' : Fin 8) (d d' : Fin 64) (b : Fin 72) :
    sd.resultIdx? (ix6 (0 : Fin 1) n j s' h' d') idx = some (ix5 (0 : Fin 1) b s h d)
      ↔ n.val + j.val = b.val ∧ s' = s ∧ h' = h ∧ d' = d := by
  rw [Routing.resultIdx?_eq_some]
  have hst : sd.start (ix6 (0 : Fin 1) n j s' h' d') idx 1 = ((n.val + j.val : ℕ) : ℤ) := by
    unfold ScatterDims.start
    rw [dif_pos (show (1 : Fin 5) ∈ sd.scatterDimsToOperandDims from List.mem_singleton.mpr rfl)]
    have hsi : sd.siIdx (ix6 (0 : Fin 1) n j s' h' d') ⟨List.idxOf (1 : Fin 5) sd.scatterDimsToOperandDims,
        List.idxOf_lt_length_iff.2 (List.mem_singleton.mpr rfl)⟩ = ix3 n j (0 : Fin 1) := by
      funext b; refine Fin.ext ?_
      match b with
      | ⟨0, _⟩ => rfl
      | ⟨1, _⟩ => rfl
      | ⟨2, _⟩ => rfl
    rw [hsi, hidx, toInt_band]
  have e0 : sd.start (ix6 (0 : Fin 1) n j s' h' d') idx 0 + sd.window (ix6 (0 : Fin 1) n j s' h' d') 0 = 0 := rfl
  have w1 : sd.window (ix6 (0 : Fin 1) n j s' h' d') 1 = 0 := rfl
  have e2 : sd.start (ix6 (0 : Fin 1) n j s' h' d') idx 2 + sd.window (ix6 (0 : Fin 1) n j s' h' d') 2 = ((s'.val : ℕ) : ℤ) := Int.zero_add _
  have e3 : sd.start (ix6 (0 : Fin 1) n j s' h' d') idx 3 + sd.window (ix6 (0 : Fin 1) n j s' h' d') 3 = ((h'.val : ℕ) : ℤ) := Int.zero_add _
  have e4 : sd.start (ix6 (0 : Fin 1) n j s' h' d') idx 4 + sd.window (ix6 (0 : Fin 1) n j s' h' d') 4 = ((d'.val : ℕ) : ℤ) := Int.zero_add _
  constructor
  · intro H
    have H1 := H 1; have H2 := H 2; have H3 := H 3; have H4 := H 4
    rw [hst, w1] at H1; rw [e2] at H2; rw [e3] at H3; rw [e4] at H4
    refine ⟨?_, Fin.ext ?_, Fin.ext ?_, Fin.ext ?_⟩
    · have : ((n.val + j.val : ℕ) : ℤ) + ((0 : ℕ) : ℤ) = ((b.val : ℕ) : ℤ) := H1
      omega
    · exact Int.ofNat.inj H2
    · exact Int.ofNat.inj H3
    · exact Int.ofNat.inj H4
  · rintro ⟨hb, rfl, rfl, rfl⟩ a
    match a with
    | ⟨0, _⟩ => exact e0
    | ⟨1, _⟩ => show sd.start (ix6 (0 : Fin 1) n j s' h' d') idx 1 + sd.window (ix6 (0 : Fin 1) n j s' h' d') 1 = ((b.val : ℕ) : ℤ); rw [hst, w1, ← hb]; exact Int.add_zero _
    | ⟨2, _⟩ => exact e2
    | ⟨3, _⟩ => exact e3
    | ⟨4, _⟩ => exact e4

/-- The scatter-add of a band onto zeros: every chunk adds what its block at that place holds. -/
theorem scatter_apply (z : S1x72x64x8x64.Idx → EReal) (hz : ∀ i, z i = 0) (idx : IVec S64x9x1 32)
    (hidx : ∀ (n : Fin 64) (j : Fin 9), idx (ix3 n j (0 : Fin 1)) = BitVec.ofNat 32 (n.val + j.val))
    (upd : S1x64x9x64x8x64.Idx → EReal) (b : Fin 72) (s : Fin 64) (h : Fin 8) (d : Fin 64) :
    Ideal.hostScatterAdd sd z idx upd (ix5 (0 : Fin 1) b s h d)
      = ∑ n : Fin 64, if hn : n.val ≤ b.val ∧ b.val < n.val + 9 then upd (ix6 (0 : Fin 1) n (⟨b.val - n.val, by omega⟩ : Fin 9) s h d) else 0 := by
  unfold Ideal.hostScatterAdd
  rw [hz, zero_add]
  symm
  rw [← Finset.sum_subset (Finset.subset_univ (Finset.univ.filter fun n : Fin 64 => n.val ≤ b.val ∧ b.val < n.val + 9))
    (fun n _ hn => dif_neg fun hc => hn (Finset.mem_filter.mpr ⟨Finset.mem_univ _, hc⟩))]
  refine Finset.sum_bij (fun n hn => ix6 (0 : Fin 1) n (⟨b.val - n.val, by have := (Finset.mem_filter.mp hn).2; omega⟩ : Fin 9) s h d) ?_ ?_ ?_ ?_
  · intro n hn
    have := (Finset.mem_filter.mp hn).2
    refine Finset.mem_filter.mpr ⟨Finset.mem_univ _, (scatter_lands idx hidx _ _ _ _ _ _ _ _ _).mpr ⟨?_, rfl, rfl, rfl⟩⟩
    show n.val + (b.val - n.val) = b.val; omega
  · intro n hn n' hn' e
    exact congrFun e 1
  · intro k hk
    have hk2 := (Finset.mem_filter.mp hk).2
    have ek : k = ix6 (0 : Fin 1) (k 1 : Fin 64) (k 2 : Fin 9) (k 3 : Fin 64) (k 4 : Fin 8) (k 5 : Fin 64) := by
      funext a
      match a with
      | ⟨0, _⟩ => exact Subsingleton.elim (α := Fin 1) _ _
      | ⟨1, _⟩ => rfl
      | ⟨2, _⟩ => rfl
      | ⟨3, _⟩ => rfl
      | ⟨4, _⟩ => rfl
      | ⟨5, _⟩ => rfl
    rw [ek] at hk2
    obtain ⟨h1, h2, h3, h4⟩ := (scatter_lands idx hidx _ _ _ _ _ _ _ _ _).mp hk2
    have l2 : (k 2).val < 9 := (k 2).isLt
    refine ⟨(k 1 : Fin 64), Finset.mem_filter.mpr ⟨Finset.mem_univ _, ?_⟩, ?_⟩
    · exact ⟨by omega, by omega⟩
    · refine Eq.trans ?_ ek.symm
      funext a
      match a with
      | ⟨0, _⟩ => rfl
      | ⟨1, _⟩ => rfl
      | ⟨2, _⟩ => exact Fin.ext (by show b.val - (k 1).val = (k 2).val; omega)
      | ⟨3, _⟩ => exact h2.symm
      | ⟨4, _⟩ => exact h3.symm
      | ⟨5, _⟩ => exact h4.symm
  · intro n hn
    rw [dif_pos (Finset.mem_filter.mp hn).2]

end Cert.Attn.Ref

end
-- ==== Proof.Point.lean ====
/-
  One grid point of the kernel read at an index over the reals: the score gradients, the rows of dq, and what the point
  adds to the two accumulators, as sums over a head's 64 columns, the 640 window columns, or the 128 rows.
-/
module

public import proofs.«01_k».proof.Proof.Values
public import Idealize.ShloMosaic.Lib.Pointwise
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe

/-- The column of head `h`'s lane `d` among the 512. -/
abbrev hcol (h : Fin 8) (d : Fin 64) : Fin 512 := ⟨64 * h.val + d.val, by omega⟩

/-- The probability gradients of one pair of chunks. -/
def dp (vs : Vec Ideal S640x512 .bf16) (o : Vec Ideal S128x512 .bf16) (h : Fin 8) (r : Fin 128) (w : Fin 640) : EReal :=
  ∑ d : Fin 64, (o (ix2 r (hcol h d)) : EReal) * vs (ix2 w (hcol h d))

/-- The score gradients: each probability times its own gradient less the row's mean. -/
theorem dsOf_apply (vs : Vec Ideal S640x512 .bf16) (o : Vec Ideal S128x512 .bf16) (p : Vec Ideal S8x128x640 .bf16)
    (h : Fin 8) (r : Fin 128) (w : Fin 640) :
    dsOf (F := Ideal) vs o p (ix3 h r w)
      = (p (ix3 h r w) : EReal) * (dp vs o h r w - ∑ w' : Fin 640, dp vs o h r w' * p (ix3 h r w')) := by
  obtain ⟨k, hk⟩ := h
  interval_cases k
  all_goals
    pointwise [dsOf, dp, k0_pay23, k0_pay21, k0_pay20, k0_pay19, k0_pay18, k0_pay17, k0_pay16, k0_pay15, k0_pay14, k0_pay13, k0_pay12, k0_pay11]
    first | rfl | simp [hcol]

/-- The rows of dq. -/
theorem dqOf_apply (ks : Vec Ideal S640x512 .bf16) (ds : FVec Ideal S8x128x640 .bf16) (h : Fin 8) (r : Fin 128) (d : Fin 64) :
    dqOf (F := Ideal) ks ds (ix2 r (hcol h d))
      = (∑ w : Fin 640, (ds (ix3 h r w) : EReal) * ks (ix2 w (hcol h d))) * Ideal.ofBits .f32 0x3E000000#32 := by
  generalize hc : hcol h d = c
  have hv : c.val = 64 * h.val + d.val := by rw [← hc]
  pointwise [dqOf, k0_pay43, k0_pay33, k0_pay34, k0_pay35, k0_pay36, k0_pay37, k0_pay38, k0_pay39, k0_pay40]
  split_ifs
  all_goals
    refine congrArg (· * _) (Finset.sum_congr rfl fun x _ => congrArg₂ (· * ·) ?_ (congrArg ks (congrArg (fun a => ix2 x a) (Fin.ext ?_))))
    · exact congrArg ds (congrArg (fun a => ix3 a r x) (Fin.ext (by simp; omega)))
    · first | omega | (simp; done) | (simp; omega)

/-- What a point adds to the key accumulator. -/
theorem dkOf_apply (q : Vec Ideal S128x512 .bf16) (ds : FVec Ideal S8x128x640 .bf16) (acc : Vec Ideal S640x512 .f32)
    (h : Fin 8) (w : Fin 640) (d : Fin 64) :
    dkOf (F := Ideal) q ds acc (ix2 w (hcol h d))
      = (acc (ix2 w (hcol h d)) : EReal) + ∑ r : Fin 128, (ds (ix3 h r w) : EReal) * (q (ix2 r (hcol h d)) * Ideal.ofBits .f32 0x3E000000#32) := by
  generalize hc : hcol h d = c
  have hv : c.val = 64 * h.val + d.val := by rw [← hc]
  pointwise [dkOf, k0_pay10, k0_pay44, k0_pay41, k0_pay42]
  split_ifs
  all_goals
    refine congrArg (_ + ·) (Finset.sum_congr rfl fun x _ => congrArg₂ (· * ·) ?_ (congrArg (· * _) (congrArg q (congrArg (fun a => ix2 x a) (Fin.ext ?_)))))
    · exact congrArg ds (congrArg (fun a => ix3 a x w) (Fin.ext (by simp; omega)))
    · first | omega | (simp; done) | (simp; omega)

/-- What a point adds to the value accumulator. -/
theorem dvOf_apply (o : Vec Ideal S128x512 .bf16) (p : Vec Ideal S8x128x640 .bf16) (acc : Vec Ideal S640x512 .f32)
    (h : Fin 8) (w : Fin 640) (d : Fin 64) :
    dvOf (F := Ideal) o p acc (ix2 w (hcol h d))
      = (acc (ix2 w (hcol h d)) : EReal) + ∑ r : Fin 128, (p (ix3 h r w) : EReal) * o (ix2 r (hcol h d)) := by
  generalize hc : hcol h d = c
  have hv : c.val = 64 * h.val + d.val := by rw [← hc]
  pointwise [dvOf, k0_pay1, k0_pay45, k0_pay24, k0_pay25, k0_pay26, k0_pay27, k0_pay28, k0_pay29, k0_pay30, k0_pay31, k0_pay32, k0_pay11]
  split_ifs
  all_goals
    refine congrArg (_ + ·) (Finset.sum_congr rfl fun x _ => congrArg₂ (· * ·) ?_ (congrArg o (congrArg (fun a => ix2 x a) (Fin.ext ?_))))
    · exact congrArg p (congrArg (fun a => ix3 a x w) (Fin.ext (by simp; omega)))
    · first | omega | (simp; done) | (simp; omega)

end Cert.Attn

end
-- ==== Proof.Chunks.lean ====
/-
  The gradient of the chunked attention as plain sums: for a chunk `n`, a head `h`, a query `q` of the chunk and a key
  `k` of its band, from the projected rows, the output's gradient and the probabilities.
-/
module

public import proofs.«01_k».proof.Proof.Point

@[expose] public section

noncomputable section

namespace Cert.Attn

open Cert.KernelIdeal Cert.KernelIdeal.Gen
open Idealize.ShloMosaic Idealize.ShloMosaic.TcCoe

section
variable (x : Vec Ideal S4096x1536 .bf16) (g : Vec Ideal S4096x512 .bf16) (pr : ℕ → Fin 8 → ℕ → ℕ → EReal)

/-- An entry of the projected rows, zero outside. -/
def xN (y c : ℕ) : EReal := if h : y < 4096 ∧ c < 1536 then x (ix2 (⟨y, h.1⟩ : Fin 4096) (⟨c, h.2⟩ : Fin 1536)) else 0

/-- An entry of the output's gradient. -/
def gN (y c : ℕ) : EReal := if h : y < 4096 ∧ c < 512 then g (ix2 (⟨y, h.1⟩ : Fin 4096) (⟨c, h.2⟩ : Fin 512)) else 0

/-- A key, and a value, of the rows behind 512 rows of zeros. -/
def kN (y c : ℕ) : EReal := if y < 512 then 0 else xN x (y - 512) (512 + c)
def vN (y c : ℕ) : EReal := if y < 512 then 0 else xN x (y - 512) (1024 + c)

/-- A query's eighth. -/
def qN (y c : ℕ) : EReal := xN x y c * Ideal.ofBits .f32 0x3E000000#32

/-- The probability's gradient. -/
def dpN (n : ℕ) (h : Fin 8) (q k : ℕ) : EReal :=
  ∑ d : Fin 64, gN g (64 * n + q) (64 * h.val + d.val) * vN x (64 * n + k) (64 * h.val + d.val)

/-- The score's gradient. -/
def dsN (n : ℕ) (h : Fin 8) (q k : ℕ) : EReal :=
  pr n h q k * (dpN x g n h q k - ∑ k' : Fin 576, dpN x g n h q k'.val * pr n h q k'.val)

/-- The query's gradient. -/
def dqN (n : ℕ) (h : Fin 8) (q : ℕ) (c : ℕ) : EReal :=
  (∑ k : Fin 576, dsN x g pr n h q k.val * kN x (64 * n + k.val) c) * Ideal.ofBits .f32 0x3E000000#32

/-- What chunk `n` adds to row `y` of the padded keys' gradient, and of the padded values'. -/
def dkC (n : ℕ) (h : Fin 8) (y c : ℕ) : EReal :=
  if 64 * n ≤ y ∧ y < 64 * n + 576 then ∑ q : Fin 64, dsN x g pr n h q.val (y - 64 * n) * qN x (64 * n + q.val) c else 0
def dvC (n : ℕ) (h : Fin 8) (y c : ℕ) : EReal :=
  if 64 * n ≤ y ∧ y < 64 * n + 576 then ∑ q : Fin 64, pr n h q.val (y - 64 * n) * gN g (64 * n + q.val) c else 0

end

/-- A sum over a pair's 640 columns of what is zero outside the band of chunk `a` of the pair is the sum over the band. -/
theorem band_sum (a : Fin 2) (f : Fin 640 → EReal) (F : ℕ → EReal)
    (hf : ∀ w : Fin 640, f w = if 64 * a.val ≤ w.val ∧ w.val < 64 * a.val + 576 then F (w.val - 64 * a.val) else 0) :
    ∑ w, f w = ∑ k : Fin 576, F k.val := by
  symm
  have ha := a.isLt
  refine Finset.sum_of_injOn (fun k : Fin 576 => (⟨64 * a.val + k.val, by omega⟩ : Fin 640)) ?_ ?_ ?_ ?_
  · intro k _ k' _ e
    have := congrArg Fin.val e
    exact Fin.ext (by simp only at this; omega)
  · intro k _; exact Finset.mem_coe.mpr (Finset.mem_univ _)
  · intro w _ hw
    rw [hf, if_neg]
    intro hc
    exact hw ⟨⟨w.val - 64 * a.val, by omega⟩, Finset.mem_coe.mpr (Finset.mem_univ _), Fin.ext (by show 64 * a.val + (w.val - 64 * a.val) = w.val; omega)⟩
  · intro k _
    rw [hf, if_pos (by show 64 * a.val ≤ 64 * a.val + k.val ∧ 64 * a.val + k.val < _; omega)]
    show F k.val = F (64 * a.val + k.val - 64 * a.val)
    rw [Nat.add_sub_cancel_left]

/-- A sum over a pair's 128 rows, chunk by chunk. -/
theorem rows_sum (f : Fin 128 → EReal) (F : ℕ → ℕ → EReal) (hf : ∀ (a : Fin 2) (q : Fin 64), f ⟨64 * a.val + q.val, by omega⟩ = F a.val q.val) :
    ∑ r, f r = (∑ q : Fin 64, F 0 q.val) + ∑ q : Fin 64, F 1 q.val := by
  have h := Fin.sum_univ_add (a := 64) (b := 64) f
  refine h.trans (congrArg₂ (· + ·) (Finset.sum_congr rfl fun q _ => ?_) (Finset.sum_congr rfl fun q _ => ?_))
  · exact (congrArg f (Fin.ext (by simp))).trans (hf 0 q)
  · exact (congrArg f (Fin.ext (by simp [Nat.add_comm]))).trans (hf 1 q)

/-- A sum over 64 chunks, pair by pair. -/
theorem pairs_sum (F : ℕ → EReal) (N : ℕ) :
    ∑ i ∈ Finset.range N, (F (2 * i) + F (2 * i + 1)) = ∑ n ∈ Finset.range (2 * N), F n := by
  induction N with
  | zero => simp
  | succ N ih =>
    rw [Finset.sum_range_succ, ih, show 2 * (N + 1) = 2 * N + 1 + 1 from by ring, Finset.sum_range_succ, Finset.sum_range_succ, add_assoc]

end Cert.Attn

end
-- ==== Proof.RefBand.lean ====
/-
  The reference's operands at an index: the padded keys and values of a band, the queries' eighths, the output's gradient,
  and the reshapes between bands and blocks.
-/
module

public import proofs.«01_k».proof.Proof.RefChain
public import proofs.«01_k».proof.Proof.Chunks
public import Idealize.ShloMosaic.Lib.ValueIdxRank6

@[expose] public section

set_option maxRecDepth 16384

noncomputable section

namespace Cert.Attn.Ref

open Cert.ReferenceIdeal Cert.ReferenceIdeal.Gen Cert.ReferenceIdeal.Read
open Idealize.ShloMosaic
open Cert.Attn (xN gN kN vN qN)

variable (x0 : (⟨S4096x1536, .bf16⟩ : BufTy).Contents (Elt Ideal)) (x1 : (⟨S8x257, .f32⟩ : BufTy).Contents (Elt Ideal))
  (x2 : (⟨S4096x512, .bf16⟩ : BufTy).Contents (Elt Ideal))

theorem v30_apply (y : Fin 4608) (c : Fin 512) : val_main_v30 (F := Ideal) x0 (ix3 (0 : Fin 1) y c) = kN x0 y.val c.val := by
  unfold kN xN
  by_cases hy : y.val < 512
  · rw [if_pos hy]
    pointwise [val_main_v30, val_main_v29, val_main_cst_3, val_main_v3, val_main_v1, val_main_v0]
    simp [hy]
  · rw [if_neg hy, dif_pos ⟨by omega, by omega⟩]
    pointwise [val_main_v30, val_main_v29, val_main_cst_3, val_main_v3, val_main_v1, val_main_v0]
    simp [hy]

theorem v8_apply (y : Fin 4608) (c : Fin 512) : val_main_v8 (F := Ideal) x0 (ix3 (0 : Fin 1) y c) = vN x0 y.val c.val := by
  unfold vN xN
  by_cases hy : y.val < 512
  · rw [if_pos hy]
    pointwise [val_main_v8, val_main_v7, val_main_cst, val_main_v4, val_main_v1, val_main_v0]
    simp [hy]
  · rw [if_neg hy, dif_pos ⟨by omega, by omega⟩]
    pointwise [val_main_v8, val_main_v7, val_main_cst, val_main_v4, val_main_v1, val_main_v0]
    simp [hy]

/-- Chunk `b` of the padded keys, and of the padded values. -/
theorem v32_apply (b : Fin 72) (s : Fin 64) (h : Fin 8) (d : Fin 64) :
    val_main_v32 (F := Ideal) x0 (ix5 (0 : Fin 1) b s h d) = kN x0 (64 * b.val + s.val) (64 * h.val + d.val) := by
  rw [val_main_v32_apply, ← v30_apply x0 (⟨64 * b.val + s.val, by omega⟩ : Fin 4608) (⟨64 * h.val + d.val, by omega⟩ : Fin 512)]
  refine congrArg _ ?_
  funext a; refine Fin.ext ?_
  match a with
  | ⟨0, _⟩ => rfl
  | ⟨1, _⟩ => show ((((0 * 72 + b.val) * 64 + s.val) * 8 + h.val) * 64 + d.val) / 512 % 4608 = 64 * b.val + s.val; omega
  | ⟨2, _⟩ => show ((((0 * 72 + b.val) * 64 + s.val) * 8 + h.val) * 64 + d.val) % 512 = 64 * h.val + d.val; omega
theorem v10_apply (b : Fin 72) (s : Fin 64) (h : Fin 8) (d : Fin 64) :
    val_main_v10 (F := Ideal) x0 (ix5 (0 : Fin 1) b s h d) = vN x0 (64 * b.val + s.val) (64 * h.val + d.val) := by
  rw [val_main_v10_apply, ← v8_apply x0 (⟨64 * b.val + s.val, by omega⟩ : Fin 4608) (⟨64 * h.val + d.val, by omega⟩ : Fin 512)]
  refine congrArg _ ?_
  funext a; refine Fin.ext ?_
  match a with
  | ⟨0, _⟩ => rfl
  | ⟨1, _⟩ => show ((((0 * 72 + b.val) * 64 + s.val) * 8 + h.val) * 64 + d.val) / 512 % 4608 = 64 * b.val + s.val; omega
  | ⟨2, _⟩ => show ((((0 * 72 + b.val) * 64 + s.val) * 8 + h.val) * 64 + d.val) % 512 = 64 * h.val + d.val; omega

/-- Key `k` of a band is row `k % 64` of the band's block `k / 64`. -/
theorem band_of_blocks (x : S1x64x9x64x8x64.Idx → EReal) (n : Fin 64) (k : Fin 576) (h : Fin 8) (d : Fin 64) :
    shapeCast S1x64x576x8x64 x shapeCasts_S1x64x9x64x8x64_S1x64x576x8x64 (ix5 (0 : Fin 1) n k h d)
      = x (ix6 (0 : Fin 1) n (⟨k.val / 64, by omega⟩ : Fin 9) (⟨k.val % 64, by omega⟩ : Fin 64) h d) := by
  refine shapeCast_apply x _ _ _ ?_
  rw [Shape.rowMajor_val_six, Shape.rowMajor_val_five]
  show ((((0 * 64 + n.val) * 9 + k.val / 64) * 64 + k.val % 64) * 8 + h.val) * 64 + d.val = (((0 * 64 + n.val) * 576 + k.val) * 8 + h.val) * 64 + d.val
  omega

theorem blocks_of_band (x : S1x64x576x8x64.Idx → EReal) (n : Fin 64) (j : Fin 9) (s : Fin 64) (h : Fin 8) (d : Fin 64) :
    shapeCast S1x64x9x64x8x64 x shapeCasts_S1x64x576x8x64_S1x64x9x64x8x64 (ix6 (0 : Fin 1) n j s h d)
      = x (ix5 (0 : Fin 1) n (⟨64 * j.val + s.val, by omega⟩ : Fin 576) h d) := by
  refine shapeCast_apply x _ _ _ ?_
  rw [Shape.rowMajor_val_six, Shape.rowMajor_val_five]
  show (((0 * 64 + n.val) * 576 + (64 * j.val + s.val)) * 8 + h.val) * 64 + d.val = ((((0 * 64 + n.val) * 9 + j.val) * 64 + s.val) * 8 + h.val) * 64 + d.val
  omega

/-- The keys, and the values, of chunk `n`'s band. -/
theorem v47_apply (n : Fin 64) (k : Fin 576) (h : Fin 8) (d : Fin 64) :
    val_main_v47 (F := Ideal) x0 (ix5 (0 : Fin 1) n k h d) = kN x0 (64 * n.val + k.val) (64 * h.val + d.val) := by
  unfold val_main_v47
  rw [band_of_blocks]
  unfold val_main_v46
  rw [gather_apply _ _ v45_apply, v32_apply]
  refine congrArg (kN x0 · _) ?_
  show 64 * (n.val + k.val / 64) + k.val % 64 = _; omega
theorem v25_apply (n : Fin 64) (k : Fin 576) (h : Fin 8) (d : Fin 64) :
    val_main_v25 (F := Ideal) x0 (ix5 (0 : Fin 1) n k h d) = vN x0 (64 * n.val + k.val) (64 * h.val + d.val) := by
  unfold val_main_v25
  rw [band_of_blocks]
  unfold val_main_v24
  rw [gather_apply _ _ v23_apply, v10_apply]
  refine congrArg (vN x0 · _) ?_
  show 64 * (n.val + k.val / 64) + k.val % 64 = _; omega

/-- A query's eighth. -/
theorem v28_apply (n q : Fin 64) (h : Fin 8) (d : Fin 64) :
    val_main_v28 (F := Ideal) x0 (ix5 (0 : Fin 1) n q h d) = qN x0 (64 * n.val + q.val) (64 * h.val + d.val) := by
  unfold qN xN
  rw [dif_pos ⟨by omega, by omega⟩, val_main_v28_apply, val_main_v26_apply]
  pointwise [val_main_v27, val_main_cst_2, val_main_v2, val_main_v1, val_main_v0]
  refine congrArg (· * _) (congrArg x0 ?_)
  funext a; refine Fin.ext ?_
  match a with
  | ⟨0, _⟩ => show (((n.val * 64 + q.val) * 8 + h.val) * 64 + d.val) / 512 % 4096 = 64 * n.val + q.val; omega
  | ⟨1, _⟩ => show (((n.val * 64 + q.val) * 8 + h.val) * 64 + d.val) % 512 = 64 * h.val + d.val; omega

/-- The output's gradient, a head's rows as columns. -/
theorem v116_apply (n q : Fin 64) (h : Fin 8) (d : Fin 64) :
    val_main_v116 (F := Ideal) x2 (ix5 (0 : Fin 1) n h d q) = gN x2 (64 * n.val + q.val) (64 * h.val + d.val) := by
  unfold gN
  rw [dif_pos ⟨by omega, by omega⟩, val_main_v116_apply, val_main_v115_apply]
  pointwise [val_main_v6, val_main_v5]
  refine congrArg x2 ?_
  funext a; refine Fin.ext ?_
  match a with
  | ⟨0, _⟩ => show (((n.val * 64 + q.val) * 8 + h.val) * 64 + d.val) / 512 % 4096 = 64 * n.val + q.val; omega
  | ⟨1, _⟩ => show (((n.val * 64 + q.val) * 8 + h.val) * 64 + d.val) % 512 = 64 * h.val + d.val; omega

end Cert.Attn.Ref

end
-- ==== Proof.RowLemma.lean ====
/-
  The softmax's backward pass along one row over the extended reals: the quotient's two derivatives added are the
  probability times its own gradient less the row's mean. The gradients are any extended reals; the exponentials are
  positive reals.
-/
module

public import Idealize.ShloMosaic.PureOps.Ideal

@[expose] public section

noncomputable section

namespace Cert.Attn

open Idealize.ShloMosaic

/-- A positive real goes through a sum of extended reals. -/
theorem sum_mul_pos {ι : Type} (s : Finset ι) (f : ι → EReal) (r : ℝ) (hr : 0 < r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr.le) (EReal.coe_ne_top r) _ _

theorem div_pos_eq (x : EReal) (S : ℝ) (hS : 0 < S) : Ideal.div x (S : EReal) = x * ((S⁻¹ : ℝ) : EReal) := by
  have h0 : (S : EReal) ≠ 0 := by exact_mod_cast hS.ne'
  unfold Ideal.div
  rw [if_neg h0, EReal.coe_inv]

/-- One row. -/
theorem softmax_row {n : ℕ} (dp : Fin n → EReal) (e : Fin n → ℝ) (S : ℝ) (hS : 0 < S) (k : Fin n) :
    (Ideal.div (dp k) S + (0 + -(0 + ∑ k', dp k' * Ideal.div 1 ((S : EReal) * S) * (e k' : EReal)))) * (e k : EReal)
      = Ideal.div (e k) S * (dp k - ∑ k', dp k' * Ideal.div (e k' : EReal) S) := by
  have hi : 0 < S⁻¹ := inv_pos.mpr hS
  have hSS : ((S : EReal) * S) = ((S * S : ℝ) : EReal) := (EReal.coe_mul S S).symm
  have h1 : ∀ k', dp k' * Ideal.div 1 ((S : EReal) * S) * (e k' : EReal) = (dp k' * Ideal.div (e k' : EReal) S) * ((S⁻¹ : ℝ) : EReal) := by
    intro k'
    rw [hSS, div_pos_eq _ _ (mul_pos hS hS), div_pos_eq _ _ hS, mul_inv, EReal.coe_mul, one_mul]
    ac_rfl
  simp only [h1, zero_add]
  rw [← sum_mul_pos _ _ _ hi, div_pos_eq _ _ hS, div_pos_eq (e k : EReal) _ hS, ← EReal.neg_mul,
    ← EReal.right_distrib_of_nonneg_of_ne_top (EReal.coe_nonneg.mpr hi.le) (EReal.coe_ne_top _), sub_eq_add_neg]
  ac_rfl

end Cert.Attn

end
-- ==== Proof.RefGrad.lean ====
/-
  The reference's gradients at an index, as the chunks' sums of Chunks.lean, where every row of scores has real
  exponentials.
-/
module

public import proofs.«01_k».proof.Proof.RefBand
public import proofs.«01_k».proof.Proof.RowLemma

@[expose] public section

set_option maxRecDepth 16384

noncomputable section

namespace Cert.Attn.Ref

open Cert.ReferenceIdeal Cert.ReferenceIdeal.Gen Cert.ReferenceIdeal.Read
open Idealize.ShloMosaic
open Cert.Attn (xN gN kN vN qN dpN dsN dqN dkC dvC hcol)

variable (x0 : (⟨S4096x1536, .bf16⟩ : BufTy).Contents (Elt Ideal)) (x1 : (⟨S8x257, .f32⟩ : BufTy).Contents (Elt Ideal))
  (x2 : (⟨S4096x512, .bf16⟩ : BufTy).Contents (Elt Ideal))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reference's probabilities, zero outside. -/
def prN (n : ℕ) (h : Fin 8) (q k : ℕ) : EReal :=
  if hh : n < 64 ∧ q < 64 ∧ k < 576 then
    val_main_v108 (F := Ideal) x0 x1 (ix5 (0 : Fin 1) (⟨n, hh.1⟩ : Fin 64) h (⟨q, hh.2.1⟩ : Fin 64) (⟨k, hh.2.2⟩ : Fin 576)) else 0

theorem prN_val (n : Fin 64) (h : Fin 8) (q : Fin 64) (k : Fin 576) :
    prN x0 x1 n.val h q.val k.val = val_main_v108 (F := Ideal) x0 x1 (ix5 (0 : Fin 1) n h q k) :=
  dif_pos ⟨n.isLt, q.isLt, k.isLt⟩

/-- Every row of scores has positive real exponentials. -/
def RowsReal : Prop := ∃ e : Fin 64 → Fin 8 → Fin 64 → Fin 576 → ℝ, ∀ n h q k, 0 < e n h q k ∧
  val_main_v104 (F := Ideal) x0 x1 (ix5 (0 : Fin 1) n h q k) = ((e n h q k : ℝ) : EReal)

theorem v117_at (n : Fin 64) (h : Fin 8) (q : Fin 64) (k : Fin 576) :
    val_main_v117 (F := Ideal) x0 x2 (ix5 (0 : Fin 1) n h q k) = dpN x0 x2 n.val h q.val k.val := by
  rw [val_main_v117_apply]
  unfold dpN
  refine Finset.sum_congr rfl fun d _ => congrArg₂ (· * ·) ?_ ?_
  · exact (congrArg (val_main_v116 (F := Ideal) x2) (by funext a; fin_cases a <;> rfl)).trans (v116_apply x2 n q h d)
  · exact (congrArg (val_main_v25 (F := Ideal) x0) (by funext a; fin_cases a <;> rfl)).trans (v25_apply x0 n k h d)

theorem v105_at (n : Fin 64) (h : Fin 8) (q : Fin 64) :
    val_main_v105 (F := Ideal) x0 x1 (ix4 (0 : Fin 1) n h q) = 0 + ∑ k : Fin 576, val_main_v104 (F := Ideal) x0 x1 (ix5 (0 : Fin 1) n h q k) := by
  rw [val_main_v105_apply]
  refine congrArg₂ (· + ·) ?_ (Finset.sum_congr rfl fun k _ => congrArg _ (by funext a; fin_cases a <;> rfl))
  pointwise [val_main_cst_25]

theorem v108_at (n : Fin 64) (h : Fin 8) (q : Fin 64) (k : Fin 576) :
    val_main_v108 (F := Ideal) x0 x1 (ix5 (0 : Fin 1) n h q k)
      = Ideal.div (val_main_v104 (F := Ideal) x0 x1 (ix5 (0 : Fin 1) n h q k)) (val_main_v105 (F := Ideal) x0 x1 (ix4 (0 : Fin 1) n h q)) := by
  pointwise [val_main_v108, val_main_v107, val_main_v106]

theorem v122_at (n : Fin 64) (h : Fin 8) (q : Fin 64) (k : Fin 576) :
    val_main_v122 (F := Ideal) x0 x1 x2 (ix5 (0 : Fin 1) n h q k)
      = val_main_v117 (F := Ideal) x0 x2 (ix5 (0 : Fin 1) n h q k)
          * Ideal.div 1 (val_main_v105 (F := Ideal) x0 x1 (ix4 (0 : Fin 1) n h q) * val_main_v105 (F := Ideal) x0 x1 (ix4 (0 : Fin 1) n h q))
          * val_main_v104 (F := Ideal) x0 x1 (ix5 (0 : Fin 1) n h q k) := by
  pointwise [val_main_v122, val_main_v121, val_main_v120, val_main_v111, val_main_v110, val_main_cst_26, val_main_v109, val_main_v106]
  first | done | simp

theorem v123_at (n : Fin 64) (h : Fin 8) (q : Fin 64) :
    val_main_v123 (F := Ideal) x0 x1 x2 (ix4 (0 : Fin 1) n h q) = 0 + ∑ k : Fin 576, val_main_v122 (F := Ideal) x0 x1 x2 (ix5 (0 : Fin 1) n h q k) := by
  rw [val_main_v123_apply]
  refine congrArg₂ (· + ·) ?_ (Finset.sum_congr rfl fun k _ => congrArg _ (by funext a; fin_cases a <;> rfl))
  pointwise [val_main_cst_27]

theorem v128_at (n : Fin 64) (h : Fin 8) (q : Fin 64) :
    val_main_v128 (F := Ideal) x0 x1 x2 (ix3 n h q) = 0 + -val_main_v123 (F := Ideal) x0 x1 x2 (ix4 (0 : Fin 1) n h q) := by
  pointwise [val_main_v128, val_main_cst_28, val_main_v125, val_main_v124]
  unfold Ideal.hostReduceAdd
  rw [zero_add]
  refine (Finset.sum_eq_single (ix5 (0 : Fin 1) n h q (0 : Fin 1)) ?_ ?_).trans ?_
  · intro i hi hne
    refine absurd ?_ hne
    have e := (Finset.mem_filter.mp hi).2
    funext a
    match a with
    | ⟨0, _⟩ => exact Subsingleton.elim (α := Fin 1) _ _
    | ⟨1, _⟩ => exact congrFun e 0
    | ⟨2, _⟩ => exact congrFun e 1
    | ⟨3, _⟩ => exact congrFun e 2
    | ⟨4, _⟩ => exact Subsingleton.elim (α := Fin 1) _ _
  · intro hn
    refine absurd (Finset.mem_filter.mpr ⟨Finset.mem_univ _, ?_⟩) hn
    funext a
    match a with
    | ⟨0, _⟩ => rfl
    | ⟨1, _⟩ => rfl
    | ⟨2, _⟩ => rfl
  · pointwise []

theorem v132_at (n : Fin 64) (h : Fin 8) (q : Fin 64) (k : Fin 576) :
    val_main_v132 (F := Ideal) x0 x1 x2 (ix5 (0 : Fin 1) n h q k)
      = (Ideal.div (val_main_v117 (F := Ideal) x0 x2 (ix5 (0 : Fin 1) n h q k)) (val_main_v105 (F := Ideal) x0 x1 (ix4 (0 : Fin 1) n h q))
          + val_main_v128 (F := Ideal) x0 x1 x2 (ix3 n h q)) * val_main_v104 (F := Ideal) x0 x1 (ix5 (0 : Fin 1) n h q k) := by
  pointwise [val_main_v132, val_main_v131, val_main_v130, val_main_v129, val_main_v127, val_main_v126, val_main_v106]

/-- The mask: the key is one of the 4096. -/
theorem mask_at (n : Fin 64) (h : Fin 8) (q : Fin 64) (k : Fin 576) :
    val_main_v83_1 (F := Ideal) (ix5 (0 : Fin 1) n h q k) = BitVec.ofBool (decide (512 ≤ 64 * n.val + k.val)) := by
  pointwise [val_main_v83_1, val_main_v79, val_main_v78, val_main_v77, val_main_c_15, val_main_v76, val_main_v75, val_main_c_14, val_main_v74, val_main_v73, val_main_v72, val_main_v71, val_main_v70, val_main_c_13, val_main_v69, val_main_v68, val_main_v52, val_main_v51]
  clear h q
  revert n k
  decide +kernel

theorem v132_eq (hr : RowsReal x0 x1) (n : Fin 64) (h : Fin 8) (q : Fin 64) (k : Fin 576) :
    val_main_v132 (F := Ideal) x0 x1 x2 (ix5 (0 : Fin 1) n h q k) = dsN x0 x2 (prN x0 x1) n.val h q.val k.val := by
  obtain ⟨e, he⟩ := hr
  have hS : val_main_v105 (F := Ideal) x0 x1 (ix4 (0 : Fin 1) n h q) = ((∑ k, e n h q k : ℝ) : EReal) := by
    rw [v105_at, zero_add, coe_sum]
    exact Finset.sum_congr rfl fun k _ => (he n h q k).2
  have hpos : 0 < ∑ k, e n h q k := Finset.sum_pos (fun k _ => (he n h q k).1) ⟨k, Finset.mem_univ _⟩
  unfold dsN
  have hp : ∀ k : Fin 576, prN x0 x1 n.val h q.val k.val = Ideal.div (e n h q k : EReal) ((∑ k, e n h q k : ℝ) : EReal) := fun k => by
    rw [prN_val, v108_at, hS, (he n h q k).2]
  rw [v132_at, v128_at, v123_at, v117_at, hS, (he n h q k).2, hp k]
  simp only [v122_at, hS, v117_at, hp, (he n h q _).2]
  exact Cert.Attn.softmax_row (fun k : Fin 576 => dpN x0 x2 n.val h q.val k.val) (e n h q) _ hpos k

/-- The reference's score gradients, zero where the mask is. -/
theorem v133_eq (hr : RowsReal x0 x1) (n : Fin 64) (h : Fin 8) (q : Fin 64) (k : Fin 576) :
    val_main_v133 (F := Ideal) x0 x1 x2 (ix5 (0 : Fin 1) n h q k)
      = if 512 ≤ 64 * n.val + k.val then dsN x0 x2 (prN x0 x1) n.val h q.val k.val else 0 := by
  rw [val_main_v133_apply, mask_at, v132_eq x0 x1 x2 hr]
  by_cases hk : 512 ≤ 64 * n.val + k.val
  · rw [if_pos hk, decide_eq_true hk]; rfl
  · rw [if_neg hk, decide_eq_false hk]
    pointwise [val_main_call2_v0, val_main_call2_cst]
    simp

/-! ## The three gradients -/

theorem v159_eq (hr : RowsReal x0 x1) (n q : Fin 64) (h : Fin 8) (d : Fin 64) :
    val_main_v159 (F := Ideal) x0 x1 x2 (ix2 (⟨64 * n.val + q.val, by omega⟩ : Fin 4096) (hcol h d))
      = dqN x0 x2 (prN x0 x1) n.val h q.val (64 * h.val + d.val) := by
  have e : val_main_v159 (F := Ideal) x0 x1 x2 (ix2 (⟨64 * n.val + q.val, by omega⟩ : Fin 4096) (hcol h d))
      = val_main_v150 (F := Ideal) x0 x1 x2 (ix5 (0 : Fin 1) n q h d) := by
    rw [val_main_v159_apply, val_main_v158_apply, val_main_v151_apply]
    refine congrArg (val_main_v150 (F := Ideal) x0 x1 x2) ?_
    funext a; refine Fin.ext ?_
    match a with
    | ⟨0, _⟩ => rfl
    | ⟨1, _⟩ => show ((0 * 4096 + ((64 * n.val + q.val) * 512 + (64 * h.val + d.val)) / 512 % 4096) * 512 + ((64 * n.val + q.val) * 512 + (64 * h.val + d.val)) % 512) / 32768 % 64 = n.val; omega
    | ⟨2, _⟩ => show ((0 * 4096 + ((64 * n.val + q.val) * 512 + (64 * h.val + d.val)) / 512 % 4096) * 512 + ((64 * n.val + q.val) * 512 + (64 * h.val + d.val)) % 512) / 512 % 64 = q.val; omega
    | ⟨3, _⟩ => show ((0 * 4096 + ((64 * n.val + q.val) * 512 + (64 * h.val + d.val)) / 512 % 4096) * 512 + ((64 * n.val + q.val) * 512 + (64 * h.val + d.val)) % 512) / 64 % 8 = h.val; omega
    | ⟨4, _⟩ => show ((0 * 4096 + ((64 * n.val + q.val) * 512 + (64 * h.val + d.val)) / 512 % 4096) * 512 + ((64 * n.val + q.val) * 512 + (64 * h.val + d.val)) % 512) % 64 = d.val; omega
  rw [e, val_main_v150_apply, val_main_v142_apply, val_main_v141_apply]
  unfold dqN
  refine congrArg₂ (· * ·) (Finset.sum_congr rfl fun k _ => ?_) ?_
  · have e1 : val_main_v133 (F := Ideal) x0 x1 x2 (lidx_main_v141 (idx_main_v142 (ix5 (0 : Fin 1) n q h d)) k)
        = if 512 ≤ 64 * n.val + k.val then dsN x0 x2 (prN x0 x1) n.val h q.val k.val else 0 :=
      (congrArg (val_main_v133 (F := Ideal) x0 x1 x2) (by funext a; fin_cases a <;> rfl)).trans (v133_eq x0 x1 x2 hr n h q k)
    have e2 : val_main_v47 (F := Ideal) x0 (ridx_main_v141 (idx_main_v142 (ix5 (0 : Fin 1) n q h d)) k) = kN x0 (64 * n.val + k.val) (64 * h.val + d.val) :=
      (congrArg (val_main_v47 (F := Ideal) x0) (by funext a; fin_cases a <;> rfl)).trans (v47_apply x0 n k h d)
    rw [e1, e2]
    split_ifs with hk
    · rfl
    · rw [show kN x0 (64 * n.val + k.val) (64 * h.val + d.val) = 0 from if_pos (by omega), mul_zero, mul_zero]
  · pointwise [val_main_v149, val_main_cst_33]

/-- A row of the 4608 of a scatter's result, in chunks. -/
theorem scattered (x : S1x72x64x8x64.Idx → EReal) (F : ℕ → ℕ → EReal) (h : Fin 8) (d : Fin 64) (upd : S1x64x9x64x8x64.Idx → EReal)
    (z : S1x72x64x8x64.Idx → EReal) (hz : ∀ i, z i = 0) (idx : IVec S64x9x1 32)
    (hidx : ∀ (n : Fin 64) (j : Fin 9), idx (ix3 n j (0 : Fin 1)) = BitVec.ofNat 32 (n.val + j.val))
    (hx : x = Ideal.hostScatterAdd sd z idx upd)
    (hu : ∀ (n : Fin 64) (j : Fin 9) (s : Fin 64), 512 ≤ 64 * (n.val + j.val) + s.val → upd (ix6 (0 : Fin 1) n j s h d) = F n.val (64 * j.val + s.val))
    (b : Fin 72) (s : Fin 64) (hb : 512 ≤ 64 * b.val + s.val) :
    x (ix5 (0 : Fin 1) b s h d)
      = ∑ n ∈ Finset.range 64, if 64 * n ≤ 64 * b.val + s.val ∧ 64 * b.val + s.val < 64 * n + 576 then F n (64 * b.val + s.val - 64 * n) else 0 := by
  rw [hx, scatter_apply z hz idx hidx upd, ← Fin.sum_univ_eq_sum_range (fun n => if 64 * n ≤ 64 * b.val + s.val ∧ 64 * b.val + s.val < 64 * n + 576 then F n (64 * b.val + s.val - 64 * n) else 0)]
  refine Finset.sum_congr rfl fun n _ => ?_
  by_cases hn : n.val ≤ b.val ∧ b.val < n.val + 9
  · rw [dif_pos hn, if_pos (by omega), hu _ _ _ (by show 512 ≤ 64 * (n.val + (b.val - n.val)) + s.val; omega)]
    refine congrArg (F n.val) ?_
    show 64 * (b.val - n.val) + s.val = _; omega
  · rw [dif_neg hn, if_neg (by omega)]

theorem v161_eq (hr : RowsReal x0 x1) (y : Fin 4096) (h : Fin 8) (d : Fin 64) :
    val_main_v161 (F := Ideal) x0 x1 x2 (ix2 y (hcol h d))
      = ∑ n ∈ Finset.range 64, dkC x0 x2 (prN x0 x1) n h (512 + y.val) (64 * h.val + d.val) := by
  have e : val_main_v161 (F := Ideal) x0 x1 x2 (ix2 y (hcol h d))
      = val_main_v145 (F := Ideal) x0 x1 x2 (ix5 (0 : Fin 1) (⟨(512 + y.val) / 64, by omega⟩ : Fin 72) (⟨(512 + y.val) % 64, by omega⟩ : Fin 64) h d) := by
    rw [val_main_v161_apply, val_main_v160_apply, val_main_v148_apply, val_main_v146_apply]
    refine congrArg (val_main_v145 (F := Ideal) x0 x1 x2) ?_
    funext a; refine Fin.ext ?_
    match a with
    | ⟨0, _⟩ => rfl
    | ⟨1, _⟩ => show ((0 * 4608 + (512 + (y.val * 512 + (64 * h.val + d.val)) / 512 % 4096)) * 512 + (y.val * 512 + (64 * h.val + d.val)) % 512) / 32768 % 72 = (512 + y.val) / 64; omega
    | ⟨2, _⟩ => show ((0 * 4608 + (512 + (y.val * 512 + (64 * h.val + d.val)) / 512 % 4096)) * 512 + (y.val * 512 + (64 * h.val + d.val)) % 512) / 512 % 64 = (512 + y.val) % 64; omega
    | ⟨3, _⟩ => show ((0 * 4608 + (512 + (y.val * 512 + (64 * h.val + d.val)) / 512 % 4096)) * 512 + (y.val * 512 + (64 * h.val + d.val)) % 512) / 64 % 8 = h.val; omega
    | ⟨4, _⟩ => show ((0 * 4608 + (512 + (y.val * 512 + (64 * h.val + d.val)) / 512 % 4096)) * 512 + (y.val * 512 + (64 * h.val + d.val)) % 512) % 64 = d.val; omega
  rw [e, scattered (val_main_v145 (F := Ideal) x0 x1 x2) (fun n k => ∑ q : Fin 64, dsN x0 x2 (prN x0 x1) n h q.val k * qN x0 (64 * n + q.val) (64 * h.val + d.val)) h d
    (val_main_v143 (F := Ideal) x0 x1 x2) (val_main_v144 (F := Ideal)) (fun i => by pointwise [val_main_v144, val_main_cst_32]) (val_main_v45 (F := Ideal)) v45_apply rfl ?_ _ _
    (by show 512 ≤ 64 * ((512 + y.val) / 64) + (512 + y.val) % 64; omega)]
  · refine Finset.sum_congr rfl fun n _ => ?_
    unfold dkC
    rw [show 64 * ((512 + y.val) / 64) + (512 + y.val) % 64 = 512 + y.val from by omega]
  · intro n j s hj
    unfold val_main_v143
    rw [blocks_of_band, val_main_v140_apply, val_main_v139_apply]
    have hlt : 64 * j.val + s.val < 576 := by omega
    refine Finset.sum_congr rfl fun q _ => congrArg₂ (· * ·) ?_ ?_
    · exact (congrArg (val_main_v133 (F := Ideal) x0 x1 x2) (by funext a; fin_cases a <;> rfl)).trans
        ((v133_eq x0 x1 x2 hr n h q ⟨64 * j.val + s.val, hlt⟩).trans (if_pos (by show 512 ≤ 64 * n.val + (64 * j.val + s.val); omega)))
    · exact (congrArg (val_main_v28 (F := Ideal) x0) (by funext a; fin_cases a <;> rfl)).trans (v28_apply x0 n q h d)

theorem v163_eq (y : Fin 4096) (h : Fin 8) (d : Fin 64) :
    val_main_v163 (F := Ideal) x0 x1 x2 (ix2 y (hcol h d))
      = ∑ n ∈ Finset.range 64, dvC x2 (prN x0 x1) n h (512 + y.val) (64 * h.val + d.val) := by
  have e : val_main_v163 (F := Ideal) x0 x1 x2 (ix2 y (hcol h d))
      = val_main_v154 (F := Ideal) x0 x1 x2 (ix5 (0 : Fin 1) (⟨(512 + y.val) / 64, by omega⟩ : Fin 72) (⟨(512 + y.val) % 64, by omega⟩ : Fin 64) h d) := by
    rw [val_main_v163_apply, val_main_v162_apply, val_main_v157_apply, val_main_v155_apply]
    refine congrArg (val_main_v154 (F := Ideal) x0 x1 x2) ?_
    funext a; refine Fin.ext ?_
    match a with
    | ⟨0, _⟩ => rfl
    | ⟨1, _⟩ => show ((0 * 4608 + (512 + (y.val * 512 + (64 * h.val + d.val)) / 512 % 4096)) * 512 + (y.val * 512 + (64 * h.val + d.val)) % 512) / 32768 % 72 = (512 + y.val) / 64; omega
    | ⟨2, _⟩ => show ((0 * 4608 + (512 + (y.val * 512 + (64 * h.val + d.val)) / 512 % 4096)) * 512 + (y.val * 512 + (64 * h.val + d.val)) % 512) / 512 % 64 = (512 + y.val) % 64; omega
    | ⟨3, _⟩ => show ((0 * 4608 + (512 + (y.val * 512 + (64 * h.val + d.val)) / 512 % 4096)) * 512 + (y.val * 512 + (64 * h.val + d.val)) % 512) / 64 % 8 = h.val; omega
    | ⟨4, _⟩ => show ((0 * 4608 + (512 + (y.val * 512 + (64 * h.val + d.val)) / 512 % 4096)) * 512 + (y.val * 512 + (64 * h.val + d.val)) % 512) % 64 = d.val; omega
  rw [e, scattered (val_main_v154 (F := Ideal) x0 x1 x2) (fun n k => ∑ q : Fin 64, prN x0 x1 n h q.val k * gN x2 (64 * n + q.val) (64 * h.val + d.val)) h d
    (val_main_v152 (F := Ideal) x0 x1 x2) (val_main_v153 (F := Ideal)) (fun i => by pointwise [val_main_v153, val_main_cst_34]) (val_main_v23 (F := Ideal)) v23_apply rfl ?_ _ _
    (by show 512 ≤ 64 * ((512 + y.val) / 64) + (512 + y.val) % 64; omega)]
  · refine Finset.sum_congr rfl fun n _ => ?_
    unfold dvC
    rw [show 64 * ((512 + y.val) / 64) + (512 + y.val) % 64 = 512 + y.val from by omega]
  · intro n j s hj
    unfold val_main_v152
    rw [blocks_of_band, val_main_v119_apply, val_main_v118_apply]
    have hlt : 64 * j.val + s.val < 576 := by omega
    refine Finset.sum_congr rfl fun q _ => (congrArg₂ (· * ·) ?_ ?_).trans (mul_comm _ _)
    · exact (congrArg (val_main_v116 (F := Ideal) x2) (by funext a; fin_cases a <;> rfl)).trans (v116_apply x2 n q h d)
    · exact (congrArg (val_main_v108 (F := Ideal) x0 x1) (by funext a; fin_cases a <;> rfl)).trans
        (prN_val x0 x1 n h q ⟨64 * j.val + s.val, hlt⟩).symm

end Cert.Attn.Ref

end
-- ==== Proof.HostRead.lean ====
/-
  The lines before the call, read: the probabilities are the reference's own, and what the call is given is each pair of
  chunks' rows side by side, the first chunk's row before 64 zeros and the second's behind them.
-/
module

public import proofs.«01_k».proof.Proof.Region
public import proofs.«01_k».proof.Proof.RefGrad
public import Idealize.ShloMosaic.Lib.KernelVsHost

@[expose] public section

set_option maxRecDepth 16384

noncomputable section

namespace Cert.Attn

open Cert.KernelIdeal Cert.KernelIdeal.Gen
open Idealize.ShloMosaic Idealize.ShloMosaic.TcCoe Idealize.ShloMosaic.Tactic
open Cert.ReferenceIdeal.Read

variable {F : FTy → Type} [FloatOps F]
variable (m : (ℓ : Loc nD τ sig) → Buf (Elt F) ℓ) (c : Dev nD)

/-- The projected rows and the bias, as launched. -/
abbrev a0 : (⟨S4096x1536, .bf16⟩ : BufTy).Contents (Elt F) := m ((c : Thread nD τ).loc main_arg0)
abbrev a1 : (⟨S8x257, .f32⟩ : BufTy).Contents (Elt F) := m ((c : Thread nD τ).loc main_arg1)

set_option maxHeartbeats 4000000 in
theorem W1_v26 : W1 m c (Proc.devRef .tc main_v26) = val_main_v48 (F := F) (a0 m c) := by
  unfold W1
  simp only [hostOps0]
  after_results_simp
  rfl

set_option maxHeartbeats 4000000 in
theorem W1_v35 : W1 m c (Proc.devRef .tc main_v35) = val_main_v57 (F := F) := by
  unfold W1
  simp only [hostOps0]
  after_results_simp
  rfl

set_option maxHeartbeats 4000000 in
theorem W1_v30 : W1 m c (Proc.devRef .tc main_v30) = val_main_v52 (F := F) := by
  unfold W1
  simp only [hostOps0]
  after_results_simp
  rfl

set_option maxHeartbeats 4000000 in
theorem W1_c3 : W1 m c (Proc.devRef .tc main_c_3) = val_main_c_8 (F := F) := by
  unfold W1
  simp only [hostOps0]
  after_results_simp
  rfl

set_option maxHeartbeats 4000000 in
theorem W1_c4 : W1 m c (Proc.devRef .tc main_c_4) = val_main_c_9 (F := F) := by
  unfold W1
  simp only [hostOps0]
  after_results_simp
  rfl

set_option maxHeartbeats 4000000 in
theorem W1_arg1 : W1 m c (Proc.devRef .tc main_arg1) = a1 m c := by
  unfold W1
  simp only [hostOps0]
  after_results_simp
  rfl

/-- The four functions called, over any buffers. -/
theorem clip_at (W : Valuation τ sig (Elt F)) : StableHlo.after hostOps0_1 W (Proc.devRef .tc main_v36)
    = (minsi (broadcastInDim S64x576 ![] bcast_S_S64x576 (id (W (Proc.devRef .tc main_c_4) : (⟨S_, .i32⟩ : BufTy).Contents (Elt F))))
        (maxsi (broadcastInDim S64x576 ![] bcast_S_S64x576 (id (W (Proc.devRef .tc main_c_3) : (⟨S_, .i32⟩ : BufTy).Contents (Elt F))))
          (W (Proc.devRef .tc main_v35) : (⟨S64x576, .i32⟩ : BufTy).Contents (Elt F))) : (⟨S64x576, .i32⟩ : BufTy).Contents (Elt F)) := by
  simp only [hostOps0_1]
  after_results_simp
  rfl
theorem where_at (W : Valuation τ sig (Elt F)) : StableHlo.after hostOps0_3 W (Proc.devRef .tc main_v61)
    = (select (broadcastInDim S1x64x8x64x576 ![0, 1, 2, 3, 4] bcast_S1x64x1x1x576_S1x64x8x64x576_0_1_2_3_4
          (W (Proc.devRef .tc main_v57) : (⟨S1x64x1x1x576, .i1⟩ : BufTy).Contents (Elt F)))
        (W (Proc.devRef .tc main_v60) : (⟨S1x64x8x64x576, .f32⟩ : BufTy).Contents (Elt F))
        (broadcastInDim S1x64x8x64x576 ![] bcast_S_S1x64x8x64x576 (id (W (Proc.devRef .tc main_cst_11) : (⟨S_, .f32⟩ : BufTy).Contents (Elt F))))
        : (⟨S1x64x8x64x576, .f32⟩ : BufTy).Contents (Elt F)) := by
  simp only [hostOps0_3]
  after_results_simp
  rfl
theorem pad_at (W : Valuation τ sig (Elt F)) : StableHlo.after hostOps0_5 W (Proc.devRef .tc main_v78)
    = (pad S8x32x64x640 ![0, 0, 0, 0] ![0, 0, 0, 64] ![0, 0, 0, 0]
        (W (Proc.devRef .tc main_v77) : (⟨S8x32x64x576, .f32⟩ : BufTy).Contents (Elt F))
        (sitofp .f32 (W (Proc.devRef .tc main_c_15) : (⟨S_, .i32⟩ : BufTy).Contents (Elt F)))
        pads_S8x32x64x576_S8x32x64x640_000_000_000_0640 h_S_ : (⟨S8x32x64x640, .f32⟩ : BufTy).Contents (Elt F)) := by
  simp only [hostOps0_5]
  after_results_simp
  rfl
theorem pad0_at (W : Valuation τ sig (Elt F)) : StableHlo.after hostOps0_7 W (Proc.devRef .tc main_v81)
    = (pad S8x32x64x640 ![0, 0, 0, 64] ![0, 0, 0, 0] ![0, 0, 0, 0]
        (W (Proc.devRef .tc main_v80) : (⟨S8x32x64x576, .f32⟩ : BufTy).Contents (Elt F))
        (sitofp .f32 (W (Proc.devRef .tc main_c_16) : (⟨S_, .i32⟩ : BufTy).Contents (Elt F)))
        pads_S8x32x64x576_S8x32x64x640_000_000_000_6400 h_S_ : (⟨S8x32x64x640, .f32⟩ : BufTy).Contents (Elt F)) := by
  simp only [hostOps0_7]
  after_results_simp
  rfl

/-- The lines between, over any buffers. -/
theorem lines2_v57 (W : Valuation τ sig (Elt F)) (h30 : W (Proc.devRef .tc main_v30) = val_main_v52 (F := F)) :
    StableHlo.after hostOps0_2 W (Proc.devRef .tc main_v57) = val_main_v79 (F := F) := by
  simp only [hostOps0_2]
  after_results_simp
  rw [h30]
  rfl
theorem lines2_v60 (W : Valuation τ sig (Elt F)) (x0 : (⟨S4096x1536, .bf16⟩ : BufTy).Contents (Elt F)) (x1 : (⟨S8x257, .f32⟩ : BufTy).Contents (Elt F))
    (h36 : W (Proc.devRef .tc main_v36) = val_main_v58 (F := F)) (h26 : W (Proc.devRef .tc main_v26) = val_main_v48 (F := F) x0)
    (h1 : W (Proc.devRef .tc main_arg1) = x1) :
    StableHlo.after hostOps0_2 W (Proc.devRef .tc main_v60) = val_main_v82 (F := F) x0 x1 := by
  simp only [hostOps0_2]
  after_results_simp
  rw [h36, h26, h1]
  rfl
theorem lines2_cst (W : Valuation τ sig (Elt F)) :
    StableHlo.after hostOps0_2 W (Proc.devRef .tc main_cst_11) = val_main_cst_16 (F := F) := by
  simp only [hostOps0_2]
  after_results_simp
  rfl

/-- The probabilities with the heads in front. -/
def pairs (p : (⟨S1x64x8x64x576, .f32⟩ : BufTy).Contents (Elt F)) : (⟨S8x32x2x64x576, .f32⟩ : BufTy).Contents (Elt F) :=
  shapeCast _ (transpose S8x64x64x576 [1, 0, 2, 3] (shapeCast S64x8x64x576 p shapeCasts_S1x64x8x64x576_S64x8x64x576)
    transposes_S64x8x64x576_S8x64x64x576_1_0_2_3) shapeCasts_S8x64x64x576_S8x32x2x64x576

theorem lines4_v75 (W : Valuation τ sig (Elt F)) (x0 : (⟨S4096x1536, .bf16⟩ : BufTy).Contents (Elt F)) (x1 : (⟨S8x257, .f32⟩ : BufTy).Contents (Elt F))
    (h61 : W (Proc.devRef .tc main_v61) = val_main_v83_0 (F := F) x0 x1) :
    StableHlo.after hostOps0_4 W (Proc.devRef .tc main_v75) = pairs (val_main_v108 (F := F) x0 x1) := by
  simp only [hostOps0_4]
  after_results_simp
  rw [h61]
  rfl
theorem lines4_v77 (W : Valuation τ sig (Elt F)) (x0 : (⟨S4096x1536, .bf16⟩ : BufTy).Contents (Elt F)) (x1 : (⟨S8x257, .f32⟩ : BufTy).Contents (Elt F))
    (h61 : W (Proc.devRef .tc main_v61) = val_main_v83_0 (F := F) x0 x1) :
    StableHlo.after hostOps0_4 W (Proc.devRef .tc main_v77)
      = (shapeCast S8x32x64x576 (extractStridedSlice S8x32x1x64x576 ![0, 0, 0, 0, 0] (pairs (val_main_v108 (F := F) x0 x1))
          slices_S8x32x2x64x576_S8x32x1x64x576_0_0_0_0_0) shapeCasts_S8x32x1x64x576_S8x32x64x576 : (⟨S8x32x64x576, .f32⟩ : BufTy).Contents (Elt F)) := by
  simp only [hostOps0_4]
  after_results_simp
  rw [h61]
  rfl
theorem lines4_c (W : Valuation τ sig (Elt F)) :
    StableHlo.after hostOps0_4 W (Proc.devRef .tc main_c_15) = (constantI S_ 32 0#32 : (⟨S_, .i32⟩ : BufTy).Contents (Elt F)) := by
  simp only [hostOps0_4]
  after_results_simp

theorem lines6_v80 (W : Valuation τ sig (Elt F)) (p : (⟨S8x32x2x64x576, .f32⟩ : BufTy).Contents (Elt F))
    (h75 : W (Proc.devRef .tc main_v75) = p) :
    StableHlo.after hostOps0_6 W (Proc.devRef .tc main_v80)
      = (shapeCast S8x32x64x576 (extractStridedSlice S8x32x1x64x576 ![0, 0, 1, 0, 0] p
          slices_S8x32x2x64x576_S8x32x1x64x576_0_0_1_0_0) shapeCasts_S8x32x1x64x576_S8x32x64x576 : (⟨S8x32x64x576, .f32⟩ : BufTy).Contents (Elt F)) := by
  simp only [hostOps0_6]
  after_results_simp
  rw [h75]
  rfl
theorem lines6_c (W : Valuation τ sig (Elt F)) :
    StableHlo.after hostOps0_6 W (Proc.devRef .tc main_c_16) = (constantI S_ 32 0#32 : (⟨S_, .i32⟩ : BufTy).Contents (Elt F)) := by
  simp only [hostOps0_6]
  after_results_simp

/-- Two halves' rows one behind the other. -/
def joined (x y : (⟨S8x32x64x640, .f32⟩ : BufTy).Contents (Elt F)) : (⟨S8x4096x640, .bf16⟩ : BufTy).Contents (Elt F) :=
  truncf .bf16 (shapeCast S8x4096x640 (concatenate S8x32x128x640 2 [⟨S8x32x64x640, x⟩, ⟨S8x32x64x640, y⟩]
    concatenates_S8x32x64x640_S8x32x64x640_S8x32x128x640_d2) shapeCasts_S8x32x128x640_S8x4096x640) bitsLt_bf16_f32

theorem lines8_v84 (W : Valuation τ sig (Elt F)) (x y : (⟨S8x32x64x640, .f32⟩ : BufTy).Contents (Elt F))
    (h78 : W (Proc.devRef .tc main_v78) = x) (h81 : W (Proc.devRef .tc main_v81) = y) :
    StableHlo.after hostOps0_8 W (Proc.devRef .tc main_v84) = joined x y := by
  simp only [hostOps0_8]
  after_results_simp
  rw [← h78, ← h81]
  rfl

/-- Chunk `a` of every pair. -/
def half (off : Fin 5 → ℕ) (hs : S8x32x2x64x576.Slices off S8x32x1x64x576) (p : (⟨S8x32x2x64x576, .f32⟩ : BufTy).Contents (Elt F)) :
    (⟨S8x32x64x576, .f32⟩ : BufTy).Contents (Elt F) :=
  shapeCast S8x32x64x576 (extractStridedSlice S8x32x1x64x576 off p hs) shapeCasts_S8x32x1x64x576_S8x32x64x576
def padded0 (x : (⟨S8x32x64x576, .f32⟩ : BufTy).Contents (Elt F)) : (⟨S8x32x64x640, .f32⟩ : BufTy).Contents (Elt F) :=
  pad S8x32x64x640 ![0, 0, 0, 0] ![0, 0, 0, 64] ![0, 0, 0, 0] x (sitofp .f32 (constantI S_ 32 0#32 : IVec S_ 32) : FVec F S_ .f32)
    pads_S8x32x64x576_S8x32x64x640_000_000_000_0640 h_S_
def padded1 (x : (⟨S8x32x64x576, .f32⟩ : BufTy).Contents (Elt F)) : (⟨S8x32x64x640, .f32⟩ : BufTy).Contents (Elt F) :=
  pad S8x32x64x640 ![0, 0, 0, 64] ![0, 0, 0, 0] ![0, 0, 0, 0] x (sitofp .f32 (constantI S_ 32 0#32 : IVec S_ 32) : FVec F S_ .f32)
    pads_S8x32x64x576_S8x32x64x640_000_000_000_6400 h_S_
/-- What the call is given. -/
def wide (p : (⟨S1x64x8x64x576, .f32⟩ : BufTy).Contents (Elt F)) : (⟨S8x4096x640, .bf16⟩ : BufTy).Contents (Elt F) :=
  joined (padded0 (half ![0, 0, 0, 0, 0] slices_S8x32x2x64x576_S8x32x1x64x576_0_0_0_0_0 (pairs p)))
    (padded1 (half ![0, 0, 1, 0, 0] slices_S8x32x2x64x576_S8x32x1x64x576_0_0_1_0_0 (pairs p)))

theorem W2_v36 : W2 m c (Proc.devRef .tc main_v36) = val_main_v58 (F := F) := by
  unfold W2
  rw [clip_at, W1_c3, W1_c4, W1_v35]
  rfl
theorem W2_v26 : W2 m c (Proc.devRef .tc main_v26) = val_main_v48 (F := F) (a0 m c) := by
  unfold W2
  simp only [hostOps0_1]
  after_results_simp
  exact W1_v26 m c
theorem W2_v30 : W2 m c (Proc.devRef .tc main_v30) = val_main_v52 (F := F) := by
  unfold W2
  simp only [hostOps0_1]
  after_results_simp
  exact W1_v30 m c
theorem W2_arg1 : W2 m c (Proc.devRef .tc main_arg1) = a1 m c := by
  unfold W2
  simp only [hostOps0_1]
  after_results_simp
  exact W1_arg1 m c

theorem W4_v61 : W4 m c (Proc.devRef .tc main_v61) = val_main_v83_0 (F := F) (a0 m c) (a1 m c) := by
  unfold W4
  rw [where_at]
  unfold W3
  rw [lines2_v57 _ (W2_v30 m c), lines2_v60 _ _ _ (W2_v36 m c) (W2_v26 m c) (W2_arg1 m c), lines2_cst]
  rfl

theorem W5_v75 : W5 m c (Proc.devRef .tc main_v75) = pairs (val_main_v108 (F := F) (a0 m c) (a1 m c)) := lines4_v75 _ _ _ (W4_v61 m c)
theorem W6_v75 : W6 m c (Proc.devRef .tc main_v75) = pairs (val_main_v108 (F := F) (a0 m c) (a1 m c)) := by
  unfold W6
  simp only [hostOps0_5]
  after_results_simp
  exact W5_v75 m c
theorem W6_v78 : W6 m c (Proc.devRef .tc main_v78)
    = padded0 (half ![0, 0, 0, 0, 0] slices_S8x32x2x64x576_S8x32x1x64x576_0_0_0_0_0 (pairs (val_main_v108 (F := F) (a0 m c) (a1 m c)))) := by
  unfold W6
  rw [pad_at]
  unfold W5
  rw [lines4_v77 _ _ _ (W4_v61 m c), lines4_c]
  rfl
theorem W8_v81 : W8 m c (Proc.devRef .tc main_v81)
    = padded1 (half ![0, 0, 1, 0, 0] slices_S8x32x2x64x576_S8x32x1x64x576_0_0_1_0_0 (pairs (val_main_v108 (F := F) (a0 m c) (a1 m c)))) := by
  unfold W8
  rw [pad0_at]
  unfold W7
  rw [lines6_v80 _ _ (W6_v75 m c), lines6_c]
  rfl
theorem W8_v78 : W8 m c (Proc.devRef .tc main_v78)
    = padded0 (half ![0, 0, 0, 0, 0] slices_S8x32x2x64x576_S8x32x1x64x576_0_0_0_0_0 (pairs (val_main_v108 (F := F) (a0 m c) (a1 m c)))) := by
  unfold W8
  simp only [hostOps0_7]
  after_results_simp
  unfold W7
  simp only [hostOps0_6]
  after_results_simp
  exact W6_v78 m c

/-- What the region finds as its probabilities. -/
theorem W9_v84 : W9 m c (Proc.devRef .tc main_v84) = wide (val_main_v108 (F := F) (a0 m c) (a1 m c)) :=
  lines8_v84 _ _ _ (W8_v78 m c) (W8_v81 m c)

/-! ## Its entries -/

section
variable (p : (⟨S1x64x8x64x576, .f32⟩ : BufTy).Contents (Elt Ideal))

theorem pairs_at (h : Fin 8) (i : Fin 32) (a : Fin 2) (q : Fin 64) (k : Fin 576) :
    pairs p (ix5 h i a q k) = p (ix5 (0 : Fin 1) (⟨2 * i.val + a.val, by omega⟩ : Fin 64) h q k) := by
  have e1 : pairs p (ix5 h i a q k) = transpose S8x64x64x576 [1, 0, 2, 3] (shapeCast S64x8x64x576 p shapeCasts_S1x64x8x64x576_S64x8x64x576)
      transposes_S64x8x64x576_S8x64x64x576_1_0_2_3 (ix4 h (⟨2 * i.val + a.val, by omega⟩ : Fin 64) q k) := by
    refine shapeCast_apply _ _ _ _ ?_
    rw [Shape.rowMajor_val_four, Shape.rowMajor_val_five]
    show ((h.val * 64 + (2 * i.val + a.val)) * 64 + q.val) * 576 + k.val = (((h.val * 32 + i.val) * 2 + a.val) * 64 + q.val) * 576 + k.val
    omega
  rw [e1]
  pointwise []

theorem half_at (a : Fin 2) (hs : S8x32x2x64x576.Slices ![0, 0, a.val, 0, 0] S8x32x1x64x576) (x : (⟨S8x32x2x64x576, .f32⟩ : BufTy).Contents (Elt Ideal))
    (h : Fin 8) (i : Fin 32) (q : Fin 64) (k : Fin 576) : half ![0, 0, a.val, 0, 0] hs x (ix4 h i q k) = x (ix5 h i a q k) := by
  have e1 : half ![0, 0, a.val, 0, 0] hs x (ix4 h i q k) = extractStridedSlice S8x32x1x64x576 ![0, 0, a.val, 0, 0] x hs (ix5 h i (0 : Fin 1) q k) := by
    refine shapeCast_apply _ _ _ _ ?_
    rw [Shape.rowMajor_val_four, Shape.rowMajor_val_five]
    show (((h.val * 32 + i.val) * 1 + 0) * 64 + q.val) * 576 + k.val = ((h.val * 32 + i.val) * 64 + q.val) * 576 + k.val
    omega
  rw [e1]
  refine congrArg x ?_
  funext b; refine Fin.ext ?_
  match b with
  | ⟨0, _⟩ => show 0 + h.val = h.val; omega
  | ⟨1, _⟩ => show 0 + i.val = i.val; omega
  | ⟨2, _⟩ => show a.val + 0 = a.val; omega
  | ⟨3, _⟩ => show 0 + q.val = q.val; omega
  | ⟨4, _⟩ => show 0 + k.val = k.val; omega

theorem zero_at : (sitofp .f32 (constantI S_ 32 0#32 : IVec S_ 32) : FVec Ideal S_ .f32) (Shape.Idx.first h_S_) = 0 := by
  pointwise []
  show (((0#32 : BitVec 32).toInt : ℝ) : EReal) = 0
  simp

theorem padded0_at (x : (⟨S8x32x64x576, .f32⟩ : BufTy).Contents (Elt Ideal)) (h : Fin 8) (i : Fin 32) (q : Fin 64) (w : Fin 640) :
    padded0 x (ix4 h i q w) = if hw : w.val < 576 then x (ix4 h i q (⟨w.val, hw⟩ : Fin 576)) else 0 := by
  unfold padded0
  split_ifs with hw
  · refine pad_apply_of_inside _ _ _ _ _ _ _ _ _ fun b => ?_
    match b with
    | ⟨0, _⟩ => show h.val = 0 + h.val * 1; omega
    | ⟨1, _⟩ => show i.val = 0 + i.val * 1; omega
    | ⟨2, _⟩ => show q.val = 0 + q.val * 1; omega
    | ⟨3, _⟩ => show w.val = 0 + w.val * 1; omega
  · refine (pad_apply_of_not_inside _ _ _ _ _ _ _ _ (3 : Fin 4) ?_).trans zero_at
    rintro ⟨-, -, h3⟩
    have h3' : (w.val - 0) / 1 < 576 := h3
    omega

theorem padded1_at (x : (⟨S8x32x64x576, .f32⟩ : BufTy).Contents (Elt Ideal)) (h : Fin 8) (i : Fin 32) (q : Fin 64) (w : Fin 640) :
    padded1 x (ix4 h i q w) = if hw : 64 ≤ w.val then x (ix4 h i q (⟨w.val - 64, by omega⟩ : Fin 576)) else 0 := by
  unfold padded1
  split_ifs with hw
  · refine pad_apply_of_inside _ _ _ _ _ _ _ _ _ fun b => ?_
    match b with
    | ⟨0, _⟩ => show h.val = 0 + h.val * 1; omega
    | ⟨1, _⟩ => show i.val = 0 + i.val * 1; omega
    | ⟨2, _⟩ => show q.val = 0 + q.val * 1; omega
    | ⟨3, _⟩ => show w.val = 64 + (w.val - 64) * 1; omega
  · refine (pad_apply_of_not_inside _ _ _ _ _ _ _ _ (3 : Fin 4) ?_).trans zero_at
    rintro ⟨h1, -, -⟩
    have h1' : 64 ≤ w.val := h1
    omega

theorem joined_at (x y : (⟨S8x32x64x640, .f32⟩ : BufTy).Contents (Elt Ideal)) (h : Fin 8) (i : Fin 32) (a : Fin 2) (q : Fin 64) (w : Fin 640) :
    joined x y (ix3 h (⟨128 * i.val + 64 * a.val + q.val, by omega⟩ : Fin 4096) w) = if a.val = 0 then x (ix4 h i q w) else y (ix4 h i q w) := by
  unfold joined
  pointwise []
  have e : (128 * i.val + 64 * a.val + q.val) % 128 = 64 * a.val + q.val := by omega
  by_cases ha : a.val = 0
  · rw [dif_pos (by omega), if_pos ha]
    exact congrArg (fun r : Fin 64 => x (ix4 h i r w)) (Fin.ext (by show (128 * i.val + 64 * a.val + q.val) % 128 = q.val; omega))
  · rw [dif_neg (by omega), if_neg ha]
    exact congrArg (fun r : Fin 64 => y (ix4 h i r w)) (Fin.ext (by show (128 * i.val + 64 * a.val + q.val) % 128 - 64 = q.val; omega))

theorem wide_at (h : Fin 8) (i : Fin 32) (a : Fin 2) (q : Fin 64) (w : Fin 640) :
    wide p (ix3 h (⟨128 * i.val + 64 * a.val + q.val, by omega⟩ : Fin 4096) w)
      = if hw : 64 * a.val ≤ w.val ∧ w.val < 64 * a.val + 576 then
          p (ix5 (0 : Fin 1) (⟨2 * i.val + a.val, by omega⟩ : Fin 64) h q (⟨w.val - 64 * a.val, by omega⟩ : Fin 576)) else 0 := by
  unfold wide
  rw [joined_at]
  match a with
  | ⟨0, _⟩ =>
    rw [if_pos rfl, padded0_at]
    by_cases hw : w.val < 576
    · rw [dif_pos hw, dif_pos ⟨by show 64 * 0 ≤ _; omega, by show _ < 64 * 0 + 576; omega⟩]
      exact (half_at 0 slices_S8x32x2x64x576_S8x32x1x64x576_0_0_0_0_0 (pairs p) h i q _).trans (pairs_at p h i 0 q _)
    · rw [dif_neg hw, dif_neg fun hc => hw (by have : w.val < 64 * 0 + 576 := hc.2; omega)]
  | ⟨1, _⟩ =>
    rw [if_neg (by decide : ¬ (1 : ℕ) = 0), padded1_at]
    by_cases hw : 64 ≤ w.val
    · rw [dif_pos hw, dif_pos ⟨by show 64 * 1 ≤ _; omega, by show _ < 64 * 1 + 576; omega⟩]
      exact (half_at 1 slices_S8x32x2x64x576_S8x32x1x64x576_0_0_1_0_0 (pairs p) h i q _).trans (pairs_at p h i 1 q _)
    · rw [dif_neg hw, dif_neg fun hc => hw (by have : 64 * 1 ≤ w.val := hc.1; omega)]

end

end Cert.Attn

end
-- ==== Proof.RefReal.lean ====
/-
  Where q, k and the bias are finite, every score is a real number, so is its row's maximum, and every exponential is a
  positive real.
-/
module

public import proofs.«01_k».proof.Proof.RefGrad
public import Idealize.ShloMosaic.PureOps.Reduce
public import Idealize.ShloMosaic.PureOps.Ideal.Laws

@[expose] public section

set_option maxRecDepth 16384

noncomputable section

namespace Cert.Attn.Ref

open Cert.ReferenceIdeal Cert.ReferenceIdeal.Gen Cert.ReferenceIdeal.Read
open Idealize.ShloMosaic
open Cert.Attn (xN kN qN)

/-- An extended real that is a real. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.zero : IsReal 0 := ⟨0, rfl⟩
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
theorem IsReal.of_bounds {x : EReal} (h1 : ⊥ < x) (h2 : x < ⊤) : IsReal x := ⟨x.toReal, (EReal.coe_toReal h2.ne h1.ne').symm⟩
theorem IsReal.lt_top {x : EReal} : IsReal x → x < ⊤ | ⟨a, ha⟩ => ha ▸ EReal.coe_lt_top a
theorem IsReal.bot_lt {x : EReal} : IsReal x → ⊥ < x | ⟨a, ha⟩ => ha ▸ EReal.bot_lt_coe a

theorem real_eighth : IsReal (Ideal.ofBits .f32 0x3E000000#32) := by
  unfold Ideal.ofBits Ideal.ieee
  simp
  exact ⟨_, rfl⟩
theorem minus_inf : Ideal.ofBits .f32 0xFF800000#32 = ⊥ := by
  unfold Ideal.ofBits Ideal.ieee
  simp
theorem real_mask : IsReal (Ideal.ofBits .f32 0xF149F2CA#32) := by
  unfold Ideal.ofBits Ideal.ieee
  simp
  exact ⟨_, rfl⟩

variable (x0 : (⟨S4096x1536, .bf16⟩ : BufTy).Contents (Elt Ideal)) (x1 : (⟨S8x257, .f32⟩ : BufTy).Contents (Elt Ideal))
  (x2 : (⟨S4096x512, .bf16⟩ : BufTy).Contents (Elt Ideal))
  (h0 : ∀ y c, c < 1024 → IsReal (xN x0 y c)) (h1 : ∀ i, IsReal (x1 i))

include h0 in
theorem real_k (y c : ℕ) (hc : c < 512) : IsReal (kN x0 y c) := by
  unfold kN
  split_ifs
  · exact IsReal.zero
  · exact h0 _ _ (by omega)

include h0 in
theorem real_q (y c : ℕ) (hc : c < 512) : IsReal (qN x0 y c) := (h0 _ _ (by omega)).mul real_eighth

include h0 h1 in
theorem real_score (n : Fin 64) (h : Fin 8) (q : Fin 64) (k : Fin 576) :
    IsReal (val_main_v83_0 (F := Ideal) x0 x1 (ix5 (0 : Fin 1) n h q k)) := by
  have hdot : IsReal (val_main_v48 (F := Ideal) x0 (ix5 (0 : Fin 1) n h q k)) := by
    rw [val_main_v48_apply]
    refine IsReal.sum _ _ fun d => IsReal.mul ?_ ?_
    · have e := (congrArg (val_main_v28 (F := Ideal) x0) (show lidx_main_v48 (ix5 (0 : Fin 1) n h q k) d = ix5 (0 : Fin 1) n q h d from by
        funext a; fin_cases a <;> rfl)).trans (v28_apply x0 n q h d)
      rw [e]; exact real_q x0 h0 _ _ (by omega)
    · have e := (congrArg (val_main_v47 (F := Ideal) x0) (show ridx_main_v48 (ix5 (0 : Fin 1) n h q k) d = ix5 (0 : Fin 1) n k h d from by
        funext a; fin_cases a <;> rfl)).trans (v47_apply x0 n k h d)
      rw [e]; exact real_k x0 h0 _ _ (by omega)
  have hbias : ∀ i, IsReal (val_main_v67 (F := Ideal) x1 i) := fun i => by
    unfold val_main_v67 Host.gather
    exact h1 _
  pointwise [val_main_v83_0, val_main_v82, val_main_v81, val_main_v80, val_main_call1_v2, val_main_call1_v0, val_main_cst_16]
  unfold Scalar.select
  split_ifs
  · exact hdot.add (hbias _)
  · exact real_mask

include h0 h1 in
theorem real_max (j : S1x64x8x64.Idx) : IsReal (val_main_v84 (F := Ideal) x0 x1 j) := by
  unfold val_main_v84
  rw [Host.reduce_eq_fold]
  have hb : (val_main_cst_17 (F := Ideal)) (Shape.Idx.first h_S_) = (⊥ : EReal) := by
    pointwise [val_main_cst_17]
    exact minus_inf
  have hx : ∀ i, IsReal (val_main_v83_0 (F := Ideal) x0 x1 i) := fun i => by
    have e : i = ix5 (0 : Fin 1) (i 1 : Fin 64) (i 2 : Fin 8) (i 3 : Fin 64) (i 4 : Fin 576) := by
      funext a
      match a with
      | ⟨0, _⟩ => exact Subsingleton.elim (α := Fin 1) _ _
      | ⟨1, _⟩ => rfl
      | ⟨2, _⟩ => rfl
      | ⟨3, _⟩ => rfl
      | ⟨4, _⟩ => rfl
    rw [e]; exact real_score x0 x1 h0 h1 _ _ _ _
  rw [hb]
  refine IsReal.of_bounds ?_ ?_
  · refine (Finset.lt_fold_max (β := EReal) ⊥).mpr (Or.inr ⟨ix5 (0 : Fin 1) (j 1 : Fin 64) (j 2 : Fin 8) (j 3 : Fin 64) (0 : Fin 576), Finset.mem_filter.mpr ⟨Finset.mem_univ _, ?_⟩, (hx _).bot_lt⟩)
    funext a
    match a with
    | ⟨0, _⟩ => exact Subsingleton.elim (α := Fin 1) _ _
    | ⟨1, _⟩ => rfl
    | ⟨2, _⟩ => rfl
    | ⟨3, _⟩ => rfl
  · exact (Finset.fold_max_lt (β := EReal) ⊤).mpr ⟨bot_lt_top, fun i _ => (hx i).lt_top⟩

theorem exp_sub {a b : EReal} : IsReal a → IsReal b → ∃ r : ℝ, 0 < r ∧
    FloatOps.hostUnary (F := Ideal) (φ := .f32) .exp (FloatOps.subf (F := Ideal) (φ := .f32) a
      (FloatOps.maximumf (F := Ideal) (φ := .f32) (Ideal.ofBits .f32 0xFF800000#32) b)) = (r : EReal)
  | ⟨s, hs⟩, ⟨M, hM⟩ => ⟨Real.exp (s - M), Real.exp_pos _, by
      show Ideal.exp (a - max (Ideal.ofBits .f32 0xFF800000#32) b) = _
      rw [minus_inf, hs, hM, max_eq_right bot_le, ← EReal.coe_sub, Ideal.exp_coe]⟩

include h0 h1 in
theorem rows_key (n : Fin 64) (h : Fin 8) (q : Fin 64) (k : Fin 576) : ∃ r : ℝ, 0 < r ∧
    val_main_v104 (F := Ideal) x0 x1 (ix5 (0 : Fin 1) n h q k) = (r : EReal) := by
  rw [val_main_v104_apply, val_main_v103_apply, val_main_v102_apply, val_main_v101_apply, val_main_v91_apply, val_main_v90_apply,
    val_main_cst_19_apply]
  exact exp_sub (real_score x0 x1 h0 h1 n h q k) (real_max x0 x1 h0 h1 _)

include h0 h1 in
theorem rows_real : RowsReal x0 x1 := by
  choose e he using rows_key x0 x1 h0 h1
  exact ⟨e, he⟩

end Cert.Attn.Ref

end
-- ==== Proof.KernelSums.lean ====
/-
  What the kernel's points compute over the reals, as the chunks' sums of Chunks.lean: the score gradients, the rows of
  dq, and the two accumulators after all 32 points.
-/
module

public import proofs.«01_k».proof.Proof.Chunks

@[expose] public section

set_option maxRecDepth 16384

noncomputable section

namespace Cert.Attn

open Cert.KernelIdeal Cert.KernelIdeal.Gen
open Idealize.ShloMosaic Idealize.ShloMosaic.TcCoe
open Idealize.ShloMosaic.VecWindow (window put)

/-- A window's place along an axis. -/
theorem unit_val {s : Shape} (off size : Fin s.rank → ℕ) (h) (y) (a : Fin s.rank) :
    ((Rect.unit (s := s) off size h).emb y a).val = off a + (y a).val := by
  show off a + 1 * (y a).val = _
  rw [Nat.one_mul]

/-! ## The padded buffers and slabs at an index -/

theorem padded_apply (z : Vec Ideal S512x512 .bf16) (w : Vec Ideal S4096x512 .bf16) (y : Fin 4608) (c : Fin 512) :
    padded z w (ix2 y c) = if hy : y.val < 512 then z (ix2 (⟨y.val, hy⟩ : Fin 512) c) else w (ix2 (⟨y.val - 512, by omega⟩ : Fin 4096) c) := by
  unfold padded
  by_cases hy : y.val < 512
  · rw [dif_pos hy]
    refine (put_out (s := S4608x512) _ _ _ _ _ fun h => ?_).trans ((put_in (s := S4608x512) _ _ _ _ _ ?_).trans (congrArg z ?_))
    · have h0 : 512 ≤ y.val := (h 0).1
      omega
    · intro a
      match a with
      | ⟨0, _⟩ => exact ⟨Nat.zero_le _, by show y.val < 0 + 512; omega⟩
      | ⟨1, _⟩ => exact ⟨Nat.zero_le _, by show c.val < 0 + 512; omega⟩
    · funext a; refine Fin.ext ?_
      match a with
      | ⟨0, _⟩ => exact Nat.sub_zero _
      | ⟨1, _⟩ => exact Nat.sub_zero _
  · rw [dif_neg hy]
    refine (put_in (s := S4608x512) _ _ _ _ _ ?_).trans (congrArg w ?_)
    · intro a
      match a with
      | ⟨0, _⟩ => exact ⟨by show 512 ≤ y.val; omega, by show y.val < 512 + 4096; omega⟩
      | ⟨1, _⟩ => exact ⟨Nat.zero_le _, by show c.val < 0 + 512; omega⟩
    · funext a; refine Fin.ext ?_
      match a with
      | ⟨0, _⟩ => rfl
      | ⟨1, _⟩ => exact Nat.sub_zero _

theorem cols_apply (x : Vec Ideal S4096x1536 .bf16) (o : ℕ) (ho) (y : Fin 4096) (c : Fin 512) (hoc : o ≤ 1024) :
    cols x o ho (ix2 y c) = xN x y.val (o + c.val) := by
  unfold xN
  rw [dif_pos ⟨y.isLt, by omega⟩]
  unfold cols window
  refine congrArg x ?_
  funext a; refine Fin.ext ((unit_val _ _ _ _ a).trans ?_)
  match a with
  | ⟨0, _⟩ => exact Nat.zero_add _
  | ⟨1, _⟩ => rfl

theorem zero_word : (Ideal.ofBits .bf16 0x0000#16 : EReal) = 0 := by simp
theorem zero_word32 : (Ideal.ofBits .f32 0x00000000#32 : EReal) = 0 := by simp

theorem pay4_apply (i : S512x512.Idx) : k0_pay4 (F := Ideal) i = 0 := by pointwise [k0_pay4]
theorem pay5_apply (i : S512x512.Idx) : k0_pay5 (F := Ideal) i = 0 := by pointwise [k0_pay5]

theorem slab_apply {e : EltTy} (x : Vec Ideal S4608x512 e) (n : ℕ) (h : n < 32) (w : Fin 640) (c : Fin 512) :
    slab x n h (ix2 w c) = x (ix2 (⟨128 * n + w.val, by omega⟩ : Fin 4608) c) := by
  unfold slab window
  refine congrArg x ?_
  funext a; refine Fin.ext ((unit_val _ _ _ _ a).trans ?_)
  match a with
  | ⟨0, _⟩ => rfl
  | ⟨1, _⟩ => exact Nat.zero_add _

theorem kp0_apply (x : Vec Ideal S4096x1536 .bf16) (y : Fin 4608) (c : Fin 512) : kp0 x (ix2 y c) = kN x y.val c.val := by
  unfold kp0 kN
  rw [padded_apply]
  split_ifs with hy
  · exact pay4_apply _
  · exact cols_apply x 512 _ _ _ (by omega)

theorem vp0_apply (x : Vec Ideal S4096x1536 .bf16) (y : Fin 4608) (c : Fin 512) : vp0 x (ix2 y c) = vN x y.val c.val := by
  unfold vp0 vN
  rw [padded_apply]
  split_ifs with hy
  · exact pay5_apply _
  · exact cols_apply x 1024 _ _ _ (by omega)

theorem slabPut_apply {e : EltTy} (x : Vec Ideal S4608x512 e) (n : ℕ) (h : n < 32) (u : Vec Ideal S640x512 e) (y : Fin 4608) (c : Fin 512) :
    slabPut x n u (ix2 y c) = if hy : 128 * n ≤ y.val ∧ y.val < 128 * n + 640 then u (ix2 (⟨y.val - 128 * n, by omega⟩ : Fin 640) c) else x (ix2 y c) := by
  unfold slabPut
  by_cases hy : 128 * n ≤ y.val ∧ y.val < 128 * n + 640
  · rw [dif_pos hy]
    refine (put_in (s := S4608x512) _ _ _ _ _ ?_).trans (congrArg u ?_)
    · intro a
      match a with
      | ⟨0, _⟩ => exact hy
      | ⟨1, _⟩ => exact ⟨Nat.zero_le _, by show c.val < 0 + 512; omega⟩
    · funext a; refine Fin.ext ?_
      match a with
      | ⟨0, _⟩ => rfl
      | ⟨1, _⟩ => exact Nat.sub_zero _
  · rw [dif_neg hy]
    exact put_out (s := S4608x512) _ _ _ _ _ fun h => hy (h 0)

section
variable {x : Vec Ideal S4096x1536 .bf16} {g : Vec Ideal S4096x512 .bf16} {pr : ℕ → Fin 8 → ℕ → ℕ → EReal}
  {Q O : (n : ℕ) → n < 32 → Vec Ideal S128x512 .bf16} {P : (n : ℕ) → n < 32 → Vec Ideal S8x128x640 .bf16}

/-- The blocks the points read: 128 rows of the queries and of the output's gradient, and the probabilities of two
    chunks, each in its place among the pair's 640 columns. -/
structure Blocks (x : Vec Ideal S4096x1536 .bf16) (g : Vec Ideal S4096x512 .bf16) (pr : ℕ → Fin 8 → ℕ → ℕ → EReal)
    (Q O : (n : ℕ) → n < 32 → Vec Ideal S128x512 .bf16) (P : (n : ℕ) → n < 32 → Vec Ideal S8x128x640 .bf16) : Prop where
  q : ∀ n h (r : Fin 128) (c : Fin 512), Q n h (ix2 r c) = xN x (128 * n + r.val) c.val
  o : ∀ n h (r : Fin 128) (c : Fin 512), O n h (ix2 r c) = gN g (128 * n + r.val) c.val
  p : ∀ n h (hd : Fin 8) (a : Fin 2) (q : Fin 64) (w : Fin 640), P n h (ix3 hd (⟨64 * a.val + q.val, by omega⟩ : Fin 128) w)
    = if 64 * a.val ≤ w.val ∧ w.val < 64 * a.val + 576 then pr (2 * n + a.val) hd q.val (w.val - 64 * a.val) else 0

variable (B : Blocks x g pr Q O P)
include B

theorem dp_eq (n : ℕ) (h : n < 32) (hd : Fin 8) (a : Fin 2) (q : Fin 64) (w : Fin 640) (hw : 64 * a.val ≤ w.val) :
    dp (slab (vp0 x) n h) (O n h) hd ⟨64 * a.val + q.val, by omega⟩ w = dpN x g (2 * n + a.val) hd q.val (w.val - 64 * a.val) := by
  unfold dp dpN
  refine Finset.sum_congr rfl fun d _ => ?_
  rw [B.o, slab_apply, vp0_apply]
  refine congrArg₂ (· * ·) (congrArg (gN g · _) ?_) (congrArg (vN x · _) ?_)
  · show 128 * n + (64 * a.val + q.val) = _; ring
  · show 128 * n + w.val = _; omega

/-- The score gradients of a point. -/
theorem dsAt_eq (n : ℕ) (h : n < 32) (hd : Fin 8) (a : Fin 2) (q : Fin 64) (w : Fin 640) :
    dsAt x O P n h (ix3 hd ⟨64 * a.val + q.val, by omega⟩ w)
      = if 64 * a.val ≤ w.val ∧ w.val < 64 * a.val + 576 then dsN x g pr (2 * n + a.val) hd q.val (w.val - 64 * a.val) else 0 := by
  unfold dsAt
  rw [dsOf_apply, B.p]
  split_ifs with hw
  · unfold dsN
    rw [dp_eq B n h hd a q w hw.1]
    refine congrArg (fun z : EReal => pr (2 * n + a.val) hd q.val (w.val - 64 * a.val) * (dpN x g (2 * n + a.val) hd q.val (w.val - 64 * a.val) - z)) ?_
    refine band_sum a _ (fun k => dpN x g (2 * n + a.val) hd q.val k * pr (2 * n + a.val) hd q.val k) fun w' => ?_
    rw [B.p]
    split_ifs with hw'
    · rw [dp_eq B n h hd a q w' hw'.1]
    · exact mul_zero _
  · exact zero_mul _

/-- The rows of dq of a point. -/
theorem dqAt_eq (n : ℕ) (h : n < 32) (hd : Fin 8) (a : Fin 2) (q : Fin 64) (d : Fin 64) :
    dqAt x O P n h (ix2 (⟨64 * a.val + q.val, by omega⟩ : Fin 128) (hcol hd d)) = dqN x g pr (2 * n + a.val) hd q.val (64 * hd.val + d.val) := by
  unfold dqAt dqN
  rw [dqOf_apply]
  refine congrArg (· * _) ?_
  refine band_sum a _ (fun k => dsN x g pr (2 * n + a.val) hd q.val k * kN x (64 * (2 * n + a.val) + k) (64 * hd.val + d.val)) fun w => ?_
  rw [dsAt_eq B]
  split_ifs with hw
  · rw [slab_apply, kp0_apply]
    refine congrArg (dsN x g pr (2 * n + a.val) hd q.val (w.val - 64 * a.val) * ·) (congrArg (kN x · (64 * hd.val + d.val)) ?_)
    show 128 * n + w.val = _; omega
  · exact zero_mul _

/-- What point `n` adds to the key accumulator at a row of its slab. -/
theorem dk_point (n : ℕ) (h : n < 32) (hd : Fin 8) (w : Fin 640) (d : Fin 64) :
    ∑ r : Fin 128, dsAt x O P n h (ix3 hd r w) * (Q n h (ix2 r (hcol hd d)) * Ideal.ofBits .f32 0x3E000000#32)
      = dkC x g pr (2 * n) hd (128 * n + w.val) (64 * hd.val + d.val) + dkC x g pr (2 * n + 1) hd (128 * n + w.val) (64 * hd.val + d.val) := by
  refine (rows_sum _ (fun a q => if 64 * a ≤ w.val ∧ w.val < 64 * a + 576 then
      dsN x g pr (2 * n + a) hd q (w.val - 64 * a) * qN x (64 * (2 * n + a) + q) (64 * hd.val + d.val) else 0) ?_).trans (congrArg₂ (· + ·) ?_ ?_)
  · intro a q
    rw [dsAt_eq B, B.q]
    split_ifs with hw
    · unfold qN
      refine congrArg (dsN x g pr (2 * n + a.val) hd q.val (w.val - 64 * a.val) * ·) (congrArg (· * Ideal.ofBits .f32 0x3E000000#32) (congrArg (xN x · (64 * hd.val + d.val)) ?_))
      show 128 * n + (64 * a.val + q.val) = _; ring
    · exact zero_mul _
  · unfold dkC
    by_cases hw : 64 * 0 ≤ w.val ∧ w.val < 64 * 0 + 576
    · rw [if_pos (by omega)]
      refine Finset.sum_congr rfl fun q _ => ?_
      rw [if_pos hw]
      refine congrArg₂ (fun k y => dsN x g pr (2 * n) hd q.val k * qN x y _) (by omega) (by omega)
    · rw [if_neg (by omega)]
      exact Finset.sum_eq_zero fun q _ => if_neg hw
  · unfold dkC
    by_cases hw : 64 * 1 ≤ w.val ∧ w.val < 64 * 1 + 576
    · rw [if_pos (by omega)]
      refine Finset.sum_congr rfl fun q _ => ?_
      rw [if_pos hw]
      refine congrArg₂ (fun k y => dsN x g pr (2 * n + 1) hd q.val k * qN x y _) (by omega) (by omega)
    · rw [if_neg (by omega)]
      exact Finset.sum_eq_zero fun q _ => if_neg hw

/-- What point `n` adds to the value accumulator at a row of its slab. -/
theorem dv_point (n : ℕ) (h : n < 32) (hd : Fin 8) (w : Fin 640) (d : Fin 64) :
    ∑ r : Fin 128, (P n h (ix3 hd r w) : EReal) * O n h (ix2 r (hcol hd d))
      = dvC g pr (2 * n) hd (128 * n + w.val) (64 * hd.val + d.val) + dvC g pr (2 * n + 1) hd (128 * n + w.val) (64 * hd.val + d.val) := by
  refine (rows_sum _ (fun a q => if 64 * a ≤ w.val ∧ w.val < 64 * a + 576 then
      pr (2 * n + a) hd q (w.val - 64 * a) * gN g (64 * (2 * n + a) + q) (64 * hd.val + d.val) else 0) ?_).trans (congrArg₂ (· + ·) ?_ ?_)
  · intro a q
    rw [B.p, B.o]
    split_ifs with hw
    · refine congrArg (pr (2 * n + a.val) hd q.val (w.val - 64 * a.val) * ·) (congrArg (gN g · (64 * hd.val + d.val)) ?_)
      show 128 * n + (64 * a.val + q.val) = _; ring
    · exact zero_mul _
  · unfold dvC
    by_cases hw : 64 * 0 ≤ w.val ∧ w.val < 64 * 0 + 576
    · rw [if_pos (by omega)]
      refine Finset.sum_congr rfl fun q _ => ?_
      rw [if_pos hw]
      refine congrArg₂ (fun k y => pr (2 * n) hd q.val k * gN g y _) (by omega) (by omega)
    · rw [if_neg (by omega)]
      exact Finset.sum_eq_zero fun q _ => if_neg hw
  · unfold dvC
    by_cases hw : 64 * 1 ≤ w.val ∧ w.val < 64 * 1 + 576
    · rw [if_pos (by omega)]
      refine Finset.sum_congr rfl fun q _ => ?_
      rw [if_pos hw]
      refine congrArg₂ (fun k y => pr (2 * n + 1) hd q.val k * gN g y _) (by omega) (by omega)
    · rw [if_neg (by omega)]
      exact Finset.sum_eq_zero fun q _ => if_neg hw

omit B in
/-- A chunk adds nothing outside its pair's slab. -/
theorem dkC_out (n : ℕ) (hd : Fin 8) (y c : ℕ) (hy : ¬(128 * n ≤ y ∧ y < 128 * n + 640)) :
    dkC x g pr (2 * n) hd y c + dkC x g pr (2 * n + 1) hd y c = 0 := by
  unfold dkC
  rw [if_neg (by omega), if_neg (by omega), add_zero]
omit B in
theorem dvC_out (n : ℕ) (hd : Fin 8) (y c : ℕ) (hy : ¬(128 * n ≤ y ∧ y < 128 * n + 640)) :
    dvC g pr (2 * n) hd y c + dvC g pr (2 * n + 1) hd y c = 0 := by
  unfold dvC
  rw [if_neg (by omega), if_neg (by omega), add_zero]

/-- The key accumulator before point `N`. -/
theorem kaAt_eq (N : ℕ) (hN : N ≤ 32) (hd : Fin 8) (y : Fin 4608) (d : Fin 64) :
    kaAt x Q O P N (ix2 y (hcol hd d))
      = ∑ i ∈ Finset.range N, (dkC x g pr (2 * i) hd y.val (64 * hd.val + d.val) + dkC x g pr (2 * i + 1) hd y.val (64 * hd.val + d.val)) := by
  induction N with
  | zero =>
    rw [Finset.range_zero, Finset.sum_empty, kaAt]
    pointwise [ka0, k0_pay7, k0_pay6]
    first | done | simp
  | succ N ih =>
    rw [kaAt_succ _ _ _ _ _ (by omega), slabPut_apply _ _ (by omega), Finset.sum_range_succ, ← ih (by omega)]
    split_ifs with hy
    · rw [dkOf_apply, slab_apply, dk_point B]
      refine congrArg₂ (· + ·) (congrArg (fun z => kaAt x Q O P N (ix2 z _)) (Fin.ext ?_)) ?_
      · show 128 * N + (y.val - 128 * N) = y.val; omega
      · rw [show 128 * N + (y.val - 128 * N) = y.val from by omega]
    · rw [dkC_out N hd _ _ hy, add_zero]

/-- The value accumulator before point `N`. -/
theorem vaAt_eq (N : ℕ) (hN : N ≤ 32) (hd : Fin 8) (y : Fin 4608) (d : Fin 64) :
    vaAt O P N (ix2 y (hcol hd d))
      = ∑ i ∈ Finset.range N, (dvC g pr (2 * i) hd y.val (64 * hd.val + d.val) + dvC g pr (2 * i + 1) hd y.val (64 * hd.val + d.val)) := by
  induction N with
  | zero =>
    rw [Finset.range_zero, Finset.sum_empty, vaAt]
    pointwise [va0, k0_pay8]
    first | done | simp
  | succ N ih =>
    rw [vaAt_succ _ _ _ (by omega), slabPut_apply _ _ (by omega), Finset.sum_range_succ, ← ih (by omega)]
    split_ifs with hy
    · rw [dvOf_apply, slab_apply, dv_point B]
      refine congrArg₂ (· + ·) (congrArg (fun z => vaAt O P N (ix2 z _)) (Fin.ext ?_)) ?_
      · show 128 * N + (y.val - 128 * N) = y.val; omega
      · rw [show 128 * N + (y.val - 128 * N) = y.val from by omega]
    · rw [dvC_out N hd _ _ hy, add_zero]

omit B in
/-- The rows copied by the closing loop. -/
theorem castRows_apply (gk : Vec Ideal S512x512 .f32 → Vec Ideal S512x512 .bf16) (hg : ∀ u i, gk u i = (u i : EReal)) (z : Vec Ideal S4608x512 .bf16)
    (acc : Vec Ideal S4608x512 .f32) (K : ℕ) (hK : K ≤ 8) (y : Fin 4608) (c : Fin 512) (hy : 512 ≤ y.val ∧ y.val < 512 * K + 512) :
    castRows gk z acc K (ix2 y c) = (acc (ix2 y c) : EReal) := by
  induction K with
  | zero => omega
  | succ K ih =>
    rw [castRows, dif_pos (by omega)]
    by_cases hk : 512 * K + 512 ≤ y.val
    · refine (put_in (s := S4608x512) _ _ _ _ _ ?_).trans ((hg _ _).trans ?_)
      · intro a
        match a with
        | ⟨0, _⟩ => exact ⟨hk, by show y.val < 512 * K + 512 + 512; omega⟩
        | ⟨1, _⟩ => exact ⟨Nat.zero_le _, by show c.val < 0 + 512; omega⟩
      · unfold window
        refine congrArg acc ?_
        funext a; refine Fin.ext ((unit_val _ _ _ _ a).trans ?_)
        match a with
        | ⟨0, _⟩ => show 512 * K + 512 + (y.val - (512 * K + 512)) = y.val; omega
        | ⟨1, _⟩ => show 0 + (c.val - 0) = c.val; omega
    · refine (put_out (s := S4608x512) _ _ _ _ _ fun h => hk (h 0).1).trans (ih (by omega) ⟨hy.1, by omega⟩)

omit B in
theorem tailRows_apply (z : Vec Ideal S4608x512 .bf16) (y : Fin 4096) (c : Fin 512) :
    tailRows z (ix2 y c) = z (ix2 (⟨512 + y.val, by omega⟩ : Fin 4608) c) := by
  unfold tailRows window
  refine congrArg z ?_
  funext a; refine Fin.ext ((unit_val _ _ _ _ a).trans ?_)
  match a with
  | ⟨0, _⟩ => rfl
  | ⟨1, _⟩ => exact Nat.zero_add _

omit B in
theorem trips8 : Scf.trips k0_t1_loop.lb k0_t1_loop.ub k0_t1_loop.st = 8 := by decide +kernel

/-- What is copied out as dk: every chunk's part. -/
theorem dkFin_eq (y : Fin 4096) (hd : Fin 8) (d : Fin 64) :
    dkFin x Q O P (ix2 y (hcol hd d)) = ∑ n ∈ Finset.range 64, dkC x g pr n hd (512 + y.val) (64 * hd.val + d.val) := by
  unfold dkFin
  rw [trips8, tailRows_apply, castRows_apply k0_pay2 (fun u i => by pointwise [k0_pay2]) _ _ 8 le_rfl _ _ ⟨Nat.le_add_right _ _, by show 512 + y.val < _; omega⟩,
    kaAt_eq B 32 le_rfl]
  exact pairs_sum (fun n => dkC x g pr n hd (512 + y.val) (64 * hd.val + d.val)) 32

/-- What is copied out as dv. -/
theorem dvFin_eq (y : Fin 4096) (hd : Fin 8) (d : Fin 64) :
    dvFin x O P (ix2 y (hcol hd d)) = ∑ n ∈ Finset.range 64, dvC g pr n hd (512 + y.val) (64 * hd.val + d.val) := by
  unfold dvFin
  rw [trips8, tailRows_apply, castRows_apply k0_pay3 (fun u i => by pointwise [k0_pay3]) _ _ 8 le_rfl _ _ ⟨Nat.le_add_right _ _, by show 512 + y.val < _; omega⟩,
    vaAt_eq B 32 le_rfl]
  exact pairs_sum (fun n => dvC g pr n hd (512 + y.val) (64 * hd.val + d.val)) 32

end

end Cert.Attn

end
-- ==== Proof.Equal.lean ====
/-
  The kernel's three results are the reference's, where q, k and the bias are finite.
-/
module

public import proofs.«01_k».proof.Proof.HostRead
public import proofs.«01_k».proof.Proof.RefReal
public import proofs.«01_k».proof.Proof.KernelSums
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.ShloMosaic.Tactic
open Cert.ReferenceIdeal.Read
open Idealize.ShloMosaic.Pipeline (Dat Cfg Window)
open Cert.Attn.Ref (prN RowsReal)

variable (m : (ℓ : Loc nD τ sig) → Buf (Elt Ideal) ℓ) (c : Dev nD)

/-- The output's gradient, as launched. -/
abbrev a2 : (⟨S4096x512, .bf16⟩ : BufTy).Contents (Elt Ideal) := m ((c : Thread nD τ).loc main_arg2)

/-! ## What each point reads -/

theorem VV_v84 : VV m c main_v84 = wide (val_main_v108 (F := Ideal) (a0 m c) (a1 m c)) :=
  (congrFun (W9_eq m c) (Proc.devRef .tc main_v84)).symm.trans (W9_v84 m c)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, t.val, 0] := by decide +kernel
theorem index3 : ∀ t : Fin cfg0.N, win0_3.index t = ![t.val, 0] := by decide +kernel

theorem read0 (t : Fin cfg0.N) (r : Fin 128) (k : Fin 512) :
    iblk m c 0 t (ix2 r k) = a0 m c (ix2 (⟨128 * t.val + r.val, by have := t_lt t; omega⟩ : Fin 4096) (⟨k.val, by omega⟩ : Fin 1536)) := by
  show VV m c main_arg0 (((cfg0.win 0).blk t).view.emb (ix2 r k)) = _
  rw [VV_main_arg0]
  refine congrArg (a0 m c) ?_
  funext a; refine Fin.ext ?_
  blk_simp [index0 t]
  match a with
  | ⟨0, _⟩ => show t.val * 128 + r.val = 128 * t.val + r.val; omega
  | ⟨1, _⟩ => show 0 * 512 + k.val = k.val; omega

theorem read1 (t : Fin cfg0.N) (r : Fin 128) (k : Fin 512) :
    iblk m c 1 t (ix2 r k) = a2 m c (ix2 (⟨128 * t.val + r.val, by have := t_lt t; omega⟩ : Fin 4096) k) := by
  show VV m c main_arg2 (((cfg0.win 1).blk t).view.emb (ix2 r k)) = _
  rw [VV_main_arg2]
  refine congrArg (a2 m c) ?_
  funext a; refine Fin.ext ?_
  blk_simp [index1 t]
  match a with
  | ⟨0, _⟩ => show t.val * 128 + r.val = 128 * t.val + r.val; omega
  | ⟨1, _⟩ => show 0 * 512 + k.val = k.val; omega

theorem read2_place (t : Fin cfg0.N) (h : Fin 8) (r : Fin 128) (w : Fin 640) :
    ((cfg0.win 2).blk t).view.emb (ix3 h r w) = ix3 h (⟨128 * t.val + r.val, by have := t_lt t; omega⟩ : Fin 4096) w := by
  funext a; refine Fin.ext ?_
  blk_simp [index2 t]
  match a with
  | ⟨0, _⟩ => show 0 * 8 + h.val = h.val; omega
  | ⟨1, _⟩ => show t.val * 128 + r.val = 128 * t.val + r.val; omega
  | ⟨2, _⟩ => show 0 * 640 + w.val = w.val; omega

theorem read2_of (X : Buf (Elt Ideal) ((c : Thread nD τ).loc (Pipeline.arrRef spec0 2))) (t : Fin cfg0.N) (y : S8x128x640.Idx) :
    ((cfg0.win 2).blk t).view.read (Elt Ideal) X y = X (((cfg0.win 2).blk t).view.emb y) := rfl

theorem V_v84 : V m c (Pipeline.arrRef spec0 2) = wide (val_main_v108 (F := Ideal) (a0 m c) (a1 m c)) := VV_v84 m c

theorem read2 (t : Fin cfg0.N) (h : Fin 8) (r : Fin 128) (w : Fin 640) :
    iblk m c 2 t (ix3 h r w) = wide (val_main_v108 (F := Ideal) (a0 m c) (a1 m c))
      (ix3 h (⟨128 * t.val + r.val, by have := t_lt t; omega⟩ : Fin 4096) w) := by
  unfold iblk
  rw [V_v84]
  generalize wide (val_main_v108 (F := Ideal) (a0 m c) (a1 m c)) = X
  exact (read2_of c X t (ix3 h r w)).trans (congrArg X (read2_place t h r w))

theorem X0_eq : X0 m c = a0 m c := VV_main_arg0 m c

theorem blocks : Blocks (X0 m c) (a2 m c) (prN (a0 m c) (a1 m c)) (Qb m c) (Ob m c) (Pb m c) where
  q n h r k := by
    unfold xN
    rw [dif_pos ⟨by omega, by omega⟩, X0_eq]
    exact read0 m c _ r k
  o n h r k := by
    unfold gN
    rw [dif_pos ⟨by omega, by omega⟩]
    exact read1 m c _ r k
  p n h hd a q w := by
    refine (read2 m c _ hd _ w).trans ?_
    have e := wide_at (val_main_v108 (F := Ideal) (a0 m c) (a1 m c)) hd (⟨n, h⟩ : Fin 32) a q w
    refine (congrArg (fun y : Fin 4096 => wide (val_main_v108 (F := Ideal) (a0 m c) (a1 m c)) (ix3 hd y w)) (Fin.ext ?_)).trans (e.trans ?_)
    · show 128 * n + (64 * a.val + q.val) = 128 * n + 64 * a.val + q.val; omega
    · by_cases hw : 64 * a.val ≤ w.val ∧ w.val < 64 * a.val + 576
      · rw [dif_pos hw, if_pos hw]
        exact (Ref.prN_val (a0 m c) (a1 m c) (⟨2 * n + a.val, by omega⟩ : Fin 64) hd q (⟨w.val - 64 * a.val, by omega⟩ : Fin 576)).symm
      · rw [dif_neg hw, if_neg hw]

/-! ## The results -/

/-- A column is a head's. -/
theorem col_eq (k : Fin 512) : k = hcol (⟨k.val / 64, by omega⟩ : Fin 8) (⟨k.val % 64, by omega⟩ : Fin 64) := by
  refine Fin.ext ?_
  show k.val = 64 * (k.val / 64) + k.val % 64
  omega

variable (hr : RowsReal (a0 m c) (a1 m c))

include hr in
theorem dk_eq : dkFin (X0 m c) (Qb m c) (Ob m c) (Pb m c) = val_main_v161 (F := Ideal) (a0 m c) (a1 m c) (a2 m c) := by
  funext i
  obtain ⟨y, k, rfl⟩ : ∃ (y : Fin 4096) (k : Fin 512), i = ix2 y k := ⟨i 0, i 1, by funext a; match a with | ⟨0, _⟩ => rfl | ⟨1, _⟩ => rfl⟩
  rw [col_eq k]
  refine (dkFin_eq (blocks m c) y _ _).trans ?_
  rw [X0_eq]
  exact (Ref.v161_eq (a0 m c) (a1 m c) (a2 m c) hr y _ _).symm

theorem dv_eq : dvFin (X0 m c) (Ob m c) (Pb m c) = val_main_v163 (F := Ideal) (a0 m c) (a1 m c) (a2 m c) := by
  funext i
  obtain ⟨y, k, rfl⟩ : ∃ (y : Fin 4096) (k : Fin 512), i = ix2 y k := ⟨i 0, i 1, by funext a; match a with | ⟨0, _⟩ => rfl | ⟨1, _⟩ => rfl⟩
  rw [col_eq k]
  refine (dvFin_eq (blocks m c) y _ _).trans ?_
  exact (Ref.v163_eq (a0 m c) (a1 m c) (a2 m c) y _ _).symm

include hr in
theorem dq_at (n : ℕ) (h : n < 32) (r : Fin 128) (k : Fin 512) :
    dqAt (X0 m c) (Ob m c) (Pb m c) n h (ix2 r k)
      = val_main_v159 (F := Ideal) (a0 m c) (a1 m c) (a2 m c) (ix2 (⟨128 * n + r.val, by omega⟩ : Fin 4096) k) := by
  rw [col_eq k]
  have er : r = (⟨64 * (⟨r.val / 64, by omega⟩ : Fin 2).val + (⟨r.val % 64, by omega⟩ : Fin 64).val, by show 64 * (r.val / 64) + r.val % 64 < 128; omega⟩ : Fin 128) :=
    Fin.ext (by show r.val = 64 * (r.val / 64) + r.val % 64; omega)
  refine (congrArg (fun y : Fin 128 => dqAt (X0 m c) (Ob m c) (Pb m c) n h (ix2 y _)) er).trans ((dqAt_eq (blocks m c) n h _ (⟨r.val / 64, by omega⟩ : Fin 2) (⟨r.val % 64, by omega⟩ : Fin 64) _).trans ?_)
  rw [X0_eq]
  refine (Ref.v159_eq (a0 m c) (a1 m c) (a2 m c) hr (⟨2 * n + r.val / 64, by omega⟩ : Fin 64) (⟨r.val % 64, by omega⟩ : Fin 64) _ _).symm.trans ?_
  refine congrArg (fun y : Fin 4096 => val_main_v159 (F := Ideal) (a0 m c) (a1 m c) (a2 m c) (ix2 y _)) (Fin.ext ?_)
  show 64 * (2 * n + r.val / 64) + r.val % 64 = 128 * n + r.val
  omega

include hr in
theorem dq_eq : (dats m 0 c).arrAt 3 cfg0.N = val_main_v159 (F := Ideal) (a0 m c) (a1 m c) (a2 m c) := by
  refine (dats m 0 c).arrAt_eq_of_covers 3 _ (by decide +kernel) fun t hf y => ?_
  rw [after3]
  obtain ⟨r, k, rfl⟩ : ∃ (r : Fin 128) (k : Fin 512), y = ix2 r k := ⟨y 0, y 1, by funext a; match a with | ⟨0, _⟩ => rfl | ⟨1, _⟩ => rfl⟩
  refine (dq_at m c hr t.val (t_lt t) r k).trans ?_
  refine congrArg (val_main_v159 (F := Ideal) (a0 m c) (a1 m c) (a2 m c)) ?_
  funext a; refine Fin.ext ?_
  blk_simp [index3 t]
  match a with
  | ⟨0, _⟩ => show 128 * t.val + r.val = t.val * 128 + r.val; omega
  | ⟨1, _⟩ => show k.val = 0 * 512 + k.val; omega

end Cert.Attn

end
-- ==== Proof.PreReal.lean ====
/-
  What the precondition says: q, k and the bias are real numbers.
-/
module

public import proofs.«01_k».proof.Pre_finite_scores
public import proofs.«01_k».proof.Proof.RefReal

@[expose] public section

set_option maxRecDepth 16384

noncomputable section

namespace Cert.Attn.Pre

open Idealize.ShloMosaic
open Cert.Pre_finite_scores
open Cert.Attn (xN)
open Cert.Attn.Ref (IsReal)

/-- The predicate's side conditions. -/
theorem facts : Cert.Pre_finite_scores.Facts where
  slices_S4096x1536_S4096x1024_0_0 := by decide
  bitsLt_bf16_f32 := by decide
  bcast_S_S4096x1024 := by decide
  bcast_S_S8x257 := by decide

attribute [local instance] facts

theorem inf_word : Ideal.ofBits .f32 0x7F800000#32 = ⊤ := by
  unfold Ideal.ofBits Ideal.ieee
  simp

/-- A number whose magnitude is below infinity is a real. -/
theorem real_of_lt {x : EReal} (h : Ideal.cmp .olt (max x (-x)) (Ideal.ofBits .f32 0x7F800000#32) = 1#1) : IsReal x := by
  rw [inf_word] at h
  have h' : max x (-x) < ⊤ := by
    by_contra hc
    have : Ideal.cmp .olt (max x (-x)) ⊤ = BitVec.ofBool (decide (max x (-x) < ⊤)) := rfl
    rw [this, decide_eq_false hc] at h
    exact absurd h (by decide)
  rw [max_lt_iff] at h'
  refine IsReal.of_bounds (lt_of_le_of_ne bot_le fun hb => ?_) h'.1
  rw [← hb] at h'
  exact absurd h'.2 (by simp)

variable (x0 : FVec Ideal S4096x1536 .bf16) (x1 : FVec Ideal S8x257 .f32) (x2 : FVec Ideal S4096x512 .bf16)

theorem fn_fst (y : Fin 4096) (c : Fin 1024) : (fn (F := Ideal) x0 x1 x2).1 (ix2 y c)
    = Ideal.cmp .olt (max (x0 (ix2 y (⟨c.val, by omega⟩ : Fin 1536))) (-(x0 (ix2 y (⟨c.val, by omega⟩ : Fin 1536))))) (Ideal.ofBits .f32 0x7F800000#32) := by
  unfold fn
  pointwise []
  rfl

theorem fn_snd (i : S8x257.Idx) : (fn (F := Ideal) x0 x1 x2).2 i
    = Ideal.cmp .olt (max (x1 i) (-(x1 i))) (Ideal.ofBits .f32 0x7F800000#32) := by
  unfold fn
  pointwise []
  rfl

theorem real_rows (h : (fn (F := Ideal) x0 x1 x2).1 = fun _ => 1#1) (y c : ℕ) (hc : c < 1024) : IsReal (xN x0 y c) := by
  unfold xN
  split_ifs with hh
  · exact real_of_lt ((fn_fst x0 x1 x2 ⟨y, hh.1⟩ ⟨c, hc⟩).symm.trans (congrFun h _))
  · exact IsReal.zero

theorem real_bias (h : (fn (F := Ideal) x0 x1 x2).2 = fun _ => 1#1) (i : S8x257.Idx) : IsReal (x1 i) :=
  real_of_lt ((fn_snd x0 x1 x2 i).symm.trans (congrFun h i))

end Cert.Attn.Pre

end
-- ==== Proof.Algebraic.lean ====
/-
  Over the reals, where q, k and the bias are finite, the program and the reference end with the same three gradients.
-/
module

public import proofs.«01_k».proof.Defs
public import proofs.«01_k».proof.Proof.Frames
public import proofs.«01_k».proof.Proof.Equal
public import proofs.«01_k».proof.Proof.PreReal

@[expose] public section

set_option maxRecDepth 16384

noncomputable section

namespace Cert.Attn

open Idealize.ShloMosaic Idealize.SL.Sem
open Cert.ReferenceIdeal.Read
open Cert.Attn.Ref (RowsReal)

/-- Where the precondition holds, every row of the scores behaves: its weights are real and its sum is not zero. -/
theorem rows_of_pre (m : (ℓ : Loc Cert.KernelIdeal.nD Cert.KernelIdeal.τ Cert.KernelIdeal.sig) → Buf (Elt Ideal) ℓ)
    (h : @Cert.Pre_KernelIdeal_finite_scores Pre.facts m) (c : Dev Cert.KernelIdeal.nD) : RowsReal (a0 m c) (a1 m c) :=
  Ref.rows_real (a0 m c) (a1 m c) (fun y k hk => Pre.real_rows _ _ _ (h c).1 y k hk) (fun i => Pre.real_bias _ _ _ (h c).2 i)

/-- The reference's run, its results by name. -/
theorem run_reference (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v159) = val_main_v159 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v161) = val_main_v161 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v163) = val_main_v163 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans (val_main_v159_eq (StableHlo.launchContents m' c)), (h c).2.1.trans (val_main_v161_eq (StableHlo.launchContents m' c)),
      (h c).2.2.1.trans (val_main_v163_eq (StableHlo.launchContents m' c)), (h c).2.2.2⟩)
    (Cert.ReferenceIdeal.Value.run (F := Ideal) m' g')

/-- Equal results over the reals. -/
theorem algebraic : @Cert.algebraic_KernelIdeal_ReferenceIdeal_pre_finite_scores Cert.KernelIdeal.Gen.facts Cert.ReferenceIdeal.Gen.facts Pre.facts := by
  intro m g m' g' hp ha
  refine ⟨fun c => val_main_v159 (F := Ideal) (a0 m c) (a1 m c) (a2 m c), fun c => val_main_v161 (F := Ideal) (a0 m c) (a1 m c) (a2 m c),
    fun c => val_main_v163 (F := Ideal) (a0 m c) (a1 m c) (a2 m c), ?_, ?_⟩
  · exact (θ_run Cert.KernelIdeal.defs _ _).mono
      (fun r h c => ⟨((h.1 c).dq).trans (dq_eq m c (rows_of_pre m hp c)), ((h.1 c).dk).trans (dk_eq m c (rows_of_pre m hp c)),
        ((h.1 c).dv).trans (dv_eq m c), (h.1 c).arg0, (h.1 c).arg1, (h.1 c).arg2⟩)
      (run_main (F := Ideal) m g)
  · refine (θ_run Cert.ReferenceIdeal.defs _ _).mono (fun r h c => ?_) (run_reference m' g')
    have h' := h c
    rw [(ha c).1, (ha c).2.1, (ha c).2.2] at h'
    rw [(ha c).1, (ha c).2.1, (ha c).2.2]
    exact h'

/-- The frames once more, under the precondition. -/
theorem frame_ideal_pre : @Cert.quiescent_KernelIdeal_pre_finite_scores Cert.KernelIdeal.Gen.facts Pre.facts :=
  fun m ρ _ => frame_ideal m ρ trivial

theorem frame_reference_pre : @Cert.quiescent_ReferenceIdeal_pre_finite_scores Cert.ReferenceIdeal.Gen.facts Pre.facts :=
  fun m ρ _ => frame_reference m ρ trivial

end Cert.Attn

end
-- ==== Proof.FramesMore.lean ====
/-
  The references of the further calls run to the end and leave their arguments: by their generated runs.
-/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Lib.Quiescent

@[expose] public section

set_option maxRecDepth 16384

noncomputable section

namespace Cert.More

open Idealize.ShloMosaic Idealize.SL.Sem

theorem frame_reference2 : @Cert.quiescent_Reference2Ideal Cert.Reference2Ideal.Gen.facts := by
  intro m ρ _
  exact (θ_run Cert.Reference2Ideal.defs _ _).mono (fun r h => ⟨fun c => (h c).2.2, sem_eq_zero_of_no_sems (by decide) r.2⟩)
    (Cert.Reference2Ideal.Value.run (F := Ideal) m ρ)

theorem frame_reference3 : @Cert.quiescent_Reference3Ideal Cert.Reference3Ideal.Gen.facts := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem frame_reference4 : @Cert.quiescent_Reference4Ideal Cert.Reference4Ideal.Gen.facts := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem frame_reference5 : @Cert.quiescent_Reference5Ideal Cert.Reference5Ideal.Gen.facts := by
  intro m ρ _
  exact (θ_run Cert.Reference5Ideal.defs _ _).mono (fun r h => ⟨fun c => (h c).2, sem_eq_zero_of_no_sems (by decide) r.2⟩)
    (Cert.Reference5Ideal.Value.run (F := Ideal) m ρ)

end Cert.More

end
-- ==== Proof.FramesLater.lean ====
/-
  The references of the calls from the sixth on run to the end and leave their arguments: by their generated runs.
-/
module

public import proofs.«01_k».proof.Defs
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import Idealize.ShloMosaic.Lib.Quiescent

@[expose] public section

set_option maxRecDepth 16384

noncomputable section

namespace Cert.More

open Idealize.ShloMosaic Idealize.SL.Sem

theorem frame_reference6 : @Cert.quiescent_Reference6Ideal Cert.Reference6Ideal.Gen.facts := by
  intro m ρ _
  exact (θ_run Cert.Reference6Ideal.defs _ _).mono (fun r h => ⟨fun c => (h c).2, sem_eq_zero_of_no_sems (by decide) r.2⟩)
    (Cert.Reference6Ideal.Value.run (F := Ideal) m ρ)

theorem frame_reference7 : @Cert.quiescent_Reference7Ideal Cert.Reference7Ideal.Gen.facts := by
  intro m ρ _
  exact (θ_run Cert.Reference7Ideal.defs _ _).mono (fun r h => ⟨fun c => (h c).2.2, sem_eq_zero_of_no_sems (by decide) r.2⟩)
    (Cert.Reference7Ideal.Value.run (F := Ideal) m ρ)

theorem frame_reference8 : @Cert.quiescent_Reference8Ideal Cert.Reference8Ideal.Gen.facts := by
  intro m ρ _
  exact (θ_run Cert.Reference8Ideal.defs _ _).mono (fun r h => ⟨fun c => (h c).2.2, sem_eq_zero_of_no_sems (by decide) r.2⟩)
    (Cert.Reference8Ideal.Value.run (F := Ideal) m ρ)

theorem frame_reference9 : @Cert.quiescent_Reference9Ideal Cert.Reference9Ideal.Gen.facts := by
  intro m ρ _
  exact (θ_run Cert.Reference9Ideal.defs _ _).mono (fun r h => ⟨fun c => (h c).2.2.2, sem_eq_zero_of_no_sems (by decide) r.2⟩)
    (Cert.Reference9Ideal.Value.run (F := Ideal) m ρ)

theorem frame_reference10 : @Cert.quiescent_Reference10Ideal Cert.Reference10Ideal.Gen.facts := by
  intro m ρ _
  exact (θ_run Cert.Reference10Ideal.defs _ _).mono (fun r h => ⟨fun c => (h c).2.2.2, sem_eq_zero_of_no_sems (by decide) r.2⟩)
    (Cert.Reference10Ideal.Value.run (F := Ideal) m ρ)

theorem frame_reference11 : @Cert.quiescent_Reference11Ideal Cert.Reference11Ideal.Gen.facts := by
  intro m ρ _
  exact (θ_run Cert.Reference11Ideal.defs _ _).mono (fun r h => ⟨fun c => (h c).2, sem_eq_zero_of_no_sems (by decide) r.2⟩)
    (Cert.Reference11Ideal.Value.run (F := Ideal) m ρ)

theorem frame_reference12 : @Cert.quiescent_Reference12Ideal Cert.Reference12Ideal.Gen.facts := by
  intro m ρ _
  exact (θ_run Cert.Reference12Ideal.defs _ _).mono (fun r h => ⟨fun c => (h c).2, sem_eq_zero_of_no_sems (by decide) r.2⟩)
    (Cert.Reference12Ideal.Value.run (F := Ideal) m ρ)

theorem frame_reference13 : @Cert.quiescent_Reference13Ideal Cert.Reference13Ideal.Gen.facts := by
  intro m ρ _
  exact (θ_run Cert.Reference13Ideal.defs _ _).mono (fun r h => ⟨fun c => (h c).2, sem_eq_zero_of_no_sems (by decide) r.2⟩)
    (Cert.Reference13Ideal.Value.run (F := Ideal) m ρ)

theorem frame_reference14 : @Cert.quiescent_Reference14Ideal Cert.Reference14Ideal.Gen.facts := by
  intro m ρ _
  exact (θ_run Cert.Reference14Ideal.defs _ _).mono (fun r h => ⟨fun c => (h c).2, sem_eq_zero_of_no_sems (by decide) r.2⟩)
    (Cert.Reference14Ideal.Value.run (F := Ideal) m ρ)

theorem frame_reference15 : @Cert.quiescent_Reference15Ideal Cert.Reference15Ideal.Gen.facts := by
  intro m ρ _
  exact (θ_run Cert.Reference15Ideal.defs _ _).mono (fun r h => ⟨fun c => (h c).2.2.2, sem_eq_zero_of_no_sems (by decide) r.2⟩)
    (Cert.Reference15Ideal.Value.run (F := Ideal) m ρ)

theorem frame_reference16 : @Cert.quiescent_Reference16Ideal Cert.Reference16Ideal.Gen.facts := by
  intro m ρ _
  exact (θ_run Cert.Reference16Ideal.defs _ _).mono (fun r h => ⟨fun c => (h c).2.2.2, sem_eq_zero_of_no_sems (by decide) r.2⟩)
    (Cert.Reference16Ideal.Value.run (F := Ideal) m ρ)

theorem frame_reference17 : @Cert.quiescent_Reference17Ideal Cert.Reference17Ideal.Gen.facts := by
  intro m ρ _
  exact (θ_run Cert.Reference17Ideal.defs _ _).mono (fun r h => ⟨fun c => (h c).2.2.2, sem_eq_zero_of_no_sems (by decide) r.2⟩)
    (Cert.Reference17Ideal.Value.run (F := Ideal) m ρ)

theorem frame_reference18 : @Cert.quiescent_Reference18Ideal Cert.Reference18Ideal.Gen.facts := by
  intro m ρ _
  exact (θ_run Cert.Reference18Ideal.defs _ _).mono (fun r h => ⟨fun c => (h c).2.2.2.2.2, sem_eq_zero_of_no_sems (by decide) r.2⟩)
    (Cert.Reference18Ideal.Value.run (F := Ideal) m ρ)

end Cert.More

end
-- ==== Proof.NormPre.lean ====
/-
  What the preconditions of the norm's gradients say: every argument they name is an array of real numbers.
-/
module

public import proofs.«01_k».proof.Pre_finite_mixer_in
public import proofs.«01_k».proof.Pre_finite_channel_mixer_in
public import proofs.«01_k».proof.Proof.PreReal

@[expose] public section

set_option maxRecDepth 16384

noncomputable section

namespace Cert.NormPre

open Idealize.ShloMosaic
open Cert.Attn.Ref (IsReal)
open Cert.Attn.Pre (real_of_lt)

namespace mixer_in

open Cert.Pre_finite_mixer_in

/-- The predicate's side conditions. -/
theorem facts : Cert.Pre_finite_mixer_in.Facts where
  bitsLt_bf16_f32 := by decide
  bcast_S_S4096x256 := by decide
  bcast_S_S4096x512 := by decide
  bcast_S_S4096x3072 := by decide
  bcast_S_S5376x1024 := by decide
  bcast_S_S4096x1024 := by decide
  bcast_S_S1x1024 := by decide

attribute [local instance] facts

variable (x0 : FVec Ideal S4096x256 .bf16) (x1 : FVec Ideal S4096x512 .bf16) (x2 : FVec Ideal S4096x512 .bf16) (x3 : FVec Ideal S4096x512 .bf16) (x4 : FVec Ideal S4096x512 .bf16) (x5 : FVec Ideal S4096x3072 .bf16) (x6 : FVec Ideal S5376x1024 .bf16) (x7 : FVec Ideal S4096x1024 .f32) (x8 : FVec Ideal S1x1024 .f32) (x9 : FVec Ideal S4096x1024 .f32)

theorem real0 (h : (fn (F := Ideal) x0 x1 x2 x3 x4 x5 x6 x7 x8 x9).1 = fun _ => 1#1) (i : S4096x256.Idx) : IsReal (x0 i) := by
  have e : (fn (F := Ideal) x0 x1 x2 x3 x4 x5 x6 x7 x8 x9).1 i = Ideal.cmp .olt (max (x0 i) (-(x0 i))) (Ideal.ofBits .f32 0x7F800000#32) := by
    unfold fn
    pointwise []
    rfl
  exact real_of_lt (e.symm.trans (congrFun h i))

theorem real1 (h : (fn (F := Ideal) x0 x1 x2 x3 x4 x5 x6 x7 x8 x9).2.1 = fun _ => 1#1) (i : S4096x512.Idx) : IsReal (x1 i) := by
  have e : (fn (F := Ideal) x0 x1 x2 x3 x4 x5 x6 x7 x8 x9).2.1 i = Ideal.cmp .olt (max (x1 i) (-(x1 i))) (Ideal.ofBits .f32 0x7F800000#32) := by
    unfold fn
    pointwise []
    rfl
  exact real_of_lt (e.symm.trans (congrFun h i))

theorem real2 (h : (fn (F := Ideal) x0 x1 x2 x3 x4 x5 x6 x7 x8 x9).2.2.1 = fun _ => 1#1) (i : S4096x512.Idx) : IsReal (x2 i) := by
  have e : (fn (F := Ideal) x0 x1 x2 x3 x4 x5 x6 x7 x8 x9).2.2.1 i = Ideal.cmp .olt (max (x2 i) (-(x2 i))) (Ideal.ofBits .f32 0x7F800000#32) := by
    unfold fn
    pointwise []
    rfl
  exact real_of_lt (e.symm.trans (congrFun h i))

theorem real3 (h : (fn (F := Ideal) x0 x1 x2 x3 x4 x5 x6 x7 x8 x9).2.2.2.1 = fun _ => 1#1) (i : S4096x512.Idx) : IsReal (x3 i) := by
  have e : (fn (F := Ideal) x0 x1 x2 x3 x4 x5 x6 x7 x8 x9).2.2.2.1 i = Ideal.cmp .olt (max (x3 i) (-(x3 i))) (Ideal.ofBits .f32 0x7F800000#32) := by
    unfold fn
    pointwise []
    rfl
  exact real_of_lt (e.symm.trans (congrFun h i))

theorem real4 (h : (fn (F := Ideal) x0 x1 x2 x3 x4 x5 x6 x7 x8 x9).2.2.2.2.1 = fun _ => 1#1) (i : S4096x512.Idx) : IsReal (x4 i) := by
  have e : (fn (F := Ideal) x0 x1 x2 x3 x4 x5 x6 x7 x8 x9).2.2.2.2.1 i = Ideal.cmp .olt (max (x4 i) (-(x4 i))) (Ideal.ofBits .f32 0x7F800000#32) := by
    unfold fn
    pointwise []
    rfl
  exact real_of_lt (e.symm.trans (congrFun h i))

theorem real5 (h : (fn (F := Ideal) x0 x1 x2 x3 x4 x5 x6 x7 x8 x9).2.2.2.2.2.1 = fun _ => 1#1) (i : S4096x3072.Idx) : IsReal (x5 i) := by
  have e : (fn (F := Ideal) x0 x1 x2 x3 x4 x5 x6 x7 x8 x9).2.2.2.2.2.1 i = Ideal.cmp .olt (max (x5 i) (-(x5 i))) (Ideal.ofBits .f32 0x7F800000#32) := by
    unfold fn
    pointwise []
    rfl
  exact real_of_lt (e.symm.trans (congrFun h i))

theorem real6 (h : (fn (F := Ideal) x0 x1 x2 x3 x4 x5 x6 x7 x8 x9).2.2.2.2.2.2.1 = fun _ => 1#1) (i : S5376x1024.Idx) : IsReal (x6 i) := by
  have e : (fn (F := Ideal) x0 x1 x2 x3 x4 x5 x6 x7 x8 x9).2.2.2.2.2.2.1 i = Ideal.cmp .olt (max (x6 i) (-(x6 i))) (Ideal.ofBits .f32 0x7F800000#32) := by
    unfold fn
    pointwise []
    rfl
  exact real_of_lt (e.symm.trans (congrFun h i))

theorem real7 (h : (fn (F := Ideal) x0 x1 x2 x3 x4 x5 x6 x7 x8 x9).2.2.2.2.2.2.2.1 = fun _ => 1#1) (i : S4096x1024.Idx) : IsReal (x7 i) := by
  have e : (fn (F := Ideal) x0 x1 x2 x3 x4 x5 x6 x7 x8 x9).2.2.2.2.2.2.2.1 i = Ideal.cmp .olt (max (x7 i) (-(x7 i))) (Ideal.ofBits .f32 0x7F800000#32) := by
    unfold fn
    pointwise []
    rfl
  exact real_of_lt (e.symm.trans (congrFun h i))

theorem real8 (h : (fn (F := Ideal) x0 x1 x2 x3 x4 x5 x6 x7 x8 x9).2.2.2.2.2.2.2.2 = fun _ => 1#1) (i : S1x1024.Idx) : IsReal (x8 i) := by
  have e : (fn (F := Ideal) x0 x1 x2 x3 x4 x5 x6 x7 x8 x9).2.2.2.2.2.2.2.2 i = Ideal.cmp .olt (max (x8 i) (-(x8 i))) (Ideal.ofBits .f32 0x7F800000#32) := by
    unfold fn
    pointwise []
    rfl
  exact real_of_lt (e.symm.trans (congrFun h i))

end mixer_in

namespace channel_mixer_in

open Cert.Pre_finite_channel_mixer_in

/-- The predicate's side conditions. -/
theorem facts : Cert.Pre_finite_channel_mixer_in.Facts where
  bitsLt_bf16_f32 := by decide
  bcast_S_S4096x4096 := by decide
  bcast_S_S4096x1024 := by decide
  bcast_S_S1x1024 := by decide

attribute [local instance] facts

variable (x0 : FVec Ideal S4096x4096 .bf16) (x1 : FVec Ideal S4096x1024 .bf16) (x2 : FVec Ideal S4096x1024 .f32) (x3 : FVec Ideal S4096x1024 .f32) (x4 : FVec Ideal S1x1024 .f32) (x5 : FVec Ideal S1x1024 .f32) (x6 : FVec Ideal S1x1024 .f32) (x7 : FVec Ideal S1x1024 .f32) (x8 : FVec Ideal S4096x1024 .f32)

theorem real0 (h : (fn (F := Ideal) x0 x1 x2 x3 x4 x5 x6 x7 x8).1 = fun _ => 1#1) (i : S4096x4096.Idx) : IsReal (x0 i) := by
  have e : (fn (F := Ideal) x0 x1 x2 x3 x4 x5 x6 x7 x8).1 i = Ideal.cmp .olt (max (x0 i) (-(x0 i))) (Ideal.ofBits .f32 0x7F800000#32) := by
    unfold fn
    pointwise []
    rfl
  exact real_of_lt (e.symm.trans (congrFun h i))

theorem real1 (h : (fn (F := Ideal) x0 x1 x2 x3 x4 x5 x6 x7 x8).2.1 = fun _ => 1#1) (i : S4096x1024.Idx) : IsReal (x1 i) := by
  have e : (fn (F := Ideal) x0 x1 x2 x3 x4 x5 x6 x7 x8).2.1 i = Ideal.cmp .olt (max (x1 i) (-(x1 i))) (Ideal.ofBits .f32 0x7F800000#32) := by
    unfold fn
    pointwise []
    rfl
  exact real_of_lt (e.symm.trans (congrFun h i))

theorem real2 (h : (fn (F := Ideal) x0 x1 x2 x3 x4 x5 x6 x7 x8).2.2.1 = fun _ => 1#1) (i : S4096x1024.Idx) : IsReal (x2 i) := by
  have e : (fn (F := Ideal) x0 x1 x2 x3 x4 x5 x6 x7 x8).2.2.1 i = Ideal.cmp .olt (max (x2 i) (-(x2 i))) (Ideal.ofBits .f32 0x7F800000#32) := by
    unfold fn
    pointwise []
    rfl
  exact real_of_lt (e.symm.trans (congrFun h i))

theorem real3 (h : (fn (F := Ideal) x0 x1 x2 x3 x4 x5 x6 x7 x8).2.2.2.1 = fun _ => 1#1) (i : S4096x1024.Idx) : IsReal (x3 i) := by
  have e : (fn (F := Ideal) x0 x1 x2 x3 x4 x5 x6 x7 x8).2.2.2.1 i = Ideal.cmp .olt (max (x3 i) (-(x3 i))) (Ideal.ofBits .f32 0x7F800000#32) := by
    unfold fn
    pointwise []
    rfl
  exact real_of_lt (e.symm.trans (congrFun h i))

theorem real4 (h : (fn (F := Ideal) x0 x1 x2 x3 x4 x5 x6 x7 x8).2.2.2.2.1 = fun _ => 1#1) (i : S1x1024.Idx) : IsReal (x4 i) := by
  have e : (fn (F := Ideal) x0 x1 x2 x3 x4 x5 x6 x7 x8).2.2.2.2.1 i = Ideal.cmp .olt (max (x4 i) (-(x4 i))) (Ideal.ofBits .f32 0x7F800000#32) := by
    unfold fn
    pointwise []
    rfl
  exact real_of_lt (e.symm.trans (congrFun h i))

theorem real5 (h : (fn (F := Ideal) x0 x1 x2 x3 x4 x5 x6 x7 x8).2.2.2.2.2.1 = fun _ => 1#1) (i : S1x1024.Idx) : IsReal (x5 i) := by
  have e : (fn (F := Ideal) x0 x1 x2 x3 x4 x5 x6 x7 x8).2.2.2.2.2.1 i = Ideal.cmp .olt (max (x5 i) (-(x5 i))) (Ideal.ofBits .f32 0x7F800000#32) := by
    unfold fn
    pointwise []
    rfl
  exact real_of_lt (e.symm.trans (congrFun h i))

theorem real6 (h : (fn (F := Ideal) x0 x1 x2 x3 x4 x5 x6 x7 x8).2.2.2.2.2.2.1 = fun _ => 1#1) (i : S1x1024.Idx) : IsReal (x6 i) := by
  have e : (fn (F := Ideal) x0 x1 x2 x3 x4 x5 x6 x7 x8).2.2.2.2.2.2.1 i = Ideal.cmp .olt (max (x6 i) (-(x6 i))) (Ideal.ofBits .f32 0x7F800000#32) := by
    unfold fn
    pointwise []
    rfl
  exact real_of_lt (e.symm.trans (congrFun h i))

theorem real7 (h : (fn (F := Ideal) x0 x1 x2 x3 x4 x5 x6 x7 x8).2.2.2.2.2.2.2.1 = fun _ => 1#1) (i : S1x1024.Idx) : IsReal (x7 i) := by
  have e : (fn (F := Ideal) x0 x1 x2 x3 x4 x5 x6 x7 x8).2.2.2.2.2.2.2.1 i = Ideal.cmp .olt (max (x7 i) (-(x7 i))) (Ideal.ofBits .f32 0x7F800000#32) := by
    unfold fn
    pointwise []
    rfl
  exact real_of_lt (e.symm.trans (congrFun h i))

theorem real8 (h : (fn (F := Ideal) x0 x1 x2 x3 x4 x5 x6 x7 x8).2.2.2.2.2.2.2.2 = fun _ => 1#1) (i : S4096x1024.Idx) : IsReal (x8 i) := by
  have e : (fn (F := Ideal) x0 x1 x2 x3 x4 x5 x6 x7 x8).2.2.2.2.2.2.2.2 i = Ideal.cmp .olt (max (x8 i) (-(x8 i))) (Ideal.ofBits .f32 0x7F800000#32) := by
    unfold fn
    pointwise []
    rfl
  exact real_of_lt (e.symm.trans (congrFun h i))

end channel_mixer_in

end Cert.NormPre

end
-- ==== Proof.FramesNorm.lean ====
/-
  The references of the norm's two gradients run to the end and leave their arguments, by their generated runs; and every
  frame that is stated under a precondition follows from the one without.
-/
module

public import proofs.«01_k».proof.Defs
public import proofs.«01_k».proof.Proof.Gen.Kernel19Ideal.Frame
public import proofs.«01_k».proof.Proof.Gen.Kernel20Ideal.Frame
public import proofs.«01_k».proof.Proof.Gen.Reference19Ideal.Run
public import proofs.«01_k».proof.Proof.Gen.Reference20Ideal.Run
public import proofs.«01_k».proof.Proof.NormPre
public import Idealize.ShloMosaic.Lib.Quiescent

@[expose] public section

set_option maxRecDepth 16384

noncomputable section

namespace Cert.More

open Idealize.ShloMosaic Idealize.SL.Sem

theorem frame_reference19 : @Cert.quiescent_Reference19Ideal Cert.Reference19Ideal.Gen.facts := by
  intro m ρ _
  exact (θ_run Cert.Reference19Ideal.defs _ _).mono (fun r h => ⟨fun c => (h c).2.2.2, sem_eq_zero_of_no_sems (by decide) r.2⟩)
    (Cert.Reference19Ideal.Value.run (F := Ideal) m ρ)

theorem frame_reference19_pre :
    @Cert.quiescent_Reference19Ideal_pre_finite_mixer_in Cert.Reference19Ideal.Gen.facts Cert.NormPre.mixer_in.facts :=
  fun m ρ _ => frame_reference19 m ρ trivial

theorem frame_kernel19_pre :
    @Cert.quiescent_Kernel19Ideal_pre_finite_mixer_in Cert.Kernel19Ideal.Gen.facts Cert.NormPre.mixer_in.facts :=
  fun m ρ _ => Cert.Kernel19Ideal.Gen.frame m ρ

theorem frame_reference20 : @Cert.quiescent_Reference20Ideal Cert.Reference20Ideal.Gen.facts := by
  intro m ρ _
  exact (θ_run Cert.Reference20Ideal.defs _ _).mono (fun r h => ⟨fun c => (h c).2.2.2.2.2.2.2, sem_eq_zero_of_no_sems (by decide) r.2⟩)
    (Cert.Reference20Ideal.Value.run (F := Ideal) m ρ)

theorem frame_reference20_pre :
    @Cert.quiescent_Reference20Ideal_pre_finite_channel_mixer_in Cert.Reference20Ideal.Gen.facts Cert.NormPre.channel_mixer_in.facts :=
  fun m ρ _ => frame_reference20 m ρ trivial

theorem frame_kernel20_pre :
    @Cert.quiescent_Kernel20Ideal_pre_finite_channel_mixer_in Cert.Kernel20Ideal.Gen.facts Cert.NormPre.channel_mixer_in.facts :=
  fun m ρ _ => Cert.Kernel20Ideal.Gen.frame m ρ

end Cert.More

end
-- ==== Proof.FramesLast.lean ====
/-
  The references of the first norm, the gates' merge, the modulation's product, its gradient and the optimiser's steps
  run to the end and leave their arguments, by their generated runs.
-/
module

public import proofs.«01_k».proof.Defs
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import Idealize.ShloMosaic.Lib.Quiescent

@[expose] public section

set_option maxRecDepth 16384

noncomputable section

namespace Cert.More

open Idealize.ShloMosaic Idealize.SL.Sem

theorem frame_reference21 : @Cert.quiescent_Reference21Ideal Cert.Reference21Ideal.Gen.facts := by
  intro m ρ _
  exact (θ_run Cert.Reference21Ideal.defs _ _).mono (fun r h => ⟨fun c => (h c).2, sem_eq_zero_of_no_sems (by decide) r.2⟩)
    (Cert.Reference21Ideal.Value.run (F := Ideal) m ρ)

theorem frame_reference22 : @Cert.quiescent_Reference22Ideal Cert.Reference22Ideal.Gen.facts := by
  intro m ρ _
  exact (θ_run Cert.Reference22Ideal.defs _ _).mono (fun r h => ⟨fun c => (h c).2, sem_eq_zero_of_no_sems (by decide) r.2⟩)
    (Cert.Reference22Ideal.Value.run (F := Ideal) m ρ)

theorem frame_reference23 : @Cert.quiescent_Reference23Ideal Cert.Reference23Ideal.Gen.facts := by
  intro m ρ _
  exact (θ_run Cert.Reference23Ideal.defs _ _).mono (fun r h => ⟨fun c => (h c).2, sem_eq_zero_of_no_sems (by decide) r.2⟩)
    (Cert.Reference23Ideal.Value.run (F := Ideal) m ρ)

theorem frame_reference24 : @Cert.quiescent_Reference24Ideal Cert.Reference24Ideal.Gen.facts := by
  intro m ρ _
  exact (θ_run Cert.Reference24Ideal.defs _ _).mono (fun r h => ⟨fun c => (h c).2, sem_eq_zero_of_no_sems (by decide) r.2⟩)
    (Cert.Reference24Ideal.Value.run (F := Ideal) m ρ)

theorem frame_reference25 : @Cert.quiescent_Reference25Ideal Cert.Reference25Ideal.Gen.facts := by
  intro m ρ _
  exact (θ_run Cert.Reference25Ideal.defs _ _).mono (fun r h => ⟨fun c => (h c).2.2.2.2, sem_eq_zero_of_no_sems (by decide) r.2⟩)
    (Cert.Reference25Ideal.Value.run (F := Ideal) m ρ)

theorem frame_reference26 : @Cert.quiescent_Reference26Ideal Cert.Reference26Ideal.Gen.facts := by
  intro m ρ _
  exact (θ_run Cert.Reference26Ideal.defs _ _).mono (fun r h => ⟨fun c => (h c).2.2.2.2, sem_eq_zero_of_no_sems (by decide) r.2⟩)
    (Cert.Reference26Ideal.Value.run (F := Ideal) m ρ)

end Cert.More

end
-- ==== Proof.HiddenGrad.lean ====
/-
  The gradient of the channel mixer's hidden layer before its activation: the kernel's blocks of 1024 rows and columns,
  and the bias gradient it sums over the blocks of rows, are the reference's.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.HiddenGrad

open Cert.Kernel2Ideal Cert.Kernel2Ideal.Gen Cert.Kernel2Ideal.Value
open Idealize.ShloMosaic Idealize.ShloMosaic.TcCoe Idealize.ShloMosaic.Tactic Idealize.SL.Sem
open Idealize.ShloMosaic.Pipeline (Dat)

/-- The hidden layer before its activation. -/
def pre (z : FVec Ideal S4096x4096 .f32) (b : FVec Ideal S4096 .f32) : FVec Ideal S4096x4096 .bf16 :=
  fun i => z i + b (ix1 (i 1))

theorem pay1 (P0 P1 P2 : Vec Ideal S1024x1024 .bf16) (r q : Fin 1024) :
    k0_pay1 P0 P1 P2 (ix2 r q) = (∑ e : Fin 1024, P0 (ix2 r e) * P1 (ix2 q e)) * (Ideal.ofBits FTy.f32 0x40000000#32 * max (P2 (ix2 r q)) 0) := by
  pointwise [k0_pay1]

theorem pay4 (P0 P1 P2 : Vec Ideal S1024x1024 .bf16) (v : Vec Ideal S1x1024 .f32) (q : Fin 1024) :
    k0_pay4 P0 P1 P2 v (ix2 (0 : Fin 1) q) = v (ix2 0 q) + ∑ r : Fin 1024, k0_pay1 P0 P1 P2 (ix2 r q) := by
  pointwise [k0_pay4]

variable (m : (ℓ : Loc nD τ sig) → Buf (Elt Ideal) ℓ) (c : Dev nD)

theorem index0 : ∀ t : Fin cfg0.N, win0_0.index t = ![t.val % 4, 0] := by decide +kernel
theorem index1 : ∀ t : Fin cfg0.N, win0_1.index t = ![t.val / 4, 0] := by decide +kernel
theorem index2 : ∀ t : Fin cfg0.N, win0_2.index t = ![t.val % 4, t.val / 4] := by decide +kernel
theorem index3 : ∀ t : Fin cfg0.N, win0_3.index t = ![t.val % 4, t.val / 4] := by decide +kernel
theorem index4 : ∀ t : Fin cfg0.N, win0_4.index t = ![0, t.val / 4] := by decide +kernel

/-- The arguments, as launched. -/
abbrev z0 : FVec Ideal S4096x4096 .f32 := m ((c : Thread nD τ).loc main_arg0)
abbrev b0 : FVec Ideal S4096 .f32 := m ((c : Thread nD τ).loc main_arg1)
abbrev w0 : FVec Ideal S4096x1024 .bf16 := m ((c : Thread nD τ).loc main_arg2)
abbrev d0 : FVec Ideal S4096x1024 .bf16 := m ((c : Thread nD τ).loc main_arg3)

theorem V_v3 : V m c main_v3 = pre (z0 m c) (b0 m c) := by
  have h : V m c main_v3 = (truncf .bf16 (addf (z0 m c) (broadcastInDim S4096x4096 ![0, 1] bcast_S1x4096_S4096x4096_0_1 (broadcastInDim S1x4096 ![1] bcast_S4096_S1x4096_1 (b0 m c)))) bitsLt_bf16_f32 : FVec Ideal S4096x4096 .bf16) := by
    unfold V
    simp only [hostOps0]
    after_results_simp
  rw [h]
  funext i
  obtain ⟨r, q, rfl⟩ : ∃ (r q : Fin 4096), i = ix2 r q := ⟨i 0, i 1, eq_ix2 i⟩
  pointwise [pre]

theorem read0 (t : Fin cfg0.N) (r e : Fin 1024) :
    iblk m c 0 t (ix2 r e) = m ((c : Thread nD τ).loc main_arg3) (ix2 (⟨1024 * (t.val % 4) + r.val, by omega⟩ : Fin 4096) e) := by
  have hV := V_main_arg3 m c
  blk_ext [iblk, hV, index0 t]

theorem read1 (t : Fin cfg0.N) (q e : Fin 1024) :
    iblk m c 1 t (ix2 q e) = m ((c : Thread nD τ).loc main_arg2) (ix2 (⟨1024 * (t.val / 4) + q.val, by have : t.val < 16 := t.isLt; omega⟩ : Fin 4096) e) := by
  have hV := V_main_arg2 m c
  blk_ext [iblk, hV, index1 t]

theorem read2 (t : Fin cfg0.N) (r q : Fin 1024) :
    iblk m c 2 t (ix2 r q) = V m c main_v3 (ix2 (⟨1024 * (t.val % 4) + r.val, by omega⟩ : Fin 4096) (⟨1024 * (t.val / 4) + q.val, by have : t.val < 16 := t.isLt; omega⟩ : Fin 4096)) := by
  blk_ext [iblk, index2 t]

theorem outs3 (t : Fin cfg0.N) : (outsAt0 m c t.val t.isLt).1 = k0_pay2 (iblk m c 0 t) (iblk m c 1 t) (iblk m c 2 t) := by
  by_cases h0 : t.val % 4 = 0
  · rw [outsAt0_A m c t h0]
    frame_out
  · rw [outsAt0_B m c t h0]
    frame_out

/-- What a block of rows adds to the bias gradient. -/
def term (t : ℕ) (y : S1x1024.Idx) : EReal :=
  if h : t < cfg0.N then ∑ r : Fin 1024, k0_pay1 (iblk m c 0 ⟨t, h⟩) (iblk m c 1 ⟨t, h⟩) (iblk m c 2 ⟨t, h⟩) (ix2 r (y 1)) else 0

theorem pay4' (P0 P1 P2 : Vec Ideal S1024x1024 .bf16) (v : Vec Ideal S1x1024 .f32) (y : S1x1024.Idx) :
    k0_pay4 P0 P1 P2 v y = v y + ∑ r : Fin 1024, k0_pay1 P0 P1 P2 (ix2 r (y 1)) := by
  obtain ⟨q, rfl⟩ : ∃ q : Fin 1024, y = ix2 0 q := ⟨y 1, by funext a; match a with | ⟨0, _⟩ => exact Fin.eq_zero _ | ⟨1, _⟩ => rfl⟩
  exact pay4 P0 P1 P2 v q

theorem pay3 (y : S1x1024.Idx) : k0_pay3 (F := Ideal) y = 0 := by
  pointwise [k0_pay3]

theorem outs4 (t : Fin cfg0.N) (y : S1x1024.Idx) : (outsAt0 m c t.val t.isLt).2 y = 0 + ∑ k ∈ Finset.range (t.val % 4 + 1), term m c (4 * (t.val / 4) + k) y := by
  refine Pipeline.eq_sum_of_reset_step_apply (fun n h => (outsAt0 m c n h).2) 4 (fun _ => 0) (term m c) (fun t h j => ?_) (fun t h j => ?_) t y
  · rw [outsAt0_A m c t h]
    frame_out
    rw [pay4', pay3]
    unfold term
    rw [dif_pos t.isLt]
  · rw [outsAt0_B m c t h]
    frame_out
    rw [pay4']
    unfold term
    rw [dif_pos t.isLt]

/-- The gradient before the activation. -/
def dpre (z : FVec Ideal S4096x4096 .f32) (b : FVec Ideal S4096 .f32) (w d : FVec Ideal S4096x1024 .bf16) : FVec Ideal S4096x4096 .bf16 :=
  fun i => (∑ e : Fin 1024, d (ix2 (i 0) e) * w (ix2 (i 1) e)) * (Ideal.ofBits FTy.f32 0x40000000#32 * max (pre z b i) 0)

/-- The gradient of the bias: the sum over the rows. -/
def dbias (z : FVec Ideal S4096x4096 .f32) (b : FVec Ideal S4096 .f32) (w d : FVec Ideal S4096x1024 .bf16) : FVec Ideal S1x4096 .f32 :=
  fun i => ∑ r : Fin 4096, dpre z b w d (ix2 r (i 1))

theorem point (t : Fin cfg0.N) (r q : Fin 1024) : k0_pay1 (iblk m c 0 t) (iblk m c 1 t) (iblk m c 2 t) (ix2 r q)
    = dpre (z0 m c) (b0 m c) (w0 m c) (d0 m c) (ix2 (⟨1024 * (t.val % 4) + r.val, by omega⟩ : Fin 4096) (⟨1024 * (t.val / 4) + q.val, by have : t.val < 16 := t.isLt; omega⟩ : Fin 4096)) := by
  refine (pay1 (iblk m c 0 t) (iblk m c 1 t) (iblk m c 2 t) r q).trans ?_
  unfold dpre
  rw [read2, V_v3]
  refine congrArg (· * _) (Finset.sum_congr rfl fun e _ => ?_)
  rw [read0, read1]
  rfl

theorem place3 (t : Fin cfg0.N) (r q : Fin 1024) : ((cfg0.win 3).blk t).view.emb (ix2 r q) = ix2 (⟨1024 * (t.val % 4) + r.val, by omega⟩ : Fin 4096) (⟨1024 * (t.val / 4) + q.val, by have : t.val < 16 := t.isLt; omega⟩ : Fin 4096) := by
  funext a; refine Fin.ext ?_
  blk_simp [index3 t]
  match a with
  | ⟨0, _⟩ => show t.val % 4 * 1024 + r.val = 1024 * (t.val % 4) + r.val; omega
  | ⟨1, _⟩ => show t.val / 4 * 1024 + q.val = 1024 * (t.val / 4) + q.val; omega

theorem place4 (t : Fin cfg0.N) (q : Fin 1024) : ((cfg0.win 4).blk t).view.emb (ix2 (0 : Fin 1) q) = ix2 (0 : Fin 1) (⟨1024 * (t.val / 4) + q.val, by have : t.val < 16 := t.isLt; omega⟩ : Fin 4096) := by
  funext a; refine Fin.ext ?_
  blk_simp [index4 t]
  match a with
  | ⟨0, _⟩ => show 0 * 1 + 0 = 0; omega
  | ⟨1, _⟩ => show t.val / 4 * 1024 + q.val = 1024 * (t.val / 4) + q.val; omega

theorem block3 (t : Fin cfg0.N) (y : S1024x1024.Idx) : (outsAt0 m c t.val t.isLt).1 y
    = dpre (z0 m c) (b0 m c) (w0 m c) (d0 m c) (((cfg0.win 3).blk t).view.emb y) := by
  obtain ⟨r, q, rfl⟩ : ∃ (r q : Fin 1024), y = ix2 r q := ⟨y 0, y 1, eq_ix2 y⟩
  rw [outs3]
  exact (point m c t r q).trans (congrArg (dpre _ _ _ _) (place3 t r q).symm)

theorem result3 : (dats m 0 c).arrAt 3 cfg0.N = dpre (z0 m c) (b0 m c) (w0 m c) (d0 m c) := by
  refine (dats m 0 c).arrAt_eq_of_covers 3 _ (by decide +kernel) fun t hf y => ?_
  rw [after0_3]
  have h := block3 m c t
  blk_simp
  exact h y

/-- A sum over the rows, by blocks of 1024. -/
theorem sum_blocks (f : Fin 4096 → EReal) : ∑ k : Fin 4, ∑ r : Fin 1024, f (⟨1024 * k.val + r.val, by omega⟩ : Fin 4096) = ∑ s : Fin 4096, f s := by
  refine (Fintype.sum_prod_type' fun (k : Fin 4) (r : Fin 1024) => f (⟨1024 * k.val + r.val, by omega⟩ : Fin 4096)).symm.trans ?_
  refine Fintype.sum_equiv (finProdFinEquiv (m := 4) (n := 1024)) _ _ fun p => congrArg f (Fin.ext ?_)
  show 1024 * p.1.val + p.2.val = p.2.val + 1024 * p.1.val
  omega

theorem block4 (t : Fin cfg0.N) (ht : t.val % 4 = 3) (y : S1x1024.Idx) : (outsAt0 m c t.val t.isLt).2 y
    = dbias (z0 m c) (b0 m c) (w0 m c) (d0 m c) (((cfg0.win 4).blk t).view.emb y) := by
  obtain ⟨q, rfl⟩ : ∃ q : Fin 1024, y = ix2 0 q := ⟨y 1, by funext a; match a with | ⟨0, _⟩ => exact Fin.eq_zero _ | ⟨1, _⟩ => rfl⟩
  rw [outs4, zero_add, ht, Finset.sum_range, place4]
  unfold dbias
  refine Eq.trans ?_ (sum_blocks fun s => dpre (z0 m c) (b0 m c) (w0 m c) (d0 m c) (ix2 s (⟨1024 * (t.val / 4) + q.val, by have : t.val < 16 := t.isLt; omega⟩ : Fin 4096)))
  refine Finset.sum_congr rfl fun k _ => ?_
  have hk : 4 * (t.val / 4) + k.val < cfg0.N := by have : t.val < 16 := t.isLt; show _ < 16; omega
  unfold term
  rw [dif_pos hk]
  refine Finset.sum_congr rfl fun r _ => (point m c ⟨4 * (t.val / 4) + k.val, hk⟩ r q).trans (congrArg (dpre _ _ _ _) ?_)
  have e1 : (4 * (t.val / 4) + k.val) % 4 = k.val := by omega
  have e2 : (4 * (t.val / 4) + k.val) / 4 = t.val / 4 := by omega
  funext a; refine Fin.ext ?_
  match a with
  | ⟨0, _⟩ => show 1024 * ((4 * (t.val / 4) + k.val) % 4) + r.val = 1024 * k.val + r.val; rw [e1]
  | ⟨1, _⟩ => show 1024 * ((4 * (t.val / 4) + k.val) / 4) + q.val = 1024 * (t.val / 4) + q.val; rw [e2]

theorem result4 : (dats m 0 c).arrAt 4 cfg0.N = dbias (z0 m c) (b0 m c) (w0 m c) (d0 m c) := by
  refine (dats m 0 c).arrAt_eq_of_covers 4 _ (by decide +kernel) fun t hf y => ?_
  rw [after0_4]
  have h := block4 m c t ((flush0_4 t).mp hf)
  blk_simp
  exact h y

/-- Where the activation is zero its derivative is: the reference's choice is the product. -/
theorem choose_eq (x p : EReal) : (if 0 < x then p * (Ideal.ofBits FTy.f32 0x40000000#32 * max x 0) else 0) = p * (Ideal.ofBits FTy.f32 0x40000000#32 * max x 0) := by
  split_ifs with h
  · rfl
  · rw [max_eq_right (not_lt.mp h), mul_zero, mul_zero]

theorem algebraic2 : @Cert.algebraic_Kernel2Ideal_Reference2Ideal Cert.Kernel2Ideal.Gen.facts Cert.Reference2Ideal.Gen.facts := by
  intro m g m' g' _ ha
  refine ⟨fun c => dpre (z0 m c) (b0 m c) (w0 m c) (d0 m c), fun c => dbias (z0 m c) (b0 m c) (w0 m c) (d0 m c), ?_, ?_⟩
  · exact (θ_run Cert.Kernel2Ideal.defs _ _).mono (fun r h c => ⟨(h c).1.trans (result3 m c), (h c).2.1.trans (result4 m c), (h c).2.2⟩) (run_blocks (F := Ideal) m g)
  · refine (θ_run Cert.Reference2Ideal.defs _ _).mono (fun r h c => ⟨(h c).1.trans ?_, (h c).2.1.trans ?_, (h c).2.2⟩) (Cert.Reference2Ideal.Value.run (F := Ideal) m' g')
    · rw [(ha c).1, (ha c).2.1, (ha c).2.2.1, (ha c).2.2.2]
      show _ = dpre (z0 m c) (b0 m c) (w0 m c) (d0 m c)
      funext i
      obtain ⟨r, q, rfl⟩ : ∃ (r q : Fin 4096), i = ix2 r q := ⟨i 0, i 1, eq_ix2 i⟩
      unfold dpre
      refine Eq.trans ?_ (choose_eq _ _)
      pointwise [pre]
    · rw [(ha c).1, (ha c).2.1, (ha c).2.2.1, (ha c).2.2.2]
      show _ = dbias (z0 m c) (b0 m c) (w0 m c) (d0 m c)
      funext i
      obtain ⟨q, rfl⟩ : ∃ q : Fin 4096, i = ix2 0 q := ⟨i 1, by funext a; match a with | ⟨0, _⟩ => exact Fin.eq_zero _ | ⟨1, _⟩ => rfl⟩
      unfold dbias
      pointwise []
      refine (Fintype.sum_unique _).trans (Finset.sum_congr rfl fun s _ => (choose_eq _ _).trans ?_)
      rfl

end Cert.HiddenGrad

end
-- ==== Proof.WeightGrad.lean ====
/-
  The gradient of a weight of the channel mixer: the kernel's product by blocks of 512 rows is the reference's.
-/
module

public import proofs.«01_k».proof.Defs
public import proofs.«01_k».proof.Proof.Gen.Kernel3Ideal.Value
public import proofs.«01_k».proof.Proof.Gen.Reference3Ideal.Run
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.WeightGrad

open Cert.Kernel3Ideal Cert.Kernel3Ideal.Gen Cert.Kernel3Ideal.Value
open Idealize.ShloMosaic Idealize.ShloMosaic.TcCoe Idealize.ShloMosaic.Tactic Idealize.SL.Sem
open Idealize.ShloMosaic.Pipeline (Dat)

/-- Row `r` and column `512 h + q` of the gradient: the product of column `r` of `a` and that column of `b`. -/
def grad (a : FVec Ideal S4096x4096 .bf16) (b : FVec Ideal S4096x1024 .bf16) : FVec Ideal S2x4096x512 .bf16 :=
  fun i => ∑ s : Fin 4096, a (ix2 s (i 1)) * b (ix2 s (⟨(i 0).val * 512 + (i 2).val, by
    have h0 : (i 0).val < 2 := (i 0).isLt
    have h2 : (i 2).val < 512 := (i 2).isLt
    omega⟩ : Fin 1024))

theorem pay (P0 : Vec Ideal S4096x512 .bf16) (P1 : Vec Ideal S4096x1024 .bf16) (r : Fin 512) (q : Fin 1024) :
    k0_pay1 P0 P1 (ix2 r q) = ∑ s : Fin 4096, P0 (ix2 s r) * P1 (ix2 s q) := by
  pointwise [k0_pay1]

variable (m : (ℓ : Loc nD τ sig) → Buf (Elt Ideal) ℓ) (c : Dev nD)

theorem index0 : ∀ t : Fin cfg0.N, win0_0.index t = ![0, t.val] := by decide +kernel
theorem index1 : ∀ t : Fin cfg0.N, win0_1.index t = ![0, 0] := by decide +kernel
theorem index2 : ∀ t : Fin cfg0.N, win0_2.index t = ![0, t.val, 0] := by decide +kernel

theorem ld0 (x : Vec Ideal S4096x512 .bf16) : View.ld x r0_0 = x := by
  funext i
  show x (r0_0.idx i) = x i
  congr 1
  funext a; refine Fin.ext ?_
  match a with
  | ⟨0, _⟩ => show 0 + 1 * (i 0).val = (i 0).val; omega
  | ⟨1, _⟩ => show 0 + 1 * (i 1).val = (i 1).val; omega

theorem ld1 (x : Vec Ideal S4096x1024 .bf16) : View.ld x r0_1 = x := by
  funext i
  show x (r0_1.idx i) = x i
  congr 1
  funext a; refine Fin.ext ?_
  match a with
  | ⟨0, _⟩ => show 0 + 1 * (i 0).val = (i 0).val; omega
  | ⟨1, _⟩ => show 0 + 1 * (i 1).val = (i 1).val; omega

theorem out_at (x0 : Vec Ideal S4096x512 .bf16) (x1 : Vec Ideal S4096x1024 .bf16) (h : Fin 2) (r q : Fin 512) :
    out0_2 x0 x1 (ix3 h r q) = ∑ s : Fin 4096, x0 (ix2 s r) * x1 (ix2 s (⟨h.val * 512 + q.val, by omega⟩ : Fin 1024)) := by
  unfold out0_2
  rw [ld0, ld1]
  refine (canon2_eq (F := Ideal) x0 x1 (ix3 h r q)).trans ?_
  refine Eq.trans ?_ (pay x0 x1 r _)
  refine congrArg (k0_pay1 x0 x1) ?_
  funext a; match a with | ⟨0, _⟩ => rfl | ⟨1, _⟩ => rfl

theorem read0 (t : Fin cfg0.N) (s : Fin 4096) (r : Fin 512) :
    iblk m c 0 t (ix2 s r) = m ((c : Thread nD τ).loc main_arg0) (ix2 s (⟨512 * t.val + r.val, by have : t.val < 8 := t.isLt; omega⟩ : Fin 4096)) := by
  blk_ext [iblk, V, index0 t]

theorem read1 (t : Fin cfg0.N) (s : Fin 4096) (q : Fin 1024) :
    iblk m c 1 t (ix2 s q) = m ((c : Thread nD τ).loc main_arg1) (ix2 s q) := by
  blk_ext [iblk, V, index1 t]

theorem place (t : Fin cfg0.N) (h : Fin 2) (r q : Fin 512) : ((cfg0.win 2).blk t).view.emb (ix3 h r q) = ix3 h (⟨512 * t.val + r.val, by have : t.val < 8 := t.isLt; omega⟩ : Fin 4096) q := by
    funext a; refine Fin.ext ?_
    blk_simp [index2 t]
    match a with
    | ⟨0, _⟩ => show 0 * 2 + h.val = h.val; omega
    | ⟨1, _⟩ => show t.val * 512 + r.val = 512 * t.val + r.val; omega
    | ⟨2, _⟩ => show 0 * 512 + q.val = q.val; omega

theorem blocks_at (t : Fin cfg0.N) (h : Fin 2) (r q : Fin 512) : out0_2 (iblk m c 0 t) (iblk m c 1 t) (ix3 h r q)
    = grad (m ((c : Thread nD τ).loc main_arg0)) (m ((c : Thread nD τ).loc main_arg1)) (ix3 h (⟨512 * t.val + r.val, by have : t.val < 8 := t.isLt; omega⟩ : Fin 4096) q) := by
  refine (out_at (iblk m c 0 t) (iblk m c 1 t) h r q).trans ?_
  unfold grad
  refine Finset.sum_congr rfl fun s _ => ?_
  rw [read0, read1]
  rfl

theorem block_y (t : Fin cfg0.N) (y : S2x512x512.Idx) : out0_2 (iblk m c 0 t) (iblk m c 1 t) y
    = grad (m ((c : Thread nD τ).loc main_arg0)) (m ((c : Thread nD τ).loc main_arg1)) (((cfg0.win 2).blk t).view.emb y) := by
  obtain ⟨h, r, q, rfl⟩ : ∃ (h : Fin 2) (r : Fin 512) (q : Fin 512), y = ix3 h r q := ⟨y 0, y 1, y 2, by funext a; match a with | ⟨0, _⟩ => rfl | ⟨1, _⟩ => rfl | ⟨2, _⟩ => rfl⟩
  exact (blocks_at m c t h r q).trans (congrArg (grad _ _) (place t h r q).symm)

theorem result : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  rw [after0_2]
  have h := block_y m c t
  blk_simp
  exact h y

/-- Where the step keeps a gradient's entries: the model's columns in two halves. -/
theorem split3 (i : S2x4096x512.Idx) : ∃ (h : Fin 2) (r : Fin 4096) (q : Fin 512), i = ix3 h r q := ⟨i 0, i 1, i 2, eq_ix3 i⟩

theorem algebraic3 : @Cert.algebraic_Kernel3Ideal_Reference3Ideal Cert.Kernel3Ideal.Gen.facts Cert.Reference3Ideal.Gen.facts := by
  intro m g m' g' _ ha
  refine ⟨fun c => grad (m ((c : Thread nD τ).loc main_arg0)) (m ((c : Thread nD τ).loc main_arg1)), ?_, ?_⟩
  · exact (θ_run Cert.Kernel3Ideal.defs _ _).mono (fun r h c => ⟨(h c).1.trans (result m c), (h c).2⟩) (run_blocks (F := Ideal) m g)
  · refine (θ_run Cert.Reference3Ideal.defs _ _).mono (fun r h c => ⟨(h c).1.trans ?_, (h c).2⟩) (Cert.Reference3Ideal.Value.run (F := Ideal) m' g')
    rw [(ha c).1, (ha c).2]
    show _ = grad (m ((c : Thread nD τ).loc main_arg0)) (m ((c : Thread nD τ).loc main_arg1))
    generalize m ((c : Thread nD τ).loc main_arg0) = x0
    generalize m ((c : Thread nD τ).loc main_arg1) = x1
    funext i
    obtain ⟨h, r, q, rfl⟩ := split3 i
    pointwise [grad]
    exact Finset.sum_congr rfl fun s _ => mul_comm _ _

theorem algebraic4 : @Cert.algebraic_Kernel3Ideal_Reference4Ideal Cert.Kernel3Ideal.Gen.facts Cert.Reference4Ideal.Gen.facts := by
  intro m g m' g' _ ha
  refine ⟨fun c => grad (m ((c : Thread nD τ).loc main_arg0)) (m ((c : Thread nD τ).loc main_arg1)), ?_, ?_⟩
  · exact (θ_run Cert.Kernel3Ideal.defs _ _).mono (fun r h c => ⟨(h c).1.trans (result m c), (h c).2⟩) (run_blocks (F := Ideal) m g)
  · refine (θ_run Cert.Reference4Ideal.defs _ _).mono (fun r h c => ⟨(h c).1.trans ?_, (h c).2⟩) (Cert.Reference4Ideal.Value.run (F := Ideal) m' g')
    rw [(ha c).1, (ha c).2]
    show _ = grad (m ((c : Thread nD τ).loc main_arg0)) (m ((c : Thread nD τ).loc main_arg1))
    generalize m ((c : Thread nD τ).loc main_arg0) = x0
    generalize m ((c : Thread nD τ).loc main_arg1) = x1
    funext i
    obtain ⟨h, r, q, rfl⟩ := split3 i
    pointwise [grad]

end Cert.WeightGrad

end
-- ==== Proof.InputGrad.lean ====
/-
  The gradient of the input projection's weight: the kernel's tiles of 256 rows, each from the segment it lies in, are
  the reference's product with the segments side by side.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.InputGrad

open Cert.Kernel5Ideal Cert.Kernel5Ideal.Gen Cert.Kernel5Ideal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem index0 : ∀ t : Fin cfg0.N, win0_0.index t = ![0, 0] := by decide +kernel
theorem index1 : ∀ t : Fin cfg0.N, win0_1.index t = ![0, min 1 (t.val - 1)] := by decide +kernel
theorem index2 : ∀ t : Fin cfg0.N, win0_2.index t = ![0, min 1 (t.val - 3)] := by decide +kernel
theorem index3 : ∀ t : Fin cfg0.N, win0_3.index t = ![0, min 1 (t.val - 5)] := by decide +kernel
theorem index4 : ∀ t : Fin cfg0.N, win0_4.index t = ![0, min 1 (t.val - 7)] := by decide +kernel
theorem index5 : ∀ t : Fin cfg0.N, win0_5.index t = ![0, min 11 (t.val - 9)] := by decide +kernel
theorem index6 : ∀ t : Fin cfg0.N, win0_6.index t = ![0, 0] := by decide +kernel
theorem index7 : ∀ t : Fin cfg0.N, win0_7.index t = ![0, t.val, 0] := by decide +kernel

/-- Two stores, one above the other along the first axis, make the block. -/
theorem two_stores (p1 p0 : Vec Ideal S1x256x512 .bf16) (h : Fin 2) (r : Fin 256) (q : Fin 512) :
    View.canon (Val := Elt Ideal) (s := S2x256x512) (e := .bf16) [⟨Rect.unit ![1, 0, 0] ![1, 256, 512] inb_S2x256x512_S1x256x512_1_0_0, p1⟩,
        ⟨Rect.unit ![0, 0, 0] ![1, 256, 512] inb_S2x256x512_S1x256x512_0_0_0, p0⟩] (ix3 h r q)
      = if h.val = 0 then p0 (ix3 0 r q) else p1 (ix3 0 r q) := by
  refine View.canon_apply_of_pieces (fun y : S2x256x512.Idx => if (y 0).val = 0 then p0 (ix3 0 (y 1) (y 2)) else p1 (ix3 0 (y 1) (y 2))) _ ?_ (ix3 h r q)
    (View.cover_of_tiled ([⟨Rect.unit ![1, 0, 0] ![1, 256, 512] inb_S2x256x512_S1x256x512_1_0_0, p1⟩,
        ⟨Rect.unit ![0, 0, 0] ![1, 256, 512] inb_S2x256x512_S1x256x512_0_0_0, p0⟩] : List (View.Piece (Elt Ideal) S2x256x512 .bf16)) S1x256x512.size (by rfl) _)
  have hx (x : S1x256x512.Idx) : (x 0).val = 0 := by have : (x 0).val < 1 := (x 0).isLt; omega
  intro pc hpc
  rcases List.mem_cons.mp hpc with rfl | hpc
  · intro x
    refine Eq.trans ?_ (if_neg (by show ¬ 1 + 1 * (x 0).val = 0; omega)).symm
    refine congrArg p1 (funext fun a => Fin.ext ?_)
    have := hx x
    match a with
    | ⟨0, _⟩ => exact hx x
    | ⟨1, _⟩ => show (x 1).val = 0 + 1 * (x 1).val; omega
    | ⟨2, _⟩ => show (x 2).val = 0 + 1 * (x 2).val; omega
  rcases List.mem_cons.mp hpc with rfl | hpc
  · intro x
    have := hx x
    refine Eq.trans ?_ (if_pos (by show 0 + 1 * (x 0).val = 0; omega)).symm
    refine congrArg p0 (funext fun a => Fin.ext ?_)
    match a with
    | ⟨0, _⟩ => exact hx x
    | ⟨1, _⟩ => show (x 1).val = 0 + 1 * (x 1).val; omega
    | ⟨2, _⟩ => show (x 2).val = 0 + 1 * (x 2).val; omega
  nomatch hpc

/-- A tile's entry: the product of a column of its segment and a column of the input. -/
def tile (P0 : Vec Ideal S4096x256 .bf16) (P1 : Vec Ideal S4096x1024 .bf16) (h : Fin 2) (r : Fin 256) (q : Fin 512) : EReal :=
  ∑ s : Fin 4096, P0 (ix2 s r) * P1 (ix2 s (⟨h.val * 512 + q.val, by omega⟩ : Fin 1024))

variable (a0 : FVec Ideal S4096x256 .bf16) (a1 a2 a3 a4 : FVec Ideal S4096x512 .bf16) (a5 : FVec Ideal S4096x3072 .bf16) (u : FVec Ideal S4096x1024 .bf16) (p1 p0 : Vec Ideal S1x256x512 .bf16) (P0 : Vec Ideal S4096x256 .bf16) (P1 : Vec Ideal S4096x1024 .bf16)

theorem tile_of (h : Fin 2) (r : Fin 256) (q : Fin 512)
    (h0 : p0 (ix3 0 r q) = ∑ s : Fin 4096, P0 (ix2 s r) * P1 (ix2 s (⟨q.val, by omega⟩ : Fin 1024)))
    (h1 : p1 (ix3 0 r q) = ∑ s : Fin 4096, P0 (ix2 s r) * P1 (ix2 s (⟨512 + q.val, by omega⟩ : Fin 1024))) :
    (if h.val = 0 then p0 (ix3 0 r q) else p1 (ix3 0 r q)) = tile P0 P1 h r q := by
  unfold tile
  split_ifs with hh
  · rw [h0]
    refine Finset.sum_congr rfl fun s _ => congrArg (fun w : Fin 1024 => P0 (ix2 s r) * P1 (ix2 s w)) (Fin.ext ?_)
    show q.val = h.val * 512 + q.val; omega
  · rw [h1]
    refine Finset.sum_congr rfl fun s _ => congrArg (fun w : Fin 1024 => P0 (ix2 s r) * P1 (ix2 s w)) (Fin.ext ?_)
    show 512 + q.val = h.val * 512 + q.val; omega

theorem pay2 (r : Fin 256) (q : Fin 512) :
    k0_pay2 P0 P1 (ix3 0 r q) = ∑ s : Fin 4096, P0 (ix2 s r) * P1 (ix2 s (⟨q.val, by omega⟩ : Fin 1024)) := by
  pointwise [k0_pay2, k0_pay1]

theorem pay3 (r : Fin 256) (q : Fin 512) :
    k0_pay3 P0 P1 (ix3 0 r q) = ∑ s : Fin 4096, P0 (ix2 s r) * P1 (ix2 s (⟨512 + q.val, by omega⟩ : Fin 1024)) := by
  pointwise [k0_pay3, k0_pay1]

theorem pay5 (r : Fin 256) (q : Fin 512) :
    k0_pay5 P0 P1 (ix3 0 r q) = ∑ s : Fin 4096, P0 (ix2 s r) * P1 (ix2 s (⟨q.val, by omega⟩ : Fin 1024)) := by
  pointwise [k0_pay5, k0_pay4]

theorem pay6 (r : Fin 256) (q : Fin 512) :
    k0_pay6 P0 P1 (ix3 0 r q) = ∑ s : Fin 4096, P0 (ix2 s r) * P1 (ix2 s (⟨512 + q.val, by omega⟩ : Fin 1024)) := by
  pointwise [k0_pay6, k0_pay4]

theorem pay8 (r : Fin 256) (q : Fin 512) :
    k0_pay8 P0 P1 (ix3 0 r q) = ∑ s : Fin 4096, P0 (ix2 s r) * P1 (ix2 s (⟨q.val, by omega⟩ : Fin 1024)) := by
  pointwise [k0_pay8, k0_pay7]

theorem pay9 (r : Fin 256) (q : Fin 512) :
    k0_pay9 P0 P1 (ix3 0 r q) = ∑ s : Fin 4096, P0 (ix2 s r) * P1 (ix2 s (⟨512 + q.val, by omega⟩ : Fin 1024)) := by
  pointwise [k0_pay9, k0_pay7]

theorem pay11 (r : Fin 256) (q : Fin 512) :
    k0_pay11 P0 P1 (ix3 0 r q) = ∑ s : Fin 4096, P0 (ix2 s r) * P1 (ix2 s (⟨q.val, by omega⟩ : Fin 1024)) := by
  pointwise [k0_pay11, k0_pay10]

theorem pay12 (r : Fin 256) (q : Fin 512) :
    k0_pay12 P0 P1 (ix3 0 r q) = ∑ s : Fin 4096, P0 (ix2 s r) * P1 (ix2 s (⟨512 + q.val, by omega⟩ : Fin 1024)) := by
  pointwise [k0_pay12, k0_pay10]

theorem pay14 (r : Fin 256) (q : Fin 512) :
    k0_pay14 P0 P1 (ix3 0 r q) = ∑ s : Fin 4096, P0 (ix2 s r) * P1 (ix2 s (⟨q.val, by omega⟩ : Fin 1024)) := by
  pointwise [k0_pay14, k0_pay13]

theorem pay15 (r : Fin 256) (q : Fin 512) :
    k0_pay15 P0 P1 (ix3 0 r q) = ∑ s : Fin 4096, P0 (ix2 s r) * P1 (ix2 s (⟨512 + q.val, by omega⟩ : Fin 1024)) := by
  pointwise [k0_pay15, k0_pay13]

theorem pay17 (r : Fin 256) (q : Fin 512) :
    k0_pay17 P0 P1 (ix3 0 r q) = ∑ s : Fin 4096, P0 (ix2 s r) * P1 (ix2 s (⟨q.val, by omega⟩ : Fin 1024)) := by
  pointwise [k0_pay17, k0_pay16]

theorem pay18 (r : Fin 256) (q : Fin 512) :
    k0_pay18 P0 P1 (ix3 0 r q) = ∑ s : Fin 4096, P0 (ix2 s r) * P1 (ix2 s (⟨512 + q.val, by omega⟩ : Fin 1024)) := by
  pointwise [k0_pay18, k0_pay16]

theorem outs_A (t : Fin cfg0.N) (ht : t.val = 0) (h : Fin 2) (r : Fin 256) (q : Fin 512) :
    outsAt0 m c t.val t.isLt (ix3 h r q) = tile (iblk m c 0 t) (iblk m c 6 t) h r q := by
  have hN : t.val < 21 := t.isLt
  rw [outsAt0_A m c t (by omega) (by omega) (by omega) (by omega) (by omega) (by omega)]
  frame_out
  exact (two_stores _ _ h r q).trans (tile_of _ _ _ _ h r q (pay2 _ _ r q) (pay3 _ _ r q))

theorem outs_B (t : Fin cfg0.N) (ht : 1 ≤ t.val ∧ t.val ≤ 2) (h : Fin 2) (r : Fin 256) (q : Fin 512) :
    outsAt0 m c t.val t.isLt (ix3 h r q) = tile (iblk m c 1 t) (iblk m c 6 t) h r q := by
  have hN : t.val < 21 := t.isLt
  rw [outsAt0_B m c t (by omega) (by omega) (by omega) (by omega) (by omega) (by omega)]
  frame_out
  exact (two_stores _ _ h r q).trans (tile_of _ _ _ _ h r q (pay5 _ _ r q) (pay6 _ _ r q))

theorem outs_C (t : Fin cfg0.N) (ht : 3 ≤ t.val ∧ t.val ≤ 4) (h : Fin 2) (r : Fin 256) (q : Fin 512) :
    outsAt0 m c t.val t.isLt (ix3 h r q) = tile (iblk m c 2 t) (iblk m c 6 t) h r q := by
  have hN : t.val < 21 := t.isLt
  rw [outsAt0_C m c t (by omega) (by omega) (by omega) (by omega) (by omega) (by omega)]
  frame_out
  exact (two_stores _ _ h r q).trans (tile_of _ _ _ _ h r q (pay8 _ _ r q) (pay9 _ _ r q))

theorem outs_D (t : Fin cfg0.N) (ht : 5 ≤ t.val ∧ t.val ≤ 6) (h : Fin 2) (r : Fin 256) (q : Fin 512) :
    outsAt0 m c t.val t.isLt (ix3 h r q) = tile (iblk m c 3 t) (iblk m c 6 t) h r q := by
  have hN : t.val < 21 := t.isLt
  rw [outsAt0_D m c t (by omega) (by omega) (by omega) (by omega) (by omega) (by omega)]
  frame_out
  exact (two_stores _ _ h r q).trans (tile_of _ _ _ _ h r q (pay11 _ _ r q) (pay12 _ _ r q))

theorem outs_E (t : Fin cfg0.N) (ht : 7 ≤ t.val ∧ t.val ≤ 8) (h : Fin 2) (r : Fin 256) (q : Fin 512) :
    outsAt0 m c t.val t.isLt (ix3 h r q) = tile (iblk m c 4 t) (iblk m c 6 t) h r q := by
  have hN : t.val < 21 := t.isLt
  rw [outsAt0_E m c t (by omega) (by omega) (by omega) (by omega) (by omega) (by omega)]
  frame_out
  exact (two_stores _ _ h r q).trans (tile_of _ _ _ _ h r q (pay14 _ _ r q) (pay15 _ _ r q))

theorem outs_F (t : Fin cfg0.N) (ht : 9 ≤ t.val ∧ t.val ≤ 20) (h : Fin 2) (r : Fin 256) (q : Fin 512) :
    outsAt0 m c t.val t.isLt (ix3 h r q) = tile (iblk m c 5 t) (iblk m c 6 t) h r q := by
  have hN : t.val < 21 := t.isLt
  rw [outsAt0_F m c t (by omega) (by omega) (by omega) (by omega) (by omega) (by omega)]
  frame_out
  exact (two_stores _ _ h r q).trans (tile_of _ _ _ _ h r q (pay17 _ _ r q) (pay18 _ _ r q))

/-- The arguments, as launched. -/
abbrev x0 : FVec Ideal S4096x256 .bf16 := m ((c : Thread nD τ).loc main_arg0)
abbrev x1 : FVec Ideal S4096x512 .bf16 := m ((c : Thread nD τ).loc main_arg1)
abbrev x2 : FVec Ideal S4096x512 .bf16 := m ((c : Thread nD τ).loc main_arg2)
abbrev x3 : FVec Ideal S4096x512 .bf16 := m ((c : Thread nD τ).loc main_arg3)
abbrev x4 : FVec Ideal S4096x512 .bf16 := m ((c : Thread nD τ).loc main_arg4)
abbrev x5 : FVec Ideal S4096x3072 .bf16 := m ((c : Thread nD τ).loc main_arg5)
abbrev x6 : FVec Ideal S4096x1024 .bf16 := m ((c : Thread nD τ).loc main_arg6)

/-- The segments side by side. -/
def side (s : Fin 4096) (k : Fin 5376) : EReal :=
  if h0 : k.val < 256 then a0 (ix2 s (⟨k.val, h0⟩ : Fin 256))
  else if h1 : k.val - 256 < 512 then a1 (ix2 s (⟨k.val - 256, by omega⟩ : Fin 512))
  else if h2 : k.val - 256 - 512 < 512 then a2 (ix2 s (⟨k.val - 256 - 512, by omega⟩ : Fin 512))
  else if h3 : k.val - 256 - 512 - 512 < 512 then a3 (ix2 s (⟨k.val - 256 - 512 - 512, by omega⟩ : Fin 512))
  else if h4 : k.val - 256 - 512 - 512 - 512 < 512 then a4 (ix2 s (⟨k.val - 256 - 512 - 512 - 512, by omega⟩ : Fin 512))
  else a5 (ix2 s (⟨k.val - 256 - 512 - 512 - 512 - 512, by omega⟩ : Fin 3072))

/-- The gradient, its columns in two halves. -/
def grad : FVec Ideal S2x5376x512 .bf16 :=
  fun i => ∑ s : Fin 4096, side a0 a1 a2 a3 a4 a5 s (i 1) * u (ix2 s (⟨(i 0).val * 512 + (i 2).val, by
    have h0 : (i 0).val < 2 := (i 0).isLt
    have h2 : (i 2).val < 512 := (i 2).isLt
    omega⟩ : Fin 1024))

theorem read0 (t : Fin cfg0.N) (s : Fin 4096) (r : Fin 256) : iblk m c 0 t (ix2 s r) = x0 m c (ix2 s r) := by
  blk_ext [iblk, V, index0 t]

theorem side0 (s : Fin 4096) (k : Fin 5376) (r : Fin 256) (h : k.val = r.val) :
    side a0 a1 a2 a3 a4 a5 s k = a0 (ix2 s r) := by
  unfold side
  rw [dif_pos (by omega)]
  exact congrArg (fun w : Fin 256 => a0 (ix2 s w)) (Fin.ext h)

theorem read1 (t : Fin cfg0.N) (s : Fin 4096) (r : Fin 256) : iblk m c 1 t (ix2 s r) = x1 m c (ix2 s (⟨256 * min 1 (t.val - 1) + r.val, by omega⟩ : Fin 512)) := by
  blk_ext [iblk, V, index1 t]

theorem side1 (s : Fin 4096) (k : Fin 5376) (r : Fin 512) (h : k.val = 256 + r.val) :
    side a0 a1 a2 a3 a4 a5 s k = a1 (ix2 s r) := by
  unfold side
  rw [dif_neg (by omega), dif_pos (by omega)]
  exact congrArg (fun w : Fin 512 => a1 (ix2 s w)) (Fin.ext (by show k.val - 256 = r.val; omega))

theorem read2 (t : Fin cfg0.N) (s : Fin 4096) (r : Fin 256) : iblk m c 2 t (ix2 s r) = x2 m c (ix2 s (⟨256 * min 1 (t.val - 3) + r.val, by omega⟩ : Fin 512)) := by
  blk_ext [iblk, V, index2 t]

theorem side2 (s : Fin 4096) (k : Fin 5376) (r : Fin 512) (h : k.val = 768 + r.val) :
    side a0 a1 a2 a3 a4 a5 s k = a2 (ix2 s r) := by
  unfold side
  rw [dif_neg (by omega), dif_neg (by omega), dif_pos (by omega)]
  exact congrArg (fun w : Fin 512 => a2 (ix2 s w)) (Fin.ext (by show k.val - 256 - 512 = r.val; omega))

theorem read3 (t : Fin cfg0.N) (s : Fin 4096) (r : Fin 256) : iblk m c 3 t (ix2 s r) = x3 m c (ix2 s (⟨256 * min 1 (t.val - 5) + r.val, by omega⟩ : Fin 512)) := by
  blk_ext [iblk, V, index3 t]

theorem side3 (s : Fin 4096) (k : Fin 5376) (r : Fin 512) (h : k.val = 1280 + r.val) :
    side a0 a1 a2 a3 a4 a5 s k = a3 (ix2 s r) := by
  unfold side
  rw [dif_neg (by omega), dif_neg (by omega), dif_neg (by omega), dif_pos (by omega)]
  exact congrArg (fun w : Fin 512 => a3 (ix2 s w)) (Fin.ext (by show k.val - 256 - 512 - 512 = r.val; omega))

theorem read4 (t : Fin cfg0.N) (s : Fin 4096) (r : Fin 256) : iblk m c 4 t (ix2 s r) = x4 m c (ix2 s (⟨256 * min 1 (t.val - 7) + r.val, by omega⟩ : Fin 512)) := by
  blk_ext [iblk, V, index4 t]

theorem side4 (s : Fin 4096) (k : Fin 5376) (r : Fin 512) (h : k.val = 1792 + r.val) :
    side a0 a1 a2 a3 a4 a5 s k = a4 (ix2 s r) := by
  unfold side
  rw [dif_neg (by omega), dif_neg (by omega), dif_neg (by omega), dif_neg (by omega), dif_pos (by omega)]
  exact congrArg (fun w : Fin 512 => a4 (ix2 s w)) (Fin.ext (by show k.val - 256 - 512 - 512 - 512 = r.val; omega))

theorem read5 (t : Fin cfg0.N) (s : Fin 4096) (r : Fin 256) : iblk m c 5 t (ix2 s r) = x5 m c (ix2 s (⟨256 * min 11 (t.val - 9) + r.val, by omega⟩ : Fin 3072)) := by
  blk_ext [iblk, V, index5 t]

theorem side5 (s : Fin 4096) (k : Fin 5376) (r : Fin 3072) (h : k.val = 2304 + r.val) :
    side a0 a1 a2 a3 a4 a5 s k = a5 (ix2 s r) := by
  unfold side
  rw [dif_neg (by omega), dif_neg (by omega), dif_neg (by omega), dif_neg (by omega), dif_neg (by omega)]
  exact congrArg (fun w : Fin 3072 => a5 (ix2 s w)) (Fin.ext (by show k.val - 256 - 512 - 512 - 512 - 512 = r.val; omega))

theorem read6 (t : Fin cfg0.N) (s : Fin 4096) (r : Fin 1024) : iblk m c 6 t (ix2 s r) = x6 m c (ix2 s r) := by
  blk_ext [iblk, V, index6 t]

theorem point (t : Fin cfg0.N) (h : Fin 2) (r : Fin 256) (q : Fin 512) : outsAt0 m c t.val t.isLt (ix3 h r q)
    = grad (x0 m c) (x1 m c) (x2 m c) (x3 m c) (x4 m c) (x5 m c) (x6 m c) (ix3 h (⟨256 * t.val + r.val, by have : t.val < 21 := t.isLt; omega⟩ : Fin 5376) q) := by
  have hN : t.val < 21 := t.isLt
  unfold grad
  by_cases h0 : t.val = 0
  · rw [outs_A m c t h0]
    unfold tile
    refine Finset.sum_congr rfl fun s _ => ?_
    rw [read0, read6]
    exact congrArg (· * _) (side0 _ _ _ _ _ _ s _ _ (by show 256 * t.val + r.val = r.val; omega)).symm
  by_cases h1 : 1 ≤ t.val ∧ t.val ≤ 2
  · rw [outs_B m c t h1]
    unfold tile
    refine Finset.sum_congr rfl fun s _ => ?_
    rw [read1, read6]
    exact congrArg (· * _) (side1 _ _ _ _ _ _ s _ _ (by show 256 * t.val + r.val = 256 + (256 * min 1 (t.val - 1) + r.val); omega)).symm
  by_cases h2 : 3 ≤ t.val ∧ t.val ≤ 4
  · rw [outs_C m c t h2]
    unfold tile
    refine Finset.sum_congr rfl fun s _ => ?_
    rw [read2, read6]
    exact congrArg (· * _) (side2 _ _ _ _ _ _ s _ _ (by show 256 * t.val + r.val = 768 + (256 * min 1 (t.val - 3) + r.val); omega)).symm
  by_cases h3 : 5 ≤ t.val ∧ t.val ≤ 6
  · rw [outs_D m c t h3]
    unfold tile
    refine Finset.sum_congr rfl fun s _ => ?_
    rw [read3, read6]
    exact congrArg (· * _) (side3 _ _ _ _ _ _ s _ _ (by show 256 * t.val + r.val = 1280 + (256 * min 1 (t.val - 5) + r.val); omega)).symm
  by_cases h4 : 7 ≤ t.val ∧ t.val ≤ 8
  · rw [outs_E m c t h4]
    unfold tile
    refine Finset.sum_congr rfl fun s _ => ?_
    rw [read4, read6]
    exact congrArg (· * _) (side4 _ _ _ _ _ _ s _ _ (by show 256 * t.val + r.val = 1792 + (256 * min 1 (t.val - 7) + r.val); omega)).symm
  rw [outs_F m c t (by omega)]
  unfold tile
  refine Finset.sum_congr rfl fun s _ => ?_
  rw [read5, read6]
  exact congrArg (· * _) (side5 _ _ _ _ _ _ s _ _ (by show 256 * t.val + r.val = 2304 + (256 * min 11 (t.val - 9) + r.val); omega)).symm

theorem place (t : Fin cfg0.N) (h : Fin 2) (r : Fin 256) (q : Fin 512) : ((cfg0.win 7).blk t).view.emb (ix3 h r q)
    = ix3 h (⟨256 * t.val + r.val, by have : t.val < 21 := t.isLt; omega⟩ : Fin 5376) q := by
  funext a; refine Fin.ext ?_
  blk_simp [index7 t]
  match a with
  | ⟨0, _⟩ => show 0 * 2 + h.val = h.val; omega
  | ⟨1, _⟩ => show t.val * 256 + r.val = 256 * t.val + r.val; omega
  | ⟨2, _⟩ => show 0 * 512 + q.val = q.val; omega

theorem block_y (t : Fin cfg0.N) (y : S2x256x512.Idx) : outsAt0 m c t.val t.isLt y
    = grad (x0 m c) (x1 m c) (x2 m c) (x3 m c) (x4 m c) (x5 m c) (x6 m c) (((cfg0.win 7).blk t).view.emb y) := by
  obtain ⟨h, r, q, rfl⟩ : ∃ (h : Fin 2) (r : Fin 256) (q : Fin 512), y = ix3 h r q := ⟨y 0, y 1, y 2, eq_ix3 y⟩
  exact (point m c t h r q).trans (congrArg (grad _ _ _ _ _ _ _) (place t h r q).symm)

theorem result : (dats m 0 c).arrAt 7 cfg0.N = grad (x0 m c) (x1 m c) (x2 m c) (x3 m c) (x4 m c) (x5 m c) (x6 m c) := by
  refine (dats m 0 c).arrAt_eq_of_covers 7 _ (by decide +kernel) fun t hf y => ?_
  rw [after0_7]
  have h := block_y m c t
  blk_simp
  exact h y

theorem algebraic5 : @Cert.algebraic_Kernel5Ideal_Reference5Ideal Cert.Kernel5Ideal.Gen.facts Cert.Reference5Ideal.Gen.facts := by
  intro m g m' g' _ ha
  refine ⟨fun c => grad (x0 m c) (x1 m c) (x2 m c) (x3 m c) (x4 m c) (x5 m c) (x6 m c), ?_, ?_⟩
  · exact (θ_run Cert.Kernel5Ideal.defs _ _).mono (fun r h c => ⟨(h c).1.trans (result m c), (h c).2⟩) (run_blocks (F := Ideal) m g)
  · refine (θ_run Cert.Reference5Ideal.defs _ _).mono (fun r h c => ⟨(h c).1.trans ?_, (h c).2⟩) (Cert.Reference5Ideal.Value.run (F := Ideal) m' g')
    rw [(ha c).1, (ha c).2.1, (ha c).2.2.1, (ha c).2.2.2.1, (ha c).2.2.2.2.1, (ha c).2.2.2.2.2.1, (ha c).2.2.2.2.2.2]
    show _ = grad (x0 m c) (x1 m c) (x2 m c) (x3 m c) (x4 m c) (x5 m c) (x6 m c)
    funext i
    obtain ⟨h, r, q, rfl⟩ : ∃ (h : Fin 2) (r : Fin 5376) (q : Fin 512), i = ix3 h r q := ⟨i 0, i 1, i 2, eq_ix3 i⟩
    clear ha
    pointwise []
    unfold grad side
    rfl

end Cert.InputGrad

end
-- ==== Proof.OutputGrad.lean ====
/-
  The gradient of the output projection: the kernel's product by blocks of 512 rows is the reference's.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.OutputGrad

open Cert.Kernel6Ideal Cert.Kernel6Ideal.Gen Cert.Kernel6Ideal.Value
open Idealize.ShloMosaic Idealize.ShloMosaic.TcCoe Idealize.ShloMosaic.Tactic Idealize.SL.Sem
open Idealize.ShloMosaic.Pipeline (Dat)

/-- Row `r` and column `512 h + q` of the gradient: the product of column `r` of `a` and that column of `b`. -/
def grad (a : FVec Ideal S4096x1024 .bf16) (b : FVec Ideal S4096x1024 .bf16) : FVec Ideal S2x1024x512 .bf16 :=
  fun i => ∑ s : Fin 4096, a (ix2 s (i 1)) * b (ix2 s (⟨(i 0).val * 512 + (i 2).val, by
    have h0 : (i 0).val < 2 := (i 0).isLt
    have h2 : (i 2).val < 512 := (i 2).isLt
    omega⟩ : Fin 1024))

theorem pay (P0 : Vec Ideal S4096x512 .bf16) (P1 : Vec Ideal S4096x1024 .bf16) (r : Fin 512) (q : Fin 1024) :
    k0_pay1 P0 P1 (ix2 r q) = ∑ s : Fin 4096, P0 (ix2 s r) * P1 (ix2 s q) := by
  pointwise [k0_pay1]

variable (m : (ℓ : Loc nD τ sig) → Buf (Elt Ideal) ℓ) (c : Dev nD)

theorem index0 : ∀ t : Fin cfg0.N, win0_0.index t = ![0, t.val] := by decide +kernel
theorem index1 : ∀ t : Fin cfg0.N, win0_1.index t = ![0, 0] := by decide +kernel
theorem index2 : ∀ t : Fin cfg0.N, win0_2.index t = ![0, t.val, 0] := by decide +kernel

theorem ld0 (x : Vec Ideal S4096x512 .bf16) : View.ld x r0_0 = x := by
  funext i
  show x (r0_0.idx i) = x i
  congr 1
  funext a; refine Fin.ext ?_
  match a with
  | ⟨0, _⟩ => show 0 + 1 * (i 0).val = (i 0).val; omega
  | ⟨1, _⟩ => show 0 + 1 * (i 1).val = (i 1).val; omega

theorem ld1 (x : Vec Ideal S4096x1024 .bf16) : View.ld x r0_1 = x := by
  funext i
  show x (r0_1.idx i) = x i
  congr 1
  funext a; refine Fin.ext ?_
  match a with
  | ⟨0, _⟩ => show 0 + 1 * (i 0).val = (i 0).val; omega
  | ⟨1, _⟩ => show 0 + 1 * (i 1).val = (i 1).val; omega

theorem out_at (x0 : Vec Ideal S4096x512 .bf16) (x1 : Vec Ideal S4096x1024 .bf16) (h : Fin 2) (r q : Fin 512) :
    out0_2 x0 x1 (ix3 h r q) = ∑ s : Fin 4096, x0 (ix2 s r) * x1 (ix2 s (⟨h.val * 512 + q.val, by omega⟩ : Fin 1024)) := by
  unfold out0_2
  rw [ld0, ld1]
  refine (canon2_eq (F := Ideal) x0 x1 (ix3 h r q)).trans ?_
  refine Eq.trans ?_ (pay x0 x1 r _)
  refine congrArg (k0_pay1 x0 x1) ?_
  funext a; match a with | ⟨0, _⟩ => rfl | ⟨1, _⟩ => rfl

theorem read0 (t : Fin cfg0.N) (s : Fin 4096) (r : Fin 512) :
    iblk m c 0 t (ix2 s r) = m ((c : Thread nD τ).loc main_arg0) (ix2 s (⟨512 * t.val + r.val, by have : t.val < 2 := t.isLt; omega⟩ : Fin 1024)) := by
  blk_ext [iblk, V, index0 t]

theorem read1 (t : Fin cfg0.N) (s : Fin 4096) (q : Fin 1024) :
    iblk m c 1 t (ix2 s q) = m ((c : Thread nD τ).loc main_arg1) (ix2 s q) := by
  blk_ext [iblk, V, index1 t]

theorem place (t : Fin cfg0.N) (h : Fin 2) (r q : Fin 512) : ((cfg0.win 2).blk t).view.emb (ix3 h r q) = ix3 h (⟨512 * t.val + r.val, by have : t.val < 2 := t.isLt; omega⟩ : Fin 1024) q := by
    funext a; refine Fin.ext ?_
    blk_simp [index2 t]
    match a with
    | ⟨0, _⟩ => show 0 * 2 + h.val = h.val; omega
    | ⟨1, _⟩ => show t.val * 512 + r.val = 512 * t.val + r.val; omega
    | ⟨2, _⟩ => show 0 * 512 + q.val = q.val; omega

theorem blocks_at (t : Fin cfg0.N) (h : Fin 2) (r q : Fin 512) : out0_2 (iblk m c 0 t) (iblk m c 1 t) (ix3 h r q)
    = grad (m ((c : Thread nD τ).loc main_arg0)) (m ((c : Thread nD τ).loc main_arg1)) (ix3 h (⟨512 * t.val + r.val, by have : t.val < 2 := t.isLt; omega⟩ : Fin 1024) q) := by
  refine (out_at (iblk m c 0 t) (iblk m c 1 t) h r q).trans ?_
  unfold grad
  refine Finset.sum_congr rfl fun s _ => ?_
  rw [read0, read1]
  rfl

theorem block_y (t : Fin cfg0.N) (y : S2x512x512.Idx) : out0_2 (iblk m c 0 t) (iblk m c 1 t) y
    = grad (m ((c : Thread nD τ).loc main_arg0)) (m ((c : Thread nD τ).loc main_arg1)) (((cfg0.win 2).blk t).view.emb y) := by
  obtain ⟨h, r, q, rfl⟩ : ∃ (h : Fin 2) (r : Fin 512) (q : Fin 512), y = ix3 h r q := ⟨y 0, y 1, y 2, by funext a; match a with | ⟨0, _⟩ => rfl | ⟨1, _⟩ => rfl | ⟨2, _⟩ => rfl⟩
  exact (blocks_at m c t h r q).trans (congrArg (grad _ _) (place t h r q).symm)

theorem result : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  rw [after0_2]
  have h := block_y m c t
  blk_simp
  exact h y

/-- Where the step keeps a gradient's entries: the model's columns in two halves. -/
theorem split3 (i : S2x1024x512.Idx) : ∃ (h : Fin 2) (r : Fin 1024) (q : Fin 512), i = ix3 h r q := ⟨i 0, i 1, i 2, eq_ix3 i⟩

theorem algebraic6 : @Cert.algebraic_Kernel6Ideal_Reference6Ideal Cert.Kernel6Ideal.Gen.facts Cert.Reference6Ideal.Gen.facts := by
  intro m g m' g' _ ha
  refine ⟨fun c => grad (m ((c : Thread nD τ).loc main_arg0)) (m ((c : Thread nD τ).loc main_arg1)), ?_, ?_⟩
  · exact (θ_run Cert.Kernel6Ideal.defs _ _).mono (fun r h c => ⟨(h c).1.trans (result m c), (h c).2⟩) (run_blocks (F := Ideal) m g)
  · refine (θ_run Cert.Reference6Ideal.defs _ _).mono (fun r h c => ⟨(h c).1.trans ?_, (h c).2⟩) (Cert.Reference6Ideal.Value.run (F := Ideal) m' g')
    rw [(ha c).1, (ha c).2]
    show _ = grad (m ((c : Thread nD τ).loc main_arg0)) (m ((c : Thread nD τ).loc main_arg1))
    generalize m ((c : Thread nD τ).loc main_arg0) = x0
    generalize m ((c : Thread nD τ).loc main_arg1) = x1
    funext i
    obtain ⟨h, r, q, rfl⟩ := split3 i
    pointwise [grad]
    exact Finset.sum_congr rfl fun s _ => mul_comm _ _

end Cert.OutputGrad

end
-- ==== Proof.Hidden.lean ====
/-
  The channel mixer's hidden layer: the kernel's product, bias and activation by blocks are the reference's.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Tactic.CleanTypes
public import Idealize.ShloMosaic.Lib.KernelVsHost

@[expose] public section

set_option maxRecDepth 16384

noncomputable section

namespace Cert.Hidden

open Cert.Kernel7Ideal Cert.Kernel7Ideal.Gen Cert.Kernel7Ideal.Value
open Idealize.ShloMosaic Idealize.ShloMosaic.TcCoe Idealize.ShloMosaic.Tactic Idealize.SL.Sem
open Idealize.ShloMosaic.Pipeline (Dat)

/-- The hidden layer before its activation. -/
def pre (u w : FVec Ideal S4096x1024 .bf16) (b : FVec Ideal S1x4096 .f32) : FVec Ideal S4096x4096 .bf16 :=
  fun i => (∑ e : Fin 1024, u (ix2 (i 0) e) * w (ix2 (i 1) e)) + b (ix2 0 (i 1))

/-- The hidden layer: the square of the rectifier. -/
def act (u w : FVec Ideal S4096x1024 .bf16) (b : FVec Ideal S1x4096 .f32) : FVec Ideal S4096x4096 .bf16 :=
  fun i => max (pre u w b i) 0 * max (pre u w b i) 0

variable (m : (ℓ : Loc nD τ sig) → Buf (Elt Ideal) ℓ) (c : Dev nD)

abbrev u0 : FVec Ideal S4096x1024 .bf16 := m ((c : Thread nD τ).loc main_arg0)
abbrev w0 : FVec Ideal S4096x1024 .bf16 := m ((c : Thread nD τ).loc main_arg1)
abbrev b0 : FVec Ideal S1x4096 .f32 := m ((c : Thread nD τ).loc main_arg2)

theorem pay1 (P0 : Vec Ideal S2048x1024 .bf16) (P1 : Vec Ideal S1024x1024 .bf16) (P2 : Vec Ideal S1x1024 .f32) (r : Fin 2048) (q : Fin 1024) :
    k0_pay2 P0 P1 P2 (ix2 r q) = (∑ e : Fin 1024, P0 (ix2 r e) * P1 (ix2 q e)) + P2 (ix2 0 q) := by
  pointwise [k0_pay2, k0_pay1]

theorem pay2 (P0 : Vec Ideal S2048x1024 .bf16) (P1 : Vec Ideal S1024x1024 .bf16) (P2 : Vec Ideal S1x1024 .f32) (r : Fin 2048) (q : Fin 1024) :
    k0_pay3 P0 P1 P2 (ix2 r q) = max ((∑ e : Fin 1024, P0 (ix2 r e) * P1 (ix2 q e)) + P2 (ix2 0 q)) 0 * max ((∑ e : Fin 1024, P0 (ix2 r e) * P1 (ix2 q e)) + P2 (ix2 0 q)) 0 := by
  pointwise [k0_pay3, k0_pay1]

theorem index0 : ∀ t : Fin cfg0.N, win0_0.index t = ![t.val / 4, 0] := by decide +kernel
theorem index1 : ∀ t : Fin cfg0.N, win0_1.index t = ![t.val % 4, 0] := by decide +kernel
theorem index2 : ∀ t : Fin cfg0.N, win0_2.index t = ![0, t.val % 4] := by decide +kernel
theorem index3 : ∀ t : Fin cfg0.N, win0_3.index t = ![t.val / 4, t.val % 4] := by decide +kernel
theorem index4 : ∀ t : Fin cfg0.N, win0_4.index t = ![t.val / 4, t.val % 4] := by decide +kernel

/-- The row of `u` that row `r` of block `t` is, and the column of the hidden layer that its column `q` is. -/
abbrev row (t : Fin cfg0.N) (r : Fin 2048) : Fin 4096 := ⟨2048 * (t.val / 4) + r.val, by have : t.val < 8 := t.isLt; omega⟩
abbrev col (t : Fin cfg0.N) (q : Fin 1024) : Fin 4096 := ⟨1024 * (t.val % 4) + q.val, by omega⟩

theorem read0 (t : Fin cfg0.N) (r : Fin 2048) (e : Fin 1024) : iblk m c 0 t (ix2 r e) = u0 m c (ix2 (row t r) e) := by
  blk_ext [iblk, V, index0 t]

theorem read1 (t : Fin cfg0.N) (q e : Fin 1024) : iblk m c 1 t (ix2 q e) = w0 m c (ix2 (col t q) e) := by
  blk_ext [iblk, V, index1 t]

theorem read2 (t : Fin cfg0.N) (q : Fin 1024) : iblk m c 2 t (ix2 (0 : Fin 1) q) = b0 m c (ix2 0 (col t q)) := by
  blk_ext [iblk, V, index2 t]

theorem place3 (t : Fin cfg0.N) (r : Fin 2048) (q : Fin 1024) : ((cfg0.win 3).blk t).view.emb (ix2 r q) = ix2 (row t r) (col t q) := by
  funext a; refine Fin.ext ?_
  blk_simp [index3 t]
  match a with
  | ⟨0, _⟩ => show t.val / 4 * 2048 + r.val = 2048 * (t.val / 4) + r.val; omega
  | ⟨1, _⟩ => show t.val % 4 * 1024 + q.val = 1024 * (t.val % 4) + q.val; omega

theorem place4 (t : Fin cfg0.N) (r : Fin 2048) (q : Fin 1024) : ((cfg0.win 4).blk t).view.emb (ix2 r q) = ix2 (row t r) (col t q) := by
  funext a; refine Fin.ext ?_
  blk_simp [index4 t]
  match a with
  | ⟨0, _⟩ => show t.val / 4 * 2048 + r.val = 2048 * (t.val / 4) + r.val; omega
  | ⟨1, _⟩ => show t.val % 4 * 1024 + q.val = 1024 * (t.val % 4) + q.val; omega

abbrev blk0 (t : Fin cfg0.N) : Vec Ideal S2048x1024 .bf16 := iblk m c 0 t
abbrev blk1 (t : Fin cfg0.N) : Vec Ideal S1024x1024 .bf16 := iblk m c 1 t
abbrev blk2 (t : Fin cfg0.N) : Vec Ideal S1x1024 .f32 := iblk m c 2 t

theorem sum_at (t : Fin cfg0.N) (r : Fin 2048) (q : Fin 1024) : (∑ e : Fin 1024, blk0 m c t (ix2 r e) * blk1 m c t (ix2 q e)) + blk2 m c t (ix2 0 q) = pre (u0 m c) (w0 m c) (b0 m c) (ix2 (row t r) (col t q)) := by
  unfold pre
  exact congrArg₂ (· + ·) (Finset.sum_congr rfl fun e _ => congrArg₂ (· * ·) (read0 m c t r e) (read1 m c t q e)) (read2 m c t q)

theorem block3 (t : Fin cfg0.N) (y : S2048x1024.Idx) : k0_pay2 (iblk m c 0 t) (iblk m c 1 t) (iblk m c 2 t) y = pre (u0 m c) (w0 m c) (b0 m c) (((cfg0.win 3).blk t).view.emb y) := by
  obtain ⟨r, q, rfl⟩ : ∃ (r : Fin 2048) (q : Fin 1024), y = ix2 r q := ⟨y 0, y 1, eq_ix2 y⟩
  exact (pay1 (iblk m c 0 t) (iblk m c 1 t) (iblk m c 2 t) r q).trans ((sum_at m c t r q).trans (congrArg (pre _ _ _) (place3 t r q).symm))

theorem block4 (t : Fin cfg0.N) (y : S2048x1024.Idx) : k0_pay3 (iblk m c 0 t) (iblk m c 1 t) (iblk m c 2 t) y = act (u0 m c) (w0 m c) (b0 m c) (((cfg0.win 4).blk t).view.emb y) := by
  obtain ⟨r, q, rfl⟩ : ∃ (r : Fin 2048) (q : Fin 1024), y = ix2 r q := ⟨y 0, y 1, eq_ix2 y⟩
  refine (pay2 (iblk m c 0 t) (iblk m c 1 t) (iblk m c 2 t) r q).trans (Eq.trans ?_ (congrArg (act _ _ _) (place4 t r q).symm))
  unfold act
  rw [← sum_at]

theorem result3 : (dats m 0 c).arrAt 3 cfg0.N = pre (u0 m c) (w0 m c) (b0 m c) := by
  refine (dats m 0 c).arrAt_eq_of_covers 3 _ (by decide +kernel) fun t hf y => ?_
  rw [after0_3]
  have h := block3 m c t
  blk_simp
  frame_out
  exact h y

theorem result4 : (dats m 0 c).arrAt 4 cfg0.N = act (u0 m c) (w0 m c) (b0 m c) := by
  refine (dats m 0 c).arrAt_eq_of_covers 4 _ (by decide +kernel) fun t hf y => ?_
  rw [after0_4]
  have h := block4 m c t
  blk_simp
  frame_out
  exact h y

theorem algebraic : @Cert.algebraic_Kernel7Ideal_Reference7Ideal Cert.Kernel7Ideal.Gen.facts Cert.Reference7Ideal.Gen.facts := by
  intro m g m' g' _ ha
  refine ⟨fun c => pre (u0 m c) (w0 m c) (b0 m c), fun c => act (u0 m c) (w0 m c) (b0 m c), ?_, ?_⟩
  · exact (θ_run Cert.Kernel7Ideal.defs _ _).mono (fun r h c => ⟨(h c).1.trans (result3 m c), (h c).2.1.trans (result4 m c), (h c).2.2⟩) (run_blocks (F := Ideal) m g)
  · refine (θ_run Cert.Reference7Ideal.defs _ _).mono (fun r h c => ⟨(h c).1.trans ?_, (h c).2.1.trans ?_, (h c).2.2⟩) (Cert.Reference7Ideal.Value.run (F := Ideal) m' g')
    · rw [(ha c).1, (ha c).2.1, (ha c).2.2]
      show _ = pre (m ((c : Thread nD τ).loc main_arg0)) (m ((c : Thread nD τ).loc main_arg1)) (m ((c : Thread nD τ).loc main_arg2))
      generalize m ((c : Thread nD τ).loc main_arg0) = x0
      generalize m ((c : Thread nD τ).loc main_arg1) = x1
      generalize m ((c : Thread nD τ).loc main_arg2) = x2
      change FVec Ideal S4096x1024 .bf16 at x0
      change FVec Ideal S4096x1024 .bf16 at x1
      change FVec Ideal S1x4096 .f32 at x2
      funext i
      obtain ⟨r, q, rfl⟩ : ∃ (r q : Fin 4096), i = ix2 r q := ⟨i 0, i 1, eq_ix2 i⟩
      unfold pre
      clean_types
      pointwise []
    · rw [(ha c).1, (ha c).2.1, (ha c).2.2]
      show _ = act (m ((c : Thread nD τ).loc main_arg0)) (m ((c : Thread nD τ).loc main_arg1)) (m ((c : Thread nD τ).loc main_arg2))
      generalize m ((c : Thread nD τ).loc main_arg0) = x0
      generalize m ((c : Thread nD τ).loc main_arg1) = x1
      generalize m ((c : Thread nD τ).loc main_arg2) = x2
      change FVec Ideal S4096x1024 .bf16 at x0
      change FVec Ideal S4096x1024 .bf16 at x1
      change FVec Ideal S1x4096 .f32 at x2
      funext i
      obtain ⟨r, q, rfl⟩ : ∃ (r q : Fin 4096), i = ix2 r q := ⟨i 0, i 1, eq_ix2 i⟩
      unfold act pre
      clean_types
      pointwise []

end Cert.Hidden

end
-- ==== Proof.RowNorm.lean ====
/-
  The norm of a row of the model's width, as the kernels and the reference both write it.
-/
module

public import Idealize.ShloMosaic.Lib.Pointwise

@[expose] public section

noncomputable section

namespace Cert.RowNorm

open Idealize.ShloMosaic

/-- The mean of a row of 1024. -/
def mean (x : Fin 1024 → EReal) : EReal := Ideal.div (∑ e, x e) (Ideal.ofBits FTy.f32 0x44800000#32)

/-- Entry `q` of the row less its mean, over the root of the variance and the small constant. -/
def norm (x : Fin 1024 → EReal) (q : Fin 1024) : EReal :=
  (x q - mean x) * Ideal.rsqrt (mean (fun e => (x e - mean x) * (x e - mean x)) + Ideal.ofBits FTy.f32 0x3727C5AC#32)

end Cert.RowNorm

end
-- ==== Proof.ChannelOutLast.lean ====
/-
  The channel mixer's second product, residual and norm, in the last layer: each block of rows is the reference's.
-/
module

public import proofs.«01_k».proof.Defs
public import proofs.«01_k».proof.Proof.Gen.Kernel8Ideal.Value
public import proofs.«01_k».proof.Proof.Gen.Reference8Ideal.Run
public import proofs.«01_k».proof.Proof.RowNorm
public import Idealize.ShloMosaic.Lib.Tactic.CleanTypes
public import Idealize.ShloMosaic.Lib.Pipeline.ValueKit
public import Idealize.ShloMosaic.Lib.Pointwise
public import Idealize.ShloMosaic.Lib.KernelVsHost

@[expose] public section

set_option maxRecDepth 16384

noncomputable section

namespace Cert.ChannelOutLast

open Idealize.ShloMosaic Idealize.ShloMosaic.TcCoe Idealize.ShloMosaic.Tactic Idealize.SL.Sem
open Idealize.ShloMosaic.Pipeline (Dat)

section Kernel

open Cert.Kernel8Ideal Cert.Kernel8Ideal.Gen Cert.Kernel8Ideal.Value

variable (X : FVec Ideal S512x1024 .f32) (a : FVec Ideal S4096x4096 .bf16) (b : FVec Ideal S4096x1024 .bf16) (bi : FVec Ideal S1x1024 .f32) (x : FVec Ideal S4096x1024 .f32) (g gam bet : FVec Ideal S1x1024 .f32)

/-- The product and its bias. -/
def ff : FVec Ideal S4096x1024 .f32 :=
  fun i => (∑ e : Fin 4096, a (ix2 (i 0) e) * b (ix2 e (i 1))) + bi (ix2 0 (i 1))

/-- The residual: the stream by its constant and the product by its gate. -/
def res : FVec Ideal S4096x1024 .f32 :=
  fun i => Ideal.ofBits FTy.f32 0x3FB504F3#32 * x i + g (ix2 0 (i 1)) * ff a b bi i

/-- The stream after its norm. -/
def out : FVec Ideal S4096x1024 .f32 :=
  fun i => RowNorm.norm (fun e => res a b bi x g (ix2 (i 0) e)) (i 1) * gam (ix2 0 (i 1)) + bet (ix2 0 (i 1))

/-- The kernel's norm of a block of rows. -/
def kNorm : FVec Ideal S512x1024 .f32 :=
  have sum : FVec Ideal S512 .f32 := multiReduction .add [1] S512 X 0x00000000#32 reduces_S512x1024_S512 (.inl rfl) rfl
  have mu : FVec Ideal S512x1 .f32 := divf (shapeCast S512x1 sum shapeCasts_S512_S512x1) (broadcast S512x1 (Scalar.ofBits .f32 0x44800000#32 : Ideal .f32))
  have d : FVec Ideal S512x1024 .f32 := subf X (broadcastTo S512x1024 mu broadcasts_S512x1_S512x1024)
  have sq : FVec Ideal S512 .f32 := multiReduction .add [1] S512 (mulf d d) 0x00000000#32 reduces_S512x1024_S512 (.inl rfl) rfl
  have var : FVec Ideal S512x1 .f32 := divf (shapeCast S512x1 sq shapeCasts_S512_S512x1) (broadcast S512x1 (Scalar.ofBits .f32 0x44800000#32 : Ideal .f32))
  have root : FVec Ideal S512x1 .f32 := rsqrt (addf var (broadcast S512x1 (Scalar.ofBits .f32 0x3727C5AC#32 : Ideal .f32)))
  mulf d (broadcastTo S512x1024 root broadcasts_S512x1_S512x1024)

theorem kNorm_at (r : Fin 512) (q : Fin 1024) : kNorm X (ix2 r q) = RowNorm.norm (fun e => X (ix2 r e)) q := by
  pointwise [kNorm, RowNorm.norm, RowNorm.mean]

variable (a : Vec Ideal S512x4096 .bf16) (b : Vec Ideal S4096x1024 .bf16) (bi : Vec Ideal S1x1024 .f32) (x : Vec Ideal S512x1024 .f32) (g gam bet : Vec Ideal S1x1024 .f32)

/-- The kernel's residual of a block of rows. -/
def kRes : FVec Ideal S512x1024 .f32 :=
  addf (mulf (broadcast S512x1024 (Scalar.ofBits .f32 0x3FB504F3#32 : Ideal .f32)) x) (mulf (broadcastTo S512x1024 g broadcasts_S1x1024_S512x1024) (k0_pay2 a b bi))

/-- The kernel's stream after its norm, of a block of rows. -/
def kOut : FVec Ideal S512x1024 .f32 :=
  addf (mulf (kNorm (kRes a b bi x g)) (broadcastTo S512x1024 gam broadcasts_S1x1024_S512x1024)) (broadcastTo S512x1024 bet broadcasts_S1x1024_S512x1024)

theorem kff_at (r : Fin 512) (q : Fin 1024) : k0_pay2 a b bi (ix2 r q) = (∑ e : Fin 4096, a (ix2 r e) * b (ix2 e q)) + bi (ix2 0 q) := by
  pointwise [k0_pay2]

theorem kRes_at (r : Fin 512) (q : Fin 1024) : kRes a b bi x g (ix2 r q) = Ideal.ofBits FTy.f32 0x3FB504F3#32 * x (ix2 r q) + g (ix2 0 q) * k0_pay2 a b bi (ix2 r q) := by
  pointwise [kRes]

theorem kOut_at (r : Fin 512) (q : Fin 1024) : kOut a b bi x g gam bet (ix2 r q) = RowNorm.norm (fun e => kRes a b bi x g (ix2 r e)) q * gam (ix2 0 q) + bet (ix2 0 q) := by
  rw [← kNorm_at]
  pointwise [kOut]

theorem out_eq : k0_pay1 (k0_pay3 a b bi x g gam) (k0_pay4 bet) = kOut a b bi x g gam bet := rfl

variable (m : (ℓ : Loc nD τ sig) → Buf (Elt Ideal) ℓ) (c : Dev nD)

abbrev a0 : FVec Ideal S4096x4096 .bf16 := m ((c : Thread nD τ).loc main_arg0)
abbrev b0 : FVec Ideal S4096x1024 .bf16 := m ((c : Thread nD τ).loc main_arg1)
abbrev bi0 : FVec Ideal S1x1024 .f32 := m ((c : Thread nD τ).loc main_arg2)
abbrev x0 : FVec Ideal S4096x1024 .f32 := m ((c : Thread nD τ).loc main_arg3)
abbrev g0 : FVec Ideal S1x1024 .f32 := m ((c : Thread nD τ).loc main_arg4)
abbrev gam0 : FVec Ideal S1x1024 .f32 := m ((c : Thread nD τ).loc main_arg5)
abbrev bet0 : FVec Ideal S1x1024 .f32 := m ((c : Thread nD τ).loc main_arg6)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel
theorem index8 : ∀ t : Fin cfg0.N, win0_8.index t = ![t.val, 0] := by decide +kernel

/-- The row of the stream that row `r` of block `t` is. -/
abbrev row (t : Fin cfg0.N) (r : Fin 512) : Fin 4096 := ⟨512 * t.val + r.val, by have : t.val < 8 := t.isLt; omega⟩

theorem read_a (t : Fin cfg0.N) (r : Fin 512) (e : Fin 4096) : iblk m c 0 t (ix2 r e) = a0 m c (ix2 (row t r) e) := by
  blk_ext [iblk, V, index0 t]

theorem read_b (t : Fin cfg0.N) (e : Fin 4096) (q : Fin 1024) : iblk m c 1 t (ix2 e q) = b0 m c (ix2 e q) := by
  blk_ext [iblk, V, index1 t]

theorem read_bi (t : Fin cfg0.N) (q : Fin 1024) : iblk m c 2 t (ix2 (0 : Fin 1) q) = bi0 m c (ix2 0 q) := by
  blk_ext [iblk, V, index2 t]

theorem read_x (t : Fin cfg0.N) (r : Fin 512) (q : Fin 1024) : iblk m c 3 t (ix2 r q) = x0 m c (ix2 (row t r) q) := by
  blk_ext [iblk, V, index3 t]

theorem read_g (t : Fin cfg0.N) (q : Fin 1024) : iblk m c 4 t (ix2 (0 : Fin 1) q) = g0 m c (ix2 0 q) := by
  blk_ext [iblk, V, index4 t]

theorem read_gam (t : Fin cfg0.N) (q : Fin 1024) : iblk m c 5 t (ix2 (0 : Fin 1) q) = gam0 m c (ix2 0 q) := by
  blk_ext [iblk, V, index5 t]

theorem read_bet (t : Fin cfg0.N) (q : Fin 1024) : iblk m c 6 t (ix2 (0 : Fin 1) q) = bet0 m c (ix2 0 q) := by
  blk_ext [iblk, V, index6 t]

theorem place7 (t : Fin cfg0.N) (r : Fin 512) (q : Fin 1024) : ((cfg0.win 7).blk t).view.emb (ix2 r q) = ix2 (row t r) q := by
  funext a; refine Fin.ext ?_
  blk_simp [index7 t]
  match a with
  | ⟨0, _⟩ => show t.val * 512 + r.val = 512 * t.val + r.val; omega
  | ⟨1, _⟩ => show 0 * 1024 + q.val = q.val; omega

theorem place8 (t : Fin cfg0.N) (r : Fin 512) (q : Fin 1024) : ((cfg0.win 8).blk t).view.emb (ix2 r q) = ix2 (row t r) q := by
  funext a; refine Fin.ext ?_
  blk_simp [index8 t]
  match a with
  | ⟨0, _⟩ => show t.val * 512 + r.val = 512 * t.val + r.val; omega
  | ⟨1, _⟩ => show 0 * 1024 + q.val = q.val; omega

theorem ff_point (t : Fin cfg0.N) (r : Fin 512) (q : Fin 1024) : k0_pay2 (iblk m c 0 t) (iblk m c 1 t) (iblk m c 2 t) (ix2 r q) = ff (a0 m c) (b0 m c) (bi0 m c) (ix2 (row t r) q) :=
  (kff_at (iblk m c 0 t) (iblk m c 1 t) (iblk m c 2 t) r q).trans (congrArg₂ (· + ·) (Finset.sum_congr rfl fun e _ => congrArg₂ (· * ·) (read_a m c t r e) (read_b m c t e q)) (read_bi m c t q))

theorem res_point (t : Fin cfg0.N) (r : Fin 512) (q : Fin 1024) : kRes (iblk m c 0 t) (iblk m c 1 t) (iblk m c 2 t) (iblk m c 3 t) (iblk m c 4 t) (ix2 r q) = res (a0 m c) (b0 m c) (bi0 m c) (x0 m c) (g0 m c) (ix2 (row t r) q) :=
  (kRes_at (iblk m c 0 t) (iblk m c 1 t) (iblk m c 2 t) (iblk m c 3 t) (iblk m c 4 t) r q).trans (congrArg₂ (· + ·) (congrArg (_ * ·) (read_x m c t r q)) (congrArg₂ (· * ·) (read_g m c t q) (ff_point m c t r q)))

theorem out_point (t : Fin cfg0.N) (r : Fin 512) (q : Fin 1024) : kOut (iblk m c 0 t) (iblk m c 1 t) (iblk m c 2 t) (iblk m c 3 t) (iblk m c 4 t) (iblk m c 5 t) (iblk m c 6 t) (ix2 r q) = out (a0 m c) (b0 m c) (bi0 m c) (x0 m c) (g0 m c) (gam0 m c) (bet0 m c) (ix2 (row t r) q) :=
  (kOut_at (iblk m c 0 t) (iblk m c 1 t) (iblk m c 2 t) (iblk m c 3 t) (iblk m c 4 t) (iblk m c 5 t) (iblk m c 6 t) r q).trans (congrArg₂ (· + ·) (congrArg₂ (· * ·) (congrArg (RowNorm.norm · q) (funext fun e => res_point m c t r e)) (read_gam m c t q)) (read_bet m c t q))

theorem block7 (t : Fin cfg0.N) (y : S512x1024.Idx) : (k0_pay2 (iblk m c 0 t) (iblk m c 1 t) (iblk m c 2 t) : FVec Ideal S512x1024 .f32) y = ff (a0 m c) (b0 m c) (bi0 m c) (((cfg0.win 7).blk t).view.emb y) := by
  obtain ⟨r, q, rfl⟩ : ∃ (r : Fin 512) (q : Fin 1024), y = ix2 r q := ⟨y 0, y 1, eq_ix2 y⟩
  exact (ff_point m c t r q).trans (congrArg (ff _ _ _) (place7 t r q).symm)

theorem result7 : (dats m 0 c).arrAt 7 cfg0.N = ff (a0 m c) (b0 m c) (bi0 m c) := by
  refine (dats m 0 c).arrAt_eq_of_covers 7 _ (by decide +kernel) fun t hf y => ?_
  rw [after0_7]
  have h := block7 m c t
  blk_simp
  frame_out
  exact h y

theorem block8 (t : Fin cfg0.N) (y : S512x1024.Idx) : (k0_pay1 (k0_pay3 (iblk m c 0 t) (iblk m c 1 t) (iblk m c 2 t) (iblk m c 3 t) (iblk m c 4 t) (iblk m c 5 t)) (k0_pay4 (iblk m c 6 t)) : FVec Ideal S512x1024 .f32) y = out (a0 m c) (b0 m c) (bi0 m c) (x0 m c) (g0 m c) (gam0 m c) (bet0 m c) (((cfg0.win 8).blk t).view.emb y) := by
  obtain ⟨r, q, rfl⟩ : ∃ (r : Fin 512) (q : Fin 1024), y = ix2 r q := ⟨y 0, y 1, eq_ix2 y⟩
  exact (out_point m c t r q).trans (congrArg (out _ _ _ _ _ _ _) (place8 t r q).symm)

theorem result8 : (dats m 0 c).arrAt 8 cfg0.N = out (a0 m c) (b0 m c) (bi0 m c) (x0 m c) (g0 m c) (gam0 m c) (bet0 m c) := by
  refine (dats m 0 c).arrAt_eq_of_covers 8 _ (by decide +kernel) fun t hf y => ?_
  rw [after0_8]
  have h := block8 m c t
  blk_simp
  frame_out
  exact h y

end Kernel

section Reference

open Cert.Reference8Ideal Cert.Reference8Ideal.Gen Cert.Reference8Ideal.Value

variable (a : FVec Ideal S4096x4096 .bf16) (b : FVec Ideal S4096x1024 .bf16) (bi : FVec Ideal S1x1024 .f32) (x : FVec Ideal S4096x1024 .f32) (g gam bet v : FVec Ideal S1x1024 .f32) (X : FVec Ideal S4096x1024 .f32)

/-- The reference's norm of all rows. -/
def hNorm : FVec Ideal S4096x1024 .f32 :=
  have mu : FVec Ideal S4096x1 .f32 := Host.divf (broadcastInDim S4096x1 ![0] bcast_S4096_S4096x1_0 (Host.reduceAdd X (constant S_ .f32 0x00000000#32) reducesTo_S4096x1024_S4096_d1 h_S_)) (broadcastInDim S4096x1 ![] bcast_S_S4096x1 (constant S_ .f32 0x44800000#32))
  have d : FVec Ideal S4096x1024 .f32 := subf X (broadcastInDim S4096x1024 ![0, 1] bcast_S4096x1_S4096x1024_0_1 mu)
  mulf d (broadcastInDim S4096x1024 ![0, 1] bcast_S4096x1_S4096x1024_0_1 (Host.rsqrt (addf (Host.divf (broadcastInDim S4096x1 ![0] bcast_S4096_S4096x1_0 (Host.reduceAdd (mulf d d) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))

theorem hNorm_at (r : Fin 4096) (q : Fin 1024) : hNorm X (ix2 r q) = RowNorm.norm (fun e => X (ix2 r e)) q := by
  pointwise [hNorm, RowNorm.norm, RowNorm.mean]

/-- A vector given as a row, repeated over the rows, as the reference writes it. -/
def hRow : FVec Ideal S4096x1024 .f32 :=
  broadcastInDim S4096x1024 ![0, 1] bcast_S1x1024_S4096x1024_0_1 (broadcastInDim S1x1024 ![1] bcast_S1024_S1x1024_1 (shapeCast S1024 v shapeCasts_S1x1024_S1024))

theorem hRow_at (r : Fin 4096) (q : Fin 1024) : hRow v (ix2 r q) = v (ix2 0 q) := by
  pointwise [hRow]

/-- The reference's product and its bias. -/
def hff : FVec Ideal S4096x1024 .f32 := addf (Host.dotGeneral dot_S4096x4096_S4096x1024_S4096x1024_1_0_0_1_n_n none (extf .f32 a bitsLt_bf16_f32) (extf .f32 b bitsLt_bf16_f32)) (hRow bi)

theorem hff_at (r : Fin 4096) (q : Fin 1024) : hff a b bi (ix2 r q) = ff a b bi (ix2 r q) := by
  pointwise [hff, ff, hRow_at]

/-- The reference's residual. -/
def hRes : FVec Ideal S4096x1024 .f32 :=
  addf (mulf (broadcastInDim S4096x1024 ![] bcast_S_S4096x1024 (constant S_ .f32 0x3FB504F3#32)) x) (mulf (broadcastInDim S4096x1024 ![0, 1] bcast_S1x1024_S4096x1024_0_1 g) (hff a b bi))

theorem hRes_at (r : Fin 4096) (q : Fin 1024) : hRes a b bi x g (ix2 r q) = res a b bi x g (ix2 r q) := by
  have h := hff_at a b bi r q
  pointwise [hRes, res, h]

/-- The reference's stream after its norm. -/
def hOut : FVec Ideal S4096x1024 .f32 := addf (mulf (hNorm (hRes a b bi x g)) (hRow gam)) (hRow bet)

theorem hOut_eq : hOut a b bi x g gam bet = out a b bi x g gam bet := by
  funext i
  obtain ⟨r, q, rfl⟩ : ∃ (r : Fin 4096) (q : Fin 1024), i = ix2 r q := ⟨i 0, i 1, eq_ix2 i⟩
  exact congrArg₂ (· + ·) (congrArg₂ (· * ·) ((hNorm_at _ r q).trans (congrArg (RowNorm.norm · q) (funext fun e => hRes_at a b bi x g r e))) (hRow_at gam r q)) (hRow_at bet r q)

theorem hff_eq : hff a b bi = ff a b bi := by
  funext i
  obtain ⟨r, q, rfl⟩ : ∃ (r : Fin 4096) (q : Fin 1024), i = ix2 r q := ⟨i 0, i 1, eq_ix2 i⟩
  exact hff_at a b bi r q

variable (m : (ℓ : Loc nD τ sig) → Buf (Elt Ideal) ℓ) (c : Dev nD)

theorem ref_out : res_main_v37 m c = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

end Reference

section Claim

open Cert.Kernel8Ideal Cert.Kernel8Ideal.Gen Cert.Kernel8Ideal.Value

theorem algebraic : @Cert.algebraic_Kernel8Ideal_Reference8Ideal Cert.Kernel8Ideal.Gen.facts Cert.Reference8Ideal.Gen.facts := by
  intro m g m' g' _ ha
  refine ⟨fun c => ff (a0 m c) (b0 m c) (bi0 m c), fun c => out (a0 m c) (b0 m c) (bi0 m c) (x0 m c) (g0 m c) (gam0 m c) (bet0 m c), ?_, ?_⟩
  · exact (θ_run Cert.Kernel8Ideal.defs _ _).mono (fun r h c => ⟨(h c).1.trans (result7 m c), (h c).2.1.trans (result8 m c), (h c).2.2⟩) (run_blocks (F := Ideal) m g)
  · refine (θ_run Cert.Reference8Ideal.defs _ _).mono (fun r h c => ⟨(h c).1.trans ?_, (h c).2.1.trans ?_, (h c).2.2⟩) (Cert.Reference8Ideal.Value.run (F := Ideal) m' g')
    · rw [(ha c).1, (ha c).2.1, (ha c).2.2.1]
      exact hff_eq (m ((c : Thread nD τ).loc main_arg0)) (m ((c : Thread nD τ).loc main_arg1)) (m ((c : Thread nD τ).loc main_arg2))
    · refine (ref_out m' c).trans ?_
      rw [(ha c).1, (ha c).2.1, (ha c).2.2.1, (ha c).2.2.2.1, (ha c).2.2.2.2.1, (ha c).2.2.2.2.2.1, (ha c).2.2.2.2.2.2]
      exact hOut_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

end Claim

end Cert.ChannelOutLast

end
-- ==== Proof.ChannelOutFirst.lean ====
/-
  The channel mixer's second product, residual and norm, in the first layer, and the next layer's modulated norm.
-/
module

public import proofs.«01_k».proof.Defs
public import proofs.«01_k».proof.Proof.Gen.Kernel9Ideal.Value
public import proofs.«01_k».proof.Proof.Gen.Reference9Ideal.Run
public import proofs.«01_k».proof.Proof.RowNorm
public import Idealize.ShloMosaic.Lib.Tactic.CleanTypes
public import Idealize.ShloMosaic.Lib.Pipeline.ValueKit
public import Idealize.ShloMosaic.Lib.Pointwise
public import Idealize.ShloMosaic.Lib.KernelVsHost

@[expose] public section

set_option maxRecDepth 16384

noncomputable section

namespace Cert.ChannelOutFirst

open Idealize.ShloMosaic Idealize.ShloMosaic.TcCoe Idealize.ShloMosaic.Tactic Idealize.SL.Sem
open Idealize.ShloMosaic.Pipeline (Dat)

section Kernel

open Cert.Kernel9Ideal Cert.Kernel9Ideal.Gen Cert.Kernel9Ideal.Value

variable (X : FVec Ideal S512x1024 .f32) (a : FVec Ideal S4096x4096 .bf16) (b : FVec Ideal S4096x1024 .bf16) (bi : FVec Ideal S1x1024 .f32) (x : FVec Ideal S4096x1024 .f32) (g gam bet sc sh : FVec Ideal S1x1024 .f32)

/-- The product and its bias. -/
def ff : FVec Ideal S4096x1024 .f32 :=
  fun i => (∑ e : Fin 4096, a (ix2 (i 0) e) * b (ix2 e (i 1))) + bi (ix2 0 (i 1))

/-- The residual: the stream by its constant and the product by its gate. -/
def res : FVec Ideal S4096x1024 .f32 :=
  fun i => Ideal.ofBits FTy.f32 0x3FB504F3#32 * x i + g (ix2 0 (i 1)) * ff a b bi i

/-- The stream after its norm. -/
def out : FVec Ideal S4096x1024 .f32 :=
  fun i => RowNorm.norm (fun e => res a b bi x g (ix2 (i 0) e)) (i 1) * gam (ix2 0 (i 1)) + bet (ix2 0 (i 1))

/-- The next sub-layer's input: the stream's norm, scaled and shifted. -/
def next : FVec Ideal S4096x1024 .bf16 :=
  fun i => RowNorm.norm (fun e => out a b bi x g gam bet (ix2 (i 0) e)) (i 1) * (1 + sc (ix2 0 (i 1))) + sh (ix2 0 (i 1))

/-- The kernel's norm of a block of rows. -/
def kNorm : FVec Ideal S512x1024 .f32 :=
  have sum : FVec Ideal S512 .f32 := multiReduction .add [1] S512 X 0x00000000#32 reduces_S512x1024_S512 (.inl rfl) rfl
  have mu : FVec Ideal S512x1 .f32 := divf (shapeCast S512x1 sum shapeCasts_S512_S512x1) (broadcast S512x1 (Scalar.ofBits .f32 0x44800000#32 : Ideal .f32))
  have d : FVec Ideal S512x1024 .f32 := subf X (broadcastTo S512x1024 mu broadcasts_S512x1_S512x1024)
  have sq : FVec Ideal S512 .f32 := multiReduction .add [1] S512 (mulf d d) 0x00000000#32 reduces_S512x1024_S512 (.inl rfl) rfl
  have var : FVec Ideal S512x1 .f32 := divf (shapeCast S512x1 sq shapeCasts_S512_S512x1) (broadcast S512x1 (Scalar.ofBits .f32 0x44800000#32 : Ideal .f32))
  have root : FVec Ideal S512x1 .f32 := rsqrt (addf var (broadcast S512x1 (Scalar.ofBits .f32 0x3727C5AC#32 : Ideal .f32)))
  mulf d (broadcastTo S512x1024 root broadcasts_S512x1_S512x1024)

theorem kNorm_at (r : Fin 512) (q : Fin 1024) : kNorm X (ix2 r q) = RowNorm.norm (fun e => X (ix2 r e)) q := by
  pointwise [kNorm, RowNorm.norm, RowNorm.mean]

variable (Y Z X : FVec Ideal S512x1024 .f32) (sc sh : Vec Ideal S1x1024 .f32) (a : Vec Ideal S512x4096 .bf16) (b : Vec Ideal S4096x1024 .bf16) (bi : Vec Ideal S1x1024 .f32) (x : Vec Ideal S512x1024 .f32) (g gam bet : Vec Ideal S1x1024 .f32)

/-- The kernel's residual of a block of rows. -/
def kRes : FVec Ideal S512x1024 .f32 :=
  addf (mulf (broadcast S512x1024 (Scalar.ofBits .f32 0x3FB504F3#32 : Ideal .f32)) x) (mulf (broadcastTo S512x1024 g broadcasts_S1x1024_S512x1024) (k0_pay3 a b bi))

/-- The kernel's stream after its norm, of a block of rows. -/
def kOut : FVec Ideal S512x1024 .f32 :=
  addf (mulf (kNorm (kRes a b bi x g)) (broadcastTo S512x1024 gam broadcasts_S1x1024_S512x1024)) (broadcastTo S512x1024 bet broadcasts_S1x1024_S512x1024)

theorem kff_at (r : Fin 512) (q : Fin 1024) : k0_pay3 a b bi (ix2 r q) = (∑ e : Fin 4096, a (ix2 r e) * b (ix2 e q)) + bi (ix2 0 q) := by
  pointwise [k0_pay3]

theorem kRes_at (r : Fin 512) (q : Fin 1024) : kRes a b bi x g (ix2 r q) = Ideal.ofBits FTy.f32 0x3FB504F3#32 * x (ix2 r q) + g (ix2 0 q) * k0_pay3 a b bi (ix2 r q) := by
  pointwise [kRes]

theorem kOut_at (r : Fin 512) (q : Fin 1024) : kOut a b bi x g gam bet (ix2 r q) = RowNorm.norm (fun e => kRes a b bi x g (ix2 r e)) q * gam (ix2 0 q) + bet (ix2 0 q) := by
  rw [← kNorm_at]
  pointwise [kOut]

theorem out_eq : k0_pay1 (k0_pay4 a b bi x g gam) (k0_pay5 bet) = kOut a b bi x g gam bet := rfl

/-- The kernel's scale and shift of a norm of a block of rows. -/
def kMod : FVec Ideal S512x1024 .bf16 :=
  truncf .bf16 (addf (mulf (kNorm X) (broadcastTo S512x1024 (addf (broadcast S1x1024 (Scalar.ofBits .f32 0x3F800000#32 : Ideal .f32)) sc) broadcasts_S1x1024_S512x1024)) (broadcastTo S512x1024 sh broadcasts_S1x1024_S512x1024)) bitsLt_bf16_f32

theorem kMod_at (r : Fin 512) (q : Fin 1024) : kMod X sc sh (ix2 r q) = RowNorm.norm (fun e => X (ix2 r e)) q * (1 + sc (ix2 0 q)) + sh (ix2 0 q) := by
  rw [← kNorm_at]
  pointwise [kMod]

theorem mod_eq : k0_pay2 Y Z sc sh = kMod (k0_pay1 Y Z) sc sh := rfl

variable (m : (ℓ : Loc nD τ sig) → Buf (Elt Ideal) ℓ) (c : Dev nD)

abbrev a0 : FVec Ideal S4096x4096 .bf16 := m ((c : Thread nD τ).loc main_arg0)
abbrev b0 : FVec Ideal S4096x1024 .bf16 := m ((c : Thread nD τ).loc main_arg1)
abbrev bi0 : FVec Ideal S1x1024 .f32 := m ((c : Thread nD τ).loc main_arg2)
abbrev x0 : FVec Ideal S4096x1024 .f32 := m ((c : Thread nD τ).loc main_arg3)
abbrev g0 : FVec Ideal S1x1024 .f32 := m ((c : Thread nD τ).loc main_arg4)
abbrev gam0 : FVec Ideal S1x1024 .f32 := m ((c : Thread nD τ).loc main_arg5)
abbrev bet0 : FVec Ideal S1x1024 .f32 := m ((c : Thread nD τ).loc main_arg6)
abbrev sc0 : FVec Ideal S1x1024 .f32 := m ((c : Thread nD τ).loc main_arg7)
abbrev sh0 : FVec Ideal S1x1024 .f32 := m ((c : Thread nD τ).loc main_arg8)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![t.val, 0] := by decide +kernel

/-- The row of the stream that row `r` of block `t` is. -/
abbrev row (t : Fin cfg0.N) (r : Fin 512) : Fin 4096 := ⟨512 * t.val + r.val, by have : t.val < 8 := t.isLt; omega⟩

theorem read_a (t : Fin cfg0.N) (r : Fin 512) (e : Fin 4096) : iblk m c 0 t (ix2 r e) = a0 m c (ix2 (row t r) e) := by
  blk_ext [iblk, V, index0 t]

theorem read_b (t : Fin cfg0.N) (e : Fin 4096) (q : Fin 1024) : iblk m c 1 t (ix2 e q) = b0 m c (ix2 e q) := by
  blk_ext [iblk, V, index1 t]

theorem read_bi (t : Fin cfg0.N) (q : Fin 1024) : iblk m c 2 t (ix2 (0 : Fin 1) q) = bi0 m c (ix2 0 q) := by
  blk_ext [iblk, V, index2 t]

theorem read_x (t : Fin cfg0.N) (r : Fin 512) (q : Fin 1024) : iblk m c 3 t (ix2 r q) = x0 m c (ix2 (row t r) q) := by
  blk_ext [iblk, V, index3 t]

theorem read_g (t : Fin cfg0.N) (q : Fin 1024) : iblk m c 4 t (ix2 (0 : Fin 1) q) = g0 m c (ix2 0 q) := by
  blk_ext [iblk, V, index4 t]

theorem read_gam (t : Fin cfg0.N) (q : Fin 1024) : iblk m c 5 t (ix2 (0 : Fin 1) q) = gam0 m c (ix2 0 q) := by
  blk_ext [iblk, V, index5 t]

theorem read_bet (t : Fin cfg0.N) (q : Fin 1024) : iblk m c 6 t (ix2 (0 : Fin 1) q) = bet0 m c (ix2 0 q) := by
  blk_ext [iblk, V, index6 t]

theorem read_sc (t : Fin cfg0.N) (q : Fin 1024) : iblk m c 7 t (ix2 (0 : Fin 1) q) = sc0 m c (ix2 0 q) := by
  blk_ext [iblk, V, index7 t]

theorem read_sh (t : Fin cfg0.N) (q : Fin 1024) : iblk m c 8 t (ix2 (0 : Fin 1) q) = sh0 m c (ix2 0 q) := by
  blk_ext [iblk, V, index8 t]

theorem place9 (t : Fin cfg0.N) (r : Fin 512) (q : Fin 1024) : ((cfg0.win 9).blk t).view.emb (ix2 r q) = ix2 (row t r) q := by
  funext a; refine Fin.ext ?_
  blk_simp [index9 t]
  match a with
  | ⟨0, _⟩ => show t.val * 512 + r.val = 512 * t.val + r.val; omega
  | ⟨1, _⟩ => show 0 * 1024 + q.val = q.val; omega

theorem place10 (t : Fin cfg0.N) (r : Fin 512) (q : Fin 1024) : ((cfg0.win 10).blk t).view.emb (ix2 r q) = ix2 (row t r) q := by
  funext a; refine Fin.ext ?_
  blk_simp [index10 t]
  match a with
  | ⟨0, _⟩ => show t.val * 512 + r.val = 512 * t.val + r.val; omega
  | ⟨1, _⟩ => show 0 * 1024 + q.val = q.val; omega

theorem place11 (t : Fin cfg0.N) (r : Fin 512) (q : Fin 1024) : ((cfg0.win 11).blk t).view.emb (ix2 r q) = ix2 (row t r) q := by
  funext a; refine Fin.ext ?_
  blk_simp [index11 t]
  match a with
  | ⟨0, _⟩ => show t.val * 512 + r.val = 512 * t.val + r.val; omega
  | ⟨1, _⟩ => show 0 * 1024 + q.val = q.val; omega

theorem ff_point (t : Fin cfg0.N) (r : Fin 512) (q : Fin 1024) : k0_pay3 (iblk m c 0 t) (iblk m c 1 t) (iblk m c 2 t) (ix2 r q) = ff (a0 m c) (b0 m c) (bi0 m c) (ix2 (row t r) q) :=
  (kff_at (iblk m c 0 t) (iblk m c 1 t) (iblk m c 2 t) r q).trans (congrArg₂ (· + ·) (Finset.sum_congr rfl fun e _ => congrArg₂ (· * ·) (read_a m c t r e) (read_b m c t e q)) (read_bi m c t q))

theorem res_point (t : Fin cfg0.N) (r : Fin 512) (q : Fin 1024) : kRes (iblk m c 0 t) (iblk m c 1 t) (iblk m c 2 t) (iblk m c 3 t) (iblk m c 4 t) (ix2 r q) = res (a0 m c) (b0 m c) (bi0 m c) (x0 m c) (g0 m c) (ix2 (row t r) q) :=
  (kRes_at (iblk m c 0 t) (iblk m c 1 t) (iblk m c 2 t) (iblk m c 3 t) (iblk m c 4 t) r q).trans (congrArg₂ (· + ·) (congrArg (_ * ·) (read_x m c t r q)) (congrArg₂ (· * ·) (read_g m c t q) (ff_point m c t r q)))

theorem out_point (t : Fin cfg0.N) (r : Fin 512) (q : Fin 1024) : kOut (iblk m c 0 t) (iblk m c 1 t) (iblk m c 2 t) (iblk m c 3 t) (iblk m c 4 t) (iblk m c 5 t) (iblk m c 6 t) (ix2 r q) = out (a0 m c) (b0 m c) (bi0 m c) (x0 m c) (g0 m c) (gam0 m c) (bet0 m c) (ix2 (row t r) q) :=
  (kOut_at (iblk m c 0 t) (iblk m c 1 t) (iblk m c 2 t) (iblk m c 3 t) (iblk m c 4 t) (iblk m c 5 t) (iblk m c 6 t) r q).trans (congrArg₂ (· + ·) (congrArg₂ (· * ·) (congrArg (RowNorm.norm · q) (funext fun e => res_point m c t r e)) (read_gam m c t q)) (read_bet m c t q))

theorem next_point (t : Fin cfg0.N) (r : Fin 512) (q : Fin 1024) : kMod (kOut (iblk m c 0 t) (iblk m c 1 t) (iblk m c 2 t) (iblk m c 3 t) (iblk m c 4 t) (iblk m c 5 t) (iblk m c 6 t)) (iblk m c 7 t) (iblk m c 8 t) (ix2 r q) = next (a0 m c) (b0 m c) (bi0 m c) (x0 m c) (g0 m c) (gam0 m c) (bet0 m c) (sc0 m c) (sh0 m c) (ix2 (row t r) q) :=
  (kMod_at _ (iblk m c 7 t) (iblk m c 8 t) r q).trans (congrArg₂ (· + ·) (congrArg₂ (· * ·) (congrArg (RowNorm.norm · q) (funext fun e => out_point m c t r e)) (congrArg (1 + ·) (read_sc m c t q))) (read_sh m c t q))

theorem block9 (t : Fin cfg0.N) (y : S512x1024.Idx) : (k0_pay3 (iblk m c 0 t) (iblk m c 1 t) (iblk m c 2 t) : FVec Ideal S512x1024 .f32) y = ff (a0 m c) (b0 m c) (bi0 m c) (((cfg0.win 9).blk t).view.emb y) := by
  obtain ⟨r, q, rfl⟩ : ∃ (r : Fin 512) (q : Fin 1024), y = ix2 r q := ⟨y 0, y 1, eq_ix2 y⟩
  exact (ff_point m c t r q).trans (congrArg (ff _ _ _) (place9 t r q).symm)

theorem result9 : (dats m 0 c).arrAt 9 cfg0.N = ff (a0 m c) (b0 m c) (bi0 m c) := by
  refine (dats m 0 c).arrAt_eq_of_covers 9 _ (by decide +kernel) fun t hf y => ?_
  rw [after0_9]
  have h := block9 m c t
  blk_simp
  frame_out
  exact h y

theorem block10 (t : Fin cfg0.N) (y : S512x1024.Idx) : (k0_pay1 (k0_pay4 (iblk m c 0 t) (iblk m c 1 t) (iblk m c 2 t) (iblk m c 3 t) (iblk m c 4 t) (iblk m c 5 t)) (k0_pay5 (iblk m c 6 t)) : FVec Ideal S512x1024 .f32) y = out (a0 m c) (b0 m c) (bi0 m c) (x0 m c) (g0 m c) (gam0 m c) (bet0 m c) (((cfg0.win 10).blk t).view.emb y) := by
  obtain ⟨r, q, rfl⟩ : ∃ (r : Fin 512) (q : Fin 1024), y = ix2 r q := ⟨y 0, y 1, eq_ix2 y⟩
  exact (out_point m c t r q).trans (congrArg (out _ _ _ _ _ _ _) (place10 t r q).symm)

theorem result10 : (dats m 0 c).arrAt 10 cfg0.N = out (a0 m c) (b0 m c) (bi0 m c) (x0 m c) (g0 m c) (gam0 m c) (bet0 m c) := by
  refine (dats m 0 c).arrAt_eq_of_covers 10 _ (by decide +kernel) fun t hf y => ?_
  rw [after0_10]
  have h := block10 m c t
  unfold_out out0_10
  blk_simp
  frame_out
  exact h y

theorem block11 (t : Fin cfg0.N) (y : S512x1024.Idx) : (k0_pay2 (k0_pay4 (iblk m c 0 t) (iblk m c 1 t) (iblk m c 2 t) (iblk m c 3 t) (iblk m c 4 t) (iblk m c 5 t)) (k0_pay5 (iblk m c 6 t)) (iblk m c 7 t) (iblk m c 8 t) : FVec Ideal S512x1024 .bf16) y = next (a0 m c) (b0 m c) (bi0 m c) (x0 m c) (g0 m c) (gam0 m c) (bet0 m c) (sc0 m c) (sh0 m c) (((cfg0.win 11).blk t).view.emb y) := by
  obtain ⟨r, q, rfl⟩ : ∃ (r : Fin 512) (q : Fin 1024), y = ix2 r q := ⟨y 0, y 1, eq_ix2 y⟩
  exact (next_point m c t r q).trans (congrArg (next _ _ _ _ _ _ _ _ _) (place11 t r q).symm)

theorem result11 : (dats m 0 c).arrAt 11 cfg0.N = next (a0 m c) (b0 m c) (bi0 m c) (x0 m c) (g0 m c) (gam0 m c) (bet0 m c) (sc0 m c) (sh0 m c) := by
  refine (dats m 0 c).arrAt_eq_of_covers 11 _ (by decide +kernel) fun t hf y => ?_
  rw [after0_11]
  have h := block11 m c t
  unfold_out out0_11
  blk_simp
  frame_out
  exact h y

end Kernel

section Reference

open Cert.Reference9Ideal Cert.Reference9Ideal.Gen Cert.Reference9Ideal.Value

variable (sh sc : FVec Ideal S1x1024 .f32) (a : FVec Ideal S4096x4096 .bf16) (b : FVec Ideal S4096x1024 .bf16) (bi : FVec Ideal S1x1024 .f32) (x : FVec Ideal S4096x1024 .f32) (g gam bet v : FVec Ideal S1x1024 .f32) (X : FVec Ideal S4096x1024 .f32)

/-- The reference's norm of all rows. -/
def hNorm : FVec Ideal S4096x1024 .f32 :=
  have mu : FVec Ideal S4096x1 .f32 := Host.divf (broadcastInDim S4096x1 ![0] bcast_S4096_S4096x1_0 (Host.reduceAdd X (constant S_ .f32 0x00000000#32) reducesTo_S4096x1024_S4096_d1 h_S_)) (broadcastInDim S4096x1 ![] bcast_S_S4096x1 (constant S_ .f32 0x44800000#32))
  have d : FVec Ideal S4096x1024 .f32 := subf X (broadcastInDim S4096x1024 ![0, 1] bcast_S4096x1_S4096x1024_0_1 mu)
  mulf d (broadcastInDim S4096x1024 ![0, 1] bcast_S4096x1_S4096x1024_0_1 (Host.rsqrt (addf (Host.divf (broadcastInDim S4096x1 ![0] bcast_S4096_S4096x1_0 (Host.reduceAdd (mulf d d) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))

theorem hNorm_at (r : Fin 4096) (q : Fin 1024) : hNorm X (ix2 r q) = RowNorm.norm (fun e => X (ix2 r e)) q := by
  pointwise [hNorm, RowNorm.norm, RowNorm.mean]

/-- A vector given as a row, repeated over the rows, as the reference writes it. -/
def hRow : FVec Ideal S4096x1024 .f32 :=
  broadcastInDim S4096x1024 ![0, 1] bcast_S1x1024_S4096x1024_0_1 (broadcastInDim S1x1024 ![1] bcast_S1024_S1x1024_1 (shapeCast S1024 v shapeCasts_S1x1024_S1024))

theorem hRow_at (r : Fin 4096) (q : Fin 1024) : hRow v (ix2 r q) = v (ix2 0 q) := by
  pointwise [hRow]

/-- The reference's product and its bias. -/
def hff : FVec Ideal S4096x1024 .f32 := addf (Host.dotGeneral dot_S4096x4096_S4096x1024_S4096x1024_1_0_0_1_n_n none (extf .f32 a bitsLt_bf16_f32) (extf .f32 b bitsLt_bf16_f32)) (hRow bi)

theorem hff_at (r : Fin 4096) (q : Fin 1024) : hff a b bi (ix2 r q) = ff a b bi (ix2 r q) := by
  pointwise [hff, ff, hRow_at]

/-- The reference's residual. -/
def hRes : FVec Ideal S4096x1024 .f32 :=
  addf (mulf (broadcastInDim S4096x1024 ![] bcast_S_S4096x1024 (constant S_ .f32 0x3FB504F3#32)) x) (mulf (broadcastInDim S4096x1024 ![0, 1] bcast_S1x1024_S4096x1024_0_1 g) (hff a b bi))

theorem hRes_at (r : Fin 4096) (q : Fin 1024) : hRes a b bi x g (ix2 r q) = res a b bi x g (ix2 r q) := by
  have h := hff_at a b bi r q
  pointwise [hRes, res, h]

/-- The reference's stream after its norm. -/
def hOut : FVec Ideal S4096x1024 .f32 := addf (mulf (hNorm (hRes a b bi x g)) (hRow gam)) (hRow bet)

theorem hOut_eq : hOut a b bi x g gam bet = out a b bi x g gam bet := by
  funext i
  obtain ⟨r, q, rfl⟩ : ∃ (r : Fin 4096) (q : Fin 1024), i = ix2 r q := ⟨i 0, i 1, eq_ix2 i⟩
  exact congrArg₂ (· + ·) (congrArg₂ (· * ·) ((hNorm_at _ r q).trans (congrArg (RowNorm.norm · q) (funext fun e => hRes_at a b bi x g r e))) (hRow_at gam r q)) (hRow_at bet r q)

theorem hff_eq : hff a b bi = ff a b bi := by
  funext i
  obtain ⟨r, q, rfl⟩ : ∃ (r : Fin 4096) (q : Fin 1024), i = ix2 r q := ⟨i 0, i 1, eq_ix2 i⟩
  exact hff_at a b bi r q

/-- The reference's scale, one more than given. -/
def hScale : FVec Ideal S4096x1024 .f32 :=
  broadcastInDim S4096x1024 ![0, 1] bcast_S1x1024_S4096x1024_0_1 (addf (broadcastInDim S1x1024 ![] bcast_S_S1x1024 (constant S_ .f32 0x3F800000#32)) sc)

theorem hScale_at (r : Fin 4096) (q : Fin 1024) : hScale sc (ix2 r q) = 1 + sc (ix2 0 q) := by
  pointwise [hScale]

theorem hShift_at (r : Fin 4096) (q : Fin 1024) : (broadcastInDim S4096x1024 ![0, 1] bcast_S1x1024_S4096x1024_0_1 sh : FVec Ideal S4096x1024 .f32) (ix2 r q) = sh (ix2 0 q) := by
  pointwise []

variable (a : FVec Ideal S4096x4096 .bf16) (b : FVec Ideal S4096x1024 .bf16) (bi : FVec Ideal S1x1024 .f32) (x : FVec Ideal S4096x1024 .f32) (g gam bet sc sh : FVec Ideal S1x1024 .f32)

/-- The reference's next input. -/
def hNext : FVec Ideal S4096x1024 .bf16 :=
  truncf .bf16 (addf (mulf (hNorm (hOut a b bi x g gam bet)) (hScale sc)) (broadcastInDim S4096x1024 ![0, 1] bcast_S1x1024_S4096x1024_0_1 sh)) bitsLt_bf16_f32

theorem hNext_eq : hNext a b bi x g gam bet sc sh = next a b bi x g gam bet sc sh := by
  funext i
  obtain ⟨r, q, rfl⟩ : ∃ (r : Fin 4096) (q : Fin 1024), i = ix2 r q := ⟨i 0, i 1, eq_ix2 i⟩
  exact congrArg₂ (· + ·) (congrArg₂ (· * ·) ((hNorm_at _ r q).trans (congrArg (RowNorm.norm · q) (funext fun e => congrFun (hOut_eq a b bi x g gam bet) (ix2 r e)))) (hScale_at sc r q)) (hShift_at sh r q)

variable (m : (ℓ : Loc nD τ sig) → Buf (Elt Ideal) ℓ) (c : Dev nD)

theorem ref_out : res_main_v37 m c = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

theorem ref_next : res_main_v62 m c = hNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

end Reference

section Claim

open Cert.Kernel9Ideal Cert.Kernel9Ideal.Gen Cert.Kernel9Ideal.Value

theorem algebraic : @Cert.algebraic_Kernel9Ideal_Reference9Ideal Cert.Kernel9Ideal.Gen.facts Cert.Reference9Ideal.Gen.facts := by
  intro m g m' g' _ ha
  refine ⟨fun c => ff (a0 m c) (b0 m c) (bi0 m c), fun c => out (a0 m c) (b0 m c) (bi0 m c) (x0 m c) (g0 m c) (gam0 m c) (bet0 m c), fun c => next (a0 m c) (b0 m c) (bi0 m c) (x0 m c) (g0 m c) (gam0 m c) (bet0 m c) (sc0 m c) (sh0 m c), ?_, ?_⟩
  · exact (θ_run Cert.Kernel9Ideal.defs _ _).mono (fun r h c => ⟨(h c).1.trans (result9 m c), (h c).2.1.trans (result10 m c), (h c).2.2.1.trans (result11 m c), (h c).2.2.2⟩) (run_blocks (F := Ideal) m g)
  · refine (θ_run Cert.Reference9Ideal.defs _ _).mono (fun r h c => ⟨(h c).1.trans ?_, (h c).2.1.trans ?_, (h c).2.2.1.trans ?_, (h c).2.2.2⟩) (Cert.Reference9Ideal.Value.run (F := Ideal) m' g')
    · rw [(ha c).1, (ha c).2.1, (ha c).2.2.1]
      exact hff_eq (m ((c : Thread nD τ).loc main_arg0)) (m ((c : Thread nD τ).loc main_arg1)) (m ((c : Thread nD τ).loc main_arg2))
    · refine (ref_out m' c).trans ?_
      rw [(ha c).1, (ha c).2.1, (ha c).2.2.1, (ha c).2.2.2.1, (ha c).2.2.2.2.1, (ha c).2.2.2.2.2.1, (ha c).2.2.2.2.2.2.1]
      exact hOut_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    · refine (ref_next m' c).trans ?_
      rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
      exact hNext_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

end Claim

end Cert.ChannelOutFirst

end
-- ==== Proof.MixOut.lean ====
/-
  The output projection, its residual and norm, and the channel mixer's modulated norm.
-/
module

public import proofs.«01_k».proof.Defs
public import proofs.«01_k».proof.Proof.Gen.Kernel10Ideal.Value
public import proofs.«01_k».proof.Proof.Gen.Reference10Ideal.Run
public import proofs.«01_k».proof.Proof.RowNorm
public import Idealize.ShloMosaic.Lib.Tactic.CleanTypes
public import Idealize.ShloMosaic.Lib.Pipeline.ValueKit
public import Idealize.ShloMosaic.Lib.Pointwise
public import Idealize.ShloMosaic.Lib.KernelVsHost

@[expose] public section

set_option maxRecDepth 16384

noncomputable section

namespace Cert.MixOut

open Idealize.ShloMosaic Idealize.ShloMosaic.TcCoe Idealize.ShloMosaic.Tactic Idealize.SL.Sem
open Idealize.ShloMosaic.Pipeline (Dat)

section Kernel

open Cert.Kernel10Ideal Cert.Kernel10Ideal.Gen Cert.Kernel10Ideal.Value

variable (X : FVec Ideal S512x1024 .f32) (a : FVec Ideal S4096x1024 .bf16) (b : FVec Ideal S1024x1024 .bf16) (x : FVec Ideal S4096x1024 .f32) (g gam bet sc sh : FVec Ideal S1x1024 .f32)

/-- The product. -/
def ff : FVec Ideal S4096x1024 .f32 :=
  fun i => (∑ e : Fin 1024, a (ix2 (i 0) e) * b (ix2 e (i 1)))

/-- The residual: the stream by its constant and the product by its gate. -/
def res : FVec Ideal S4096x1024 .f32 :=
  fun i => Ideal.ofBits FTy.f32 0x3FB504F3#32 * x i + g (ix2 0 (i 1)) * ff a b i

/-- The stream after its norm. -/
def out : FVec Ideal S4096x1024 .f32 :=
  fun i => RowNorm.norm (fun e => res a b x g (ix2 (i 0) e)) (i 1) * gam (ix2 0 (i 1)) + bet (ix2 0 (i 1))

/-- The next sub-layer's input: the stream's norm, scaled and shifted. -/
def next : FVec Ideal S4096x1024 .bf16 :=
  fun i => RowNorm.norm (fun e => out a b x g gam bet (ix2 (i 0) e)) (i 1) * (1 + sc (ix2 0 (i 1))) + sh (ix2 0 (i 1))

/-- The kernel's norm of a block of rows. -/
def kNorm : FVec Ideal S512x1024 .f32 :=
  have sum : FVec Ideal S512 .f32 := multiReduction .add [1] S512 X 0x00000000#32 reduces_S512x1024_S512 (.inl rfl) rfl
  have mu : FVec Ideal S512x1 .f32 := divf (shapeCast S512x1 sum shapeCasts_S512_S512x1) (broadcast S512x1 (Scalar.ofBits .f32 0x44800000#32 : Ideal .f32))
  have d : FVec Ideal S512x1024 .f32 := subf X (broadcastTo S512x1024 mu broadcasts_S512x1_S512x1024)
  have sq : FVec Ideal S512 .f32 := multiReduction .add [1] S512 (mulf d d) 0x00000000#32 reduces_S512x1024_S512 (.inl rfl) rfl
  have var : FVec Ideal S512x1 .f32 := divf (shapeCast S512x1 sq shapeCasts_S512_S512x1) (broadcast S512x1 (Scalar.ofBits .f32 0x44800000#32 : Ideal .f32))
  have root : FVec Ideal S512x1 .f32 := rsqrt (addf var (broadcast S512x1 (Scalar.ofBits .f32 0x3727C5AC#32 : Ideal .f32)))
  mulf d (broadcastTo S512x1024 root broadcasts_S512x1_S512x1024)

theorem kNorm_at (r : Fin 512) (q : Fin 1024) : kNorm X (ix2 r q) = RowNorm.norm (fun e => X (ix2 r e)) q := by
  pointwise [kNorm, RowNorm.norm, RowNorm.mean]

variable (Y X : FVec Ideal S512x1024 .f32) (sc sh : Vec Ideal S1x1024 .f32) (a : Vec Ideal S512x1024 .bf16) (b : Vec Ideal S1024x1024 .bf16) (x : Vec Ideal S512x1024 .f32) (g gam bet : Vec Ideal S1x1024 .f32)

/-- The kernel's residual of a block of rows. -/
def kRes : FVec Ideal S512x1024 .f32 :=
  addf (mulf (broadcast S512x1024 (Scalar.ofBits .f32 0x3FB504F3#32 : Ideal .f32)) x) (mulf (broadcastTo S512x1024 g broadcasts_S1x1024_S512x1024) (k0_pay2 a b))

/-- The kernel's stream after its norm, of a block of rows. -/
def kOut : FVec Ideal S512x1024 .f32 :=
  addf (mulf (kNorm (kRes a b x g)) (broadcastTo S512x1024 gam broadcasts_S1x1024_S512x1024)) (broadcastTo S512x1024 bet broadcasts_S1x1024_S512x1024)

theorem kff_at (r : Fin 512) (q : Fin 1024) : k0_pay2 a b (ix2 r q) = (∑ e : Fin 1024, a (ix2 r e) * b (ix2 e q)) := by
  pointwise [k0_pay2]

theorem kRes_at (r : Fin 512) (q : Fin 1024) : kRes a b x g (ix2 r q) = Ideal.ofBits FTy.f32 0x3FB504F3#32 * x (ix2 r q) + g (ix2 0 q) * k0_pay2 a b (ix2 r q) := by
  pointwise [kRes]

theorem kOut_at (r : Fin 512) (q : Fin 1024) : kOut a b x g gam bet (ix2 r q) = RowNorm.norm (fun e => kRes a b x g (ix2 r e)) q * gam (ix2 0 q) + bet (ix2 0 q) := by
  rw [← kNorm_at]
  pointwise [kOut]

theorem out_eq : k0_pay3 a b x g gam bet = kOut a b x g gam bet := rfl

/-- The kernel's scale and shift of a norm of a block of rows. -/
def kMod : FVec Ideal S512x1024 .bf16 :=
  truncf .bf16 (addf (mulf (kNorm X) (broadcastTo S512x1024 (addf (broadcast S1x1024 (Scalar.ofBits .f32 0x3F800000#32 : Ideal .f32)) sc) broadcasts_S1x1024_S512x1024)) (broadcastTo S512x1024 sh broadcasts_S1x1024_S512x1024)) bitsLt_bf16_f32

theorem kMod_at (r : Fin 512) (q : Fin 1024) : kMod X sc sh (ix2 r q) = RowNorm.norm (fun e => X (ix2 r e)) q * (1 + sc (ix2 0 q)) + sh (ix2 0 q) := by
  rw [← kNorm_at]
  pointwise [kMod]

theorem mod_eq : k0_pay1 Y sc sh = kMod Y sc sh := rfl

variable (m : (ℓ : Loc nD τ sig) → Buf (Elt Ideal) ℓ) (c : Dev nD)

abbrev a0 : FVec Ideal S4096x1024 .bf16 := m ((c : Thread nD τ).loc main_arg0)
abbrev b0 : FVec Ideal S1024x1024 .bf16 := m ((c : Thread nD τ).loc main_arg1)
abbrev x0 : FVec Ideal S4096x1024 .f32 := m ((c : Thread nD τ).loc main_arg2)
abbrev g0 : FVec Ideal S1x1024 .f32 := m ((c : Thread nD τ).loc main_arg3)
abbrev gam0 : FVec Ideal S1x1024 .f32 := m ((c : Thread nD τ).loc main_arg4)
abbrev bet0 : FVec Ideal S1x1024 .f32 := m ((c : Thread nD τ).loc main_arg5)
abbrev sc0 : FVec Ideal S1x1024 .f32 := m ((c : Thread nD τ).loc main_arg6)
abbrev sh0 : FVec Ideal S1x1024 .f32 := m ((c : Thread nD τ).loc main_arg7)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![t.val, 0] := by decide +kernel

/-- The row of the stream that row `r` of block `t` is. -/
abbrev row (t : Fin cfg0.N) (r : Fin 512) : Fin 4096 := ⟨512 * t.val + r.val, by have : t.val < 8 := t.isLt; omega⟩

theorem read_a (t : Fin cfg0.N) (r : Fin 512) (e : Fin 1024) : iblk m c 0 t (ix2 r e) = a0 m c (ix2 (row t r) e) := by
  blk_ext [iblk, V, index0 t]

theorem read_b (t : Fin cfg0.N) (e : Fin 1024) (q : Fin 1024) : iblk m c 1 t (ix2 e q) = b0 m c (ix2 e q) := by
  blk_ext [iblk, V, index1 t]

theorem read_x (t : Fin cfg0.N) (r : Fin 512) (q : Fin 1024) : iblk m c 2 t (ix2 r q) = x0 m c (ix2 (row t r) q) := by
  blk_ext [iblk, V, index2 t]

theorem read_g (t : Fin cfg0.N) (q : Fin 1024) : iblk m c 3 t (ix2 (0 : Fin 1) q) = g0 m c (ix2 0 q) := by
  blk_ext [iblk, V, index3 t]

theorem read_gam (t : Fin cfg0.N) (q : Fin 1024) : iblk m c 4 t (ix2 (0 : Fin 1) q) = gam0 m c (ix2 0 q) := by
  blk_ext [iblk, V, index4 t]

theorem read_bet (t : Fin cfg0.N) (q : Fin 1024) : iblk m c 5 t (ix2 (0 : Fin 1) q) = bet0 m c (ix2 0 q) := by
  blk_ext [iblk, V, index5 t]

theorem read_sc (t : Fin cfg0.N) (q : Fin 1024) : iblk m c 6 t (ix2 (0 : Fin 1) q) = sc0 m c (ix2 0 q) := by
  blk_ext [iblk, V, index6 t]

theorem read_sh (t : Fin cfg0.N) (q : Fin 1024) : iblk m c 7 t (ix2 (0 : Fin 1) q) = sh0 m c (ix2 0 q) := by
  blk_ext [iblk, V, index7 t]

theorem place8 (t : Fin cfg0.N) (r : Fin 512) (q : Fin 1024) : ((cfg0.win 8).blk t).view.emb (ix2 r q) = ix2 (row t r) q := by
  funext a; refine Fin.ext ?_
  blk_simp [index8 t]
  match a with
  | ⟨0, _⟩ => show t.val * 512 + r.val = 512 * t.val + r.val; omega
  | ⟨1, _⟩ => show 0 * 1024 + q.val = q.val; omega

theorem place9 (t : Fin cfg0.N) (r : Fin 512) (q : Fin 1024) : ((cfg0.win 9).blk t).view.emb (ix2 r q) = ix2 (row t r) q := place8 t r q

theorem place10 (t : Fin cfg0.N) (r : Fin 512) (q : Fin 1024) : ((cfg0.win 10).blk t).view.emb (ix2 r q) = ix2 (row t r) q := place8 t r q

theorem ff_point (t : Fin cfg0.N) (r : Fin 512) (q : Fin 1024) : k0_pay2 (iblk m c 0 t) (iblk m c 1 t) (ix2 r q) = ff (a0 m c) (b0 m c) (ix2 (row t r) q) :=
  (kff_at (iblk m c 0 t) (iblk m c 1 t) r q).trans (Finset.sum_congr rfl fun e _ => congrArg₂ (· * ·) (read_a m c t r e) (read_b m c t e q))

theorem res_point (t : Fin cfg0.N) (r : Fin 512) (q : Fin 1024) : kRes (iblk m c 0 t) (iblk m c 1 t) (iblk m c 2 t) (iblk m c 3 t) (ix2 r q) = res (a0 m c) (b0 m c) (x0 m c) (g0 m c) (ix2 (row t r) q) :=
  (kRes_at (iblk m c 0 t) (iblk m c 1 t) (iblk m c 2 t) (iblk m c 3 t) r q).trans (congrArg₂ (· + ·) (congrArg (_ * ·) (read_x m c t r q)) (congrArg₂ (· * ·) (read_g m c t q) (ff_point m c t r q)))

theorem out_point (t : Fin cfg0.N) (r : Fin 512) (q : Fin 1024) : kOut (iblk m c 0 t) (iblk m c 1 t) (iblk m c 2 t) (iblk m c 3 t) (iblk m c 4 t) (iblk m c 5 t) (ix2 r q) = out (a0 m c) (b0 m c) (x0 m c) (g0 m c) (gam0 m c) (bet0 m c) (ix2 (row t r) q) :=
  (kOut_at (iblk m c 0 t) (iblk m c 1 t) (iblk m c 2 t) (iblk m c 3 t) (iblk m c 4 t) (iblk m c 5 t) r q).trans (congrArg₂ (· + ·) (congrArg₂ (· * ·) (congrArg (RowNorm.norm · q) (funext fun e => res_point m c t r e)) (read_gam m c t q)) (read_bet m c t q))

theorem next_point (t : Fin cfg0.N) (r : Fin 512) (q : Fin 1024) : kMod (kOut (iblk m c 0 t) (iblk m c 1 t) (iblk m c 2 t) (iblk m c 3 t) (iblk m c 4 t) (iblk m c 5 t)) (iblk m c 6 t) (iblk m c 7 t) (ix2 r q) = next (a0 m c) (b0 m c) (x0 m c) (g0 m c) (gam0 m c) (bet0 m c) (sc0 m c) (sh0 m c) (ix2 (row t r) q) :=
  (kMod_at _ (iblk m c 6 t) (iblk m c 7 t) r q).trans (congrArg₂ (· + ·) (congrArg₂ (· * ·) (congrArg (RowNorm.norm · q) (funext fun e => out_point m c t r e)) (congrArg (1 + ·) (read_sc m c t q))) (read_sh m c t q))

theorem block8 (t : Fin cfg0.N) (y : S512x1024.Idx) : (k0_pay2 (iblk m c 0 t) (iblk m c 1 t) : FVec Ideal S512x1024 .f32) y = ff (a0 m c) (b0 m c) (((cfg0.win 8).blk t).view.emb y) := by
  obtain ⟨r, q, rfl⟩ : ∃ (r : Fin 512) (q : Fin 1024), y = ix2 r q := ⟨y 0, y 1, eq_ix2 y⟩
  exact (ff_point m c t r q).trans (congrArg (ff _ _) (place8 t r q).symm)

theorem result8 : (dats m 0 c).arrAt 8 cfg0.N = ff (a0 m c) (b0 m c) := by
  refine (dats m 0 c).arrAt_eq_of_covers 8 _ (by decide +kernel) fun t hf y => ?_
  rw [after0_8]
  have h := block8 m c t
  blk_simp
  frame_out
  exact h y

theorem block9 (t : Fin cfg0.N) (y : S512x1024.Idx) : (k0_pay3 (iblk m c 0 t) (iblk m c 1 t) (iblk m c 2 t) (iblk m c 3 t) (iblk m c 4 t) (iblk m c 5 t) : FVec Ideal S512x1024 .f32) y = out (a0 m c) (b0 m c) (x0 m c) (g0 m c) (gam0 m c) (bet0 m c) (((cfg0.win 9).blk t).view.emb y) := by
  obtain ⟨r, q, rfl⟩ : ∃ (r : Fin 512) (q : Fin 1024), y = ix2 r q := ⟨y 0, y 1, eq_ix2 y⟩
  exact (out_point m c t r q).trans (congrArg (out _ _ _ _ _ _) (place9 t r q).symm)

theorem result9 : (dats m 0 c).arrAt 9 cfg0.N = out (a0 m c) (b0 m c) (x0 m c) (g0 m c) (gam0 m c) (bet0 m c) := by
  refine (dats m 0 c).arrAt_eq_of_covers 9 _ (by decide +kernel) fun t hf y => ?_
  rw [after0_9]
  have h := block9 m c t
  blk_simp
  frame_out
  exact h y

theorem block10 (t : Fin cfg0.N) (y : S512x1024.Idx) : (k0_pay1 (k0_pay3 (iblk m c 0 t) (iblk m c 1 t) (iblk m c 2 t) (iblk m c 3 t) (iblk m c 4 t) (iblk m c 5 t)) (iblk m c 6 t) (iblk m c 7 t) : FVec Ideal S512x1024 .bf16) y = next (a0 m c) (b0 m c) (x0 m c) (g0 m c) (gam0 m c) (bet0 m c) (sc0 m c) (sh0 m c) (((cfg0.win 10).blk t).view.emb y) := by
  obtain ⟨r, q, rfl⟩ : ∃ (r : Fin 512) (q : Fin 1024), y = ix2 r q := ⟨y 0, y 1, eq_ix2 y⟩
  exact (next_point m c t r q).trans (congrArg (next _ _ _ _ _ _ _ _) (place10 t r q).symm)

theorem result10 : (dats m 0 c).arrAt 10 cfg0.N = next (a0 m c) (b0 m c) (x0 m c) (g0 m c) (gam0 m c) (bet0 m c) (sc0 m c) (sh0 m c) := by
  refine (dats m 0 c).arrAt_eq_of_covers 10 _ (by decide +kernel) fun t hf y => ?_
  rw [after0_10]
  have h := block10 m c t
  blk_simp
  frame_out
  exact h y

end Kernel

section Reference

open Cert.Reference10Ideal Cert.Reference10Ideal.Gen Cert.Reference10Ideal.Value

variable (sh sc : FVec Ideal S1x1024 .f32) (a : FVec Ideal S4096x1024 .bf16) (b : FVec Ideal S1024x1024 .bf16) (x : FVec Ideal S4096x1024 .f32) (g gam bet v : FVec Ideal S1x1024 .f32) (X : FVec Ideal S4096x1024 .f32)

/-- The reference's norm of all rows. -/
def hNorm : FVec Ideal S4096x1024 .f32 :=
  have mu : FVec Ideal S4096x1 .f32 := Host.divf (broadcastInDim S4096x1 ![0] bcast_S4096_S4096x1_0 (Host.reduceAdd X (constant S_ .f32 0x00000000#32) reducesTo_S4096x1024_S4096_d1 h_S_)) (broadcastInDim S4096x1 ![] bcast_S_S4096x1 (constant S_ .f32 0x44800000#32))
  have d : FVec Ideal S4096x1024 .f32 := subf X (broadcastInDim S4096x1024 ![0, 1] bcast_S4096x1_S4096x1024_0_1 mu)
  mulf d (broadcastInDim S4096x1024 ![0, 1] bcast_S4096x1_S4096x1024_0_1 (Host.rsqrt (addf (Host.divf (broadcastInDim S4096x1 ![0] bcast_S4096_S4096x1_0 (Host.reduceAdd (mulf d d) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))

theorem hNorm_at (r : Fin 4096) (q : Fin 1024) : hNorm X (ix2 r q) = RowNorm.norm (fun e => X (ix2 r e)) q := by
  pointwise [hNorm, RowNorm.norm, RowNorm.mean]

/-- A vector given as a row, repeated over the rows, as the reference writes it. -/
def hRow : FVec Ideal S4096x1024 .f32 :=
  broadcastInDim S4096x1024 ![0, 1] bcast_S1x1024_S4096x1024_0_1 (broadcastInDim S1x1024 ![1] bcast_S1024_S1x1024_1 (shapeCast S1024 v shapeCasts_S1x1024_S1024))

theorem hRow_at (r : Fin 4096) (q : Fin 1024) : hRow v (ix2 r q) = v (ix2 0 q) := by
  pointwise [hRow]

/-- The reference's product. -/
def hff : FVec Ideal S4096x1024 .f32 := Host.dotGeneral dot_S4096x1024_S1024x1024_S4096x1024_1_0_0_1_n_n none (extf .f32 a bitsLt_bf16_f32) (extf .f32 b bitsLt_bf16_f32)

theorem hff_at (r : Fin 4096) (q : Fin 1024) : hff a b (ix2 r q) = ff a b (ix2 r q) := by
  pointwise [hff, ff]

/-- The reference's residual. -/
def hRes : FVec Ideal S4096x1024 .f32 :=
  addf (mulf (broadcastInDim S4096x1024 ![] bcast_S_S4096x1024 (constant S_ .f32 0x3FB504F3#32)) x) (mulf (broadcastInDim S4096x1024 ![0, 1] bcast_S1x1024_S4096x1024_0_1 g) (hff a b))

theorem hRes_at (r : Fin 4096) (q : Fin 1024) : hRes a b x g (ix2 r q) = res a b x g (ix2 r q) := by
  have h := hff_at a b r q
  pointwise [hRes, res, h]

/-- The reference's stream after its norm. -/
def hOut : FVec Ideal S4096x1024 .f32 := addf (mulf (hNorm (hRes a b x g)) (hRow gam)) (hRow bet)

theorem hOut_eq : hOut a b x g gam bet = out a b x g gam bet := by
  funext i
  obtain ⟨r, q, rfl⟩ : ∃ (r : Fin 4096) (q : Fin 1024), i = ix2 r q := ⟨i 0, i 1, eq_ix2 i⟩
  exact congrArg₂ (· + ·) (congrArg₂ (· * ·) ((hNorm_at _ r q).trans (congrArg (RowNorm.norm · q) (funext fun e => hRes_at a b x g r e))) (hRow_at gam r q)) (hRow_at bet r q)

theorem hff_eq : hff a b = ff a b := by
  funext i
  obtain ⟨r, q, rfl⟩ : ∃ (r : Fin 4096) (q : Fin 1024), i = ix2 r q := ⟨i 0, i 1, eq_ix2 i⟩
  exact hff_at a b r q

/-- The reference's scale, one more than given. -/
def hScale : FVec Ideal S4096x1024 .f32 :=
  broadcastInDim S4096x1024 ![0, 1] bcast_S1x1024_S4096x1024_0_1 (addf (broadcastInDim S1x1024 ![] bcast_S_S1x1024 (constant S_ .f32 0x3F800000#32)) sc)

theorem hScale_at (r : Fin 4096) (q : Fin 1024) : hScale sc (ix2 r q) = 1 + sc (ix2 0 q) := by
  pointwise [hScale]

theorem hShift_at (r : Fin 4096) (q : Fin 1024) : (broadcastInDim S4096x1024 ![0, 1] bcast_S1x1024_S4096x1024_0_1 sh : FVec Ideal S4096x1024 .f32) (ix2 r q) = sh (ix2 0 q) := by
  pointwise []

variable (a : FVec Ideal S4096x1024 .bf16) (b : FVec Ideal S1024x1024 .bf16) (x : FVec Ideal S4096x1024 .f32) (g gam bet sc sh : FVec Ideal S1x1024 .f32)

/-- The reference's next input. -/
def hNext : FVec Ideal S4096x1024 .bf16 :=
  truncf .bf16 (addf (mulf (hNorm (hOut a b x g gam bet)) (hScale sc)) (broadcastInDim S4096x1024 ![0, 1] bcast_S1x1024_S4096x1024_0_1 sh)) bitsLt_bf16_f32

theorem hNext_eq : hNext a b x g gam bet sc sh = next a b x g gam bet sc sh := by
  funext i
  obtain ⟨r, q, rfl⟩ : ∃ (r : Fin 4096) (q : Fin 1024), i = ix2 r q := ⟨i 0, i 1, eq_ix2 i⟩
  exact congrArg₂ (· + ·) (congrArg₂ (· * ·) ((hNorm_at _ r q).trans (congrArg (RowNorm.norm · q) (funext fun e => congrFun (hOut_eq a b x g gam bet) (ix2 r e)))) (hScale_at sc r q)) (hShift_at sh r q)

variable (m : (ℓ : Loc nD τ sig) → Buf (Elt Ideal) ℓ) (c : Dev nD)

theorem ref_out : res_main_v33 m c = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

theorem ref_next : res_main_v58 m c = hNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

end Reference

section Claim

open Cert.Kernel10Ideal Cert.Kernel10Ideal.Gen Cert.Kernel10Ideal.Value

theorem algebraic : @Cert.algebraic_Kernel10Ideal_Reference10Ideal Cert.Kernel10Ideal.Gen.facts Cert.Reference10Ideal.Gen.facts := by
  intro m g m' g' _ ha
  refine ⟨fun c => ff (a0 m c) (b0 m c), fun c => out (a0 m c) (b0 m c) (x0 m c) (g0 m c) (gam0 m c) (bet0 m c), fun c => next (a0 m c) (b0 m c) (x0 m c) (g0 m c) (gam0 m c) (bet0 m c) (sc0 m c) (sh0 m c), ?_, ?_⟩
  · exact (θ_run Cert.Kernel10Ideal.defs _ _).mono (fun r h c => ⟨(h c).1.trans (result8 m c), (h c).2.1.trans (result9 m c), (h c).2.2.1.trans (result10 m c), (h c).2.2.2⟩) (run_blocks (F := Ideal) m g)
  · refine (θ_run Cert.Reference10Ideal.defs _ _).mono (fun r h c => ⟨(h c).1.trans ?_, (h c).2.1.trans ?_, (h c).2.2.1.trans ?_, (h c).2.2.2⟩) (Cert.Reference10Ideal.Value.run (F := Ideal) m' g')
    · rw [(ha c).1, (ha c).2.1]
      exact hff_eq (m ((c : Thread nD τ).loc main_arg0)) (m ((c : Thread nD τ).loc main_arg1))
    · refine (ref_out m' c).trans ?_
      rw [(ha c).1, (ha c).2.1, (ha c).2.2.1, (ha c).2.2.2.1, (ha c).2.2.2.2.1, (ha c).2.2.2.2.2.1]
      exact hOut_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    · refine (ref_next m' c).trans ?_
      rw [(ha c).1, (ha c).2.1, (ha c).2.2.1, (ha c).2.2.2.1, (ha c).2.2.2.2.1, (ha c).2.2.2.2.2.1, (ha c).2.2.2.2.2.2.1, (ha c).2.2.2.2.2.2.2]
      exact hNext_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

end Claim

end Cert.MixOut

end
-- ==== Proof.ProjPool.lean ====
/-
  The input projection's columns for the pooling's part: each block of the kernel's product is the reference's slice.
-/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.ProjPool

open Cert.Kernel11Ideal Cert.Kernel11Ideal.Gen Cert.Kernel11Ideal.Value
open Idealize.ShloMosaic Idealize.ShloMosaic.TcCoe Idealize.ShloMosaic.Tactic Idealize.SL.Sem
open Idealize.ShloMosaic.Pipeline (Dat)

/-- Row `r` of `u` with row `0 + q` of `w`, which is that column of the projection. -/
def proj (u : FVec Ideal S4096x1024 .bf16) (w : FVec Ideal S5376x1024 .bf16) : FVec Ideal S4096x256 .f32 :=
  fun i => ∑ e : Fin 1024, u (ix2 (i 0) e) * w (ix2 (⟨0 + (i 1).val, by have h1 : (i 1).val < 256 := (i 1).isLt; omega⟩ : Fin 5376) e)

variable (m : (ℓ : Loc nD τ sig) → Buf (Elt Ideal) ℓ) (c : Dev nD)

abbrev u0 : FVec Ideal S4096x1024 .bf16 := m ((c : Thread nD τ).loc main_arg0)
abbrev w0 : FVec Ideal S5376x1024 .bf16 := m ((c : Thread nD τ).loc main_arg1)

theorem pay (P0 : Vec Ideal S4096x1024 .bf16) (P1 : Vec Ideal S256x1024 .bf16) (r : Fin 4096) (q : Fin 256) :
    k0_pay1 P0 P1 (ix2 r q) = ∑ e : Fin 1024, P0 (ix2 r e) * P1 (ix2 q e) := by
  pointwise [k0_pay1]

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel

theorem read0 (t : Fin cfg0.N) (r : Fin 4096) (e : Fin 1024) : iblk m c 0 t (ix2 r e) = u0 m c (ix2 r e) := by
  blk_ext [iblk, V, index0 t]

theorem read1 (t : Fin cfg0.N) (q : Fin 256) (e : Fin 1024) : iblk m c 1 t (ix2 q e) = w0 m c (ix2 (⟨q.val, by omega⟩ : Fin 5376) e) := by
  blk_ext [iblk, V, index1 t]

theorem place (t : Fin cfg0.N) (r : Fin 4096) (q : Fin 256) : ((cfg0.win 2).blk t).view.emb (ix2 r q) = ix2 r q := by
  funext a; refine Fin.ext ?_
  blk_simp [index2 t]
  match a with
  | ⟨0, _⟩ => show 0 * 4096 + r.val = r.val; omega
  | ⟨1, _⟩ => show 0 * 256 + q.val = q.val; omega

theorem block_y (t : Fin cfg0.N) (y : S4096x256.Idx) : k0_pay1 (iblk m c 0 t) (iblk m c 1 t) y = proj (u0 m c) (w0 m c) (((cfg0.win 2).blk t).view.emb y) := by
  obtain ⟨r, q, rfl⟩ : ∃ (r : Fin 4096) (q : Fin 256), y = ix2 r q := ⟨y 0, y 1, eq_ix2 y⟩
  refine (pay (iblk m c 0 t) (iblk m c 1 t) r q).trans (Eq.trans ?_ (congrArg (proj _ _) (place t r q).symm))
  unfold proj
  refine Finset.sum_congr rfl fun e _ => ?_
  rw [read0, read1]
  refine congrArg (_ * ·) (congrArg (w0 m c) ?_)
  funext a; refine Fin.ext ?_
  match a with
  | ⟨0, _⟩ => show q.val = 0 + q.val; omega
  | ⟨1, _⟩ => rfl

theorem result : (dats m 0 c).arrAt 2 cfg0.N = proj (u0 m c) (w0 m c) := by
  refine (dats m 0 c).arrAt_eq_of_covers 2 _ (by decide +kernel) fun t hf y => ?_
  rw [after0_2]
  have h := block_y m c t
  blk_simp
  frame_out
  exact h y

theorem algebraic : @Cert.algebraic_Kernel11Ideal_Reference11Ideal Cert.Kernel11Ideal.Gen.facts Cert.Reference11Ideal.Gen.facts := by
  intro m g m' g' _ ha
  refine ⟨fun c => proj (u0 m c) (w0 m c), ?_, ?_⟩
  · exact (θ_run Cert.Kernel11Ideal.defs _ _).mono (fun r h c => ⟨(h c).1.trans (result m c), (h c).2⟩) (run_blocks (F := Ideal) m g)
  · refine (θ_run Cert.Reference11Ideal.defs _ _).mono (fun r h c => ⟨(h c).1.trans ?_, (h c).2⟩) (Cert.Reference11Ideal.Value.run (F := Ideal) m' g')
    rw [(ha c).1, (ha c).2]
    show _ = proj (u0 m c) (w0 m c)
    funext i
    obtain ⟨r, q, rfl⟩ : ∃ (r : Fin 4096) (q : Fin 256), i = ix2 r q := ⟨i 0, i 1, eq_ix2 i⟩
    pointwise [proj]

end Cert.ProjPool

end
-- ==== Proof.ProjAttn.lean ====
/-
  The input projection's columns for the attention's part: each block of the kernel's product is the reference's slice.
-/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.ProjAttn

open Cert.Kernel12Ideal Cert.Kernel12Ideal.Gen Cert.Kernel12Ideal.Value
open Idealize.ShloMosaic Idealize.ShloMosaic.TcCoe Idealize.ShloMosaic.Tactic Idealize.SL.Sem
open Idealize.ShloMosaic.Pipeline (Dat)

/-- Row `r` of `u` with row `256 + q` of `w`, which is that column of the projection. -/
def proj (u : FVec Ideal S4096x1024 .bf16) (w : FVec Ideal S5376x1024 .bf16) : FVec Ideal S4096x1536 .bf16 :=
  fun i => ∑ e : Fin 1024, u (ix2 (i 0) e) * w (ix2 (⟨256 + (i 1).val, by have h1 : (i 1).val < 1536 := (i 1).isLt; omega⟩ : Fin 5376) e)

variable (m : (ℓ : Loc nD τ sig) → Buf (Elt Ideal) ℓ) (c : Dev nD)

abbrev u0 : FVec Ideal S4096x1024 .bf16 := m ((c : Thread nD τ).loc main_arg0)
abbrev w0 : FVec Ideal S5376x1024 .bf16 := m ((c : Thread nD τ).loc main_arg1)

theorem pay (P0 : Vec Ideal S4096x1024 .bf16) (P1 : Vec Ideal S256x1024 .bf16) (r : Fin 4096) (q : Fin 256) :
    k0_pay1 P0 P1 (ix2 r q) = ∑ e : Fin 1024, P0 (ix2 r e) * P1 (ix2 q e) := by
  pointwise [k0_pay1]

theorem index0 : ∀ t : Fin cfg0.N, win0_0.index t = ![0, 0] := by decide +kernel
theorem index1 : ∀ t : Fin cfg0.N, win0_1.index t = ![t.val + 1, 0] := by decide +kernel
theorem index2 : ∀ t : Fin cfg0.N, win0_2.index t = ![0, t.val] := by decide +kernel

theorem read0 (t : Fin cfg0.N) (r : Fin 4096) (e : Fin 1024) : iblk m c 0 t (ix2 r e) = u0 m c (ix2 r e) := by
  blk_ext [iblk, V, index0 t]

theorem read1 (t : Fin cfg0.N) (q : Fin 256) (e : Fin 1024) : iblk m c 1 t (ix2 q e) = w0 m c (ix2 (⟨256 * (t.val) + 256 + q.val, by have : t.val < 6 := t.isLt; omega⟩ : Fin 5376) e) := by
  blk_ext [iblk, V, index1 t]

theorem place (t : Fin cfg0.N) (r : Fin 4096) (q : Fin 256) : ((cfg0.win 2).blk t).view.emb (ix2 r q) = ix2 r (⟨256 * (t.val) + q.val, by have : t.val < 6 := t.isLt; omega⟩ : Fin 1536) := by
  funext a; refine Fin.ext ?_
  blk_simp [index2 t]
  match a with
  | ⟨0, _⟩ => show 0 * 4096 + r.val = r.val; omega
  | ⟨1, _⟩ => show t.val * 256 + q.val = 256 * (t.val) + q.val; omega

theorem block_y (t : Fin cfg0.N) (y : S4096x256.Idx) : k0_pay1 (iblk m c 0 t) (iblk m c 1 t) y = proj (u0 m c) (w0 m c) (((cfg0.win 2).blk t).view.emb y) := by
  obtain ⟨r, q, rfl⟩ : ∃ (r : Fin 4096) (q : Fin 256), y = ix2 r q := ⟨y 0, y 1, eq_ix2 y⟩
  refine (pay (iblk m c 0 t) (iblk m c 1 t) r q).trans (Eq.trans ?_ (congrArg (proj _ _) (place t r q).symm))
  unfold proj
  refine Finset.sum_congr rfl fun e _ => ?_
  rw [read0, read1]
  refine congrArg (_ * ·) (congrArg (w0 m c) ?_)
  funext a; refine Fin.ext ?_
  match a with
  | ⟨0, _⟩ => show 256 * (t.val) + 256 + q.val = 256 + (256 * (t.val) + q.val); omega
  | ⟨1, _⟩ => rfl

theorem result : (dats m 0 c).arrAt 2 cfg0.N = proj (u0 m c) (w0 m c) := by
  refine (dats m 0 c).arrAt_eq_of_covers 2 _ (by decide +kernel) fun t hf y => ?_
  rw [after0_2]
  have h := block_y m c t
  blk_simp
  frame_out
  exact h y

theorem algebraic : @Cert.algebraic_Kernel12Ideal_Reference12Ideal Cert.Kernel12Ideal.Gen.facts Cert.Reference12Ideal.Gen.facts := by
  intro m g m' g' _ ha
  refine ⟨fun c => proj (u0 m c) (w0 m c), ?_, ?_⟩
  · exact (θ_run Cert.Kernel12Ideal.defs _ _).mono (fun r h c => ⟨(h c).1.trans (result m c), (h c).2⟩) (run_blocks (F := Ideal) m g)
  · refine (θ_run Cert.Reference12Ideal.defs _ _).mono (fun r h c => ⟨(h c).1.trans ?_, (h c).2⟩) (Cert.Reference12Ideal.Value.run (F := Ideal) m' g')
    rw [(ha c).1, (ha c).2]
    show _ = proj (u0 m c) (w0 m c)
    funext i
    obtain ⟨r, q, rfl⟩ : ∃ (r : Fin 4096) (q : Fin 1536), i = ix2 r q := ⟨i 0, i 1, eq_ix2 i⟩
    pointwise [proj]

end Cert.ProjAttn

end
-- ==== Proof.ProjConv.lean ====
/-
  The input projection's columns for the convolution's part: each block of the kernel's product is the reference's slice.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.ProjConv

open Cert.Kernel13Ideal Cert.Kernel13Ideal.Gen Cert.Kernel13Ideal.Value
open Idealize.ShloMosaic Idealize.ShloMosaic.TcCoe Idealize.ShloMosaic.Tactic Idealize.SL.Sem
open Idealize.ShloMosaic.Pipeline (Dat)

/-- Row `r` of `u` with row `1792 + q` of `w`, which is that column of the projection. -/
def proj (u : FVec Ideal S4096x1024 .bf16) (w : FVec Ideal S5376x1024 .bf16) : FVec Ideal S4096x512 .f32 :=
  fun i => ∑ e : Fin 1024, u (ix2 (i 0) e) * w (ix2 (⟨1792 + (i 1).val, by have h1 : (i 1).val < 512 := (i 1).isLt; omega⟩ : Fin 5376) e)

variable (m : (ℓ : Loc nD τ sig) → Buf (Elt Ideal) ℓ) (c : Dev nD)

abbrev u0 : FVec Ideal S4096x1024 .bf16 := m ((c : Thread nD τ).loc main_arg0)
abbrev w0 : FVec Ideal S5376x1024 .bf16 := m ((c : Thread nD τ).loc main_arg1)

theorem pay (P0 : Vec Ideal S4096x1024 .bf16) (P1 : Vec Ideal S256x1024 .bf16) (r : Fin 4096) (q : Fin 256) :
    k0_pay1 P0 P1 (ix2 r q) = ∑ e : Fin 1024, P0 (ix2 r e) * P1 (ix2 q e) := by
  pointwise [k0_pay1]

theorem index0 : ∀ t : Fin cfg0.N, win0_0.index t = ![0, 0] := by decide +kernel
theorem index1 : ∀ t : Fin cfg0.N, win0_1.index t = ![t.val + 7, 0] := by decide +kernel
theorem index2 : ∀ t : Fin cfg0.N, win0_2.index t = ![0, t.val] := by decide +kernel

theorem read0 (t : Fin cfg0.N) (r : Fin 4096) (e : Fin 1024) : iblk m c 0 t (ix2 r e) = u0 m c (ix2 r e) := by
  blk_ext [iblk, V, index0 t]

theorem read1 (t : Fin cfg0.N) (q : Fin 256) (e : Fin 1024) : iblk m c 1 t (ix2 q e) = w0 m c (ix2 (⟨256 * (t.val) + 1792 + q.val, by have : t.val < 2 := t.isLt; omega⟩ : Fin 5376) e) := by
  blk_ext [iblk, V, index1 t]

theorem place (t : Fin cfg0.N) (r : Fin 4096) (q : Fin 256) : ((cfg0.win 2).blk t).view.emb (ix2 r q) = ix2 r (⟨256 * (t.val) + q.val, by have : t.val < 2 := t.isLt; omega⟩ : Fin 512) := by
  funext a; refine Fin.ext ?_
  blk_simp [index2 t]
  match a with
  | ⟨0, _⟩ => show 0 * 4096 + r.val = r.val; omega
  | ⟨1, _⟩ => show t.val * 256 + q.val = 256 * (t.val) + q.val; omega

theorem block_y (t : Fin cfg0.N) (y : S4096x256.Idx) : k0_pay1 (iblk m c 0 t) (iblk m c 1 t) y = proj (u0 m c) (w0 m c) (((cfg0.win 2).blk t).view.emb y) := by
  obtain ⟨r, q, rfl⟩ : ∃ (r : Fin 4096) (q : Fin 256), y = ix2 r q := ⟨y 0, y 1, eq_ix2 y⟩
  refine (pay (iblk m c 0 t) (iblk m c 1 t) r q).trans (Eq.trans ?_ (congrArg (proj _ _) (place t r q).symm))
  unfold proj
  refine Finset.sum_congr rfl fun e _ => ?_
  rw [read0, read1]
  refine congrArg (_ * ·) (congrArg (w0 m c) ?_)
  funext a; refine Fin.ext ?_
  match a with
  | ⟨0, _⟩ => show 256 * (t.val) + 1792 + q.val = 1792 + (256 * (t.val) + q.val); omega
  | ⟨1, _⟩ => rfl

theorem result : (dats m 0 c).arrAt 2 cfg0.N = proj (u0 m c) (w0 m c) := by
  refine (dats m 0 c).arrAt_eq_of_covers 2 _ (by decide +kernel) fun t hf y => ?_
  rw [after0_2]
  have h := block_y m c t
  blk_simp
  frame_out
  exact h y

theorem algebraic : @Cert.algebraic_Kernel13Ideal_Reference13Ideal Cert.Kernel13Ideal.Gen.facts Cert.Reference13Ideal.Gen.facts := by
  intro m g m' g' _ ha
  refine ⟨fun c => proj (u0 m c) (w0 m c), ?_, ?_⟩
  · exact (θ_run Cert.Kernel13Ideal.defs _ _).mono (fun r h c => ⟨(h c).1.trans (result m c), (h c).2⟩) (run_blocks (F := Ideal) m g)
  · refine (θ_run Cert.Reference13Ideal.defs _ _).mono (fun r h c => ⟨(h c).1.trans ?_, (h c).2⟩) (Cert.Reference13Ideal.Value.run (F := Ideal) m' g')
    rw [(ha c).1, (ha c).2]
    show _ = proj (u0 m c) (w0 m c)
    funext i
    obtain ⟨r, q, rfl⟩ : ∃ (r : Fin 4096) (q : Fin 512), i = ix2 r q := ⟨i 0, i 1, eq_ix2 i⟩
    pointwise [proj]

end Cert.ProjConv

end
-- ==== Proof.ProjGate.lean ====
/-
  The input projection's columns for the gates' part: each block of the kernel's product is the reference's slice.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.ProjGate

open Cert.Kernel14Ideal Cert.Kernel14Ideal.Gen Cert.Kernel14Ideal.Value
open Idealize.ShloMosaic Idealize.ShloMosaic.TcCoe Idealize.ShloMosaic.Tactic Idealize.SL.Sem
open Idealize.ShloMosaic.Pipeline (Dat)

/-- Row `r` of `u` with row `2304 + q` of `w`, which is that column of the projection. -/
def proj (u : FVec Ideal S4096x1024 .bf16) (w : FVec Ideal S5376x1024 .bf16) : FVec Ideal S4096x3072 .bf16 :=
  fun i => ∑ e : Fin 1024, u (ix2 (i 0) e) * w (ix2 (⟨2304 + (i 1).val, by have h1 : (i 1).val < 3072 := (i 1).isLt; omega⟩ : Fin 5376) e)

variable (m : (ℓ : Loc nD τ sig) → Buf (Elt Ideal) ℓ) (c : Dev nD)

abbrev u0 : FVec Ideal S4096x1024 .bf16 := m ((c : Thread nD τ).loc main_arg0)
abbrev w0 : FVec Ideal S5376x1024 .bf16 := m ((c : Thread nD τ).loc main_arg1)

theorem pay (P0 : Vec Ideal S2048x1024 .bf16) (P1 : Vec Ideal S768x1024 .bf16) (r : Fin 2048) (q : Fin 768) :
    k0_pay1 P0 P1 (ix2 r q) = ∑ e : Fin 1024, P0 (ix2 r e) * P1 (ix2 q e) := by
  pointwise [k0_pay1]

theorem index0 : ∀ t : Fin cfg0.N, win0_0.index t = ![t.val / 4, 0] := by decide +kernel
theorem index1 : ∀ t : Fin cfg0.N, win0_1.index t = ![t.val % 4 + 3, 0] := by decide +kernel
theorem index2 : ∀ t : Fin cfg0.N, win0_2.index t = ![t.val / 4, t.val % 4] := by decide +kernel

theorem read0 (t : Fin cfg0.N) (r : Fin 2048) (e : Fin 1024) : iblk m c 0 t (ix2 r e) = u0 m c (ix2 (⟨2048 * (t.val / 4) + r.val, by have : t.val < 8 := t.isLt; omega⟩ : Fin 4096) e) := by
  blk_ext [iblk, V, index0 t]

theorem read1 (t : Fin cfg0.N) (q : Fin 768) (e : Fin 1024) : iblk m c 1 t (ix2 q e) = w0 m c (ix2 (⟨768 * (t.val % 4) + 2304 + q.val, by have : t.val < 8 := t.isLt; omega⟩ : Fin 5376) e) := by
  blk_ext [iblk, V, index1 t]

theorem place (t : Fin cfg0.N) (r : Fin 2048) (q : Fin 768) : ((cfg0.win 2).blk t).view.emb (ix2 r q) = ix2 (⟨2048 * (t.val / 4) + r.val, by have : t.val < 8 := t.isLt; omega⟩ : Fin 4096) (⟨768 * (t.val % 4) + q.val, by have : t.val < 8 := t.isLt; omega⟩ : Fin 3072) := by
  funext a; refine Fin.ext ?_
  blk_simp [index2 t]
  match a with
  | ⟨0, _⟩ => show t.val / 4 * 2048 + r.val = 2048 * (t.val / 4) + r.val; omega
  | ⟨1, _⟩ => show t.val % 4 * 768 + q.val = 768 * (t.val % 4) + q.val; omega

theorem block_y (t : Fin cfg0.N) (y : S2048x768.Idx) : k0_pay1 (iblk m c 0 t) (iblk m c 1 t) y = proj (u0 m c) (w0 m c) (((cfg0.win 2).blk t).view.emb y) := by
  obtain ⟨r, q, rfl⟩ : ∃ (r : Fin 2048) (q : Fin 768), y = ix2 r q := ⟨y 0, y 1, eq_ix2 y⟩
  refine (pay (iblk m c 0 t) (iblk m c 1 t) r q).trans (Eq.trans ?_ (congrArg (proj _ _) (place t r q).symm))
  unfold proj
  refine Finset.sum_congr rfl fun e _ => ?_
  rw [read0, read1]
  refine congrArg (_ * ·) (congrArg (w0 m c) ?_)
  funext a; refine Fin.ext ?_
  match a with
  | ⟨0, _⟩ => show 768 * (t.val % 4) + 2304 + q.val = 2304 + (768 * (t.val % 4) + q.val); omega
  | ⟨1, _⟩ => rfl

theorem result : (dats m 0 c).arrAt 2 cfg0.N = proj (u0 m c) (w0 m c) := by
  refine (dats m 0 c).arrAt_eq_of_covers 2 _ (by decide +kernel) fun t hf y => ?_
  rw [after0_2]
  have h := block_y m c t
  blk_simp
  frame_out
  exact h y

theorem algebraic : @Cert.algebraic_Kernel14Ideal_Reference14Ideal Cert.Kernel14Ideal.Gen.facts Cert.Reference14Ideal.Gen.facts := by
  intro m g m' g' _ ha
  refine ⟨fun c => proj (u0 m c) (w0 m c), ?_, ?_⟩
  · exact (θ_run Cert.Kernel14Ideal.defs _ _).mono (fun r h c => ⟨(h c).1.trans (result m c), (h c).2⟩) (run_blocks (F := Ideal) m g)
  · refine (θ_run Cert.Reference14Ideal.defs _ _).mono (fun r h c => ⟨(h c).1.trans ?_, (h c).2⟩) (Cert.Reference14Ideal.Value.run (F := Ideal) m' g')
    rw [(ha c).1, (ha c).2]
    show _ = proj (u0 m c) (w0 m c)
    funext i
    obtain ⟨r, q, rfl⟩ : ∃ (r : Fin 4096) (q : Fin 3072), i = ix2 r q := ⟨i 0, i 1, eq_ix2 i⟩
    pointwise [proj]

end Cert.ProjGate

end
-- ==== Proof.BranchGrad.lean ====
/-
  The gradients of the branch projections' weights, each in two halves of columns: the kernel's products by blocks of rows are the
  reference's.
-/
module

public import proofs.«01_k».proof.Defs
public import proofs.«01_k».proof.Proof.Gen.Kernel15Ideal.Value
public import proofs.«01_k».proof.Proof.Gen.Reference15Ideal.Run
public import Idealize.ShloMosaic.Lib.Tactic.CleanTypes
public import Idealize.ShloMosaic.Lib.Pipeline.ValueKit
public import Idealize.ShloMosaic.Lib.Pointwise
public import Idealize.ShloMosaic.Lib.KernelVsHost

@[expose] public section

set_option maxRecDepth 16384

noncomputable section

namespace Cert.BranchGrad

open Idealize.ShloMosaic Idealize.ShloMosaic.TcCoe Idealize.ShloMosaic.Tactic Idealize.SL.Sem
open Idealize.ShloMosaic.Pipeline (Dat)

open Cert.Kernel15Ideal Cert.Kernel15Ideal.Gen Cert.Kernel15Ideal.Value

/-- Two stores, one above the other along the first axis, make the block of halves 128 wide. -/
theorem two_stores128 (p1 p0 : Vec Ideal S1x512x128 .bf16) (h : Fin 2) (r : Fin 512) (q : Fin 128) :
    View.canon (Val := Elt Ideal) (s := S2x512x128) (e := .bf16) [⟨Rect.unit ![1, 0, 0] ![1, 512, 128] inb_S2x512x128_S1x512x128_1_0_0, p1⟩,
        ⟨Rect.unit ![0, 0, 0] ![1, 512, 128] inb_S2x512x128_S1x512x128_0_0_0, p0⟩] (ix3 h r q)
      = if h.val = 0 then p0 (ix3 0 r q) else p1 (ix3 0 r q) := by
  refine View.canon_apply_of_pieces (fun y : S2x512x128.Idx => if (y 0).val = 0 then p0 (ix3 0 (y 1) (y 2)) else p1 (ix3 0 (y 1) (y 2))) _ ?_ (ix3 h r q)
    (View.cover_of_tiled ([⟨Rect.unit ![1, 0, 0] ![1, 512, 128] inb_S2x512x128_S1x512x128_1_0_0, p1⟩,
        ⟨Rect.unit ![0, 0, 0] ![1, 512, 128] inb_S2x512x128_S1x512x128_0_0_0, p0⟩] : List (View.Piece (Elt Ideal) S2x512x128 .bf16)) S1x512x128.size (by rfl) _)
  have hx (x : S1x512x128.Idx) : (x 0).val = 0 := by have : (x 0).val < 1 := (x 0).isLt; omega
  intro pc hpc
  rcases List.mem_cons.mp hpc with rfl | hpc
  · intro x
    have := hx x
    refine Eq.trans ?_ (if_neg (by show ¬ 1 + 1 * (x 0).val = 0; omega)).symm
    refine congrArg p1 (funext fun a => Fin.ext ?_)
    match a with
    | ⟨0, _⟩ => exact hx x
    | ⟨1, _⟩ => show (x 1).val = 0 + 1 * (x 1).val; omega
    | ⟨2, _⟩ => show (x 2).val = 0 + 1 * (x 2).val; omega
  rcases List.mem_cons.mp hpc with rfl | hpc
  · intro x
    have := hx x
    refine Eq.trans ?_ (if_pos (by show 0 + 1 * (x 0).val = 0; omega)).symm
    refine congrArg p0 (funext fun a => Fin.ext ?_)
    match a with
    | ⟨0, _⟩ => exact hx x
    | ⟨1, _⟩ => show (x 1).val = 0 + 1 * (x 1).val; omega
    | ⟨2, _⟩ => show (x 2).val = 0 + 1 * (x 2).val; omega
  nomatch hpc

/-- A block's entry: the product of a column of the gradient and a column of the branch. -/
def tile128 (P0 : Vec Ideal S4096x512 .bf16) (P1 : Vec Ideal S4096x256 .bf16) (h : Fin 2) (r : Fin 512) (q : Fin 128) : EReal :=
  ∑ s : Fin 4096, P0 (ix2 s r) * P1 (ix2 s (⟨h.val * 128 + q.val, by omega⟩ : Fin 256))

theorem tile_of128 (p1 p0 : Vec Ideal S1x512x128 .bf16) (P0 : Vec Ideal S4096x512 .bf16) (P1 : Vec Ideal S4096x256 .bf16) (h : Fin 2) (r : Fin 512) (q : Fin 128)
    (h0 : p0 (ix3 0 r q) = ∑ s : Fin 4096, P0 (ix2 s r) * P1 (ix2 s (⟨q.val, by omega⟩ : Fin 256)))
    (h1 : p1 (ix3 0 r q) = ∑ s : Fin 4096, P0 (ix2 s r) * P1 (ix2 s (⟨128 + q.val, by omega⟩ : Fin 256))) :
    (if h.val = 0 then p0 (ix3 0 r q) else p1 (ix3 0 r q)) = tile128 P0 P1 h r q := by
  unfold tile128
  split_ifs with hh
  · rw [h0]
    refine Finset.sum_congr rfl fun s _ => congrArg (fun w : Fin 256 => P0 (ix2 s r) * P1 (ix2 s w)) (Fin.ext ?_)
    show q.val = h.val * 128 + q.val; omega
  · rw [h1]
    refine Finset.sum_congr rfl fun s _ => congrArg (fun w : Fin 256 => P0 (ix2 s r) * P1 (ix2 s w)) (Fin.ext ?_)
    show 128 + q.val = h.val * 128 + q.val; omega

/-- The gradient of a weight of width 256, its columns in two halves. -/
def grad128 (a : FVec Ideal S4096x1024 .bf16) (f : FVec Ideal S4096x256 .bf16) : FVec Ideal S2x1024x128 .bf16 :=
  fun i => ∑ s : Fin 4096, a (ix2 s (i 1)) * f (ix2 s (⟨(i 0).val * 128 + (i 2).val, by
    have h0 : (i 0).val < 2 := (i 0).isLt
    have h2 : (i 2).val < 128 := (i 2).isLt
    omega⟩ : Fin 256))

/-- Two stores, one above the other along the first axis, make the block of halves 256 wide. -/
theorem two_stores256 (p1 p0 : Vec Ideal S1x512x256 .bf16) (h : Fin 2) (r : Fin 512) (q : Fin 256) :
    View.canon (Val := Elt Ideal) (s := S2x512x256) (e := .bf16) [⟨Rect.unit ![1, 0, 0] ![1, 512, 256] inb_S2x512x256_S1x512x256_1_0_0, p1⟩,
        ⟨Rect.unit ![0, 0, 0] ![1, 512, 256] inb_S2x512x256_S1x512x256_0_0_0, p0⟩] (ix3 h r q)
      = if h.val = 0 then p0 (ix3 0 r q) else p1 (ix3 0 r q) := by
  refine View.canon_apply_of_pieces (fun y : S2x512x256.Idx => if (y 0).val = 0 then p0 (ix3 0 (y 1) (y 2)) else p1 (ix3 0 (y 1) (y 2))) _ ?_ (ix3 h r q)
    (View.cover_of_tiled ([⟨Rect.unit ![1, 0, 0] ![1, 512, 256] inb_S2x512x256_S1x512x256_1_0_0, p1⟩,
        ⟨Rect.unit ![0, 0, 0] ![1, 512, 256] inb_S2x512x256_S1x512x256_0_0_0, p0⟩] : List (View.Piece (Elt Ideal) S2x512x256 .bf16)) S1x512x256.size (by rfl) _)
  have hx (x : S1x512x256.Idx) : (x 0).val = 0 := by have : (x 0).val < 1 := (x 0).isLt; omega
  intro pc hpc
  rcases List.mem_cons.mp hpc with rfl | hpc
  · intro x
    have := hx x
    refine Eq.trans ?_ (if_neg (by show ¬ 1 + 1 * (x 0).val = 0; omega)).symm
    refine congrArg p1 (funext fun a => Fin.ext ?_)
    match a with
    | ⟨0, _⟩ => exact hx x
    | ⟨1, _⟩ => show (x 1).val = 0 + 1 * (x 1).val; omega
    | ⟨2, _⟩ => show (x 2).val = 0 + 1 * (x 2).val; omega
  rcases List.mem_cons.mp hpc with rfl | hpc
  · intro x
    have := hx x
    refine Eq.trans ?_ (if_pos (by show 0 + 1 * (x 0).val = 0; omega)).symm
    refine congrArg p0 (funext fun a => Fin.ext ?_)
    match a with
    | ⟨0, _⟩ => exact hx x
    | ⟨1, _⟩ => show (x 1).val = 0 + 1 * (x 1).val; omega
    | ⟨2, _⟩ => show (x 2).val = 0 + 1 * (x 2).val; omega
  nomatch hpc

/-- A block's entry: the product of a column of the gradient and a column of the branch. -/
def tile256 (P0 : Vec Ideal S4096x512 .bf16) (P1 : Vec Ideal S4096x512 .bf16) (h : Fin 2) (r : Fin 512) (q : Fin 256) : EReal :=
  ∑ s : Fin 4096, P0 (ix2 s r) * P1 (ix2 s (⟨h.val * 256 + q.val, by omega⟩ : Fin 512))

theorem tile_of256 (p1 p0 : Vec Ideal S1x512x256 .bf16) (P0 : Vec Ideal S4096x512 .bf16) (P1 : Vec Ideal S4096x512 .bf16) (h : Fin 2) (r : Fin 512) (q : Fin 256)
    (h0 : p0 (ix3 0 r q) = ∑ s : Fin 4096, P0 (ix2 s r) * P1 (ix2 s (⟨q.val, by omega⟩ : Fin 512)))
    (h1 : p1 (ix3 0 r q) = ∑ s : Fin 4096, P0 (ix2 s r) * P1 (ix2 s (⟨256 + q.val, by omega⟩ : Fin 512))) :
    (if h.val = 0 then p0 (ix3 0 r q) else p1 (ix3 0 r q)) = tile256 P0 P1 h r q := by
  unfold tile256
  split_ifs with hh
  · rw [h0]
    refine Finset.sum_congr rfl fun s _ => congrArg (fun w : Fin 512 => P0 (ix2 s r) * P1 (ix2 s w)) (Fin.ext ?_)
    show q.val = h.val * 256 + q.val; omega
  · rw [h1]
    refine Finset.sum_congr rfl fun s _ => congrArg (fun w : Fin 512 => P0 (ix2 s r) * P1 (ix2 s w)) (Fin.ext ?_)
    show 256 + q.val = h.val * 256 + q.val; omega

/-- The gradient of a weight of width 512, its columns in two halves. -/
def grad256 (a : FVec Ideal S4096x1024 .bf16) (f : FVec Ideal S4096x512 .bf16) : FVec Ideal S2x1024x256 .bf16 :=
  fun i => ∑ s : Fin 4096, a (ix2 s (i 1)) * f (ix2 s (⟨(i 0).val * 256 + (i 2).val, by
    have h0 : (i 0).val < 2 := (i 0).isLt
    have h2 : (i 2).val < 256 := (i 2).isLt
    omega⟩ : Fin 512))

theorem pay5 (P0 : Vec Ideal S4096x512 .bf16) (P1 : Vec Ideal S4096x256 .bf16) (r : Fin 512) (q : Fin 128) :
    k0_pay5 P0 P1 (ix3 0 r q) = ∑ s : Fin 4096, P0 (ix2 s r) * P1 (ix2 s (⟨q.val, by omega⟩ : Fin 256)) := by
  pointwise [k0_pay5, k0_pay4]

theorem pay6 (P0 : Vec Ideal S4096x512 .bf16) (P1 : Vec Ideal S4096x256 .bf16) (r : Fin 512) (q : Fin 128) :
    k0_pay6 P0 P1 (ix3 0 r q) = ∑ s : Fin 4096, P0 (ix2 s r) * P1 (ix2 s (⟨128 + q.val, by omega⟩ : Fin 256)) := by
  pointwise [k0_pay6, k0_pay4]

theorem pay8 (P0 : Vec Ideal S4096x512 .bf16) (P1 : Vec Ideal S4096x512 .bf16) (r : Fin 512) (q : Fin 256) :
    k0_pay8 P0 P1 (ix3 0 r q) = ∑ s : Fin 4096, P0 (ix2 s r) * P1 (ix2 s (⟨q.val, by omega⟩ : Fin 512)) := by
  pointwise [k0_pay8, k0_pay7]

theorem pay9 (P0 : Vec Ideal S4096x512 .bf16) (P1 : Vec Ideal S4096x512 .bf16) (r : Fin 512) (q : Fin 256) :
    k0_pay9 P0 P1 (ix3 0 r q) = ∑ s : Fin 4096, P0 (ix2 s r) * P1 (ix2 s (⟨256 + q.val, by omega⟩ : Fin 512)) := by
  pointwise [k0_pay9, k0_pay7]

theorem pay2 (P0 : Vec Ideal S4096x512 .bf16) (P1 : Vec Ideal S4096x256 .bf16) (r : Fin 512) (q : Fin 128) :
    k0_pay2 P0 P1 (constant S512x256 .f32 0x00000000#32) (ix3 0 r q) = ∑ s : Fin 4096, P0 (ix2 s r) * P1 (ix2 s (⟨q.val, by omega⟩ : Fin 256)) := by
  pointwise [k0_pay2, k0_pay1]

theorem pay3 (P0 : Vec Ideal S4096x512 .bf16) (P1 : Vec Ideal S4096x256 .bf16) (r : Fin 512) (q : Fin 128) :
    k0_pay3 P0 P1 (constant S512x256 .f32 0x00000000#32) (ix3 0 r q) = ∑ s : Fin 4096, P0 (ix2 s r) * P1 (ix2 s (⟨128 + q.val, by omega⟩ : Fin 256)) := by
  pointwise [k0_pay3, k0_pay1]

variable (m : (ℓ : Loc nD τ sig) → Buf (Elt Ideal) ℓ) (c : Dev nD)

abbrev x0 : FVec Ideal S4096x1024 .bf16 := m ((c : Thread nD τ).loc main_arg0)
abbrev x1 : FVec Ideal S4096x1024 .bf16 := m ((c : Thread nD τ).loc main_arg1)
abbrev x2 : FVec Ideal S4096x1024 .bf16 := m ((c : Thread nD τ).loc main_arg2)
abbrev x3 : FVec Ideal S4096x256 .bf16 := m ((c : Thread nD τ).loc main_arg3)
abbrev x4 : FVec Ideal S4096x512 .bf16 := m ((c : Thread nD τ).loc main_arg4)
abbrev x5 : FVec Ideal S4096x256 .bf16 := m ((c : Thread nD τ).loc main_arg5)

theorem index0 : ∀ t : Fin cfg0.N, win0_0.index t = ![0, t.val] := by decide +kernel
theorem index1 : ∀ t : Fin cfg0.N, win0_1.index t = ![0, t.val] := by decide +kernel
theorem index2 : ∀ t : Fin cfg0.N, win0_2.index t = ![0, t.val] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, t.val, 0] := by decide +kernel
theorem index7 : ∀ t : Fin cfg0.N, win0_7.index t = ![0, t.val, 0] := by decide +kernel
theorem index8 : ∀ t : Fin cfg0.N, win0_8.index t = ![0, t.val, 0] := by decide +kernel

/-- The row of the whole that row `r` of block `t` is. -/
abbrev row (t : Fin cfg0.N) (r : Fin 512) : Fin 1024 := ⟨512 * t.val + r.val, by have : t.val < 2 := t.isLt; omega⟩

theorem read0 (t : Fin cfg0.N) (s : Fin 4096) (r : Fin 512) : iblk m c 0 t (ix2 s r) = x0 m c (ix2 s (row t r)) := by
  blk_ext [iblk, V, index0 t]

theorem read3 (t : Fin cfg0.N) (s : Fin 4096) (q : Fin 256) : iblk m c 3 t (ix2 s q) = x3 m c (ix2 s q) := by
  blk_ext [iblk, V, index3 t]

theorem place6 (t : Fin cfg0.N) (h : Fin 2) (r : Fin 512) (q : Fin 128) : ((cfg0.win 6).blk t).view.emb (ix3 h r q) = ix3 h (row t r) q := by
  funext a; refine Fin.ext ?_
  blk_simp [index6 t]
  match a with
  | ⟨0, _⟩ => show 0 * 2 + h.val = h.val; omega
  | ⟨1, _⟩ => show t.val * 512 + r.val = 512 * t.val + r.val; omega
  | ⟨2, _⟩ => show 0 * 128 + q.val = q.val; omega

theorem point6 (t : Fin cfg0.N) (h : Fin 2) (r : Fin 512) (q : Fin 128) : out0_6 (iblk m c 0 t) (iblk m c 1 t) (iblk m c 2 t) (iblk m c 3 t) (iblk m c 4 t) (iblk m c 5 t) (ix3 h r q)
    = grad128 (x0 m c) (x3 m c) (ix3 h (row t r) q) := by
  unfold_out out0_6
  frame_out
  refine (two_stores128 _ _ h r q).trans ((tile_of128 _ _ (iblk m c 0 t) (iblk m c 3 t) h r q (pay5 _ _ r q) (pay6 _ _ r q)).trans ?_)
  exact Finset.sum_congr rfl fun s _ => congrArg₂ (· * ·) (read0 m c t s r) (read3 m c t s _)

theorem block6 (t : Fin cfg0.N) (y : S2x512x128.Idx) : out0_6 (iblk m c 0 t) (iblk m c 1 t) (iblk m c 2 t) (iblk m c 3 t) (iblk m c 4 t) (iblk m c 5 t) y = grad128 (x0 m c) (x3 m c) (((cfg0.win 6).blk t).view.emb y) := by
  obtain ⟨h, r, q, rfl⟩ : ∃ (h : Fin 2) (r : Fin 512) (q : Fin 128), y = ix3 h r q := ⟨y 0, y 1, y 2, eq_ix3 y⟩
  exact (point6 m c t h r q).trans (congrArg (grad128 _ _) (place6 t h r q).symm)

theorem result6 : (dats m 0 c).arrAt 6 cfg0.N = grad128 (x0 m c) (x3 m c) := by
  refine (dats m 0 c).arrAt_eq_of_covers 6 _ (by decide +kernel) fun t hf y => ?_
  rw [after0_6]
  have h := block6 m c t
  blk_simp
  exact h y

theorem read1 (t : Fin cfg0.N) (s : Fin 4096) (r : Fin 512) : iblk m c 1 t (ix2 s r) = x1 m c (ix2 s (row t r)) := by
  blk_ext [iblk, V, index1 t]

theorem read4 (t : Fin cfg0.N) (s : Fin 4096) (q : Fin 512) : iblk m c 4 t (ix2 s q) = x4 m c (ix2 s q) := by
  blk_ext [iblk, V, index4 t]

theorem place7 (t : Fin cfg0.N) (h : Fin 2) (r : Fin 512) (q : Fin 256) : ((cfg0.win 7).blk t).view.emb (ix3 h r q) = ix3 h (row t r) q := by
  funext a; refine Fin.ext ?_
  blk_simp [index7 t]
  match a with
  | ⟨0, _⟩ => show 0 * 2 + h.val = h.val; omega
  | ⟨1, _⟩ => show t.val * 512 + r.val = 512 * t.val + r.val; omega
  | ⟨2, _⟩ => show 0 * 256 + q.val = q.val; omega

theorem point7 (t : Fin cfg0.N) (h : Fin 2) (r : Fin 512) (q : Fin 256) : out0_7 (iblk m c 0 t) (iblk m c 1 t) (iblk m c 2 t) (iblk m c 3 t) (iblk m c 4 t) (iblk m c 5 t) (ix3 h r q)
    = grad256 (x1 m c) (x4 m c) (ix3 h (row t r) q) := by
  unfold_out out0_7
  frame_out
  refine (two_stores256 _ _ h r q).trans ((tile_of256 _ _ (iblk m c 1 t) (iblk m c 4 t) h r q (pay8 _ _ r q) (pay9 _ _ r q)).trans ?_)
  exact Finset.sum_congr rfl fun s _ => congrArg₂ (· * ·) (read1 m c t s r) (read4 m c t s _)

theorem block7 (t : Fin cfg0.N) (y : S2x512x256.Idx) : out0_7 (iblk m c 0 t) (iblk m c 1 t) (iblk m c 2 t) (iblk m c 3 t) (iblk m c 4 t) (iblk m c 5 t) y = grad256 (x1 m c) (x4 m c) (((cfg0.win 7).blk t).view.emb y) := by
  obtain ⟨h, r, q, rfl⟩ : ∃ (h : Fin 2) (r : Fin 512) (q : Fin 256), y = ix3 h r q := ⟨y 0, y 1, y 2, eq_ix3 y⟩
  exact (point7 m c t h r q).trans (congrArg (grad256 _ _) (place7 t h r q).symm)

theorem result7 : (dats m 0 c).arrAt 7 cfg0.N = grad256 (x1 m c) (x4 m c) := by
  refine (dats m 0 c).arrAt_eq_of_covers 7 _ (by decide +kernel) fun t hf y => ?_
  rw [after0_7]
  have h := block7 m c t
  blk_simp
  exact h y

theorem read2 (t : Fin cfg0.N) (s : Fin 4096) (r : Fin 512) : iblk m c 2 t (ix2 s r) = x2 m c (ix2 s (row t r)) := by
  blk_ext [iblk, V, index2 t]

theorem read5 (t : Fin cfg0.N) (s : Fin 4096) (q : Fin 256) : iblk m c 5 t (ix2 s q) = x5 m c (ix2 s q) := by
  blk_ext [iblk, V, index5 t]

theorem place8 (t : Fin cfg0.N) (h : Fin 2) (r : Fin 512) (q : Fin 128) : ((cfg0.win 8).blk t).view.emb (ix3 h r q) = ix3 h (row t r) q := by
  funext a; refine Fin.ext ?_
  blk_simp [index8 t]
  match a with
  | ⟨0, _⟩ => show 0 * 2 + h.val = h.val; omega
  | ⟨1, _⟩ => show t.val * 512 + r.val = 512 * t.val + r.val; omega
  | ⟨2, _⟩ => show 0 * 128 + q.val = q.val; omega

theorem point8 (t : Fin cfg0.N) (h : Fin 2) (r : Fin 512) (q : Fin 128) : out0_8 (iblk m c 0 t) (iblk m c 1 t) (iblk m c 2 t) (iblk m c 3 t) (iblk m c 4 t) (iblk m c 5 t) (ix3 h r q)
    = grad128 (x2 m c) (x5 m c) (ix3 h (row t r) q) := by
  unfold_out out0_8
  frame_out
  refine (two_stores128 _ _ h r q).trans ((tile_of128 _ _ (iblk m c 2 t) (iblk m c 5 t) h r q (pay2 _ _ r q) (pay3 _ _ r q)).trans ?_)
  exact Finset.sum_congr rfl fun s _ => congrArg₂ (· * ·) (read2 m c t s r) (read5 m c t s _)

theorem block8 (t : Fin cfg0.N) (y : S2x512x128.Idx) : out0_8 (iblk m c 0 t) (iblk m c 1 t) (iblk m c 2 t) (iblk m c 3 t) (iblk m c 4 t) (iblk m c 5 t) y = grad128 (x2 m c) (x5 m c) (((cfg0.win 8).blk t).view.emb y) := by
  obtain ⟨h, r, q, rfl⟩ : ∃ (h : Fin 2) (r : Fin 512) (q : Fin 128), y = ix3 h r q := ⟨y 0, y 1, y 2, eq_ix3 y⟩
  exact (point8 m c t h r q).trans (congrArg (grad128 _ _) (place8 t h r q).symm)

theorem result8 : (dats m 0 c).arrAt 8 cfg0.N = grad128 (x2 m c) (x5 m c) := by
  refine (dats m 0 c).arrAt_eq_of_covers 8 _ (by decide +kernel) fun t hf y => ?_
  rw [after0_8]
  have h := block8 m c t
  blk_simp
  exact h y

theorem algebraic : @Cert.algebraic_Kernel15Ideal_Reference15Ideal Cert.Kernel15Ideal.Gen.facts Cert.Reference15Ideal.Gen.facts := by
  intro m g m' g' _ ha
  refine ⟨fun c => grad128 (x0 m c) (x3 m c), fun c => grad256 (x1 m c) (x4 m c), fun c => grad128 (x2 m c) (x5 m c), ?_, ?_⟩
  · exact (θ_run Cert.Kernel15Ideal.defs _ _).mono (fun r h c => ⟨(h c).1.trans (result6 m c), (h c).2.1.trans (result7 m c), (h c).2.2.1.trans (result8 m c), (h c).2.2.2⟩) (run_blocks (F := Ideal) m g)
  · refine (θ_run Cert.Reference15Ideal.defs _ _).mono (fun r h c => ⟨(h c).1.trans ?_, (h c).2.1.trans ?_, (h c).2.2.1.trans ?_, (h c).2.2.2⟩) (Cert.Reference15Ideal.Value.run (F := Ideal) m' g')
    · rw [(ha c).1, (ha c).2.2.2.1]
      show _ = grad128 (m ((c : Thread nD τ).loc main_arg0)) (m ((c : Thread nD τ).loc main_arg3))
      clear ha
      generalize m ((c : Thread nD τ).loc main_arg0) = a
      generalize m ((c : Thread nD τ).loc main_arg3) = f
      change FVec Ideal S4096x1024 .bf16 at a
      change FVec Ideal S4096x256 .bf16 at f
      funext i
      obtain ⟨h, r, q, rfl⟩ : ∃ (h : Fin 2) (r : Fin 1024) (q : Fin 128), i = ix3 h r q := ⟨i 0, i 1, i 2, eq_ix3 i⟩
      unfold grad128
      clean_types
      pointwise []
    · rw [(ha c).2.1, (ha c).2.2.2.2.1]
      show _ = grad256 (m ((c : Thread nD τ).loc main_arg1)) (m ((c : Thread nD τ).loc main_arg4))
      clear ha
      generalize m ((c : Thread nD τ).loc main_arg1) = a
      generalize m ((c : Thread nD τ).loc main_arg4) = f
      change FVec Ideal S4096x1024 .bf16 at a
      change FVec Ideal S4096x512 .bf16 at f
      funext i
      obtain ⟨h, r, q, rfl⟩ : ∃ (h : Fin 2) (r : Fin 1024) (q : Fin 256), i = ix3 h r q := ⟨i 0, i 1, i 2, eq_ix3 i⟩
      unfold grad256
      clean_types
      pointwise []
    · rw [(ha c).2.2.1, (ha c).2.2.2.2.2]
      show _ = grad128 (m ((c : Thread nD τ).loc main_arg2)) (m ((c : Thread nD τ).loc main_arg5))
      clear ha
      generalize m ((c : Thread nD τ).loc main_arg2) = a
      generalize m ((c : Thread nD τ).loc main_arg5) = f
      change FVec Ideal S4096x1024 .bf16 at a
      change FVec Ideal S4096x256 .bf16 at f
      funext i
      obtain ⟨h, r, q, rfl⟩ : ∃ (h : Fin 2) (r : Fin 1024) (q : Fin 128), i = ix3 h r q := ⟨i 0, i 1, i 2, eq_ix3 i⟩
      unfold grad128
      clean_types
      pointwise []

end Cert.BranchGrad

end
-- ==== Proof.BranchIn.lean ====
/-
  The gradients of the branch projections' inputs: each block of rows is the reference's product.
-/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.BranchIn

open Idealize.ShloMosaic Idealize.ShloMosaic.TcCoe Idealize.ShloMosaic.Tactic Idealize.SL.Sem
open Idealize.ShloMosaic.Pipeline (Dat)

open Cert.Kernel16Ideal Cert.Kernel16Ideal.Gen Cert.Kernel16Ideal.Value

/-- The first branch's product. -/
def first (a : FVec Ideal S4096x1024 .bf16) (w : FVec Ideal S1024x256 .bf16) : FVec Ideal S4096x256 .f32 :=
  fun i => ∑ e : Fin 1024, a (ix2 (i 0) e) * w (ix2 e (i 1))

theorem pay0 (P0 : Vec Ideal S1024x1024 .bf16) (P1 : Vec Ideal S1024x256 .bf16) (r : Fin 1024) (q : Fin 256) : k0_pay1 P0 P1 (ix2 r q) = ∑ e : Fin 1024, P0 (ix2 r e) * P1 (ix2 e q) := by
  pointwise [k0_pay1]

/-- The second branch's product. -/
def second (a : FVec Ideal S4096x1024 .bf16) (w : FVec Ideal S1024x512 .bf16) : FVec Ideal S4096x512 .bf16 :=
  fun i => ∑ e : Fin 1024, a (ix2 (i 0) e) * w (ix2 e (i 1))

theorem pay1 (P0 : Vec Ideal S1024x1024 .bf16) (P1 : Vec Ideal S1024x512 .bf16) (r : Fin 1024) (q : Fin 512) : k0_pay2 P0 P1 (ix2 r q) = ∑ e : Fin 1024, P0 (ix2 r e) * P1 (ix2 e q) := by
  pointwise [k0_pay2]

/-- The third branch's product. -/
def third (a : FVec Ideal S4096x1024 .bf16) (w : FVec Ideal S1024x256 .bf16) : FVec Ideal S4096x256 .f32 :=
  fun i => ∑ e : Fin 1024, a (ix2 (i 0) e) * w (ix2 e (i 1))

theorem pay2 (P0 : Vec Ideal S1024x1024 .bf16) (P1 : Vec Ideal S1024x256 .bf16) (r : Fin 1024) (q : Fin 256) : k0_pay3 P0 P1 (ix2 r q) = ∑ e : Fin 1024, P0 (ix2 r e) * P1 (ix2 e q) := by
  pointwise [k0_pay3]

variable (m : (ℓ : Loc nD τ sig) → Buf (Elt Ideal) ℓ) (c : Dev nD)

abbrev x0 : FVec Ideal S4096x1024 .bf16 := m ((c : Thread nD τ).loc main_arg0)
abbrev x1 : FVec Ideal S4096x1024 .bf16 := m ((c : Thread nD τ).loc main_arg1)
abbrev x2 : FVec Ideal S4096x1024 .bf16 := m ((c : Thread nD τ).loc main_arg2)
abbrev x3 : FVec Ideal S1024x256 .bf16 := m ((c : Thread nD τ).loc main_arg3)
abbrev x4 : FVec Ideal S1024x512 .bf16 := m ((c : Thread nD τ).loc main_arg4)
abbrev x5 : FVec Ideal S1024x256 .bf16 := m ((c : Thread nD τ).loc main_arg5)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![t.val, 0] := by decide +kernel

/-- The row of the whole that row `r` of block `t` is. -/
abbrev row (t : Fin cfg0.N) (r : Fin 1024) : Fin 4096 := ⟨1024 * t.val + r.val, by have : t.val < 4 := t.isLt; omega⟩

theorem read0 (t : Fin cfg0.N) (r : Fin 1024) (e : Fin 1024) : iblk m c 0 t (ix2 r e) = x0 m c (ix2 (row t r) e) := by
  blk_ext [iblk, V, index0 t]

theorem read3 (t : Fin cfg0.N) (r : Fin 1024) (e : Fin 256) : iblk m c 3 t (ix2 r e) = x3 m c (ix2 r e) := by
  blk_ext [iblk, V, index3 t]

theorem place6 (t : Fin cfg0.N) (r : Fin 1024) (q : Fin 256) : ((cfg0.win 6).blk t).view.emb (ix2 r q) = ix2 (row t r) q := by
  funext a; refine Fin.ext ?_
  blk_simp [index6 t]
  match a with
  | ⟨0, _⟩ => show t.val * 1024 + r.val = 1024 * t.val + r.val; omega
  | ⟨1, _⟩ => show 0 * 256 + q.val = q.val; omega

theorem block6 (t : Fin cfg0.N) (y : S1024x256.Idx) : k0_pay1 (iblk m c 0 t) (iblk m c 3 t) y = first (x0 m c) (x3 m c) (((cfg0.win 6).blk t).view.emb y) := by
  obtain ⟨r, q, rfl⟩ : ∃ (r : Fin 1024) (q : Fin 256), y = ix2 r q := ⟨y 0, y 1, eq_ix2 y⟩
  refine (pay0 (iblk m c 0 t) (iblk m c 3 t) r q).trans (Eq.trans ?_ (congrArg (first _ _) (place6 t r q).symm))
  exact Finset.sum_congr rfl fun e _ => congrArg₂ (· * ·) (read0 m c t r e) (read3 m c t e q)

theorem result6 : (dats m 0 c).arrAt 6 cfg0.N = first (x0 m c) (x3 m c) := by
  refine (dats m 0 c).arrAt_eq_of_covers 6 _ (by decide +kernel) fun t hf y => ?_
  rw [after0_6]
  have h := block6 m c t
  blk_simp
  frame_out
  exact h y

theorem read1 (t : Fin cfg0.N) (r : Fin 1024) (e : Fin 1024) : iblk m c 1 t (ix2 r e) = x1 m c (ix2 (row t r) e) := by
  blk_ext [iblk, V, index1 t]

theorem read4 (t : Fin cfg0.N) (r : Fin 1024) (e : Fin 512) : iblk m c 4 t (ix2 r e) = x4 m c (ix2 r e) := by
  blk_ext [iblk, V, index4 t]

theorem place7 (t : Fin cfg0.N) (r : Fin 1024) (q : Fin 512) : ((cfg0.win 7).blk t).view.emb (ix2 r q) = ix2 (row t r) q := by
  funext a; refine Fin.ext ?_
  blk_simp [index7 t]
  match a with
  | ⟨0, _⟩ => show t.val * 1024 + r.val = 1024 * t.val + r.val; omega
  | ⟨1, _⟩ => show 0 * 512 + q.val = q.val; omega

theorem block7 (t : Fin cfg0.N) (y : S1024x512.Idx) : k0_pay2 (iblk m c 1 t) (iblk m c 4 t) y = second (x1 m c) (x4 m c) (((cfg0.win 7).blk t).view.emb y) := by
  obtain ⟨r, q, rfl⟩ : ∃ (r : Fin 1024) (q : Fin 512), y = ix2 r q := ⟨y 0, y 1, eq_ix2 y⟩
  refine (pay1 (iblk m c 1 t) (iblk m c 4 t) r q).trans (Eq.trans ?_ (congrArg (second _ _) (place7 t r q).symm))
  exact Finset.sum_congr rfl fun e _ => congrArg₂ (· * ·) (read1 m c t r e) (read4 m c t e q)

theorem result7 : (dats m 0 c).arrAt 7 cfg0.N = second (x1 m c) (x4 m c) := by
  refine (dats m 0 c).arrAt_eq_of_covers 7 _ (by decide +kernel) fun t hf y => ?_
  rw [after0_7]
  have h := block7 m c t
  blk_simp
  frame_out
  exact h y

theorem read2 (t : Fin cfg0.N) (r : Fin 1024) (e : Fin 1024) : iblk m c 2 t (ix2 r e) = x2 m c (ix2 (row t r) e) := by
  blk_ext [iblk, V, index2 t]

theorem read5 (t : Fin cfg0.N) (r : Fin 1024) (e : Fin 256) : iblk m c 5 t (ix2 r e) = x5 m c (ix2 r e) := by
  blk_ext [iblk, V, index5 t]

theorem place8 (t : Fin cfg0.N) (r : Fin 1024) (q : Fin 256) : ((cfg0.win 8).blk t).view.emb (ix2 r q) = ix2 (row t r) q := by
  funext a; refine Fin.ext ?_
  blk_simp [index8 t]
  match a with
  | ⟨0, _⟩ => show t.val * 1024 + r.val = 1024 * t.val + r.val; omega
  | ⟨1, _⟩ => show 0 * 256 + q.val = q.val; omega

theorem block8 (t : Fin cfg0.N) (y : S1024x256.Idx) : k0_pay3 (iblk m c 2 t) (iblk m c 5 t) y = third (x2 m c) (x5 m c) (((cfg0.win 8).blk t).view.emb y) := by
  obtain ⟨r, q, rfl⟩ : ∃ (r : Fin 1024) (q : Fin 256), y = ix2 r q := ⟨y 0, y 1, eq_ix2 y⟩
  refine (pay2 (iblk m c 2 t) (iblk m c 5 t) r q).trans (Eq.trans ?_ (congrArg (third _ _) (place8 t r q).symm))
  exact Finset.sum_congr rfl fun e _ => congrArg₂ (· * ·) (read2 m c t r e) (read5 m c t e q)

theorem result8 : (dats m 0 c).arrAt 8 cfg0.N = third (x2 m c) (x5 m c) := by
  refine (dats m 0 c).arrAt_eq_of_covers 8 _ (by decide +kernel) fun t hf y => ?_
  rw [after0_8]
  have h := block8 m c t
  blk_simp
  frame_out
  exact h y

theorem algebraic : @Cert.algebraic_Kernel16Ideal_Reference16Ideal Cert.Kernel16Ideal.Gen.facts Cert.Reference16Ideal.Gen.facts := by
  intro m g m' g' _ ha
  refine ⟨fun c => first (x0 m c) (x3 m c), fun c => second (x1 m c) (x4 m c), fun c => third (x2 m c) (x5 m c), ?_, ?_⟩
  · exact (θ_run Cert.Kernel16Ideal.defs _ _).mono (fun r h c => ⟨(h c).1.trans (result6 m c), (h c).2.1.trans (result7 m c), (h c).2.2.1.trans (result8 m c), (h c).2.2.2⟩) (run_blocks (F := Ideal) m g)
  · refine (θ_run Cert.Reference16Ideal.defs _ _).mono (fun r h c => ⟨(h c).1.trans ?_, (h c).2.1.trans ?_, (h c).2.2.1.trans ?_, (h c).2.2.2⟩) (Cert.Reference16Ideal.Value.run (F := Ideal) m' g')
    · rw [(ha c).1, (ha c).2.2.2.1]
      show _ = first (x0 m c) (x3 m c)
      funext i
      obtain ⟨r, q, rfl⟩ : ∃ (r : Fin 4096) (q : Fin 256), i = ix2 r q := ⟨i 0, i 1, eq_ix2 i⟩
      clear ha
      pointwise [first]
    · rw [(ha c).2.1, (ha c).2.2.2.2.1]
      show _ = second (x1 m c) (x4 m c)
      funext i
      obtain ⟨r, q, rfl⟩ : ∃ (r : Fin 4096) (q : Fin 512), i = ix2 r q := ⟨i 0, i 1, eq_ix2 i⟩
      clear ha
      pointwise [second]
    · rw [(ha c).2.2.1, (ha c).2.2.2.2.2]
      show _ = third (x2 m c) (x5 m c)
      funext i
      obtain ⟨r, q, rfl⟩ : ∃ (r : Fin 4096) (q : Fin 256), i = ix2 r q := ⟨i 0, i 1, eq_ix2 i⟩
      clear ha
      pointwise [third]

end Cert.BranchIn

end
-- ==== Proof.BranchOut.lean ====
/-
  The branch projections: each block of rows is the reference's product with the weight transposed.
-/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.BranchOut

open Idealize.ShloMosaic Idealize.ShloMosaic.TcCoe Idealize.ShloMosaic.Tactic Idealize.SL.Sem
open Idealize.ShloMosaic.Pipeline (Dat)

open Cert.Kernel17Ideal Cert.Kernel17Ideal.Gen Cert.Kernel17Ideal.Value

/-- The first branch's product. -/
def first (a : FVec Ideal S4096x256 .bf16) (w : FVec Ideal S1024x256 .bf16) : FVec Ideal S4096x1024 .bf16 :=
  fun i => ∑ e : Fin 256, a (ix2 (i 0) e) * w (ix2 (i 1) e)

theorem pay0 (P0 : Vec Ideal S1024x256 .bf16) (P1 : Vec Ideal S1024x256 .bf16) (r : Fin 1024) (q : Fin 1024) : k0_pay1 P0 P1 (ix2 r q) = ∑ e : Fin 256, P0 (ix2 r e) * P1 (ix2 q e) := by
  pointwise [k0_pay1]

/-- The second branch's product. -/
def second (a : FVec Ideal S4096x512 .bf16) (w : FVec Ideal S1024x512 .bf16) : FVec Ideal S4096x1024 .bf16 :=
  fun i => ∑ e : Fin 512, a (ix2 (i 0) e) * w (ix2 (i 1) e)

theorem pay1 (P0 : Vec Ideal S1024x512 .bf16) (P1 : Vec Ideal S1024x512 .bf16) (r : Fin 1024) (q : Fin 1024) : k0_pay2 P0 P1 (ix2 r q) = ∑ e : Fin 512, P0 (ix2 r e) * P1 (ix2 q e) := by
  pointwise [k0_pay2]

/-- The third branch's product. -/
def third (a : FVec Ideal S4096x256 .bf16) (w : FVec Ideal S1024x256 .bf16) : FVec Ideal S4096x1024 .bf16 :=
  fun i => ∑ e : Fin 256, a (ix2 (i 0) e) * w (ix2 (i 1) e)

theorem pay2 (P0 : Vec Ideal S1024x256 .bf16) (P1 : Vec Ideal S1024x256 .bf16) (r : Fin 1024) (q : Fin 1024) : k0_pay3 P0 P1 (ix2 r q) = ∑ e : Fin 256, P0 (ix2 r e) * P1 (ix2 q e) := by
  pointwise [k0_pay3]

variable (m : (ℓ : Loc nD τ sig) → Buf (Elt Ideal) ℓ) (c : Dev nD)

abbrev x0 : FVec Ideal S4096x256 .bf16 := m ((c : Thread nD τ).loc main_arg0)
abbrev x1 : FVec Ideal S4096x512 .bf16 := m ((c : Thread nD τ).loc main_arg1)
abbrev x2 : FVec Ideal S4096x256 .bf16 := m ((c : Thread nD τ).loc main_arg2)
abbrev x3 : FVec Ideal S1024x256 .bf16 := m ((c : Thread nD τ).loc main_arg3)
abbrev x4 : FVec Ideal S1024x512 .bf16 := m ((c : Thread nD τ).loc main_arg4)
abbrev x5 : FVec Ideal S1024x256 .bf16 := m ((c : Thread nD τ).loc main_arg5)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![t.val, 0] := by decide +kernel

/-- The row of the whole that row `r` of block `t` is. -/
abbrev row (t : Fin cfg0.N) (r : Fin 1024) : Fin 4096 := ⟨1024 * t.val + r.val, by have : t.val < 4 := t.isLt; omega⟩

theorem read0 (t : Fin cfg0.N) (r : Fin 1024) (e : Fin 256) : iblk m c 0 t (ix2 r e) = x0 m c (ix2 (row t r) e) := by
  blk_ext [iblk, V, index0 t]

theorem read3 (t : Fin cfg0.N) (r : Fin 1024) (e : Fin 256) : iblk m c 3 t (ix2 r e) = x3 m c (ix2 r e) := by
  blk_ext [iblk, V, index3 t]

theorem place6 (t : Fin cfg0.N) (r : Fin 1024) (q : Fin 1024) : ((cfg0.win 6).blk t).view.emb (ix2 r q) = ix2 (row t r) q := by
  funext a; refine Fin.ext ?_
  blk_simp [index6 t]
  match a with
  | ⟨0, _⟩ => show t.val * 1024 + r.val = 1024 * t.val + r.val; omega
  | ⟨1, _⟩ => show 0 * 1024 + q.val = q.val; omega

theorem block6 (t : Fin cfg0.N) (y : S1024x1024.Idx) : k0_pay1 (iblk m c 0 t) (iblk m c 3 t) y = first (x0 m c) (x3 m c) (((cfg0.win 6).blk t).view.emb y) := by
  obtain ⟨r, q, rfl⟩ : ∃ (r : Fin 1024) (q : Fin 1024), y = ix2 r q := ⟨y 0, y 1, eq_ix2 y⟩
  refine (pay0 (iblk m c 0 t) (iblk m c 3 t) r q).trans (Eq.trans ?_ (congrArg (first _ _) (place6 t r q).symm))
  exact Finset.sum_congr rfl fun e _ => congrArg₂ (· * ·) (read0 m c t r e) (read3 m c t q e)

theorem result6 : (dats m 0 c).arrAt 6 cfg0.N = first (x0 m c) (x3 m c) := by
  refine (dats m 0 c).arrAt_eq_of_covers 6 _ (by decide +kernel) fun t hf y => ?_
  rw [after0_6]
  have h := block6 m c t
  blk_simp
  frame_out
  exact h y

theorem read1 (t : Fin cfg0.N) (r : Fin 1024) (e : Fin 512) : iblk m c 1 t (ix2 r e) = x1 m c (ix2 (row t r) e) := by
  blk_ext [iblk, V, index1 t]

theorem read4 (t : Fin cfg0.N) (r : Fin 1024) (e : Fin 512) : iblk m c 4 t (ix2 r e) = x4 m c (ix2 r e) := by
  blk_ext [iblk, V, index4 t]

theorem place7 (t : Fin cfg0.N) (r : Fin 1024) (q : Fin 1024) : ((cfg0.win 7).blk t).view.emb (ix2 r q) = ix2 (row t r) q := by
  funext a; refine Fin.ext ?_
  blk_simp [index7 t]
  match a with
  | ⟨0, _⟩ => show t.val * 1024 + r.val = 1024 * t.val + r.val; omega
  | ⟨1, _⟩ => show 0 * 1024 + q.val = q.val; omega

theorem block7 (t : Fin cfg0.N) (y : S1024x1024.Idx) : k0_pay2 (iblk m c 1 t) (iblk m c 4 t) y = second (x1 m c) (x4 m c) (((cfg0.win 7).blk t).view.emb y) := by
  obtain ⟨r, q, rfl⟩ : ∃ (r : Fin 1024) (q : Fin 1024), y = ix2 r q := ⟨y 0, y 1, eq_ix2 y⟩
  refine (pay1 (iblk m c 1 t) (iblk m c 4 t) r q).trans (Eq.trans ?_ (congrArg (second _ _) (place7 t r q).symm))
  exact Finset.sum_congr rfl fun e _ => congrArg₂ (· * ·) (read1 m c t r e) (read4 m c t q e)

theorem result7 : (dats m 0 c).arrAt 7 cfg0.N = second (x1 m c) (x4 m c) := by
  refine (dats m 0 c).arrAt_eq_of_covers 7 _ (by decide +kernel) fun t hf y => ?_
  rw [after0_7]
  have h := block7 m c t
  blk_simp
  frame_out
  exact h y

theorem read2 (t : Fin cfg0.N) (r : Fin 1024) (e : Fin 256) : iblk m c 2 t (ix2 r e) = x2 m c (ix2 (row t r) e) := by
  blk_ext [iblk, V, index2 t]

theorem read5 (t : Fin cfg0.N) (r : Fin 1024) (e : Fin 256) : iblk m c 5 t (ix2 r e) = x5 m c (ix2 r e) := by
  blk_ext [iblk, V, index5 t]

theorem place8 (t : Fin cfg0.N) (r : Fin 1024) (q : Fin 1024) : ((cfg0.win 8).blk t).view.emb (ix2 r q) = ix2 (row t r) q := by
  funext a; refine Fin.ext ?_
  blk_simp [index8 t]
  match a with
  | ⟨0, _⟩ => show t.val * 1024 + r.val = 1024 * t.val + r.val; omega
  | ⟨1, _⟩ => show 0 * 1024 + q.val = q.val; omega

theorem block8 (t : Fin cfg0.N) (y : S1024x1024.Idx) : k0_pay3 (iblk m c 2 t) (iblk m c 5 t) y = third (x2 m c) (x5 m c) (((cfg0.win 8).blk t).view.emb y) := by
  obtain ⟨r, q, rfl⟩ : ∃ (r : Fin 1024) (q : Fin 1024), y = ix2 r q := ⟨y 0, y 1, eq_ix2 y⟩
  refine (pay2 (iblk m c 2 t) (iblk m c 5 t) r q).trans (Eq.trans ?_ (congrArg (third _ _) (place8 t r q).symm))
  exact Finset.sum_congr rfl fun e _ => congrArg₂ (· * ·) (read2 m c t r e) (read5 m c t q e)

theorem result8 : (dats m 0 c).arrAt 8 cfg0.N = third (x2 m c) (x5 m c) := by
  refine (dats m 0 c).arrAt_eq_of_covers 8 _ (by decide +kernel) fun t hf y => ?_
  rw [after0_8]
  have h := block8 m c t
  blk_simp
  frame_out
  exact h y

theorem algebraic : @Cert.algebraic_Kernel17Ideal_Reference17Ideal Cert.Kernel17Ideal.Gen.facts Cert.Reference17Ideal.Gen.facts := by
  intro m g m' g' _ ha
  refine ⟨fun c => first (x0 m c) (x3 m c), fun c => second (x1 m c) (x4 m c), fun c => third (x2 m c) (x5 m c), ?_, ?_⟩
  · exact (θ_run Cert.Kernel17Ideal.defs _ _).mono (fun r h c => ⟨(h c).1.trans (result6 m c), (h c).2.1.trans (result7 m c), (h c).2.2.1.trans (result8 m c), (h c).2.2.2⟩) (run_blocks (F := Ideal) m g)
  · refine (θ_run Cert.Reference17Ideal.defs _ _).mono (fun r h c => ⟨(h c).1.trans ?_, (h c).2.1.trans ?_, (h c).2.2.1.trans ?_, (h c).2.2.2⟩) (Cert.Reference17Ideal.Value.run (F := Ideal) m' g')
    · rw [(ha c).1, (ha c).2.2.2.1]
      show _ = first (x0 m c) (x3 m c)
      funext i
      obtain ⟨r, q, rfl⟩ : ∃ (r : Fin 4096) (q : Fin 1024), i = ix2 r q := ⟨i 0, i 1, eq_ix2 i⟩
      clear ha
      pointwise [first]
    · rw [(ha c).2.1, (ha c).2.2.2.2.1]
      show _ = second (x1 m c) (x4 m c)
      funext i
      obtain ⟨r, q, rfl⟩ : ∃ (r : Fin 4096) (q : Fin 1024), i = ix2 r q := ⟨i 0, i 1, eq_ix2 i⟩
      clear ha
      pointwise [second]
    · rw [(ha c).2.2.1, (ha c).2.2.2.2.2]
      show _ = third (x2 m c) (x5 m c)
      funext i
      obtain ⟨r, q, rfl⟩ : ∃ (r : Fin 4096) (q : Fin 1024), i = ix2 r q := ⟨i 0, i 1, eq_ix2 i⟩
      clear ha
      pointwise [third]

end Cert.BranchOut

end
-- ==== Proof.MergeGrad.lean ====
/-
  The gradient of the merge of the three branches under their gates: the kernel's blocks of 256 rows, and the bias gradient it
  sums over them, are the reference's.
-/
module

public import proofs.«01_k».proof.Defs
public import proofs.«01_k».proof.Proof.Gen.Kernel18Ideal.Value
public import proofs.«01_k».proof.Proof.Gen.Reference18Ideal.Run
public import Idealize.ShloMosaic.Lib.Pipeline.ReadBack
public import Idealize.ShloMosaic.Lib.Tactic.CleanTypes
public import Idealize.ShloMosaic.Lib.Pipeline.ValueKit
public import Idealize.ShloMosaic.Lib.Pointwise
public import Idealize.ShloMosaic.Lib.KernelVsHost

@[expose] public section

set_option maxRecDepth 16384

noncomputable section

namespace Cert.MergeGrad

open Idealize.ShloMosaic Idealize.ShloMosaic.TcCoe Idealize.ShloMosaic.Tactic Idealize.SL.Sem
open Idealize.ShloMosaic.Pipeline (Dat)

section Kernel

open Cert.Kernel18Ideal Cert.Kernel18Ideal.Gen Cert.Kernel18Ideal.Value

/-- A gate before its activation to the gate. -/
def gate (t : EReal) : EReal := Ideal.div 1 (1 + Ideal.exp (-t))

/-- The gradient of a gate before its activation: the incoming gradient by the branch, by the activation's derivative. -/
def dgate (d y t : EReal) : EReal := d * y * gate t * (1 - gate t)

/-- The branch that column `k` of the gates weighs, at its own column. -/
def pick (y0 y1 y2 : Fin 1024 → EReal) (k : Fin 3072) : EReal :=
  if h0 : k.val < 1024 then y0 ⟨k.val, h0⟩
  else if h1 : k.val < 2048 then y1 ⟨k.val - 1024, by omega⟩
  else y2 ⟨k.val - 2048, by omega⟩

/-- A column of the gates, as a column of the branch. -/
abbrev col (k : Fin 3072) : Fin 1024 := ⟨k.val % 1024, by omega⟩

theorem pick0 (y0 y1 y2 : Fin 1024 → EReal) (k : Fin 3072) (q : Fin 1024) (h : k.val = q.val) : pick y0 y1 y2 k = y0 q := by
  unfold pick
  rw [dif_pos (by omega)]
  exact congrArg y0 (Fin.ext h)

theorem pick1 (y0 y1 y2 : Fin 1024 → EReal) (k : Fin 3072) (q : Fin 1024) (h : k.val = 1024 + q.val) : pick y0 y1 y2 k = y1 q := by
  unfold pick
  rw [dif_neg (by omega), dif_pos (by omega)]
  exact congrArg y1 (Fin.ext (by show k.val - 1024 = q.val; omega))

theorem pick2 (y0 y1 y2 : Fin 1024 → EReal) (k : Fin 3072) (q : Fin 1024) (h : k.val = 2048 + q.val) : pick y0 y1 y2 k = y2 q := by
  unfold pick
  rw [dif_neg (by omega), dif_neg (by omega)]
  exact congrArg y2 (Fin.ext (by show k.val - 2048 = q.val; omega))

variable (z : Vec Ideal S256x1024 .bf16) (b : Vec Ideal S1x1024 .f32) (P0 : Vec Ideal S256x1024 .bf16) (P1 : Vec Ideal S1024x1024 .bf16)

theorem pay7 (r : Fin 256) (q : Fin 1024) :
    k0_pay7 P0 P1 (ix2 r q) = ∑ e : Fin 1024, P0 (ix2 r e) * P1 (ix2 q e) := by
  pointwise [k0_pay7]

theorem pay8 (r : Fin 256) (q : Fin 1024) :
    k0_pay8 z b (ix2 r q) = gate (z (ix2 r q) + b (ix2 0 q)) := by
  pointwise [k0_pay8, gate]
  rw [sub_eq_add_neg, zero_add]

theorem pay14 (r : Fin 256) (q : Fin 1024) :
    k0_pay14 z b (ix2 r q) = gate (z (ix2 r q) + b (ix2 0 q)) := by
  pointwise [k0_pay14, gate]
  rw [sub_eq_add_neg, zero_add]

theorem pay1 (r : Fin 256) (q : Fin 1024) :
    k0_pay1 z b (ix2 r q) = gate (z (ix2 r q) + b (ix2 0 q)) := by
  pointwise [k0_pay1, gate]
  rw [sub_eq_add_neg, zero_add]

variable (D v27 : FVec Ideal S256x1024 .f32) (v : Vec Ideal S1x1024 .f32) (P0 : Vec Ideal S256x1024 .bf16) (P1 : Vec Ideal S1024x1024 .bf16) (z : Vec Ideal S256x1024 .bf16) (b : Vec Ideal S1x1024 .f32) (y : Vec Ideal S256x1024 .bf16)

theorem pay9 (r : Fin 256) (q : Fin 1024) :
    k0_pay9 P0 P1 z b (ix2 r q) = k0_pay7 P0 P1 (ix2 r q) * gate (z (ix2 r q) + b (ix2 0 q)) := by
  rw [← pay8]
  pointwise [k0_pay9]

theorem pay10 (r : Fin 256) (q : Fin 1024) :
    k0_pay10 P0 P1 z b y (ix2 r q) = dgate (k0_pay7 P0 P1 (ix2 r q)) (y (ix2 r q)) (z (ix2 r q) + b (ix2 0 q)) := by
  unfold dgate
  rw [← pay8]
  pointwise [k0_pay10]

theorem pay11 (r : Fin 256) (q : Fin 1024) :
    k0_pay11 P0 P1 z b y (ix2 r q) = dgate (k0_pay7 P0 P1 (ix2 r q)) (y (ix2 r q)) (z (ix2 r q) + b (ix2 0 q)) :=
  pay10 P0 P1 z b y r q

theorem pay13 (q : Fin 1024) :
    k0_pay13 v27 (k0_pay12 v) (ix2 (0 : Fin 1) q) = v (ix2 0 q) + ∑ r : Fin 256, v27 (ix2 r q) := by
  pointwise [k0_pay13, k0_pay12]

theorem pay15 (r : Fin 256) (q : Fin 1024) :
    k0_pay15 D z b (ix2 r q) = D (ix2 r q) * gate (z (ix2 r q) + b (ix2 0 q)) := by
  rw [← pay14]
  pointwise [k0_pay15]

theorem pay16 (r : Fin 256) (q : Fin 1024) :
    k0_pay16 D z b y (ix2 r q) = dgate (D (ix2 r q)) (y (ix2 r q)) (z (ix2 r q) + b (ix2 0 q)) := by
  unfold dgate
  rw [← pay14]
  pointwise [k0_pay16]

theorem pay17 (r : Fin 256) (q : Fin 1024) :
    k0_pay17 D z b y (ix2 r q) = dgate (D (ix2 r q)) (y (ix2 r q)) (z (ix2 r q) + b (ix2 0 q)) :=
  pay16 D z b y r q

variable (x : Vec Ideal S256x3072 .bf16) (D : FVec Ideal S256x1024 .f32) (z : Vec Ideal S256x1024 .bf16) (b : Vec Ideal S1x1024 .f32) (y : Vec Ideal S256x1024 .bf16) (v : Vec Ideal S1x1024 .f32)

theorem pay18 (q : Fin 1024) :
    k0_pay18 D z b y v (ix2 (0 : Fin 1) q) = v (ix2 0 q) + ∑ r : Fin 256, k0_pay16 D z b y (ix2 r q) := by
  pointwise [k0_pay18]

theorem pay2 (r : Fin 256) (q : Fin 1024) :
    k0_pay2 D z b (ix2 r q) = D (ix2 r q) * gate (z (ix2 r q) + b (ix2 0 q)) := by
  rw [← pay1]
  pointwise [k0_pay2]

theorem pay3 (r : Fin 256) (q : Fin 1024) :
    k0_pay3 D z b y (ix2 r q) = dgate (D (ix2 r q)) (y (ix2 r q)) (z (ix2 r q) + b (ix2 0 q)) := by
  unfold dgate
  rw [← pay1]
  pointwise [k0_pay3]

theorem pay4 (r : Fin 256) (q : Fin 1024) :
    k0_pay4 D z b y (ix2 r q) = dgate (D (ix2 r q)) (y (ix2 r q)) (z (ix2 r q) + b (ix2 0 q)) :=
  pay3 D z b y r q

theorem pay5 (q : Fin 1024) :
    k0_pay5 D z b y v (ix2 (0 : Fin 1) q) = v (ix2 0 q) + ∑ r : Fin 256, k0_pay3 D z b y (ix2 r q) := by
  pointwise [k0_pay5]

theorem pay6 (y : S1x3072.Idx) : k0_pay6 (F := Ideal) y = 0 := by
  pointwise [k0_pay6]

/-- A load of 1024 columns from column `o` on. -/
theorem ldz (o : ℕ) (h) (ho : o ≤ 2048) (r : Fin 256) (q : Fin 1024) : View.ld x (Rect.unit ![0, o] ![256, 1024] h) (ix2 r q) = x (ix2 r (⟨o + q.val, by omega⟩ : Fin 3072)) := by
  unfold View.ld
  refine congrArg x (funext fun a => Fin.ext ?_)
  match a with
  | ⟨0, _⟩ => show 0 + 1 * r.val = r.val; omega
  | ⟨1, _⟩ => show o + 1 * q.val = o + q.val; omega

theorem ldb (o : ℕ) (h) (ho : o ≤ 2048) (x : Vec Ideal S1x3072 .f32) (q : Fin 1024) : View.ld x (Rect.unit ![0, o] ![1, 1024] h) (ix2 (0 : Fin 1) q) = x (ix2 0 (⟨o + q.val, by omega⟩ : Fin 3072)) := by
  unfold View.ld
  refine congrArg x (funext fun a => Fin.ext ?_)
  match a with
  | ⟨0, _⟩ => show 0 + 1 * 0 = 0; omega
  | ⟨1, _⟩ => show o + 1 * q.val = o + q.val; omega

/-- Three stores side by side, over any earlier ones, make the block of 256 rows. -/
theorem slabs256 (G : S256x3072.Idx → EReal) (p2 p1 p0 : Vec Ideal S256x1024 .bf16) (L : List (View.Piece (Elt Ideal) S256x3072 .bf16))
    (h2 : ∀ (r : Fin 256) (q : Fin 1024), p2 (ix2 r q) = G (ix2 r (⟨2048 + q.val, by omega⟩ : Fin 3072)))
    (h1 : ∀ (r : Fin 256) (q : Fin 1024), p1 (ix2 r q) = G (ix2 r (⟨1024 + q.val, by omega⟩ : Fin 3072)))
    (h0 : ∀ (r : Fin 256) (q : Fin 1024), p0 (ix2 r q) = G (ix2 r (⟨0 + q.val, by omega⟩ : Fin 3072))) (y : S256x3072.Idx) :
    View.canon (Val := Elt Ideal) (s := S256x3072) (e := .bf16) ((⟨Rect.unit ![0, 2048] ![256, 1024] inb_S256x3072_S256x1024_0_2048, p2⟩ : View.Piece (Elt Ideal) S256x3072 .bf16) :: ⟨Rect.unit ![0, 1024] ![256, 1024] inb_S256x3072_S256x1024_0_1024, p1⟩ :: ⟨Rect.unit ![0, 0] ![256, 1024] inb_S256x3072_S256x1024_0_0, p0⟩ :: L) y = G y := by
  refine View.canon_append_of_piecesOf (Val := Elt Ideal) (s := S256x3072) (e := .bf16) G L [⟨Rect.unit ![0, 2048] ![256, 1024] inb_S256x3072_S256x1024_0_2048, p2⟩, ⟨Rect.unit ![0, 1024] ![256, 1024] inb_S256x3072_S256x1024_0_1024, p1⟩, ⟨Rect.unit ![0, 0] ![256, 1024] inb_S256x3072_S256x1024_0_0, p0⟩] ⟨?_, ?_, ?_, trivial⟩ y
    (View.cover_of_tiled ([⟨Rect.unit ![0, 2048] ![256, 1024] inb_S256x3072_S256x1024_0_2048, p2⟩, ⟨Rect.unit ![0, 1024] ![256, 1024] inb_S256x3072_S256x1024_0_1024, p1⟩, ⟨Rect.unit ![0, 0] ![256, 1024] inb_S256x3072_S256x1024_0_0, p0⟩] : List (View.Piece (Elt Ideal) S256x3072 .bf16)) S256x1024.size (by rfl) _)
  · intro x
    obtain ⟨r, q, rfl⟩ : ∃ (r : Fin 256) (q : Fin 1024), x = ix2 r q := ⟨x 0, x 1, eq_ix2 x⟩
    refine (h2 r q).trans (congrArg G (funext fun a => Fin.ext ?_))
    match a with
    | ⟨0, _⟩ => show r.val = 0 + 1 * r.val; omega
    | ⟨1, _⟩ => show 2048 + q.val = 2048 + 1 * q.val; omega
  · intro x
    obtain ⟨r, q, rfl⟩ : ∃ (r : Fin 256) (q : Fin 1024), x = ix2 r q := ⟨x 0, x 1, eq_ix2 x⟩
    refine (h1 r q).trans (congrArg G (funext fun a => Fin.ext ?_))
    match a with
    | ⟨0, _⟩ => show r.val = 0 + 1 * r.val; omega
    | ⟨1, _⟩ => show 1024 + q.val = 1024 + 1 * q.val; omega
  · intro x
    obtain ⟨r, q, rfl⟩ : ∃ (r : Fin 256) (q : Fin 1024), x = ix2 r q := ⟨x 0, x 1, eq_ix2 x⟩
    refine (h0 r q).trans (congrArg G (funext fun a => Fin.ext ?_))
    match a with
    | ⟨0, _⟩ => show r.val = 0 + 1 * r.val; omega
    | ⟨1, _⟩ => show 0 + q.val = 0 + 1 * q.val; omega

/-- Three stores side by side, over any earlier ones, make the block of 1 row. -/
theorem slabs1 (G : S1x3072.Idx → EReal) (p2 p1 p0 : Vec Ideal S1x1024 .f32) (L : List (View.Piece (Elt Ideal) S1x3072 .f32))
    (h2 : ∀ (r : Fin 1) (q : Fin 1024), p2 (ix2 r q) = G (ix2 r (⟨2048 + q.val, by omega⟩ : Fin 3072)))
    (h1 : ∀ (r : Fin 1) (q : Fin 1024), p1 (ix2 r q) = G (ix2 r (⟨1024 + q.val, by omega⟩ : Fin 3072)))
    (h0 : ∀ (r : Fin 1) (q : Fin 1024), p0 (ix2 r q) = G (ix2 r (⟨0 + q.val, by omega⟩ : Fin 3072))) (y : S1x3072.Idx) :
    View.canon (Val := Elt Ideal) (s := S1x3072) (e := .f32) ((⟨Rect.unit ![0, 2048] ![1, 1024] inb_S1x3072_S1x1024_0_2048, p2⟩ : View.Piece (Elt Ideal) S1x3072 .f32) :: ⟨Rect.unit ![0, 1024] ![1, 1024] inb_S1x3072_S1x1024_0_1024, p1⟩ :: ⟨Rect.unit ![0, 0] ![1, 1024] inb_S1x3072_S1x1024_0_0, p0⟩ :: L) y = G y := by
  refine View.canon_append_of_piecesOf (Val := Elt Ideal) (s := S1x3072) (e := .f32) G L [⟨Rect.unit ![0, 2048] ![1, 1024] inb_S1x3072_S1x1024_0_2048, p2⟩, ⟨Rect.unit ![0, 1024] ![1, 1024] inb_S1x3072_S1x1024_0_1024, p1⟩, ⟨Rect.unit ![0, 0] ![1, 1024] inb_S1x3072_S1x1024_0_0, p0⟩] ⟨?_, ?_, ?_, trivial⟩ y
    (View.cover_of_tiled ([⟨Rect.unit ![0, 2048] ![1, 1024] inb_S1x3072_S1x1024_0_2048, p2⟩, ⟨Rect.unit ![0, 1024] ![1, 1024] inb_S1x3072_S1x1024_0_1024, p1⟩, ⟨Rect.unit ![0, 0] ![1, 1024] inb_S1x3072_S1x1024_0_0, p0⟩] : List (View.Piece (Elt Ideal) S1x3072 .f32)) S1x1024.size (by rfl) _)
  · intro x
    obtain ⟨r, q, rfl⟩ : ∃ (r : Fin 1) (q : Fin 1024), x = ix2 r q := ⟨x 0, x 1, eq_ix2 x⟩
    refine (h2 r q).trans (congrArg G (funext fun a => Fin.ext ?_))
    match a with
    | ⟨0, _⟩ => show r.val = 0 + 1 * r.val; omega
    | ⟨1, _⟩ => show 2048 + q.val = 2048 + 1 * q.val; omega
  · intro x
    obtain ⟨r, q, rfl⟩ : ∃ (r : Fin 1) (q : Fin 1024), x = ix2 r q := ⟨x 0, x 1, eq_ix2 x⟩
    refine (h1 r q).trans (congrArg G (funext fun a => Fin.ext ?_))
    match a with
    | ⟨0, _⟩ => show r.val = 0 + 1 * r.val; omega
    | ⟨1, _⟩ => show 1024 + q.val = 1024 + 1 * q.val; omega
  · intro x
    obtain ⟨r, q, rfl⟩ : ∃ (r : Fin 1) (q : Fin 1024), x = ix2 r q := ⟨x 0, x 1, eq_ix2 x⟩
    refine (h0 r q).trans (congrArg G (funext fun a => Fin.ext ?_))
    match a with
    | ⟨0, _⟩ => show r.val = 0 + 1 * r.val; omega
    | ⟨1, _⟩ => show 0 + q.val = 0 + 1 * q.val; omega

variable (m : (ℓ : Loc nD τ sig) → Buf (Elt Ideal) ℓ) (c : Dev nD)

/-- The arguments, as launched. -/
abbrev d0 : FVec Ideal S4096x1024 .bf16 := m ((c : Thread nD τ).loc main_arg0)
abbrev w0 : FVec Ideal S1024x1024 .bf16 := m ((c : Thread nD τ).loc main_arg1)
abbrev z0 : FVec Ideal S4096x3072 .bf16 := m ((c : Thread nD τ).loc main_arg2)
abbrev b0 : FVec Ideal S1x3072 .f32 := m ((c : Thread nD τ).loc main_arg3)
abbrev y0 : FVec Ideal S4096x1024 .bf16 := m ((c : Thread nD τ).loc main_arg4)
abbrev y1 : FVec Ideal S4096x1024 .bf16 := m ((c : Thread nD τ).loc main_arg5)
abbrev y2 : FVec Ideal S4096x1024 .bf16 := m ((c : Thread nD τ).loc main_arg6)

section

variable (d : FVec Ideal S4096x1024 .bf16) (w : FVec Ideal S1024x1024 .bf16) (z : FVec Ideal S4096x3072 .bf16) (b : FVec Ideal S1x3072 .f32) (y0 y1 y2 : FVec Ideal S4096x1024 .bf16)

/-- The gradient of the merged branches. -/
def dm (s : Fin 4096) (q : Fin 1024) : EReal := ∑ e : Fin 1024, d (ix2 s e) * w (ix2 q e)

/-- The gradient of the branch whose gates start at column `o`. -/
def dbranch (o : ℕ) (ho : o ≤ 2048) (d : FVec Ideal S4096x1024 .bf16) (w : FVec Ideal S1024x1024 .bf16) (z : FVec Ideal S4096x3072 .bf16) (b : FVec Ideal S1x3072 .f32) : FVec Ideal S4096x1024 .bf16 :=
  fun i => dm d w (i 0) (i 1) * gate (z (ix2 (i 0) (⟨o + (i 1).val, by have : (i 1).val < 1024 := (i 1).isLt; omega⟩ : Fin 3072)) + b (ix2 0 (⟨o + (i 1).val, by have : (i 1).val < 1024 := (i 1).isLt; omega⟩ : Fin 3072)))

/-- The gradient of the gates before their activation. -/
def dgates : FVec Ideal S4096x3072 .bf16 :=
  fun i => dgate (dm d w (i 0) (col (i 1))) (pick (fun q => y0 (ix2 (i 0) q)) (fun q => y1 (ix2 (i 0) q)) (fun q => y2 (ix2 (i 0) q)) (i 1)) (z i + b (ix2 0 (i 1)))

/-- The gradient of the gates' bias: the sum over the rows. -/
def dbias : FVec Ideal S1x3072 .f32 :=
  fun i => ∑ s : Fin 4096, dgates d w z b y0 y1 y2 (ix2 s (i 1))

end

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel
theorem index10 : ∀ t : Fin cfg0.N, win0_10.index t = ![t.val, 0] := by decide +kernel
theorem index11 : ∀ t : Fin cfg0.N, win0_11.index t = ![0, 0] := by decide +kernel

/-- The row of the whole that row `r` of block `t` is. -/
abbrev row (t : Fin cfg0.N) (r : Fin 256) : Fin 4096 := ⟨256 * t.val + r.val, by have : t.val < 16 := t.isLt; omega⟩

theorem read0 (t : Fin cfg0.N) (r : Fin 256) (q : Fin 1024) : iblk m c 0 t (ix2 r q) = d0 m c (ix2 (row t r) q) := by
  blk_ext [iblk, V, index0 t]

theorem read2 (t : Fin cfg0.N) (r : Fin 256) (q : Fin 3072) : iblk m c 2 t (ix2 r q) = z0 m c (ix2 (row t r) q) := by
  blk_ext [iblk, V, index2 t]

theorem read4 (t : Fin cfg0.N) (r : Fin 256) (q : Fin 1024) : iblk m c 4 t (ix2 r q) = y0 m c (ix2 (row t r) q) := by
  blk_ext [iblk, V, index4 t]

theorem read5 (t : Fin cfg0.N) (r : Fin 256) (q : Fin 1024) : iblk m c 5 t (ix2 r q) = y1 m c (ix2 (row t r) q) := by
  blk_ext [iblk, V, index5 t]

theorem read6 (t : Fin cfg0.N) (r : Fin 256) (q : Fin 1024) : iblk m c 6 t (ix2 r q) = y2 m c (ix2 (row t r) q) := by
  blk_ext [iblk, V, index6 t]

theorem read1 (t : Fin cfg0.N) (q e : Fin 1024) : iblk m c 1 t (ix2 q e) = w0 m c (ix2 q e) := by
  blk_ext [iblk, V, index1 t]

theorem read3 (t : Fin cfg0.N) (k : Fin 3072) : iblk m c 3 t (ix2 (0 : Fin 1) k) = b0 m c (ix2 0 k) := by
  blk_ext [iblk, V, index3 t]

theorem dm_point (t : Fin cfg0.N) (r : Fin 256) (q : Fin 1024) : k0_pay7 (iblk m c 0 t) (iblk m c 1 t) (ix2 r q) = dm (d0 m c) (w0 m c) (row t r) q :=
  (pay7 (iblk m c 0 t) (iblk m c 1 t) r q).trans (Finset.sum_congr rfl fun e _ => congrArg₂ (· * ·) (read0 m c t r e) (read1 m c t q e))

/-- A block's loads of the gates and of their bias. -/
abbrev zb0 (t : Fin cfg0.N) : Vec Ideal S256x1024 .bf16 := View.ld (iblk m c 2 t) (Rect.unit ![0, 0] ![256, 1024] inb_S256x3072_S256x1024_0_0)
abbrev zb1 (t : Fin cfg0.N) : Vec Ideal S256x1024 .bf16 := View.ld (iblk m c 2 t) (Rect.unit ![0, 1024] ![256, 1024] inb_S256x3072_S256x1024_0_1024)
abbrev zb2 (t : Fin cfg0.N) : Vec Ideal S256x1024 .bf16 := View.ld (iblk m c 2 t) (Rect.unit ![0, 2048] ![256, 1024] inb_S256x3072_S256x1024_0_2048)
abbrev bb0 (t : Fin cfg0.N) : Vec Ideal S1x1024 .f32 := View.ld (iblk m c 3 t) (Rect.unit ![0, 0] ![1, 1024] inb_S1x3072_S1x1024_0_0)
abbrev bb1 (t : Fin cfg0.N) : Vec Ideal S1x1024 .f32 := View.ld (iblk m c 3 t) (Rect.unit ![0, 1024] ![1, 1024] inb_S1x3072_S1x1024_0_1024)
abbrev bb2 (t : Fin cfg0.N) : Vec Ideal S1x1024 .f32 := View.ld (iblk m c 3 t) (Rect.unit ![0, 2048] ![1, 1024] inb_S1x3072_S1x1024_0_2048)

theorem t_point0 (t : Fin cfg0.N) (r : Fin 256) (q : Fin 1024) : (zb0 m c t (ix2 r q) + bb0 m c t (ix2 0 q) : EReal) = z0 m c (ix2 (row t r) (⟨0 + q.val, by omega⟩ : Fin 3072)) + b0 m c (ix2 0 (⟨0 + q.val, by omega⟩ : Fin 3072)) :=
  congrArg₂ (· + ·) ((ldz (iblk m c 2 t) 0 _ (by omega) r q).trans (read2 m c t r _)) ((ldb 0 _ (by omega) (iblk m c 3 t) q).trans (read3 m c t _))

theorem t_point1 (t : Fin cfg0.N) (r : Fin 256) (q : Fin 1024) : (zb1 m c t (ix2 r q) + bb1 m c t (ix2 0 q) : EReal) = z0 m c (ix2 (row t r) (⟨1024 + q.val, by omega⟩ : Fin 3072)) + b0 m c (ix2 0 (⟨1024 + q.val, by omega⟩ : Fin 3072)) :=
  congrArg₂ (· + ·) ((ldz (iblk m c 2 t) 1024 _ (by omega) r q).trans (read2 m c t r _)) ((ldb 1024 _ (by omega) (iblk m c 3 t) q).trans (read3 m c t _))

theorem t_point2 (t : Fin cfg0.N) (r : Fin 256) (q : Fin 1024) : (zb2 m c t (ix2 r q) + bb2 m c t (ix2 0 q) : EReal) = z0 m c (ix2 (row t r) (⟨2048 + q.val, by omega⟩ : Fin 3072)) + b0 m c (ix2 0 (⟨2048 + q.val, by omega⟩ : Fin 3072)) :=
  congrArg₂ (· + ·) ((ldz (iblk m c 2 t) 2048 _ (by omega) r q).trans (read2 m c t r _)) ((ldb 2048 _ (by omega) (iblk m c 3 t) q).trans (read3 m c t _))

theorem place7 (t : Fin cfg0.N) (r : Fin 256) (q : Fin 1024) : ((cfg0.win 7).blk t).view.emb (ix2 r q) = ix2 (row t r) q := by
  funext a; refine Fin.ext ?_
  blk_simp [index7 t]
  match a with
  | ⟨0, _⟩ => show t.val * 256 + r.val = 256 * t.val + r.val; omega
  | ⟨1, _⟩ => show 0 * 1024 + q.val = q.val; omega

theorem outs7 (t : Fin cfg0.N) : (outsAt0 m c t.val t.isLt).1 = k0_pay9 (iblk m c 0 t) (iblk m c 1 t) (zb0 m c t) (bb0 m c t) := by
  by_cases h0 : t.val % 16 = 0
  · rw [outsAt0_A m c t h0]
    frame_out
    rfl
  · rw [outsAt0_B m c t h0]
    frame_out
    rfl

theorem block7 (t : Fin cfg0.N) (y : S256x1024.Idx) : (outsAt0 m c t.val t.isLt).1 y = dbranch 0 (by omega) (d0 m c) (w0 m c) (z0 m c) (b0 m c) (((cfg0.win 7).blk t).view.emb y) := by
  obtain ⟨r, q, rfl⟩ : ∃ (r : Fin 256) (q : Fin 1024), y = ix2 r q := ⟨y 0, y 1, eq_ix2 y⟩
  rw [outs7]
  refine (pay9 (iblk m c 0 t) (iblk m c 1 t) (zb0 m c t) (bb0 m c t) r q).trans (Eq.trans ?_ (congrArg (dbranch 0 (by omega) _ _ _ _) (place7 t r q).symm))
  exact congrArg₂ (· * ·) (dm_point m c t r q) (congrArg gate (t_point0 m c t r q))

theorem result7 : (dats m 0 c).arrAt 7 cfg0.N = dbranch 0 (by omega) (d0 m c) (w0 m c) (z0 m c) (b0 m c) := by
  refine (dats m 0 c).arrAt_eq_of_covers 7 _ (by decide +kernel) fun t hf y => ?_
  rw [after0_7]
  have h := block7 m c t
  blk_simp
  exact h y

theorem place8 (t : Fin cfg0.N) (r : Fin 256) (q : Fin 1024) : ((cfg0.win 8).blk t).view.emb (ix2 r q) = ix2 (row t r) q := place7 t r q

theorem outs8 (t : Fin cfg0.N) : (outsAt0 m c t.val t.isLt).2.1 = k0_pay15 (k0_pay7 (iblk m c 0 t) (iblk m c 1 t)) (zb1 m c t) (bb1 m c t) := by
  by_cases h0 : t.val % 16 = 0
  · rw [outsAt0_A m c t h0]
    frame_out
    rfl
  · rw [outsAt0_B m c t h0]
    frame_out
    rfl

theorem block8 (t : Fin cfg0.N) (y : S256x1024.Idx) : (outsAt0 m c t.val t.isLt).2.1 y = dbranch 1024 (by omega) (d0 m c) (w0 m c) (z0 m c) (b0 m c) (((cfg0.win 8).blk t).view.emb y) := by
  obtain ⟨r, q, rfl⟩ : ∃ (r : Fin 256) (q : Fin 1024), y = ix2 r q := ⟨y 0, y 1, eq_ix2 y⟩
  rw [outs8]
  refine (pay15 (k0_pay7 (iblk m c 0 t) (iblk m c 1 t)) (zb1 m c t) (bb1 m c t) r q).trans (Eq.trans ?_ (congrArg (dbranch 1024 (by omega) _ _ _ _) (place8 t r q).symm))
  exact congrArg₂ (· * ·) (dm_point m c t r q) (congrArg gate (t_point1 m c t r q))

theorem result8 : (dats m 0 c).arrAt 8 cfg0.N = dbranch 1024 (by omega) (d0 m c) (w0 m c) (z0 m c) (b0 m c) := by
  refine (dats m 0 c).arrAt_eq_of_covers 8 _ (by decide +kernel) fun t hf y => ?_
  rw [after0_8]
  have h := block8 m c t
  blk_simp
  exact h y

theorem place9 (t : Fin cfg0.N) (r : Fin 256) (q : Fin 1024) : ((cfg0.win 9).blk t).view.emb (ix2 r q) = ix2 (row t r) q := place7 t r q

theorem outs9 (t : Fin cfg0.N) : (outsAt0 m c t.val t.isLt).2.2.1 = k0_pay2 (k0_pay7 (iblk m c 0 t) (iblk m c 1 t)) (zb2 m c t) (bb2 m c t) := by
  by_cases h0 : t.val % 16 = 0
  · rw [outsAt0_A m c t h0]
    frame_out
    rfl
  · rw [outsAt0_B m c t h0]
    frame_out
    rfl

theorem block9 (t : Fin cfg0.N) (y : S256x1024.Idx) : (outsAt0 m c t.val t.isLt).2.2.1 y = dbranch 2048 (by omega) (d0 m c) (w0 m c) (z0 m c) (b0 m c) (((cfg0.win 9).blk t).view.emb y) := by
  obtain ⟨r, q, rfl⟩ : ∃ (r : Fin 256) (q : Fin 1024), y = ix2 r q := ⟨y 0, y 1, eq_ix2 y⟩
  rw [outs9]
  refine (pay2 (k0_pay7 (iblk m c 0 t) (iblk m c 1 t)) (zb2 m c t) (bb2 m c t) r q).trans (Eq.trans ?_ (congrArg (dbranch 2048 (by omega) _ _ _ _) (place9 t r q).symm))
  exact congrArg₂ (· * ·) (dm_point m c t r q) (congrArg gate (t_point2 m c t r q))

theorem result9 : (dats m 0 c).arrAt 9 cfg0.N = dbranch 2048 (by omega) (d0 m c) (w0 m c) (z0 m c) (b0 m c) := by
  refine (dats m 0 c).arrAt_eq_of_covers 9 _ (by decide +kernel) fun t hf y => ?_
  rw [after0_9]
  have h := block9 m c t
  blk_simp
  exact h y

/-- A block's gradient of the gates. -/
def dblk (t : Fin cfg0.N) : S256x3072.Idx → EReal := fun y => dgates (d0 m c) (w0 m c) (z0 m c) (b0 m c) (y0 m c) (y1 m c) (y2 m c) (ix2 (row t (y 0)) (y 1))

/-- A row of the branches side by side. -/
abbrev yRow (t : Fin cfg0.N) (r : Fin 256) : Fin 3072 → EReal := pick (fun q => y0 m c (ix2 (row t r) q)) (fun q => y1 m c (ix2 (row t r) q)) (fun q => y2 m c (ix2 (row t r) q))

theorem dg_point (o : ℕ) (ho : o ≤ 2048) (hm : o % 1024 = 0) (t : Fin cfg0.N) (r : Fin 256) (q : Fin 1024) (Y Z : EReal)
    (hY : Y = yRow m c t r (⟨o + q.val, by omega⟩ : Fin 3072))
    (hZ : Z = z0 m c (ix2 (row t r) (⟨o + q.val, by omega⟩ : Fin 3072)) + b0 m c (ix2 0 (⟨o + q.val, by omega⟩ : Fin 3072))) :
    dgate (k0_pay7 (iblk m c 0 t) (iblk m c 1 t) (ix2 r q)) Y Z = dblk m c t (ix2 r (⟨o + q.val, by omega⟩ : Fin 3072)) := by
  unfold dblk dgates
  have hc : col (⟨o + q.val, by omega⟩ : Fin 3072) = q := Fin.ext (by show (o + q.val) % 1024 = q.val; omega)
  have e1 : k0_pay7 (iblk m c 0 t) (iblk m c 1 t) (ix2 r q) = dm (d0 m c) (w0 m c) (row t r) (col (⟨o + q.val, by omega⟩ : Fin 3072)) := (dm_point m c t r q).trans (congrArg (dm (d0 m c) (w0 m c) (row t r)) hc.symm)
  exact (congrArg₂ (fun a b => dgate a b _) e1 hY).trans (congrArg (dgate _ _) hZ)

theorem dg_point0 (t : Fin cfg0.N) (r : Fin 256) (q : Fin 1024) : dgate (k0_pay7 (iblk m c 0 t) (iblk m c 1 t) (ix2 r q)) (iblk m c 4 t (ix2 r q)) (zb0 m c t (ix2 r q) + bb0 m c t (ix2 0 q)) = dblk m c t (ix2 r (⟨0 + q.val, by omega⟩ : Fin 3072)) :=
  dg_point m c 0 (by omega) (by omega) t r q _ _ ((read4 m c t r q).trans (pick0 (fun q => y0 m c (ix2 (row t r) q)) _ _ _ q (Nat.zero_add _)).symm) (t_point0 m c t r q)

theorem dg_point1 (t : Fin cfg0.N) (r : Fin 256) (q : Fin 1024) : dgate (k0_pay7 (iblk m c 0 t) (iblk m c 1 t) (ix2 r q)) (iblk m c 5 t (ix2 r q)) (zb1 m c t (ix2 r q) + bb1 m c t (ix2 0 q)) = dblk m c t (ix2 r (⟨1024 + q.val, by omega⟩ : Fin 3072)) :=
  dg_point m c 1024 (by omega) (by omega) t r q _ _ ((read5 m c t r q).trans (pick1 _ (fun q => y1 m c (ix2 (row t r) q)) _ _ q rfl).symm) (t_point1 m c t r q)

theorem dg_point2 (t : Fin cfg0.N) (r : Fin 256) (q : Fin 1024) : dgate (k0_pay7 (iblk m c 0 t) (iblk m c 1 t) (ix2 r q)) (iblk m c 6 t (ix2 r q)) (zb2 m c t (ix2 r q) + bb2 m c t (ix2 0 q)) = dblk m c t (ix2 r (⟨2048 + q.val, by omega⟩ : Fin 3072)) :=
  dg_point m c 2048 (by omega) (by omega) t r q _ _ ((read6 m c t r q).trans (pick2 _ _ (fun q => y2 m c (ix2 (row t r) q)) _ q rfl).symm) (t_point2 m c t r q)

theorem outs10 (t : Fin cfg0.N) (y : S256x3072.Idx) : (outsAt0 m c t.val t.isLt).2.2.2.1 y = dblk m c t y := by
  by_cases h0 : t.val % 16 = 0
  · rw [outsAt0_A m c t h0]
    frame_out
    exact slabs256 (dblk m c t) _ _ _ [] (fun r q => (pay4 _ _ _ _ r q).trans (dg_point2 m c t r q)) (fun r q => (pay17 _ _ _ _ r q).trans (dg_point1 m c t r q)) (fun r q => (pay11 _ _ _ _ _ r q).trans (dg_point0 m c t r q)) y
  · rw [outsAt0_B m c t h0]
    frame_out
    exact slabs256 (dblk m c t) _ _ _ [] (fun r q => (pay4 _ _ _ _ r q).trans (dg_point2 m c t r q)) (fun r q => (pay17 _ _ _ _ r q).trans (dg_point1 m c t r q)) (fun r q => (pay11 _ _ _ _ _ r q).trans (dg_point0 m c t r q)) y

theorem place10 (t : Fin cfg0.N) (r : Fin 256) (k : Fin 3072) : ((cfg0.win 10).blk t).view.emb (ix2 r k) = ix2 (row t r) k := by
  funext a; refine Fin.ext ?_
  blk_simp [index10 t]
  match a with
  | ⟨0, _⟩ => show t.val * 256 + r.val = 256 * t.val + r.val; omega
  | ⟨1, _⟩ => show 0 * 3072 + k.val = k.val; omega

theorem block10 (t : Fin cfg0.N) (y : S256x3072.Idx) : (outsAt0 m c t.val t.isLt).2.2.2.1 y = dgates (d0 m c) (w0 m c) (z0 m c) (b0 m c) (y0 m c) (y1 m c) (y2 m c) (((cfg0.win 10).blk t).view.emb y) := by
  obtain ⟨r, k, rfl⟩ : ∃ (r : Fin 256) (k : Fin 3072), y = ix2 r k := ⟨y 0, y 1, eq_ix2 y⟩
  exact (outs10 m c t (ix2 r k)).trans (congrArg (dgates _ _ _ _ _ _ _) (place10 t r k).symm)

theorem result10 : (dats m 0 c).arrAt 10 cfg0.N = dgates (d0 m c) (w0 m c) (z0 m c) (b0 m c) (y0 m c) (y1 m c) (y2 m c) := by
  refine (dats m 0 c).arrAt_eq_of_covers 10 _ (by decide +kernel) fun t hf y => ?_
  rw [after0_10]
  have h := block10 m c t
  blk_simp
  exact h y

/-- What a block of rows adds to the bias gradient. -/
def term (t : ℕ) (y : S1x3072.Idx) : EReal :=
  if h : t < cfg0.N then ∑ r : Fin 256, dblk m c ⟨t, h⟩ (ix2 r (y 1)) else 0

theorem fin1 (r : Fin 1) : r = 0 := Fin.eq_zero r

/-- A point adds its block's sum to what stood before. -/
theorem step11 (t : Fin cfg0.N) (v : Vec Ideal S1x3072 .f32) (L : List (View.Piece (Elt Ideal) S1x3072 .f32)) (y : S1x3072.Idx) :
    View.canon (Val := Elt Ideal) (s := S1x3072) (e := .f32)
      ((⟨Rect.unit ![0, 2048] ![1, 1024] inb_S1x3072_S1x1024_0_2048, k0_pay5 (k0_pay7 (iblk m c 0 t) (iblk m c 1 t)) (zb2 m c t) (bb2 m c t) (iblk m c 6 t) (View.ld v (Rect.unit ![0, 2048] ![1, 1024] inb_S1x3072_S1x1024_0_2048))⟩ : View.Piece (Elt Ideal) S1x3072 .f32) ::
       ⟨Rect.unit ![0, 1024] ![1, 1024] inb_S1x3072_S1x1024_0_1024, k0_pay18 (k0_pay7 (iblk m c 0 t) (iblk m c 1 t)) (zb1 m c t) (bb1 m c t) (iblk m c 5 t) (View.ld v (Rect.unit ![0, 1024] ![1, 1024] inb_S1x3072_S1x1024_0_1024))⟩ ::
       ⟨Rect.unit ![0, 0] ![1, 1024] inb_S1x3072_S1x1024_0_0, k0_pay13 (k0_pay10 (iblk m c 0 t) (iblk m c 1 t) (zb0 m c t) (bb0 m c t) (iblk m c 4 t)) (k0_pay12 (View.ld v (Rect.unit ![0, 0] ![1, 1024] inb_S1x3072_S1x1024_0_0)))⟩ :: L) y
      = v y + term m c t.val y := by
  refine slabs1 (fun y => v y + term m c t.val y) _ _ _ L (fun r q => ?_) (fun r q => ?_) (fun r q => ?_) y
  · obtain rfl := fin1 r
    refine (pay5 _ _ _ _ _ q).trans (congrArg₂ (· + ·) (ldb 2048 _ (by omega) v q) ?_)
    unfold term
    rw [dif_pos t.isLt]
    exact Finset.sum_congr rfl fun r _ => (pay3 _ _ _ _ r q).trans (dg_point2 m c t r q)
  · obtain rfl := fin1 r
    refine (pay18 _ _ _ _ _ q).trans (congrArg₂ (· + ·) (ldb 1024 _ (by omega) v q) ?_)
    unfold term
    rw [dif_pos t.isLt]
    exact Finset.sum_congr rfl fun r _ => (pay16 _ _ _ _ r q).trans (dg_point1 m c t r q)
  · obtain rfl := fin1 r
    refine (pay13 _ _ q).trans (congrArg₂ (· + ·) (ldb 0 _ (by omega) v q) ?_)
    unfold term
    rw [dif_pos t.isLt]
    exact Finset.sum_congr rfl fun r _ => (pay10 _ _ _ _ _ r q).trans (dg_point0 m c t r q)

theorem first11 (t : Fin cfg0.N) (h : t.val % 16 = 0) (j : S1x3072.Idx) : (outsAt0 m c t.val t.isLt).2.2.2.2 j = 0 + term m c t.val j := by
  rw [outsAt0_A m c t h]
  frame_open
  simp (disch := decide) only [↓ View.readCov_skip, ↓ View.readCov_fill]
  frame_out
  have h1 := fun L => step11 m c t (k0_pay6 (F := Ideal)) L j
  rw [pay6] at h1
  exact h1 _

theorem outs11 (t : Fin cfg0.N) (y : S1x3072.Idx) : (outsAt0 m c t.val t.isLt).2.2.2.2 y = 0 + ∑ k ∈ Finset.range (t.val % 16 + 1), term m c (16 * (t.val / 16) + k) y := by
  refine Pipeline.eq_sum_of_reset_step_apply (fun n h => (outsAt0 m c n h).2.2.2.2) 16 (fun _ => 0) (term m c) (fun t h j => ?_) (fun t h j => ?_) t y
  · exact first11 m c t h j
  · rw [outsAt0_B m c t h]
    frame_out
    exact step11 m c t _ [] j

theorem place11 (t : Fin cfg0.N) (k : Fin 3072) : ((cfg0.win 11).blk t).view.emb (ix2 (0 : Fin 1) k) = ix2 (0 : Fin 1) k := by
  funext a; refine Fin.ext ?_
  blk_simp [index11 t]
  match a with
  | ⟨0, _⟩ => show 0 * 1 + 0 = 0; omega
  | ⟨1, _⟩ => show 0 * 3072 + k.val = k.val; omega

/-- A sum over the rows, by blocks of 256. -/
theorem sum_blocks (f : Fin 4096 → EReal) : ∑ k : Fin 16, ∑ r : Fin 256, f (⟨256 * k.val + r.val, by omega⟩ : Fin 4096) = ∑ s : Fin 4096, f s := by
  refine (Fintype.sum_prod_type' fun (k : Fin 16) (r : Fin 256) => f (⟨256 * k.val + r.val, by omega⟩ : Fin 4096)).symm.trans ?_
  refine Fintype.sum_equiv (finProdFinEquiv (m := 16) (n := 256)) _ _ fun p => congrArg f (Fin.ext ?_)
  show 256 * p.1.val + p.2.val = p.2.val + 256 * p.1.val
  omega

theorem block11 (t : Fin cfg0.N) (ht : t.val % 16 = 15) (y : S1x3072.Idx) : (outsAt0 m c t.val t.isLt).2.2.2.2 y
    = dbias (d0 m c) (w0 m c) (z0 m c) (b0 m c) (y0 m c) (y1 m c) (y2 m c) (((cfg0.win 11).blk t).view.emb y) := by
  obtain ⟨k, rfl⟩ : ∃ k : Fin 3072, y = ix2 0 k := ⟨y 1, by funext a; match a with | ⟨0, _⟩ => exact Fin.eq_zero _ | ⟨1, _⟩ => rfl⟩
  rw [outs11, zero_add, ht, Finset.sum_range, place11]
  unfold dbias
  refine Eq.trans ?_ (sum_blocks fun s => dgates (d0 m c) (w0 m c) (z0 m c) (b0 m c) (y0 m c) (y1 m c) (y2 m c) (ix2 s k))
  refine Finset.sum_congr rfl fun n _ => ?_
  have ht' : t.val < 16 := t.isLt
  have e0 : 16 * (t.val / 16) + n.val = n.val := by omega
  rw [e0]
  unfold term
  rw [dif_pos (show n.val < cfg0.N from n.isLt)]
  rfl

theorem result11 : (dats m 0 c).arrAt 11 cfg0.N = dbias (d0 m c) (w0 m c) (z0 m c) (b0 m c) (y0 m c) (y1 m c) (y2 m c) := by
  refine (dats m 0 c).arrAt_eq_of_covers 11 _ (by decide +kernel) fun t hf y => ?_
  rw [after0_11]
  have h := block11 m c t ((flush0_11 t).mp hf)
  blk_simp
  exact h y

end Kernel

section Reference

open Cert.Reference18Ideal Cert.Reference18Ideal.Gen Cert.Reference18Ideal.Value

variable (G : FVec Ideal S4096x3072 .f32) (z : FVec Ideal S4096x3072 .bf16) (b : FVec Ideal S1x3072 .f32) (d : FVec Ideal S4096x1024 .bf16) (w : FVec Ideal S1024x1024 .bf16)

/-- The reference's gradient of the merged branches. -/
def hDm : FVec Ideal S4096x1024 .f32 :=
  Host.dotGeneral dot_S4096x1024_S1024x1024_S4096x1024_1_1_0_0_n_n none (extf .f32 d bitsLt_bf16_f32) (extf .f32 w bitsLt_bf16_f32)

theorem hDm_at (s : Fin 4096) (q : Fin 1024) : hDm d w (ix2 s q) = dm d w s q := by
  pointwise [hDm, dm]

/-- The reference's gates. -/
def hGate : FVec Ideal S4096x3072 .f32 :=
  Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 z bitsLt_bf16_f32) (broadcastInDim S4096x3072 ![0, 1] bcast_S1x3072_S4096x3072_0_1 (broadcastInDim S1x3072 ![1] bcast_S3072_S1x3072_1 (shapeCast S3072 b shapeCasts_S1x3072_S3072)))))))

theorem hGate_at (s : Fin 4096) (k : Fin 3072) : hGate z b (ix2 s k) = gate (z (ix2 s k) + b (ix2 0 k)) := by
  pointwise [hGate, gate]

/-- The gates of branch 0, cut out of all of them. -/
theorem cut0 (s : Fin 4096) (q : Fin 1024) :
    (shapeCast S4096x1024 (extractStridedSlice S4096x1x1024 ![0, 0, 0] (shapeCast S4096x3x1024 G shapeCasts_S4096x3072_S4096x3x1024) slices_S4096x3x1024_S4096x1x1024_0_0_0) shapeCasts_S4096x1x1024_S4096x1024 : FVec Ideal S4096x1024 .f32) (ix2 s q) = G (ix2 s (⟨0 + q.val, by omega⟩ : Fin 3072)) := by
  pointwise []

variable (D : FVec Ideal S4096x3072 .f32) (Y0 Y1 Y2 : FVec Ideal S4096x1024 .f32) (G : FVec Ideal S4096x3072 .f32) (d : FVec Ideal S4096x1024 .bf16) (w : FVec Ideal S1024x1024 .bf16) (y : FVec Ideal S4096x1024 .bf16) (z : FVec Ideal S4096x3072 .bf16) (b : FVec Ideal S1x3072 .f32) (y0 y1 y2 : FVec Ideal S4096x1024 .bf16)

/-- The reference's gradient of branch 0. -/
def hBranch0 : FVec Ideal S4096x1024 .bf16 :=
  truncf .bf16 (mulf (shapeCast S4096x1024 (extractStridedSlice S4096x1x1024 ![0, 0, 0] (shapeCast S4096x3x1024 (hGate z b) shapeCasts_S4096x3072_S4096x3x1024) slices_S4096x3x1024_S4096x1x1024_0_0_0) shapeCasts_S4096x1x1024_S4096x1024) (hDm d w)) bitsLt_bf16_f32

theorem hBranch0_eq : hBranch0 d w z b = dbranch 0 (by omega) d w z b := by
  funext i
  obtain ⟨s, q, rfl⟩ : ∃ (s : Fin 4096) (q : Fin 1024), i = ix2 s q := ⟨i 0, i 1, eq_ix2 i⟩
  refine Eq.trans (congrArg₂ (· * ·) ((cut0 (hGate z b) s q).trans (hGate_at z b s _)) (hDm_at d w s q)) ?_
  exact mul_comm _ _

/-- The gates of branch 1, cut out of all of them. -/
theorem cut1 (s : Fin 4096) (q : Fin 1024) :
    (shapeCast S4096x1024 (extractStridedSlice S4096x1x1024 ![0, 1, 0] (shapeCast S4096x3x1024 G shapeCasts_S4096x3072_S4096x3x1024) slices_S4096x3x1024_S4096x1x1024_0_1_0) shapeCasts_S4096x1x1024_S4096x1024 : FVec Ideal S4096x1024 .f32) (ix2 s q) = G (ix2 s (⟨1024 + q.val, by omega⟩ : Fin 3072)) := by
  pointwise []

/-- The reference's gradient of branch 1. -/
def hBranch1 : FVec Ideal S4096x1024 .bf16 :=
  truncf .bf16 (mulf (shapeCast S4096x1024 (extractStridedSlice S4096x1x1024 ![0, 1, 0] (shapeCast S4096x3x1024 (hGate z b) shapeCasts_S4096x3072_S4096x3x1024) slices_S4096x3x1024_S4096x1x1024_0_1_0) shapeCasts_S4096x1x1024_S4096x1024) (hDm d w)) bitsLt_bf16_f32

theorem hBranch1_eq : hBranch1 d w z b = dbranch 1024 (by omega) d w z b := by
  funext i
  obtain ⟨s, q, rfl⟩ : ∃ (s : Fin 4096) (q : Fin 1024), i = ix2 s q := ⟨i 0, i 1, eq_ix2 i⟩
  refine Eq.trans (congrArg₂ (· * ·) ((cut1 (hGate z b) s q).trans (hGate_at z b s _)) (hDm_at d w s q)) ?_
  exact mul_comm _ _

/-- The gates of branch 2, cut out of all of them. -/
theorem cut2 (s : Fin 4096) (q : Fin 1024) :
    (shapeCast S4096x1024 (extractStridedSlice S4096x1x1024 ![0, 2, 0] (shapeCast S4096x3x1024 G shapeCasts_S4096x3072_S4096x3x1024) slices_S4096x3x1024_S4096x1x1024_0_2_0) shapeCasts_S4096x1x1024_S4096x1024 : FVec Ideal S4096x1024 .f32) (ix2 s q) = G (ix2 s (⟨2048 + q.val, by omega⟩ : Fin 3072)) := by
  pointwise []

/-- The reference's gradient of branch 2. -/
def hBranch2 : FVec Ideal S4096x1024 .bf16 :=
  truncf .bf16 (mulf (shapeCast S4096x1024 (extractStridedSlice S4096x1x1024 ![0, 2, 0] (shapeCast S4096x3x1024 (hGate z b) shapeCasts_S4096x3072_S4096x3x1024) slices_S4096x3x1024_S4096x1x1024_0_2_0) shapeCasts_S4096x1x1024_S4096x1024) (hDm d w)) bitsLt_bf16_f32

theorem hBranch2_eq : hBranch2 d w z b = dbranch 2048 (by omega) d w z b := by
  funext i
  obtain ⟨s, q, rfl⟩ : ∃ (s : Fin 4096) (q : Fin 1024), i = ix2 s q := ⟨i 0, i 1, eq_ix2 i⟩
  refine Eq.trans (congrArg₂ (· * ·) ((cut2 (hGate z b) s q).trans (hGate_at z b s _)) (hDm_at d w s q)) ?_
  exact mul_comm _ _

/-- Three fields side by side, as the reference puts them together: each padded with zeros to the whole, and the three added. -/
def hSide : FVec Ideal S4096x3072 .f32 :=
  shapeCast S4096x3072 (addf (addf (pad S4096x3x1024 ![0, 2, 0] ![0, 0, 0] ![0, 0, 0] (broadcastInDim S4096x1x1024 ![0, 2] bcast_S4096x1024_S4096x1x1024_0_2 Y2) (constant (F := Ideal) S_ .f32 0x00000000#32) pads_S4096x1x1024_S4096x3x1024_000_200_000 h_S_) (pad S4096x3x1024 ![0, 1, 0] ![0, 1, 0] ![0, 0, 0] (broadcastInDim S4096x1x1024 ![0, 2] bcast_S4096x1024_S4096x1x1024_0_2 Y1) (constant (F := Ideal) S_ .f32 0x00000000#32) pads_S4096x1x1024_S4096x3x1024_000_110_000 h_S_)) (pad S4096x3x1024 ![0, 0, 0] ![0, 2, 0] ![0, 0, 0] (broadcastInDim S4096x1x1024 ![0, 2] bcast_S4096x1024_S4096x1x1024_0_2 Y0) (constant (F := Ideal) S_ .f32 0x00000000#32) pads_S4096x1x1024_S4096x3x1024_000_020_000 h_S_)) shapeCasts_S4096x3x1024_S4096x3072

set_option maxHeartbeats 1000000 in
theorem hSide_at (Y0 Y1 Y2 : FVec Ideal S4096x1024 .f32) (s : Fin 4096) (k : Fin 3072) :
    hSide Y0 Y1 Y2 (ix2 s k) = pick (fun q => Y0 (ix2 s q)) (fun q => Y1 (ix2 s q)) (fun q => Y2 (ix2 s q)) k := by
  pointwise [hSide]
  have hk := k.isLt
  by_cases h0 : k.val < 1024
  · rw [dif_neg (show ¬((2 ≤ k.val / 1024 ∧ k.val / 1024 - 2 < 1) ∧ k.val % 1024 < 1024) by omega), dif_neg (show ¬((1 ≤ k.val / 1024 ∧ k.val / 1024 - 1 < 1) ∧ k.val % 1024 < 1024) by omega), dif_pos (show (k.val / 1024 < 1 ∧ k.val % 1024 < 1024) by omega), zero_add, zero_add]
    exact (congrArg (fun q => Y0 (ix2 s q)) (Fin.ext (by show k.val % 1024 = k.val; omega))).trans (pick0 (fun q => Y0 (ix2 s q)) (fun q => Y1 (ix2 s q)) (fun q => Y2 (ix2 s q)) k ⟨k.val, h0⟩ rfl).symm
  · by_cases h1 : k.val < 2048
    · rw [dif_neg (show ¬((2 ≤ k.val / 1024 ∧ k.val / 1024 - 2 < 1) ∧ k.val % 1024 < 1024) by omega), dif_pos (show ((1 ≤ k.val / 1024 ∧ k.val / 1024 - 1 < 1) ∧ k.val % 1024 < 1024) by omega), dif_neg (show ¬(k.val / 1024 < 1 ∧ k.val % 1024 < 1024) by omega), zero_add, add_zero]
      exact (pick1 (fun q => Y0 (ix2 s q)) (fun q => Y1 (ix2 s q)) (fun q => Y2 (ix2 s q)) k ⟨k.val % 1024, by omega⟩ (by show k.val = 1024 + k.val % 1024; omega)).symm
    · rw [dif_pos (show ((2 ≤ k.val / 1024 ∧ k.val / 1024 - 2 < 1) ∧ k.val % 1024 < 1024) by omega), dif_neg (show ¬((1 ≤ k.val / 1024 ∧ k.val / 1024 - 1 < 1) ∧ k.val % 1024 < 1024) by omega), dif_neg (show ¬(k.val / 1024 < 1 ∧ k.val % 1024 < 1024) by omega), add_zero, add_zero]
      exact (pick2 (fun q => Y0 (ix2 s q)) (fun q => Y1 (ix2 s q)) (fun q => Y2 (ix2 s q)) k ⟨k.val % 1024, by omega⟩ (by show k.val = 2048 + k.val % 1024; omega)).symm

/-- A branch under the incoming gradient, as the reference multiplies them. -/
def hWeigh : FVec Ideal S4096x1024 .f32 :=
  mulf (hDm d w) (extf .f32 y bitsLt_bf16_f32)

theorem hWeigh_at (s : Fin 4096) (q : Fin 1024) : hWeigh d w y (ix2 s q) = dm d w s q * y (ix2 s q) :=
  congrArg (· * y (ix2 s q)) (hDm_at d w s q)

/-- The reference's gradient of the gates before their activation. -/
def hDg : FVec Ideal S4096x3072 .f32 :=
  mulf (hSide (hWeigh d w y0) (hWeigh d w y1) (hWeigh d w y2)) (mulf (hGate z b) (subf (broadcastInDim S4096x3072 ![] bcast_S_S4096x3072 (constant S_ .f32 0x3F800000#32)) (hGate z b)))

theorem side_pick (s : Fin 4096) (k : Fin 3072) :
    hSide (hWeigh d w y0) (hWeigh d w y1) (hWeigh d w y2) (ix2 s k) = dm d w s (col k) * pick (fun q => y0 (ix2 s q)) (fun q => y1 (ix2 s q)) (fun q => y2 (ix2 s q)) k := by
  rw [hSide_at]
  have hk := k.isLt
  by_cases h0 : k.val < 1024
  · have e : k.val = (col k).val := by show k.val = k.val % 1024; omega
    rw [pick0 _ _ _ k (col k) e, pick0 _ _ _ k (col k) e]
    exact hWeigh_at d w y0 s (col k)
  · by_cases h1 : k.val < 2048
    · have e : k.val = 1024 + (col k).val := by show k.val = 1024 + k.val % 1024; omega
      rw [pick1 _ _ _ k (col k) e, pick1 _ _ _ k (col k) e]
      exact hWeigh_at d w y1 s (col k)
    · have e : k.val = 2048 + (col k).val := by show k.val = 2048 + k.val % 1024; omega
      rw [pick2 _ _ _ k (col k) e, pick2 _ _ _ k (col k) e]
      exact hWeigh_at d w y2 s (col k)

/-- What the activation's derivative is made of, in the reference. -/
def hSlope : FVec Ideal S4096x3072 .f32 :=
  mulf G (subf (broadcastInDim S4096x3072 ![] bcast_S_S4096x3072 (constant (F := Ideal) S_ .f32 0x3F800000#32)) G)

theorem hSlope_at (i : S4096x3072.Idx) : hSlope G i = G i * (1 - G i) := by
  pointwise [hSlope]

theorem hDg_eq (i : S4096x3072.Idx) : hDg d w z b y0 y1 y2 i = dgates d w z b y0 y1 y2 i := by
  obtain ⟨s, k, rfl⟩ : ∃ (s : Fin 4096) (k : Fin 3072), i = ix2 s k := ⟨i 0, i 1, eq_ix2 i⟩
  refine Eq.trans (congrArg₂ (· * ·) (side_pick d w y0 y1 y2 s k) ((hSlope_at (hGate z b) (ix2 s k)).trans (congrArg (fun g => g * (1 - g)) (hGate_at z b s k)))) ?_
  exact (mul_assoc _ _ _).symm

/-- The reference's gradient of the gates' bias. -/
def hBias : FVec Ideal S1x3072 .f32 :=
  broadcastInDim S1x3072 ![1] bcast_S3072_S1x3072_1 (Host.reduceAdd (shapeCast S1x3072 (Host.reduceAdd D (constant (F := Ideal) S_ .f32 0x00000000#32) reducesTo_S4096x3072_S3072_d0 h_S_) shapeCasts_S3072_S1x3072) (constant (F := Ideal) S_ .f32 0x00000000#32) reducesTo_S1x3072_S3072_d0 h_S_)

theorem hBias_at (r : Fin 1) (k : Fin 3072) : hBias D (ix2 r k) = ∑ s : Fin 4096, D (ix2 s k) := by
  pointwise [hBias]
  exact Fintype.sum_unique (fun _ : Fin 1 => ∑ s : Fin 4096, D (ix2 s k))

end Reference

/-- The kernel and the reference give the same five gradients. -/
theorem algebraic : @Cert.algebraic_Kernel18Ideal_Reference18Ideal Cert.Kernel18Ideal.Gen.facts Cert.Reference18Ideal.Gen.facts := by
  intro m g m' g' _ ha
  refine ⟨fun c => dbranch 0 (by omega) (d0 m c) (w0 m c) (z0 m c) (b0 m c), fun c => dbranch 1024 (by omega) (d0 m c) (w0 m c) (z0 m c) (b0 m c), fun c => dbranch 2048 (by omega) (d0 m c) (w0 m c) (z0 m c) (b0 m c),
    fun c => dgates (d0 m c) (w0 m c) (z0 m c) (b0 m c) (y0 m c) (y1 m c) (y2 m c), fun c => dbias (d0 m c) (w0 m c) (z0 m c) (b0 m c) (y0 m c) (y1 m c) (y2 m c), ?_, ?_⟩
  · exact (θ_run Cert.Kernel18Ideal.defs _ _).mono (fun r h c => ⟨(h c).1.trans (result7 m c), (h c).2.1.trans (result8 m c), (h c).2.2.1.trans (result9 m c), (h c).2.2.2.1.trans (result10 m c), (h c).2.2.2.2.1.trans (result11 m c), (h c).2.2.2.2.2⟩) (Cert.Kernel18Ideal.Value.run_blocks (F := Ideal) m g)
  · refine (θ_run Cert.Reference18Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference18Ideal.Value.run (F := Ideal) m' g')
    · rw [(ha c).1, (ha c).2.1, (ha c).2.2.1, (ha c).2.2.2.1]
      exact hBranch0_eq (d0 m c) (w0 m c) (z0 m c) (b0 m c)
    · rw [(ha c).1, (ha c).2.1, (ha c).2.2.1, (ha c).2.2.2.1]
      exact hBranch1_eq (d0 m c) (w0 m c) (z0 m c) (b0 m c)
    · rw [(ha c).1, (ha c).2.1, (ha c).2.2.1, (ha c).2.2.2.1]
      exact hBranch2_eq (d0 m c) (w0 m c) (z0 m c) (b0 m c)
    · rw [(ha c).1, (ha c).2.1, (ha c).2.2.1, (ha c).2.2.2.1, (ha c).2.2.2.2.1, (ha c).2.2.2.2.2.1, (ha c).2.2.2.2.2.2]
      exact funext (hDg_eq (d0 m c) (w0 m c) (z0 m c) (b0 m c) (y0 m c) (y1 m c) (y2 m c))
    · rw [(ha c).1, (ha c).2.1, (ha c).2.2.1, (ha c).2.2.2.1, (ha c).2.2.2.2.1, (ha c).2.2.2.2.2.1, (ha c).2.2.2.2.2.2]
      funext i
      obtain ⟨r, k, rfl⟩ : ∃ (r : Fin 1) (k : Fin 3072), i = ix2 r k := ⟨i 0, i 1, eq_ix2 i⟩
      refine Eq.trans (hBias_at (hDg (d0 m c) (w0 m c) (z0 m c) (b0 m c) (y0 m c) (y1 m c) (y2 m c)) r k) ?_
      exact Finset.sum_congr rfl fun s _ => hDg_eq (d0 m c) (w0 m c) (z0 m c) (b0 m c) (y0 m c) (y1 m c) (y2 m c) (ix2 s k)

end Cert.MergeGrad

end
-- ==== Proof.NormReal.lean ====
/-
  The gradient of a row's norm over the reals: the kernels' form of it is the one the reference differentiates to, which goes
  through the variance and the mean apart.
-/
module

public import proofs.«01_k».proof.Proof.RowNorm
public import proofs.«01_k».proof.Proof.RefReal

@[expose] public section

noncomputable section

namespace Cert.RowNorm

open Idealize.ShloMosaic
open Cert.Attn.Ref (IsReal coe_sum)

/-- An entry less its row's mean. -/
def centred (x : Fin 1024 → EReal) (q : Fin 1024) : EReal := x q - mean x

/-- The row's variance and the small constant. -/
def spread (x : Fin 1024 → EReal) : EReal := mean (fun e => centred x e * centred x e) + Ideal.ofBits FTy.f32 0x3727C5AC#32

/-- One over the root of that. -/
def rstd (x : Fin 1024 → EReal) : EReal := Ideal.rsqrt (spread x)

/-- The kernels' gradient of a row, from the gradient `D` of its norm. -/
def back (D x : Fin 1024 → EReal) (q : Fin 1024) : EReal :=
  rstd x * (D q - mean D - norm x q * mean (fun e => D e * norm x e))

/-- The reference's part through the variance, before the entry itself: the same for the whole row. -/
def through (D x : Fin 1024 → EReal) : EReal :=
  Ideal.div ((∑ e, centred x e * D e) * (Ideal.ofBits FTy.f32 0xBF000000#32 * Ideal.div (rstd x) (spread x))) (Ideal.ofBits FTy.f32 0x44800000#32)

/-- The reference's part through the variance. -/
def viaVar (D x : Fin 1024 → EReal) (q : Fin 1024) : EReal := through D x * (Ideal.ofBits FTy.f32 0x40000000#32 * centred x q)

/-- The reference's part through the mean. -/
def viaMean (D x : Fin 1024 → EReal) : EReal :=
  Ideal.div ((∑ e, -(D e * rstd x)) + ∑ e, -viaVar D x e) (Ideal.ofBits FTy.f32 0x44800000#32)

theorem word_n : Ideal.ofBits FTy.f32 0x44800000#32 = ((1024 : ℝ) : EReal) := by
  unfold Ideal.ofBits Ideal.ieee
  simp
  rw [← EReal.coe_mul]
  refine congrArg _ ?_
  norm_num

theorem word_half : Ideal.ofBits FTy.f32 0xBF000000#32 = ((-(1 / 2) : ℝ) : EReal) := by
  unfold Ideal.ofBits Ideal.ieee
  simp
  rw [← EReal.coe_mul]
  refine congrArg _ ?_
  norm_num

theorem word_two : Ideal.ofBits FTy.f32 0x40000000#32 = ((2 : ℝ) : EReal) := by
  unfold Ideal.ofBits Ideal.ieee
  simp
  rw [← EReal.coe_mul]
  refine congrArg _ ?_
  norm_num

theorem word_eps : ∃ r : ℝ, 0 < r ∧ Ideal.ofBits FTy.f32 0x3727C5AC#32 = (r : EReal) := by
  unfold Ideal.ofBits Ideal.ieee
  simp
  refine ⟨_, ?_, rfl⟩
  positivity

theorem div_real (a b : ℝ) (hb : b ≠ 0) : Ideal.div (a : EReal) (b : EReal) = ((a / b : ℝ) : EReal) := by
  have h0 : (b : EReal) ≠ 0 := by exact_mod_cast hb
  unfold Ideal.div
  rw [if_neg h0, ← EReal.coe_inv, ← EReal.coe_mul, div_eq_mul_inv]

theorem mean_real (f : Fin 1024 → ℝ) : mean (fun e => (f e : EReal)) = (((∑ e, f e) / 1024 : ℝ) : EReal) := by
  unfold mean
  rw [word_n, ← coe_sum, div_real _ _ (by norm_num)]

theorem rsqrt_real (v : ℝ) (hv : 0 < v) : Ideal.rsqrt (v : EReal) = (((Real.sqrt v)⁻¹ : ℝ) : EReal) := by
  unfold Ideal.rsqrt
  show (if v < 0 then (⊥ : EReal) else if v = 0 then ⊤ else ((Real.sqrt v)⁻¹ : ℝ)) = _
  rw [if_neg (not_lt.mpr hv.le), if_neg hv.ne']

/-- A real row: its centred entries sum to nothing, and its spread is a positive real. -/
theorem row_real (x : Fin 1024 → EReal) (hx : ∀ e, IsReal (x e)) : ∃ (z : Fin 1024 → ℝ) (v : ℝ), 0 < v ∧ (∑ e, z e = 0) ∧
    (∀ e, centred x e = (z e : EReal)) ∧ spread x = (v : EReal) := by
  choose f hf using hx
  obtain rfl : x = fun e => (f e : EReal) := funext hf
  obtain ⟨ε, hε, he⟩ := word_eps
  have hc : ∀ e, centred (fun e => (f e : EReal)) e = ((f e - (∑ e, f e) / 1024 : ℝ) : EReal) := fun e => by
    unfold centred
    rw [mean_real, EReal.coe_sub]
  refine ⟨fun e => f e - (∑ e, f e) / 1024, (∑ e, (f e - (∑ e, f e) / 1024) * (f e - (∑ e, f e) / 1024)) / 1024 + ε, ?_, ?_, hc, ?_⟩
  · have : 0 ≤ ∑ e, (f e - (∑ e, f e) / 1024) * (f e - (∑ e, f e) / 1024) := Finset.sum_nonneg fun e _ => mul_self_nonneg _
    positivity
  · rw [Finset.sum_sub_distrib, Finset.sum_const, Finset.card_univ, Fintype.card_fin, nsmul_eq_mul]
    push_cast
    ring
  · unfold spread
    simp only [hc, ← EReal.coe_mul]
    rw [mean_real (fun e => (f e - (∑ e, f e) / 1024) * (f e - (∑ e, f e) / 1024)), he, EReal.coe_add]

theorem norm_eq (x : Fin 1024 → EReal) (q : Fin 1024) : norm x q = centred x q * rstd x := rfl

/-- A real row's norm is real, and so is its gradient. -/
theorem norm_real (x : Fin 1024 → EReal) (hx : ∀ e, IsReal (x e)) (q : Fin 1024) : IsReal (norm x q) := by
  obtain ⟨z, v, hv, hz, hc, hs⟩ := row_real x hx
  rw [norm_eq, hc, rstd, hs, rsqrt_real v hv]
  exact IsReal.mul ⟨_, rfl⟩ ⟨_, rfl⟩

/-- The three parts of the reference's gradient add up to the kernels'; and it is real. -/
theorem back_real (D x : Fin 1024 → EReal) (hD : ∀ e, IsReal (D e)) (hx : ∀ e, IsReal (x e)) (q : Fin 1024) :
    D q * rstd x + viaVar D x q + viaMean D x = back D x q ∧ IsReal (back D x q) := by
  obtain ⟨z, v, hv, hz, hc, hs⟩ := row_real x hx
  choose d hd using hD
  obtain rfl : D = fun e => (d e : EReal) := funext hd
  have hr : rstd x = (((Real.sqrt v)⁻¹ : ℝ) : EReal) := by rw [rstd, hs, rsqrt_real v hv]
  have hrr : (Real.sqrt v)⁻¹ * (Real.sqrt v)⁻¹ = v⁻¹ := by rw [← mul_inv, Real.mul_self_sqrt hv.le]
  generalize (Real.sqrt v)⁻¹ = r at hr hrr
  have ht : through (fun e => (d e : EReal)) x = (((∑ e, z e * d e) * (-(1 / 2) * (r / v)) / 1024 : ℝ) : EReal) := by
    unfold through
    simp only [hc, hr, hs, word_half, word_n, ← EReal.coe_mul, ← coe_sum, div_real r v hv.ne', div_real _ (1024 : ℝ) (by norm_num)]
  have hv' : ∀ e, viaVar (fun e => (d e : EReal)) x e = (((∑ e, z e * d e) * (-(1 / 2) * (r / v)) / 1024 * (2 * z e) : ℝ) : EReal) := fun e => by
    unfold viaVar
    simp only [ht, hc, word_two, ← EReal.coe_mul]
  have hm : viaMean (fun e => (d e : EReal)) x = (((∑ e, -(d e * r)) / 1024 : ℝ) : EReal) := by
    unfold viaMean
    simp only [hv', hr, ← EReal.coe_mul, ← EReal.coe_neg, ← coe_sum, word_n, ← EReal.coe_add, div_real _ (1024 : ℝ) (by norm_num)]
    congr 2
    rw [Finset.sum_neg_distrib (f := fun e => (∑ e, z e * d e) * (-(1 / 2) * (r / v)) / 1024 * (2 * z e)), ← Finset.mul_sum, ← Finset.mul_sum, hz]
    ring
  have hb : back (fun e => (d e : EReal)) x q = ((r * (d q - (∑ e, d e) / 1024 - z q * r * ((∑ e, d e * (z e * r)) / 1024)) : ℝ) : EReal) := by
    unfold back
    simp only [norm_eq, hc, hr, ← EReal.coe_mul]
    rw [mean_real d, mean_real (fun e => d e * (z e * r))]
    norm_cast
  refine ⟨?_, hb ▸ ⟨_, rfl⟩⟩
  rw [hb, hm, hv', hr, ← EReal.coe_mul, ← EReal.coe_add, ← EReal.coe_add]
  refine congrArg _ ?_
  have e1 : ∑ e, d e * (z e * r) = (∑ e, z e * d e) * r := by
    rw [Finset.sum_mul]
    exact Finset.sum_congr rfl fun e _ => by ring
  have e2 : ∑ e, -(d e * r) = -((∑ e, d e) * r) := by
    rw [Finset.sum_neg_distrib, Finset.sum_mul]
  have e3 : r / v = r * (r * r) := by rw [hrr, div_eq_mul_inv]
  rw [e1, e2, e3]
  ring

/-- As the reference adds the parts to what came before. -/
theorem parts_eq (b : EReal) (D x : Fin 1024 → EReal) (hD : ∀ e, IsReal (D e)) (hx : ∀ e, IsReal (x e)) (q : Fin 1024) :
    b + D q * rstd x + viaVar D x q + viaMean D x = b + back D x q := by
  rw [← (back_real D x hD hx q).1, add_assoc, add_assoc, add_assoc]

end Cert.RowNorm

end
-- ==== Proof.NormHost.lean ====
/-
  The reference's gradient of a norm, array by array: each row of it is the row's gradient. The sums over the rows that come
  with it, and the product of the input projection's gradient cut into its six parts.
-/
module

public import proofs.«01_k».proof.Defs
public import proofs.«01_k».proof.Proof.Gen.Reference19Ideal.Run
public import proofs.«01_k».proof.Proof.Gen.Reference20Ideal.Run
public import proofs.«01_k».proof.Proof.NormReal
public import Idealize.ShloMosaic.Lib.Pointwise
public import Idealize.ShloMosaic.Lib.KernelVsHost

@[expose] public section

set_option maxRecDepth 16384

noncomputable section

namespace Cert.NormHost

open Idealize.ShloMosaic Idealize.ShloMosaic.TcCoe Idealize.ShloMosaic.Tactic
open Cert.RowNorm
open Cert.Attn.Ref (IsReal)

/-- Row `s` of an array of rows. -/
abbrev rowOf (X : FVec Ideal ⟨2, ![4096, 1024]⟩ .f32) (s : Fin 4096) : Fin 1024 → EReal := fun e => X (ix2 s e)

section Norm

open Cert.Reference20Ideal Cert.Reference20Ideal.Gen

variable (U : FVec Ideal S4096x1024 .f32) (sc : FVec Ideal S1x1024 .f32) (B D : FVec Ideal S4096x1024 .f32) (R : FVec Ideal S4096x1 .f32) (X : FVec Ideal S4096x1024 .f32)

/-- The rows' means. -/
def hMean : FVec Ideal S4096x1 .f32 :=
  Host.divf (broadcastInDim S4096x1 ![0] bcast_S4096_S4096x1_0 (Host.reduceAdd X (constant S_ .f32 0x00000000#32) reducesTo_S4096x1024_S4096_d1 h_S_)) (broadcastInDim S4096x1 ![] bcast_S_S4096x1 (constant S_ .f32 0x44800000#32))

theorem hMean_at (s : Fin 4096) : hMean X (ix2 s (0 : Fin 1)) = mean (rowOf X s) := by
  pointwise [hMean, mean]

/-- The rows less their means. -/
def hCent : FVec Ideal S4096x1024 .f32 :=
  subf X (broadcastInDim S4096x1024 ![0, 1] bcast_S4096x1_S4096x1024_0_1 (hMean X))

theorem hCent_at (s : Fin 4096) (q : Fin 1024) : hCent X (ix2 s q) = centred (rowOf X s) q := by
  unfold centred
  rw [← hMean_at]
  pointwise [hCent]

/-- The rows' variances and the small constant. -/
def hSpr : FVec Ideal S4096x1 .f32 :=
  addf (hMean (mulf (hCent X) (hCent X))) (broadcastInDim S4096x1 ![] bcast_S_S4096x1 (constant S_ .f32 0x3727C5AC#32))

theorem hSpr_at (s : Fin 4096) : hSpr X (ix2 s (0 : Fin 1)) = spread (rowOf X s) := by
  unfold spread
  simp only [← hCent_at]
  exact congrArg (· + Ideal.ofBits FTy.f32 0x3727C5AC#32) (hMean_at (mulf (hCent X) (hCent X)) s)

/-- One over the roots of those. -/
def hRs : FVec Ideal S4096x1 .f32 := Host.rsqrt (hSpr X)

theorem hRs_at (s : Fin 4096) : hRs X (ix2 s (0 : Fin 1)) = rstd (rowOf X s) :=
  congrArg Ideal.rsqrt (hSpr_at X s)

/-- A row's number, along the row. -/
def hAlong : FVec Ideal S4096x1024 .f32 := broadcastInDim S4096x1024 ![0, 1] bcast_S4096x1_S4096x1024_0_1 R

theorem hAlong_at (s : Fin 4096) (q : Fin 1024) : hAlong R (ix2 s q) = R (ix2 s (0 : Fin 1)) := by
  pointwise [hAlong]

/-- The rows' norms. -/
def hNorm : FVec Ideal S4096x1024 .f32 := mulf (hCent X) (hAlong (hRs X))

theorem hNorm_at (s : Fin 4096) (q : Fin 1024) : hNorm X (ix2 s q) = norm (rowOf X s) q :=
  congrArg₂ (· * ·) (hCent_at X s q) ((hAlong_at _ s q).trans (hRs_at X s))

/-- The part through the entry itself. -/
def hDir : FVec Ideal S4096x1024 .f32 := mulf D (hAlong (hRs X))

theorem hDir_at (s : Fin 4096) (q : Fin 1024) : hDir D X (ix2 s q) = D (ix2 s q) * rstd (rowOf X s) :=
  congrArg (D (ix2 s q) * ·) ((hAlong_at _ s q).trans (hRs_at X s))

/-- A row's sum, as a column. -/
def hRowSum : FVec Ideal S4096x1 .f32 :=
  shapeCast S4096x1 (Host.reduceAdd X (constant (F := Ideal) S_ .f32 0x00000000#32) reducesTo_S4096x1024_S4096_d1 h_S_) shapeCasts_S4096_S4096x1

theorem hRowSum_at (s : Fin 4096) : hRowSum X (ix2 s (0 : Fin 1)) = ∑ e, rowOf X s e := by
  pointwise [hRowSum]

/-- The part through the variance, a number for each row. -/
def hThrough : FVec Ideal S4096x1 .f32 :=
  Host.divf (mulf (hRowSum (mulf (hCent X) D)) (mulf (broadcastInDim S4096x1 ![] bcast_S_S4096x1 (constant S_ .f32 0xBF000000#32)) (Host.divf (hRs X) (hSpr X)))) (broadcastInDim S4096x1 ![] bcast_S_S4096x1 (constant S_ .f32 0x44800000#32))

theorem hThrough_at (s : Fin 4096) : hThrough D X (ix2 s (0 : Fin 1)) = through (rowOf D s) (rowOf X s) := by
  unfold through
  have h1 : hRowSum (mulf (hCent X) D) (ix2 s (0 : Fin 1)) = ∑ e, centred (rowOf X s) e * rowOf D s e :=
    (hRowSum_at _ s).trans (Finset.sum_congr rfl fun e _ => congrArg (· * D (ix2 s e)) (hCent_at X s e))
  rw [← h1, ← hRs_at, ← hSpr_at]
  pointwise [hThrough]

/-- A column, along the rows. -/
def hSpread : FVec Ideal S4096x1024 .f32 :=
  broadcastInDim S4096x1024 ![0] bcast_S4096_S4096x1024_0 (Host.reduceAdd R (constant (F := Ideal) S_ .f32 0x00000000#32) reducesTo_S4096x1_S4096_d1 h_S_)

theorem hSpread_at (s : Fin 4096) (q : Fin 1024) : hSpread R (ix2 s q) = R (ix2 s (0 : Fin 1)) := by
  pointwise [hSpread]
  exact Fintype.sum_unique (fun e : Fin 1 => R (ix2 s e))

/-- The part through the variance. -/
def hVia : FVec Ideal S4096x1024 .f32 :=
  mulf (hSpread (hThrough D X)) (mulf (broadcastInDim S4096x1024 ![] bcast_S_S4096x1024 (constant S_ .f32 0x40000000#32)) (hCent X))

theorem hVia_at (s : Fin 4096) (q : Fin 1024) : hVia D X (ix2 s q) = viaVar (rowOf D s) (rowOf X s) q := by
  refine congrArg₂ (· * ·) ((hSpread_at _ s q).trans (hThrough_at D X s)) ?_
  exact congrArg (Ideal.ofBits FTy.f32 0x40000000#32 * ·) (hCent_at X s q)

/-- The part through the mean. -/
def hMid : FVec Ideal S4096x1024 .f32 :=
  hSpread (Host.divf (addf (hRowSum (Host.negf (hDir D X))) (hRowSum (Host.negf (hVia D X)))) (broadcastInDim S4096x1 ![] bcast_S_S4096x1 (constant S_ .f32 0x44800000#32)))

theorem hMid_at (s : Fin 4096) (q : Fin 1024) : hMid D X (ix2 s q) = viaMean (rowOf D s) (rowOf X s) := by
  refine (hSpread_at _ s q).trans (congrArg₂ (fun a b => Ideal.div (a + b) (Ideal.ofBits FTy.f32 0x44800000#32)) ?_ ?_)
  · exact (hRowSum_at _ s).trans (Finset.sum_congr rfl fun e _ => congrArg (-·) (hDir_at D X s e))
  · exact (hRowSum_at _ s).trans (Finset.sum_congr rfl fun e _ => congrArg (-·) (hVia_at D X s e))

/-- The norm's gradient, added to what came before. -/
def hBackOn : FVec Ideal S4096x1024 .f32 := addf (addf (addf B (hDir D X)) (hVia D X)) (hMid D X)

/-- The norm's gradient alone. -/
def hBack : FVec Ideal S4096x1024 .f32 := addf (addf (hDir D X) (hVia D X)) (hMid D X)

theorem hBackOn_at (s : Fin 4096) (q : Fin 1024) (hD : ∀ e, IsReal (D (ix2 s e))) (hX : ∀ e, IsReal (X (ix2 s e))) :
    hBackOn B D X (ix2 s q) = B (ix2 s q) + back (rowOf D s) (rowOf X s) q := by
  refine Eq.trans ?_ (parts_eq (B (ix2 s q)) (rowOf D s) (rowOf X s) hD hX q)
  exact congrArg₂ (· + ·) (congrArg₂ (· + ·) (congrArg (B (ix2 s q) + ·) (hDir_at D X s q)) (hVia_at D X s q)) (hMid_at D X s q)

theorem hBack_at (s : Fin 4096) (q : Fin 1024) (hD : ∀ e, IsReal (D (ix2 s e))) (hX : ∀ e, IsReal (X (ix2 s e))) :
    hBack D X (ix2 s q) = back (rowOf D s) (rowOf X s) q := by
  refine Eq.trans ?_ (back_real (rowOf D s) (rowOf X s) hD hX q).1
  exact congrArg₂ (· + ·) (congrArg₂ (· + ·) (hDir_at D X s q) (hVia_at D X s q)) (hMid_at D X s q)

/-- Rows under the norm's scale, one more than what is given. -/
def hScaled : FVec Ideal S4096x1024 .f32 :=
  mulf U (broadcastInDim S4096x1024 ![0, 1] bcast_S1x1024_S4096x1024_0_1 (addf (broadcastInDim S1x1024 ![] bcast_S_S1x1024 (constant S_ .f32 0x3F800000#32)) sc))

theorem hScaled_at (s : Fin 4096) (q : Fin 1024) : hScaled U sc (ix2 s q) = U (ix2 s q) * (1 + sc (ix2 0 q)) := by
  pointwise [hScaled]

/-- The sum over the rows, as a row. -/
def hSum : FVec Ideal S1x1024 .f32 :=
  shapeCast S1x1024 (Host.reduceAdd X (constant (F := Ideal) S_ .f32 0x00000000#32) reducesTo_S4096x1024_S1024_d0 h_S_) shapeCasts_S1024_S1x1024

theorem hSum_at (q : Fin 1024) : hSum X (ix2 (0 : Fin 1) q) = ∑ s : Fin 4096, X (ix2 s q) := by
  pointwise [hSum]

/-- That sum, of a vector taken as a row before it was spread. -/
def hSumVec : FVec Ideal S1x1024 .f32 :=
  broadcastInDim S1x1024 ![1] bcast_S1024_S1x1024_1 (Host.reduceAdd (hSum X) (constant (F := Ideal) S_ .f32 0x00000000#32) reducesTo_S1x1024_S1024_d0 h_S_)

theorem hSumVec_at (q : Fin 1024) : hSumVec X (ix2 (0 : Fin 1) q) = ∑ s : Fin 4096, X (ix2 s q) := by
  have h : ∀ Y : FVec Ideal S1x1024 .f32, (broadcastInDim S1x1024 ![1] bcast_S1024_S1x1024_1 (Host.reduceAdd Y (constant (F := Ideal) S_ .f32 0x00000000#32) reducesTo_S1x1024_S1024_d0 h_S_)) (ix2 (0 : Fin 1) q) = Y (ix2 0 q) := fun Y => by
    pointwise []
    exact Fintype.sum_unique (fun e : Fin 1 => Y (ix2 e q))
  exact (h (hSum X)).trans (hSum_at X q)

end Norm

variable (d0 : FVec Ideal ⟨2, ![4096, 256]⟩ .bf16) (d1 d2 d3 d4 : FVec Ideal ⟨2, ![4096, 512]⟩ .bf16) (d5 : FVec Ideal ⟨2, ![4096, 3072]⟩ .bf16)

/-- What the input projection's gradient is multiplied from: row `s` of the six parts by column `q` of the weight's rows. -/
def duMix
    (w : FVec Ideal ⟨2, ![5376, 1024]⟩ .bf16) (s : Fin 4096) (q : Fin 1024) : EReal :=
  (∑ e : Fin 256, d0 (ix2 s e) * w (ix2 (⟨0 + e.val, by omega⟩ : Fin 5376) q)) + (∑ e : Fin 512, d1 (ix2 s e) * w (ix2 (⟨256 + e.val, by omega⟩ : Fin 5376) q))
    + (∑ e : Fin 512, d2 (ix2 s e) * w (ix2 (⟨768 + e.val, by omega⟩ : Fin 5376) q)) + (∑ e : Fin 512, d3 (ix2 s e) * w (ix2 (⟨1280 + e.val, by omega⟩ : Fin 5376) q))
    + (∑ e : Fin 512, d4 (ix2 s e) * w (ix2 (⟨1792 + e.val, by omega⟩ : Fin 5376) q)) + (∑ e : Fin 3072, d5 (ix2 s e) * w (ix2 (⟨2304 + e.val, by omega⟩ : Fin 5376) q))

theorem duMix_real
    (w : FVec Ideal ⟨2, ![5376, 1024]⟩ .bf16) (h0 : ∀ i, IsReal (d0 i)) (h1 : ∀ i, IsReal (d1 i)) (h2 : ∀ i, IsReal (d2 i)) (h3 : ∀ i, IsReal (d3 i)) (h4 : ∀ i, IsReal (d4 i))
    (h5 : ∀ i, IsReal (d5 i)) (hw : ∀ i, IsReal (w i)) (s : Fin 4096) (q : Fin 1024) : IsReal (duMix d0 d1 d2 d3 d4 d5 w s q) := by
  unfold duMix
  exact (((((IsReal.sum _ _ fun e => (h0 _).mul (hw _)).add (IsReal.sum _ _ fun e => (h1 _).mul (hw _))).add (IsReal.sum _ _ fun e => (h2 _).mul (hw _))).add
    (IsReal.sum _ _ fun e => (h3 _).mul (hw _))).add (IsReal.sum _ _ fun e => (h4 _).mul (hw _))).add (IsReal.sum _ _ fun e => (h5 _).mul (hw _))

/-- A sum over all columns, cut into the six parts. -/
theorem sum_parts (f : Fin 5376 → EReal) : ∑ k, f k = (∑ e : Fin 256, f (⟨0 + e.val, by omega⟩ : Fin 5376)) + (∑ e : Fin 512, f (⟨256 + e.val, by omega⟩ : Fin 5376))
    + (∑ e : Fin 512, f (⟨768 + e.val, by omega⟩ : Fin 5376)) + (∑ e : Fin 512, f (⟨1280 + e.val, by omega⟩ : Fin 5376))
    + (∑ e : Fin 512, f (⟨1792 + e.val, by omega⟩ : Fin 5376)) + (∑ e : Fin 3072, f (⟨2304 + e.val, by omega⟩ : Fin 5376)) := by
  rw [show (∑ k, f k) = ∑ k : Fin (2304 + 3072), f ⟨k.val, k.isLt⟩ from rfl, Fin.sum_univ_add,
    show (∑ i : Fin 2304, f ⟨(Fin.castAdd 3072 i).val, (Fin.castAdd 3072 i).isLt⟩) = ∑ k : Fin (1792 + 512), f ⟨k.val, by have := k.isLt; omega⟩ from rfl, Fin.sum_univ_add,
    show (∑ i : Fin 1792, f ⟨(Fin.castAdd 512 i).val, by have := i.isLt; show i.val < 5376; omega⟩) = ∑ k : Fin (1280 + 512), f ⟨k.val, by have := k.isLt; omega⟩ from rfl, Fin.sum_univ_add,
    show (∑ i : Fin 1280, f ⟨(Fin.castAdd 512 i).val, by have := i.isLt; show i.val < 5376; omega⟩) = ∑ k : Fin (768 + 512), f ⟨k.val, by have := k.isLt; omega⟩ from rfl, Fin.sum_univ_add,
    show (∑ i : Fin 768, f ⟨(Fin.castAdd 512 i).val, by have := i.isLt; show i.val < 5376; omega⟩) = ∑ k : Fin (256 + 512), f ⟨k.val, by have := k.isLt; omega⟩ from rfl, Fin.sum_univ_add]
  refine congrArg (fun a : EReal => a + _ + _ + _ + _ + _) (Finset.sum_congr rfl fun e _ => congrArg f (Fin.ext ?_))
  show e.val = 0 + e.val
  omega

section Product

open Cert.Reference19Ideal Cert.Reference19Ideal.Gen

variable (d0 : FVec Ideal S4096x256 .bf16) (d1 d2 d3 d4 : FVec Ideal S4096x512 .bf16) (d5 : FVec Ideal S4096x3072 .bf16) (w : FVec Ideal S5376x1024 .bf16)

/-- The reference's product: the six parts side by side, by the weight. -/
def hDu : FVec Ideal S4096x1024 .f32 :=
  Host.dotGeneral dot_S4096x5376_S1024x5376_S4096x1024_1_1_0_0_n_n none (concatenate S4096x5376 1 [⟨S4096x256, extf .f32 d0 bitsLt_bf16_f32⟩, ⟨S4096x512, extf .f32 d1 bitsLt_bf16_f32⟩, ⟨S4096x512, extf .f32 d2 bitsLt_bf16_f32⟩, ⟨S4096x512, extf .f32 d3 bitsLt_bf16_f32⟩, ⟨S4096x512, extf .f32 d4 bitsLt_bf16_f32⟩, ⟨S4096x3072, extf .f32 d5 bitsLt_bf16_f32⟩] concatenates_S4096x256_S4096x512_S4096x512_S4096x512_S4096x512_S4096x3072_S4096x5376_d1) (transpose S1024x5376 [1, 0] (extf .f32 w bitsLt_bf16_f32) transposes_S5376x1024_S1024x5376_1_0)

theorem hDu_at (s : Fin 4096) (q : Fin 1024) :
    hDu d0 d1 d2 d3 d4 d5 w (ix2 s q) = duMix d0 d1 d2 d3 d4 d5 w s q := by
  pointwise [hDu]
  rw [sum_parts]
  unfold duMix
  refine congrArg₂ (· + ·) (congrArg₂ (· + ·) (congrArg₂ (· + ·) (congrArg₂ (· + ·) (congrArg₂ (· + ·) ?_ ?_) ?_) ?_) ?_) ?_ <;> refine Finset.sum_congr rfl fun e _ => congrArg (· * _) ?_ <;> have he := e.isLt <;> dsimp only
  · rw [dif_pos (show 0 + e.val < 256 by omega)]
    exact congrArg d0 (congrArg (ix2 s) (Fin.ext (by show 0 + e.val = e.val; omega)))
  · rw [dif_neg (show ¬256 + e.val < 256 by omega), dif_pos (show 256 + e.val - 256 < 512 by omega)]
    exact congrArg d1 (congrArg (ix2 s) (Fin.ext (by show 256 + e.val - 256 = e.val; omega)))
  · rw [dif_neg (show ¬768 + e.val < 256 by omega), dif_neg (show ¬768 + e.val - 256 < 512 by omega), dif_pos (show 768 + e.val - 256 - 512 < 512 by omega)]
    exact congrArg d2 (congrArg (ix2 s) (Fin.ext (by show 768 + e.val - 256 - 512 = e.val; omega)))
  · rw [dif_neg (show ¬1280 + e.val < 256 by omega), dif_neg (show ¬1280 + e.val - 256 < 512 by omega), dif_neg (show ¬1280 + e.val - 256 - 512 < 512 by omega), dif_pos (show 1280 + e.val - 256 - 512 - 512 < 512 by omega)]
    exact congrArg d3 (congrArg (ix2 s) (Fin.ext (by show 1280 + e.val - 256 - 512 - 512 = e.val; omega)))
  · rw [dif_neg (show ¬1792 + e.val < 256 by omega), dif_neg (show ¬1792 + e.val - 256 < 512 by omega), dif_neg (show ¬1792 + e.val - 256 - 512 < 512 by omega), dif_neg (show ¬1792 + e.val - 256 - 512 - 512 < 512 by omega), dif_pos (show 1792 + e.val - 256 - 512 - 512 - 512 < 512 by omega)]
    exact congrArg d4 (congrArg (ix2 s) (Fin.ext (by show 1792 + e.val - 256 - 512 - 512 - 512 = e.val; omega)))
  · rw [dif_neg (show ¬2304 + e.val < 256 by omega), dif_neg (show ¬2304 + e.val - 256 < 512 by omega), dif_neg (show ¬2304 + e.val - 256 - 512 < 512 by omega), dif_neg (show ¬2304 + e.val - 256 - 512 - 512 < 512 by omega), dif_neg (show ¬2304 + e.val - 256 - 512 - 512 - 512 < 512 by omega)]
    exact congrArg d5 (congrArg (ix2 s) (Fin.ext (by show 2304 + e.val - 256 - 512 - 512 - 512 - 512 = e.val; omega)))

end Product

/-- What block `t` of 256 rows adds to column `q`'s sum over the rows. -/
def term (f : Fin 4096 → Fin 1024 → EReal) (t : ℕ) (y : Shape.Idx ⟨2, ![1, 1024]⟩) : EReal :=
  if h : t < 16 then ∑ r : Fin 256, f (⟨256 * t + r.val, by omega⟩ : Fin 4096) (y 1) else 0

theorem term_at (f : Fin 4096 → Fin 1024 → EReal) (t : ℕ) (h : t < 16) (q : Fin 1024) :
    term f t (ix2 (0 : Fin 1) q) = ∑ r : Fin 256, f (⟨256 * t + r.val, by omega⟩ : Fin 4096) q := dif_pos h

/-- The sixteen blocks' sums are the sum over the rows. -/
theorem sum_terms (f : Fin 4096 → Fin 1024 → EReal) (n : ℕ) (hn : n < 16) (h : n % 16 = 15) (q : Fin 1024) :
    0 + ∑ k ∈ Finset.range (n % 16 + 1), term f (16 * (n / 16) + k) (ix2 (0 : Fin 1) q) = ∑ s : Fin 4096, f s q := by
  rw [zero_add, h, Finset.sum_range]
  refine Eq.trans (b := ∑ k : Fin 16, ∑ r : Fin 256, f (⟨256 * k.val + r.val, by omega⟩ : Fin 4096) q) (Finset.sum_congr rfl fun k _ => ?_) ?_
  · have e0 : 16 * (n / 16) + k.val = k.val := by omega
    rw [e0]
    exact term_at f k.val k.isLt q
  · refine (Fintype.sum_prod_type' fun (k : Fin 16) (r : Fin 256) => f (⟨256 * k.val + r.val, by omega⟩ : Fin 4096) q).symm.trans ?_
    refine Fintype.sum_equiv (finProdFinEquiv (m := 16) (n := 256)) _ _ fun p => congrArg (f · q) (Fin.ext ?_)
    show 256 * p.1.val + p.2.val = p.2.val + 256 * p.1.val
    omega

/-- Rows under the norm's scale. -/
abbrev scaled (U : Fin 4096 → Fin 1024 → EReal) (sc : FVec Ideal ⟨2, ![1, 1024]⟩ .f32) (s : Fin 4096) (e : Fin 1024) : EReal := U s e * (1 + sc (ix2 0 e))

/-- The gradient of the norm's rows, on what came before. -/
def dRows (U : Fin 4096 → Fin 1024 → EReal) (x : FVec Ideal ⟨2, ![4096, 1024]⟩ .f32) (sc : FVec Ideal ⟨2, ![1, 1024]⟩ .f32) (b : FVec Ideal ⟨2, ![4096, 1024]⟩ .f32) :
    FVec Ideal ⟨2, ![4096, 1024]⟩ .f32 := fun i => b i + back (scaled U sc (i 0)) (rowOf x (i 0)) (i 1)

/-- The sum over the rows, column by column. -/
def dCol (f : Fin 4096 → Fin 1024 → EReal) : FVec Ideal ⟨2, ![1, 1024]⟩ .f32 := fun i => ∑ s : Fin 4096, f s (i 1)

theorem one_real : IsReal (1 : EReal) := ⟨1, rfl⟩

/-- The reference's array is the same. -/
theorem rows_eq (U : FVec Ideal ⟨2, ![4096, 1024]⟩ .f32) (V : Fin 4096 → Fin 1024 → EReal) (hUV : ∀ s q, U (ix2 s q) = V s q) (x : FVec Ideal ⟨2, ![4096, 1024]⟩ .f32)
    (sc : FVec Ideal ⟨2, ![1, 1024]⟩ .f32) (b : FVec Ideal ⟨2, ![4096, 1024]⟩ .f32) (hV : ∀ s q, IsReal (V s q)) (hx : ∀ i, IsReal (x i)) (hs : ∀ i, IsReal (sc i)) :
    hBackOn b (hScaled U sc) x = dRows V x sc b := by
  funext i
  obtain ⟨s, q, rfl⟩ : ∃ (s : Fin 4096) (q : Fin 1024), i = ix2 s q := ⟨i 0, i 1, eq_ix2 i⟩
  have e : rowOf (hScaled U sc) s = scaled V sc s := funext fun e => (hScaled_at U sc s e).trans (congrArg (· * (1 + sc (ix2 0 e))) (hUV s e))
  refine (hBackOn_at b (hScaled U sc) x s q (fun k => ?_) fun k => hx _).trans (congrArg (fun D => b (ix2 s q) + back D (rowOf x s) q) e)
  have h : IsReal (scaled V sc s k) := (hV s k).mul (one_real.add (hs _))
  rw [← congrFun e k] at h
  exact h

theorem col_eq (X : FVec Ideal ⟨2, ![4096, 1024]⟩ .f32) (f : Fin 4096 → Fin 1024 → EReal) (h : ∀ s q, X (ix2 s q) = f s q) : hSum X = dCol f := by
  funext i
  obtain ⟨r, q, rfl⟩ : ∃ (r : Fin 1) (q : Fin 1024), i = ix2 r q := ⟨i 0, i 1, eq_ix2 i⟩
  obtain rfl : r = 0 := Fin.eq_zero r
  exact (hSum_at X q).trans (Finset.sum_congr rfl fun s _ => h s q)

theorem colVec_eq (X : FVec Ideal ⟨2, ![4096, 1024]⟩ .f32) (f : Fin 4096 → Fin 1024 → EReal) (h : ∀ s q, X (ix2 s q) = f s q) : hSumVec X = dCol f := by
  funext i
  obtain ⟨r, q, rfl⟩ : ∃ (r : Fin 1) (q : Fin 1024), i = ix2 r q := ⟨i 0, i 1, eq_ix2 i⟩
  obtain rfl : r = 0 := Fin.eq_zero r
  exact (hSumVec_at X q).trans (Finset.sum_congr rfl fun s _ => h s q)

end Cert.NormHost

end
-- ==== Proof.NormGrad.lean ====
/-
  The gradient of the first layer's token mixer from its input projection back through the modulated norm: the kernel's blocks of
  256 rows, and the sums it keeps over them, are the reference's, where the rows and the gradients are finite.
-/
module

public import proofs.«01_k».proof.Defs
public import proofs.«01_k».proof.Proof.Gen.Kernel19Ideal.Value
public import proofs.«01_k».proof.Proof.Gen.Reference19Ideal.Run
public import Idealize.ShloMosaic.Lib.Pipeline.ReadBack
public import proofs.«01_k».proof.Proof.NormHost
public import proofs.«01_k».proof.Proof.NormPre
public import Idealize.ShloMosaic.Lib.Pipeline.ValueKit
public import Idealize.ShloMosaic.Lib.Pointwise
public import Idealize.ShloMosaic.Lib.KernelVsHost

@[expose] public section

set_option maxRecDepth 16384

noncomputable section

namespace Cert.NormGrad

open Idealize.ShloMosaic Idealize.ShloMosaic.TcCoe Idealize.ShloMosaic.Tactic Idealize.SL.Sem
open Idealize.ShloMosaic.Pipeline (Dat)
open Cert.RowNorm Cert.NormHost
open Cert.Attn.Ref (IsReal)

section Kernel

open Cert.Kernel19Ideal Cert.Kernel19Ideal.Gen Cert.Kernel19Ideal.Value

variable (w : Vec Ideal S5376x1024 .bf16) (D : FVec Ideal S256x1024 .f32) (v : Vec Ideal S1x1024 .f32) (x b : Vec Ideal S256x1024 .f32) (sc : Vec Ideal S1x1024 .f32) (p0 : Vec Ideal S256x256 .bf16) (w0 : Vec Ideal S256x1024 .bf16) (p1 : Vec Ideal S256x512 .bf16) (w1 : Vec Ideal S512x1024 .bf16) (p2 : Vec Ideal S256x512 .bf16) (w2 : Vec Ideal S512x1024 .bf16) (p3 : Vec Ideal S256x512 .bf16) (w3 : Vec Ideal S512x1024 .bf16) (p4 : Vec Ideal S256x512 .bf16) (w4 : Vec Ideal S512x1024 .bf16) (p5 : Vec Ideal S256x3072 .bf16) (w5 : Vec Ideal S3072x1024 .bf16)

theorem pay4 (r : Fin 256) (q : Fin 1024) :
    k0_pay4 p0 w0 p1 w1 p2 w2 p3 w3 p4 w4 p5 w5 (ix2 r q) = (∑ e : Fin 256, p0 (ix2 r e) * w0 (ix2 e q)) + (∑ e : Fin 512, p1 (ix2 r e) * w1 (ix2 e q)) + (∑ e : Fin 512, p2 (ix2 r e) * w2 (ix2 e q)) + (∑ e : Fin 512, p3 (ix2 r e) * w3 (ix2 e q)) + (∑ e : Fin 512, p4 (ix2 r e) * w4 (ix2 e q)) + (∑ e : Fin 3072, p5 (ix2 r e) * w5 (ix2 e q)) := by
  pointwise [k0_pay4]

theorem pay5 (r : Fin 256) (q : Fin 1024) : k0_pay5 x (ix2 r q) = centred (fun e => x (ix2 r e)) q := by
  pointwise [k0_pay5, centred, mean]

theorem pay6 (r : Fin 256) : k0_pay6 x (ix2 r (0 : Fin 1)) = rstd (fun e => x (ix2 r e)) := by
  unfold rstd spread
  simp only [← pay5]
  pointwise [k0_pay6, mean]

theorem pay7 (r : Fin 256) (q : Fin 1024) : k0_pay7 x (ix2 r q) = norm (fun e => x (ix2 r e)) q := by
  rw [norm_eq, ← pay5, ← pay6]
  pointwise [k0_pay7]

theorem pay8 (r : Fin 256) (q : Fin 1024) :
    k0_pay8 D x b sc (ix2 r q) = b (ix2 r q) + back (fun e => D (ix2 r e) * (1 + sc (ix2 0 e))) (fun e => x (ix2 r e)) q := by
  unfold back
  simp only [← pay6, ← pay7]
  pointwise [k0_pay8, mean]

theorem pay9 (r : Fin 256) (q : Fin 1024) :
    k0_pay9 D x (ix2 r q) = D (ix2 r q) * norm (fun e => x (ix2 r e)) q := by
  rw [← pay7]
  pointwise [k0_pay9]

theorem pay1 (q : Fin 1024) :
    k0_pay1 D v (ix2 (0 : Fin 1) q) = v (ix2 0 q) + ∑ r : Fin 256, D (ix2 r q) := by
  pointwise [k0_pay1]

theorem pay3 (q : Fin 1024) :
    k0_pay3 D v (ix2 (0 : Fin 1) q) = v (ix2 0 q) + ∑ r : Fin 256, D (ix2 r q) := by
  pointwise [k0_pay3]

theorem pay10 (y : S1x1024.Idx) : k0_pay10 (F := Ideal) y = 0 := by
  pointwise [k0_pay10]

theorem pay2 (y : S1x1024.Idx) : k0_pay2 (F := Ideal) y = 0 := by
  pointwise [k0_pay2]

theorem ldw0 (e : Fin 256) (q : Fin 1024) :
    View.ld w (Rect.unit ![0, 0] ![256, 1024] inb_S5376x1024_S256x1024_0_0) (ix2 e q) = w (ix2 (⟨0 + e.val, by omega⟩ : Fin 5376) q) := by
  unfold View.ld
  refine congrArg w (funext fun a => Fin.ext ?_)
  match a with
  | ⟨0, _⟩ => show 0 + 1 * e.val = 0 + e.val; omega
  | ⟨1, _⟩ => show 0 + 1 * q.val = q.val; omega

theorem ldw1 (e : Fin 512) (q : Fin 1024) :
    View.ld w (Rect.unit ![256, 0] ![512, 1024] inb_S5376x1024_S512x1024_256_0) (ix2 e q) = w (ix2 (⟨256 + e.val, by omega⟩ : Fin 5376) q) := by
  unfold View.ld
  refine congrArg w (funext fun a => Fin.ext ?_)
  match a with
  | ⟨0, _⟩ => show 256 + 1 * e.val = 256 + e.val; omega
  | ⟨1, _⟩ => show 0 + 1 * q.val = q.val; omega

theorem ldw2 (e : Fin 512) (q : Fin 1024) :
    View.ld w (Rect.unit ![768, 0] ![512, 1024] inb_S5376x1024_S512x1024_768_0) (ix2 e q) = w (ix2 (⟨768 + e.val, by omega⟩ : Fin 5376) q) := by
  unfold View.ld
  refine congrArg w (funext fun a => Fin.ext ?_)
  match a with
  | ⟨0, _⟩ => show 768 + 1 * e.val = 768 + e.val; omega
  | ⟨1, _⟩ => show 0 + 1 * q.val = q.val; omega

theorem ldw3 (e : Fin 512) (q : Fin 1024) :
    View.ld w (Rect.unit ![1280, 0] ![512, 1024] inb_S5376x1024_S512x1024_1280_0) (ix2 e q) = w (ix2 (⟨1280 + e.val, by omega⟩ : Fin 5376) q) := by
  unfold View.ld
  refine congrArg w (funext fun a => Fin.ext ?_)
  match a with
  | ⟨0, _⟩ => show 1280 + 1 * e.val = 1280 + e.val; omega
  | ⟨1, _⟩ => show 0 + 1 * q.val = q.val; omega

theorem ldw4 (e : Fin 512) (q : Fin 1024) :
    View.ld w (Rect.unit ![1792, 0] ![512, 1024] inb_S5376x1024_S512x1024_1792_0) (ix2 e q) = w (ix2 (⟨1792 + e.val, by omega⟩ : Fin 5376) q) := by
  unfold View.ld
  refine congrArg w (funext fun a => Fin.ext ?_)
  match a with
  | ⟨0, _⟩ => show 1792 + 1 * e.val = 1792 + e.val; omega
  | ⟨1, _⟩ => show 0 + 1 * q.val = q.val; omega

theorem ldw5 (e : Fin 3072) (q : Fin 1024) :
    View.ld w (Rect.unit ![2304, 0] ![3072, 1024] inb_S5376x1024_S3072x1024_2304_0) (ix2 e q) = w (ix2 (⟨2304 + e.val, by omega⟩ : Fin 5376) q) := by
  unfold View.ld
  refine congrArg w (funext fun a => Fin.ext ?_)
  match a with
  | ⟨0, _⟩ => show 2304 + 1 * e.val = 2304 + e.val; omega
  | ⟨1, _⟩ => show 0 + 1 * q.val = q.val; omega

variable (m : (ℓ : Loc nD τ sig) → Buf (Elt Ideal) ℓ) (c : Dev nD)

/-- The arguments, as launched. -/
abbrev d0 : FVec Ideal S4096x256 .bf16 := m ((c : Thread nD τ).loc main_arg0)
abbrev d1 : FVec Ideal S4096x512 .bf16 := m ((c : Thread nD τ).loc main_arg1)
abbrev d2 : FVec Ideal S4096x512 .bf16 := m ((c : Thread nD τ).loc main_arg2)
abbrev d3 : FVec Ideal S4096x512 .bf16 := m ((c : Thread nD τ).loc main_arg3)
abbrev d4 : FVec Ideal S4096x512 .bf16 := m ((c : Thread nD τ).loc main_arg4)
abbrev d5 : FVec Ideal S4096x3072 .bf16 := m ((c : Thread nD τ).loc main_arg5)
abbrev wA : FVec Ideal S5376x1024 .bf16 := m ((c : Thread nD τ).loc main_arg6)
abbrev xA : FVec Ideal S4096x1024 .f32 := m ((c : Thread nD τ).loc main_arg7)
abbrev scA : FVec Ideal S1x1024 .f32 := m ((c : Thread nD τ).loc main_arg8)
abbrev bA : FVec Ideal S4096x1024 .f32 := m ((c : Thread nD τ).loc main_arg9)
abbrev uA : Fin 4096 → Fin 1024 → EReal := duMix (d0 m c) (d1 m c) (d2 m c) (d3 m c) (d4 m c) (d5 m c) (wA m c)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![0, 0] := by decide +kernel
theorem index7 : ∀ t : Fin cfg0.N, win0_7.index t = ![t.val, 0] := by decide +kernel
theorem index8 : ∀ t : Fin cfg0.N, win0_8.index t = ![0, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![0, 0] := by decide +kernel
theorem index12 : ∀ t : Fin cfg0.N, win0_12.index t = ![0, 0] := by decide +kernel

/-- The row of the whole that row `r` of block `t` is. -/
abbrev row (t : Fin cfg0.N) (r : Fin 256) : Fin 4096 := ⟨256 * t.val + r.val, by have : t.val < 16 := t.isLt; omega⟩

theorem read0 (t : Fin cfg0.N) (r : Fin 256) (q : Fin 256) : iblk m c 0 t (ix2 r q) = d0 m c (ix2 (row t r) q) := by
  blk_ext [iblk, V, index0 t]

theorem read1 (t : Fin cfg0.N) (r : Fin 256) (q : Fin 512) : iblk m c 1 t (ix2 r q) = d1 m c (ix2 (row t r) q) := by
  blk_ext [iblk, V, index1 t]

theorem read2 (t : Fin cfg0.N) (r : Fin 256) (q : Fin 512) : iblk m c 2 t (ix2 r q) = d2 m c (ix2 (row t r) q) := by
  blk_ext [iblk, V, index2 t]

theorem read3 (t : Fin cfg0.N) (r : Fin 256) (q : Fin 512) : iblk m c 3 t (ix2 r q) = d3 m c (ix2 (row t r) q) := by
  blk_ext [iblk, V, index3 t]

theorem read4 (t : Fin cfg0.N) (r : Fin 256) (q : Fin 512) : iblk m c 4 t (ix2 r q) = d4 m c (ix2 (row t r) q) := by
  blk_ext [iblk, V, index4 t]

theorem read5 (t : Fin cfg0.N) (r : Fin 256) (q : Fin 3072) : iblk m c 5 t (ix2 r q) = d5 m c (ix2 (row t r) q) := by
  blk_ext [iblk, V, index5 t]

theorem read7 (t : Fin cfg0.N) (r : Fin 256) (q : Fin 1024) : iblk m c 7 t (ix2 r q) = xA m c (ix2 (row t r) q) := by
  blk_ext [iblk, V, index7 t]

theorem read9 (t : Fin cfg0.N) (r : Fin 256) (q : Fin 1024) : iblk m c 9 t (ix2 r q) = bA m c (ix2 (row t r) q) := by
  blk_ext [iblk, V, index9 t]

theorem read6 (t : Fin cfg0.N) (k : Fin 5376) (q : Fin 1024) : iblk m c 6 t (ix2 k q) = wA m c (ix2 k q) := by
  blk_ext [iblk, V, index6 t]

theorem read8 (t : Fin cfg0.N) (q : Fin 1024) : iblk m c 8 t (ix2 (0 : Fin 1) q) = scA m c (ix2 0 q) := by
  blk_ext [iblk, V, index8 t]

/-- A block's product. -/
abbrev ub (t : Fin cfg0.N) : FVec Ideal S256x1024 .f32 :=
  k0_pay4 (iblk m c 0 t) (View.ld (iblk m c 6 t) (Rect.unit ![0, 0] ![256, 1024] inb_S5376x1024_S256x1024_0_0))
    (iblk m c 1 t) (View.ld (iblk m c 6 t) (Rect.unit ![256, 0] ![512, 1024] inb_S5376x1024_S512x1024_256_0))
    (iblk m c 2 t) (View.ld (iblk m c 6 t) (Rect.unit ![768, 0] ![512, 1024] inb_S5376x1024_S512x1024_768_0))
    (iblk m c 3 t) (View.ld (iblk m c 6 t) (Rect.unit ![1280, 0] ![512, 1024] inb_S5376x1024_S512x1024_1280_0))
    (iblk m c 4 t) (View.ld (iblk m c 6 t) (Rect.unit ![1792, 0] ![512, 1024] inb_S5376x1024_S512x1024_1792_0))
    (iblk m c 5 t) (View.ld (iblk m c 6 t) (Rect.unit ![2304, 0] ![3072, 1024] inb_S5376x1024_S3072x1024_2304_0))

theorem u_point (t : Fin cfg0.N) (r : Fin 256) (q : Fin 1024) : ub m c t (ix2 r q) = uA m c (row t r) q := by
  refine (pay4 _ _ _ _ _ _ _ _ _ _ _ _ r q).trans ?_
  unfold uA duMix
  refine congrArg₂ (· + ·) (congrArg₂ (· + ·) (congrArg₂ (· + ·) (congrArg₂ (· + ·) (congrArg₂ (· + ·) ?_ ?_) ?_) ?_) ?_) ?_
  · exact Finset.sum_congr rfl fun e _ => congrArg₂ (· * ·) (read0 m c t r e) ((ldw0 (iblk m c 6 t) e q).trans (read6 m c t _ q))
  · exact Finset.sum_congr rfl fun e _ => congrArg₂ (· * ·) (read1 m c t r e) ((ldw1 (iblk m c 6 t) e q).trans (read6 m c t _ q))
  · exact Finset.sum_congr rfl fun e _ => congrArg₂ (· * ·) (read2 m c t r e) ((ldw2 (iblk m c 6 t) e q).trans (read6 m c t _ q))
  · exact Finset.sum_congr rfl fun e _ => congrArg₂ (· * ·) (read3 m c t r e) ((ldw3 (iblk m c 6 t) e q).trans (read6 m c t _ q))
  · exact Finset.sum_congr rfl fun e _ => congrArg₂ (· * ·) (read4 m c t r e) ((ldw4 (iblk m c 6 t) e q).trans (read6 m c t _ q))
  · exact Finset.sum_congr rfl fun e _ => congrArg₂ (· * ·) (read5 m c t r e) ((ldw5 (iblk m c 6 t) e q).trans (read6 m c t _ q))

theorem x_row (t : Fin cfg0.N) (r : Fin 256) : (fun e : Fin 1024 => iblk m c 7 t (ix2 r e)) = rowOf (xA m c) (row t r) := funext fun e => read7 m c t r e

theorem place10 (t : Fin cfg0.N) (r : Fin 256) (q : Fin 1024) : ((cfg0.win 10).blk t).view.emb (ix2 r q) = ix2 (row t r) q := by
  funext a; refine Fin.ext ?_
  blk_simp [index10 t]
  match a with
  | ⟨0, _⟩ => show t.val * 256 + r.val = 256 * t.val + r.val; omega
  | ⟨1, _⟩ => show 0 * 1024 + q.val = q.val; omega

theorem outs10 (t : Fin cfg0.N) : (outsAt0 m c t.val t.isLt).1 = k0_pay8 (ub m c t) (iblk m c 7 t) (iblk m c 9 t) (iblk m c 8 t) := by
  by_cases h0 : t.val % 16 = 0
  · rw [outsAt0_A m c t h0 h0]
    frame_out
    rfl
  · rw [outsAt0_B m c t h0 h0]
    frame_out
    rfl

theorem block10 (t : Fin cfg0.N) (y : S256x1024.Idx) : (outsAt0 m c t.val t.isLt).1 y = dRows (uA m c) (xA m c) (scA m c) (bA m c) (((cfg0.win 10).blk t).view.emb y) := by
  obtain ⟨r, q, rfl⟩ : ∃ (r : Fin 256) (q : Fin 1024), y = ix2 r q := ⟨y 0, y 1, eq_ix2 y⟩
  rw [outs10]
  refine (pay8 _ _ _ _ r q).trans (Eq.trans ?_ (congrArg (dRows _ _ _ _) (place10 t r q).symm))
  refine congrArg₂ (· + ·) (read9 m c t r q) ?_
  exact congrArg₂ (fun D X => back D X q) (funext fun e => congrArg₂ (fun a b => a * (1 + b)) (u_point m c t r e) (read8 m c t e)) (x_row m c t r)

theorem result10 : (dats m 0 c).arrAt 10 cfg0.N = dRows (uA m c) (xA m c) (scA m c) (bA m c) := by
  refine (dats m 0 c).arrAt_eq_of_covers 10 _ (by decide +kernel) fun t hf y => ?_
  rw [after0_10]
  have h := block10 m c t
  blk_simp
  exact h y

/-- An index of one row is its column. -/
theorem one_row (y : S1x1024.Idx) : ∃ q : Fin 1024, y = ix2 0 q := ⟨y 1, by funext a; match a with | ⟨0, _⟩ => exact Fin.eq_zero _ | ⟨1, _⟩ => rfl⟩

theorem step11 (t : Fin cfg0.N) (v : Vec Ideal S1x1024 .f32) (y : S1x1024.Idx) :
    k0_pay1 (k0_pay9 (ub m c t) (iblk m c 7 t)) v y = v y + term (fun s q => uA m c s q * norm (rowOf (xA m c) s) q) t.val y := by
  obtain ⟨q, rfl⟩ := one_row y
  refine (pay1 _ _ q).trans (congrArg (v (ix2 0 q) + ·) ?_)
  exact (Finset.sum_congr rfl fun r _ => (pay9 _ _ r q).trans (congrArg₂ (· * ·) (u_point m c t r q) (congrArg (norm · q) (x_row m c t r)))).trans (term_at (fun s q => uA m c s q * norm (rowOf (xA m c) s) q) t.val t.isLt q).symm

theorem outs11 (t : Fin cfg0.N) (y : S1x1024.Idx) : (outsAt0 m c t.val t.isLt).2.1 y
    = 0 + ∑ k ∈ Finset.range (t.val % 16 + 1), term (fun s q => uA m c s q * norm (rowOf (xA m c) s) q) (16 * (t.val / 16) + k) y := by
  refine Pipeline.eq_sum_of_reset_step_apply (fun n h => (outsAt0 m c n h).2.1) 16 (fun _ => 0) (term (fun s q => uA m c s q * norm (rowOf (xA m c) s) q)) (fun t h j => ?_) (fun t h j => ?_) t y
  · rw [outsAt0_A m c t h h]
    frame_open
    simp (disch := decide) only [↓ View.readCov_skip, ↓ View.readCov_fill]
    frame_out
    exact (step11 m c t _ j).trans (congrArg (· + _) (pay10 j))
  · rw [outsAt0_B m c t h h]
    frame_out
    exact step11 m c t _ j

theorem place11 (t : Fin cfg0.N) (q : Fin 1024) : ((cfg0.win 11).blk t).view.emb (ix2 (0 : Fin 1) q) = ix2 (0 : Fin 1) q := by
  funext a; refine Fin.ext ?_
  blk_simp [index11 t]
  match a with
  | ⟨0, _⟩ => show 0 * 1 + 0 = 0; omega
  | ⟨1, _⟩ => show 0 * 1024 + q.val = q.val; omega

theorem block11 (t : Fin cfg0.N) (ht : t.val % 16 = 15) (y : S1x1024.Idx) : (outsAt0 m c t.val t.isLt).2.1 y
    = dCol (fun s q => uA m c s q * norm (rowOf (xA m c) s) q) (((cfg0.win 11).blk t).view.emb y) := by
  obtain ⟨q, rfl⟩ := one_row y
  have h16 : t.val < 16 := t.isLt
  rw [outs11, place11]
  exact sum_terms (fun s q => uA m c s q * norm (rowOf (xA m c) s) q) t.val h16 ht q

theorem result11 : (dats m 0 c).arrAt 11 cfg0.N = dCol (fun s q => uA m c s q * norm (rowOf (xA m c) s) q) := by
  refine (dats m 0 c).arrAt_eq_of_covers 11 _ (by decide +kernel) fun t hf y => ?_
  rw [after0_11]
  have h := block11 m c t ((flush0_11 t).mp hf)
  blk_simp
  exact h y

theorem step12 (t : Fin cfg0.N) (v : Vec Ideal S1x1024 .f32) (y : S1x1024.Idx) :
    k0_pay3 (ub m c t) v y = v y + term (uA m c) t.val y := by
  obtain ⟨q, rfl⟩ := one_row y
  refine (pay3 _ _ q).trans (congrArg (v (ix2 0 q) + ·) ?_)
  exact (Finset.sum_congr rfl fun r _ => u_point m c t r q).trans (term_at (uA m c) t.val t.isLt q).symm

theorem outs12 (t : Fin cfg0.N) (y : S1x1024.Idx) : (outsAt0 m c t.val t.isLt).2.2 y
    = 0 + ∑ k ∈ Finset.range (t.val % 16 + 1), term (uA m c) (16 * (t.val / 16) + k) y := by
  refine Pipeline.eq_sum_of_reset_step_apply (fun n h => (outsAt0 m c n h).2.2) 16 (fun _ => 0) (term (uA m c)) (fun t h j => ?_) (fun t h j => ?_) t y
  · rw [outsAt0_A m c t h h]
    frame_open
    simp (disch := decide) only [↓ View.readCov_skip, ↓ View.readCov_fill]
    frame_out
    exact (step12 m c t _ j).trans (congrArg (· + _) (pay2 j))
  · rw [outsAt0_B m c t h h]
    frame_out
    exact step12 m c t _ j

theorem place12 (t : Fin cfg0.N) (q : Fin 1024) : ((cfg0.win 12).blk t).view.emb (ix2 (0 : Fin 1) q) = ix2 (0 : Fin 1) q := by
  funext a; refine Fin.ext ?_
  blk_simp [index12 t]
  match a with
  | ⟨0, _⟩ => show 0 * 1 + 0 = 0; omega
  | ⟨1, _⟩ => show 0 * 1024 + q.val = q.val; omega

theorem block12 (t : Fin cfg0.N) (ht : t.val % 16 = 15) (y : S1x1024.Idx) : (outsAt0 m c t.val t.isLt).2.2 y
    = dCol (uA m c) (((cfg0.win 12).blk t).view.emb y) := by
  obtain ⟨q, rfl⟩ := one_row y
  have h16 : t.val < 16 := t.isLt
  rw [outs12, place12]
  exact sum_terms (uA m c) t.val h16 ht q

theorem result12 : (dats m 0 c).arrAt 12 cfg0.N = dCol (uA m c) := by
  refine (dats m 0 c).arrAt_eq_of_covers 12 _ (by decide +kernel) fun t hf y => ?_
  rw [after0_12]
  have h := block12 m c t ((flush0_12 t).mp hf)
  blk_simp
  exact h y

end Kernel

section Reference

open Cert.Reference19Ideal Cert.Reference19Ideal.Gen

variable (m : (ℓ : Loc nD τ sig) → Buf (Elt Ideal) ℓ) (c : Dev nD)

/-- The reference's arguments, as launched. -/
abbrev r0 : FVec Ideal S4096x256 .bf16 := m ((c.tc : Thread nD τ).loc main_arg0)
abbrev r1 : FVec Ideal S4096x512 .bf16 := m ((c.tc : Thread nD τ).loc main_arg1)
abbrev r2 : FVec Ideal S4096x512 .bf16 := m ((c.tc : Thread nD τ).loc main_arg2)
abbrev r3 : FVec Ideal S4096x512 .bf16 := m ((c.tc : Thread nD τ).loc main_arg3)
abbrev r4 : FVec Ideal S4096x512 .bf16 := m ((c.tc : Thread nD τ).loc main_arg4)
abbrev r5 : FVec Ideal S4096x3072 .bf16 := m ((c.tc : Thread nD τ).loc main_arg5)
abbrev rW : FVec Ideal S5376x1024 .bf16 := m ((c.tc : Thread nD τ).loc main_arg6)
abbrev rX : FVec Ideal S4096x1024 .f32 := m ((c.tc : Thread nD τ).loc main_arg7)
abbrev rS : FVec Ideal S1x1024 .f32 := m ((c.tc : Thread nD τ).loc main_arg8)
abbrev rB : FVec Ideal S4096x1024 .f32 := m ((c.tc : Thread nD τ).loc main_arg9)

end Reference

/-- The kernel and the reference give the same rows and the same two sums. -/
theorem algebraic : @Cert.algebraic_Kernel19Ideal_Reference19Ideal_pre_finite_mixer_in Cert.Kernel19Ideal.Gen.facts Cert.Reference19Ideal.Gen.facts Cert.NormPre.mixer_in.facts := by
  intro m g m' g' hp ha
  refine ⟨fun c => dRows (uA m c) (xA m c) (scA m c) (bA m c), fun c => dCol (fun s q => uA m c s q * norm (rowOf (xA m c) s) q), fun c => dCol (uA m c), ?_, ?_⟩
  · exact (θ_run Cert.Kernel19Ideal.defs _ _).mono (fun r h c => ⟨(h c).1.trans (result10 m c), (h c).2.1.trans (result11 m c), (h c).2.2.1.trans (result12 m c), (h c).2.2.2⟩) (Cert.Kernel19Ideal.Value.run_blocks m g)
  · refine (θ_run Cert.Reference19Ideal.defs _ _).mono (fun r h c => ⟨(h c).1.trans ?_, (h c).2.1.trans ?_, (h c).2.2.1.trans ?_, (h c).2.2.2⟩) (Cert.Reference19Ideal.Value.run (F := Ideal) m' g')
    all_goals
      have a0 : r0 m' c = d0 m c := (ha c).1
      have a1 : r1 m' c = d1 m c := (ha c).2.1
      have a2 : r2 m' c = d2 m c := (ha c).2.2.1
      have a3 : r3 m' c = d3 m c := (ha c).2.2.2.1
      have a4 : r4 m' c = d4 m c := (ha c).2.2.2.2.1
      have a5 : r5 m' c = d5 m c := (ha c).2.2.2.2.2.1
      have a6 : rW m' c = wA m c := (ha c).2.2.2.2.2.2.1
      have a7 : rX m' c = xA m c := (ha c).2.2.2.2.2.2.2.1
      have a8 : rS m' c = scA m c := (ha c).2.2.2.2.2.2.2.2.1
      have a9 : rB m' c = bA m c := (ha c).2.2.2.2.2.2.2.2.2
    · show hBackOn (rB m' c) (hScaled (hDu (r0 m' c) (r1 m' c) (r2 m' c) (r3 m' c) (r4 m' c) (r5 m' c) (rW m' c)) (rS m' c)) (rX m' c) = _
      rw [a0, a1, a2, a3, a4, a5, a6, a7, a8, a9]
      obtain ⟨p0, p1, p2, p3, p4, p5, p6, p7, p8⟩ := hp c
      exact rows_eq _ _ (hDu_at (d0 m c) (d1 m c) (d2 m c) (d3 m c) (d4 m c) (d5 m c) (wA m c)) _ _ _
        (duMix_real (d0 m c) (d1 m c) (d2 m c) (d3 m c) (d4 m c) (d5 m c) (wA m c) (NormPre.mixer_in.real0 _ _ _ _ _ _ _ _ _ _ p0) (NormPre.mixer_in.real1 _ _ _ _ _ _ _ _ _ _ p1) (NormPre.mixer_in.real2 _ _ _ _ _ _ _ _ _ _ p2) (NormPre.mixer_in.real3 _ _ _ _ _ _ _ _ _ _ p3)
          (NormPre.mixer_in.real4 _ _ _ _ _ _ _ _ _ _ p4) (NormPre.mixer_in.real5 _ _ _ _ _ _ _ _ _ _ p5) (NormPre.mixer_in.real6 _ _ _ _ _ _ _ _ _ _ p6))
        (NormPre.mixer_in.real7 _ _ _ _ _ _ _ _ _ _ p7) (NormPre.mixer_in.real8 _ _ _ _ _ _ _ _ _ _ p8)
    · show hSum (mulf (hNorm (rX m' c)) (hDu (r0 m' c) (r1 m' c) (r2 m' c) (r3 m' c) (r4 m' c) (r5 m' c) (rW m' c))) = _
      rw [a0, a1, a2, a3, a4, a5, a6, a7]
      exact col_eq _ _ fun s q => (congrArg₂ (· * ·) (hNorm_at (xA m c) s q) (hDu_at (d0 m c) (d1 m c) (d2 m c) (d3 m c) (d4 m c) (d5 m c) (wA m c) s q)).trans (mul_comm _ _)
    · show hSum (hDu (r0 m' c) (r1 m' c) (r2 m' c) (r3 m' c) (r4 m' c) (r5 m' c) (rW m' c)) = _
      rw [a0, a1, a2, a3, a4, a5, a6]
      exact col_eq _ _ (hDu_at (d0 m c) (d1 m c) (d2 m c) (d3 m c) (d4 m c) (d5 m c) (wA m c))

end Cert.NormGrad

end
-- ==== Proof.NormNext.lean ====
/-
  The gradient of the norm that feeds a modulated norm: the residual's weighted sum, its norm under a scale and a shift, and
  the gradient of that sum from the gradient of the modulated norm's input. The arrays the reference makes of it, entry by
  entry.
-/
module

public import proofs.«01_k».proof.Proof.NormHost

@[expose] public section

set_option maxRecDepth 16384

noncomputable section

namespace Cert.NormNext

open Idealize.ShloMosaic Idealize.ShloMosaic.TcCoe Idealize.ShloMosaic.Tactic
open Cert.RowNorm Cert.NormHost
open Cert.Attn.Ref (IsReal)

open Cert.Reference20Ideal Cert.Reference20Ideal.Gen

/-- The weight of the residual. -/
def alpha : EReal := Ideal.ofBits FTy.f32 0x3FB504F3#32

theorem alpha_real : IsReal alpha := by
  unfold alpha Ideal.ofBits Ideal.ieee
  simp
  exact ⟨_, rfl⟩

variable (dr dv P : FVec Ideal S4096x1024 .f32) (gam bet : FVec Ideal S1x1024 .f32) (x f : FVec Ideal S4096x1024 .f32) (g v : FVec Ideal S1x1024 .f32)

/-- A row, as the reference copies it from a list. -/
def hRow : FVec Ideal S1x1024 .f32 :=
  broadcastInDim S1x1024 ![1] bcast_S1024_S1x1024_1 (shapeCast _ v shapeCasts_S1x1024_S1024)

/-- A row, copied down all rows. -/
def hDown : FVec Ideal S4096x1024 .f32 := broadcastInDim S4096x1024 ![0, 1] bcast_S1x1024_S4096x1024_0_1 v

theorem hDown_at (s : Fin 4096) (q : Fin 1024) : hDown v (ix2 s q) = v (ix2 0 q) := by
  pointwise [hDown]

theorem hRow_at (q : Fin 1024) : hRow v (ix2 (0 : Fin 1) q) = v (ix2 0 q) := by
  pointwise [hRow]

theorem down_row (s : Fin 4096) (q : Fin 1024) : hDown (hRow v) (ix2 s q) = v (ix2 0 q) :=
  (hDown_at _ s q).trans (hRow_at v q)

/-- The weighted sum of the residual and a layer under its gate. -/
def hSkip : FVec Ideal S4096x1024 .f32 :=
  addf (mulf (broadcastInDim S4096x1024 ![] bcast_S_S4096x1024 (constant (F := Ideal) S_ .f32 0x3FB504F3#32)) x) (mulf (hDown g) f)

theorem hSkip_at (s : Fin 4096) (q : Fin 1024) :
    hSkip x f g (ix2 s q) = alpha * x (ix2 s q) + g (ix2 0 q) * f (ix2 s q) := by
  pointwise [hSkip, hDown, alpha]

theorem hSkip_real (hx : ∀ i, IsReal (x i)) (hf : ∀ i, IsReal (f i)) (hg : ∀ i, IsReal (g i))
    (s : Fin 4096) (q : Fin 1024) : IsReal (hSkip x f g (ix2 s q)) := by
  rw [hSkip_at]
  exact (alpha_real.mul (hx _)).add ((hg _).mul (hf _))

/-- The norm of the rows under a scale and a shift. -/
def hLayer : FVec Ideal S4096x1024 .f32 :=
  addf (mulf (hNorm P) (hDown (hRow gam))) (hDown (hRow bet))

theorem hLayer_real (hP : ∀ s q, IsReal (P (ix2 s q))) (hg : ∀ i, IsReal (gam i)) (hb : ∀ i, IsReal (bet i))
    (i : S4096x1024.Idx) : IsReal (hLayer P gam bet i) := by
  obtain ⟨s, q, rfl⟩ : ∃ (s : Fin 4096) (q : Fin 1024), i = ix2 s q := ⟨i 0, i 1, eq_ix2 i⟩
  have h : IsReal (hNorm P (ix2 s q) * hDown (hRow gam) (ix2 s q) + hDown (hRow bet) (ix2 s q)) := by
    rw [down_row, down_row, hNorm_at]
    exact ((norm_real _ (hP s) q).mul (hg _)).add (hb _)
  exact h

theorem dRows_real (U : Fin 4096 → Fin 1024 → EReal) (x : FVec Ideal S4096x1024 .f32) (sc : FVec Ideal S1x1024 .f32) (b : FVec Ideal S4096x1024 .f32)
    (hU : ∀ s q, IsReal (U s q)) (hx : ∀ i, IsReal (x i)) (hs : ∀ i, IsReal (sc i)) (hb : ∀ i, IsReal (b i)) (i : S4096x1024.Idx) : IsReal (dRows U x sc b i) := by
  unfold dRows
  exact (hb i).add (back_real _ _ (fun e => (hU _ e).mul (one_real.add (hs _))) (fun e => hx _) _).2

/-- The gradient of the rows before the norm, from that of the rows after its scale and shift. -/
def dSkip : FVec Ideal S4096x1024 .f32 := fun i => back (fun e => dv (ix2 (i 0) e) * gam (ix2 0 e)) (rowOf P (i 0)) (i 1)

/-- Rows under a row, as the reference multiplies them. -/
def hUnder : FVec Ideal S4096x1024 .f32 :=
  mulf (shapeCast _ dv shapeCasts_S4096x1024_S4096x1024) (hDown (hRow gam))

theorem same : (shapeCast S4096x1024 dv shapeCasts_S4096x1024_S4096x1024 : FVec Ideal S4096x1024 .f32) = dv := by
  funext i
  obtain ⟨s, q, rfl⟩ : ∃ (s : Fin 4096) (q : Fin 1024), i = ix2 s q := ⟨i 0, i 1, eq_ix2 i⟩
  pointwise []

theorem hUnder_at (s : Fin 4096) (q : Fin 1024) : hUnder dv gam (ix2 s q) = dv (ix2 s q) * gam (ix2 0 q) := by
  unfold hUnder
  rw [same]
  exact congrArg (dv (ix2 s q) * ·) (down_row gam s q)

/-- The reference's array is the same. -/
theorem skip_eq (hd : ∀ i, IsReal (dv i)) (hP : ∀ s q, IsReal (P (ix2 s q))) (hg : ∀ i, IsReal (gam i)) :
    hBack (hUnder dv gam) P = dSkip dv P gam := by
  funext i
  obtain ⟨s, q, rfl⟩ : ∃ (s : Fin 4096) (q : Fin 1024), i = ix2 s q := ⟨i 0, i 1, eq_ix2 i⟩
  have e : rowOf (hUnder dv gam) s = fun e => dv (ix2 s e) * gam (ix2 0 e) := funext fun e => hUnder_at dv gam s e
  refine (hBack_at _ _ s q (fun k => ?_) (hP s)).trans (congrArg (fun D => back D (rowOf P s) q) e)
  rw [hUnder_at]
  exact (hd _).mul (hg _)

/-- The gradient of the residual. -/
def dRes : FVec Ideal S4096x1024 .f32 := fun i => alpha * dr i

theorem res_eq : mulf (broadcastInDim S4096x1024 ![] bcast_S_S4096x1024 (constant (F := Ideal) S_ .f32 0x3FB504F3#32)) dr = dRes dr := by
  funext i
  obtain ⟨s, q, rfl⟩ : ∃ (s : Fin 4096) (q : Fin 1024), i = ix2 s q := ⟨i 0, i 1, eq_ix2 i⟩
  pointwise [dRes, alpha]

/-- The gradient of the layer under its gate. -/
def dGated : Fin 4096 → Fin 1024 → EReal := fun s q => g (ix2 0 q) * dr (ix2 s q)

/-- The same, as a half-width array. -/
def dLayer : FVec Ideal S4096x1024 .bf16 := fun i => dGated dr g (i 0) (i 1)

theorem gated_at (s : Fin 4096) (q : Fin 1024) : mulf (hDown g) dr (ix2 s q) = dGated dr g s q :=
  congrArg (· * dr (ix2 s q)) (hDown_at g s q)

theorem layer_eq : truncf .bf16 (mulf (hDown g) dr) bitsLt_bf16_f32 = dLayer dr g := by
  funext i
  obtain ⟨s, q, rfl⟩ : ∃ (s : Fin 4096) (q : Fin 1024), i = ix2 s q := ⟨i 0, i 1, eq_ix2 i⟩
  exact gated_at dr g s q

end Cert.NormNext

end
-- ==== Proof.NormFf.lean ====
/-
  The gradient of the channel mixer from its input projection back through the modulated norm and the norm before it: the
  kernel's blocks of 256 rows, and the sums it keeps over them, are the reference's, where the numbers are finite.
-/
module

public import proofs.«01_k».proof.Defs
public import proofs.«01_k».proof.Proof.Gen.Kernel20Ideal.Value
public import proofs.«01_k».proof.Proof.Gen.Reference20Ideal.Run
public import Idealize.ShloMosaic.Lib.Pipeline.ReadBack
public import proofs.«01_k».proof.Proof.NormNext
public import proofs.«01_k».proof.Proof.NormPre
public import Idealize.ShloMosaic.Lib.Pipeline.ValueKit
public import Idealize.ShloMosaic.Lib.Pointwise
public import Idealize.ShloMosaic.Lib.KernelVsHost

@[expose] public section

set_option maxRecDepth 16384

noncomputable section

namespace Cert.NormFf

open Idealize.ShloMosaic Idealize.ShloMosaic.TcCoe Idealize.ShloMosaic.Tactic Idealize.SL.Sem
open Idealize.ShloMosaic.Pipeline (Dat)
open Cert.RowNorm Cert.NormHost Cert.NormNext
open Cert.Attn.Ref (IsReal)

/-- The gradient through the layer's first projection. -/
def duFf (d : FVec Ideal ⟨2, ![4096, 4096]⟩ .bf16) (w : FVec Ideal ⟨2, ![4096, 1024]⟩ .bf16) (s : Fin 4096) (q : Fin 1024) : EReal :=
  ∑ e : Fin 4096, d (ix2 s e) * w (ix2 e q)

section Kernel

open Cert.Kernel20Ideal Cert.Kernel20Ideal.Gen Cert.Kernel20Ideal.Value

theorem pay1 (p : Vec Ideal S256x4096 .bf16) (w : Vec Ideal S4096x1024 .bf16) (r : Fin 256) (q : Fin 1024) :
    k0_pay1 p w (ix2 r q) = ∑ e : Fin 4096, p (ix2 r e) * w (ix2 e q) := by
  pointwise [k0_pay1]

theorem pay2 (x : Vec Ideal S256x1024 .f32) (r : Fin 256) (q : Fin 1024) : k0_pay2 x (ix2 r q) = centred (fun e => x (ix2 r e)) q := by
  pointwise [k0_pay2, centred, mean]

theorem pay3 (x : Vec Ideal S256x1024 .f32) (r : Fin 256) : k0_pay3 x (ix2 r (0 : Fin 1)) = rstd (fun e => x (ix2 r e)) := by
  unfold rstd spread
  simp only [← pay2]
  pointwise [k0_pay3, mean]

theorem pay4 (x : Vec Ideal S256x1024 .f32) (r : Fin 256) (q : Fin 1024) : k0_pay4 x (ix2 r q) = norm (fun e => x (ix2 r e)) q := by
  rw [norm_eq, ← pay2, ← pay3]
  pointwise [k0_pay4]

variable (p : Vec Ideal S256x4096 .bf16) (w : Vec Ideal S4096x1024 .bf16) (sc : Vec Ideal S1x1024 .f32) (x : FVec Ideal S256x1024 .f32)

theorem pay14 (r : Fin 256) (q : Fin 1024) : k0_pay14 x (ix2 r q) = centred (fun e => x (ix2 r e)) q := by
  pointwise [k0_pay14, centred, mean]

theorem pay15 (r : Fin 256) : k0_pay15 x (ix2 r (0 : Fin 1)) = rstd (fun e => x (ix2 r e)) := by
  unfold rstd spread
  simp only [← pay14]
  pointwise [k0_pay15, mean]

theorem pay16 (r : Fin 256) (q : Fin 1024) : k0_pay16 x (ix2 r q) = norm (fun e => x (ix2 r e)) q := by
  rw [norm_eq, ← pay14, ← pay15]
  pointwise [k0_pay16]

theorem pay5 (r : Fin 256) (q : Fin 1024) :
    k0_pay5 p w sc (ix2 r q) = k0_pay1 p w (ix2 r q) * (1 + sc (ix2 0 q)) := by
  pointwise [k0_pay5]

theorem pay6 (r : Fin 256) :
    k0_pay6 p w sc (ix2 r (0 : Fin 1)) = mean (fun e => k0_pay5 p w sc (ix2 r e)) := by
  pointwise [k0_pay6, mean]

variable (p : Vec Ideal S256x4096 .bf16) (w : Vec Ideal S4096x1024 .bf16) (x f : Vec Ideal S256x1024 .f32) (g : Vec Ideal S1x1024 .f32) (b : Vec Ideal S256x1024 .f32) (sc : Vec Ideal S1x1024 .f32)

theorem pay7 (r : Fin 256) :
    k0_pay7 p w x sc (ix2 r (0 : Fin 1)) = mean (fun e => k0_pay5 p w sc (ix2 r e) * norm (fun e => x (ix2 r e)) e) := by
  simp only [← pay4]
  pointwise [k0_pay7, mean]

/-- A block's rows after the modulated norm's gradient. -/
abbrev dvb (p : Vec Ideal S256x4096 .bf16) (w : Vec Ideal S4096x1024 .bf16) (x b : Vec Ideal S256x1024 .f32) (sc : Vec Ideal S1x1024 .f32) : FVec Ideal S256x1024 .f32 :=
  k0_pay8 (k0_pay3 x) (k0_pay4 x) b (k0_pay5 p w sc) (k0_pay6 p w sc) (k0_pay7 p w x sc)

theorem dvb_at (r : Fin 256) (q : Fin 1024) :
    dvb p w x b sc (ix2 r q) = b (ix2 r q) + back (fun e => k0_pay5 p w sc (ix2 r e)) (fun e => x (ix2 r e)) q := by
  unfold back
  rw [← pay6 p w sc r, ← pay7 p w x sc r, ← pay3 x r, ← pay4 x r q]
  pointwise [k0_pay8]

theorem pay13 (r : Fin 256) (q : Fin 1024) :
    k0_pay13 x f g (ix2 r q) = alpha * x (ix2 r q) + g (ix2 0 q) * f (ix2 r q) := by
  pointwise [k0_pay13, alpha]

variable (D : FVec Ideal S256x1024 .f32) (f : Vec Ideal S256x1024 .f32) (g gam : Vec Ideal S1x1024 .f32) (x : FVec Ideal S256x1024 .f32) (v : Vec Ideal S1x1024 .f32)

theorem pay17 (r : Fin 256) (q : Fin 1024) :
    k0_pay17 D gam x (ix2 r q) = back (fun e => D (ix2 r e) * gam (ix2 0 e)) (fun e => x (ix2 r e)) q := by
  unfold back
  simp only [← pay15, ← pay16]
  pointwise [k0_pay17, mean]

theorem pay18 (r : Fin 256) (q : Fin 1024) :
    k0_pay18 D gam x (ix2 r q) = alpha * k0_pay17 D gam x (ix2 r q) := by
  pointwise [k0_pay18, alpha]

theorem pay19 (r : Fin 256) (q : Fin 1024) :
    k0_pay19 D g gam x (ix2 r q) = g (ix2 0 q) * k0_pay17 D gam x (ix2 r q) := by
  pointwise [k0_pay19]

theorem pay20 (r : Fin 256) (q : Fin 1024) :
    k0_pay20 D x (ix2 r q) = D (ix2 r q) * norm (fun e => x (ix2 r e)) q := by
  rw [← pay16]
  pointwise [k0_pay20]

theorem pay21 (r : Fin 256) (q : Fin 1024) :
    k0_pay21 D f gam x (ix2 r q) = k0_pay17 D gam x (ix2 r q) * f (ix2 r q) := by
  pointwise [k0_pay21]

theorem pay22 (r : Fin 256) (q : Fin 1024) :
    k0_pay22 D g gam x (ix2 r q) = g (ix2 0 q) * k0_pay17 D gam x (ix2 r q) := by
  rw [← pay19]
  pointwise [k0_pay22]

theorem pay10 (q : Fin 1024) :
    k0_pay10 D x v (ix2 (0 : Fin 1) q) = v (ix2 0 q) + ∑ r : Fin 256, D (ix2 r q) * x (ix2 r q) := by
  pointwise [k0_pay10]

theorem pay12 (q : Fin 1024) :
    k0_pay12 D v (ix2 (0 : Fin 1) q) = v (ix2 0 q) + ∑ r : Fin 256, D (ix2 r q) := by
  pointwise [k0_pay12]

theorem pay24 (q : Fin 1024) :
    k0_pay24 D v (ix2 (0 : Fin 1) q) = v (ix2 0 q) + ∑ r : Fin 256, D (ix2 r q) := by
  pointwise [k0_pay24]

theorem pay26 (q : Fin 1024) :
    k0_pay26 D v (ix2 (0 : Fin 1) q) = v (ix2 0 q) + ∑ r : Fin 256, D (ix2 r q) := by
  pointwise [k0_pay26]

theorem pay28 (q : Fin 1024) :
    k0_pay28 D v (ix2 (0 : Fin 1) q) = v (ix2 0 q) + ∑ r : Fin 256, D (ix2 r q) := by
  pointwise [k0_pay28]

theorem pay30 (q : Fin 1024) :
    k0_pay30 D v (ix2 (0 : Fin 1) q) = v (ix2 0 q) + ∑ r : Fin 256, D (ix2 r q) := by
  pointwise [k0_pay30]

theorem pay9 (y : S1x1024.Idx) : k0_pay9 (F := Ideal) y = 0 := by
  pointwise [k0_pay9]

theorem pay11 (y : S1x1024.Idx) : k0_pay11 (F := Ideal) y = 0 := by
  pointwise [k0_pay11]

theorem pay23 (y : S1x1024.Idx) : k0_pay23 (F := Ideal) y = 0 := by
  pointwise [k0_pay23]

theorem pay25 (y : S1x1024.Idx) : k0_pay25 (F := Ideal) y = 0 := by
  pointwise [k0_pay25]

theorem pay27 (y : S1x1024.Idx) : k0_pay27 (F := Ideal) y = 0 := by
  pointwise [k0_pay27]

theorem pay29 (y : S1x1024.Idx) : k0_pay29 (F := Ideal) y = 0 := by
  pointwise [k0_pay29]

variable (m : (ℓ : Loc nD τ sig) → Buf (Elt Ideal) ℓ) (c : Dev nD)

/-- The arguments, as launched. -/
abbrev dA : FVec Ideal S4096x4096 .bf16 := m ((c : Thread nD τ).loc main_arg0)
abbrev wA : FVec Ideal S4096x1024 .bf16 := m ((c : Thread nD τ).loc main_arg1)
abbrev xA : FVec Ideal S4096x1024 .f32 := m ((c : Thread nD τ).loc main_arg2)
abbrev fA : FVec Ideal S4096x1024 .f32 := m ((c : Thread nD τ).loc main_arg3)
abbrev gA : FVec Ideal S1x1024 .f32 := m ((c : Thread nD τ).loc main_arg4)
abbrev gamA : FVec Ideal S1x1024 .f32 := m ((c : Thread nD τ).loc main_arg5)
abbrev betA : FVec Ideal S1x1024 .f32 := m ((c : Thread nD τ).loc main_arg6)
abbrev scA : FVec Ideal S1x1024 .f32 := m ((c : Thread nD τ).loc main_arg7)
abbrev bA : FVec Ideal S4096x1024 .f32 := m ((c : Thread nD τ).loc main_arg8)
abbrev uA : Fin 4096 → Fin 1024 → EReal := duFf (dA m c) (wA m c)

/-- The weighted sum before the norm, the norm's output, the gradients of both. -/
abbrev pA : FVec Ideal S4096x1024 .f32 := hSkip (xA m c) (fA m c) (gA m c)
abbrev yA : FVec Ideal S4096x1024 .f32 := hLayer (pA m c) (gamA m c) (betA m c)
abbrev vA : FVec Ideal S4096x1024 .f32 := dRows (uA m c) (yA m c) (scA m c) (bA m c)
abbrev sA : FVec Ideal S4096x1024 .f32 := dSkip (vA m c) (pA m c) (gamA m c)

theorem V_y : V m c main_v30 = yA m c := by
  unfold V
  simp only [hostOps0]
  after_results_simp
  rfl

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![0, 0] := by decide +kernel
theorem index16 : ∀ t : Fin cfg0.N, win0_16.index t = ![0, 0] := by decide +kernel

/-- The row of the whole that row `r` of block `t` is. -/
abbrev row (t : Fin cfg0.N) (r : Fin 256) : Fin 4096 := ⟨256 * t.val + r.val, by have : t.val < 16 := t.isLt; omega⟩

theorem read0 (t : Fin cfg0.N) (r : Fin 256) (q : Fin 4096) : iblk m c 0 t (ix2 r q) = dA m c (ix2 (row t r) q) := by
  have hV := V_main_arg0 m c
  blk_ext [iblk, hV, index0 t]

theorem read2 (t : Fin cfg0.N) (r : Fin 256) (q : Fin 1024) : iblk m c 2 t (ix2 r q) = yA m c (ix2 (row t r) q) := by
  have hV := V_y m c
  blk_ext [iblk, hV, index2 t]

theorem read4 (t : Fin cfg0.N) (r : Fin 256) (q : Fin 1024) : iblk m c 4 t (ix2 r q) = bA m c (ix2 (row t r) q) := by
  have hV := V_main_arg8 m c
  blk_ext [iblk, hV, index4 t]

theorem read5 (t : Fin cfg0.N) (r : Fin 256) (q : Fin 1024) : iblk m c 5 t (ix2 r q) = xA m c (ix2 (row t r) q) := by
  have hV := V_main_arg2 m c
  blk_ext [iblk, hV, index5 t]

theorem read6 (t : Fin cfg0.N) (r : Fin 256) (q : Fin 1024) : iblk m c 6 t (ix2 r q) = fA m c (ix2 (row t r) q) := by
  have hV := V_main_arg3 m c
  blk_ext [iblk, hV, index6 t]

theorem read1 (t : Fin cfg0.N) (k : Fin 4096) (q : Fin 1024) : iblk m c 1 t (ix2 k q) = wA m c (ix2 k q) := by
  have hV := V_main_arg1 m c
  blk_ext [iblk, hV, index1 t]

theorem read3 (t : Fin cfg0.N) (q : Fin 1024) : iblk m c 3 t (ix2 (0 : Fin 1) q) = scA m c (ix2 0 q) := by
  have hV := V_main_arg7 m c
  blk_ext [iblk, hV, index3 t]

theorem read7 (t : Fin cfg0.N) (q : Fin 1024) : iblk m c 7 t (ix2 (0 : Fin 1) q) = gA m c (ix2 0 q) := by
  have hV := V_main_arg4 m c
  blk_ext [iblk, hV, index7 t]

theorem read8 (t : Fin cfg0.N) (q : Fin 1024) : iblk m c 8 t (ix2 (0 : Fin 1) q) = gamA m c (ix2 0 q) := by
  have hV := V_main_arg5 m c
  blk_ext [iblk, hV, index8 t]

/-- A block's product, its rows after the modulated norm's gradient, its weighted sum. -/
abbrev ub (t : Fin cfg0.N) : FVec Ideal S256x1024 .f32 := k0_pay1 (iblk m c 0 t) (iblk m c 1 t)
abbrev vb (t : Fin cfg0.N) : FVec Ideal S256x1024 .f32 := dvb (iblk m c 0 t) (iblk m c 1 t) (iblk m c 2 t) (iblk m c 4 t) (iblk m c 3 t)
abbrev pb (t : Fin cfg0.N) : FVec Ideal S256x1024 .f32 := k0_pay13 (iblk m c 5 t) (iblk m c 6 t) (iblk m c 7 t)

theorem u_point (t : Fin cfg0.N) (r : Fin 256) (q : Fin 1024) : ub m c t (ix2 r q) = uA m c (row t r) q :=
  (pay1 _ _ r q).trans (Finset.sum_congr rfl fun e _ => congrArg₂ (· * ·) (read0 m c t r e) (read1 m c t e q))

theorem y_row (t : Fin cfg0.N) (r : Fin 256) : (fun e : Fin 1024 => iblk m c 2 t (ix2 r e)) = rowOf (yA m c) (row t r) := funext fun e => read2 m c t r e

theorem v_point (t : Fin cfg0.N) (r : Fin 256) (q : Fin 1024) : vb m c t (ix2 r q) = vA m c (ix2 (row t r) q) := by
  refine (dvb_at _ _ _ _ _ r q).trans ?_
  refine congrArg₂ (· + ·) (read4 m c t r q) ?_
  exact congrArg₂ (fun D X => back D X q) (funext fun e => (pay5 _ _ _ r e).trans (congrArg₂ (fun a b => a * (1 + b)) (u_point m c t r e) (read3 m c t e))) (y_row m c t r)

theorem p_row (t : Fin cfg0.N) (r : Fin 256) : (fun e : Fin 1024 => pb m c t (ix2 r e)) = rowOf (pA m c) (row t r) := by
  funext e
  refine (pay13 _ _ _ r e).trans (Eq.trans ?_ (hSkip_at (xA m c) (fA m c) (gA m c) (row t r) e).symm)
  exact congrArg₂ (· + ·) (congrArg (alpha * ·) (read5 m c t r e)) (congrArg₂ (· * ·) (read7 m c t e) (read6 m c t r e))

/-- A block's rows before the norm. -/
abbrev sb (t : Fin cfg0.N) : FVec Ideal S256x1024 .f32 := k0_pay17 (vb m c t) (iblk m c 8 t) (pb m c t)

theorem s_point (t : Fin cfg0.N) (r : Fin 256) (q : Fin 1024) : sb m c t (ix2 r q) = sA m c (ix2 (row t r) q) :=
  (pay17 _ _ _ r q).trans (congrArg₂ (fun D X => back D X q) (funext fun e => congrArg₂ (· * ·) (v_point m c t r e) (read8 m c t e)) (p_row m c t r))

theorem place9 (t : Fin cfg0.N) (r : Fin 256) (q : Fin 1024) : ((cfg0.win 9).blk t).view.emb (ix2 r q) = ix2 (row t r) q := by
  funext a; refine Fin.ext ?_
  blk_simp [index9 t]
  match a with
  | ⟨0, _⟩ => show t.val * 256 + r.val = 256 * t.val + r.val; omega
  | ⟨1, _⟩ => show 0 * 1024 + q.val = q.val; omega

theorem outs9 (t : Fin cfg0.N) : (outsAt0 m c t.val t.isLt).1 = k0_pay18 (vb m c t) (iblk m c 8 t) (pb m c t) := by
  by_cases h0 : t.val % 16 = 0
  · rw [outsAt0_A m c t h0 h0 h0 h0 h0 h0]
    frame_out
  · rw [outsAt0_B m c t h0 h0 h0 h0 h0 h0]
    frame_out

theorem block9 (t : Fin cfg0.N) (y : S256x1024.Idx) : (outsAt0 m c t.val t.isLt).1 y = dRes (sA m c) (((cfg0.win 9).blk t).view.emb y) := by
  obtain ⟨r, q, rfl⟩ : ∃ (r : Fin 256) (q : Fin 1024), y = ix2 r q := ⟨y 0, y 1, eq_ix2 y⟩
  rw [outs9, place9]
  exact (pay18 _ _ _ r q).trans (congrArg (alpha * ·) (s_point m c t r q))

theorem result9 : (dats m 0 c).arrAt 9 cfg0.N = dRes (sA m c) := by
  refine (dats m 0 c).arrAt_eq_of_covers 9 _ (by decide +kernel) fun t hf y => ?_
  rw [after0_9]
  have h := block9 m c t
  blk_simp
  exact h y

theorem place10 (t : Fin cfg0.N) (r : Fin 256) (q : Fin 1024) : ((cfg0.win 10).blk t).view.emb (ix2 r q) = ix2 (row t r) q := by
  funext a; refine Fin.ext ?_
  blk_simp [index10 t]
  match a with
  | ⟨0, _⟩ => show t.val * 256 + r.val = 256 * t.val + r.val; omega
  | ⟨1, _⟩ => show 0 * 1024 + q.val = q.val; omega

theorem outs10 (t : Fin cfg0.N) : (outsAt0 m c t.val t.isLt).2.1 = k0_pay22 (vb m c t) (iblk m c 7 t) (iblk m c 8 t) (pb m c t) := by
  by_cases h0 : t.val % 16 = 0
  · rw [outsAt0_A m c t h0 h0 h0 h0 h0 h0]
    frame_out
  · rw [outsAt0_B m c t h0 h0 h0 h0 h0 h0]
    frame_out

theorem block10 (t : Fin cfg0.N) (y : S256x1024.Idx) : (outsAt0 m c t.val t.isLt).2.1 y = dLayer (sA m c) (gA m c) (((cfg0.win 10).blk t).view.emb y) := by
  obtain ⟨r, q, rfl⟩ : ∃ (r : Fin 256) (q : Fin 1024), y = ix2 r q := ⟨y 0, y 1, eq_ix2 y⟩
  rw [outs10, place10]
  exact (pay22 _ _ _ _ r q).trans (congrArg₂ (· * ·) (read7 m c t q) (s_point m c t r q))

theorem result10 : (dats m 0 c).arrAt 10 cfg0.N = dLayer (sA m c) (gA m c) := by
  refine (dats m 0 c).arrAt_eq_of_covers 10 _ (by decide +kernel) fun t hf y => ?_
  rw [after0_10]
  have h := block10 m c t
  blk_simp
  exact h y

/-- An index of one row is its column. -/
theorem one_row (y : S1x1024.Idx) : ∃ q : Fin 1024, y = ix2 0 q := ⟨y 1, by funext a; match a with | ⟨0, _⟩ => exact Fin.eq_zero _ | ⟨1, _⟩ => rfl⟩

theorem step11 (t : Fin cfg0.N) (v : Vec Ideal S1x1024 .f32) (y : S1x1024.Idx) :
    k0_pay10 (ub m c t) (k0_pay4 (iblk m c 2 t)) v y = v y + term (fun s q => uA m c s q * norm (rowOf (yA m c) s) q) t.val y := by
  obtain ⟨q, rfl⟩ := one_row y
  refine (pay10 _ _ _ q).trans (congrArg (v (ix2 0 q) + ·) ?_)
  exact (Finset.sum_congr rfl fun r _ => congrArg₂ (· * ·) (u_point m c t r q) ((pay4 _ r q).trans (congrArg (norm · q) (y_row m c t r)))).trans (term_at (fun s q => uA m c s q * norm (rowOf (yA m c) s) q) t.val t.isLt q).symm

theorem outs11 (t : Fin cfg0.N) (y : S1x1024.Idx) : (outsAt0 m c t.val t.isLt).2.2.1 y
    = 0 + ∑ k ∈ Finset.range (t.val % 16 + 1), term (fun s q => uA m c s q * norm (rowOf (yA m c) s) q) (16 * (t.val / 16) + k) y := by
  refine Pipeline.eq_sum_of_reset_step_apply (fun n h => (outsAt0 m c n h).2.2.1) 16 (fun _ => 0) (term (fun s q => uA m c s q * norm (rowOf (yA m c) s) q)) (fun t h j => ?_) (fun t h j => ?_) t y
  · rw [outsAt0_A m c t h h h h h h]
    frame_open
    simp (disch := decide) only [↓ View.readCov_skip, ↓ View.readCov_fill]
    frame_out
    exact (step11 m c t _ j).trans (congrArg (· + _) (pay9 j))
  · rw [outsAt0_B m c t h h h h h h]
    frame_out
    exact step11 m c t _ j

theorem place11 (t : Fin cfg0.N) (q : Fin 1024) : ((cfg0.win 11).blk t).view.emb (ix2 (0 : Fin 1) q) = ix2 (0 : Fin 1) q := by
  funext a; refine Fin.ext ?_
  blk_simp [index11 t]
  match a with
  | ⟨0, _⟩ => show 0 * 1 + 0 = 0; omega
  | ⟨1, _⟩ => show 0 * 1024 + q.val = q.val; omega

theorem block11 (t : Fin cfg0.N) (ht : t.val % 16 = 15) (y : S1x1024.Idx) : (outsAt0 m c t.val t.isLt).2.2.1 y
    = dCol (fun s q => uA m c s q * norm (rowOf (yA m c) s) q) (((cfg0.win 11).blk t).view.emb y) := by
  obtain ⟨q, rfl⟩ := one_row y
  have h16 : t.val < 16 := t.isLt
  rw [outs11, place11]
  exact sum_terms (fun s q => uA m c s q * norm (rowOf (yA m c) s) q) t.val h16 ht q

theorem result11 : (dats m 0 c).arrAt 11 cfg0.N = dCol (fun s q => uA m c s q * norm (rowOf (yA m c) s) q) := by
  refine (dats m 0 c).arrAt_eq_of_covers 11 _ (by decide +kernel) fun t hf y => ?_
  rw [after0_11]
  have h := block11 m c t ((flush0_11 t).mp hf)
  blk_simp
  exact h y

theorem step12 (t : Fin cfg0.N) (v : Vec Ideal S1x1024 .f32) (y : S1x1024.Idx) :
    k0_pay12 (ub m c t) v y = v y + term (uA m c) t.val y := by
  obtain ⟨q, rfl⟩ := one_row y
  refine (pay12 _ _ q).trans (congrArg (v (ix2 0 q) + ·) ?_)
  exact (Finset.sum_congr rfl fun r _ => u_point m c t r q).trans (term_at (uA m c) t.val t.isLt q).symm

theorem outs12 (t : Fin cfg0.N) (y : S1x1024.Idx) : (outsAt0 m c t.val t.isLt).2.2.2.1 y
    = 0 + ∑ k ∈ Finset.range (t.val % 16 + 1), term (uA m c) (16 * (t.val / 16) + k) y := by
  refine Pipeline.eq_sum_of_reset_step_apply (fun n h => (outsAt0 m c n h).2.2.2.1) 16 (fun _ => 0) (term (uA m c)) (fun t h j => ?_) (fun t h j => ?_) t y
  · rw [outsAt0_A m c t h h h h h h]
    frame_open
    simp (disch := decide) only [↓ View.readCov_skip, ↓ View.readCov_fill]
    frame_out
    exact (step12 m c t _ j).trans (congrArg (· + _) (pay11 j))
  · rw [outsAt0_B m c t h h h h h h]
    frame_out
    exact step12 m c t _ j

theorem place12 (t : Fin cfg0.N) (q : Fin 1024) : ((cfg0.win 12).blk t).view.emb (ix2 (0 : Fin 1) q) = ix2 (0 : Fin 1) q := place11 t q

theorem block12 (t : Fin cfg0.N) (ht : t.val % 16 = 15) (y : S1x1024.Idx) : (outsAt0 m c t.val t.isLt).2.2.2.1 y
    = dCol (uA m c) (((cfg0.win 12).blk t).view.emb y) := by
  obtain ⟨q, rfl⟩ := one_row y
  have h16 : t.val < 16 := t.isLt
  rw [outs12, place12]
  exact sum_terms (uA m c) t.val h16 ht q

theorem result12 : (dats m 0 c).arrAt 12 cfg0.N = dCol (uA m c) := by
  refine (dats m 0 c).arrAt_eq_of_covers 12 _ (by decide +kernel) fun t hf y => ?_
  rw [after0_12]
  have h := block12 m c t ((flush0_12 t).mp hf)
  blk_simp
  exact h y

theorem step13 (t : Fin cfg0.N) (v : Vec Ideal S1x1024 .f32) (y : S1x1024.Idx) :
    k0_pay24 (k0_pay20 (vb m c t) (pb m c t)) v y = v y + term (fun s q => vA m c (ix2 s q) * norm (rowOf (pA m c) s) q) t.val y := by
  obtain ⟨q, rfl⟩ := one_row y
  refine (pay24 _ _ q).trans (congrArg (v (ix2 0 q) + ·) ?_)
  exact (Finset.sum_congr rfl fun r _ => (pay20 _ _ r q).trans (congrArg₂ (· * ·) (v_point m c t r q) (congrArg (norm · q) (p_row m c t r)))).trans (term_at (fun s q => vA m c (ix2 s q) * norm (rowOf (pA m c) s) q) t.val t.isLt q).symm

theorem outs13 (t : Fin cfg0.N) (y : S1x1024.Idx) : (outsAt0 m c t.val t.isLt).2.2.2.2.1 y
    = 0 + ∑ k ∈ Finset.range (t.val % 16 + 1), term (fun s q => vA m c (ix2 s q) * norm (rowOf (pA m c) s) q) (16 * (t.val / 16) + k) y := by
  refine Pipeline.eq_sum_of_reset_step_apply (fun n h => (outsAt0 m c n h).2.2.2.2.1) 16 (fun _ => 0) (term (fun s q => vA m c (ix2 s q) * norm (rowOf (pA m c) s) q)) (fun t h j => ?_) (fun t h j => ?_) t y
  · rw [outsAt0_A m c t h h h h h h]
    frame_open
    simp (disch := decide) only [↓ View.readCov_skip, ↓ View.readCov_fill]
    frame_out
    exact (step13 m c t _ j).trans (congrArg (· + _) (pay23 j))
  · rw [outsAt0_B m c t h h h h h h]
    frame_out
    exact step13 m c t _ j

theorem place13 (t : Fin cfg0.N) (q : Fin 1024) : ((cfg0.win 13).blk t).view.emb (ix2 (0 : Fin 1) q) = ix2 (0 : Fin 1) q := place11 t q

theorem block13 (t : Fin cfg0.N) (ht : t.val % 16 = 15) (y : S1x1024.Idx) : (outsAt0 m c t.val t.isLt).2.2.2.2.1 y
    = dCol (fun s q => vA m c (ix2 s q) * norm (rowOf (pA m c) s) q) (((cfg0.win 13).blk t).view.emb y) := by
  obtain ⟨q, rfl⟩ := one_row y
  have h16 : t.val < 16 := t.isLt
  rw [outs13, place13]
  exact sum_terms (fun s q => vA m c (ix2 s q) * norm (rowOf (pA m c) s) q) t.val h16 ht q

theorem result13 : (dats m 0 c).arrAt 13 cfg0.N = dCol (fun s q => vA m c (ix2 s q) * norm (rowOf (pA m c) s) q) := by
  refine (dats m 0 c).arrAt_eq_of_covers 13 _ (by decide +kernel) fun t hf y => ?_
  rw [after0_13]
  have h := block13 m c t ((flush0_13 t).mp hf)
  blk_simp
  exact h y

theorem step14 (t : Fin cfg0.N) (v : Vec Ideal S1x1024 .f32) (y : S1x1024.Idx) :
    k0_pay26 (vb m c t) v y = v y + term (fun s q => vA m c (ix2 s q)) t.val y := by
  obtain ⟨q, rfl⟩ := one_row y
  refine (pay26 _ _ q).trans (congrArg (v (ix2 0 q) + ·) ?_)
  exact (Finset.sum_congr rfl fun r _ => v_point m c t r q).trans (term_at (fun s q => vA m c (ix2 s q)) t.val t.isLt q).symm

theorem outs14 (t : Fin cfg0.N) (y : S1x1024.Idx) : (outsAt0 m c t.val t.isLt).2.2.2.2.2.1 y
    = 0 + ∑ k ∈ Finset.range (t.val % 16 + 1), term (fun s q => vA m c (ix2 s q)) (16 * (t.val / 16) + k) y := by
  refine Pipeline.eq_sum_of_reset_step_apply (fun n h => (outsAt0 m c n h).2.2.2.2.2.1) 16 (fun _ => 0) (term (fun s q => vA m c (ix2 s q))) (fun t h j => ?_) (fun t h j => ?_) t y
  · rw [outsAt0_A m c t h h h h h h]
    frame_open
    simp (disch := decide) only [↓ View.readCov_skip, ↓ View.readCov_fill]
    frame_out
    exact (step14 m c t _ j).trans (congrArg (· + _) (pay25 j))
  · rw [outsAt0_B m c t h h h h h h]
    frame_out
    exact step14 m c t _ j

theorem place14 (t : Fin cfg0.N) (q : Fin 1024) : ((cfg0.win 14).blk t).view.emb (ix2 (0 : Fin 1) q) = ix2 (0 : Fin 1) q := place11 t q

theorem block14 (t : Fin cfg0.N) (ht : t.val % 16 = 15) (y : S1x1024.Idx) : (outsAt0 m c t.val t.isLt).2.2.2.2.2.1 y
    = dCol (fun s q => vA m c (ix2 s q)) (((cfg0.win 14).blk t).view.emb y) := by
  obtain ⟨q, rfl⟩ := one_row y
  have h16 : t.val < 16 := t.isLt
  rw [outs14, place14]
  exact sum_terms (fun s q => vA m c (ix2 s q)) t.val h16 ht q

theorem result14 : (dats m 0 c).arrAt 14 cfg0.N = dCol (fun s q => vA m c (ix2 s q)) := by
  refine (dats m 0 c).arrAt_eq_of_covers 14 _ (by decide +kernel) fun t hf y => ?_
  rw [after0_14]
  have h := block14 m c t ((flush0_14 t).mp hf)
  blk_simp
  exact h y

theorem step15 (t : Fin cfg0.N) (v : Vec Ideal S1x1024 .f32) (y : S1x1024.Idx) :
    k0_pay28 (k0_pay21 (vb m c t) (iblk m c 6 t) (iblk m c 8 t) (pb m c t)) v y = v y + term (fun s q => sA m c (ix2 s q) * fA m c (ix2 s q)) t.val y := by
  obtain ⟨q, rfl⟩ := one_row y
  refine (pay28 _ _ q).trans (congrArg (v (ix2 0 q) + ·) ?_)
  exact (Finset.sum_congr rfl fun r _ => (pay21 _ _ _ _ r q).trans (congrArg₂ (· * ·) (s_point m c t r q) (read6 m c t r q))).trans (term_at (fun s q => sA m c (ix2 s q) * fA m c (ix2 s q)) t.val t.isLt q).symm

theorem outs15 (t : Fin cfg0.N) (y : S1x1024.Idx) : (outsAt0 m c t.val t.isLt).2.2.2.2.2.2.1 y
    = 0 + ∑ k ∈ Finset.range (t.val % 16 + 1), term (fun s q => sA m c (ix2 s q) * fA m c (ix2 s q)) (16 * (t.val / 16) + k) y := by
  refine Pipeline.eq_sum_of_reset_step_apply (fun n h => (outsAt0 m c n h).2.2.2.2.2.2.1) 16 (fun _ => 0) (term (fun s q => sA m c (ix2 s q) * fA m c (ix2 s q))) (fun t h j => ?_) (fun t h j => ?_) t y
  · rw [outsAt0_A m c t h h h h h h]
    frame_open
    simp (disch := decide) only [↓ View.readCov_skip, ↓ View.readCov_fill]
    frame_out
    exact (step15 m c t _ j).trans (congrArg (· + _) (pay27 j))
  · rw [outsAt0_B m c t h h h h h h]
    frame_out
    exact step15 m c t _ j

theorem place15 (t : Fin cfg0.N) (q : Fin 1024) : ((cfg0.win 15).blk t).view.emb (ix2 (0 : Fin 1) q) = ix2 (0 : Fin 1) q := place11 t q

theorem block15 (t : Fin cfg0.N) (ht : t.val % 16 = 15) (y : S1x1024.Idx) : (outsAt0 m c t.val t.isLt).2.2.2.2.2.2.1 y
    = dCol (fun s q => sA m c (ix2 s q) * fA m c (ix2 s q)) (((cfg0.win 15).blk t).view.emb y) := by
  obtain ⟨q, rfl⟩ := one_row y
  have h16 : t.val < 16 := t.isLt
  rw [outs15, place15]
  exact sum_terms (fun s q => sA m c (ix2 s q) * fA m c (ix2 s q)) t.val h16 ht q

theorem result15 : (dats m 0 c).arrAt 15 cfg0.N = dCol (fun s q => sA m c (ix2 s q) * fA m c (ix2 s q)) := by
  refine (dats m 0 c).arrAt_eq_of_covers 15 _ (by decide +kernel) fun t hf y => ?_
  rw [after0_15]
  have h := block15 m c t ((flush0_15 t).mp hf)
  blk_simp
  exact h y

end Kernel

section Reference

open Cert.Reference20Ideal Cert.Reference20Ideal.Gen

variable (d : FVec Ideal S4096x4096 .bf16) (w : FVec Ideal S4096x1024 .bf16)

/-- The reference's product. -/
def hFf : FVec Ideal S4096x1024 .f32 :=
  Host.dotGeneral dot_S4096x4096_S1024x4096_S4096x1024_1_1_0_0_n_n none (extf .f32 d bitsLt_bf16_f32) (transpose S1024x4096 [1, 0] (extf .f32 w bitsLt_bf16_f32) transposes_S4096x1024_S1024x4096_1_0)

theorem hFf_at (s : Fin 4096) (q : Fin 1024) : hFf d w (ix2 s q) = duFf d w s q := by
  pointwise [hFf, duFf]

theorem duFf_real (hd : ∀ i, IsReal (d i)) (hw : ∀ i, IsReal (w i)) (s : Fin 4096) (q : Fin 1024) : IsReal (duFf d w s q) :=
  IsReal.sum _ _ fun e => (hd _).mul (hw _)

variable (d : FVec Ideal S4096x4096 .bf16) (w : FVec Ideal S4096x1024 .bf16) (x : FVec Ideal S4096x1024 .f32) (f : FVec Ideal S4096x1024 .f32) (g : FVec Ideal S1x1024 .f32) (gam : FVec Ideal S1x1024 .f32) (bet : FVec Ideal S1x1024 .f32) (sc : FVec Ideal S1x1024 .f32) (b : FVec Ideal S4096x1024 .f32)

/-- The reference's gradient of the norm's output. -/
def hV : FVec Ideal S4096x1024 .f32 := hBackOn b (hScaled (hFf d w) sc) (hLayer (hSkip x f g) gam bet)

/-- The reference's gradient of the weighted sum before the norm. -/
def hS : FVec Ideal S4096x1024 .f32 := hBack (hUnder (hV d w x f g gam bet sc b) gam) (hSkip x f g)

variable (hd : ∀ i, IsReal (d i)) (hw : ∀ i, IsReal (w i)) (hx : ∀ i, IsReal (x i)) (hf : ∀ i, IsReal (f i)) (hg : ∀ i, IsReal (g i)) (hgam : ∀ i, IsReal (gam i)) (hbet : ∀ i, IsReal (bet i)) (hsc : ∀ i, IsReal (sc i)) (hb : ∀ i, IsReal (b i))
include hd hw hx hf hg hgam hbet hsc

theorem hV_eq : hV d w x f g gam bet sc b = dRows (duFf d w) (hLayer (hSkip x f g) gam bet) sc b :=
  rows_eq _ _ (hFf_at d w) _ _ _ (duFf_real d w hd hw) (hLayer_real _ gam bet (hSkip_real x f g hx hf hg) hgam hbet) hsc

include hb

theorem hS_eq : hS d w x f g gam bet sc b = dSkip (dRows (duFf d w) (hLayer (hSkip x f g) gam bet) sc b) (hSkip x f g) gam := by
  unfold hS
  rw [hV_eq d w x f g gam bet sc b hd hw hx hf hg hgam hbet hsc]
  exact skip_eq _ _ gam (dRows_real _ _ sc b (duFf_real d w hd hw) (hLayer_real _ gam bet (hSkip_real x f g hx hf hg) hgam hbet) hsc hb) (hSkip_real x f g hx hf hg) hgam

end Reference

section Launched

open Cert.Reference20Ideal

variable (m : (ℓ : Loc nD τ sig) → Buf (Elt Ideal) ℓ) (c : Dev nD)

/-- The reference's arguments, as launched. -/
abbrev r0 : FVec Ideal S4096x4096 .bf16 := m ((c.tc : Thread nD τ).loc main_arg0)
abbrev r1 : FVec Ideal S4096x1024 .bf16 := m ((c.tc : Thread nD τ).loc main_arg1)
abbrev r2 : FVec Ideal S4096x1024 .f32 := m ((c.tc : Thread nD τ).loc main_arg2)
abbrev r3 : FVec Ideal S4096x1024 .f32 := m ((c.tc : Thread nD τ).loc main_arg3)
abbrev r4 : FVec Ideal S1x1024 .f32 := m ((c.tc : Thread nD τ).loc main_arg4)
abbrev r5 : FVec Ideal S1x1024 .f32 := m ((c.tc : Thread nD τ).loc main_arg5)
abbrev r6 : FVec Ideal S1x1024 .f32 := m ((c.tc : Thread nD τ).loc main_arg6)
abbrev r7 : FVec Ideal S1x1024 .f32 := m ((c.tc : Thread nD τ).loc main_arg7)
abbrev r8 : FVec Ideal S4096x1024 .f32 := m ((c.tc : Thread nD τ).loc main_arg8)

end Launched

set_option maxHeartbeats 2000000 in
/-- The kernel and the reference give the same two arrays and the same five sums. -/
theorem algebraic : @Cert.algebraic_Kernel20Ideal_Reference20Ideal_pre_finite_channel_mixer_in Cert.Kernel20Ideal.Gen.facts Cert.Reference20Ideal.Gen.facts Cert.NormPre.channel_mixer_in.facts := by
  intro m g m' g' hp ha
  refine ⟨fun c => dRes (sA m c), fun c => dLayer (sA m c) (gA m c), fun c => dCol (fun s q => uA m c s q * norm (rowOf (yA m c) s) q), fun c => dCol (uA m c),
    fun c => dCol (fun s q => vA m c (ix2 s q) * norm (rowOf (pA m c) s) q), fun c => dCol (fun s q => vA m c (ix2 s q)), fun c => dCol (fun s q => sA m c (ix2 s q) * fA m c (ix2 s q)), ?_, ?_⟩
  · exact (θ_run Cert.Kernel20Ideal.defs _ _).mono (fun r h c => ⟨(h c).1.trans (result9 m c), (h c).2.1.trans (result10 m c), (h c).2.2.1.trans (result11 m c), (h c).2.2.2.1.trans (result12 m c),
      (h c).2.2.2.2.1.trans (result13 m c), (h c).2.2.2.2.2.1.trans (result14 m c), (h c).2.2.2.2.2.2.1.trans (result15 m c), (h c).2.2.2.2.2.2.2.2⟩) (Cert.Kernel20Ideal.Value.run_blocks m g)
  · refine (θ_run Cert.Reference20Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_,
      (h c).2.2.2.2.2.2.1.trans ?_, (h c).2.2.2.2.2.2.2⟩) (Cert.Reference20Ideal.Value.run (F := Ideal) m' g')
    all_goals
      obtain ⟨p0, p1, p2, p3, p4, p5, p6, p7, p8⟩ := hp c
      have ev := hV_eq (dA m c) (wA m c) (xA m c) (fA m c) (gA m c) (gamA m c) (betA m c) (scA m c) (bA m c) (NormPre.channel_mixer_in.real0 _ _ _ _ _ _ _ _ _ p0) (NormPre.channel_mixer_in.real1 _ _ _ _ _ _ _ _ _ p1) (NormPre.channel_mixer_in.real2 _ _ _ _ _ _ _ _ _ p2) (NormPre.channel_mixer_in.real3 _ _ _ _ _ _ _ _ _ p3) (NormPre.channel_mixer_in.real4 _ _ _ _ _ _ _ _ _ p4) (NormPre.channel_mixer_in.real5 _ _ _ _ _ _ _ _ _ p5) (NormPre.channel_mixer_in.real6 _ _ _ _ _ _ _ _ _ p6) (NormPre.channel_mixer_in.real7 _ _ _ _ _ _ _ _ _ p7)
      have es := hS_eq (dA m c) (wA m c) (xA m c) (fA m c) (gA m c) (gamA m c) (betA m c) (scA m c) (bA m c) (NormPre.channel_mixer_in.real0 _ _ _ _ _ _ _ _ _ p0) (NormPre.channel_mixer_in.real1 _ _ _ _ _ _ _ _ _ p1) (NormPre.channel_mixer_in.real2 _ _ _ _ _ _ _ _ _ p2) (NormPre.channel_mixer_in.real3 _ _ _ _ _ _ _ _ _ p3) (NormPre.channel_mixer_in.real4 _ _ _ _ _ _ _ _ _ p4) (NormPre.channel_mixer_in.real5 _ _ _ _ _ _ _ _ _ p5) (NormPre.channel_mixer_in.real6 _ _ _ _ _ _ _ _ _ p6) (NormPre.channel_mixer_in.real7 _ _ _ _ _ _ _ _ _ p7) (NormPre.channel_mixer_in.real8 _ _ _ _ _ _ _ _ _ p8)
      have a0 : r0 m' c = dA m c := (ha c).1
      have a1 : r1 m' c = wA m c := (ha c).2.1
      have a2 : r2 m' c = xA m c := (ha c).2.2.1
      have a3 : r3 m' c = fA m c := (ha c).2.2.2.1
      have a4 : r4 m' c = gA m c := (ha c).2.2.2.2.1
      have a5 : r5 m' c = gamA m c := (ha c).2.2.2.2.2.1
      have a6 : r6 m' c = betA m c := (ha c).2.2.2.2.2.2.1
      have a7 : r7 m' c = scA m c := (ha c).2.2.2.2.2.2.2.1
      have a8 : r8 m' c = bA m c := (ha c).2.2.2.2.2.2.2.2
    · show mulf (broadcastInDim Reference20Ideal.S4096x1024 ![] Reference20Ideal.Gen.bcast_S_S4096x1024 (constant Reference20Ideal.S_ .f32 0x3FB504F3#32)) (hS (r0 m' c) (r1 m' c) (r2 m' c) (r3 m' c) (r4 m' c) (r5 m' c) (r6 m' c) (r7 m' c) (r8 m' c)) = _
      rw [a0, a1, a2, a3, a4, a5, a6, a7, a8, es]
      exact res_eq _
    · show truncf .bf16 (mulf (hDown (r4 m' c)) (hS (r0 m' c) (r1 m' c) (r2 m' c) (r3 m' c) (r4 m' c) (r5 m' c) (r6 m' c) (r7 m' c) (r8 m' c))) Reference20Ideal.Gen.bitsLt_bf16_f32 = _
      rw [a0, a1, a2, a3, a4, a5, a6, a7, a8, es]
      exact layer_eq _ _
    · show hSum (mulf (hNorm (hLayer (hSkip (r2 m' c) (r3 m' c) (r4 m' c)) (r5 m' c) (r6 m' c))) (hFf (r0 m' c) (r1 m' c))) = _
      rw [a0, a1, a2, a3, a4, a5, a6]
      exact col_eq _ _ fun s q => (congrArg₂ (· * ·) (hNorm_at (yA m c) s q) (hFf_at (dA m c) (wA m c) s q)).trans (mul_comm _ _)
    · show hSum (hFf (r0 m' c) (r1 m' c)) = _
      rw [a0, a1]
      exact col_eq _ _ (hFf_at (dA m c) (wA m c))
    · show hSumVec (mulf (hNorm (hSkip (r2 m' c) (r3 m' c) (r4 m' c))) (shapeCast Reference20Ideal.S4096x1024 (hV (r0 m' c) (r1 m' c) (r2 m' c) (r3 m' c) (r4 m' c) (r5 m' c) (r6 m' c) (r7 m' c) (r8 m' c)) Reference20Ideal.Gen.shapeCasts_S4096x1024_S4096x1024)) = _
      rw [a0, a1, a2, a3, a4, a5, a6, a7, a8, ev, same]
      exact colVec_eq _ _ fun s q => (congrArg (· * vA m c (ix2 s q)) (hNorm_at (pA m c) s q)).trans (mul_comm _ _)
    · show hSumVec (hV (r0 m' c) (r1 m' c) (r2 m' c) (r3 m' c) (r4 m' c) (r5 m' c) (r6 m' c) (r7 m' c) (r8 m' c)) = _
      rw [a0, a1, a2, a3, a4, a5, a6, a7, a8, ev]
      exact colVec_eq _ _ fun s q => rfl
    · show hSum (mulf (hS (r0 m' c) (r1 m' c) (r2 m' c) (r3 m' c) (r4 m' c) (r5 m' c) (r6 m' c) (r7 m' c) (r8 m' c)) (r3 m' c)) = _
      rw [a0, a1, a2, a3, a4, a5, a6, a7, a8, es]
      exact col_eq _ _ fun s q => rfl

end Cert.NormFf

end
-- ==== Proof.FirstNorm.lean ====
/-
  The first norm of the stream: each row's norm, scaled and shifted.
-/
module

public import proofs.«01_k».proof.Defs
public import proofs.«01_k».proof.Proof.Gen.Kernel21Ideal.Value
public import proofs.«01_k».proof.Proof.Gen.Reference21Ideal.Run
public import proofs.«01_k».proof.Proof.RowNorm
public import Idealize.ShloMosaic.Lib.Tactic.CleanTypes
public import Idealize.ShloMosaic.Lib.Pipeline.ValueKit
public import Idealize.ShloMosaic.Lib.Pointwise
public import Idealize.ShloMosaic.Lib.KernelVsHost

@[expose] public section

set_option maxRecDepth 16384

noncomputable section

namespace Cert.FirstNorm

open Idealize.ShloMosaic Idealize.ShloMosaic.TcCoe Idealize.ShloMosaic.Tactic Idealize.SL.Sem
open Idealize.ShloMosaic.Pipeline (Dat)

section Kernel

open Cert.Kernel21Ideal Cert.Kernel21Ideal.Gen Cert.Kernel21Ideal.Value

/-- The row's norm, scaled by one and its scale, and shifted. -/
def out (x : FVec Ideal S4096x1024 .f32) (sc sh : FVec Ideal S1x1024 .f32) : FVec Ideal S4096x1024 .bf16 :=
  fun i => RowNorm.norm (fun e => x (ix2 (i 0) e)) (i 1) * (1 + sc (ix2 0 (i 1))) + sh (ix2 0 (i 1))

theorem pay (x : Vec Ideal S512x1024 .f32) (sc sh : Vec Ideal S1x1024 .f32) (r : Fin 512) (q : Fin 1024) : k0_pay1 x sc sh (ix2 r q) = RowNorm.norm (fun e => x (ix2 r e)) q * (1 + sc (ix2 0 q)) + sh (ix2 0 q) := by
  pointwise [k0_pay1, RowNorm.norm, RowNorm.mean]

variable (m : (ℓ : Loc nD τ sig) → Buf (Elt Ideal) ℓ) (c : Dev nD)

abbrev x0 : FVec Ideal S4096x1024 .f32 := m ((c : Thread nD τ).loc main_arg0)
abbrev sc0 : FVec Ideal S1x1024 .f32 := m ((c : Thread nD τ).loc main_arg1)
abbrev sh0 : FVec Ideal S1x1024 .f32 := m ((c : Thread nD τ).loc main_arg2)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0] := by decide +kernel

/-- The row of the stream that row `r` of block `t` is. -/
abbrev row (t : Fin cfg0.N) (r : Fin 512) : Fin 4096 := ⟨512 * t.val + r.val, by have : t.val < 8 := t.isLt; omega⟩

theorem read0 (t : Fin cfg0.N) (r : Fin 512) (e : Fin 1024) : iblk m c 0 t (ix2 r e) = x0 m c (ix2 (row t r) e) := by
  blk_ext [iblk, V, index0 t]

theorem read1 (t : Fin cfg0.N) (q : Fin 1024) : iblk m c 1 t (ix2 (0 : Fin 1) q) = sc0 m c (ix2 0 q) := by
  blk_ext [iblk, V, index1 t]

theorem read2 (t : Fin cfg0.N) (q : Fin 1024) : iblk m c 2 t (ix2 (0 : Fin 1) q) = sh0 m c (ix2 0 q) := by
  blk_ext [iblk, V, index2 t]

theorem place3 (t : Fin cfg0.N) (r : Fin 512) (q : Fin 1024) : ((cfg0.win 3).blk t).view.emb (ix2 r q) = ix2 (row t r) q := by
  funext a; refine Fin.ext ?_
  blk_simp [index3 t]
  match a with
  | ⟨0, _⟩ => show t.val * 512 + r.val = 512 * t.val + r.val; omega
  | ⟨1, _⟩ => show 0 * 1024 + q.val = q.val; omega

theorem block3 (t : Fin cfg0.N) (y : S512x1024.Idx) : k0_pay1 (iblk m c 0 t) (iblk m c 1 t) (iblk m c 2 t) y = out (x0 m c) (sc0 m c) (sh0 m c) (((cfg0.win 3).blk t).view.emb y) := by
  obtain ⟨r, q, rfl⟩ : ∃ (r : Fin 512) (q : Fin 1024), y = ix2 r q := ⟨y 0, y 1, eq_ix2 y⟩
  refine (pay (iblk m c 0 t) (iblk m c 1 t) (iblk m c 2 t) r q).trans (Eq.trans ?_ (congrArg (out _ _ _) (place3 t r q).symm))
  exact congrArg₂ (· + ·) (congrArg₂ (· * ·) (congrArg (RowNorm.norm · q) (funext fun e => read0 m c t r e)) (congrArg (1 + ·) (read1 m c t q))) (read2 m c t q)

theorem result3 : (dats m 0 c).arrAt 3 cfg0.N = out (x0 m c) (sc0 m c) (sh0 m c) := by
  refine (dats m 0 c).arrAt_eq_of_covers 3 _ (by decide +kernel) fun t hf y => ?_
  rw [after0_3]
  have h := block3 m c t
  blk_simp
  frame_out
  exact h y

end Kernel

section Reference

open Cert.Reference21Ideal Cert.Reference21Ideal.Gen Cert.Reference21Ideal.Value

/-- The reference's norm of all rows. -/
def hNorm (X : FVec Ideal S4096x1024 .f32) : FVec Ideal S4096x1024 .f32 :=
  have mu : FVec Ideal S4096x1 .f32 := Host.divf (broadcastInDim S4096x1 ![0] bcast_S4096_S4096x1_0 (Host.reduceAdd X (constant S_ .f32 0x00000000#32) reducesTo_S4096x1024_S4096_d1 h_S_)) (broadcastInDim S4096x1 ![] bcast_S_S4096x1 (constant S_ .f32 0x44800000#32))
  have d : FVec Ideal S4096x1024 .f32 := subf X (broadcastInDim S4096x1024 ![0, 1] bcast_S4096x1_S4096x1024_0_1 mu)
  mulf d (broadcastInDim S4096x1024 ![0, 1] bcast_S4096x1_S4096x1024_0_1 (Host.rsqrt (addf (Host.divf (broadcastInDim S4096x1 ![0] bcast_S4096_S4096x1_0 (Host.reduceAdd (mulf d d) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))

theorem hNorm_at (X : FVec Ideal S4096x1024 .f32) (r : Fin 4096) (q : Fin 1024) : hNorm X (ix2 r q) = RowNorm.norm (fun e => X (ix2 r e)) q := by
  pointwise [hNorm, RowNorm.norm, RowNorm.mean]

/-- The reference's scale, one more than given. -/
def hScale (sc : FVec Ideal S1x1024 .f32) : FVec Ideal S4096x1024 .f32 :=
  broadcastInDim S4096x1024 ![0, 1] bcast_S1x1024_S4096x1024_0_1 (addf (broadcastInDim S1x1024 ![] bcast_S_S1x1024 (constant S_ .f32 0x3F800000#32)) sc)

theorem hScale_at (sc : FVec Ideal S1x1024 .f32) (r : Fin 4096) (q : Fin 1024) : hScale sc (ix2 r q) = 1 + sc (ix2 0 q) := by
  pointwise [hScale]

theorem hShift_at (sh : FVec Ideal S1x1024 .f32) (r : Fin 4096) (q : Fin 1024) : (broadcastInDim S4096x1024 ![0, 1] bcast_S1x1024_S4096x1024_0_1 sh : FVec Ideal S4096x1024 .f32) (ix2 r q) = sh (ix2 0 q) := by
  pointwise []

end Reference

open Cert.Kernel21Ideal Cert.Kernel21Ideal.Gen Cert.Kernel21Ideal.Value in
theorem algebraic : @Cert.algebraic_Kernel21Ideal_Reference21Ideal Cert.Kernel21Ideal.Gen.facts Cert.Reference21Ideal.Gen.facts := by
  intro m g m' g' _ ha
  refine ⟨fun c => out (x0 m c) (sc0 m c) (sh0 m c), ?_, ?_⟩
  · exact (θ_run Cert.Kernel21Ideal.defs _ _).mono (fun r h c => ⟨(h c).1.trans (result3 m c), (h c).2⟩) (run_blocks (F := Ideal) m g)
  · refine (θ_run Cert.Reference21Ideal.defs _ _).mono (fun r h c => ⟨(h c).1.trans ?_, (h c).2⟩) (Cert.Reference21Ideal.Value.run (F := Ideal) m' g')
    rw [(ha c).1, (ha c).2.1, (ha c).2.2]
    show _ = out (x0 m c) (sc0 m c) (sh0 m c)
    funext i
    obtain ⟨r, q, rfl⟩ : ∃ (r : Fin 4096) (q : Fin 1024), i = ix2 r q := ⟨i 0, i 1, eq_ix2 i⟩
    exact congrArg₂ (· + ·) (congrArg₂ (· * ·) (hNorm_at (x0 m c) r q) (hScale_at (sc0 m c) r q)) (hShift_at (sh0 m c) r q)

end Cert.FirstNorm

end
-- ==== Proof.Merge.lean ====
/-
  The merge of the three branches: each by the sigmoid of its gate, added.
-/
module

public import proofs.«01_k».proof.Defs
public import proofs.«01_k».proof.Proof.Gen.Kernel22Ideal.Value
public import proofs.«01_k».proof.Proof.Gen.Reference22Ideal.Run
public import proofs.«01_k».proof.Proof.MergeGrad
public import Idealize.ShloMosaic.Lib.Pipeline.ValueKit
public import Idealize.ShloMosaic.Lib.Pointwise
public import Idealize.ShloMosaic.Lib.KernelVsHost

@[expose] public section

set_option maxRecDepth 16384

noncomputable section

namespace Cert.Merge

open Idealize.ShloMosaic Idealize.ShloMosaic.TcCoe Idealize.ShloMosaic.Tactic Idealize.SL.Sem
open Idealize.ShloMosaic.Pipeline (Dat)

open Cert.MergeGrad (gate)
open Cert.Kernel22Ideal Cert.Kernel22Ideal.Gen Cert.Kernel22Ideal.Value

/-- A column of the branches among the gates of branch `k`. -/
abbrev col (k : ℕ) (hk : k < 3) (q : Fin 1024) : Fin 3072 := ⟨1024 * k + q.val, by omega⟩

/-- The three branches by their gates, added in their order. -/
def out (z : FVec Ideal S4096x3072 .bf16) (b : FVec Ideal S1x3072 .f32) (y0 y1 y2 : FVec Ideal S4096x1024 .bf16) : FVec Ideal S4096x1024 .bf16 :=
  fun i => gate (z (ix2 (i 0) (col 0 (by omega) (i 1))) + b (ix2 0 (col 0 (by omega) (i 1)))) * y0 i + gate (z (ix2 (i 0) (col 1 (by omega) (i 1))) + b (ix2 0 (col 1 (by omega) (i 1)))) * y1 i + gate (z (ix2 (i 0) (col 2 (by omega) (i 1))) + b (ix2 0 (col 2 (by omega) (i 1)))) * y2 i

theorem pay2 (z0 : Vec Ideal S512x1024 .bf16) (b0 : Vec Ideal S1x1024 .f32) (y0 : Vec Ideal S512x1024 .bf16) (z1 : Vec Ideal S512x1024 .bf16) (b1 : Vec Ideal S1x1024 .f32) (y1 : Vec Ideal S512x1024 .bf16) (r : Fin 512) (q : Fin 1024) :
    k0_pay2 z0 b0 y0 z1 b1 y1 (ix2 r q) = gate (z0 (ix2 r q) + b0 (ix2 0 q)) * y0 (ix2 r q) + gate (z1 (ix2 r q) + b1 (ix2 0 q)) * y1 (ix2 r q) := by
  pointwise [k0_pay2, gate]
  simp only [sub_eq_add_neg, zero_add]

theorem pay1 (S : FVec Ideal S512x1024 .f32) (z : Vec Ideal S512x1024 .bf16) (b : Vec Ideal S1x1024 .f32) (y : Vec Ideal S512x1024 .bf16) (r : Fin 512) (q : Fin 1024) :
    k0_pay1 S (k0_pay3 z b) (Scalar.ofBits .f32 0x00000000#32) y (ix2 r q) = S (ix2 r q) + gate (z (ix2 r q) + b (ix2 0 q)) * y (ix2 r q) := by
  pointwise [k0_pay1, k0_pay3, gate]
  simp only [sub_eq_add_neg, zero_add]

variable (m : (ℓ : Loc nD τ sig) → Buf (Elt Ideal) ℓ) (c : Dev nD)

abbrev z0 : FVec Ideal S4096x3072 .bf16 := m ((c : Thread nD τ).loc main_arg0)
abbrev b0 : FVec Ideal S1x3072 .f32 := m ((c : Thread nD τ).loc main_arg1)
abbrev u0 : FVec Ideal S4096x1024 .bf16 := m ((c : Thread nD τ).loc main_arg2)
abbrev u1 : FVec Ideal S4096x1024 .bf16 := m ((c : Thread nD τ).loc main_arg3)
abbrev u2 : FVec Ideal S4096x1024 .bf16 := m ((c : Thread nD τ).loc main_arg4)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel

/-- The row of the whole that row `r` of block `t` is. -/
abbrev row (t : Fin cfg0.N) (r : Fin 512) : Fin 4096 := ⟨512 * t.val + r.val, by have : t.val < 8 := t.isLt; omega⟩

theorem read0 (t : Fin cfg0.N) (r : Fin 512) (k : Fin 3072) : iblk m c 0 t (ix2 r k) = z0 m c (ix2 (row t r) k) := by
  blk_ext [iblk, V, index0 t]

theorem read1 (t : Fin cfg0.N) (k : Fin 3072) : iblk m c 1 t (ix2 (0 : Fin 1) k) = b0 m c (ix2 0 k) := by
  blk_ext [iblk, V, index1 t]

theorem read2 (t : Fin cfg0.N) (r : Fin 512) (q : Fin 1024) : iblk m c 2 t (ix2 r q) = u0 m c (ix2 (row t r) q) := by
  blk_ext [iblk, V, index2 t]

theorem read3 (t : Fin cfg0.N) (r : Fin 512) (q : Fin 1024) : iblk m c 3 t (ix2 r q) = u1 m c (ix2 (row t r) q) := by
  blk_ext [iblk, V, index3 t]

theorem read4 (t : Fin cfg0.N) (r : Fin 512) (q : Fin 1024) : iblk m c 4 t (ix2 r q) = u2 m c (ix2 (row t r) q) := by
  blk_ext [iblk, V, index4 t]

/-- A load of the columns of branch `k`. -/
theorem ldz (k : ℕ) (hk : k < 3) (h) (x : Vec Ideal S512x3072 .bf16) (r : Fin 512) (q : Fin 1024) :
    (View.ld x (Rect.unit ![0, 1024 * k] S512x1024.size h) : Vec Ideal S512x1024 .bf16) (ix2 r q) = x (ix2 r (col k hk q)) := by
  unfold View.ld
  refine congrArg x (funext fun a => Fin.ext ?_)
  match a with
  | ⟨0, _⟩ => show 0 + 1 * r.val = r.val; omega
  | ⟨1, _⟩ => show 1024 * k + 1 * q.val = 1024 * k + q.val; omega

theorem ldb (k : ℕ) (hk : k < 3) (h) (x : Vec Ideal S1x3072 .f32) (q : Fin 1024) :
    (View.ld x (Rect.unit ![0, 1024 * k] S1x1024.size h) : Vec Ideal S1x1024 .f32) (ix2 (0 : Fin 1) q) = x (ix2 0 (col k hk q)) := by
  unfold View.ld
  refine congrArg x (funext fun a => Fin.ext ?_)
  match a with
  | ⟨0, _⟩ => show 0 + 1 * 0 = 0; omega
  | ⟨1, _⟩ => show 1024 * k + 1 * q.val = 1024 * k + q.val; omega

theorem place5 (t : Fin cfg0.N) (r : Fin 512) (q : Fin 1024) : ((cfg0.win 5).blk t).view.emb (ix2 r q) = ix2 (row t r) q := by
  funext a; refine Fin.ext ?_
  blk_simp [index5 t]
  match a with
  | ⟨0, _⟩ => show t.val * 512 + r.val = 512 * t.val + r.val; omega
  | ⟨1, _⟩ => show 0 * 1024 + q.val = q.val; omega

theorem block5 (t : Fin cfg0.N) (y : S512x1024.Idx) : (k0_pay1 (k0_pay2 (View.ld (iblk m c 0 t) r0_0) (View.ld (iblk m c 1 t) r0_1) (iblk m c 2 t) (View.ld (iblk m c 0 t) r0_3) (View.ld (iblk m c 1 t) r0_4) (iblk m c 3 t)) (k0_pay3 (View.ld (iblk m c 0 t) r0_5) (View.ld (iblk m c 1 t) r0_6)) (Scalar.ofBits .f32 0x00000000#32) (iblk m c 4 t) : FVec Ideal S512x1024 .bf16) y = out (z0 m c) (b0 m c) (u0 m c) (u1 m c) (u2 m c) (((cfg0.win 5).blk t).view.emb y) := by
  obtain ⟨r, q, rfl⟩ : ∃ (r : Fin 512) (q : Fin 1024), y = ix2 r q := ⟨y 0, y 1, eq_ix2 y⟩
  refine (pay1 _ (View.ld (iblk m c 0 t) r0_5) (View.ld (iblk m c 1 t) r0_6) (iblk m c 4 t) r q).trans (Eq.trans ?_ (congrArg (out _ _ _ _ _) (place5 t r q).symm))
  have ez : ∀ k (hk : k < 3), iblk m c 0 t (ix2 r (col k hk q)) = z0 m c (ix2 (row t r) (col k hk q)) := fun k hk => read0 m c t r _
  have eb : ∀ k (hk : k < 3), iblk m c 1 t (ix2 (0 : Fin 1) (col k hk q)) = b0 m c (ix2 0 (col k hk q)) := fun k hk => read1 m c t _
  refine congrArg₂ (· + ·) ((pay2 (View.ld (iblk m c 0 t) r0_0) (View.ld (iblk m c 1 t) r0_1) (iblk m c 2 t) (View.ld (iblk m c 0 t) r0_3) (View.ld (iblk m c 1 t) r0_4) (iblk m c 3 t) r q).trans (congrArg₂ (· + ·) ?_ ?_)) ?_
  · exact congrArg₂ (fun a b => gate a * b) (congrArg₂ (· + ·) ((ldz 0 (by omega) _ (iblk m c 0 t) r q).trans (ez 0 _)) ((ldb 0 (by omega) _ (iblk m c 1 t) q).trans (eb 0 _))) (read2 m c t r q)
  · exact congrArg₂ (fun a b => gate a * b) (congrArg₂ (· + ·) ((ldz 1 (by omega) _ (iblk m c 0 t) r q).trans (ez 1 _)) ((ldb 1 (by omega) _ (iblk m c 1 t) q).trans (eb 1 _))) (read3 m c t r q)
  · exact congrArg₂ (fun a b => gate a * b) (congrArg₂ (· + ·) ((ldz 2 (by omega) _ (iblk m c 0 t) r q).trans (ez 2 _)) ((ldb 2 (by omega) _ (iblk m c 1 t) q).trans (eb 2 _))) (read4 m c t r q)

theorem result5 : (dats m 0 c).arrAt 5 cfg0.N = out (z0 m c) (b0 m c) (u0 m c) (u1 m c) (u2 m c) := by
  refine (dats m 0 c).arrAt_eq_of_covers 5 _ (by decide +kernel) fun t hf y => ?_
  rw [after0_5]
  have h := block5 m c t
  blk_simp
  frame_out
  exact h y

theorem algebraic : @Cert.algebraic_Kernel22Ideal_Reference22Ideal Cert.Kernel22Ideal.Gen.facts Cert.Reference22Ideal.Gen.facts := by
  intro m g m' g' _ ha
  refine ⟨fun c => out (z0 m c) (b0 m c) (u0 m c) (u1 m c) (u2 m c), ?_, ?_⟩
  · exact (θ_run Cert.Kernel22Ideal.defs _ _).mono (fun r h c => ⟨(h c).1.trans (result5 m c), (h c).2⟩) (run_blocks (F := Ideal) m g)
  · refine (θ_run Cert.Reference22Ideal.defs _ _).mono (fun r h c => ⟨(h c).1.trans ?_, (h c).2⟩) (Cert.Reference22Ideal.Value.run (F := Ideal) m' g')
    rw [(ha c).1, (ha c).2.1, (ha c).2.2.1, (ha c).2.2.2.1, (ha c).2.2.2.2]
    show _ = out (z0 m c) (b0 m c) (u0 m c) (u1 m c) (u2 m c)
    funext i
    obtain ⟨r, q, rfl⟩ : ∃ (r : Fin 4096) (q : Fin 1024), i = ix2 r q := ⟨i 0, i 1, eq_ix2 i⟩
    clear ha
    exact congrArg₂ (· + ·) (congrArg₂ (· + ·)
      (congrArg₂ (· * ·) ((MergeGrad.cut0 (MergeGrad.hGate (z0 m c) (b0 m c)) r q).trans ((MergeGrad.hGate_at (z0 m c) (b0 m c) r _).trans (congrArg (fun k => gate (z0 m c (ix2 r k) + b0 m c (ix2 0 k))) (show (⟨0 + q.val, by omega⟩ : Fin 3072) = col 0 (by omega) q from Fin.ext (by show 0 + q.val = 1024 * 0 + q.val; omega))))) rfl)
      (congrArg₂ (· * ·) ((MergeGrad.cut1 (MergeGrad.hGate (z0 m c) (b0 m c)) r q).trans ((MergeGrad.hGate_at (z0 m c) (b0 m c) r _).trans (congrArg (fun k => gate (z0 m c (ix2 r k) + b0 m c (ix2 0 k))) (show (⟨1024 + q.val, by omega⟩ : Fin 3072) = col 1 (by omega) q from Fin.ext (by show 1024 + q.val = 1024 * 1 + q.val; omega))))) rfl))
      (congrArg₂ (· * ·) ((MergeGrad.cut2 (MergeGrad.hGate (z0 m c) (b0 m c)) r q).trans ((MergeGrad.hGate_at (z0 m c) (b0 m c) r _).trans (congrArg (fun k => gate (z0 m c (ix2 r k) + b0 m c (ix2 0 k))) (show (⟨2048 + q.val, by omega⟩ : Fin 3072) = col 2 (by omega) q from Fin.ext (by show 2048 + q.val = 1024 * 2 + q.val; omega))))) rfl)

end Cert.Merge

end
-- ==== Proof.ModGrad.lean ====
/-
  The gradient of one device's modulation weights: the conditioning's activation by the modulation's gradient, summed over the batch.
-/
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.ModGrad

open Idealize.ShloMosaic Idealize.ShloMosaic.TcCoe Idealize.ShloMosaic.Tactic Idealize.SL.Sem
open Idealize.ShloMosaic.Pipeline (Dat)

open Cert.Kernel23Ideal Cert.Kernel23Ideal.Gen Cert.Kernel23Ideal.Value

/-- A value by its sigmoid. -/
def silu (t : EReal) : EReal := t * Ideal.div 1 (1 + Ideal.exp (-t))

/-- The gradient: the sum over the batch of the activation by the modulation's gradient. -/
def out (x : FVec Ideal S8x1024 .f32) (d : FVec Ideal S2x8x1536 .f32) : FVec Ideal S2x1024x1536 .f32 :=
  fun i => ∑ e : Fin 8, silu (x (ix2 e (i 1))) * d (ix3 (i 0) e (i 2))

theorem pay (x : Vec Ideal S8x1024 .f32) (d : Vec Ideal S1x8x1536 .f32) (p : Fin 1) (r : Fin 1024) (q : Fin 1536) : k0_pay1 x d (ix3 p r q) = ∑ e : Fin 8, silu (x (ix2 e r)) * d (ix3 0 e q) := by
  have hp : p = 0 := Subsingleton.elim _ _
  subst hp
  pointwise [k0_pay1, silu]
  simp only [sub_eq_add_neg, zero_add]

variable (m : (ℓ : Loc nD τ sig) → Buf (Elt Ideal) ℓ) (c : Dev nD)

abbrev x0 : FVec Ideal S8x1024 .f32 := m ((c : Thread nD τ).loc main_arg0)
abbrev d0 : FVec Ideal S2x8x1536 .f32 := m ((c : Thread nD τ).loc main_arg1)

theorem index0 : ∀ t : Fin cfg0.N, win0_0.index t = ![0, 0] := by decide +kernel
theorem index1 : ∀ t : Fin cfg0.N, win0_1.index t = ![t.val, 0, 0] := by decide +kernel
theorem index2 : ∀ t : Fin cfg0.N, win0_2.index t = ![t.val, 0, 0] := by decide +kernel

/-- The layer that block `t` is of. -/
abbrev layer (t : Fin cfg0.N) : Fin 2 := ⟨t.val, t.isLt⟩

theorem read0 (t : Fin cfg0.N) (e : Fin 8) (r : Fin 1024) : iblk m c 0 t (ix2 e r) = x0 m c (ix2 e r) := by
  blk_ext [iblk, V, index0 t]

theorem read1 (t : Fin cfg0.N) (e : Fin 8) (q : Fin 1536) : iblk m c 1 t (ix3 (0 : Fin 1) e q) = d0 m c (ix3 (layer t) e q) := by
  blk_ext [iblk, V, index1 t]

theorem place2 (t : Fin cfg0.N) (p : Fin 1) (r : Fin 1024) (q : Fin 1536) : ((cfg0.win 2).blk t).view.emb (ix3 p r q) = ix3 (layer t) r q := by
  funext a; refine Fin.ext ?_
  blk_simp [index2 t]
  have hp : p.val < 1 := p.isLt
  match a with
  | ⟨0, _⟩ => show t.val * 1 + p.val = t.val; omega
  | ⟨1, _⟩ => show 0 * 1024 + r.val = r.val; omega
  | ⟨2, _⟩ => show 0 * 1536 + q.val = q.val; omega

theorem block2 (t : Fin cfg0.N) (y : S1x1024x1536.Idx) : k0_pay1 (iblk m c 0 t) (iblk m c 1 t) y = out (x0 m c) (d0 m c) (((cfg0.win 2).blk t).view.emb y) := by
  obtain ⟨p, r, q, rfl⟩ : ∃ (p : Fin 1) (r : Fin 1024) (q : Fin 1536), y = ix3 p r q := ⟨y 0, y 1, y 2, eq_ix3 y⟩
  refine (pay (iblk m c 0 t) (iblk m c 1 t) p r q).trans (Eq.trans ?_ (congrArg (out _ _) (place2 t p r q).symm))
  exact Finset.sum_congr rfl fun e _ => congrArg₂ (· * ·) (congrArg silu (read0 m c t e r)) (read1 m c t e q)

theorem result2 : (dats m 0 c).arrAt 2 cfg0.N = out (x0 m c) (d0 m c) := by
  refine (dats m 0 c).arrAt_eq_of_covers 2 _ (by decide +kernel) fun t hf y => ?_
  rw [after0_2]
  have h := block2 m c t
  blk_simp
  frame_out
  exact h y

theorem algebraic : @Cert.algebraic_Kernel23Ideal_Reference23Ideal Cert.Kernel23Ideal.Gen.facts Cert.Reference23Ideal.Gen.facts := by
  intro m g m' g' _ ha
  refine ⟨fun c => out (x0 m c) (d0 m c), ?_, ?_⟩
  · exact (θ_run Cert.Kernel23Ideal.defs _ _).mono (fun r h c => ⟨(h c).1.trans (result2 m c), (h c).2⟩) (run_blocks (F := Ideal) m g)
  · refine (θ_run Cert.Reference23Ideal.defs _ _).mono (fun r h c => ⟨(h c).1.trans ?_, (h c).2⟩) (Cert.Reference23Ideal.Value.run (F := Ideal) m' g')
    rw [(ha c).1, (ha c).2]
    show _ = out (x0 m c) (d0 m c)
    funext i
    obtain ⟨p, r, q, rfl⟩ : ∃ (p : Fin 2) (r : Fin 1024) (q : Fin 1536), i = ix3 p r q := ⟨i 0, i 1, i 2, eq_ix3 i⟩
    clear ha
    match p with
    | ⟨0, _⟩ =>
      pointwise [out, silu]
      exact Finset.sum_congr rfl fun e _ => mul_comm _ _
    | ⟨1, _⟩ =>
      pointwise [out, silu]
      exact Finset.sum_congr rfl fun e _ => mul_comm _ _

end Cert.ModGrad

end
-- ==== Proof.ModOut.lean ====
/-
  One device's part of the modulation: the conditioning's activation by the weights, and the bias.
-/
module

public import proofs.«01_k».proof.Defs
public import proofs.«01_k».proof.Proof.Gen.Kernel24Ideal.Value
public import proofs.«01_k».proof.Proof.Gen.Reference24Ideal.Run
public import proofs.«01_k».proof.Proof.ModGrad
public import Idealize.ShloMosaic.Lib.Pipeline.ValueKit
public import Idealize.ShloMosaic.Lib.Pointwise
public import Idealize.ShloMosaic.Lib.KernelVsHost

@[expose] public section

set_option maxRecDepth 16384

noncomputable section

namespace Cert.ModOut

open Idealize.ShloMosaic Idealize.ShloMosaic.TcCoe Idealize.ShloMosaic.Tactic Idealize.SL.Sem
open Idealize.ShloMosaic.Pipeline (Dat)

open Cert.ModGrad (silu)
open Cert.Kernel24Ideal Cert.Kernel24Ideal.Gen Cert.Kernel24Ideal.Value

/-- The product of the activation and a layer's weights, and its bias. -/
def out (x : FVec Ideal S8x1024 .f32) (w : FVec Ideal S2x1024x1536 .f32) (b : FVec Ideal S2x1x1536 .f32) : FVec Ideal S2x8x1536 .f32 :=
  fun i => (∑ e : Fin 1024, silu (x (ix2 (i 1) e)) * w (ix3 (i 0) e (i 2))) + b (ix3 (i 0) 0 (i 2))

theorem pay (x : Vec Ideal S8x1024 .f32) (w : Vec Ideal S1x1024x1536 .f32) (b : Vec Ideal S1x1x1536 .f32) (p : Fin 1) (r : Fin 8) (q : Fin 1536) : k0_pay1 x w b (ix3 p r q) = (∑ e : Fin 1024, silu (x (ix2 r e)) * w (ix3 0 e q)) + b (ix3 0 0 q) := by
  have hp : p = 0 := Subsingleton.elim _ _
  subst hp
  pointwise [k0_pay1, silu]
  simp only [sub_eq_add_neg, zero_add]

variable (m : (ℓ : Loc nD τ sig) → Buf (Elt Ideal) ℓ) (c : Dev nD)

abbrev x0 : FVec Ideal S8x1024 .f32 := m ((c : Thread nD τ).loc main_arg0)
abbrev w0 : FVec Ideal S2x1024x1536 .f32 := m ((c : Thread nD τ).loc main_arg1)
abbrev b0 : FVec Ideal S2x1x1536 .f32 := m ((c : Thread nD τ).loc main_arg2)

theorem index0 : ∀ t : Fin cfg0.N, win0_0.index t = ![0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0] := by decide +kernel

/-- The layer that block `t` is of. -/
abbrev layer (t : Fin cfg0.N) : Fin 2 := ⟨t.val, t.isLt⟩

theorem read0 (t : Fin cfg0.N) (r : Fin 8) (e : Fin 1024) : iblk m c 0 t (ix2 r e) = x0 m c (ix2 r e) := by
  blk_ext [iblk, V, index0 t]

theorem read1 (t : Fin cfg0.N) (e : Fin 1024) (q : Fin 1536) : iblk m c 1 t (ix3 (0 : Fin 1) e q) = w0 m c (ix3 (layer t) e q) := by
  blk_ext [iblk, V, index1 t]

theorem read2 (t : Fin cfg0.N) (q : Fin 1536) : iblk m c 2 t (ix3 (0 : Fin 1) (0 : Fin 1) q) = b0 m c (ix3 (layer t) 0 q) := by
  blk_ext [iblk, V, index2 t]

theorem place3 (t : Fin cfg0.N) (p : Fin 1) (r : Fin 8) (q : Fin 1536) : ((cfg0.win 3).blk t).view.emb (ix3 p r q) = ix3 (layer t) r q := by
  funext a; refine Fin.ext ?_
  blk_simp [index3 t]
  have hp : p.val < 1 := p.isLt
  match a with
  | ⟨0, _⟩ => show t.val * 1 + p.val = t.val; omega
  | ⟨1, _⟩ => show 0 * 8 + r.val = r.val; omega
  | ⟨2, _⟩ => show 0 * 1536 + q.val = q.val; omega

theorem block3 (t : Fin cfg0.N) (y : S1x8x1536.Idx) : k0_pay1 (iblk m c 0 t) (iblk m c 1 t) (iblk m c 2 t) y = out (x0 m c) (w0 m c) (b0 m c) (((cfg0.win 3).blk t).view.emb y) := by
  obtain ⟨p, r, q, rfl⟩ : ∃ (p : Fin 1) (r : Fin 8) (q : Fin 1536), y = ix3 p r q := ⟨y 0, y 1, y 2, eq_ix3 y⟩
  refine (pay (iblk m c 0 t) (iblk m c 1 t) (iblk m c 2 t) p r q).trans (Eq.trans ?_ (congrArg (out _ _ _) (place3 t p r q).symm))
  exact congrArg₂ (· + ·) (Finset.sum_congr rfl fun e _ => congrArg₂ (· * ·) (congrArg silu (read0 m c t r e)) (read1 m c t e q)) (read2 m c t q)

theorem result3 : (dats m 0 c).arrAt 3 cfg0.N = out (x0 m c) (w0 m c) (b0 m c) := by
  refine (dats m 0 c).arrAt_eq_of_covers 3 _ (by decide +kernel) fun t hf y => ?_
  rw [after0_3]
  have h := block3 m c t
  blk_simp
  frame_out
  exact h y

theorem algebraic : @Cert.algebraic_Kernel24Ideal_Reference24Ideal Cert.Kernel24Ideal.Gen.facts Cert.Reference24Ideal.Gen.facts := by
  intro m g m' g' _ ha
  refine ⟨fun c => out (x0 m c) (w0 m c) (b0 m c), ?_, ?_⟩
  · exact (θ_run Cert.Kernel24Ideal.defs _ _).mono (fun r h c => ⟨(h c).1.trans (result3 m c), (h c).2⟩) (run_blocks (F := Ideal) m g)
  · refine (θ_run Cert.Reference24Ideal.defs _ _).mono (fun r h c => ⟨(h c).1.trans ?_, (h c).2⟩) (Cert.Reference24Ideal.Value.run (F := Ideal) m' g')
    rw [(ha c).1, (ha c).2.1, (ha c).2.2]
    show _ = out (x0 m c) (w0 m c) (b0 m c)
    funext i
    obtain ⟨p, r, q, rfl⟩ : ∃ (p : Fin 2) (r : Fin 8) (q : Fin 1536), i = ix3 p r q := ⟨i 0, i 1, i 2, eq_ix3 i⟩
    clear ha
    match p with
    | ⟨0, _⟩ => pointwise [out, silu]
    | ⟨1, _⟩ => pointwise [out, silu]

end Cert.ModOut

end
-- ==== Proof.AdamStep.lean ====
/-
  The optimiser's step of the modulation weights: every entry of the step and of the two moments.
-/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.AdamStep

open Idealize.ShloMosaic Idealize.ShloMosaic.TcCoe Idealize.ShloMosaic.Tactic Idealize.SL.Sem
open Idealize.ShloMosaic.Pipeline (Dat)

open Cert.Kernel25Ideal Cert.Kernel25Ideal.Gen Cert.Kernel25Ideal.Value

/-- An entry's new first moment. -/
def mom (m g : EReal) : EReal := Ideal.ofBits FTy.f32 0x3F666666#32 * m + Ideal.ofBits FTy.f32 0x3DCCCCCD#32 * g

/-- An entry's new second moment. -/
def sqr (v g : EReal) : EReal := Ideal.ofBits FTy.f32 0x3F7FBE77#32 * v + Ideal.ofBits FTy.f32 0x3A83126F#32 * (g * g)

/-- An entry's step. -/
def step (w m v g : EReal) : EReal :=
  Ideal.ofBits FTy.f32 0xBA83126F#32 * (Ideal.div (Ideal.div (mom m g) (Ideal.ofBits FTy.f32 0x3F26BD02#32)) (Ideal.sqrt (Ideal.div (sqr v g) (Ideal.ofBits FTy.f32 0x3C231ACC#32)) + Ideal.ofBits FTy.f32 0x322BCC77#32) + Ideal.ofBits FTy.f32 0x3C23D70A#32 * w)

theorem pay1 (g m : Vec Ideal S256x1536 .f32) (r : Fin 256) (q : Fin 1536) : k0_pay1 g m (ix2 r q) = mom (m (ix2 r q)) (g (ix2 r q)) := by
  pointwise [k0_pay1, mom]

theorem pay2 (g v : Vec Ideal S256x1536 .f32) (r : Fin 256) (q : Fin 1536) : k0_pay2 g v (ix2 r q) = sqr (v (ix2 r q)) (g (ix2 r q)) := by
  pointwise [k0_pay2, sqr]

theorem pay3 (g w m v : Vec Ideal S256x1536 .f32) (r : Fin 256) (q : Fin 1536) : k0_pay3 g w m v (ix2 r q) = step (w (ix2 r q)) (m (ix2 r q)) (v (ix2 r q)) (g (ix2 r q)) := by
  unfold step
  rw [← pay1, ← pay2]
  pointwise [k0_pay3]

variable (m : (ℓ : Loc nD τ sig) → Buf (Elt Ideal) ℓ) (c : Dev nD)

abbrev w0 : FVec Ideal S2048x1536 .f32 := m ((c : Thread nD τ).loc main_arg0)
abbrev m0 : FVec Ideal S2048x1536 .f32 := m ((c : Thread nD τ).loc main_arg1)
abbrev v0 : FVec Ideal S2048x1536 .f32 := m ((c : Thread nD τ).loc main_arg2)
abbrev g0 : FVec Ideal S2048x1536 .f32 := m ((c : Thread nD τ).loc main_arg3)

/-- The row of the weights that row `r` of block `t` is. -/
abbrev row (t : Fin cfg0.N) (r : Fin 256) : Fin 2048 := ⟨256 * t.val + r.val, by have : t.val < 8 := t.isLt; omega⟩

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel

theorem read0 (t : Fin cfg0.N) (r : Fin 256) (q : Fin 1536) : iblk m c 0 t (ix2 r q) = w0 m c (ix2 (row t r) q) := by
  blk_ext [iblk, V, index0 t]

theorem read1 (t : Fin cfg0.N) (r : Fin 256) (q : Fin 1536) : iblk m c 1 t (ix2 r q) = m0 m c (ix2 (row t r) q) := by
  blk_ext [iblk, V, index1 t]

theorem read2 (t : Fin cfg0.N) (r : Fin 256) (q : Fin 1536) : iblk m c 2 t (ix2 r q) = v0 m c (ix2 (row t r) q) := by
  blk_ext [iblk, V, index2 t]

theorem read3 (t : Fin cfg0.N) (r : Fin 256) (q : Fin 1536) : iblk m c 3 t (ix2 r q) = g0 m c (ix2 (row t r) q) := by
  blk_ext [iblk, V, index3 t]

/-- The gradient, unchanged. -/
def grad : FVec Ideal S2048x1536 .f32 := g0 m c

theorem place4 (t : Fin cfg0.N) (r : Fin 256) (q : Fin 1536) : ((cfg0.win 4).blk t).view.emb (ix2 r q) = ix2 (row t r) q := by
  funext a; refine Fin.ext ?_
  blk_simp [index4 t]
  match a with
  | ⟨0, _⟩ => show t.val * 256 + r.val = 256 * t.val + r.val; omega
  | ⟨1, _⟩ => show 0 * 1536 + q.val = q.val; omega

theorem result4 : (dats m 0 c).arrAt 4 cfg0.N = grad m c := by
  refine (dats m 0 c).arrAt_eq_of_covers 4 _ (by decide +kernel) fun t hf y => ?_
  rw [after0_4]
  have h : ∀ y : S256x1536.Idx, (iblk m c 3 t : FVec Ideal S256x1536 .f32) y = grad m c (((cfg0.win 4).blk t).view.emb y) := fun y => by
    obtain ⟨r, q, rfl⟩ : ∃ (r : Fin 256) (q : Fin 1536), y = ix2 r q := ⟨y 0, y 1, eq_ix2 y⟩
    rw [place4 t r q]
    exact read3 m c t r q
  blk_simp
  frame_out
  exact h y

/-- The step of every entry. -/
def delta : FVec Ideal S2048x1536 .f32 := fun i => step (w0 m c i) (m0 m c i) (v0 m c i) (g0 m c i)

theorem place5 (t : Fin cfg0.N) (r : Fin 256) (q : Fin 1536) : ((cfg0.win 5).blk t).view.emb (ix2 r q) = ix2 (row t r) q := place4 t r q

theorem result5 : (dats m 0 c).arrAt 5 cfg0.N = delta m c := by
  refine (dats m 0 c).arrAt_eq_of_covers 5 _ (by decide +kernel) fun t hf y => ?_
  rw [after0_5]
  have h : ∀ y : S256x1536.Idx, (k0_pay3 (iblk m c 3 t) (iblk m c 0 t) (iblk m c 1 t) (iblk m c 2 t) : FVec Ideal S256x1536 .f32) y = delta m c (((cfg0.win 5).blk t).view.emb y) := fun y => by
    obtain ⟨r, q, rfl⟩ : ∃ (r : Fin 256) (q : Fin 1536), y = ix2 r q := ⟨y 0, y 1, eq_ix2 y⟩
    rw [place5 t r q]
    exact (pay3 (iblk m c 3 t) (iblk m c 0 t) (iblk m c 1 t) (iblk m c 2 t) r q).trans (by rw [read0 m c t r q, read1 m c t r q, read2 m c t r q, read3 m c t r q]; rfl)
  blk_simp
  frame_out
  exact h y

/-- The new first moments. -/
def newM : FVec Ideal S2048x1536 .f32 := fun i => mom (m0 m c i) (g0 m c i)

theorem place6 (t : Fin cfg0.N) (r : Fin 256) (q : Fin 1536) : ((cfg0.win 6).blk t).view.emb (ix2 r q) = ix2 (row t r) q := place4 t r q

theorem result6 : (dats m 0 c).arrAt 6 cfg0.N = newM m c := by
  refine (dats m 0 c).arrAt_eq_of_covers 6 _ (by decide +kernel) fun t hf y => ?_
  rw [after0_6]
  have h : ∀ y : S256x1536.Idx, (k0_pay1 (iblk m c 3 t) (iblk m c 1 t) : FVec Ideal S256x1536 .f32) y = newM m c (((cfg0.win 6).blk t).view.emb y) := fun y => by
    obtain ⟨r, q, rfl⟩ : ∃ (r : Fin 256) (q : Fin 1536), y = ix2 r q := ⟨y 0, y 1, eq_ix2 y⟩
    rw [place6 t r q]
    exact (pay1 (iblk m c 3 t) (iblk m c 1 t) r q).trans (by rw [read1 m c t r q, read3 m c t r q]; rfl)
  blk_simp
  frame_out
  exact h y

/-- The new second moments. -/
def newV : FVec Ideal S2048x1536 .f32 := fun i => sqr (v0 m c i) (g0 m c i)

theorem place7 (t : Fin cfg0.N) (r : Fin 256) (q : Fin 1536) : ((cfg0.win 7).blk t).view.emb (ix2 r q) = ix2 (row t r) q := place4 t r q

theorem result7 : (dats m 0 c).arrAt 7 cfg0.N = newV m c := by
  refine (dats m 0 c).arrAt_eq_of_covers 7 _ (by decide +kernel) fun t hf y => ?_
  rw [after0_7]
  have h : ∀ y : S256x1536.Idx, (k0_pay2 (iblk m c 3 t) (iblk m c 2 t) : FVec Ideal S256x1536 .f32) y = newV m c (((cfg0.win 7).blk t).view.emb y) := fun y => by
    obtain ⟨r, q, rfl⟩ : ∃ (r : Fin 256) (q : Fin 1536), y = ix2 r q := ⟨y 0, y 1, eq_ix2 y⟩
    rw [place7 t r q]
    exact (pay2 (iblk m c 3 t) (iblk m c 2 t) r q).trans (by rw [read2 m c t r q, read3 m c t r q]; rfl)
  blk_simp
  frame_out
  exact h y

theorem algebraic : @Cert.algebraic_Kernel25Ideal_Reference25Ideal Cert.Kernel25Ideal.Gen.facts Cert.Reference25Ideal.Gen.facts := by
  intro m g m' g' _ ha
  refine ⟨fun c => grad m c, fun c => delta m c, fun c => newM m c, fun c => newV m c, ?_, ?_⟩
  · exact (θ_run Cert.Kernel25Ideal.defs _ _).mono (fun r h c => ⟨(h c).1.trans (result4 m c), (h c).2.1.trans (result5 m c), (h c).2.2.1.trans (result6 m c), (h c).2.2.2.1.trans (result7 m c), (h c).2.2.2.2⟩) (run_blocks (F := Ideal) m g)
  · refine (θ_run Cert.Reference25Ideal.defs _ _).mono (fun r h c => ⟨(h c).1.trans (ha c).2.2.2, (h c).2.1.trans ?_, (h c).2.2.1.trans ?_, (h c).2.2.2.1.trans ?_, (h c).2.2.2.2⟩) (Cert.Reference25Ideal.Value.run (F := Ideal) m' g')
    · rw [(ha c).1, (ha c).2.1, (ha c).2.2.1, (ha c).2.2.2]
      show _ = delta m c
      funext i
      obtain ⟨r, q, rfl⟩ : ∃ (r : Fin 2048) (q : Fin 1536), i = ix2 r q := ⟨i 0, i 1, eq_ix2 i⟩
      clear ha
      pointwise [delta, step, mom, sqr]
    · rw [(ha c).2.1, (ha c).2.2.2]
      show _ = newM m c
      funext i
      obtain ⟨r, q, rfl⟩ : ∃ (r : Fin 2048) (q : Fin 1536), i = ix2 r q := ⟨i 0, i 1, eq_ix2 i⟩
      clear ha
      pointwise [newM, step, mom, sqr]
    · rw [(ha c).2.2.1, (ha c).2.2.2]
      show _ = newV m c
      funext i
      obtain ⟨r, q, rfl⟩ : ∃ (r : Fin 2048) (q : Fin 1536), i = ix2 r q := ⟨i 0, i 1, eq_ix2 i⟩
      clear ha
      pointwise [newV, step, mom, sqr]

end Cert.AdamStep

end
-- ==== Proof.AdamSmall.lean ====
/-
  The optimiser's step of the small weights, which lie in one array: their gradient is the sum of the devices' shares, and
  every entry of the step and of the two moments is as in the modulation weights' step.
-/
module

public import proofs.«01_k».proof.Defs
public import proofs.«01_k».proof.Proof.Gen.Kernel26Ideal.Value
public import proofs.«01_k».proof.Proof.Gen.Reference26Ideal.Run
public import proofs.«01_k».proof.Proof.AdamStep

@[expose] public section

set_option maxRecDepth 16384

noncomputable section

namespace Cert.AdamSmall

open Idealize.ShloMosaic Idealize.ShloMosaic.TcCoe Idealize.ShloMosaic.Tactic Idealize.SL.Sem
open Cert.AdamStep (mom sqr step)

open Cert.Kernel26Ideal Cert.Kernel26Ideal.Gen Cert.Kernel26Ideal.Value

/-- The sum of the eight devices' shares of the gradient. -/
def total (G : FVec Ideal S8x96x1024 .f32) : FVec Ideal S96x1024 .f32 := fun i => ∑ d : Fin 8, G (ix3 d (i 0) (i 1))

/-- The new first moments. -/
def newM (m T : FVec Ideal S96x1024 .f32) : FVec Ideal S96x1024 .f32 := fun i => mom (m i) (T i)

/-- The new second moments. -/
def newV (v T : FVec Ideal S96x1024 .f32) : FVec Ideal S96x1024 .f32 := fun i => sqr (v i) (T i)

/-- The step of every entry. -/
def delta (w m v T : FVec Ideal S96x1024 .f32) : FVec Ideal S96x1024 .f32 := fun i => step (w i) (m i) (v i) (T i)

section Kernel

theorem pay4 (a b c d e f g h : Vec Ideal S1x96x1024 .f32) (r : Fin 96) (q : Fin 1024) : k0_pay4 a b c d e f g h (ix2 r q) =
    a (ix3 0 r q) + b (ix3 0 r q) + c (ix3 0 r q) + d (ix3 0 r q) + e (ix3 0 r q) + f (ix3 0 r q) + g (ix3 0 r q) + h (ix3 0 r q) := by
  pointwise [k0_pay4]

theorem share (G : Vec Ideal S8x96x1024 .f32) (d : Fin 8) (h) (r : Fin 96) (q : Fin 1024) :
    (View.ld G (Rect.unit ![d.val, 0, 0] S1x96x1024.size h) : Vec Ideal S1x96x1024 .f32) (ix3 0 r q) = G (ix3 d r q) := by
  refine congrArg G ?_
  funext a; refine Fin.ext ?_
  match a with
  | ⟨0, _⟩ => show d.val + 1 * 0 = d.val; omega
  | ⟨1, _⟩ => show 0 + 1 * r.val = r.val; omega
  | ⟨2, _⟩ => show 0 + 1 * q.val = q.val; omega

theorem kTotal (w m v : Vec Ideal S96x1024 .f32) (G : Vec Ideal S8x96x1024 .f32) : k0_pay6 w m v G = total G := by
  funext i
  obtain ⟨r, q, rfl⟩ : ∃ (r : Fin 96) (q : Fin 1024), i = ix2 r q := ⟨i 0, i 1, eq_ix2 i⟩
  refine (pay4 _ _ _ _ _ _ _ _ r q).trans ?_
  show _ = ∑ d : Fin 8, G (ix3 d r q)
  rw [Fin.sum_univ_eight]
  exact congrArg₂ (· + ·) (congrArg₂ (· + ·) (congrArg₂ (· + ·) (congrArg₂ (· + ·) (congrArg₂ (· + ·) (congrArg₂ (· + ·) (congrArg₂ (· + ·)
    (share G 0 _ r q) (share G 1 _ r q)) (share G 2 _ r q)) (share G 3 _ r q)) (share G 4 _ r q)) (share G 5 _ r q)) (share G 6 _ r q)) (share G 7 _ r q)

/-- The first moments' share that the kernel adds to. -/
theorem kOld (w m v : Vec Ideal S96x1024 .f32) (G : Vec Ideal S8x96x1024 .f32) : k0_pay7 w m v G = k0_pay5 m := by
  refine congrArg k0_pay5 ?_
  funext i
  refine congrArg m ?_
  funext a; refine Fin.ext ?_
  match a with
  | ⟨0, _⟩ => show 0 + 1 * (i 0).val = (i 0).val; omega
  | ⟨1, _⟩ => show 0 + 1 * (i 1).val = (i 1).val; omega

theorem kM (m T : FVec Ideal S96x1024 .f32) : k0_pay1 T (k0_pay5 m) (Scalar.ofBits .f32 0x3DCCCCCD#32) = newM m T := by
  funext i
  pointwise [k0_pay1, k0_pay5, newM, mom]

theorem kV (v T : FVec Ideal S96x1024 .f32) : k0_pay2 T v = newV v T := by
  funext i
  pointwise [k0_pay2, newV, sqr]

theorem kDelta (w m v T : FVec Ideal S96x1024 .f32) : k0_pay3 T w v (k0_pay5 m) (Scalar.ofBits .f32 0x3DCCCCCD#32) = delta w m v T := by
  funext i
  show _ = step (w i) (m i) (v i) (T i)
  unfold step
  rw [show mom (m i) (T i) = newM m T i from rfl, show sqr (v i) (T i) = newV v T i from rfl, ← kM, ← kV]
  pointwise [k0_pay3]

end Kernel

section Reference

open Cert.Reference26Ideal Cert.Reference26Ideal.Gen

theorem hTotal (G : FVec Ideal ⟨3, ![8, 96, 1024]⟩ .f32) :
    Host.reduceAdd (t := ⟨2, ![96, 1024]⟩) G (constant (F := Ideal) S_ .f32 0x00000000#32) reducesTo_S8x96x1024_S96x1024_d0 h_S_ = total G := by
  funext i
  obtain ⟨r, q, rfl⟩ : ∃ (r : Fin 96) (q : Fin 1024), i = ix2 r q := ⟨i 0, i 1, eq_ix2 i⟩
  show _ = ∑ d : Fin 8, G (ix3 d r q)
  pointwise

end Reference

theorem algebraic : @Cert.algebraic_Kernel26Ideal_Reference26Ideal Cert.Kernel26Ideal.Gen.facts Cert.Reference26Ideal.Gen.facts := by
  intro m g m' g' _ ha
  refine ⟨fun c => total (m ((c : Thread nD τ).loc main_arg3)), fun c => delta (m ((c : Thread nD τ).loc main_arg0)) (m ((c : Thread nD τ).loc main_arg1)) (m ((c : Thread nD τ).loc main_arg2)) (total (m ((c : Thread nD τ).loc main_arg3))),
    fun c => newM (m ((c : Thread nD τ).loc main_arg1)) (total (m ((c : Thread nD τ).loc main_arg3))), fun c => newV (m ((c : Thread nD τ).loc main_arg2)) (total (m ((c : Thread nD τ).loc main_arg3))), ?_, ?_⟩
  · refine (θ_run Cert.Kernel26Ideal.defs _ _).mono (fun r h c => ⟨(h c).1.trans (kTotal _ _ _ _), (h c).2.1.trans ?_, (h c).2.2.1.trans ?_, (h c).2.2.2.1.trans ?_, (h c).2.2.2.2⟩) (Cert.Kernel26Ideal.Value.run (F := Ideal) m g)
    · show k0_pay3 (k0_pay6 _ _ _ _) _ _ (k0_pay7 _ _ _ _) _ = _
      rw [kTotal, kOld]; exact kDelta _ _ _ _
    · show k0_pay1 (k0_pay6 _ _ _ _) (k0_pay7 _ _ _ _) _ = _
      rw [kTotal, kOld]; exact kM _ _
    · show k0_pay2 (k0_pay6 _ _ _ _) _ = _
      rw [kTotal]; exact kV _ _
  · refine (θ_run Cert.Reference26Ideal.defs _ _).mono (fun r h c => ⟨(h c).1.trans ?_, (h c).2.1.trans ?_, (h c).2.2.1.trans ?_, (h c).2.2.2.1.trans ?_, (h c).2.2.2.2⟩) (Cert.Reference26Ideal.Value.run (F := Ideal) m' g')
    · rw [(ha c).2.2.2]; exact hTotal _
    · rw [(ha c).1, (ha c).2.1, (ha c).2.2.1, (ha c).2.2.2, hTotal]
      funext i
      show _ = delta _ _ _ (total (m ((c : Thread nD τ).loc main_arg3))) i
      generalize total (m ((c : Thread nD τ).loc main_arg3)) = T
      clear h ha
      pointwise [delta, step, mom, sqr]
    · rw [(ha c).2.1, (ha c).2.2.2, hTotal]
      funext i
      show _ = newM _ (total (m ((c : Thread nD τ).loc main_arg3))) i
      generalize total (m ((c : Thread nD τ).loc main_arg3)) = T
      clear h ha
      pointwise [newM, mom]
    · rw [(ha c).2.2.1, (ha c).2.2.2, hTotal]
      funext i
      show _ = newV _ (total (m ((c : Thread nD τ).loc main_arg3))) i
      generalize total (m ((c : Thread nD τ).loc main_arg3)) = T
      clear h ha
      pointwise [newV, sqr]

end Cert.AdamSmall

end
-- ==== Proof.lean ====
/-
  The proof of `Cert.Claim`: the frames (Proof/Frames.lean, Proof/FramesMore.lean, Proof/FramesLater.lean,
  Proof/FramesNorm.lean and Proof/FramesLast.lean, a kernel with no host loop by its generated one), preserves, which
  rewrote nothing, and the equalities over the reals, one module for each call: of the backward pass Algebraic (the
  attention), HiddenGrad, WeightGrad, InputGrad, OutputGrad, BranchGrad, BranchIn, MergeGrad, NormGrad, NormFf and ModGrad,
  of the forward pass Hidden, ChannelOutLast, ChannelOutFirst, MixOut, ProjPool, ProjAttn, ProjConv, ProjGate, BranchOut,
  FirstNorm, Merge and ModOut, and of the optimiser AdamStep and AdamSmall.
-/
module

public import proofs.«01_k».proof.Defs
public import proofs.«01_k».proof.Proof.Frames
public import proofs.«01_k».proof.Proof.Algebraic
public import proofs.«01_k».proof.Proof.FramesMore
public import proofs.«01_k».proof.Proof.FramesLater
public import proofs.«01_k».proof.Proof.FramesNorm
public import proofs.«01_k».proof.Proof.FramesLast
public import proofs.«01_k».proof.Proof.HiddenGrad
public import proofs.«01_k».proof.Proof.WeightGrad
public import proofs.«01_k».proof.Proof.InputGrad
public import proofs.«01_k».proof.Proof.OutputGrad
public import proofs.«01_k».proof.Proof.Hidden
public import proofs.«01_k».proof.Proof.ChannelOutLast
public import proofs.«01_k».proof.Proof.ChannelOutFirst
public import proofs.«01_k».proof.Proof.MixOut
public import proofs.«01_k».proof.Proof.ProjPool
public import proofs.«01_k».proof.Proof.ProjAttn
public import proofs.«01_k».proof.Proof.ProjConv
public import proofs.«01_k».proof.Proof.ProjGate
public import proofs.«01_k».proof.Proof.BranchGrad
public import proofs.«01_k».proof.Proof.BranchIn
public import proofs.«01_k».proof.Proof.BranchOut
public import proofs.«01_k».proof.Proof.MergeGrad
public import proofs.«01_k».proof.Proof.NormGrad
public import proofs.«01_k».proof.Proof.NormFf
public import proofs.«01_k».proof.Proof.FirstNorm
public import proofs.«01_k».proof.Proof.Merge
public import proofs.«01_k».proof.Proof.ModGrad
public import proofs.«01_k».proof.Proof.ModOut
public import proofs.«01_k».proof.Proof.AdamStep
public import proofs.«01_k».proof.Proof.AdamSmall
public import proofs.«01_k».proof.Proof.Gen.Kernel2.Frame
public import proofs.«01_k».proof.Proof.Gen.Kernel3.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Attn.Pre.facts, Cert.NormPre.mixer_in.facts, Cert.NormPre.channel_mixer_in.facts,
  Cert.Attn.frame_kernel, Cert.Attn.frame_ideal, Cert.Attn.frame_ideal_pre, Cert.Attn.frame_reference, Cert.Attn.frame_reference_pre,
  fun m ρ _ => Cert.Kernel2.Gen.frame m ρ, fun m ρ _ => Cert.Kernel2Ideal.Gen.frame m ρ, Cert.More.frame_reference2,
  fun m ρ _ => Cert.Kernel3.Gen.frame m ρ, fun m ρ _ => Cert.Kernel3Ideal.Gen.frame m ρ, Cert.More.frame_reference3, Cert.More.frame_reference4,
  fun m ρ _ => Cert.Kernel5.Gen.frame m ρ, fun m ρ _ => Cert.Kernel5Ideal.Gen.frame m ρ, Cert.More.frame_reference5,
  fun m ρ _ => Cert.Kernel6.Gen.frame m ρ, fun m ρ _ => Cert.Kernel6Ideal.Gen.frame m ρ, Cert.More.frame_reference6,
  fun m ρ _ => Cert.Kernel7.Gen.frame m ρ, fun m ρ _ => Cert.Kernel7Ideal.Gen.frame m ρ, Cert.More.frame_reference7,
  fun m ρ _ => Cert.Kernel8.Gen.frame m ρ, fun m ρ _ => Cert.Kernel8Ideal.Gen.frame m ρ, Cert.More.frame_reference8,
  fun m ρ _ => Cert.Kernel9.Gen.frame m ρ, fun m ρ _ => Cert.Kernel9Ideal.Gen.frame m ρ, Cert.More.frame_reference9,
  fun m ρ _ => Cert.Kernel10.Gen.frame m ρ, fun m ρ _ => Cert.Kernel10Ideal.Gen.frame m ρ, Cert.More.frame_reference10,
  fun m ρ _ => Cert.Kernel11.Gen.frame m ρ, fun m ρ _ => Cert.Kernel11Ideal.Gen.frame m ρ, Cert.More.frame_reference11,
  fun m ρ _ => Cert.Kernel12.Gen.frame m ρ, fun m ρ _ => Cert.Kernel12Ideal.Gen.frame m ρ, Cert.More.frame_reference12,
  fun m ρ _ => Cert.Kernel13.Gen.frame m ρ, fun m ρ _ => Cert.Kernel13Ideal.Gen.frame m ρ, Cert.More.frame_reference13,
  fun m ρ _ => Cert.Kernel14.Gen.frame m ρ, fun m ρ _ => Cert.Kernel14Ideal.Gen.frame m ρ, Cert.More.frame_reference14,
  fun m ρ _ => Cert.Kernel15.Gen.frame m ρ, fun m ρ _ => Cert.Kernel15Ideal.Gen.frame m ρ, Cert.More.frame_reference15,
  fun m ρ _ => Cert.Kernel16.Gen.frame m ρ, fun m ρ _ => Cert.Kernel16Ideal.Gen.frame m ρ, Cert.More.frame_reference16,
  fun m ρ _ => Cert.Kernel17.Gen.frame m ρ, fun m ρ _ => Cert.Kernel17Ideal.Gen.frame m ρ, Cert.More.frame_reference17,
  fun m ρ _ => Cert.Kernel18.Gen.frame m ρ, fun m ρ _ => Cert.Kernel18Ideal.Gen.frame m ρ, Cert.More.frame_reference18,
  fun m ρ _ => Cert.Kernel19.Gen.frame m ρ, fun m ρ _ => Cert.Kernel19Ideal.Gen.frame m ρ, Cert.More.frame_kernel19_pre,
  Cert.More.frame_reference19, Cert.More.frame_reference19_pre,
  fun m ρ _ => Cert.Kernel20.Gen.frame m ρ, fun m ρ _ => Cert.Kernel20Ideal.Gen.frame m ρ, Cert.More.frame_kernel20_pre,
  Cert.More.frame_reference20, Cert.More.frame_reference20_pre,
  fun m ρ _ => Cert.Kernel21.Gen.frame m ρ, fun m ρ _ => Cert.Kernel21Ideal.Gen.frame m ρ, Cert.More.frame_reference21,
  fun m ρ _ => Cert.Kernel22.Gen.frame m ρ, fun m ρ _ => Cert.Kernel22Ideal.Gen.frame m ρ, Cert.More.frame_reference22,
  fun m ρ _ => Cert.Kernel23.Gen.frame m ρ, fun m ρ _ => Cert.Kernel23Ideal.Gen.frame m ρ, Cert.More.frame_reference23,
  fun m ρ _ => Cert.Kernel24.Gen.frame m ρ, fun m ρ _ => Cert.Kernel24Ideal.Gen.frame m ρ, Cert.More.frame_reference24,
  fun m ρ _ => Cert.Kernel25.Gen.frame m ρ, fun m ρ _ => Cert.Kernel25Ideal.Gen.frame m ρ, Cert.More.frame_reference25,
  fun m ρ _ => Cert.Kernel26.Gen.frame m ρ, fun m ρ _ => Cert.Kernel26Ideal.Gen.frame m ρ, Cert.More.frame_reference26,
  trivial, Cert.Attn.algebraic,
  trivial, Cert.HiddenGrad.algebraic2,
  trivial, Cert.WeightGrad.algebraic3, Cert.WeightGrad.algebraic4,
  trivial, Cert.InputGrad.algebraic5,
  trivial, Cert.OutputGrad.algebraic6,
  trivial, Cert.Hidden.algebraic,
  trivial, Cert.ChannelOutLast.algebraic,
  trivial, Cert.ChannelOutFirst.algebraic,
  trivial, Cert.MixOut.algebraic,
  trivial, Cert.ProjPool.algebraic,
  trivial, Cert.ProjAttn.algebraic,
  trivial, Cert.ProjConv.algebraic,
  trivial, Cert.ProjGate.algebraic,
  trivial, Cert.BranchGrad.algebraic,
  trivial, Cert.BranchIn.algebraic,
  trivial, Cert.BranchOut.algebraic,
  trivial, Cert.MergeGrad.algebraic,
  trivial, Cert.NormGrad.algebraic,
  trivial, Cert.NormFf.algebraic,
  trivial, Cert.FirstNorm.algebraic,
  trivial, Cert.Merge.algebraic,
  trivial, Cert.ModGrad.algebraic,
  trivial, Cert.ModOut.algebraic,
  trivial, Cert.AdamStep.algebraic,
  trivial, Cert.AdamSmall.algebraic⟩

end Cert.Proof

end
